-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductReferenceIdeal (m : (ℓ : Loc Cert.ProductReferenceIdeal.nD Cert.ProductReferenceIdeal.τ Cert.ProductReferenceIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2))
      ∧ r.2.sem = fun _ => 0)

def quiescent_ProductReferenceIdeal [hProductReferenceIdeal : Cert.ProductReferenceIdeal.Facts] : Prop :=
  ∀ (m : (ℓ : Loc Cert.ProductReferenceIdeal.nD Cert.ProductReferenceIdeal.τ Cert.ProductReferenceIdeal.sig) → Buf (Elt Ideal) ℓ) (g : Dev Cert.ProductReferenceIdeal.nD → PrngReg), Pre_ProductReferenceIdeal m →
    θ_run (Cert.ProductReferenceIdeal.defs (F := Ideal)) (onTc (τ := Cert.ProductReferenceIdeal.τ) (Cert.ProductReferenceIdeal.main (F := Ideal))) ⟨m, fun _ => 0, g⟩ (fun r => (∀ c : Dev Cert.ProductReferenceIdeal.nD,
      r.2.mem ((c.tc : Thread Cert.ProductReferenceIdeal.nD Cert.ProductReferenceIdeal.τ).loc Cert.ProductReferenceIdeal.main_arg0) = m ((c.tc : Thread Cert.ProductReferenceIdeal.nD Cert.ProductReferenceIdeal.τ).loc Cert.ProductReferenceIdeal.main_arg0)
      ∧ r.2.mem ((c.tc : Thread Cert.ProductReferenceIdeal.nD Cert.ProductReferenceIdeal.τ).loc Cert.ProductReferenceIdeal.main_arg1) = m ((c.tc : Thread Cert.ProductReferenceIdeal.nD Cert.ProductReferenceIdeal.τ).loc Cert.ProductReferenceIdeal.main_arg1)
      ∧ r.2.mem ((c.tc : Thread Cert.ProductReferenceIdeal.nD Cert.ProductReferenceIdeal.τ).loc Cert.ProductReferenceIdeal.main_arg2) = m ((c.tc : Thread Cert.ProductReferenceIdeal.nD Cert.ProductReferenceIdeal.τ).loc Cert.ProductReferenceIdeal.main_arg2))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2)
      ∧ r.2.mem ((c.tc : Thread Cert.LogitsReferenceIdeal.nD Cert.LogitsReferenceIdeal.τ).loc Cert.LogitsReferenceIdeal.main_arg3) = m ((c.tc : Thread Cert.LogitsReferenceIdeal.nD Cert.LogitsReferenceIdeal.τ).loc Cert.LogitsReferenceIdeal.main_arg3))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4)
      ∧ r.2.mem ((c.tc : Thread Cert.WeightsReferenceIdeal.nD Cert.WeightsReferenceIdeal.τ).loc Cert.WeightsReferenceIdeal.main_arg5) = m ((c.tc : Thread Cert.WeightsReferenceIdeal.nD Cert.WeightsReferenceIdeal.τ).loc Cert.WeightsReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v114) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Product_ProductIdeal : Prop :=
  True

def algebraic_ProductIdeal_ProductReferenceIdeal [hProductIdeal : Cert.ProductIdeal.Facts] [hProductReferenceIdeal : Cert.ProductReferenceIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductReferenceIdeal.nD Cert.ProductReferenceIdeal.τ Cert.ProductReferenceIdeal.sig) → Buf (Elt Ideal) ℓ) (g' : Dev Cert.ProductReferenceIdeal.nD → PrngReg), Pre_ProductIdeal m →
    (∀ c : Dev Cert.ProductIdeal.nD,
      m' ((c.tc : Thread Cert.ProductReferenceIdeal.nD Cert.ProductReferenceIdeal.τ).loc Cert.ProductReferenceIdeal.main_arg0) = m ((c.tc : Thread Cert.ProductIdeal.nD Cert.ProductIdeal.τ).loc Cert.ProductIdeal.main_arg0)
      ∧ m' ((c.tc : Thread Cert.ProductReferenceIdeal.nD Cert.ProductReferenceIdeal.τ).loc Cert.ProductReferenceIdeal.main_arg1) = m ((c.tc : Thread Cert.ProductIdeal.nD Cert.ProductIdeal.τ).loc Cert.ProductIdeal.main_arg1)
      ∧ m' ((c.tc : Thread Cert.ProductReferenceIdeal.nD Cert.ProductReferenceIdeal.τ).loc Cert.ProductReferenceIdeal.main_arg2) = m ((c.tc : Thread Cert.ProductIdeal.nD Cert.ProductIdeal.τ).loc Cert.ProductIdeal.main_arg2)) →
    ∃ (v0 : (c : Dev Cert.ProductIdeal.nD) → Buf (Elt Ideal) ((c.tc : Thread Cert.ProductIdeal.nD Cert.ProductIdeal.τ).loc Cert.ProductIdeal.main_v4)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v4) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2))
      ∧ θ_run (Cert.ProductReferenceIdeal.defs (F := Ideal)) (onTc (τ := Cert.ProductReferenceIdeal.τ) (Cert.ProductReferenceIdeal.main (F := Ideal))) ⟨m', fun _ => 0, g'⟩ (fun r => ∀ c : Dev Cert.ProductReferenceIdeal.nD,
          r.2.mem ((c.tc : Thread Cert.ProductReferenceIdeal.nD Cert.ProductReferenceIdeal.τ).loc Cert.ProductReferenceIdeal.main_v3) = v0 c
          ∧ r.2.mem ((c.tc : Thread Cert.ProductReferenceIdeal.nD Cert.ProductReferenceIdeal.τ).loc Cert.ProductReferenceIdeal.main_arg0) = m' ((c.tc : Thread Cert.ProductReferenceIdeal.nD Cert.ProductReferenceIdeal.τ).loc Cert.ProductReferenceIdeal.main_arg0)
          ∧ r.2.mem ((c.tc : Thread Cert.ProductReferenceIdeal.nD Cert.ProductReferenceIdeal.τ).loc Cert.ProductReferenceIdeal.main_arg1) = m' ((c.tc : Thread Cert.ProductReferenceIdeal.nD Cert.ProductReferenceIdeal.τ).loc Cert.ProductReferenceIdeal.main_arg1)
          ∧ r.2.mem ((c.tc : Thread Cert.ProductReferenceIdeal.nD Cert.ProductReferenceIdeal.τ).loc Cert.ProductReferenceIdeal.main_arg2) = m' ((c.tc : Thread Cert.ProductReferenceIdeal.nD Cert.ProductReferenceIdeal.τ).loc Cert.ProductReferenceIdeal.main_arg2))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)
      ∧ m' ((c.tc : Thread Cert.LogitsReferenceIdeal.nD Cert.LogitsReferenceIdeal.τ).loc Cert.LogitsReferenceIdeal.main_arg3) = m ((c.tc : Thread Cert.LogitsIdeal.nD Cert.LogitsIdeal.τ).loc Cert.LogitsIdeal.main_arg3)) →
    ∃ (v0 : (c : Dev Cert.LogitsIdeal.nD) → Buf (Elt Ideal) ((c.tc : Thread Cert.LogitsIdeal.nD Cert.LogitsIdeal.τ).loc Cert.LogitsIdeal.main_v4_0)) (v1 : (c : Dev Cert.LogitsIdeal.nD) → Buf (Elt Ideal) ((c.tc : Thread Cert.LogitsIdeal.nD Cert.LogitsIdeal.τ).loc Cert.LogitsIdeal.main_v4_1)) (v2 : (c : Dev Cert.LogitsIdeal.nD) → Buf (Elt Ideal) ((c.tc : Thread Cert.LogitsIdeal.nD Cert.LogitsIdeal.τ).loc Cert.LogitsIdeal.main_v5_0)) (v3 : (c : Dev Cert.LogitsIdeal.nD) → Buf (Elt Ideal) ((c.tc : Thread Cert.LogitsIdeal.nD Cert.LogitsIdeal.τ).loc Cert.LogitsIdeal.main_v5_1)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v4_0) = v0 c
          ∧ r.2.mem ((c.tc : Thread Cert.LogitsIdeal.nD Cert.LogitsIdeal.τ).loc Cert.LogitsIdeal.main_v4_1) = v1 c
          ∧ r.2.mem ((c.tc : Thread Cert.LogitsIdeal.nD Cert.LogitsIdeal.τ).loc Cert.LogitsIdeal.main_v5_0) = v2 c
          ∧ r.2.mem ((c.tc : Thread Cert.LogitsIdeal.nD Cert.LogitsIdeal.τ).loc Cert.LogitsIdeal.main_v5_1) = v3 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v9) = v0 c
          ∧ r.2.mem ((c.tc : Thread Cert.LogitsReferenceIdeal.nD Cert.LogitsReferenceIdeal.τ).loc Cert.LogitsReferenceIdeal.main_v10) = v1 c
          ∧ r.2.mem ((c.tc : Thread Cert.LogitsReferenceIdeal.nD Cert.LogitsReferenceIdeal.τ).loc Cert.LogitsReferenceIdeal.main_v11) = v2 c
          ∧ r.2.mem ((c.tc : Thread Cert.LogitsReferenceIdeal.nD Cert.LogitsReferenceIdeal.τ).loc Cert.LogitsReferenceIdeal.main_v12) = v3 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2)
          ∧ r.2.mem ((c.tc : Thread Cert.LogitsReferenceIdeal.nD Cert.LogitsReferenceIdeal.τ).loc Cert.LogitsReferenceIdeal.main_arg3) = m' ((c.tc : Thread Cert.LogitsReferenceIdeal.nD Cert.LogitsReferenceIdeal.τ).loc Cert.LogitsReferenceIdeal.main_arg3))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)
      ∧ m' ((c.tc : Thread Cert.WeightsReferenceIdeal.nD Cert.WeightsReferenceIdeal.τ).loc Cert.WeightsReferenceIdeal.main_arg4) = m ((c.tc : Thread Cert.WeightsIdeal.nD Cert.WeightsIdeal.τ).loc Cert.WeightsIdeal.main_arg4)
      ∧ m' ((c.tc : Thread Cert.WeightsReferenceIdeal.nD Cert.WeightsReferenceIdeal.τ).loc Cert.WeightsReferenceIdeal.main_arg5) = m ((c.tc : Thread Cert.WeightsIdeal.nD Cert.WeightsIdeal.τ).loc Cert.WeightsIdeal.main_arg5)) →
    ∃ (v0 : (c : Dev Cert.WeightsIdeal.nD) → Buf (Elt Ideal) ((c.tc : Thread Cert.WeightsIdeal.nD Cert.WeightsIdeal.τ).loc Cert.WeightsIdeal.main_v0_0)) (v1 : (c : Dev Cert.WeightsIdeal.nD) → Buf (Elt Ideal) ((c.tc : Thread Cert.WeightsIdeal.nD Cert.WeightsIdeal.τ).loc Cert.WeightsIdeal.main_v0_1)) (v2 : (c : Dev Cert.WeightsIdeal.nD) → Buf (Elt Ideal) ((c.tc : Thread Cert.WeightsIdeal.nD Cert.WeightsIdeal.τ).loc Cert.WeightsIdeal.main_v1_0)) (v3 : (c : Dev Cert.WeightsIdeal.nD) → Buf (Elt Ideal) ((c.tc : Thread Cert.WeightsIdeal.nD Cert.WeightsIdeal.τ).loc Cert.WeightsIdeal.main_v1_1)) (v4 : (c : Dev Cert.WeightsIdeal.nD) → Buf (Elt Ideal) ((c.tc : Thread Cert.WeightsIdeal.nD Cert.WeightsIdeal.τ).loc Cert.WeightsIdeal.main_v1_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v0_0) = v0 c
          ∧ r.2.mem ((c.tc : Thread Cert.WeightsIdeal.nD Cert.WeightsIdeal.τ).loc Cert.WeightsIdeal.main_v0_1) = v1 c
          ∧ r.2.mem ((c.tc : Thread Cert.WeightsIdeal.nD Cert.WeightsIdeal.τ).loc Cert.WeightsIdeal.main_v1_0) = v2 c
          ∧ r.2.mem ((c.tc : Thread Cert.WeightsIdeal.nD Cert.WeightsIdeal.τ).loc Cert.WeightsIdeal.main_v1_1) = v3 c
          ∧ r.2.mem ((c.tc : Thread Cert.WeightsIdeal.nD Cert.WeightsIdeal.τ).loc Cert.WeightsIdeal.main_v1_2) = v4 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v60) = v0 c
          ∧ r.2.mem ((c.tc : Thread Cert.WeightsReferenceIdeal.nD Cert.WeightsReferenceIdeal.τ).loc Cert.WeightsReferenceIdeal.main_v61) = v1 c
          ∧ r.2.mem ((c.tc : Thread Cert.WeightsReferenceIdeal.nD Cert.WeightsReferenceIdeal.τ).loc Cert.WeightsReferenceIdeal.main_v62) = v2 c
          ∧ r.2.mem ((c.tc : Thread Cert.WeightsReferenceIdeal.nD Cert.WeightsReferenceIdeal.τ).loc Cert.WeightsReferenceIdeal.main_v63) = v3 c
          ∧ r.2.mem ((c.tc : Thread Cert.WeightsReferenceIdeal.nD Cert.WeightsReferenceIdeal.τ).loc Cert.WeightsReferenceIdeal.main_v29) = v4 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3)
          ∧ r.2.mem ((c.tc : Thread Cert.WeightsReferenceIdeal.nD Cert.WeightsReferenceIdeal.τ).loc Cert.WeightsReferenceIdeal.main_arg4) = m' ((c.tc : Thread Cert.WeightsReferenceIdeal.nD Cert.WeightsReferenceIdeal.τ).loc Cert.WeightsReferenceIdeal.main_arg4)
          ∧ r.2.mem ((c.tc : Thread Cert.WeightsReferenceIdeal.nD Cert.WeightsReferenceIdeal.τ).loc Cert.WeightsReferenceIdeal.main_arg5) = m' ((c.tc : Thread Cert.WeightsReferenceIdeal.nD Cert.WeightsReferenceIdeal.τ).loc Cert.WeightsReferenceIdeal.main_arg5))

def Claim : Prop :=
  ∃ (hKernel : Cert.Kernel.Facts) (hKernelIdeal : Cert.KernelIdeal.Facts) (hReferenceIdeal : Cert.ReferenceIdeal.Facts) (hProduct : Cert.Product.Facts) (hProductIdeal : Cert.ProductIdeal.Facts) (hProductReferenceIdeal : Cert.ProductReferenceIdeal.Facts) (hLogits : Cert.Logits.Facts) (hLogitsIdeal : Cert.LogitsIdeal.Facts) (hLogitsReferenceIdeal : Cert.LogitsReferenceIdeal.Facts) (hWeights : Cert.Weights.Facts) (hWeightsIdeal : Cert.WeightsIdeal.Facts) (hWeightsReferenceIdeal : Cert.WeightsReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Product (hProduct := hProduct)
    ∧ quiescent_ProductIdeal (hProductIdeal := hProductIdeal)
    ∧ quiescent_ProductReferenceIdeal (hProductReferenceIdeal := hProductReferenceIdeal)
    ∧ quiescent_Logits (hLogits := hLogits)
    ∧ quiescent_LogitsIdeal (hLogitsIdeal := hLogitsIdeal)
    ∧ quiescent_LogitsReferenceIdeal (hLogitsReferenceIdeal := hLogitsReferenceIdeal)
    ∧ quiescent_Weights (hWeights := hWeights)
    ∧ quiescent_WeightsIdeal (hWeightsIdeal := hWeightsIdeal)
    ∧ quiescent_WeightsReferenceIdeal (hWeightsReferenceIdeal := hWeightsReferenceIdeal)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Product_ProductIdeal
    ∧ algebraic_ProductIdeal_ProductReferenceIdeal (hProductIdeal := hProductIdeal) (hProductReferenceIdeal := hProductReferenceIdeal)
    ∧ preserves_Logits_LogitsIdeal
    ∧ algebraic_LogitsIdeal_LogitsReferenceIdeal (hLogitsIdeal := hLogitsIdeal) (hLogitsReferenceIdeal := hLogitsReferenceIdeal)
    ∧ preserves_Weights_WeightsIdeal
    ∧ algebraic_WeightsIdeal_WeightsReferenceIdeal (hWeightsIdeal := hWeightsIdeal) (hWeightsReferenceIdeal := hWeightsReferenceIdeal)
-- ==== Pre_idx_in_range.lean ====
abbrev S8x1024x8 : Shape := ⟨3, ![8, 1024, 8]⟩
abbrev S4096x1024 : Shape := ⟨2, ![4096, 1024]⟩
abbrev S32x48x128 : Shape := ⟨3, ![32, 48, 128]⟩
abbrev S_ : Shape := ⟨0, ![]⟩
abbrev S32x40x128 : Shape := ⟨3, ![32, 40, 128]⟩

class Facts : Prop where
  bcast_S_S8x1024x8 : S_.BroadcastsInDim S8x1024x8 (![] : Fin 0 → Fin S8x1024x8.rank)
  reducesTo_S8x1024x8_S_d0_1_2 : S8x1024x8.ReducesTo [0, 1, 2] S_
  h_S_ : 0 < S_.numel
  slices_S32x48x128_S32x40x128_0_0_0 : S32x48x128.Slices ![0, 0, 0] S32x40x128
  bcast_S_S32x40x128 : S_.BroadcastsInDim S32x40x128 (![] : Fin 0 → Fin S32x40x128.rank)
  reducesTo_S32x40x128_S_d0_1_2 : S32x40x128.ReducesTo [0, 1, 2] S_

variable [Facts]

def fn {F : FTy → Type} [FloatOps F] (main_arg0 : IVec S8x1024x8 32) (main_arg1 : FVec F S4096x1024 .f32) (main_arg2 : FVec F S4096x1024 .f32) (main_arg3 : FVec F S32x48x128 .f32) (main_arg4 : IVec S32x48x128 32) (main_arg5 : FVec F S32x48x128 .f32) (main_arg6 : IVec S32x48x128 32) : IVec S_ 1 :=
  let main_c : IVec S_ 32 := constantI S_ 32 0#32
  let main_v0 : IVec S8x1024x8 32 := broadcastInDim S8x1024x8 ![] bcast_S_S8x1024x8 main_c
  let main_v1 : IVec S8x1024x8 1 := cmpi .sge main_arg0 main_v0
  let main_c_0 : IVec S_ 32 := constantI S_ 32 1024#32
  let main_v2 : IVec S8x1024x8 32 := broadcastInDim S8x1024x8 ![] bcast_S_S8x1024x8 main_c_0
  let main_v3 : IVec S8x1024x8 1 := cmpi .slt main_arg0 main_v2
  let main_v4 : IVec S8x1024x8 1 := andi main_v1 main_v3
  let main_c_1 : IVec S_ 1 := constantI S_ 1 1#1
  let main_v5 : IVec S_ 1 := (fun x v => Host.reduce IntOp.andi x v reducesTo_S8x1024x8_S_d0_1_2 h_S_) main_v4 main_c_1
  let main_v6 : IVec S32x40x128 32 := (extractStridedSlice S32x40x128 ![0, 0, 0] · slices_S32x48x128_S32x40x128_0_0_0) main_arg4
  let main_c_2 : IVec S_ 32 := constantI S_ 32 1024#32
  let main_v7 : IVec S32x40x128 32 := broadcastInDim S32x40x128 ![] bcast_S_S32x40x128 main_c_2
  let main_v8 : IVec S32x40x128 1 := cmpi .slt main_v6 main_v7
  let main_c_3 : IVec S_ 1 := constantI S_ 1 1#1
  let main_v9 : IVec S_ 1 := (fun x v => Host.reduce IntOp.andi x v reducesTo_S32x40x128_S_d0_1_2 h_S_) main_v8 main_c_3
  let main_v10 : IVec S_ 1 := andi main_v5 main_v9
  let main_v11 : IVec S32x40x128 32 := (extractStridedSlice S32x40x128 ![0, 0, 0] · slices_S32x48x128_S32x40x128_0_0_0) main_arg6
  let main_c_4 : IVec S_ 32 := constantI S_ 32 1024#32
  let main_v12 : IVec S32x40x128 32 := broadcastInDim S32x40x128 ![] bcast_S_S32x40x128 main_c_4
  let main_v13 : IVec S32x40x128 1 := cmpi .slt main_v11 main_v12
  let main_c_5 : IVec S_ 1 := constantI S_ 1 1#1
  let main_v14 : IVec S_ 1 := (fun x v => Host.reduce IntOp.andi x v reducesTo_S32x40x128_S_d0_1_2 h_S_) main_v13 main_c_5
  let main_v15 : IVec S_ 1 := andi main_v10 main_v14
  main_v15
-- ==== Kernel.lean ====
abbrev S8x1024x8 : Shape := ⟨3, ![8, 1024, 8]⟩
abbrev S4096x1024 : Shape := ⟨2, ![4096, 1024]⟩
abbrev S32x48x128 : Shape := ⟨3, ![32, 48, 128]⟩
abbrev S65536 : Shape := ⟨1, ![65536]⟩
abbrev S8192 : Shape := ⟨1, ![8192]⟩
abbrev S16x1024 : Shape := ⟨2, ![16, 1024]⟩
abbrev S48x128 : Shape := ⟨2, ![48, 128]⟩
abbrev S_ : Shape := ⟨0, ![]⟩
abbrev S16 : Shape := ⟨1, ![16]⟩
abbrev S1x16 : Shape := ⟨2, ![1, 16]⟩
abbrev S1x48x128 : Shape := ⟨3, ![1, 48, 128]⟩

abbrev nBuf : Table → Nat
  | .hbm => 14
  | .local .scVector .vmem => 16
  | _ => 0

abbrev bufTy : (tb : Table) → Fin (nBuf tb) → BufTy
  | .hbm, ⟨0, _⟩ => ⟨S8x1024x8, .i32⟩
  | .hbm, ⟨1, _⟩ => ⟨S4096x1024, .f32⟩
  | .hbm, ⟨2, _⟩ => ⟨S4096x1024, .f32⟩
  | .hbm, ⟨3, _⟩ => ⟨S32x48x128, .f32⟩
  | .hbm, ⟨4, _⟩ => ⟨S32x48x128, .i32⟩
  | .hbm, ⟨5, _⟩ => ⟨S32x48x128, .f32⟩
  | .hbm, ⟨6, _⟩ => ⟨S32x48x128, .i32⟩
  | .hbm, ⟨7, _⟩ => ⟨S65536, .i32⟩
  | .hbm, ⟨8, _⟩ => ⟨S32x48x128, .i32⟩
  | .hbm, ⟨9, _⟩ => ⟨S32x48x128, .f32⟩
  | .hbm, ⟨10, _⟩ => ⟨S32x48x128, .i32⟩
  | .hbm, ⟨11, _⟩ => ⟨S32x48x128, .f32⟩
  | .hbm, ⟨12, _⟩ => ⟨S4096x1024, .f32⟩
  | .hbm, ⟨13, _⟩ => ⟨S4096x1024, .f32⟩
  | .local .scVector .vmem, ⟨0, _⟩ => ⟨S8192, .i32⟩
  | .local .scVector .vmem, ⟨1, _⟩ => ⟨S16x1024, .f32⟩
  | .local .scVector .vmem, ⟨2, _⟩ => ⟨S16x1024, .f32⟩
  | .local .scVector .vmem, ⟨3, _⟩ => ⟨S48x128, .i32⟩
  | .local .scVector .vmem, ⟨4, _⟩ => ⟨S48x128, .f32⟩
  | .local .scVector .vmem, ⟨5, _⟩ => ⟨S8192, .i32⟩
  | .local .scVector .vmem, ⟨6, _⟩ => ⟨S16x1024, .f32⟩
  | .local .scVector .vmem, ⟨7, _⟩ => ⟨S16x1024, .f32⟩
  | .local .scVector .vmem, ⟨8, _⟩ => ⟨S48x128, .i32⟩
  | .local .scVector .vmem, ⟨9, _⟩ => ⟨S48x128, .f32⟩
  | .local .scVector .vmem, ⟨10, _⟩ => ⟨S48x128, .f32⟩
  | .local .scVector .vmem, ⟨11, _⟩ => ⟨S48x128, .i32⟩
  | .local .scVector .vmem, ⟨12, _⟩ => ⟨S16x1024, .f32⟩
  | .local .scVector .vmem, ⟨13, _⟩ => ⟨S48x128, .f32⟩
  | .local .scVector .vmem, ⟨14, _⟩ => ⟨S48x128, .i32⟩
  | .local .scVector .vmem, ⟨15, _⟩ => ⟨S16x1024, .f32⟩
  | _, _ => ⟨S8x1024x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v0_scv : Ref sig .scVector := ⟨.hbm, 7, rfl⟩
abbrev main_arg1_scv : Ref sig .scVector := ⟨.hbm, 1, rfl⟩
abbrev main_v1_0_scv : Ref sig .scVector := ⟨.hbm, 8, rfl⟩
abbrev main_v1_1_scv : Ref sig .scVector := ⟨.hbm, 9, rfl⟩
abbrev main_arg2_scv : Ref sig .scVector := ⟨.hbm, 2, rfl⟩
abbrev main_v2_0_scv : Ref sig .scVector := ⟨.hbm, 10, rfl⟩
abbrev main_v2_1_scv : Ref sig .scVector := ⟨.hbm, 11, rfl⟩
abbrev main_arg3_scv : Ref sig .scVector := ⟨.hbm, 3, rfl⟩
abbrev main_arg4_scv : Ref sig .scVector := ⟨.hbm, 4, rfl⟩
abbrev main_v3_scv : Ref sig .scVector := ⟨.hbm, 12, rfl⟩
abbrev main_arg5_scv : Ref sig .scVector := ⟨.hbm, 5, rfl⟩
abbrev main_arg6_scv : Ref sig .scVector := ⟨.hbm, 6, rfl⟩
abbrev main_v4_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_scratch0 : Ref sig .scVector := ⟨.vmem, 10, rfl⟩
abbrev cc2_scratch1 : Ref sig .scVector := ⟨.vmem, 11, rfl⟩
abbrev cc2_scratch2 : Ref sig .scVector := ⟨.vmem, 12, rfl⟩
abbrev cc3_scratch0 : Ref sig .scVector := ⟨.vmem, 13, rfl⟩
abbrev cc3_scratch1 : Ref sig .scVector := ⟨.vmem, 14, rfl⟩
abbrev cc3_scratch2 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32_4 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let v20 : BitVec 32 := Scalar.addi c0_i32_4 v19
  let c1024_i32 : BitVec 32 := 1024#32
  let v32 : BitVec 32 := Scalar.muli v20 c1024_i32
  let c8_i32_12 : BitVec 32 := 8#32
  let v33 : BitVec 32 := Scalar.muli v32 c8_i32_12
  ![v33.toNat]
def k0_off2 (i : grid0.Coords) (c0_i32_13 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v35 : BitVec 32 := Scalar.addi v2 c0_i32_13
  let c0_i32_14 : BitVec 32 := 0#32
  ![v35.toNat, 0]
@[reducible] def k0_t1_loop : Scf.Loop 32 :=
  let c0_i32_20 : BitVec 32 := 0#32
  let c4_i32 : BitVec 32 := 4#32
  let v41 : BitVec 32 := Scalar.addi c0_i32_20 c4_i32
  let c1_i32_21 : BitVec 32 := 1#32
  ⟨c0_i32_20, v41, c1_i32_21⟩
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_271 : BitVec 32 := 16#32
  let v309 : BitVec 32 := Scalar.muli v306 c16_i32_271
  let v310 : BitVec 32 := Scalar.addi v2 v309
  let c0_i32_272 : BitVec 32 := 0#32
  ![v310.toNat, 0]

def k0_chk1 (v353 : IVec S16 32) : Prop :=
  (∀ a x, ((![v353] : Fin 1 → IVec S16 32) a x).toNat < S8192.size a)
theorem k0_idx1_inb : ∀ (v353 : IVec S16 32) (k0_hw1 : k0_chk1 v353), ∀ a x, ((![v353] : Fin 1 → IVec S16 32) a x).toNat < S8192.size a := fun v353 k0_hw1 => k0_hw1
def k0_off4 (k0_t1 : Fin k0_t1_loop.trips) : Fin 2 → Nat :=
  let c0_i32_291 : BitVec 32 := 0#32
  let v359 : Index := Scalar.indexCast c0_i32_291
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v360 : Index := Scalar.indexCast v349
  ![0, v360.toNat]

def k0_chk2 (v34 : IVec S16 32) (v354 : IVec S16 32) : Prop :=
  (∀ a x, ((![v34, v354] : Fin 2 → IVec S16 32) a x).toNat < S16x1024.size a)
theorem k0_idx2_inb : ∀ (v34 : IVec S16 32) (v354 : IVec S16 32) (k0_hw2 : k0_chk2 v34 v354), ∀ a x, ((![v34, v354] : Fin 2 → IVec S16 32) a x).toNat < S16x1024.size a := fun v34 v354 k0_hw2 => k0_hw2
def k0_off5 (k0_t1 : Fin k0_t1_loop.trips) : Fin 2 → Nat :=
  let c0_i32_292 : BitVec 32 := 0#32
  let v363 : Index := Scalar.indexCast c0_i32_292
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v364 : Index := Scalar.indexCast v349
  ![0, v364.toNat]

def k0_chk3 (v369 : IVec S16 32) : Prop :=
  (∀ a x, ((![v369] : Fin 1 → IVec S16 32) a x).toNat < S8192.size a)
theorem k0_idx3_inb : ∀ (v369 : IVec S16 32) (k0_hw3 : k0_chk3 v369), ∀ a x, ((![v369] : Fin 1 → IVec S16 32) a x).toNat < S8192.size a := fun v369 k0_hw3 => k0_hw3
def k0_off6 (k0_t1 : Fin k0_t1_loop.trips) : Fin 2 → Nat :=
  let c1_i32_297 : BitVec 32 := 1#32
  let v375 : Index := Scalar.indexCast c1_i32_297
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v376 : Index := Scalar.indexCast v349
  ![1, v376.toNat]

def k0_chk4 (v34 : IVec S16 32) (v370 : IVec S16 32) : Prop :=
  (∀ a x, ((![v34, v370] : Fin 2 → IVec S16 32) a x).toNat < S16x1024.size a)
theorem k0_idx4_inb : ∀ (v34 : IVec S16 32) (v370 : IVec S16 32) (k0_hw4 : k0_chk4 v34 v370), ∀ a x, ((![v34, v370] : Fin 2 → IVec S16 32) a x).toNat < S16x1024.size a := fun v34 v370 k0_hw4 => k0_hw4
def k0_off7 (k0_t1 : Fin k0_t1_loop.trips) : Fin 2 → Nat :=
  let c1_i32_298 : BitVec 32 := 1#32
  let v379 : Index := Scalar.indexCast c1_i32_298
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v380 : Index := Scalar.indexCast v349
  ![1, v380.toNat]

def k0_chk5 (v385 : IVec S16 32) : Prop :=
  (∀ a x, ((![v385] : Fin 1 → IVec S16 32) a x).toNat < S8192.size a)
theorem k0_idx5_inb : ∀ (v385 : IVec S16 32) (k0_hw5 : k0_chk5 v385), ∀ a x, ((![v385] : Fin 1 → IVec S16 32) a x).toNat < S8192.size a := fun v385 k0_hw5 => k0_hw5
def k0_off8 (k0_t1 : Fin k0_t1_loop.trips) : Fin 2 → Nat :=
  let c2_i32_303 : BitVec 32 := 2#32
  let v391 : Index := Scalar.indexCast c2_i32_303
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v392 : Index := Scalar.indexCast v349
  ![2, v392.toNat]

def k0_chk6 (v34 : IVec S16 32) (v386 : IVec S16 32) : Prop :=
  (∀ a x, ((![v34, v386] : Fin 2 → IVec S16 32) a x).toNat < S16x1024.size a)
theorem k0_idx6_inb : ∀ (v34 : IVec S16 32) (v386 : IVec S16 32) (k0_hw6 : k0_chk6 v34 v386), ∀ a x, ((![v34, v386] : Fin 2 → IVec S16 32) a x).toNat < S16x1024.size a := fun v34 v386 k0_hw6 => k0_hw6
def k0_off9 (k0_t1 : Fin k0_t1_loop.trips) : Fin 2 → Nat :=
  let c2_i32_304 : BitVec 32 := 2#32
  let v395 : Index := Scalar.indexCast c2_i32_304
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v396 : Index := Scalar.indexCast v349
  ![2, v396.toNat]

def k0_chk7 (v401 : IVec S16 32) : Prop :=
  (∀ a x, ((![v401] : Fin 1 → IVec S16 32) a x).toNat < S8192.size a)
theorem k0_idx7_inb : ∀ (v401 : IVec S16 32) (k0_hw7 : k0_chk7 v401), ∀ a x, ((![v401] : Fin 1 → IVec S16 32) a x).toNat < S8192.size a := fun v401 k0_hw7 => k0_hw7
def k0_off10 (k0_t1 : Fin k0_t1_loop.trips) : Fin 2 → Nat :=
  let c3_i32_308 : BitVec 32 := 3#32
  let v407 : Index := Scalar.indexCast c3_i32_308
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v408 : Index := Scalar.indexCast v349
  ![3, v408.toNat]

def k0_chk8 (v34 : IVec S16 32) (v402 : IVec S16 32) : Prop :=
  (∀ a x, ((![v34, v402] : Fin 2 → IVec S16 32) a x).toNat < S16x1024.size a)
theorem k0_idx8_inb : ∀ (v34 : IVec S16 32) (v402 : IVec S16 32) (k0_hw8 : k0_chk8 v34 v402), ∀ a x, ((![v34, v402] : Fin 2 → IVec S16 32) a x).toNat < S16x1024.size a := fun v34 v402 k0_hw8 => k0_hw8
def k0_off11 (k0_t1 : Fin k0_t1_loop.trips) : Fin 2 → Nat :=
  let c3_i32_309 : BitVec 32 := 3#32
  let v411 : Index := Scalar.indexCast c3_i32_309
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v412 : Index := Scalar.indexCast v349
  ![3, v412.toNat]

def k0_chk9 (v417 : IVec S16 32) : Prop :=
  (∀ a x, ((![v417] : Fin 1 → IVec S16 32) a x).toNat < S8192.size a)
theorem k0_idx9_inb : ∀ (v417 : IVec S16 32) (k0_hw9 : k0_chk9 v417), ∀ a x, ((![v417] : Fin 1 → IVec S16 32) a x).toNat < S8192.size a := fun v417 k0_hw9 => k0_hw9
def k0_off12 (k0_t1 : Fin k0_t1_loop.trips) : Fin 2 → Nat :=
  let c4_i32_314 : BitVec 32 := 4#32
  let v423 : Index := Scalar.indexCast c4_i32_314
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v424 : Index := Scalar.indexCast v349
  ![4, v424.toNat]

def k0_chk10 (v34 : IVec S16 32) (v418 : IVec S16 32) : Prop :=
  (∀ a x, ((![v34, v418] : Fin 2 → IVec S16 32) a x).toNat < S16x1024.size a)
theorem k0_idx10_inb : ∀ (v34 : IVec S16 32) (v418 : IVec S16 32) (k0_hw10 : k0_chk10 v34 v418), ∀ a x, ((![v34, v418] : Fin 2 → IVec S16 32) a x).toNat < S16x1024.size a := fun v34 v418 k0_hw10 => k0_hw10
def k0_off13 (k0_t1 : Fin k0_t1_loop.trips) : Fin 2 → Nat :=
  let c4_i32_315 : BitVec 32 := 4#32
  let v427 : Index := Scalar.indexCast c4_i32_315
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v428 : Index := Scalar.indexCast v349
  ![4, v428.toNat]

def k0_chk11 (v433 : IVec S16 32) : Prop :=
  (∀ a x, ((![v433] : Fin 1 → IVec S16 32) a x).toNat < S8192.size a)
theorem k0_idx11_inb : ∀ (v433 : IVec S16 32) (k0_hw11 : k0_chk11 v433), ∀ a x, ((![v433] : Fin 1 → IVec S16 32) a x).toNat < S8192.size a := fun v433 k0_hw11 => k0_hw11
def k0_off14 (k0_t1 : Fin k0_t1_loop.trips) : Fin 2 → Nat :=
  let c5_i32_320 : BitVec 32 := 5#32
  let v439 : Index := Scalar.indexCast c5_i32_320
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v440 : Index := Scalar.indexCast v349
  ![5, v440.toNat]

def k0_chk12 (v34 : IVec S16 32) (v434 : IVec S16 32) : Prop :=
  (∀ a x, ((![v34, v434] : Fin 2 → IVec S16 32) a x).toNat < S16x1024.size a)
theorem k0_idx12_inb : ∀ (v34 : IVec S16 32) (v434 : IVec S16 32) (k0_hw12 : k0_chk12 v34 v434), ∀ a x, ((![v34, v434] : Fin 2 → IVec S16 32) a x).toNat < S16x1024.size a := fun v34 v434 k0_hw12 => k0_hw12
def k0_off15 (k0_t1 : Fin k0_t1_loop.trips) : Fin 2 → Nat :=
  let c5_i32_321 : BitVec 32 := 5#32
  let v443 : Index := Scalar.indexCast c5_i32_321
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v444 : Index := Scalar.indexCast v349
  ![5, v444.toNat]

def k0_chk13 (v449 : IVec S16 32) : Prop :=
  (∀ a x, ((![v449] : Fin 1 → IVec S16 32) a x).toNat < S8192.size a)
theorem k0_idx13_inb : ∀ (v449 : IVec S16 32) (k0_hw13 : k0_chk13 v449), ∀ a x, ((![v449] : Fin 1 → IVec S16 32) a x).toNat < S8192.size a := fun v449 k0_hw13 => k0_hw13
def k0_off16 (k0_t1 : Fin k0_t1_loop.trips) : Fin 2 → Nat :=
  let c6_i32_325 : BitVec 32 := 6#32
  let v455 : Index := Scalar.indexCast c6_i32_325
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v456 : Index := Scalar.indexCast v349
  ![6, v456.toNat]

def k0_chk14 (v34 : IVec S16 32) (v450 : IVec S16 32) : Prop :=
  (∀ a x, ((![v34, v450] : Fin 2 → IVec S16 32) a x).toNat < S16x1024.size a)
theorem k0_idx14_inb : ∀ (v34 : IVec S16 32) (v450 : IVec S16 32) (k0_hw14 : k0_chk14 v34 v450), ∀ a x, ((![v34, v450] : Fin 2 → IVec S16 32) a x).toNat < S16x1024.size a := fun v34 v450 k0_hw14 => k0_hw14
def k0_off17 (k0_t1 : Fin k0_t1_loop.trips) : Fin 2 → Nat :=
  let c6_i32_326 : BitVec 32 := 6#32
  let v459 : Index := Scalar.indexCast c6_i32_326
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v460 : Index := Scalar.indexCast v349
  ![6, v460.toNat]

def k0_chk15 (v465 : IVec S16 32) : Prop :=
  (∀ a x, ((![v465] : Fin 1 → IVec S16 32) a x).toNat < S8192.size a)
theorem k0_idx15_inb : ∀ (v465 : IVec S16 32) (k0_hw15 : k0_chk15 v465), ∀ a x, ((![v465] : Fin 1 → IVec S16 32) a x).toNat < S8192.size a := fun v465 k0_hw15 => k0_hw15
def k0_off18 (k0_t1 : Fin k0_t1_loop.trips) : Fin 2 → Nat :=
  let c7_i32_330 : BitVec 32 := 7#32
  let v471 : Index := Scalar.indexCast c7_i32_330
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v472 : Index := Scalar.indexCast v349
  ![7, v472.toNat]

def k0_chk16 (v34 : IVec S16 32) (v466 : IVec S16 32) : Prop :=
  (∀ a x, ((![v34, v466] : Fin 2 → IVec S16 32) a x).toNat < S16x1024.size a)
theorem k0_idx16_inb : ∀ (v34 : IVec S16 32) (v466 : IVec S16 32) (k0_hw16 : k0_chk16 v34 v466), ∀ a x, ((![v34, v466] : Fin 2 → IVec S16 32) a x).toNat < S16x1024.size a := fun v34 v466 k0_hw16 => k0_hw16
def k0_off19 (k0_t1 : Fin k0_t1_loop.trips) : Fin 2 → Nat :=
  let c7_i32_331 : BitVec 32 := 7#32
  let v475 : Index := Scalar.indexCast c7_i32_331
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v476 : Index := Scalar.indexCast v349
  ![7, v476.toNat]

def k0_chk17 (v481 : IVec S16 32) : Prop :=
  (∀ a x, ((![v481] : Fin 1 → IVec S16 32) a x).toNat < S8192.size a)
theorem k0_idx17_inb : ∀ (v481 : IVec S16 32) (k0_hw17 : k0_chk17 v481), ∀ a x, ((![v481] : Fin 1 → IVec S16 32) a x).toNat < S8192.size a := fun v481 k0_hw17 => k0_hw17
def k0_off20 (k0_t1 : Fin k0_t1_loop.trips) : Fin 2 → Nat :=
  let c8_i32_339 : BitVec 32 := 8#32
  let v494 : Index := Scalar.indexCast c8_i32_339
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v495 : Index := Scalar.indexCast v349
  ![8, v495.toNat]

def k0_chk18 (v34 : IVec S16 32) (v493 : IVec S16 32) : Prop :=
  (∀ a x, ((![v34, v493] : Fin 2 → IVec S16 32) a x).toNat < S16x1024.size a)
theorem k0_idx18_inb : ∀ (v34 : IVec S16 32) (v493 : IVec S16 32) (k0_hw18 : k0_chk18 v34 v493), ∀ a x, ((![v34, v493] : Fin 2 → IVec S16 32) a x).toNat < S16x1024.size a := fun v34 v493 k0_hw18 => k0_hw18
def k0_off21 (k0_t1 : Fin k0_t1_loop.trips) : Fin 2 → Nat :=
  let c8_i32_340 : BitVec 32 := 8#32
  let v498 : Index := Scalar.indexCast c8_i32_340
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v499 : Index := Scalar.indexCast v349
  ![8, v499.toNat]

def k0_chk19 (v504 : IVec S16 32) : Prop :=
  (∀ a x, ((![v504] : Fin 1 → IVec S16 32) a x).toNat < S8192.size a)
theorem k0_idx19_inb : ∀ (v504 : IVec S16 32) (k0_hw19 : k0_chk19 v504), ∀ a x, ((![v504] : Fin 1 → IVec S16 32) a x).toNat < S8192.size a := fun v504 k0_hw19 => k0_hw19
def k0_off22 (k0_t1 : Fin k0_t1_loop.trips) : Fin 2 → Nat :=
  let c9_i32 : BitVec 32 := 9#32
  let v517 : Index := Scalar.indexCast c9_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v518 : Index := Scalar.indexCast v349
  ![9, v518.toNat]

def k0_chk20 (v34 : IVec S16 32) (v516 : IVec S16 32) : Prop :=
  (∀ a x, ((![v34, v516] : Fin 2 → IVec S16 32) a x).toNat < S16x1024.size a)
theorem k0_idx20_inb : ∀ (v34 : IVec S16 32) (v516 : IVec S16 32) (k0_hw20 : k0_chk20 v34 v516), ∀ a x, ((![v34, v516] : Fin 2 → IVec S16 32) a x).toNat < S16x1024.size a := fun v34 v516 k0_hw20 => k0_hw20
def k0_off23 (k0_t1 : Fin k0_t1_loop.trips) : Fin 2 → Nat :=
  let c9_i32_348 : BitVec 32 := 9#32
  let v521 : Index := Scalar.indexCast c9_i32_348
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v522 : Index := Scalar.indexCast v349
  ![9, v522.toNat]

def k0_chk21 (v527 : IVec S16 32) : Prop :=
  (∀ a x, ((![v527] : Fin 1 → IVec S16 32) a x).toNat < S8192.size a)
theorem k0_idx21_inb : ∀ (v527 : IVec S16 32) (k0_hw21 : k0_chk21 v527), ∀ a x, ((![v527] : Fin 1 → IVec S16 32) a x).toNat < S8192.size a := fun v527 k0_hw21 => k0_hw21
def k0_off24 (k0_t1 : Fin k0_t1_loop.trips) : Fin 2 → Nat :=
  let c10_i32 : BitVec 32 := 10#32
  let v540 : Index := Scalar.indexCast c10_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v541 : Index := Scalar.indexCast v349
  ![10, v541.toNat]

def k0_chk22 (v34 : IVec S16 32) (v539 : IVec S16 32) : Prop :=
  (∀ a x, ((![v34, v539] : Fin 2 → IVec S16 32) a x).toNat < S16x1024.size a)
theorem k0_idx22_inb : ∀ (v34 : IVec S16 32) (v539 : IVec S16 32) (k0_hw22 : k0_chk22 v34 v539), ∀ a x, ((![v34, v539] : Fin 2 → IVec S16 32) a x).toNat < S16x1024.size a := fun v34 v539 k0_hw22 => k0_hw22
def k0_off25 (k0_t1 : Fin k0_t1_loop.trips) : Fin 2 → Nat :=
  let c10_i32_356 : BitVec 32 := 10#32
  let v544 : Index := Scalar.indexCast c10_i32_356
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v545 : Index := Scalar.indexCast v349
  ![10, v545.toNat]

def k0_chk23 (v550 : IVec S16 32) : Prop :=
  (∀ a x, ((![v550] : Fin 1 → IVec S16 32) a x).toNat < S8192.size a)
theorem k0_idx23_inb : ∀ (v550 : IVec S16 32) (k0_hw23 : k0_chk23 v550), ∀ a x, ((![v550] : Fin 1 → IVec S16 32) a x).toNat < S8192.size a := fun v550 k0_hw23 => k0_hw23
def k0_off26 (k0_t1 : Fin k0_t1_loop.trips) : Fin 2 → Nat :=
  let c11_i32 : BitVec 32 := 11#32
  let v563 : Index := Scalar.indexCast c11_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v564 : Index := Scalar.indexCast v349
  ![11, v564.toNat]

def k0_chk24 (v34 : IVec S16 32) (v562 : IVec S16 32) : Prop :=
  (∀ a x, ((![v34, v562] : Fin 2 → IVec S16 32) a x).toNat < S16x1024.size a)
theorem k0_idx24_inb : ∀ (v34 : IVec S16 32) (v562 : IVec S16 32) (k0_hw24 : k0_chk24 v34 v562), ∀ a x, ((![v34, v562] : Fin 2 → IVec S16 32) a x).toNat < S16x1024.size a := fun v34 v562 k0_hw24 => k0_hw24
def k0_off27 (k0_t1 : Fin k0_t1_loop.trips) : Fin 2 → Nat :=
  let c11_i32_364 : BitVec 32 := 11#32
  let v567 : Index := Scalar.indexCast c11_i32_364
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v568 : Index := Scalar.indexCast v349
  ![11, v568.toNat]

def k0_chk25 (v573 : IVec S16 32) : Prop :=
  (∀ a x, ((![v573] : Fin 1 → IVec S16 32) a x).toNat < S8192.size a)
theorem k0_idx25_inb : ∀ (v573 : IVec S16 32) (k0_hw25 : k0_chk25 v573), ∀ a x, ((![v573] : Fin 1 → IVec S16 32) a x).toNat < S8192.size a := fun v573 k0_hw25 => k0_hw25
def k0_off28 (k0_t1 : Fin k0_t1_loop.trips) : Fin 2 → Nat :=
  let c12_i32 : BitVec 32 := 12#32
  let v586 : Index := Scalar.indexCast c12_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v587 : Index := Scalar.indexCast v349
  ![12, v587.toNat]

def k0_chk26 (v34 : IVec S16 32) (v585 : IVec S16 32) : Prop :=
  (∀ a x, ((![v34, v585] : Fin 2 → IVec S16 32) a x).toNat < S16x1024.size a)
theorem k0_idx26_inb : ∀ (v34 : IVec S16 32) (v585 : IVec S16 32) (k0_hw26 : k0_chk26 v34 v585), ∀ a x, ((![v34, v585] : Fin 2 → IVec S16 32) a x).toNat < S16x1024.size a := fun v34 v585 k0_hw26 => k0_hw26
def k0_off29 (k0_t1 : Fin k0_t1_loop.trips) : Fin 2 → Nat :=
  let c12_i32_372 : BitVec 32 := 12#32
  let v590 : Index := Scalar.indexCast c12_i32_372
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v591 : Index := Scalar.indexCast v349
  ![12, v591.toNat]

def k0_chk27 (v596 : IVec S16 32) : Prop :=
  (∀ a x, ((![v596] : Fin 1 → IVec S16 32) a x).toNat < S8192.size a)
theorem k0_idx27_inb : ∀ (v596 : IVec S16 32) (k0_hw27 : k0_chk27 v596), ∀ a x, ((![v596] : Fin 1 → IVec S16 32) a x).toNat < S8192.size a := fun v596 k0_hw27 => k0_hw27
def k0_off30 (k0_t1 : Fin k0_t1_loop.trips) : Fin 2 → Nat :=
  let c13_i32 : BitVec 32 := 13#32
  let v609 : Index := Scalar.indexCast c13_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v610 : Index := Scalar.indexCast v349
  ![13, v610.toNat]

def k0_chk28 (v34 : IVec S16 32) (v608 : IVec S16 32) : Prop :=
  (∀ a x, ((![v34, v608] : Fin 2 → IVec S16 32) a x).toNat < S16x1024.size a)
theorem k0_idx28_inb : ∀ (v34 : IVec S16 32) (v608 : IVec S16 32) (k0_hw28 : k0_chk28 v34 v608), ∀ a x, ((![v34, v608] : Fin 2 → IVec S16 32) a x).toNat < S16x1024.size a := fun v34 v608 k0_hw28 => k0_hw28
def k0_off31 (k0_t1 : Fin k0_t1_loop.trips) : Fin 2 → Nat :=
  let c13_i32_380 : BitVec 32 := 13#32
  let v613 : Index := Scalar.indexCast c13_i32_380
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v614 : Index := Scalar.indexCast v349
  ![13, v614.toNat]

def k0_chk29 (v619 : IVec S16 32) : Prop :=
  (∀ a x, ((![v619] : Fin 1 → IVec S16 32) a x).toNat < S8192.size a)
theorem k0_idx29_inb : ∀ (v619 : IVec S16 32) (k0_hw29 : k0_chk29 v619), ∀ a x, ((![v619] : Fin 1 → IVec S16 32) a x).toNat < S8192.size a := fun v619 k0_hw29 => k0_hw29
def k0_off32 (k0_t1 : Fin k0_t1_loop.trips) : Fin 2 → Nat :=
  let c14_i32 : BitVec 32 := 14#32
  let v632 : Index := Scalar.indexCast c14_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v633 : Index := Scalar.indexCast v349
  ![14, v633.toNat]

def k0_chk30 (v34 : IVec S16 32) (v631 : IVec S16 32) : Prop :=
  (∀ a x, ((![v34, v631] : Fin 2 → IVec S16 32) a x).toNat < S16x1024.size a)
theorem k0_idx30_inb : ∀ (v34 : IVec S16 32) (v631 : IVec S16 32) (k0_hw30 : k0_chk30 v34 v631), ∀ a x, ((![v34, v631] : Fin 2 → IVec S16 32) a x).toNat < S16x1024.size a := fun v34 v631 k0_hw30 => k0_hw30
def k0_off33 (k0_t1 : Fin k0_t1_loop.trips) : Fin 2 → Nat :=
  let c14_i32_388 : BitVec 32 := 14#32
  let v636 : Index := Scalar.indexCast c14_i32_388
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v637 : Index := Scalar.indexCast v349
  ![14, v637.toNat]

def k0_chk31 (v642 : IVec S16 32) : Prop :=
  (∀ a x, ((![v642] : Fin 1 → IVec S16 32) a x).toNat < S8192.size a)
theorem k0_idx31_inb : ∀ (v642 : IVec S16 32) (k0_hw31 : k0_chk31 v642), ∀ a x, ((![v642] : Fin 1 → IVec S16 32) a x).toNat < S8192.size a := fun v642 k0_hw31 => k0_hw31
def k0_off34 (k0_t1 : Fin k0_t1_loop.trips) : Fin 2 → Nat :=
  let c15_i32 : BitVec 32 := 15#32
  let v655 : Index := Scalar.indexCast c15_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v656 : Index := Scalar.indexCast v349
  ![15, v656.toNat]

def k0_chk32 (v34 : IVec S16 32) (v654 : IVec S16 32) : Prop :=
  (∀ a x, ((![v34, v654] : Fin 2 → IVec S16 32) a x).toNat < S16x1024.size a)
theorem k0_idx32_inb : ∀ (v34 : IVec S16 32) (v654 : IVec S16 32) (k0_hw32 : k0_chk32 v34 v654), ∀ a x, ((![v34, v654] : Fin 2 → IVec S16 32) a x).toNat < S16x1024.size a := fun v34 v654 k0_hw32 => k0_hw32
def k0_off35 (k0_t1 : Fin k0_t1_loop.trips) : Fin 2 → Nat :=
  let c15_i32_396 : BitVec 32 := 15#32
  let v659 : Index := Scalar.indexCast c15_i32_396
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v660 : Index := Scalar.indexCast v349
  ![15, v660.toNat]

def k0_chk33 (v665 : IVec S16 32) : Prop :=
  (∀ a x, ((![v665] : Fin 1 → IVec S16 32) a x).toNat < S8192.size a)
theorem k0_idx33_inb : ∀ (v665 : IVec S16 32) (k0_hw33 : k0_chk33 v665), ∀ a x, ((![v665] : Fin 1 → IVec S16 32) a x).toNat < S8192.size a := fun v665 k0_hw33 => k0_hw33
def k0_off36 (k0_t1 : Fin k0_t1_loop.trips) : Fin 2 → Nat :=
  let c16_i32_404 : BitVec 32 := 16#32
  let v678 : Index := Scalar.indexCast c16_i32_404
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v679 : Index := Scalar.indexCast v349
  ![16, v679.toNat]

def k0_chk34 (v34 : IVec S16 32) (v677 : IVec S16 32) : Prop :=
  (∀ a x, ((![v34, v677] : Fin 2 → IVec S16 32) a x).toNat < S16x1024.size a)
theorem k0_idx34_inb : ∀ (v34 : IVec S16 32) (v677 : IVec S16 32) (k0_hw34 : k0_chk34 v34 v677), ∀ a x, ((![v34, v677] : Fin 2 → IVec S16 32) a x).toNat < S16x1024.size a := fun v34 v677 k0_hw34 => k0_hw34
def k0_off37 (k0_t1 : Fin k0_t1_loop.trips) : Fin 2 → Nat :=
  let c16_i32_405 : BitVec 32 := 16#32
  let v682 : Index := Scalar.indexCast c16_i32_405
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v683 : Index := Scalar.indexCast v349
  ![16, v683.toNat]

def k0_chk35 (v688 : IVec S16 32) : Prop :=
  (∀ a x, ((![v688] : Fin 1 → IVec S16 32) a x).toNat < S8192.size a)
theorem k0_idx35_inb : ∀ (v688 : IVec S16 32) (k0_hw35 : k0_chk35 v688), ∀ a x, ((![v688] : Fin 1 → IVec S16 32) a x).toNat < S8192.size a := fun v688 k0_hw35 => k0_hw35
def k0_off38 (k0_t1 : Fin k0_t1_loop.trips) : Fin 2 → Nat :=
  let c17_i32 : BitVec 32 := 17#32
  let v701 : Index := Scalar.indexCast c17_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v702 : Index := Scalar.indexCast v349
  ![17, v702.toNat]

def k0_chk36 (v34 : IVec S16 32) (v700 : IVec S16 32) : Prop :=
  (∀ a x, ((![v34, v700] : Fin 2 → IVec S16 32) a x).toNat < S16x1024.size a)
theorem k0_idx36_inb : ∀ (v34 : IVec S16 32) (v700 : IVec S16 32) (k0_hw36 : k0_chk36 v34 v700), ∀ a x, ((![v34, v700] : Fin 2 → IVec S16 32) a x).toNat < S16x1024.size a := fun v34 v700 k0_hw36 => k0_hw36
def k0_off39 (k0_t1 : Fin k0_t1_loop.trips) : Fin 2 → Nat :=
  let c17_i32_413 : BitVec 32 := 17#32
  let v705 : Index := Scalar.indexCast c17_i32_413
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v706 : Index := Scalar.indexCast v349
  ![17, v706.toNat]

def k0_chk37 (v711 : IVec S16 32) : Prop :=
  (∀ a x, ((![v711] : Fin 1 → IVec S16 32) a x).toNat < S8192.size a)
theorem k0_idx37_inb : ∀ (v711 : IVec S16 32) (k0_hw37 : k0_chk37 v711), ∀ a x, ((![v711] : Fin 1 → IVec S16 32) a x).toNat < S8192.size a := fun v711 k0_hw37 => k0_hw37
def k0_off40 (k0_t1 : Fin k0_t1_loop.trips) : Fin 2 → Nat :=
  let c18_i32 : BitVec 32 := 18#32
  let v724 : Index := Scalar.indexCast c18_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v725 : Index := Scalar.indexCast v349
  ![18, v725.toNat]

def k0_chk38 (v34 : IVec S16 32) (v723 : IVec S16 32) : Prop :=
  (∀ a x, ((![v34, v723] : Fin 2 → IVec S16 32) a x).toNat < S16x1024.size a)
theorem k0_idx38_inb : ∀ (v34 : IVec S16 32) (v723 : IVec S16 32) (k0_hw38 : k0_chk38 v34 v723), ∀ a x, ((![v34, v723] : Fin 2 → IVec S16 32) a x).toNat < S16x1024.size a := fun v34 v723 k0_hw38 => k0_hw38
def k0_off41 (k0_t1 : Fin k0_t1_loop.trips) : Fin 2 → Nat :=
  let c18_i32_421 : BitVec 32 := 18#32
  let v728 : Index := Scalar.indexCast c18_i32_421
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v729 : Index := Scalar.indexCast v349
  ![18, v729.toNat]

def k0_chk39 (v734 : IVec S16 32) : Prop :=
  (∀ a x, ((![v734] : Fin 1 → IVec S16 32) a x).toNat < S8192.size a)
theorem k0_idx39_inb : ∀ (v734 : IVec S16 32) (k0_hw39 : k0_chk39 v734), ∀ a x, ((![v734] : Fin 1 → IVec S16 32) a x).toNat < S8192.size a := fun v734 k0_hw39 => k0_hw39
def k0_off42 (k0_t1 : Fin k0_t1_loop.trips) : Fin 2 → Nat :=
  let c19_i32 : BitVec 32 := 19#32
  let v747 : Index := Scalar.indexCast c19_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v748 : Index := Scalar.indexCast v349
  ![19, v748.toNat]

def k0_chk40 (v34 : IVec S16 32) (v746 : IVec S16 32) : Prop :=
  (∀ a x, ((![v34, v746] : Fin 2 → IVec S16 32) a x).toNat < S16x1024.size a)
theorem k0_idx40_inb : ∀ (v34 : IVec S16 32) (v746 : IVec S16 32) (k0_hw40 : k0_chk40 v34 v746), ∀ a x, ((![v34, v746] : Fin 2 → IVec S16 32) a x).toNat < S16x1024.size a := fun v34 v746 k0_hw40 => k0_hw40
def k0_off43 (k0_t1 : Fin k0_t1_loop.trips) : Fin 2 → Nat :=
  let c19_i32_429 : BitVec 32 := 19#32
  let v751 : Index := Scalar.indexCast c19_i32_429
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v752 : Index := Scalar.indexCast v349
  ![19, v752.toNat]

def k0_chk41 (v757 : IVec S16 32) : Prop :=
  (∀ a x, ((![v757] : Fin 1 → IVec S16 32) a x).toNat < S8192.size a)
theorem k0_idx41_inb : ∀ (v757 : IVec S16 32) (k0_hw41 : k0_chk41 v757), ∀ a x, ((![v757] : Fin 1 → IVec S16 32) a x).toNat < S8192.size a := fun v757 k0_hw41 => k0_hw41
def k0_off44 (k0_t1 : Fin k0_t1_loop.trips) : Fin 2 → Nat :=
  let c20_i32 : BitVec 32 := 20#32
  let v770 : Index := Scalar.indexCast c20_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v771 : Index := Scalar.indexCast v349
  ![20, v771.toNat]

def k0_chk42 (v34 : IVec S16 32) (v769 : IVec S16 32) : Prop :=
  (∀ a x, ((![v34, v769] : Fin 2 → IVec S16 32) a x).toNat < S16x1024.size a)
theorem k0_idx42_inb : ∀ (v34 : IVec S16 32) (v769 : IVec S16 32) (k0_hw42 : k0_chk42 v34 v769), ∀ a x, ((![v34, v769] : Fin 2 → IVec S16 32) a x).toNat < S16x1024.size a := fun v34 v769 k0_hw42 => k0_hw42
def k0_off45 (k0_t1 : Fin k0_t1_loop.trips) : Fin 2 → Nat :=
  let c20_i32_437 : BitVec 32 := 20#32
  let v774 : Index := Scalar.indexCast c20_i32_437
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v775 : Index := Scalar.indexCast v349
  ![20, v775.toNat]

def k0_chk43 (v780 : IVec S16 32) : Prop :=
  (∀ a x, ((![v780] : Fin 1 → IVec S16 32) a x).toNat < S8192.size a)
theorem k0_idx43_inb : ∀ (v780 : IVec S16 32) (k0_hw43 : k0_chk43 v780), ∀ a x, ((![v780] : Fin 1 → IVec S16 32) a x).toNat < S8192.size a := fun v780 k0_hw43 => k0_hw43
def k0_off46 (k0_t1 : Fin k0_t1_loop.trips) : Fin 2 → Nat :=
  let c21_i32 : BitVec 32 := 21#32
  let v793 : Index := Scalar.indexCast c21_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v794 : Index := Scalar.indexCast v349
  ![21, v794.toNat]

def k0_chk44 (v34 : IVec S16 32) (v792 : IVec S16 32) : Prop :=
  (∀ a x, ((![v34, v792] : Fin 2 → IVec S16 32) a x).toNat < S16x1024.size a)
theorem k0_idx44_inb : ∀ (v34 : IVec S16 32) (v792 : IVec S16 32) (k0_hw44 : k0_chk44 v34 v792), ∀ a x, ((![v34, v792] : Fin 2 → IVec S16 32) a x).toNat < S16x1024.size a := fun v34 v792 k0_hw44 => k0_hw44
def k0_off47 (k0_t1 : Fin k0_t1_loop.trips) : Fin 2 → Nat :=
  let c21_i32_445 : BitVec 32 := 21#32
  let v797 : Index := Scalar.indexCast c21_i32_445
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v798 : Index := Scalar.indexCast v349
  ![21, v798.toNat]

def k0_chk45 (v803 : IVec S16 32) : Prop :=
  (∀ a x, ((![v803] : Fin 1 → IVec S16 32) a x).toNat < S8192.size a)
theorem k0_idx45_inb : ∀ (v803 : IVec S16 32) (k0_hw45 : k0_chk45 v803), ∀ a x, ((![v803] : Fin 1 → IVec S16 32) a x).toNat < S8192.size a := fun v803 k0_hw45 => k0_hw45
def k0_off48 (k0_t1 : Fin k0_t1_loop.trips) : Fin 2 → Nat :=
  let c22_i32 : BitVec 32 := 22#32
  let v816 : Index := Scalar.indexCast c22_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v817 : Index := Scalar.indexCast v349
  ![22, v817.toNat]

def k0_chk46 (v34 : IVec S16 32) (v815 : IVec S16 32) : Prop :=
  (∀ a x, ((![v34, v815] : Fin 2 → IVec S16 32) a x).toNat < S16x1024.size a)
theorem k0_idx46_inb : ∀ (v34 : IVec S16 32) (v815 : IVec S16 32) (k0_hw46 : k0_chk46 v34 v815), ∀ a x, ((![v34, v815] : Fin 2 → IVec S16 32) a x).toNat < S16x1024.size a := fun v34 v815 k0_hw46 => k0_hw46
def k0_off49 (k0_t1 : Fin k0_t1_loop.trips) : Fin 2 → Nat :=
  let c22_i32_453 : BitVec 32 := 22#32
  let v820 : Index := Scalar.indexCast c22_i32_453
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v821 : Index := Scalar.indexCast v349
  ![22, v821.toNat]

def k0_chk47 (v826 : IVec S16 32) : Prop :=
  (∀ a x, ((![v826] : Fin 1 → IVec S16 32) a x).toNat < S8192.size a)
theorem k0_idx47_inb : ∀ (v826 : IVec S16 32) (k0_hw47 : k0_chk47 v826), ∀ a x, ((![v826] : Fin 1 → IVec S16 32) a x).toNat < S8192.size a := fun v826 k0_hw47 => k0_hw47
def k0_off50 (k0_t1 : Fin k0_t1_loop.trips) : Fin 2 → Nat :=
  let c23_i32 : BitVec 32 := 23#32
  let v839 : Index := Scalar.indexCast c23_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v840 : Index := Scalar.indexCast v349
  ![23, v840.toNat]

def k0_chk48 (v34 : IVec S16 32) (v838 : IVec S16 32) : Prop :=
  (∀ a x, ((![v34, v838] : Fin 2 → IVec S16 32) a x).toNat < S16x1024.size a)
theorem k0_idx48_inb : ∀ (v34 : IVec S16 32) (v838 : IVec S16 32) (k0_hw48 : k0_chk48 v34 v838), ∀ a x, ((![v34, v838] : Fin 2 → IVec S16 32) a x).toNat < S16x1024.size a := fun v34 v838 k0_hw48 => k0_hw48
def k0_off51 (k0_t1 : Fin k0_t1_loop.trips) : Fin 2 → Nat :=
  let c23_i32_461 : BitVec 32 := 23#32
  let v843 : Index := Scalar.indexCast c23_i32_461
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v844 : Index := Scalar.indexCast v349
  ![23, v844.toNat]

def k0_chk49 (v849 : IVec S16 32) : Prop :=
  (∀ a x, ((![v849] : Fin 1 → IVec S16 32) a x).toNat < S8192.size a)
theorem k0_idx49_inb : ∀ (v849 : IVec S16 32) (k0_hw49 : k0_chk49 v849), ∀ a x, ((![v849] : Fin 1 → IVec S16 32) a x).toNat < S8192.size a := fun v849 k0_hw49 => k0_hw49
def k0_off52 (k0_t1 : Fin k0_t1_loop.trips) : Fin 2 → Nat :=
  let c24_i32 : BitVec 32 := 24#32
  let v862 : Index := Scalar.indexCast c24_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v863 : Index := Scalar.indexCast v349
  ![24, v863.toNat]

def k0_chk50 (v34 : IVec S16 32) (v861 : IVec S16 32) : Prop :=
  (∀ a x, ((![v34, v861] : Fin 2 → IVec S16 32) a x).toNat < S16x1024.size a)
theorem k0_idx50_inb : ∀ (v34 : IVec S16 32) (v861 : IVec S16 32) (k0_hw50 : k0_chk50 v34 v861), ∀ a x, ((![v34, v861] : Fin 2 → IVec S16 32) a x).toNat < S16x1024.size a := fun v34 v861 k0_hw50 => k0_hw50
def k0_off53 (k0_t1 : Fin k0_t1_loop.trips) : Fin 2 → Nat :=
  let c24_i32_469 : BitVec 32 := 24#32
  let v866 : Index := Scalar.indexCast c24_i32_469
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v867 : Index := Scalar.indexCast v349
  ![24, v867.toNat]

def k0_chk51 (v872 : IVec S16 32) : Prop :=
  (∀ a x, ((![v872] : Fin 1 → IVec S16 32) a x).toNat < S8192.size a)
theorem k0_idx51_inb : ∀ (v872 : IVec S16 32) (k0_hw51 : k0_chk51 v872), ∀ a x, ((![v872] : Fin 1 → IVec S16 32) a x).toNat < S8192.size a := fun v872 k0_hw51 => k0_hw51
def k0_off54 (k0_t1 : Fin k0_t1_loop.trips) : Fin 2 → Nat :=
  let c25_i32 : BitVec 32 := 25#32
  let v885 : Index := Scalar.indexCast c25_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v886 : Index := Scalar.indexCast v349
  ![25, v886.toNat]

def k0_chk52 (v34 : IVec S16 32) (v884 : IVec S16 32) : Prop :=
  (∀ a x, ((![v34, v884] : Fin 2 → IVec S16 32) a x).toNat < S16x1024.size a)
theorem k0_idx52_inb : ∀ (v34 : IVec S16 32) (v884 : IVec S16 32) (k0_hw52 : k0_chk52 v34 v884), ∀ a x, ((![v34, v884] : Fin 2 → IVec S16 32) a x).toNat < S16x1024.size a := fun v34 v884 k0_hw52 => k0_hw52
def k0_off55 (k0_t1 : Fin k0_t1_loop.trips) : Fin 2 → Nat :=
  let c25_i32_477 : BitVec 32 := 25#32
  let v889 : Index := Scalar.indexCast c25_i32_477
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v890 : Index := Scalar.indexCast v349
  ![25, v890.toNat]

def k0_chk53 (v895 : IVec S16 32) : Prop :=
  (∀ a x, ((![v895] : Fin 1 → IVec S16 32) a x).toNat < S8192.size a)
theorem k0_idx53_inb : ∀ (v895 : IVec S16 32) (k0_hw53 : k0_chk53 v895), ∀ a x, ((![v895] : Fin 1 → IVec S16 32) a x).toNat < S8192.size a := fun v895 k0_hw53 => k0_hw53
def k0_off56 (k0_t1 : Fin k0_t1_loop.trips) : Fin 2 → Nat :=
  let c26_i32 : BitVec 32 := 26#32
  let v908 : Index := Scalar.indexCast c26_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v909 : Index := Scalar.indexCast v349
  ![26, v909.toNat]

def k0_chk54 (v34 : IVec S16 32) (v907 : IVec S16 32) : Prop :=
  (∀ a x, ((![v34, v907] : Fin 2 → IVec S16 32) a x).toNat < S16x1024.size a)
theorem k0_idx54_inb : ∀ (v34 : IVec S16 32) (v907 : IVec S16 32) (k0_hw54 : k0_chk54 v34 v907), ∀ a x, ((![v34, v907] : Fin 2 → IVec S16 32) a x).toNat < S16x1024.size a := fun v34 v907 k0_hw54 => k0_hw54
def k0_off57 (k0_t1 : Fin k0_t1_loop.trips) : Fin 2 → Nat :=
  let c26_i32_485 : BitVec 32 := 26#32
  let v912 : Index := Scalar.indexCast c26_i32_485
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v913 : Index := Scalar.indexCast v349
  ![26, v913.toNat]

def k0_chk55 (v918 : IVec S16 32) : Prop :=
  (∀ a x, ((![v918] : Fin 1 → IVec S16 32) a x).toNat < S8192.size a)
theorem k0_idx55_inb : ∀ (v918 : IVec S16 32) (k0_hw55 : k0_chk55 v918), ∀ a x, ((![v918] : Fin 1 → IVec S16 32) a x).toNat < S8192.size a := fun v918 k0_hw55 => k0_hw55
def k0_off58 (k0_t1 : Fin k0_t1_loop.trips) : Fin 2 → Nat :=
  let c27_i32 : BitVec 32 := 27#32
  let v931 : Index := Scalar.indexCast c27_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v932 : Index := Scalar.indexCast v349
  ![27, v932.toNat]

def k0_chk56 (v34 : IVec S16 32) (v930 : IVec S16 32) : Prop :=
  (∀ a x, ((![v34, v930] : Fin 2 → IVec S16 32) a x).toNat < S16x1024.size a)
theorem k0_idx56_inb : ∀ (v34 : IVec S16 32) (v930 : IVec S16 32) (k0_hw56 : k0_chk56 v34 v930), ∀ a x, ((![v34, v930] : Fin 2 → IVec S16 32) a x).toNat < S16x1024.size a := fun v34 v930 k0_hw56 => k0_hw56
def k0_off59 (k0_t1 : Fin k0_t1_loop.trips) : Fin 2 → Nat :=
  let c27_i32_493 : BitVec 32 := 27#32
  let v935 : Index := Scalar.indexCast c27_i32_493
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v936 : Index := Scalar.indexCast v349
  ![27, v936.toNat]

def k0_chk57 (v941 : IVec S16 32) : Prop :=
  (∀ a x, ((![v941] : Fin 1 → IVec S16 32) a x).toNat < S8192.size a)
theorem k0_idx57_inb : ∀ (v941 : IVec S16 32) (k0_hw57 : k0_chk57 v941), ∀ a x, ((![v941] : Fin 1 → IVec S16 32) a x).toNat < S8192.size a := fun v941 k0_hw57 => k0_hw57
def k0_off60 (k0_t1 : Fin k0_t1_loop.trips) : Fin 2 → Nat :=
  let c28_i32 : BitVec 32 := 28#32
  let v954 : Index := Scalar.indexCast c28_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v955 : Index := Scalar.indexCast v349
  ![28, v955.toNat]

def k0_chk58 (v34 : IVec S16 32) (v953 : IVec S16 32) : Prop :=
  (∀ a x, ((![v34, v953] : Fin 2 → IVec S16 32) a x).toNat < S16x1024.size a)
theorem k0_idx58_inb : ∀ (v34 : IVec S16 32) (v953 : IVec S16 32) (k0_hw58 : k0_chk58 v34 v953), ∀ a x, ((![v34, v953] : Fin 2 → IVec S16 32) a x).toNat < S16x1024.size a := fun v34 v953 k0_hw58 => k0_hw58
def k0_off61 (k0_t1 : Fin k0_t1_loop.trips) : Fin 2 → Nat :=
  let c28_i32_501 : BitVec 32 := 28#32
  let v958 : Index := Scalar.indexCast c28_i32_501
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v959 : Index := Scalar.indexCast v349
  ![28, v959.toNat]

def k0_chk59 (v964 : IVec S16 32) : Prop :=
  (∀ a x, ((![v964] : Fin 1 → IVec S16 32) a x).toNat < S8192.size a)
theorem k0_idx59_inb : ∀ (v964 : IVec S16 32) (k0_hw59 : k0_chk59 v964), ∀ a x, ((![v964] : Fin 1 → IVec S16 32) a x).toNat < S8192.size a := fun v964 k0_hw59 => k0_hw59
def k0_off62 (k0_t1 : Fin k0_t1_loop.trips) : Fin 2 → Nat :=
  let c29_i32 : BitVec 32 := 29#32
  let v977 : Index := Scalar.indexCast c29_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v978 : Index := Scalar.indexCast v349
  ![29, v978.toNat]

def k0_chk60 (v34 : IVec S16 32) (v976 : IVec S16 32) : Prop :=
  (∀ a x, ((![v34, v976] : Fin 2 → IVec S16 32) a x).toNat < S16x1024.size a)
theorem k0_idx60_inb : ∀ (v34 : IVec S16 32) (v976 : IVec S16 32) (k0_hw60 : k0_chk60 v34 v976), ∀ a x, ((![v34, v976] : Fin 2 → IVec S16 32) a x).toNat < S16x1024.size a := fun v34 v976 k0_hw60 => k0_hw60
def k0_off63 (k0_t1 : Fin k0_t1_loop.trips) : Fin 2 → Nat :=
  let c29_i32_509 : BitVec 32 := 29#32
  let v981 : Index := Scalar.indexCast c29_i32_509
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v982 : Index := Scalar.indexCast v349
  ![29, v982.toNat]

def k0_chk61 (v987 : IVec S16 32) : Prop :=
  (∀ a x, ((![v987] : Fin 1 → IVec S16 32) a x).toNat < S8192.size a)
theorem k0_idx61_inb : ∀ (v987 : IVec S16 32) (k0_hw61 : k0_chk61 v987), ∀ a x, ((![v987] : Fin 1 → IVec S16 32) a x).toNat < S8192.size a := fun v987 k0_hw61 => k0_hw61
def k0_off64 (k0_t1 : Fin k0_t1_loop.trips) : Fin 2 → Nat :=
  let c30_i32 : BitVec 32 := 30#32
  let v1000 : Index := Scalar.indexCast c30_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1001 : Index := Scalar.indexCast v349
  ![30, v1001.toNat]

def k0_chk62 (v34 : IVec S16 32) (v999 : IVec S16 32) : Prop :=
  (∀ a x, ((![v34, v999] : Fin 2 → IVec S16 32) a x).toNat < S16x1024.size a)
theorem k0_idx62_inb : ∀ (v34 : IVec S16 32) (v999 : IVec S16 32) (k0_hw62 : k0_chk62 v34 v999), ∀ a x, ((![v34, v999] : Fin 2 → IVec S16 32) a x).toNat < S16x1024.size a := fun v34 v999 k0_hw62 => k0_hw62
def k0_off65 (k0_t1 : Fin k0_t1_loop.trips) : Fin 2 → Nat :=
  let c30_i32_517 : BitVec 32 := 30#32
  let v1004 : Index := Scalar.indexCast c30_i32_517
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1005 : Index := Scalar.indexCast v349
  ![30, v1005.toNat]

def k0_chk63 (v1010 : IVec S16 32) : Prop :=
  (∀ a x, ((![v1010] : Fin 1 → IVec S16 32) a x).toNat < S8192.size a)
theorem k0_idx63_inb : ∀ (v1010 : IVec S16 32) (k0_hw63 : k0_chk63 v1010), ∀ a x, ((![v1010] : Fin 1 → IVec S16 32) a x).toNat < S8192.size a := fun v1010 k0_hw63 => k0_hw63
def k0_off66 (k0_t1 : Fin k0_t1_loop.trips) : Fin 2 → Nat :=
  let c31_i32_525 : BitVec 32 := 31#32
  let v1023 : Index := Scalar.indexCast c31_i32_525
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1024 : Index := Scalar.indexCast v349
  ![31, v1024.toNat]

def k0_chk64 (v34 : IVec S16 32) (v1022 : IVec S16 32) : Prop :=
  (∀ a x, ((![v34, v1022] : Fin 2 → IVec S16 32) a x).toNat < S16x1024.size a)
theorem k0_idx64_inb : ∀ (v34 : IVec S16 32) (v1022 : IVec S16 32) (k0_hw64 : k0_chk64 v34 v1022), ∀ a x, ((![v34, v1022] : Fin 2 → IVec S16 32) a x).toNat < S16x1024.size a := fun v34 v1022 k0_hw64 => k0_hw64
def k0_off67 (k0_t1 : Fin k0_t1_loop.trips) : Fin 2 → Nat :=
  let c31_i32_526 : BitVec 32 := 31#32
  let v1027 : Index := Scalar.indexCast c31_i32_526
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1028 : Index := Scalar.indexCast v349
  ![31, v1028.toNat]

def k0_chk65 (v1033 : IVec S16 32) : Prop :=
  (∀ a x, ((![v1033] : Fin 1 → IVec S16 32) a x).toNat < S8192.size a)
theorem k0_idx65_inb : ∀ (v1033 : IVec S16 32) (k0_hw65 : k0_chk65 v1033), ∀ a x, ((![v1033] : Fin 1 → IVec S16 32) a x).toNat < S8192.size a := fun v1033 k0_hw65 => k0_hw65
def k0_off68 (k0_t1 : Fin k0_t1_loop.trips) : Fin 2 → Nat :=
  let c32_i32_534 : BitVec 32 := 32#32
  let v1046 : Index := Scalar.indexCast c32_i32_534
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1047 : Index := Scalar.indexCast v349
  ![32, v1047.toNat]

def k0_chk66 (v34 : IVec S16 32) (v1045 : IVec S16 32) : Prop :=
  (∀ a x, ((![v34, v1045] : Fin 2 → IVec S16 32) a x).toNat < S16x1024.size a)
theorem k0_idx66_inb : ∀ (v34 : IVec S16 32) (v1045 : IVec S16 32) (k0_hw66 : k0_chk66 v34 v1045), ∀ a x, ((![v34, v1045] : Fin 2 → IVec S16 32) a x).toNat < S16x1024.size a := fun v34 v1045 k0_hw66 => k0_hw66
def k0_off69 (k0_t1 : Fin k0_t1_loop.trips) : Fin 2 → Nat :=
  let c32_i32_535 : BitVec 32 := 32#32
  let v1050 : Index := Scalar.indexCast c32_i32_535
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1051 : Index := Scalar.indexCast v349
  ![32, v1051.toNat]

def k0_chk67 (v1056 : IVec S16 32) : Prop :=
  (∀ a x, ((![v1056] : Fin 1 → IVec S16 32) a x).toNat < S8192.size a)
theorem k0_idx67_inb : ∀ (v1056 : IVec S16 32) (k0_hw67 : k0_chk67 v1056), ∀ a x, ((![v1056] : Fin 1 → IVec S16 32) a x).toNat < S8192.size a := fun v1056 k0_hw67 => k0_hw67
def k0_off70 (k0_t1 : Fin k0_t1_loop.trips) : Fin 2 → Nat :=
  let c33_i32 : BitVec 32 := 33#32
  let v1069 : Index := Scalar.indexCast c33_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1070 : Index := Scalar.indexCast v349
  ![33, v1070.toNat]

def k0_chk68 (v34 : IVec S16 32) (v1068 : IVec S16 32) : Prop :=
  (∀ a x, ((![v34, v1068] : Fin 2 → IVec S16 32) a x).toNat < S16x1024.size a)
theorem k0_idx68_inb : ∀ (v34 : IVec S16 32) (v1068 : IVec S16 32) (k0_hw68 : k0_chk68 v34 v1068), ∀ a x, ((![v34, v1068] : Fin 2 → IVec S16 32) a x).toNat < S16x1024.size a := fun v34 v1068 k0_hw68 => k0_hw68
def k0_off71 (k0_t1 : Fin k0_t1_loop.trips) : Fin 2 → Nat :=
  let c33_i32_543 : BitVec 32 := 33#32
  let v1073 : Index := Scalar.indexCast c33_i32_543
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1074 : Index := Scalar.indexCast v349
  ![33, v1074.toNat]

def k0_chk69 (v1079 : IVec S16 32) : Prop :=
  (∀ a x, ((![v1079] : Fin 1 → IVec S16 32) a x).toNat < S8192.size a)
theorem k0_idx69_inb : ∀ (v1079 : IVec S16 32) (k0_hw69 : k0_chk69 v1079), ∀ a x, ((![v1079] : Fin 1 → IVec S16 32) a x).toNat < S8192.size a := fun v1079 k0_hw69 => k0_hw69
def k0_off72 (k0_t1 : Fin k0_t1_loop.trips) : Fin 2 → Nat :=
  let c34_i32 : BitVec 32 := 34#32
  let v1092 : Index := Scalar.indexCast c34_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1093 : Index := Scalar.indexCast v349
  ![34, v1093.toNat]

def k0_chk70 (v34 : IVec S16 32) (v1091 : IVec S16 32) : Prop :=
  (∀ a x, ((![v34, v1091] : Fin 2 → IVec S16 32) a x).toNat < S16x1024.size a)
theorem k0_idx70_inb : ∀ (v34 : IVec S16 32) (v1091 : IVec S16 32) (k0_hw70 : k0_chk70 v34 v1091), ∀ a x, ((![v34, v1091] : Fin 2 → IVec S16 32) a x).toNat < S16x1024.size a := fun v34 v1091 k0_hw70 => k0_hw70
def k0_off73 (k0_t1 : Fin k0_t1_loop.trips) : Fin 2 → Nat :=
  let c34_i32_551 : BitVec 32 := 34#32
  let v1096 : Index := Scalar.indexCast c34_i32_551
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1097 : Index := Scalar.indexCast v349
  ![34, v1097.toNat]

def k0_chk71 (v1102 : IVec S16 32) : Prop :=
  (∀ a x, ((![v1102] : Fin 1 → IVec S16 32) a x).toNat < S8192.size a)
theorem k0_idx71_inb : ∀ (v1102 : IVec S16 32) (k0_hw71 : k0_chk71 v1102), ∀ a x, ((![v1102] : Fin 1 → IVec S16 32) a x).toNat < S8192.size a := fun v1102 k0_hw71 => k0_hw71
def k0_off74 (k0_t1 : Fin k0_t1_loop.trips) : Fin 2 → Nat :=
  let c35_i32 : BitVec 32 := 35#32
  let v1115 : Index := Scalar.indexCast c35_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1116 : Index := Scalar.indexCast v349
  ![35, v1116.toNat]

def k0_chk72 (v34 : IVec S16 32) (v1114 : IVec S16 32) : Prop :=
  (∀ a x, ((![v34, v1114] : Fin 2 → IVec S16 32) a x).toNat < S16x1024.size a)
theorem k0_idx72_inb : ∀ (v34 : IVec S16 32) (v1114 : IVec S16 32) (k0_hw72 : k0_chk72 v34 v1114), ∀ a x, ((![v34, v1114] : Fin 2 → IVec S16 32) a x).toNat < S16x1024.size a := fun v34 v1114 k0_hw72 => k0_hw72
def k0_off75 (k0_t1 : Fin k0_t1_loop.trips) : Fin 2 → Nat :=
  let c35_i32_559 : BitVec 32 := 35#32
  let v1119 : Index := Scalar.indexCast c35_i32_559
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1120 : Index := Scalar.indexCast v349
  ![35, v1120.toNat]

def k0_chk73 (v1125 : IVec S16 32) : Prop :=
  (∀ a x, ((![v1125] : Fin 1 → IVec S16 32) a x).toNat < S8192.size a)
theorem k0_idx73_inb : ∀ (v1125 : IVec S16 32) (k0_hw73 : k0_chk73 v1125), ∀ a x, ((![v1125] : Fin 1 → IVec S16 32) a x).toNat < S8192.size a := fun v1125 k0_hw73 => k0_hw73
def k0_off76 (k0_t1 : Fin k0_t1_loop.trips) : Fin 2 → Nat :=
  let c36_i32 : BitVec 32 := 36#32
  let v1138 : Index := Scalar.indexCast c36_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1139 : Index := Scalar.indexCast v349
  ![36, v1139.toNat]

def k0_chk74 (v34 : IVec S16 32) (v1137 : IVec S16 32) : Prop :=
  (∀ a x, ((![v34, v1137] : Fin 2 → IVec S16 32) a x).toNat < S16x1024.size a)
theorem k0_idx74_inb : ∀ (v34 : IVec S16 32) (v1137 : IVec S16 32) (k0_hw74 : k0_chk74 v34 v1137), ∀ a x, ((![v34, v1137] : Fin 2 → IVec S16 32) a x).toNat < S16x1024.size a := fun v34 v1137 k0_hw74 => k0_hw74
def k0_off77 (k0_t1 : Fin k0_t1_loop.trips) : Fin 2 → Nat :=
  let c36_i32_567 : BitVec 32 := 36#32
  let v1142 : Index := Scalar.indexCast c36_i32_567
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1143 : Index := Scalar.indexCast v349
  ![36, v1143.toNat]

def k0_chk75 (v1148 : IVec S16 32) : Prop :=
  (∀ a x, ((![v1148] : Fin 1 → IVec S16 32) a x).toNat < S8192.size a)
theorem k0_idx75_inb : ∀ (v1148 : IVec S16 32) (k0_hw75 : k0_chk75 v1148), ∀ a x, ((![v1148] : Fin 1 → IVec S16 32) a x).toNat < S8192.size a := fun v1148 k0_hw75 => k0_hw75
def k0_off78 (k0_t1 : Fin k0_t1_loop.trips) : Fin 2 → Nat :=
  let c37_i32 : BitVec 32 := 37#32
  let v1161 : Index := Scalar.indexCast c37_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1162 : Index := Scalar.indexCast v349
  ![37, v1162.toNat]

def k0_chk76 (v34 : IVec S16 32) (v1160 : IVec S16 32) : Prop :=
  (∀ a x, ((![v34, v1160] : Fin 2 → IVec S16 32) a x).toNat < S16x1024.size a)
theorem k0_idx76_inb : ∀ (v34 : IVec S16 32) (v1160 : IVec S16 32) (k0_hw76 : k0_chk76 v34 v1160), ∀ a x, ((![v34, v1160] : Fin 2 → IVec S16 32) a x).toNat < S16x1024.size a := fun v34 v1160 k0_hw76 => k0_hw76
def k0_off79 (k0_t1 : Fin k0_t1_loop.trips) : Fin 2 → Nat :=
  let c37_i32_575 : BitVec 32 := 37#32
  let v1165 : Index := Scalar.indexCast c37_i32_575
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1166 : Index := Scalar.indexCast v349
  ![37, v1166.toNat]

def k0_chk77 (v1171 : IVec S16 32) : Prop :=
  (∀ a x, ((![v1171] : Fin 1 → IVec S16 32) a x).toNat < S8192.size a)
theorem k0_idx77_inb : ∀ (v1171 : IVec S16 32) (k0_hw77 : k0_chk77 v1171), ∀ a x, ((![v1171] : Fin 1 → IVec S16 32) a x).toNat < S8192.size a := fun v1171 k0_hw77 => k0_hw77
def k0_off80 (k0_t1 : Fin k0_t1_loop.trips) : Fin 2 → Nat :=
  let c38_i32 : BitVec 32 := 38#32
  let v1184 : Index := Scalar.indexCast c38_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1185 : Index := Scalar.indexCast v349
  ![38, v1185.toNat]

def k0_chk78 (v34 : IVec S16 32) (v1183 : IVec S16 32) : Prop :=
  (∀ a x, ((![v34, v1183] : Fin 2 → IVec S16 32) a x).toNat < S16x1024.size a)
theorem k0_idx78_inb : ∀ (v34 : IVec S16 32) (v1183 : IVec S16 32) (k0_hw78 : k0_chk78 v34 v1183), ∀ a x, ((![v34, v1183] : Fin 2 → IVec S16 32) a x).toNat < S16x1024.size a := fun v34 v1183 k0_hw78 => k0_hw78
def k0_off81 (k0_t1 : Fin k0_t1_loop.trips) : Fin 2 → Nat :=
  let c38_i32_583 : BitVec 32 := 38#32
  let v1188 : Index := Scalar.indexCast c38_i32_583
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1189 : Index := Scalar.indexCast v349
  ![38, v1189.toNat]

def k0_chk79 (v1194 : IVec S16 32) : Prop :=
  (∀ a x, ((![v1194] : Fin 1 → IVec S16 32) a x).toNat < S8192.size a)
theorem k0_idx79_inb : ∀ (v1194 : IVec S16 32) (k0_hw79 : k0_chk79 v1194), ∀ a x, ((![v1194] : Fin 1 → IVec S16 32) a x).toNat < S8192.size a := fun v1194 k0_hw79 => k0_hw79
def k0_off82 (k0_t1 : Fin k0_t1_loop.trips) : Fin 2 → Nat :=
  let c39_i32 : BitVec 32 := 39#32
  let v1207 : Index := Scalar.indexCast c39_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1208 : Index := Scalar.indexCast v349
  ![39, v1208.toNat]

def k0_chk80 (v34 : IVec S16 32) (v1206 : IVec S16 32) : Prop :=
  (∀ a x, ((![v34, v1206] : Fin 2 → IVec S16 32) a x).toNat < S16x1024.size a)
theorem k0_idx80_inb : ∀ (v34 : IVec S16 32) (v1206 : IVec S16 32) (k0_hw80 : k0_chk80 v34 v1206), ∀ a x, ((![v34, v1206] : Fin 2 → IVec S16 32) a x).toNat < S16x1024.size a := fun v34 v1206 k0_hw80 => k0_hw80
def k0_off83 (k0_t1 : Fin k0_t1_loop.trips) : Fin 2 → Nat :=
  let c39_i32_591 : BitVec 32 := 39#32
  let v1211 : Index := Scalar.indexCast c39_i32_591
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c16_i32_286 : BitVec 32 := 16#32
  let v349 : BitVec 32 := Scalar.muli v306 c16_i32_286
  let v1212 : Index := Scalar.indexCast v349
  ![39, v1212.toNat]
def k0_off84 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32 : BitVec 32 := 2#32
  let c0_i32_20 : BitVec 32 := 0#32
  let c1_i32_21 : BitVec 32 := 1#32
  let arg13 : BitVec 32 := Scf.iv c0_i32_20 c1_i32_21 k0_t1
  let v306 : BitVec 32 := Scalar.muli c2_i32 arg13
  let c2_i32_592 : BitVec 32 := 2#32
  let v1214 : BitVec 32 := Scalar.addi v306 c2_i32_592
  let c7_i32_593 : BitVec 32 := 7#32
  let v1215 : BitVec 32 := Scalar.minsi v1214 c7_i32_593
  let c16_i32_594 : BitVec 32 := 16#32
  let v1216 : BitVec 32 := Scalar.muli v1215 c16_i32_594
  let v1217 : BitVec 32 := Scalar.addi v2 v1216
  let c0_i32_595 : BitVec 32 := 0#32
  ![v1217.toNat, 0]
def k0_off85 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_597 : BitVec 32 := 16#32
  let v1220 : BitVec 32 := Scalar.muli v308 c16_i32_597
  let v1221 : BitVec 32 := Scalar.addi v2 v1220
  let c0_i32_598 : BitVec 32 := 0#32
  ![v1221.toNat, 0]

def k0_chk81 (v1264 : IVec S16 32) : Prop :=
  (∀ a x, ((![v1264] : Fin 1 → IVec S16 32) a x).toNat < S8192.size a)
theorem k0_idx81_inb : ∀ (v1264 : IVec S16 32) (k0_hw81 : k0_chk81 v1264), ∀ a x, ((![v1264] : Fin 1 → IVec S16 32) a x).toNat < S8192.size a := fun v1264 k0_hw81 => k0_hw81
def k0_off86 (k0_t1 : Fin k0_t1_loop.trips) : Fin 2 → Nat :=
  let c0_i32_620 : BitVec 32 := 0#32
  let v1270 : Index := Scalar.indexCast c0_i32_620
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1271 : Index := Scalar.indexCast v1260
  ![0, v1271.toNat]

def k0_chk82 (v34 : IVec S16 32) (v1265 : IVec S16 32) : Prop :=
  (∀ a x, ((![v34, v1265] : Fin 2 → IVec S16 32) a x).toNat < S16x1024.size a)
theorem k0_idx82_inb : ∀ (v34 : IVec S16 32) (v1265 : IVec S16 32) (k0_hw82 : k0_chk82 v34 v1265), ∀ a x, ((![v34, v1265] : Fin 2 → IVec S16 32) a x).toNat < S16x1024.size a := fun v34 v1265 k0_hw82 => k0_hw82
def k0_off87 (k0_t1 : Fin k0_t1_loop.trips) : Fin 2 → Nat :=
  let c0_i32_621 : BitVec 32 := 0#32
  let v1274 : Index := Scalar.indexCast c0_i32_621
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1275 : Index := Scalar.indexCast v1260
  ![0, v1275.toNat]

def k0_chk83 (v1280 : IVec S16 32) : Prop :=
  (∀ a x, ((![v1280] : Fin 1 → IVec S16 32) a x).toNat < S8192.size a)
theorem k0_idx83_inb : ∀ (v1280 : IVec S16 32) (k0_hw83 : k0_chk83 v1280), ∀ a x, ((![v1280] : Fin 1 → IVec S16 32) a x).toNat < S8192.size a := fun v1280 k0_hw83 => k0_hw83
def k0_off88 (k0_t1 : Fin k0_t1_loop.trips) : Fin 2 → Nat :=
  let c1_i32_626 : BitVec 32 := 1#32
  let v1286 : Index := Scalar.indexCast c1_i32_626
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1287 : Index := Scalar.indexCast v1260
  ![1, v1287.toNat]

def k0_chk84 (v34 : IVec S16 32) (v1281 : IVec S16 32) : Prop :=
  (∀ a x, ((![v34, v1281] : Fin 2 → IVec S16 32) a x).toNat < S16x1024.size a)
theorem k0_idx84_inb : ∀ (v34 : IVec S16 32) (v1281 : IVec S16 32) (k0_hw84 : k0_chk84 v34 v1281), ∀ a x, ((![v34, v1281] : Fin 2 → IVec S16 32) a x).toNat < S16x1024.size a := fun v34 v1281 k0_hw84 => k0_hw84
def k0_off89 (k0_t1 : Fin k0_t1_loop.trips) : Fin 2 → Nat :=
  let c1_i32_627 : BitVec 32 := 1#32
  let v1290 : Index := Scalar.indexCast c1_i32_627
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1291 : Index := Scalar.indexCast v1260
  ![1, v1291.toNat]

def k0_chk85 (v1296 : IVec S16 32) : Prop :=
  (∀ a x, ((![v1296] : Fin 1 → IVec S16 32) a x).toNat < S8192.size a)
theorem k0_idx85_inb : ∀ (v1296 : IVec S16 32) (k0_hw85 : k0_chk85 v1296), ∀ a x, ((![v1296] : Fin 1 → IVec S16 32) a x).toNat < S8192.size a := fun v1296 k0_hw85 => k0_hw85
def k0_off90 (k0_t1 : Fin k0_t1_loop.trips) : Fin 2 → Nat :=
  let c2_i32_632 : BitVec 32 := 2#32
  let v1302 : Index := Scalar.indexCast c2_i32_632
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1303 : Index := Scalar.indexCast v1260
  ![2, v1303.toNat]

def k0_chk86 (v34 : IVec S16 32) (v1297 : IVec S16 32) : Prop :=
  (∀ a x, ((![v34, v1297] : Fin 2 → IVec S16 32) a x).toNat < S16x1024.size a)
theorem k0_idx86_inb : ∀ (v34 : IVec S16 32) (v1297 : IVec S16 32) (k0_hw86 : k0_chk86 v34 v1297), ∀ a x, ((![v34, v1297] : Fin 2 → IVec S16 32) a x).toNat < S16x1024.size a := fun v34 v1297 k0_hw86 => k0_hw86
def k0_off91 (k0_t1 : Fin k0_t1_loop.trips) : Fin 2 → Nat :=
  let c2_i32_633 : BitVec 32 := 2#32
  let v1306 : Index := Scalar.indexCast c2_i32_633
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1307 : Index := Scalar.indexCast v1260
  ![2, v1307.toNat]

def k0_chk87 (v1312 : IVec S16 32) : Prop :=
  (∀ a x, ((![v1312] : Fin 1 → IVec S16 32) a x).toNat < S8192.size a)
theorem k0_idx87_inb : ∀ (v1312 : IVec S16 32) (k0_hw87 : k0_chk87 v1312), ∀ a x, ((![v1312] : Fin 1 → IVec S16 32) a x).toNat < S8192.size a := fun v1312 k0_hw87 => k0_hw87
def k0_off92 (k0_t1 : Fin k0_t1_loop.trips) : Fin 2 → Nat :=
  let c3_i32_638 : BitVec 32 := 3#32
  let v1318 : Index := Scalar.indexCast c3_i32_638
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1319 : Index := Scalar.indexCast v1260
  ![3, v1319.toNat]

def k0_chk88 (v34 : IVec S16 32) (v1313 : IVec S16 32) : Prop :=
  (∀ a x, ((![v34, v1313] : Fin 2 → IVec S16 32) a x).toNat < S16x1024.size a)
theorem k0_idx88_inb : ∀ (v34 : IVec S16 32) (v1313 : IVec S16 32) (k0_hw88 : k0_chk88 v34 v1313), ∀ a x, ((![v34, v1313] : Fin 2 → IVec S16 32) a x).toNat < S16x1024.size a := fun v34 v1313 k0_hw88 => k0_hw88
def k0_off93 (k0_t1 : Fin k0_t1_loop.trips) : Fin 2 → Nat :=
  let c3_i32_639 : BitVec 32 := 3#32
  let v1322 : Index := Scalar.indexCast c3_i32_639
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1323 : Index := Scalar.indexCast v1260
  ![3, v1323.toNat]

def k0_chk89 (v1328 : IVec S16 32) : Prop :=
  (∀ a x, ((![v1328] : Fin 1 → IVec S16 32) a x).toNat < S8192.size a)
theorem k0_idx89_inb : ∀ (v1328 : IVec S16 32) (k0_hw89 : k0_chk89 v1328), ∀ a x, ((![v1328] : Fin 1 → IVec S16 32) a x).toNat < S8192.size a := fun v1328 k0_hw89 => k0_hw89
def k0_off94 (k0_t1 : Fin k0_t1_loop.trips) : Fin 2 → Nat :=
  let c4_i32_644 : BitVec 32 := 4#32
  let v1334 : Index := Scalar.indexCast c4_i32_644
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1335 : Index := Scalar.indexCast v1260
  ![4, v1335.toNat]

def k0_chk90 (v34 : IVec S16 32) (v1329 : IVec S16 32) : Prop :=
  (∀ a x, ((![v34, v1329] : Fin 2 → IVec S16 32) a x).toNat < S16x1024.size a)
theorem k0_idx90_inb : ∀ (v34 : IVec S16 32) (v1329 : IVec S16 32) (k0_hw90 : k0_chk90 v34 v1329), ∀ a x, ((![v34, v1329] : Fin 2 → IVec S16 32) a x).toNat < S16x1024.size a := fun v34 v1329 k0_hw90 => k0_hw90
def k0_off95 (k0_t1 : Fin k0_t1_loop.trips) : Fin 2 → Nat :=
  let c4_i32_645 : BitVec 32 := 4#32
  let v1338 : Index := Scalar.indexCast c4_i32_645
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1339 : Index := Scalar.indexCast v1260
  ![4, v1339.toNat]

def k0_chk91 (v1344 : IVec S16 32) : Prop :=
  (∀ a x, ((![v1344] : Fin 1 → IVec S16 32) a x).toNat < S8192.size a)
theorem k0_idx91_inb : ∀ (v1344 : IVec S16 32) (k0_hw91 : k0_chk91 v1344), ∀ a x, ((![v1344] : Fin 1 → IVec S16 32) a x).toNat < S8192.size a := fun v1344 k0_hw91 => k0_hw91
def k0_off96 (k0_t1 : Fin k0_t1_loop.trips) : Fin 2 → Nat :=
  let c5_i32_650 : BitVec 32 := 5#32
  let v1350 : Index := Scalar.indexCast c5_i32_650
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1351 : Index := Scalar.indexCast v1260
  ![5, v1351.toNat]

def k0_chk92 (v34 : IVec S16 32) (v1345 : IVec S16 32) : Prop :=
  (∀ a x, ((![v34, v1345] : Fin 2 → IVec S16 32) a x).toNat < S16x1024.size a)
theorem k0_idx92_inb : ∀ (v34 : IVec S16 32) (v1345 : IVec S16 32) (k0_hw92 : k0_chk92 v34 v1345), ∀ a x, ((![v34, v1345] : Fin 2 → IVec S16 32) a x).toNat < S16x1024.size a := fun v34 v1345 k0_hw92 => k0_hw92
def k0_off97 (k0_t1 : Fin k0_t1_loop.trips) : Fin 2 → Nat :=
  let c5_i32_651 : BitVec 32 := 5#32
  let v1354 : Index := Scalar.indexCast c5_i32_651
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1355 : Index := Scalar.indexCast v1260
  ![5, v1355.toNat]

def k0_chk93 (v1360 : IVec S16 32) : Prop :=
  (∀ a x, ((![v1360] : Fin 1 → IVec S16 32) a x).toNat < S8192.size a)
theorem k0_idx93_inb : ∀ (v1360 : IVec S16 32) (k0_hw93 : k0_chk93 v1360), ∀ a x, ((![v1360] : Fin 1 → IVec S16 32) a x).toNat < S8192.size a := fun v1360 k0_hw93 => k0_hw93
def k0_off98 (k0_t1 : Fin k0_t1_loop.trips) : Fin 2 → Nat :=
  let c6_i32_656 : BitVec 32 := 6#32
  let v1366 : Index := Scalar.indexCast c6_i32_656
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1367 : Index := Scalar.indexCast v1260
  ![6, v1367.toNat]

def k0_chk94 (v34 : IVec S16 32) (v1361 : IVec S16 32) : Prop :=
  (∀ a x, ((![v34, v1361] : Fin 2 → IVec S16 32) a x).toNat < S16x1024.size a)
theorem k0_idx94_inb : ∀ (v34 : IVec S16 32) (v1361 : IVec S16 32) (k0_hw94 : k0_chk94 v34 v1361), ∀ a x, ((![v34, v1361] : Fin 2 → IVec S16 32) a x).toNat < S16x1024.size a := fun v34 v1361 k0_hw94 => k0_hw94
def k0_off99 (k0_t1 : Fin k0_t1_loop.trips) : Fin 2 → Nat :=
  let c6_i32_657 : BitVec 32 := 6#32
  let v1370 : Index := Scalar.indexCast c6_i32_657
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1371 : Index := Scalar.indexCast v1260
  ![6, v1371.toNat]

def k0_chk95 (v1376 : IVec S16 32) : Prop :=
  (∀ a x, ((![v1376] : Fin 1 → IVec S16 32) a x).toNat < S8192.size a)
theorem k0_idx95_inb : ∀ (v1376 : IVec S16 32) (k0_hw95 : k0_chk95 v1376), ∀ a x, ((![v1376] : Fin 1 → IVec S16 32) a x).toNat < S8192.size a := fun v1376 k0_hw95 => k0_hw95
def k0_off100 (k0_t1 : Fin k0_t1_loop.trips) : Fin 2 → Nat :=
  let c7_i32_662 : BitVec 32 := 7#32
  let v1382 : Index := Scalar.indexCast c7_i32_662
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1383 : Index := Scalar.indexCast v1260
  ![7, v1383.toNat]

def k0_chk96 (v34 : IVec S16 32) (v1377 : IVec S16 32) : Prop :=
  (∀ a x, ((![v34, v1377] : Fin 2 → IVec S16 32) a x).toNat < S16x1024.size a)
theorem k0_idx96_inb : ∀ (v34 : IVec S16 32) (v1377 : IVec S16 32) (k0_hw96 : k0_chk96 v34 v1377), ∀ a x, ((![v34, v1377] : Fin 2 → IVec S16 32) a x).toNat < S16x1024.size a := fun v34 v1377 k0_hw96 => k0_hw96
def k0_off101 (k0_t1 : Fin k0_t1_loop.trips) : Fin 2 → Nat :=
  let c7_i32_663 : BitVec 32 := 7#32
  let v1386 : Index := Scalar.indexCast c7_i32_663
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1387 : Index := Scalar.indexCast v1260
  ![7, v1387.toNat]

def k0_chk97 (v1392 : IVec S16 32) : Prop :=
  (∀ a x, ((![v1392] : Fin 1 → IVec S16 32) a x).toNat < S8192.size a)
theorem k0_idx97_inb : ∀ (v1392 : IVec S16 32) (k0_hw97 : k0_chk97 v1392), ∀ a x, ((![v1392] : Fin 1 → IVec S16 32) a x).toNat < S8192.size a := fun v1392 k0_hw97 => k0_hw97
def k0_off102 (k0_t1 : Fin k0_t1_loop.trips) : Fin 2 → Nat :=
  let c8_i32_671 : BitVec 32 := 8#32
  let v1405 : Index := Scalar.indexCast c8_i32_671
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1406 : Index := Scalar.indexCast v1260
  ![8, v1406.toNat]

def k0_chk98 (v34 : IVec S16 32) (v1404 : IVec S16 32) : Prop :=
  (∀ a x, ((![v34, v1404] : Fin 2 → IVec S16 32) a x).toNat < S16x1024.size a)
theorem k0_idx98_inb : ∀ (v34 : IVec S16 32) (v1404 : IVec S16 32) (k0_hw98 : k0_chk98 v34 v1404), ∀ a x, ((![v34, v1404] : Fin 2 → IVec S16 32) a x).toNat < S16x1024.size a := fun v34 v1404 k0_hw98 => k0_hw98
def k0_off103 (k0_t1 : Fin k0_t1_loop.trips) : Fin 2 → Nat :=
  let c8_i32_672 : BitVec 32 := 8#32
  let v1409 : Index := Scalar.indexCast c8_i32_672
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1410 : Index := Scalar.indexCast v1260
  ![8, v1410.toNat]

def k0_chk99 (v1415 : IVec S16 32) : Prop :=
  (∀ a x, ((![v1415] : Fin 1 → IVec S16 32) a x).toNat < S8192.size a)
theorem k0_idx99_inb : ∀ (v1415 : IVec S16 32) (k0_hw99 : k0_chk99 v1415), ∀ a x, ((![v1415] : Fin 1 → IVec S16 32) a x).toNat < S8192.size a := fun v1415 k0_hw99 => k0_hw99
def k0_off104 (k0_t1 : Fin k0_t1_loop.trips) : Fin 2 → Nat :=
  let c9_i32_680 : BitVec 32 := 9#32
  let v1428 : Index := Scalar.indexCast c9_i32_680
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1429 : Index := Scalar.indexCast v1260
  ![9, v1429.toNat]

def k0_chk100 (v34 : IVec S16 32) (v1427 : IVec S16 32) : Prop :=
  (∀ a x, ((![v34, v1427] : Fin 2 → IVec S16 32) a x).toNat < S16x1024.size a)
theorem k0_idx100_inb : ∀ (v34 : IVec S16 32) (v1427 : IVec S16 32) (k0_hw100 : k0_chk100 v34 v1427), ∀ a x, ((![v34, v1427] : Fin 2 → IVec S16 32) a x).toNat < S16x1024.size a := fun v34 v1427 k0_hw100 => k0_hw100
def k0_off105 (k0_t1 : Fin k0_t1_loop.trips) : Fin 2 → Nat :=
  let c9_i32_681 : BitVec 32 := 9#32
  let v1432 : Index := Scalar.indexCast c9_i32_681
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1433 : Index := Scalar.indexCast v1260
  ![9, v1433.toNat]

def k0_chk101 (v1438 : IVec S16 32) : Prop :=
  (∀ a x, ((![v1438] : Fin 1 → IVec S16 32) a x).toNat < S8192.size a)
theorem k0_idx101_inb : ∀ (v1438 : IVec S16 32) (k0_hw101 : k0_chk101 v1438), ∀ a x, ((![v1438] : Fin 1 → IVec S16 32) a x).toNat < S8192.size a := fun v1438 k0_hw101 => k0_hw101
def k0_off106 (k0_t1 : Fin k0_t1_loop.trips) : Fin 2 → Nat :=
  let c10_i32_689 : BitVec 32 := 10#32
  let v1451 : Index := Scalar.indexCast c10_i32_689
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1452 : Index := Scalar.indexCast v1260
  ![10, v1452.toNat]

def k0_chk102 (v34 : IVec S16 32) (v1450 : IVec S16 32) : Prop :=
  (∀ a x, ((![v34, v1450] : Fin 2 → IVec S16 32) a x).toNat < S16x1024.size a)
theorem k0_idx102_inb : ∀ (v34 : IVec S16 32) (v1450 : IVec S16 32) (k0_hw102 : k0_chk102 v34 v1450), ∀ a x, ((![v34, v1450] : Fin 2 → IVec S16 32) a x).toNat < S16x1024.size a := fun v34 v1450 k0_hw102 => k0_hw102
def k0_off107 (k0_t1 : Fin k0_t1_loop.trips) : Fin 2 → Nat :=
  let c10_i32_690 : BitVec 32 := 10#32
  let v1455 : Index := Scalar.indexCast c10_i32_690
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1456 : Index := Scalar.indexCast v1260
  ![10, v1456.toNat]

def k0_chk103 (v1461 : IVec S16 32) : Prop :=
  (∀ a x, ((![v1461] : Fin 1 → IVec S16 32) a x).toNat < S8192.size a)
theorem k0_idx103_inb : ∀ (v1461 : IVec S16 32) (k0_hw103 : k0_chk103 v1461), ∀ a x, ((![v1461] : Fin 1 → IVec S16 32) a x).toNat < S8192.size a := fun v1461 k0_hw103 => k0_hw103
def k0_off108 (k0_t1 : Fin k0_t1_loop.trips) : Fin 2 → Nat :=
  let c11_i32_698 : BitVec 32 := 11#32
  let v1474 : Index := Scalar.indexCast c11_i32_698
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1475 : Index := Scalar.indexCast v1260
  ![11, v1475.toNat]

def k0_chk104 (v34 : IVec S16 32) (v1473 : IVec S16 32) : Prop :=
  (∀ a x, ((![v34, v1473] : Fin 2 → IVec S16 32) a x).toNat < S16x1024.size a)
theorem k0_idx104_inb : ∀ (v34 : IVec S16 32) (v1473 : IVec S16 32) (k0_hw104 : k0_chk104 v34 v1473), ∀ a x, ((![v34, v1473] : Fin 2 → IVec S16 32) a x).toNat < S16x1024.size a := fun v34 v1473 k0_hw104 => k0_hw104
def k0_off109 (k0_t1 : Fin k0_t1_loop.trips) : Fin 2 → Nat :=
  let c11_i32_699 : BitVec 32 := 11#32
  let v1478 : Index := Scalar.indexCast c11_i32_699
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1479 : Index := Scalar.indexCast v1260
  ![11, v1479.toNat]

def k0_chk105 (v1484 : IVec S16 32) : Prop :=
  (∀ a x, ((![v1484] : Fin 1 → IVec S16 32) a x).toNat < S8192.size a)
theorem k0_idx105_inb : ∀ (v1484 : IVec S16 32) (k0_hw105 : k0_chk105 v1484), ∀ a x, ((![v1484] : Fin 1 → IVec S16 32) a x).toNat < S8192.size a := fun v1484 k0_hw105 => k0_hw105
def k0_off110 (k0_t1 : Fin k0_t1_loop.trips) : Fin 2 → Nat :=
  let c12_i32_707 : BitVec 32 := 12#32
  let v1497 : Index := Scalar.indexCast c12_i32_707
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1498 : Index := Scalar.indexCast v1260
  ![12, v1498.toNat]

def k0_chk106 (v34 : IVec S16 32) (v1496 : IVec S16 32) : Prop :=
  (∀ a x, ((![v34, v1496] : Fin 2 → IVec S16 32) a x).toNat < S16x1024.size a)
theorem k0_idx106_inb : ∀ (v34 : IVec S16 32) (v1496 : IVec S16 32) (k0_hw106 : k0_chk106 v34 v1496), ∀ a x, ((![v34, v1496] : Fin 2 → IVec S16 32) a x).toNat < S16x1024.size a := fun v34 v1496 k0_hw106 => k0_hw106
def k0_off111 (k0_t1 : Fin k0_t1_loop.trips) : Fin 2 → Nat :=
  let c12_i32_708 : BitVec 32 := 12#32
  let v1501 : Index := Scalar.indexCast c12_i32_708
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1502 : Index := Scalar.indexCast v1260
  ![12, v1502.toNat]

def k0_chk107 (v1507 : IVec S16 32) : Prop :=
  (∀ a x, ((![v1507] : Fin 1 → IVec S16 32) a x).toNat < S8192.size a)
theorem k0_idx107_inb : ∀ (v1507 : IVec S16 32) (k0_hw107 : k0_chk107 v1507), ∀ a x, ((![v1507] : Fin 1 → IVec S16 32) a x).toNat < S8192.size a := fun v1507 k0_hw107 => k0_hw107
def k0_off112 (k0_t1 : Fin k0_t1_loop.trips) : Fin 2 → Nat :=
  let c13_i32_716 : BitVec 32 := 13#32
  let v1520 : Index := Scalar.indexCast c13_i32_716
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1521 : Index := Scalar.indexCast v1260
  ![13, v1521.toNat]

def k0_chk108 (v34 : IVec S16 32) (v1519 : IVec S16 32) : Prop :=
  (∀ a x, ((![v34, v1519] : Fin 2 → IVec S16 32) a x).toNat < S16x1024.size a)
theorem k0_idx108_inb : ∀ (v34 : IVec S16 32) (v1519 : IVec S16 32) (k0_hw108 : k0_chk108 v34 v1519), ∀ a x, ((![v34, v1519] : Fin 2 → IVec S16 32) a x).toNat < S16x1024.size a := fun v34 v1519 k0_hw108 => k0_hw108
def k0_off113 (k0_t1 : Fin k0_t1_loop.trips) : Fin 2 → Nat :=
  let c13_i32_717 : BitVec 32 := 13#32
  let v1524 : Index := Scalar.indexCast c13_i32_717
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1525 : Index := Scalar.indexCast v1260
  ![13, v1525.toNat]

def k0_chk109 (v1530 : IVec S16 32) : Prop :=
  (∀ a x, ((![v1530] : Fin 1 → IVec S16 32) a x).toNat < S8192.size a)
theorem k0_idx109_inb : ∀ (v1530 : IVec S16 32) (k0_hw109 : k0_chk109 v1530), ∀ a x, ((![v1530] : Fin 1 → IVec S16 32) a x).toNat < S8192.size a := fun v1530 k0_hw109 => k0_hw109
def k0_off114 (k0_t1 : Fin k0_t1_loop.trips) : Fin 2 → Nat :=
  let c14_i32_725 : BitVec 32 := 14#32
  let v1543 : Index := Scalar.indexCast c14_i32_725
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1544 : Index := Scalar.indexCast v1260
  ![14, v1544.toNat]

def k0_chk110 (v34 : IVec S16 32) (v1542 : IVec S16 32) : Prop :=
  (∀ a x, ((![v34, v1542] : Fin 2 → IVec S16 32) a x).toNat < S16x1024.size a)
theorem k0_idx110_inb : ∀ (v34 : IVec S16 32) (v1542 : IVec S16 32) (k0_hw110 : k0_chk110 v34 v1542), ∀ a x, ((![v34, v1542] : Fin 2 → IVec S16 32) a x).toNat < S16x1024.size a := fun v34 v1542 k0_hw110 => k0_hw110
def k0_off115 (k0_t1 : Fin k0_t1_loop.trips) : Fin 2 → Nat :=
  let c14_i32_726 : BitVec 32 := 14#32
  let v1547 : Index := Scalar.indexCast c14_i32_726
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1548 : Index := Scalar.indexCast v1260
  ![14, v1548.toNat]

def k0_chk111 (v1553 : IVec S16 32) : Prop :=
  (∀ a x, ((![v1553] : Fin 1 → IVec S16 32) a x).toNat < S8192.size a)
theorem k0_idx111_inb : ∀ (v1553 : IVec S16 32) (k0_hw111 : k0_chk111 v1553), ∀ a x, ((![v1553] : Fin 1 → IVec S16 32) a x).toNat < S8192.size a := fun v1553 k0_hw111 => k0_hw111
def k0_off116 (k0_t1 : Fin k0_t1_loop.trips) : Fin 2 → Nat :=
  let c15_i32_734 : BitVec 32 := 15#32
  let v1566 : Index := Scalar.indexCast c15_i32_734
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1567 : Index := Scalar.indexCast v1260
  ![15, v1567.toNat]

def k0_chk112 (v34 : IVec S16 32) (v1565 : IVec S16 32) : Prop :=
  (∀ a x, ((![v34, v1565] : Fin 2 → IVec S16 32) a x).toNat < S16x1024.size a)
theorem k0_idx112_inb : ∀ (v34 : IVec S16 32) (v1565 : IVec S16 32) (k0_hw112 : k0_chk112 v34 v1565), ∀ a x, ((![v34, v1565] : Fin 2 → IVec S16 32) a x).toNat < S16x1024.size a := fun v34 v1565 k0_hw112 => k0_hw112
def k0_off117 (k0_t1 : Fin k0_t1_loop.trips) : Fin 2 → Nat :=
  let c15_i32_735 : BitVec 32 := 15#32
  let v1570 : Index := Scalar.indexCast c15_i32_735
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1571 : Index := Scalar.indexCast v1260
  ![15, v1571.toNat]

def k0_chk113 (v1576 : IVec S16 32) : Prop :=
  (∀ a x, ((![v1576] : Fin 1 → IVec S16 32) a x).toNat < S8192.size a)
theorem k0_idx113_inb : ∀ (v1576 : IVec S16 32) (k0_hw113 : k0_chk113 v1576), ∀ a x, ((![v1576] : Fin 1 → IVec S16 32) a x).toNat < S8192.size a := fun v1576 k0_hw113 => k0_hw113
def k0_off118 (k0_t1 : Fin k0_t1_loop.trips) : Fin 2 → Nat :=
  let c16_i32_743 : BitVec 32 := 16#32
  let v1589 : Index := Scalar.indexCast c16_i32_743
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1590 : Index := Scalar.indexCast v1260
  ![16, v1590.toNat]

def k0_chk114 (v34 : IVec S16 32) (v1588 : IVec S16 32) : Prop :=
  (∀ a x, ((![v34, v1588] : Fin 2 → IVec S16 32) a x).toNat < S16x1024.size a)
theorem k0_idx114_inb : ∀ (v34 : IVec S16 32) (v1588 : IVec S16 32) (k0_hw114 : k0_chk114 v34 v1588), ∀ a x, ((![v34, v1588] : Fin 2 → IVec S16 32) a x).toNat < S16x1024.size a := fun v34 v1588 k0_hw114 => k0_hw114
def k0_off119 (k0_t1 : Fin k0_t1_loop.trips) : Fin 2 → Nat :=
  let c16_i32_744 : BitVec 32 := 16#32
  let v1593 : Index := Scalar.indexCast c16_i32_744
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1594 : Index := Scalar.indexCast v1260
  ![16, v1594.toNat]

def k0_chk115 (v1599 : IVec S16 32) : Prop :=
  (∀ a x, ((![v1599] : Fin 1 → IVec S16 32) a x).toNat < S8192.size a)
theorem k0_idx115_inb : ∀ (v1599 : IVec S16 32) (k0_hw115 : k0_chk115 v1599), ∀ a x, ((![v1599] : Fin 1 → IVec S16 32) a x).toNat < S8192.size a := fun v1599 k0_hw115 => k0_hw115
def k0_off120 (k0_t1 : Fin k0_t1_loop.trips) : Fin 2 → Nat :=
  let c17_i32_752 : BitVec 32 := 17#32
  let v1612 : Index := Scalar.indexCast c17_i32_752
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1613 : Index := Scalar.indexCast v1260
  ![17, v1613.toNat]

def k0_chk116 (v34 : IVec S16 32) (v1611 : IVec S16 32) : Prop :=
  (∀ a x, ((![v34, v1611] : Fin 2 → IVec S16 32) a x).toNat < S16x1024.size a)
theorem k0_idx116_inb : ∀ (v34 : IVec S16 32) (v1611 : IVec S16 32) (k0_hw116 : k0_chk116 v34 v1611), ∀ a x, ((![v34, v1611] : Fin 2 → IVec S16 32) a x).toNat < S16x1024.size a := fun v34 v1611 k0_hw116 => k0_hw116
def k0_off121 (k0_t1 : Fin k0_t1_loop.trips) : Fin 2 → Nat :=
  let c17_i32_753 : BitVec 32 := 17#32
  let v1616 : Index := Scalar.indexCast c17_i32_753
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1617 : Index := Scalar.indexCast v1260
  ![17, v1617.toNat]

def k0_chk117 (v1622 : IVec S16 32) : Prop :=
  (∀ a x, ((![v1622] : Fin 1 → IVec S16 32) a x).toNat < S8192.size a)
theorem k0_idx117_inb : ∀ (v1622 : IVec S16 32) (k0_hw117 : k0_chk117 v1622), ∀ a x, ((![v1622] : Fin 1 → IVec S16 32) a x).toNat < S8192.size a := fun v1622 k0_hw117 => k0_hw117
def k0_off122 (k0_t1 : Fin k0_t1_loop.trips) : Fin 2 → Nat :=
  let c18_i32_761 : BitVec 32 := 18#32
  let v1635 : Index := Scalar.indexCast c18_i32_761
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1636 : Index := Scalar.indexCast v1260
  ![18, v1636.toNat]

def k0_chk118 (v34 : IVec S16 32) (v1634 : IVec S16 32) : Prop :=
  (∀ a x, ((![v34, v1634] : Fin 2 → IVec S16 32) a x).toNat < S16x1024.size a)
theorem k0_idx118_inb : ∀ (v34 : IVec S16 32) (v1634 : IVec S16 32) (k0_hw118 : k0_chk118 v34 v1634), ∀ a x, ((![v34, v1634] : Fin 2 → IVec S16 32) a x).toNat < S16x1024.size a := fun v34 v1634 k0_hw118 => k0_hw118
def k0_off123 (k0_t1 : Fin k0_t1_loop.trips) : Fin 2 → Nat :=
  let c18_i32_762 : BitVec 32 := 18#32
  let v1639 : Index := Scalar.indexCast c18_i32_762
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1640 : Index := Scalar.indexCast v1260
  ![18, v1640.toNat]

def k0_chk119 (v1645 : IVec S16 32) : Prop :=
  (∀ a x, ((![v1645] : Fin 1 → IVec S16 32) a x).toNat < S8192.size a)
theorem k0_idx119_inb : ∀ (v1645 : IVec S16 32) (k0_hw119 : k0_chk119 v1645), ∀ a x, ((![v1645] : Fin 1 → IVec S16 32) a x).toNat < S8192.size a := fun v1645 k0_hw119 => k0_hw119
def k0_off124 (k0_t1 : Fin k0_t1_loop.trips) : Fin 2 → Nat :=
  let c19_i32_770 : BitVec 32 := 19#32
  let v1658 : Index := Scalar.indexCast c19_i32_770
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1659 : Index := Scalar.indexCast v1260
  ![19, v1659.toNat]

def k0_chk120 (v34 : IVec S16 32) (v1657 : IVec S16 32) : Prop :=
  (∀ a x, ((![v34, v1657] : Fin 2 → IVec S16 32) a x).toNat < S16x1024.size a)
theorem k0_idx120_inb : ∀ (v34 : IVec S16 32) (v1657 : IVec S16 32) (k0_hw120 : k0_chk120 v34 v1657), ∀ a x, ((![v34, v1657] : Fin 2 → IVec S16 32) a x).toNat < S16x1024.size a := fun v34 v1657 k0_hw120 => k0_hw120
def k0_off125 (k0_t1 : Fin k0_t1_loop.trips) : Fin 2 → Nat :=
  let c19_i32_771 : BitVec 32 := 19#32
  let v1662 : Index := Scalar.indexCast c19_i32_771
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1663 : Index := Scalar.indexCast v1260
  ![19, v1663.toNat]

def k0_chk121 (v1668 : IVec S16 32) : Prop :=
  (∀ a x, ((![v1668] : Fin 1 → IVec S16 32) a x).toNat < S8192.size a)
theorem k0_idx121_inb : ∀ (v1668 : IVec S16 32) (k0_hw121 : k0_chk121 v1668), ∀ a x, ((![v1668] : Fin 1 → IVec S16 32) a x).toNat < S8192.size a := fun v1668 k0_hw121 => k0_hw121
def k0_off126 (k0_t1 : Fin k0_t1_loop.trips) : Fin 2 → Nat :=
  let c20_i32_779 : BitVec 32 := 20#32
  let v1681 : Index := Scalar.indexCast c20_i32_779
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1682 : Index := Scalar.indexCast v1260
  ![20, v1682.toNat]

def k0_chk122 (v34 : IVec S16 32) (v1680 : IVec S16 32) : Prop :=
  (∀ a x, ((![v34, v1680] : Fin 2 → IVec S16 32) a x).toNat < S16x1024.size a)
theorem k0_idx122_inb : ∀ (v34 : IVec S16 32) (v1680 : IVec S16 32) (k0_hw122 : k0_chk122 v34 v1680), ∀ a x, ((![v34, v1680] : Fin 2 → IVec S16 32) a x).toNat < S16x1024.size a := fun v34 v1680 k0_hw122 => k0_hw122
def k0_off127 (k0_t1 : Fin k0_t1_loop.trips) : Fin 2 → Nat :=
  let c20_i32_780 : BitVec 32 := 20#32
  let v1685 : Index := Scalar.indexCast c20_i32_780
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1686 : Index := Scalar.indexCast v1260
  ![20, v1686.toNat]

def k0_chk123 (v1691 : IVec S16 32) : Prop :=
  (∀ a x, ((![v1691] : Fin 1 → IVec S16 32) a x).toNat < S8192.size a)
theorem k0_idx123_inb : ∀ (v1691 : IVec S16 32) (k0_hw123 : k0_chk123 v1691), ∀ a x, ((![v1691] : Fin 1 → IVec S16 32) a x).toNat < S8192.size a := fun v1691 k0_hw123 => k0_hw123
def k0_off128 (k0_t1 : Fin k0_t1_loop.trips) : Fin 2 → Nat :=
  let c21_i32_788 : BitVec 32 := 21#32
  let v1704 : Index := Scalar.indexCast c21_i32_788
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1705 : Index := Scalar.indexCast v1260
  ![21, v1705.toNat]

def k0_chk124 (v34 : IVec S16 32) (v1703 : IVec S16 32) : Prop :=
  (∀ a x, ((![v34, v1703] : Fin 2 → IVec S16 32) a x).toNat < S16x1024.size a)
theorem k0_idx124_inb : ∀ (v34 : IVec S16 32) (v1703 : IVec S16 32) (k0_hw124 : k0_chk124 v34 v1703), ∀ a x, ((![v34, v1703] : Fin 2 → IVec S16 32) a x).toNat < S16x1024.size a := fun v34 v1703 k0_hw124 => k0_hw124
def k0_off129 (k0_t1 : Fin k0_t1_loop.trips) : Fin 2 → Nat :=
  let c21_i32_789 : BitVec 32 := 21#32
  let v1708 : Index := Scalar.indexCast c21_i32_789
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1709 : Index := Scalar.indexCast v1260
  ![21, v1709.toNat]

def k0_chk125 (v1714 : IVec S16 32) : Prop :=
  (∀ a x, ((![v1714] : Fin 1 → IVec S16 32) a x).toNat < S8192.size a)
theorem k0_idx125_inb : ∀ (v1714 : IVec S16 32) (k0_hw125 : k0_chk125 v1714), ∀ a x, ((![v1714] : Fin 1 → IVec S16 32) a x).toNat < S8192.size a := fun v1714 k0_hw125 => k0_hw125
def k0_off130 (k0_t1 : Fin k0_t1_loop.trips) : Fin 2 → Nat :=
  let c22_i32_797 : BitVec 32 := 22#32
  let v1727 : Index := Scalar.indexCast c22_i32_797
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1728 : Index := Scalar.indexCast v1260
  ![22, v1728.toNat]

def k0_chk126 (v34 : IVec S16 32) (v1726 : IVec S16 32) : Prop :=
  (∀ a x, ((![v34, v1726] : Fin 2 → IVec S16 32) a x).toNat < S16x1024.size a)
theorem k0_idx126_inb : ∀ (v34 : IVec S16 32) (v1726 : IVec S16 32) (k0_hw126 : k0_chk126 v34 v1726), ∀ a x, ((![v34, v1726] : Fin 2 → IVec S16 32) a x).toNat < S16x1024.size a := fun v34 v1726 k0_hw126 => k0_hw126
def k0_off131 (k0_t1 : Fin k0_t1_loop.trips) : Fin 2 → Nat :=
  let c22_i32_798 : BitVec 32 := 22#32
  let v1731 : Index := Scalar.indexCast c22_i32_798
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1732 : Index := Scalar.indexCast v1260
  ![22, v1732.toNat]

def k0_chk127 (v1737 : IVec S16 32) : Prop :=
  (∀ a x, ((![v1737] : Fin 1 → IVec S16 32) a x).toNat < S8192.size a)
theorem k0_idx127_inb : ∀ (v1737 : IVec S16 32) (k0_hw127 : k0_chk127 v1737), ∀ a x, ((![v1737] : Fin 1 → IVec S16 32) a x).toNat < S8192.size a := fun v1737 k0_hw127 => k0_hw127
def k0_off132 (k0_t1 : Fin k0_t1_loop.trips) : Fin 2 → Nat :=
  let c23_i32_806 : BitVec 32 := 23#32
  let v1750 : Index := Scalar.indexCast c23_i32_806
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1751 : Index := Scalar.indexCast v1260
  ![23, v1751.toNat]

def k0_chk128 (v34 : IVec S16 32) (v1749 : IVec S16 32) : Prop :=
  (∀ a x, ((![v34, v1749] : Fin 2 → IVec S16 32) a x).toNat < S16x1024.size a)
theorem k0_idx128_inb : ∀ (v34 : IVec S16 32) (v1749 : IVec S16 32) (k0_hw128 : k0_chk128 v34 v1749), ∀ a x, ((![v34, v1749] : Fin 2 → IVec S16 32) a x).toNat < S16x1024.size a := fun v34 v1749 k0_hw128 => k0_hw128
def k0_off133 (k0_t1 : Fin k0_t1_loop.trips) : Fin 2 → Nat :=
  let c23_i32_807 : BitVec 32 := 23#32
  let v1754 : Index := Scalar.indexCast c23_i32_807
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1755 : Index := Scalar.indexCast v1260
  ![23, v1755.toNat]

def k0_chk129 (v1760 : IVec S16 32) : Prop :=
  (∀ a x, ((![v1760] : Fin 1 → IVec S16 32) a x).toNat < S8192.size a)
theorem k0_idx129_inb : ∀ (v1760 : IVec S16 32) (k0_hw129 : k0_chk129 v1760), ∀ a x, ((![v1760] : Fin 1 → IVec S16 32) a x).toNat < S8192.size a := fun v1760 k0_hw129 => k0_hw129
def k0_off134 (k0_t1 : Fin k0_t1_loop.trips) : Fin 2 → Nat :=
  let c24_i32_815 : BitVec 32 := 24#32
  let v1773 : Index := Scalar.indexCast c24_i32_815
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1774 : Index := Scalar.indexCast v1260
  ![24, v1774.toNat]

def k0_chk130 (v34 : IVec S16 32) (v1772 : IVec S16 32) : Prop :=
  (∀ a x, ((![v34, v1772] : Fin 2 → IVec S16 32) a x).toNat < S16x1024.size a)
theorem k0_idx130_inb : ∀ (v34 : IVec S16 32) (v1772 : IVec S16 32) (k0_hw130 : k0_chk130 v34 v1772), ∀ a x, ((![v34, v1772] : Fin 2 → IVec S16 32) a x).toNat < S16x1024.size a := fun v34 v1772 k0_hw130 => k0_hw130
def k0_off135 (k0_t1 : Fin k0_t1_loop.trips) : Fin 2 → Nat :=
  let c24_i32_816 : BitVec 32 := 24#32
  let v1777 : Index := Scalar.indexCast c24_i32_816
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1778 : Index := Scalar.indexCast v1260
  ![24, v1778.toNat]

def k0_chk131 (v1783 : IVec S16 32) : Prop :=
  (∀ a x, ((![v1783] : Fin 1 → IVec S16 32) a x).toNat < S8192.size a)
theorem k0_idx131_inb : ∀ (v1783 : IVec S16 32) (k0_hw131 : k0_chk131 v1783), ∀ a x, ((![v1783] : Fin 1 → IVec S16 32) a x).toNat < S8192.size a := fun v1783 k0_hw131 => k0_hw131
def k0_off136 (k0_t1 : Fin k0_t1_loop.trips) : Fin 2 → Nat :=
  let c25_i32_824 : BitVec 32 := 25#32
  let v1796 : Index := Scalar.indexCast c25_i32_824
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1797 : Index := Scalar.indexCast v1260
  ![25, v1797.toNat]

def k0_chk132 (v34 : IVec S16 32) (v1795 : IVec S16 32) : Prop :=
  (∀ a x, ((![v34, v1795] : Fin 2 → IVec S16 32) a x).toNat < S16x1024.size a)
theorem k0_idx132_inb : ∀ (v34 : IVec S16 32) (v1795 : IVec S16 32) (k0_hw132 : k0_chk132 v34 v1795), ∀ a x, ((![v34, v1795] : Fin 2 → IVec S16 32) a x).toNat < S16x1024.size a := fun v34 v1795 k0_hw132 => k0_hw132
def k0_off137 (k0_t1 : Fin k0_t1_loop.trips) : Fin 2 → Nat :=
  let c25_i32_825 : BitVec 32 := 25#32
  let v1800 : Index := Scalar.indexCast c25_i32_825
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1801 : Index := Scalar.indexCast v1260
  ![25, v1801.toNat]

def k0_chk133 (v1806 : IVec S16 32) : Prop :=
  (∀ a x, ((![v1806] : Fin 1 → IVec S16 32) a x).toNat < S8192.size a)
theorem k0_idx133_inb : ∀ (v1806 : IVec S16 32) (k0_hw133 : k0_chk133 v1806), ∀ a x, ((![v1806] : Fin 1 → IVec S16 32) a x).toNat < S8192.size a := fun v1806 k0_hw133 => k0_hw133
def k0_off138 (k0_t1 : Fin k0_t1_loop.trips) : Fin 2 → Nat :=
  let c26_i32_833 : BitVec 32 := 26#32
  let v1819 : Index := Scalar.indexCast c26_i32_833
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1820 : Index := Scalar.indexCast v1260
  ![26, v1820.toNat]

def k0_chk134 (v34 : IVec S16 32) (v1818 : IVec S16 32) : Prop :=
  (∀ a x, ((![v34, v1818] : Fin 2 → IVec S16 32) a x).toNat < S16x1024.size a)
theorem k0_idx134_inb : ∀ (v34 : IVec S16 32) (v1818 : IVec S16 32) (k0_hw134 : k0_chk134 v34 v1818), ∀ a x, ((![v34, v1818] : Fin 2 → IVec S16 32) a x).toNat < S16x1024.size a := fun v34 v1818 k0_hw134 => k0_hw134
def k0_off139 (k0_t1 : Fin k0_t1_loop.trips) : Fin 2 → Nat :=
  let c26_i32_834 : BitVec 32 := 26#32
  let v1823 : Index := Scalar.indexCast c26_i32_834
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1824 : Index := Scalar.indexCast v1260
  ![26, v1824.toNat]

def k0_chk135 (v1829 : IVec S16 32) : Prop :=
  (∀ a x, ((![v1829] : Fin 1 → IVec S16 32) a x).toNat < S8192.size a)
theorem k0_idx135_inb : ∀ (v1829 : IVec S16 32) (k0_hw135 : k0_chk135 v1829), ∀ a x, ((![v1829] : Fin 1 → IVec S16 32) a x).toNat < S8192.size a := fun v1829 k0_hw135 => k0_hw135
def k0_off140 (k0_t1 : Fin k0_t1_loop.trips) : Fin 2 → Nat :=
  let c27_i32_842 : BitVec 32 := 27#32
  let v1842 : Index := Scalar.indexCast c27_i32_842
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1843 : Index := Scalar.indexCast v1260
  ![27, v1843.toNat]

def k0_chk136 (v34 : IVec S16 32) (v1841 : IVec S16 32) : Prop :=
  (∀ a x, ((![v34, v1841] : Fin 2 → IVec S16 32) a x).toNat < S16x1024.size a)
theorem k0_idx136_inb : ∀ (v34 : IVec S16 32) (v1841 : IVec S16 32) (k0_hw136 : k0_chk136 v34 v1841), ∀ a x, ((![v34, v1841] : Fin 2 → IVec S16 32) a x).toNat < S16x1024.size a := fun v34 v1841 k0_hw136 => k0_hw136
def k0_off141 (k0_t1 : Fin k0_t1_loop.trips) : Fin 2 → Nat :=
  let c27_i32_843 : BitVec 32 := 27#32
  let v1846 : Index := Scalar.indexCast c27_i32_843
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1847 : Index := Scalar.indexCast v1260
  ![27, v1847.toNat]

def k0_chk137 (v1852 : IVec S16 32) : Prop :=
  (∀ a x, ((![v1852] : Fin 1 → IVec S16 32) a x).toNat < S8192.size a)
theorem k0_idx137_inb : ∀ (v1852 : IVec S16 32) (k0_hw137 : k0_chk137 v1852), ∀ a x, ((![v1852] : Fin 1 → IVec S16 32) a x).toNat < S8192.size a := fun v1852 k0_hw137 => k0_hw137
def k0_off142 (k0_t1 : Fin k0_t1_loop.trips) : Fin 2 → Nat :=
  let c28_i32_851 : BitVec 32 := 28#32
  let v1865 : Index := Scalar.indexCast c28_i32_851
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1866 : Index := Scalar.indexCast v1260
  ![28, v1866.toNat]

def k0_chk138 (v34 : IVec S16 32) (v1864 : IVec S16 32) : Prop :=
  (∀ a x, ((![v34, v1864] : Fin 2 → IVec S16 32) a x).toNat < S16x1024.size a)
theorem k0_idx138_inb : ∀ (v34 : IVec S16 32) (v1864 : IVec S16 32) (k0_hw138 : k0_chk138 v34 v1864), ∀ a x, ((![v34, v1864] : Fin 2 → IVec S16 32) a x).toNat < S16x1024.size a := fun v34 v1864 k0_hw138 => k0_hw138
def k0_off143 (k0_t1 : Fin k0_t1_loop.trips) : Fin 2 → Nat :=
  let c28_i32_852 : BitVec 32 := 28#32
  let v1869 : Index := Scalar.indexCast c28_i32_852
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1870 : Index := Scalar.indexCast v1260
  ![28, v1870.toNat]

def k0_chk139 (v1875 : IVec S16 32) : Prop :=
  (∀ a x, ((![v1875] : Fin 1 → IVec S16 32) a x).toNat < S8192.size a)
theorem k0_idx139_inb : ∀ (v1875 : IVec S16 32) (k0_hw139 : k0_chk139 v1875), ∀ a x, ((![v1875] : Fin 1 → IVec S16 32) a x).toNat < S8192.size a := fun v1875 k0_hw139 => k0_hw139
def k0_off144 (k0_t1 : Fin k0_t1_loop.trips) : Fin 2 → Nat :=
  let c29_i32_860 : BitVec 32 := 29#32
  let v1888 : Index := Scalar.indexCast c29_i32_860
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1889 : Index := Scalar.indexCast v1260
  ![29, v1889.toNat]

def k0_chk140 (v34 : IVec S16 32) (v1887 : IVec S16 32) : Prop :=
  (∀ a x, ((![v34, v1887] : Fin 2 → IVec S16 32) a x).toNat < S16x1024.size a)
theorem k0_idx140_inb : ∀ (v34 : IVec S16 32) (v1887 : IVec S16 32) (k0_hw140 : k0_chk140 v34 v1887), ∀ a x, ((![v34, v1887] : Fin 2 → IVec S16 32) a x).toNat < S16x1024.size a := fun v34 v1887 k0_hw140 => k0_hw140
def k0_off145 (k0_t1 : Fin k0_t1_loop.trips) : Fin 2 → Nat :=
  let c29_i32_861 : BitVec 32 := 29#32
  let v1892 : Index := Scalar.indexCast c29_i32_861
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1893 : Index := Scalar.indexCast v1260
  ![29, v1893.toNat]

def k0_chk141 (v1898 : IVec S16 32) : Prop :=
  (∀ a x, ((![v1898] : Fin 1 → IVec S16 32) a x).toNat < S8192.size a)
theorem k0_idx141_inb : ∀ (v1898 : IVec S16 32) (k0_hw141 : k0_chk141 v1898), ∀ a x, ((![v1898] : Fin 1 → IVec S16 32) a x).toNat < S8192.size a := fun v1898 k0_hw141 => k0_hw141
def k0_off146 (k0_t1 : Fin k0_t1_loop.trips) : Fin 2 → Nat :=
  let c30_i32_869 : BitVec 32 := 30#32
  let v1911 : Index := Scalar.indexCast c30_i32_869
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1912 : Index := Scalar.indexCast v1260
  ![30, v1912.toNat]

def k0_chk142 (v34 : IVec S16 32) (v1910 : IVec S16 32) : Prop :=
  (∀ a x, ((![v34, v1910] : Fin 2 → IVec S16 32) a x).toNat < S16x1024.size a)
theorem k0_idx142_inb : ∀ (v34 : IVec S16 32) (v1910 : IVec S16 32) (k0_hw142 : k0_chk142 v34 v1910), ∀ a x, ((![v34, v1910] : Fin 2 → IVec S16 32) a x).toNat < S16x1024.size a := fun v34 v1910 k0_hw142 => k0_hw142
def k0_off147 (k0_t1 : Fin k0_t1_loop.trips) : Fin 2 → Nat :=
  let c30_i32_870 : BitVec 32 := 30#32
  let v1915 : Index := Scalar.indexCast c30_i32_870
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1916 : Index := Scalar.indexCast v1260
  ![30, v1916.toNat]

def k0_chk143 (v1921 : IVec S16 32) : Prop :=
  (∀ a x, ((![v1921] : Fin 1 → IVec S16 32) a x).toNat < S8192.size a)
theorem k0_idx143_inb : ∀ (v1921 : IVec S16 32) (k0_hw143 : k0_chk143 v1921), ∀ a x, ((![v1921] : Fin 1 → IVec S16 32) a x).toNat < S8192.size a := fun v1921 k0_hw143 => k0_hw143
def k0_off148 (k0_t1 : Fin k0_t1_loop.trips) : Fin 2 → Nat :=
  let c31_i32_878 : BitVec 32 := 31#32
  let v1934 : Index := Scalar.indexCast c31_i32_878
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1935 : Index := Scalar.indexCast v1260
  ![31, v1935.toNat]

def k0_chk144 (v34 : IVec S16 32) (v1933 : IVec S16 32) : Prop :=
  (∀ a x, ((![v34, v1933] : Fin 2 → IVec S16 32) a x).toNat < S16x1024.size a)
theorem k0_idx144_inb : ∀ (v34 : IVec S16 32) (v1933 : IVec S16 32) (k0_hw144 : k0_chk144 v34 v1933), ∀ a x, ((![v34, v1933] : Fin 2 → IVec S16 32) a x).toNat < S16x1024.size a := fun v34 v1933 k0_hw144 => k0_hw144
def k0_off149 (k0_t1 : Fin k0_t1_loop.trips) : Fin 2 → Nat :=
  let c31_i32_879 : BitVec 32 := 31#32
  let v1938 : Index := Scalar.indexCast c31_i32_879
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1939 : Index := Scalar.indexCast v1260
  ![31, v1939.toNat]

def k0_chk145 (v1944 : IVec S16 32) : Prop :=
  (∀ a x, ((![v1944] : Fin 1 → IVec S16 32) a x).toNat < S8192.size a)
theorem k0_idx145_inb : ∀ (v1944 : IVec S16 32) (k0_hw145 : k0_chk145 v1944), ∀ a x, ((![v1944] : Fin 1 → IVec S16 32) a x).toNat < S8192.size a := fun v1944 k0_hw145 => k0_hw145
def k0_off150 (k0_t1 : Fin k0_t1_loop.trips) : Fin 2 → Nat :=
  let c32_i32_887 : BitVec 32 := 32#32
  let v1957 : Index := Scalar.indexCast c32_i32_887
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1958 : Index := Scalar.indexCast v1260
  ![32, v1958.toNat]

def k0_chk146 (v34 : IVec S16 32) (v1956 : IVec S16 32) : Prop :=
  (∀ a x, ((![v34, v1956] : Fin 2 → IVec S16 32) a x).toNat < S16x1024.size a)
theorem k0_idx146_inb : ∀ (v34 : IVec S16 32) (v1956 : IVec S16 32) (k0_hw146 : k0_chk146 v34 v1956), ∀ a x, ((![v34, v1956] : Fin 2 → IVec S16 32) a x).toNat < S16x1024.size a := fun v34 v1956 k0_hw146 => k0_hw146
def k0_off151 (k0_t1 : Fin k0_t1_loop.trips) : Fin 2 → Nat :=
  let c32_i32_888 : BitVec 32 := 32#32
  let v1961 : Index := Scalar.indexCast c32_i32_888
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1962 : Index := Scalar.indexCast v1260
  ![32, v1962.toNat]

def k0_chk147 (v1967 : IVec S16 32) : Prop :=
  (∀ a x, ((![v1967] : Fin 1 → IVec S16 32) a x).toNat < S8192.size a)
theorem k0_idx147_inb : ∀ (v1967 : IVec S16 32) (k0_hw147 : k0_chk147 v1967), ∀ a x, ((![v1967] : Fin 1 → IVec S16 32) a x).toNat < S8192.size a := fun v1967 k0_hw147 => k0_hw147
def k0_off152 (k0_t1 : Fin k0_t1_loop.trips) : Fin 2 → Nat :=
  let c33_i32_896 : BitVec 32 := 33#32
  let v1980 : Index := Scalar.indexCast c33_i32_896
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1981 : Index := Scalar.indexCast v1260
  ![33, v1981.toNat]

def k0_chk148 (v34 : IVec S16 32) (v1979 : IVec S16 32) : Prop :=
  (∀ a x, ((![v34, v1979] : Fin 2 → IVec S16 32) a x).toNat < S16x1024.size a)
theorem k0_idx148_inb : ∀ (v34 : IVec S16 32) (v1979 : IVec S16 32) (k0_hw148 : k0_chk148 v34 v1979), ∀ a x, ((![v34, v1979] : Fin 2 → IVec S16 32) a x).toNat < S16x1024.size a := fun v34 v1979 k0_hw148 => k0_hw148
def k0_off153 (k0_t1 : Fin k0_t1_loop.trips) : Fin 2 → Nat :=
  let c33_i32_897 : BitVec 32 := 33#32
  let v1984 : Index := Scalar.indexCast c33_i32_897
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1985 : Index := Scalar.indexCast v1260
  ![33, v1985.toNat]

def k0_chk149 (v1990 : IVec S16 32) : Prop :=
  (∀ a x, ((![v1990] : Fin 1 → IVec S16 32) a x).toNat < S8192.size a)
theorem k0_idx149_inb : ∀ (v1990 : IVec S16 32) (k0_hw149 : k0_chk149 v1990), ∀ a x, ((![v1990] : Fin 1 → IVec S16 32) a x).toNat < S8192.size a := fun v1990 k0_hw149 => k0_hw149
def k0_off154 (k0_t1 : Fin k0_t1_loop.trips) : Fin 2 → Nat :=
  let c34_i32_905 : BitVec 32 := 34#32
  let v2003 : Index := Scalar.indexCast c34_i32_905
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2004 : Index := Scalar.indexCast v1260
  ![34, v2004.toNat]

def k0_chk150 (v34 : IVec S16 32) (v2002 : IVec S16 32) : Prop :=
  (∀ a x, ((![v34, v2002] : Fin 2 → IVec S16 32) a x).toNat < S16x1024.size a)
theorem k0_idx150_inb : ∀ (v34 : IVec S16 32) (v2002 : IVec S16 32) (k0_hw150 : k0_chk150 v34 v2002), ∀ a x, ((![v34, v2002] : Fin 2 → IVec S16 32) a x).toNat < S16x1024.size a := fun v34 v2002 k0_hw150 => k0_hw150
def k0_off155 (k0_t1 : Fin k0_t1_loop.trips) : Fin 2 → Nat :=
  let c34_i32_906 : BitVec 32 := 34#32
  let v2007 : Index := Scalar.indexCast c34_i32_906
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2008 : Index := Scalar.indexCast v1260
  ![34, v2008.toNat]

def k0_chk151 (v2013 : IVec S16 32) : Prop :=
  (∀ a x, ((![v2013] : Fin 1 → IVec S16 32) a x).toNat < S8192.size a)
theorem k0_idx151_inb : ∀ (v2013 : IVec S16 32) (k0_hw151 : k0_chk151 v2013), ∀ a x, ((![v2013] : Fin 1 → IVec S16 32) a x).toNat < S8192.size a := fun v2013 k0_hw151 => k0_hw151
def k0_off156 (k0_t1 : Fin k0_t1_loop.trips) : Fin 2 → Nat :=
  let c35_i32_914 : BitVec 32 := 35#32
  let v2026 : Index := Scalar.indexCast c35_i32_914
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2027 : Index := Scalar.indexCast v1260
  ![35, v2027.toNat]

def k0_chk152 (v34 : IVec S16 32) (v2025 : IVec S16 32) : Prop :=
  (∀ a x, ((![v34, v2025] : Fin 2 → IVec S16 32) a x).toNat < S16x1024.size a)
theorem k0_idx152_inb : ∀ (v34 : IVec S16 32) (v2025 : IVec S16 32) (k0_hw152 : k0_chk152 v34 v2025), ∀ a x, ((![v34, v2025] : Fin 2 → IVec S16 32) a x).toNat < S16x1024.size a := fun v34 v2025 k0_hw152 => k0_hw152
def k0_off157 (k0_t1 : Fin k0_t1_loop.trips) : Fin 2 → Nat :=
  let c35_i32_915 : BitVec 32 := 35#32
  let v2030 : Index := Scalar.indexCast c35_i32_915
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2031 : Index := Scalar.indexCast v1260
  ![35, v2031.toNat]

def k0_chk153 (v2036 : IVec S16 32) : Prop :=
  (∀ a x, ((![v2036] : Fin 1 → IVec S16 32) a x).toNat < S8192.size a)
theorem k0_idx153_inb : ∀ (v2036 : IVec S16 32) (k0_hw153 : k0_chk153 v2036), ∀ a x, ((![v2036] : Fin 1 → IVec S16 32) a x).toNat < S8192.size a := fun v2036 k0_hw153 => k0_hw153
def k0_off158 (k0_t1 : Fin k0_t1_loop.trips) : Fin 2 → Nat :=
  let c36_i32_923 : BitVec 32 := 36#32
  let v2049 : Index := Scalar.indexCast c36_i32_923
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2050 : Index := Scalar.indexCast v1260
  ![36, v2050.toNat]

def k0_chk154 (v34 : IVec S16 32) (v2048 : IVec S16 32) : Prop :=
  (∀ a x, ((![v34, v2048] : Fin 2 → IVec S16 32) a x).toNat < S16x1024.size a)
theorem k0_idx154_inb : ∀ (v34 : IVec S16 32) (v2048 : IVec S16 32) (k0_hw154 : k0_chk154 v34 v2048), ∀ a x, ((![v34, v2048] : Fin 2 → IVec S16 32) a x).toNat < S16x1024.size a := fun v34 v2048 k0_hw154 => k0_hw154
def k0_off159 (k0_t1 : Fin k0_t1_loop.trips) : Fin 2 → Nat :=
  let c36_i32_924 : BitVec 32 := 36#32
  let v2053 : Index := Scalar.indexCast c36_i32_924
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2054 : Index := Scalar.indexCast v1260
  ![36, v2054.toNat]

def k0_chk155 (v2059 : IVec S16 32) : Prop :=
  (∀ a x, ((![v2059] : Fin 1 → IVec S16 32) a x).toNat < S8192.size a)
theorem k0_idx155_inb : ∀ (v2059 : IVec S16 32) (k0_hw155 : k0_chk155 v2059), ∀ a x, ((![v2059] : Fin 1 → IVec S16 32) a x).toNat < S8192.size a := fun v2059 k0_hw155 => k0_hw155
def k0_off160 (k0_t1 : Fin k0_t1_loop.trips) : Fin 2 → Nat :=
  let c37_i32_932 : BitVec 32 := 37#32
  let v2072 : Index := Scalar.indexCast c37_i32_932
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2073 : Index := Scalar.indexCast v1260
  ![37, v2073.toNat]

def k0_chk156 (v34 : IVec S16 32) (v2071 : IVec S16 32) : Prop :=
  (∀ a x, ((![v34, v2071] : Fin 2 → IVec S16 32) a x).toNat < S16x1024.size a)
theorem k0_idx156_inb : ∀ (v34 : IVec S16 32) (v2071 : IVec S16 32) (k0_hw156 : k0_chk156 v34 v2071), ∀ a x, ((![v34, v2071] : Fin 2 → IVec S16 32) a x).toNat < S16x1024.size a := fun v34 v2071 k0_hw156 => k0_hw156
def k0_off161 (k0_t1 : Fin k0_t1_loop.trips) : Fin 2 → Nat :=
  let c37_i32_933 : BitVec 32 := 37#32
  let v2076 : Index := Scalar.indexCast c37_i32_933
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2077 : Index := Scalar.indexCast v1260
  ![37, v2077.toNat]

def k0_chk157 (v2082 : IVec S16 32) : Prop :=
  (∀ a x, ((![v2082] : Fin 1 → IVec S16 32) a x).toNat < S8192.size a)
theorem k0_idx157_inb : ∀ (v2082 : IVec S16 32) (k0_hw157 : k0_chk157 v2082), ∀ a x, ((![v2082] : Fin 1 → IVec S16 32) a x).toNat < S8192.size a := fun v2082 k0_hw157 => k0_hw157
def k0_off162 (k0_t1 : Fin k0_t1_loop.trips) : Fin 2 → Nat :=
  let c38_i32_941 : BitVec 32 := 38#32
  let v2095 : Index := Scalar.indexCast c38_i32_941
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2096 : Index := Scalar.indexCast v1260
  ![38, v2096.toNat]

def k0_chk158 (v34 : IVec S16 32) (v2094 : IVec S16 32) : Prop :=
  (∀ a x, ((![v34, v2094] : Fin 2 → IVec S16 32) a x).toNat < S16x1024.size a)
theorem k0_idx158_inb : ∀ (v34 : IVec S16 32) (v2094 : IVec S16 32) (k0_hw158 : k0_chk158 v34 v2094), ∀ a x, ((![v34, v2094] : Fin 2 → IVec S16 32) a x).toNat < S16x1024.size a := fun v34 v2094 k0_hw158 => k0_hw158
def k0_off163 (k0_t1 : Fin k0_t1_loop.trips) : Fin 2 → Nat :=
  let c38_i32_942 : BitVec 32 := 38#32
  let v2099 : Index := Scalar.indexCast c38_i32_942
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2100 : Index := Scalar.indexCast v1260
  ![38, v2100.toNat]

def k0_chk159 (v2105 : IVec S16 32) : Prop :=
  (∀ a x, ((![v2105] : Fin 1 → IVec S16 32) a x).toNat < S8192.size a)
theorem k0_idx159_inb : ∀ (v2105 : IVec S16 32) (k0_hw159 : k0_chk159 v2105), ∀ a x, ((![v2105] : Fin 1 → IVec S16 32) a x).toNat < S8192.size a := fun v2105 k0_hw159 => k0_hw159
def k0_off164 (k0_t1 : Fin k0_t1_loop.trips) : Fin 2 → Nat :=
  let c39_i32_950 : BitVec 32 := 39#32
  let v2118 : Index := Scalar.indexCast c39_i32_950
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2119 : Index := Scalar.indexCast v1260
  ![39, v2119.toNat]

def k0_chk160 (v34 : IVec S16 32) (v2117 : IVec S16 32) : Prop :=
  (∀ a x, ((![v34, v2117] : Fin 2 → IVec S16 32) a x).toNat < S16x1024.size a)
theorem k0_idx160_inb : ∀ (v34 : IVec S16 32) (v2117 : IVec S16 32) (k0_hw160 : k0_chk160 v34 v2117), ∀ a x, ((![v34, v2117] : Fin 2 → IVec S16 32) a x).toNat < S16x1024.size a := fun v34 v2117 k0_hw160 => k0_hw160
def k0_off165 (k0_t1 : Fin k0_t1_loop.trips) : Fin 2 → Nat :=
  let c39_i32_951 : BitVec 32 := 39#32
  let v2122 : Index := Scalar.indexCast c39_i32_951
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2123 : Index := Scalar.indexCast v1260
  ![39, v2123.toNat]
def k0_off166 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_269 : BitVec 32 := 2#32
  let c0_i32_20 : BitVec 32 := 0#32
  let c1_i32_21 : BitVec 32 := 1#32
  let arg13 : BitVec 32 := Scf.iv c0_i32_20 c1_i32_21 k0_t1
  let v307 : BitVec 32 := Scalar.muli c2_i32_269 arg13
  let c1_i32_270 : BitVec 32 := 1#32
  let v308 : BitVec 32 := Scalar.addi v307 c1_i32_270
  let c2_i32_952 : BitVec 32 := 2#32
  let v2125 : BitVec 32 := Scalar.addi v308 c2_i32_952
  let c7_i32_953 : BitVec 32 := 7#32
  let v2126 : BitVec 32 := Scalar.minsi v2125 c7_i32_953
  let c16_i32_954 : BitVec 32 := 16#32
  let v2127 : BitVec 32 := Scalar.muli v2126 c16_i32_954
  let v2128 : BitVec 32 := Scalar.addi v2 v2127
  let c0_i32_955 : BitVec 32 := 0#32
  ![v2128.toNat, 0]
def k0_off167 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c112_i32 : BitVec 32 := 112#32
  let v42 : BitVec 32 := Scalar.addi v2 c112_i32
  let c0_i32_23 : BitVec 32 := 0#32
  ![v42.toNat, 0]
def k0_off168 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_269_r1 : BitVec 32 := 0#32
  let c0_i32_270_r1 : BitVec 32 := 0#32
  ![v1.toNat, 0, 0]
abbrev grid1 : Pipeline.Grid := ⟨2, ![2, 16], ![false, false]⟩

def k1_off1 (i : grid1.Coords) : Fin 1 → Nat :=
  let c4_i32 : BitVec 32 := 4#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let v20 : BitVec 32 := Scalar.addi c4_i32 v19
  let c1024_i32 : BitVec 32 := 1024#32
  let v32 : BitVec 32 := Scalar.muli v20 c1024_i32
  let c8_i32_11 : BitVec 32 := 8#32
  let v33 : BitVec 32 := Scalar.muli v32 c8_i32_11
  ![v33.toNat]
def k1_off2 (i : grid1.Coords) (c0_i32_12 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v35 : BitVec 32 := Scalar.addi v2 c0_i32_12
  let c0_i32_13 : BitVec 32 := 0#32
  ![v35.toNat, 0]
@[reducible] def k1_t1_loop : Scf.Loop 32 :=
  let c0_i32_19 : BitVec 32 := 0#32
  let c4_i32_20 : BitVec 32 := 4#32
  let v41 : BitVec 32 := Scalar.addi c0_i32_19 c4_i32_20
  let c1_i32_21 : BitVec 32 := 1#32
  ⟨c0_i32_19, v41, c1_i32_21⟩
def k1_off3 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_271 : BitVec 32 := 16#32
  let v309 : BitVec 32 := Scalar.muli v306 c16_i32_271
  let v310 : BitVec 32 := Scalar.addi v2 v309
  let c0_i32_272 : BitVec 32 := 0#32
  ![v310.toNat, 0]

def k1_chk1 (v353 : IVec S16 32) : Prop :=
  (∀ a x, ((![v353] : Fin 1 → IVec S16 32) a x).toNat < S8192.size a)
theorem k1_idx1_inb : ∀ (v353 : IVec S16 32) (k1_hw1 : k1_chk1 v353), ∀ a x, ((![v353] : Fin 1 → IVec S16 32) a x).toNat < S8192.size a := fun v353 k1_hw1 => k1_hw1
def k1_off4 (k1_t1 : Fin k1_t1_loop.trips) : Fin 2 → Nat :=
  let c0_i32_291 : BitVec 32 := 0#32
  let v359 : Index := Scalar.indexCast c0_i32_291
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v360 : Index := Scalar.indexCast v349
  ![0, v360.toNat]

def k1_chk2 (v34 : IVec S16 32) (v354 : IVec S16 32) : Prop :=
  (∀ a x, ((![v34, v354] : Fin 2 → IVec S16 32) a x).toNat < S16x1024.size a)
theorem k1_idx2_inb : ∀ (v34 : IVec S16 32) (v354 : IVec S16 32) (k1_hw2 : k1_chk2 v34 v354), ∀ a x, ((![v34, v354] : Fin 2 → IVec S16 32) a x).toNat < S16x1024.size a := fun v34 v354 k1_hw2 => k1_hw2
def k1_off5 (k1_t1 : Fin k1_t1_loop.trips) : Fin 2 → Nat :=
  let c0_i32_292 : BitVec 32 := 0#32
  let v363 : Index := Scalar.indexCast c0_i32_292
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v364 : Index := Scalar.indexCast v349
  ![0, v364.toNat]

def k1_chk3 (v369 : IVec S16 32) : Prop :=
  (∀ a x, ((![v369] : Fin 1 → IVec S16 32) a x).toNat < S8192.size a)
theorem k1_idx3_inb : ∀ (v369 : IVec S16 32) (k1_hw3 : k1_chk3 v369), ∀ a x, ((![v369] : Fin 1 → IVec S16 32) a x).toNat < S8192.size a := fun v369 k1_hw3 => k1_hw3
def k1_off6 (k1_t1 : Fin k1_t1_loop.trips) : Fin 2 → Nat :=
  let c1_i32_297 : BitVec 32 := 1#32
  let v375 : Index := Scalar.indexCast c1_i32_297
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v376 : Index := Scalar.indexCast v349
  ![1, v376.toNat]

def k1_chk4 (v34 : IVec S16 32) (v370 : IVec S16 32) : Prop :=
  (∀ a x, ((![v34, v370] : Fin 2 → IVec S16 32) a x).toNat < S16x1024.size a)
theorem k1_idx4_inb : ∀ (v34 : IVec S16 32) (v370 : IVec S16 32) (k1_hw4 : k1_chk4 v34 v370), ∀ a x, ((![v34, v370] : Fin 2 → IVec S16 32) a x).toNat < S16x1024.size a := fun v34 v370 k1_hw4 => k1_hw4
def k1_off7 (k1_t1 : Fin k1_t1_loop.trips) : Fin 2 → Nat :=
  let c1_i32_298 : BitVec 32 := 1#32
  let v379 : Index := Scalar.indexCast c1_i32_298
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v380 : Index := Scalar.indexCast v349
  ![1, v380.toNat]

def k1_chk5 (v385 : IVec S16 32) : Prop :=
  (∀ a x, ((![v385] : Fin 1 → IVec S16 32) a x).toNat < S8192.size a)
theorem k1_idx5_inb : ∀ (v385 : IVec S16 32) (k1_hw5 : k1_chk5 v385), ∀ a x, ((![v385] : Fin 1 → IVec S16 32) a x).toNat < S8192.size a := fun v385 k1_hw5 => k1_hw5
def k1_off8 (k1_t1 : Fin k1_t1_loop.trips) : Fin 2 → Nat :=
  let c2_i32_303 : BitVec 32 := 2#32
  let v391 : Index := Scalar.indexCast c2_i32_303
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v392 : Index := Scalar.indexCast v349
  ![2, v392.toNat]

def k1_chk6 (v34 : IVec S16 32) (v386 : IVec S16 32) : Prop :=
  (∀ a x, ((![v34, v386] : Fin 2 → IVec S16 32) a x).toNat < S16x1024.size a)
theorem k1_idx6_inb : ∀ (v34 : IVec S16 32) (v386 : IVec S16 32) (k1_hw6 : k1_chk6 v34 v386), ∀ a x, ((![v34, v386] : Fin 2 → IVec S16 32) a x).toNat < S16x1024.size a := fun v34 v386 k1_hw6 => k1_hw6
def k1_off9 (k1_t1 : Fin k1_t1_loop.trips) : Fin 2 → Nat :=
  let c2_i32_304 : BitVec 32 := 2#32
  let v395 : Index := Scalar.indexCast c2_i32_304
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v396 : Index := Scalar.indexCast v349
  ![2, v396.toNat]

def k1_chk7 (v401 : IVec S16 32) : Prop :=
  (∀ a x, ((![v401] : Fin 1 → IVec S16 32) a x).toNat < S8192.size a)
theorem k1_idx7_inb : ∀ (v401 : IVec S16 32) (k1_hw7 : k1_chk7 v401), ∀ a x, ((![v401] : Fin 1 → IVec S16 32) a x).toNat < S8192.size a := fun v401 k1_hw7 => k1_hw7
def k1_off10 (k1_t1 : Fin k1_t1_loop.trips) : Fin 2 → Nat :=
  let c3_i32_308 : BitVec 32 := 3#32
  let v407 : Index := Scalar.indexCast c3_i32_308
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v408 : Index := Scalar.indexCast v349
  ![3, v408.toNat]

def k1_chk8 (v34 : IVec S16 32) (v402 : IVec S16 32) : Prop :=
  (∀ a x, ((![v34, v402] : Fin 2 → IVec S16 32) a x).toNat < S16x1024.size a)
theorem k1_idx8_inb : ∀ (v34 : IVec S16 32) (v402 : IVec S16 32) (k1_hw8 : k1_chk8 v34 v402), ∀ a x, ((![v34, v402] : Fin 2 → IVec S16 32) a x).toNat < S16x1024.size a := fun v34 v402 k1_hw8 => k1_hw8
def k1_off11 (k1_t1 : Fin k1_t1_loop.trips) : Fin 2 → Nat :=
  let c3_i32_309 : BitVec 32 := 3#32
  let v411 : Index := Scalar.indexCast c3_i32_309
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v412 : Index := Scalar.indexCast v349
  ![3, v412.toNat]

def k1_chk9 (v417 : IVec S16 32) : Prop :=
  (∀ a x, ((![v417] : Fin 1 → IVec S16 32) a x).toNat < S8192.size a)
theorem k1_idx9_inb : ∀ (v417 : IVec S16 32) (k1_hw9 : k1_chk9 v417), ∀ a x, ((![v417] : Fin 1 → IVec S16 32) a x).toNat < S8192.size a := fun v417 k1_hw9 => k1_hw9
def k1_off12 (k1_t1 : Fin k1_t1_loop.trips) : Fin 2 → Nat :=
  let c4_i32_314 : BitVec 32 := 4#32
  let v423 : Index := Scalar.indexCast c4_i32_314
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v424 : Index := Scalar.indexCast v349
  ![4, v424.toNat]

def k1_chk10 (v34 : IVec S16 32) (v418 : IVec S16 32) : Prop :=
  (∀ a x, ((![v34, v418] : Fin 2 → IVec S16 32) a x).toNat < S16x1024.size a)
theorem k1_idx10_inb : ∀ (v34 : IVec S16 32) (v418 : IVec S16 32) (k1_hw10 : k1_chk10 v34 v418), ∀ a x, ((![v34, v418] : Fin 2 → IVec S16 32) a x).toNat < S16x1024.size a := fun v34 v418 k1_hw10 => k1_hw10
def k1_off13 (k1_t1 : Fin k1_t1_loop.trips) : Fin 2 → Nat :=
  let c4_i32_315 : BitVec 32 := 4#32
  let v427 : Index := Scalar.indexCast c4_i32_315
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v428 : Index := Scalar.indexCast v349
  ![4, v428.toNat]

def k1_chk11 (v433 : IVec S16 32) : Prop :=
  (∀ a x, ((![v433] : Fin 1 → IVec S16 32) a x).toNat < S8192.size a)
theorem k1_idx11_inb : ∀ (v433 : IVec S16 32) (k1_hw11 : k1_chk11 v433), ∀ a x, ((![v433] : Fin 1 → IVec S16 32) a x).toNat < S8192.size a := fun v433 k1_hw11 => k1_hw11
def k1_off14 (k1_t1 : Fin k1_t1_loop.trips) : Fin 2 → Nat :=
  let c5_i32_320 : BitVec 32 := 5#32
  let v439 : Index := Scalar.indexCast c5_i32_320
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v440 : Index := Scalar.indexCast v349
  ![5, v440.toNat]

def k1_chk12 (v34 : IVec S16 32) (v434 : IVec S16 32) : Prop :=
  (∀ a x, ((![v34, v434] : Fin 2 → IVec S16 32) a x).toNat < S16x1024.size a)
theorem k1_idx12_inb : ∀ (v34 : IVec S16 32) (v434 : IVec S16 32) (k1_hw12 : k1_chk12 v34 v434), ∀ a x, ((![v34, v434] : Fin 2 → IVec S16 32) a x).toNat < S16x1024.size a := fun v34 v434 k1_hw12 => k1_hw12
def k1_off15 (k1_t1 : Fin k1_t1_loop.trips) : Fin 2 → Nat :=
  let c5_i32_321 : BitVec 32 := 5#32
  let v443 : Index := Scalar.indexCast c5_i32_321
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v444 : Index := Scalar.indexCast v349
  ![5, v444.toNat]

def k1_chk13 (v449 : IVec S16 32) : Prop :=
  (∀ a x, ((![v449] : Fin 1 → IVec S16 32) a x).toNat < S8192.size a)
theorem k1_idx13_inb : ∀ (v449 : IVec S16 32) (k1_hw13 : k1_chk13 v449), ∀ a x, ((![v449] : Fin 1 → IVec S16 32) a x).toNat < S8192.size a := fun v449 k1_hw13 => k1_hw13
def k1_off16 (k1_t1 : Fin k1_t1_loop.trips) : Fin 2 → Nat :=
  let c6_i32_325 : BitVec 32 := 6#32
  let v455 : Index := Scalar.indexCast c6_i32_325
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v456 : Index := Scalar.indexCast v349
  ![6, v456.toNat]

def k1_chk14 (v34 : IVec S16 32) (v450 : IVec S16 32) : Prop :=
  (∀ a x, ((![v34, v450] : Fin 2 → IVec S16 32) a x).toNat < S16x1024.size a)
theorem k1_idx14_inb : ∀ (v34 : IVec S16 32) (v450 : IVec S16 32) (k1_hw14 : k1_chk14 v34 v450), ∀ a x, ((![v34, v450] : Fin 2 → IVec S16 32) a x).toNat < S16x1024.size a := fun v34 v450 k1_hw14 => k1_hw14
def k1_off17 (k1_t1 : Fin k1_t1_loop.trips) : Fin 2 → Nat :=
  let c6_i32_326 : BitVec 32 := 6#32
  let v459 : Index := Scalar.indexCast c6_i32_326
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v460 : Index := Scalar.indexCast v349
  ![6, v460.toNat]

def k1_chk15 (v465 : IVec S16 32) : Prop :=
  (∀ a x, ((![v465] : Fin 1 → IVec S16 32) a x).toNat < S8192.size a)
theorem k1_idx15_inb : ∀ (v465 : IVec S16 32) (k1_hw15 : k1_chk15 v465), ∀ a x, ((![v465] : Fin 1 → IVec S16 32) a x).toNat < S8192.size a := fun v465 k1_hw15 => k1_hw15
def k1_off18 (k1_t1 : Fin k1_t1_loop.trips) : Fin 2 → Nat :=
  let c7_i32_330 : BitVec 32 := 7#32
  let v471 : Index := Scalar.indexCast c7_i32_330
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v472 : Index := Scalar.indexCast v349
  ![7, v472.toNat]

def k1_chk16 (v34 : IVec S16 32) (v466 : IVec S16 32) : Prop :=
  (∀ a x, ((![v34, v466] : Fin 2 → IVec S16 32) a x).toNat < S16x1024.size a)
theorem k1_idx16_inb : ∀ (v34 : IVec S16 32) (v466 : IVec S16 32) (k1_hw16 : k1_chk16 v34 v466), ∀ a x, ((![v34, v466] : Fin 2 → IVec S16 32) a x).toNat < S16x1024.size a := fun v34 v466 k1_hw16 => k1_hw16
def k1_off19 (k1_t1 : Fin k1_t1_loop.trips) : Fin 2 → Nat :=
  let c7_i32_331 : BitVec 32 := 7#32
  let v475 : Index := Scalar.indexCast c7_i32_331
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v476 : Index := Scalar.indexCast v349
  ![7, v476.toNat]

def k1_chk17 (v481 : IVec S16 32) : Prop :=
  (∀ a x, ((![v481] : Fin 1 → IVec S16 32) a x).toNat < S8192.size a)
theorem k1_idx17_inb : ∀ (v481 : IVec S16 32) (k1_hw17 : k1_chk17 v481), ∀ a x, ((![v481] : Fin 1 → IVec S16 32) a x).toNat < S8192.size a := fun v481 k1_hw17 => k1_hw17
def k1_off20 (k1_t1 : Fin k1_t1_loop.trips) : Fin 2 → Nat :=
  let c8_i32_339 : BitVec 32 := 8#32
  let v494 : Index := Scalar.indexCast c8_i32_339
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v495 : Index := Scalar.indexCast v349
  ![8, v495.toNat]

def k1_chk18 (v34 : IVec S16 32) (v493 : IVec S16 32) : Prop :=
  (∀ a x, ((![v34, v493] : Fin 2 → IVec S16 32) a x).toNat < S16x1024.size a)
theorem k1_idx18_inb : ∀ (v34 : IVec S16 32) (v493 : IVec S16 32) (k1_hw18 : k1_chk18 v34 v493), ∀ a x, ((![v34, v493] : Fin 2 → IVec S16 32) a x).toNat < S16x1024.size a := fun v34 v493 k1_hw18 => k1_hw18
def k1_off21 (k1_t1 : Fin k1_t1_loop.trips) : Fin 2 → Nat :=
  let c8_i32_340 : BitVec 32 := 8#32
  let v498 : Index := Scalar.indexCast c8_i32_340
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v499 : Index := Scalar.indexCast v349
  ![8, v499.toNat]

def k1_chk19 (v504 : IVec S16 32) : Prop :=
  (∀ a x, ((![v504] : Fin 1 → IVec S16 32) a x).toNat < S8192.size a)
theorem k1_idx19_inb : ∀ (v504 : IVec S16 32) (k1_hw19 : k1_chk19 v504), ∀ a x, ((![v504] : Fin 1 → IVec S16 32) a x).toNat < S8192.size a := fun v504 k1_hw19 => k1_hw19
def k1_off22 (k1_t1 : Fin k1_t1_loop.trips) : Fin 2 → Nat :=
  let c9_i32 : BitVec 32 := 9#32
  let v517 : Index := Scalar.indexCast c9_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v518 : Index := Scalar.indexCast v349
  ![9, v518.toNat]

def k1_chk20 (v34 : IVec S16 32) (v516 : IVec S16 32) : Prop :=
  (∀ a x, ((![v34, v516] : Fin 2 → IVec S16 32) a x).toNat < S16x1024.size a)
theorem k1_idx20_inb : ∀ (v34 : IVec S16 32) (v516 : IVec S16 32) (k1_hw20 : k1_chk20 v34 v516), ∀ a x, ((![v34, v516] : Fin 2 → IVec S16 32) a x).toNat < S16x1024.size a := fun v34 v516 k1_hw20 => k1_hw20
def k1_off23 (k1_t1 : Fin k1_t1_loop.trips) : Fin 2 → Nat :=
  let c9_i32_348 : BitVec 32 := 9#32
  let v521 : Index := Scalar.indexCast c9_i32_348
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v522 : Index := Scalar.indexCast v349
  ![9, v522.toNat]

def k1_chk21 (v527 : IVec S16 32) : Prop :=
  (∀ a x, ((![v527] : Fin 1 → IVec S16 32) a x).toNat < S8192.size a)
theorem k1_idx21_inb : ∀ (v527 : IVec S16 32) (k1_hw21 : k1_chk21 v527), ∀ a x, ((![v527] : Fin 1 → IVec S16 32) a x).toNat < S8192.size a := fun v527 k1_hw21 => k1_hw21
def k1_off24 (k1_t1 : Fin k1_t1_loop.trips) : Fin 2 → Nat :=
  let c10_i32 : BitVec 32 := 10#32
  let v540 : Index := Scalar.indexCast c10_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v541 : Index := Scalar.indexCast v349
  ![10, v541.toNat]

def k1_chk22 (v34 : IVec S16 32) (v539 : IVec S16 32) : Prop :=
  (∀ a x, ((![v34, v539] : Fin 2 → IVec S16 32) a x).toNat < S16x1024.size a)
theorem k1_idx22_inb : ∀ (v34 : IVec S16 32) (v539 : IVec S16 32) (k1_hw22 : k1_chk22 v34 v539), ∀ a x, ((![v34, v539] : Fin 2 → IVec S16 32) a x).toNat < S16x1024.size a := fun v34 v539 k1_hw22 => k1_hw22
def k1_off25 (k1_t1 : Fin k1_t1_loop.trips) : Fin 2 → Nat :=
  let c10_i32_356 : BitVec 32 := 10#32
  let v544 : Index := Scalar.indexCast c10_i32_356
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v545 : Index := Scalar.indexCast v349
  ![10, v545.toNat]

def k1_chk23 (v550 : IVec S16 32) : Prop :=
  (∀ a x, ((![v550] : Fin 1 → IVec S16 32) a x).toNat < S8192.size a)
theorem k1_idx23_inb : ∀ (v550 : IVec S16 32) (k1_hw23 : k1_chk23 v550), ∀ a x, ((![v550] : Fin 1 → IVec S16 32) a x).toNat < S8192.size a := fun v550 k1_hw23 => k1_hw23
def k1_off26 (k1_t1 : Fin k1_t1_loop.trips) : Fin 2 → Nat :=
  let c11_i32 : BitVec 32 := 11#32
  let v563 : Index := Scalar.indexCast c11_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v564 : Index := Scalar.indexCast v349
  ![11, v564.toNat]

def k1_chk24 (v34 : IVec S16 32) (v562 : IVec S16 32) : Prop :=
  (∀ a x, ((![v34, v562] : Fin 2 → IVec S16 32) a x).toNat < S16x1024.size a)
theorem k1_idx24_inb : ∀ (v34 : IVec S16 32) (v562 : IVec S16 32) (k1_hw24 : k1_chk24 v34 v562), ∀ a x, ((![v34, v562] : Fin 2 → IVec S16 32) a x).toNat < S16x1024.size a := fun v34 v562 k1_hw24 => k1_hw24
def k1_off27 (k1_t1 : Fin k1_t1_loop.trips) : Fin 2 → Nat :=
  let c11_i32_364 : BitVec 32 := 11#32
  let v567 : Index := Scalar.indexCast c11_i32_364
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v568 : Index := Scalar.indexCast v349
  ![11, v568.toNat]

def k1_chk25 (v573 : IVec S16 32) : Prop :=
  (∀ a x, ((![v573] : Fin 1 → IVec S16 32) a x).toNat < S8192.size a)
theorem k1_idx25_inb : ∀ (v573 : IVec S16 32) (k1_hw25 : k1_chk25 v573), ∀ a x, ((![v573] : Fin 1 → IVec S16 32) a x).toNat < S8192.size a := fun v573 k1_hw25 => k1_hw25
def k1_off28 (k1_t1 : Fin k1_t1_loop.trips) : Fin 2 → Nat :=
  let c12_i32 : BitVec 32 := 12#32
  let v586 : Index := Scalar.indexCast c12_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v587 : Index := Scalar.indexCast v349
  ![12, v587.toNat]

def k1_chk26 (v34 : IVec S16 32) (v585 : IVec S16 32) : Prop :=
  (∀ a x, ((![v34, v585] : Fin 2 → IVec S16 32) a x).toNat < S16x1024.size a)
theorem k1_idx26_inb : ∀ (v34 : IVec S16 32) (v585 : IVec S16 32) (k1_hw26 : k1_chk26 v34 v585), ∀ a x, ((![v34, v585] : Fin 2 → IVec S16 32) a x).toNat < S16x1024.size a := fun v34 v585 k1_hw26 => k1_hw26
def k1_off29 (k1_t1 : Fin k1_t1_loop.trips) : Fin 2 → Nat :=
  let c12_i32_372 : BitVec 32 := 12#32
  let v590 : Index := Scalar.indexCast c12_i32_372
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v591 : Index := Scalar.indexCast v349
  ![12, v591.toNat]

def k1_chk27 (v596 : IVec S16 32) : Prop :=
  (∀ a x, ((![v596] : Fin 1 → IVec S16 32) a x).toNat < S8192.size a)
theorem k1_idx27_inb : ∀ (v596 : IVec S16 32) (k1_hw27 : k1_chk27 v596), ∀ a x, ((![v596] : Fin 1 → IVec S16 32) a x).toNat < S8192.size a := fun v596 k1_hw27 => k1_hw27
def k1_off30 (k1_t1 : Fin k1_t1_loop.trips) : Fin 2 → Nat :=
  let c13_i32 : BitVec 32 := 13#32
  let v609 : Index := Scalar.indexCast c13_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v610 : Index := Scalar.indexCast v349
  ![13, v610.toNat]

def k1_chk28 (v34 : IVec S16 32) (v608 : IVec S16 32) : Prop :=
  (∀ a x, ((![v34, v608] : Fin 2 → IVec S16 32) a x).toNat < S16x1024.size a)
theorem k1_idx28_inb : ∀ (v34 : IVec S16 32) (v608 : IVec S16 32) (k1_hw28 : k1_chk28 v34 v608), ∀ a x, ((![v34, v608] : Fin 2 → IVec S16 32) a x).toNat < S16x1024.size a := fun v34 v608 k1_hw28 => k1_hw28
def k1_off31 (k1_t1 : Fin k1_t1_loop.trips) : Fin 2 → Nat :=
  let c13_i32_380 : BitVec 32 := 13#32
  let v613 : Index := Scalar.indexCast c13_i32_380
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v614 : Index := Scalar.indexCast v349
  ![13, v614.toNat]

def k1_chk29 (v619 : IVec S16 32) : Prop :=
  (∀ a x, ((![v619] : Fin 1 → IVec S16 32) a x).toNat < S8192.size a)
theorem k1_idx29_inb : ∀ (v619 : IVec S16 32) (k1_hw29 : k1_chk29 v619), ∀ a x, ((![v619] : Fin 1 → IVec S16 32) a x).toNat < S8192.size a := fun v619 k1_hw29 => k1_hw29
def k1_off32 (k1_t1 : Fin k1_t1_loop.trips) : Fin 2 → Nat :=
  let c14_i32 : BitVec 32 := 14#32
  let v632 : Index := Scalar.indexCast c14_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v633 : Index := Scalar.indexCast v349
  ![14, v633.toNat]

def k1_chk30 (v34 : IVec S16 32) (v631 : IVec S16 32) : Prop :=
  (∀ a x, ((![v34, v631] : Fin 2 → IVec S16 32) a x).toNat < S16x1024.size a)
theorem k1_idx30_inb : ∀ (v34 : IVec S16 32) (v631 : IVec S16 32) (k1_hw30 : k1_chk30 v34 v631), ∀ a x, ((![v34, v631] : Fin 2 → IVec S16 32) a x).toNat < S16x1024.size a := fun v34 v631 k1_hw30 => k1_hw30
def k1_off33 (k1_t1 : Fin k1_t1_loop.trips) : Fin 2 → Nat :=
  let c14_i32_388 : BitVec 32 := 14#32
  let v636 : Index := Scalar.indexCast c14_i32_388
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v637 : Index := Scalar.indexCast v349
  ![14, v637.toNat]

def k1_chk31 (v642 : IVec S16 32) : Prop :=
  (∀ a x, ((![v642] : Fin 1 → IVec S16 32) a x).toNat < S8192.size a)
theorem k1_idx31_inb : ∀ (v642 : IVec S16 32) (k1_hw31 : k1_chk31 v642), ∀ a x, ((![v642] : Fin 1 → IVec S16 32) a x).toNat < S8192.size a := fun v642 k1_hw31 => k1_hw31
def k1_off34 (k1_t1 : Fin k1_t1_loop.trips) : Fin 2 → Nat :=
  let c15_i32 : BitVec 32 := 15#32
  let v655 : Index := Scalar.indexCast c15_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v656 : Index := Scalar.indexCast v349
  ![15, v656.toNat]

def k1_chk32 (v34 : IVec S16 32) (v654 : IVec S16 32) : Prop :=
  (∀ a x, ((![v34, v654] : Fin 2 → IVec S16 32) a x).toNat < S16x1024.size a)
theorem k1_idx32_inb : ∀ (v34 : IVec S16 32) (v654 : IVec S16 32) (k1_hw32 : k1_chk32 v34 v654), ∀ a x, ((![v34, v654] : Fin 2 → IVec S16 32) a x).toNat < S16x1024.size a := fun v34 v654 k1_hw32 => k1_hw32
def k1_off35 (k1_t1 : Fin k1_t1_loop.trips) : Fin 2 → Nat :=
  let c15_i32_396 : BitVec 32 := 15#32
  let v659 : Index := Scalar.indexCast c15_i32_396
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v660 : Index := Scalar.indexCast v349
  ![15, v660.toNat]

def k1_chk33 (v665 : IVec S16 32) : Prop :=
  (∀ a x, ((![v665] : Fin 1 → IVec S16 32) a x).toNat < S8192.size a)
theorem k1_idx33_inb : ∀ (v665 : IVec S16 32) (k1_hw33 : k1_chk33 v665), ∀ a x, ((![v665] : Fin 1 → IVec S16 32) a x).toNat < S8192.size a := fun v665 k1_hw33 => k1_hw33
def k1_off36 (k1_t1 : Fin k1_t1_loop.trips) : Fin 2 → Nat :=
  let c16_i32_404 : BitVec 32 := 16#32
  let v678 : Index := Scalar.indexCast c16_i32_404
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v679 : Index := Scalar.indexCast v349
  ![16, v679.toNat]

def k1_chk34 (v34 : IVec S16 32) (v677 : IVec S16 32) : Prop :=
  (∀ a x, ((![v34, v677] : Fin 2 → IVec S16 32) a x).toNat < S16x1024.size a)
theorem k1_idx34_inb : ∀ (v34 : IVec S16 32) (v677 : IVec S16 32) (k1_hw34 : k1_chk34 v34 v677), ∀ a x, ((![v34, v677] : Fin 2 → IVec S16 32) a x).toNat < S16x1024.size a := fun v34 v677 k1_hw34 => k1_hw34
def k1_off37 (k1_t1 : Fin k1_t1_loop.trips) : Fin 2 → Nat :=
  let c16_i32_405 : BitVec 32 := 16#32
  let v682 : Index := Scalar.indexCast c16_i32_405
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v683 : Index := Scalar.indexCast v349
  ![16, v683.toNat]

def k1_chk35 (v688 : IVec S16 32) : Prop :=
  (∀ a x, ((![v688] : Fin 1 → IVec S16 32) a x).toNat < S8192.size a)
theorem k1_idx35_inb : ∀ (v688 : IVec S16 32) (k1_hw35 : k1_chk35 v688), ∀ a x, ((![v688] : Fin 1 → IVec S16 32) a x).toNat < S8192.size a := fun v688 k1_hw35 => k1_hw35
def k1_off38 (k1_t1 : Fin k1_t1_loop.trips) : Fin 2 → Nat :=
  let c17_i32 : BitVec 32 := 17#32
  let v701 : Index := Scalar.indexCast c17_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v702 : Index := Scalar.indexCast v349
  ![17, v702.toNat]

def k1_chk36 (v34 : IVec S16 32) (v700 : IVec S16 32) : Prop :=
  (∀ a x, ((![v34, v700] : Fin 2 → IVec S16 32) a x).toNat < S16x1024.size a)
theorem k1_idx36_inb : ∀ (v34 : IVec S16 32) (v700 : IVec S16 32) (k1_hw36 : k1_chk36 v34 v700), ∀ a x, ((![v34, v700] : Fin 2 → IVec S16 32) a x).toNat < S16x1024.size a := fun v34 v700 k1_hw36 => k1_hw36
def k1_off39 (k1_t1 : Fin k1_t1_loop.trips) : Fin 2 → Nat :=
  let c17_i32_413 : BitVec 32 := 17#32
  let v705 : Index := Scalar.indexCast c17_i32_413
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v706 : Index := Scalar.indexCast v349
  ![17, v706.toNat]

def k1_chk37 (v711 : IVec S16 32) : Prop :=
  (∀ a x, ((![v711] : Fin 1 → IVec S16 32) a x).toNat < S8192.size a)
theorem k1_idx37_inb : ∀ (v711 : IVec S16 32) (k1_hw37 : k1_chk37 v711), ∀ a x, ((![v711] : Fin 1 → IVec S16 32) a x).toNat < S8192.size a := fun v711 k1_hw37 => k1_hw37
def k1_off40 (k1_t1 : Fin k1_t1_loop.trips) : Fin 2 → Nat :=
  let c18_i32 : BitVec 32 := 18#32
  let v724 : Index := Scalar.indexCast c18_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v725 : Index := Scalar.indexCast v349
  ![18, v725.toNat]

def k1_chk38 (v34 : IVec S16 32) (v723 : IVec S16 32) : Prop :=
  (∀ a x, ((![v34, v723] : Fin 2 → IVec S16 32) a x).toNat < S16x1024.size a)
theorem k1_idx38_inb : ∀ (v34 : IVec S16 32) (v723 : IVec S16 32) (k1_hw38 : k1_chk38 v34 v723), ∀ a x, ((![v34, v723] : Fin 2 → IVec S16 32) a x).toNat < S16x1024.size a := fun v34 v723 k1_hw38 => k1_hw38
def k1_off41 (k1_t1 : Fin k1_t1_loop.trips) : Fin 2 → Nat :=
  let c18_i32_421 : BitVec 32 := 18#32
  let v728 : Index := Scalar.indexCast c18_i32_421
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v729 : Index := Scalar.indexCast v349
  ![18, v729.toNat]

def k1_chk39 (v734 : IVec S16 32) : Prop :=
  (∀ a x, ((![v734] : Fin 1 → IVec S16 32) a x).toNat < S8192.size a)
theorem k1_idx39_inb : ∀ (v734 : IVec S16 32) (k1_hw39 : k1_chk39 v734), ∀ a x, ((![v734] : Fin 1 → IVec S16 32) a x).toNat < S8192.size a := fun v734 k1_hw39 => k1_hw39
def k1_off42 (k1_t1 : Fin k1_t1_loop.trips) : Fin 2 → Nat :=
  let c19_i32 : BitVec 32 := 19#32
  let v747 : Index := Scalar.indexCast c19_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v748 : Index := Scalar.indexCast v349
  ![19, v748.toNat]

def k1_chk40 (v34 : IVec S16 32) (v746 : IVec S16 32) : Prop :=
  (∀ a x, ((![v34, v746] : Fin 2 → IVec S16 32) a x).toNat < S16x1024.size a)
theorem k1_idx40_inb : ∀ (v34 : IVec S16 32) (v746 : IVec S16 32) (k1_hw40 : k1_chk40 v34 v746), ∀ a x, ((![v34, v746] : Fin 2 → IVec S16 32) a x).toNat < S16x1024.size a := fun v34 v746 k1_hw40 => k1_hw40
def k1_off43 (k1_t1 : Fin k1_t1_loop.trips) : Fin 2 → Nat :=
  let c19_i32_429 : BitVec 32 := 19#32
  let v751 : Index := Scalar.indexCast c19_i32_429
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v752 : Index := Scalar.indexCast v349
  ![19, v752.toNat]

def k1_chk41 (v757 : IVec S16 32) : Prop :=
  (∀ a x, ((![v757] : Fin 1 → IVec S16 32) a x).toNat < S8192.size a)
theorem k1_idx41_inb : ∀ (v757 : IVec S16 32) (k1_hw41 : k1_chk41 v757), ∀ a x, ((![v757] : Fin 1 → IVec S16 32) a x).toNat < S8192.size a := fun v757 k1_hw41 => k1_hw41
def k1_off44 (k1_t1 : Fin k1_t1_loop.trips) : Fin 2 → Nat :=
  let c20_i32 : BitVec 32 := 20#32
  let v770 : Index := Scalar.indexCast c20_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v771 : Index := Scalar.indexCast v349
  ![20, v771.toNat]

def k1_chk42 (v34 : IVec S16 32) (v769 : IVec S16 32) : Prop :=
  (∀ a x, ((![v34, v769] : Fin 2 → IVec S16 32) a x).toNat < S16x1024.size a)
theorem k1_idx42_inb : ∀ (v34 : IVec S16 32) (v769 : IVec S16 32) (k1_hw42 : k1_chk42 v34 v769), ∀ a x, ((![v34, v769] : Fin 2 → IVec S16 32) a x).toNat < S16x1024.size a := fun v34 v769 k1_hw42 => k1_hw42
def k1_off45 (k1_t1 : Fin k1_t1_loop.trips) : Fin 2 → Nat :=
  let c20_i32_437 : BitVec 32 := 20#32
  let v774 : Index := Scalar.indexCast c20_i32_437
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v775 : Index := Scalar.indexCast v349
  ![20, v775.toNat]

def k1_chk43 (v780 : IVec S16 32) : Prop :=
  (∀ a x, ((![v780] : Fin 1 → IVec S16 32) a x).toNat < S8192.size a)
theorem k1_idx43_inb : ∀ (v780 : IVec S16 32) (k1_hw43 : k1_chk43 v780), ∀ a x, ((![v780] : Fin 1 → IVec S16 32) a x).toNat < S8192.size a := fun v780 k1_hw43 => k1_hw43
def k1_off46 (k1_t1 : Fin k1_t1_loop.trips) : Fin 2 → Nat :=
  let c21_i32 : BitVec 32 := 21#32
  let v793 : Index := Scalar.indexCast c21_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v794 : Index := Scalar.indexCast v349
  ![21, v794.toNat]

def k1_chk44 (v34 : IVec S16 32) (v792 : IVec S16 32) : Prop :=
  (∀ a x, ((![v34, v792] : Fin 2 → IVec S16 32) a x).toNat < S16x1024.size a)
theorem k1_idx44_inb : ∀ (v34 : IVec S16 32) (v792 : IVec S16 32) (k1_hw44 : k1_chk44 v34 v792), ∀ a x, ((![v34, v792] : Fin 2 → IVec S16 32) a x).toNat < S16x1024.size a := fun v34 v792 k1_hw44 => k1_hw44
def k1_off47 (k1_t1 : Fin k1_t1_loop.trips) : Fin 2 → Nat :=
  let c21_i32_445 : BitVec 32 := 21#32
  let v797 : Index := Scalar.indexCast c21_i32_445
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v798 : Index := Scalar.indexCast v349
  ![21, v798.toNat]

def k1_chk45 (v803 : IVec S16 32) : Prop :=
  (∀ a x, ((![v803] : Fin 1 → IVec S16 32) a x).toNat < S8192.size a)
theorem k1_idx45_inb : ∀ (v803 : IVec S16 32) (k1_hw45 : k1_chk45 v803), ∀ a x, ((![v803] : Fin 1 → IVec S16 32) a x).toNat < S8192.size a := fun v803 k1_hw45 => k1_hw45
def k1_off48 (k1_t1 : Fin k1_t1_loop.trips) : Fin 2 → Nat :=
  let c22_i32 : BitVec 32 := 22#32
  let v816 : Index := Scalar.indexCast c22_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v817 : Index := Scalar.indexCast v349
  ![22, v817.toNat]

def k1_chk46 (v34 : IVec S16 32) (v815 : IVec S16 32) : Prop :=
  (∀ a x, ((![v34, v815] : Fin 2 → IVec S16 32) a x).toNat < S16x1024.size a)
theorem k1_idx46_inb : ∀ (v34 : IVec S16 32) (v815 : IVec S16 32) (k1_hw46 : k1_chk46 v34 v815), ∀ a x, ((![v34, v815] : Fin 2 → IVec S16 32) a x).toNat < S16x1024.size a := fun v34 v815 k1_hw46 => k1_hw46
def k1_off49 (k1_t1 : Fin k1_t1_loop.trips) : Fin 2 → Nat :=
  let c22_i32_453 : BitVec 32 := 22#32
  let v820 : Index := Scalar.indexCast c22_i32_453
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v821 : Index := Scalar.indexCast v349
  ![22, v821.toNat]

def k1_chk47 (v826 : IVec S16 32) : Prop :=
  (∀ a x, ((![v826] : Fin 1 → IVec S16 32) a x).toNat < S8192.size a)
theorem k1_idx47_inb : ∀ (v826 : IVec S16 32) (k1_hw47 : k1_chk47 v826), ∀ a x, ((![v826] : Fin 1 → IVec S16 32) a x).toNat < S8192.size a := fun v826 k1_hw47 => k1_hw47
def k1_off50 (k1_t1 : Fin k1_t1_loop.trips) : Fin 2 → Nat :=
  let c23_i32 : BitVec 32 := 23#32
  let v839 : Index := Scalar.indexCast c23_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v840 : Index := Scalar.indexCast v349
  ![23, v840.toNat]

def k1_chk48 (v34 : IVec S16 32) (v838 : IVec S16 32) : Prop :=
  (∀ a x, ((![v34, v838] : Fin 2 → IVec S16 32) a x).toNat < S16x1024.size a)
theorem k1_idx48_inb : ∀ (v34 : IVec S16 32) (v838 : IVec S16 32) (k1_hw48 : k1_chk48 v34 v838), ∀ a x, ((![v34, v838] : Fin 2 → IVec S16 32) a x).toNat < S16x1024.size a := fun v34 v838 k1_hw48 => k1_hw48
def k1_off51 (k1_t1 : Fin k1_t1_loop.trips) : Fin 2 → Nat :=
  let c23_i32_461 : BitVec 32 := 23#32
  let v843 : Index := Scalar.indexCast c23_i32_461
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v844 : Index := Scalar.indexCast v349
  ![23, v844.toNat]

def k1_chk49 (v849 : IVec S16 32) : Prop :=
  (∀ a x, ((![v849] : Fin 1 → IVec S16 32) a x).toNat < S8192.size a)
theorem k1_idx49_inb : ∀ (v849 : IVec S16 32) (k1_hw49 : k1_chk49 v849), ∀ a x, ((![v849] : Fin 1 → IVec S16 32) a x).toNat < S8192.size a := fun v849 k1_hw49 => k1_hw49
def k1_off52 (k1_t1 : Fin k1_t1_loop.trips) : Fin 2 → Nat :=
  let c24_i32 : BitVec 32 := 24#32
  let v862 : Index := Scalar.indexCast c24_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v863 : Index := Scalar.indexCast v349
  ![24, v863.toNat]

def k1_chk50 (v34 : IVec S16 32) (v861 : IVec S16 32) : Prop :=
  (∀ a x, ((![v34, v861] : Fin 2 → IVec S16 32) a x).toNat < S16x1024.size a)
theorem k1_idx50_inb : ∀ (v34 : IVec S16 32) (v861 : IVec S16 32) (k1_hw50 : k1_chk50 v34 v861), ∀ a x, ((![v34, v861] : Fin 2 → IVec S16 32) a x).toNat < S16x1024.size a := fun v34 v861 k1_hw50 => k1_hw50
def k1_off53 (k1_t1 : Fin k1_t1_loop.trips) : Fin 2 → Nat :=
  let c24_i32_469 : BitVec 32 := 24#32
  let v866 : Index := Scalar.indexCast c24_i32_469
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v867 : Index := Scalar.indexCast v349
  ![24, v867.toNat]

def k1_chk51 (v872 : IVec S16 32) : Prop :=
  (∀ a x, ((![v872] : Fin 1 → IVec S16 32) a x).toNat < S8192.size a)
theorem k1_idx51_inb : ∀ (v872 : IVec S16 32) (k1_hw51 : k1_chk51 v872), ∀ a x, ((![v872] : Fin 1 → IVec S16 32) a x).toNat < S8192.size a := fun v872 k1_hw51 => k1_hw51
def k1_off54 (k1_t1 : Fin k1_t1_loop.trips) : Fin 2 → Nat :=
  let c25_i32 : BitVec 32 := 25#32
  let v885 : Index := Scalar.indexCast c25_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v886 : Index := Scalar.indexCast v349
  ![25, v886.toNat]

def k1_chk52 (v34 : IVec S16 32) (v884 : IVec S16 32) : Prop :=
  (∀ a x, ((![v34, v884] : Fin 2 → IVec S16 32) a x).toNat < S16x1024.size a)
theorem k1_idx52_inb : ∀ (v34 : IVec S16 32) (v884 : IVec S16 32) (k1_hw52 : k1_chk52 v34 v884), ∀ a x, ((![v34, v884] : Fin 2 → IVec S16 32) a x).toNat < S16x1024.size a := fun v34 v884 k1_hw52 => k1_hw52
def k1_off55 (k1_t1 : Fin k1_t1_loop.trips) : Fin 2 → Nat :=
  let c25_i32_477 : BitVec 32 := 25#32
  let v889 : Index := Scalar.indexCast c25_i32_477
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v890 : Index := Scalar.indexCast v349
  ![25, v890.toNat]

def k1_chk53 (v895 : IVec S16 32) : Prop :=
  (∀ a x, ((![v895] : Fin 1 → IVec S16 32) a x).toNat < S8192.size a)
theorem k1_idx53_inb : ∀ (v895 : IVec S16 32) (k1_hw53 : k1_chk53 v895), ∀ a x, ((![v895] : Fin 1 → IVec S16 32) a x).toNat < S8192.size a := fun v895 k1_hw53 => k1_hw53
def k1_off56 (k1_t1 : Fin k1_t1_loop.trips) : Fin 2 → Nat :=
  let c26_i32 : BitVec 32 := 26#32
  let v908 : Index := Scalar.indexCast c26_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v909 : Index := Scalar.indexCast v349
  ![26, v909.toNat]

def k1_chk54 (v34 : IVec S16 32) (v907 : IVec S16 32) : Prop :=
  (∀ a x, ((![v34, v907] : Fin 2 → IVec S16 32) a x).toNat < S16x1024.size a)
theorem k1_idx54_inb : ∀ (v34 : IVec S16 32) (v907 : IVec S16 32) (k1_hw54 : k1_chk54 v34 v907), ∀ a x, ((![v34, v907] : Fin 2 → IVec S16 32) a x).toNat < S16x1024.size a := fun v34 v907 k1_hw54 => k1_hw54
def k1_off57 (k1_t1 : Fin k1_t1_loop.trips) : Fin 2 → Nat :=
  let c26_i32_485 : BitVec 32 := 26#32
  let v912 : Index := Scalar.indexCast c26_i32_485
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v913 : Index := Scalar.indexCast v349
  ![26, v913.toNat]

def k1_chk55 (v918 : IVec S16 32) : Prop :=
  (∀ a x, ((![v918] : Fin 1 → IVec S16 32) a x).toNat < S8192.size a)
theorem k1_idx55_inb : ∀ (v918 : IVec S16 32) (k1_hw55 : k1_chk55 v918), ∀ a x, ((![v918] : Fin 1 → IVec S16 32) a x).toNat < S8192.size a := fun v918 k1_hw55 => k1_hw55
def k1_off58 (k1_t1 : Fin k1_t1_loop.trips) : Fin 2 → Nat :=
  let c27_i32 : BitVec 32 := 27#32
  let v931 : Index := Scalar.indexCast c27_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v932 : Index := Scalar.indexCast v349
  ![27, v932.toNat]

def k1_chk56 (v34 : IVec S16 32) (v930 : IVec S16 32) : Prop :=
  (∀ a x, ((![v34, v930] : Fin 2 → IVec S16 32) a x).toNat < S16x1024.size a)
theorem k1_idx56_inb : ∀ (v34 : IVec S16 32) (v930 : IVec S16 32) (k1_hw56 : k1_chk56 v34 v930), ∀ a x, ((![v34, v930] : Fin 2 → IVec S16 32) a x).toNat < S16x1024.size a := fun v34 v930 k1_hw56 => k1_hw56
def k1_off59 (k1_t1 : Fin k1_t1_loop.trips) : Fin 2 → Nat :=
  let c27_i32_493 : BitVec 32 := 27#32
  let v935 : Index := Scalar.indexCast c27_i32_493
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v936 : Index := Scalar.indexCast v349
  ![27, v936.toNat]

def k1_chk57 (v941 : IVec S16 32) : Prop :=
  (∀ a x, ((![v941] : Fin 1 → IVec S16 32) a x).toNat < S8192.size a)
theorem k1_idx57_inb : ∀ (v941 : IVec S16 32) (k1_hw57 : k1_chk57 v941), ∀ a x, ((![v941] : Fin 1 → IVec S16 32) a x).toNat < S8192.size a := fun v941 k1_hw57 => k1_hw57
def k1_off60 (k1_t1 : Fin k1_t1_loop.trips) : Fin 2 → Nat :=
  let c28_i32 : BitVec 32 := 28#32
  let v954 : Index := Scalar.indexCast c28_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v955 : Index := Scalar.indexCast v349
  ![28, v955.toNat]

def k1_chk58 (v34 : IVec S16 32) (v953 : IVec S16 32) : Prop :=
  (∀ a x, ((![v34, v953] : Fin 2 → IVec S16 32) a x).toNat < S16x1024.size a)
theorem k1_idx58_inb : ∀ (v34 : IVec S16 32) (v953 : IVec S16 32) (k1_hw58 : k1_chk58 v34 v953), ∀ a x, ((![v34, v953] : Fin 2 → IVec S16 32) a x).toNat < S16x1024.size a := fun v34 v953 k1_hw58 => k1_hw58
def k1_off61 (k1_t1 : Fin k1_t1_loop.trips) : Fin 2 → Nat :=
  let c28_i32_501 : BitVec 32 := 28#32
  let v958 : Index := Scalar.indexCast c28_i32_501
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v959 : Index := Scalar.indexCast v349
  ![28, v959.toNat]

def k1_chk59 (v964 : IVec S16 32) : Prop :=
  (∀ a x, ((![v964] : Fin 1 → IVec S16 32) a x).toNat < S8192.size a)
theorem k1_idx59_inb : ∀ (v964 : IVec S16 32) (k1_hw59 : k1_chk59 v964), ∀ a x, ((![v964] : Fin 1 → IVec S16 32) a x).toNat < S8192.size a := fun v964 k1_hw59 => k1_hw59
def k1_off62 (k1_t1 : Fin k1_t1_loop.trips) : Fin 2 → Nat :=
  let c29_i32 : BitVec 32 := 29#32
  let v977 : Index := Scalar.indexCast c29_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v978 : Index := Scalar.indexCast v349
  ![29, v978.toNat]

def k1_chk60 (v34 : IVec S16 32) (v976 : IVec S16 32) : Prop :=
  (∀ a x, ((![v34, v976] : Fin 2 → IVec S16 32) a x).toNat < S16x1024.size a)
theorem k1_idx60_inb : ∀ (v34 : IVec S16 32) (v976 : IVec S16 32) (k1_hw60 : k1_chk60 v34 v976), ∀ a x, ((![v34, v976] : Fin 2 → IVec S16 32) a x).toNat < S16x1024.size a := fun v34 v976 k1_hw60 => k1_hw60
def k1_off63 (k1_t1 : Fin k1_t1_loop.trips) : Fin 2 → Nat :=
  let c29_i32_509 : BitVec 32 := 29#32
  let v981 : Index := Scalar.indexCast c29_i32_509
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v982 : Index := Scalar.indexCast v349
  ![29, v982.toNat]

def k1_chk61 (v987 : IVec S16 32) : Prop :=
  (∀ a x, ((![v987] : Fin 1 → IVec S16 32) a x).toNat < S8192.size a)
theorem k1_idx61_inb : ∀ (v987 : IVec S16 32) (k1_hw61 : k1_chk61 v987), ∀ a x, ((![v987] : Fin 1 → IVec S16 32) a x).toNat < S8192.size a := fun v987 k1_hw61 => k1_hw61
def k1_off64 (k1_t1 : Fin k1_t1_loop.trips) : Fin 2 → Nat :=
  let c30_i32 : BitVec 32 := 30#32
  let v1000 : Index := Scalar.indexCast c30_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1001 : Index := Scalar.indexCast v349
  ![30, v1001.toNat]

def k1_chk62 (v34 : IVec S16 32) (v999 : IVec S16 32) : Prop :=
  (∀ a x, ((![v34, v999] : Fin 2 → IVec S16 32) a x).toNat < S16x1024.size a)
theorem k1_idx62_inb : ∀ (v34 : IVec S16 32) (v999 : IVec S16 32) (k1_hw62 : k1_chk62 v34 v999), ∀ a x, ((![v34, v999] : Fin 2 → IVec S16 32) a x).toNat < S16x1024.size a := fun v34 v999 k1_hw62 => k1_hw62
def k1_off65 (k1_t1 : Fin k1_t1_loop.trips) : Fin 2 → Nat :=
  let c30_i32_517 : BitVec 32 := 30#32
  let v1004 : Index := Scalar.indexCast c30_i32_517
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1005 : Index := Scalar.indexCast v349
  ![30, v1005.toNat]

def k1_chk63 (v1010 : IVec S16 32) : Prop :=
  (∀ a x, ((![v1010] : Fin 1 → IVec S16 32) a x).toNat < S8192.size a)
theorem k1_idx63_inb : ∀ (v1010 : IVec S16 32) (k1_hw63 : k1_chk63 v1010), ∀ a x, ((![v1010] : Fin 1 → IVec S16 32) a x).toNat < S8192.size a := fun v1010 k1_hw63 => k1_hw63
def k1_off66 (k1_t1 : Fin k1_t1_loop.trips) : Fin 2 → Nat :=
  let c31_i32_525 : BitVec 32 := 31#32
  let v1023 : Index := Scalar.indexCast c31_i32_525
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1024 : Index := Scalar.indexCast v349
  ![31, v1024.toNat]

def k1_chk64 (v34 : IVec S16 32) (v1022 : IVec S16 32) : Prop :=
  (∀ a x, ((![v34, v1022] : Fin 2 → IVec S16 32) a x).toNat < S16x1024.size a)
theorem k1_idx64_inb : ∀ (v34 : IVec S16 32) (v1022 : IVec S16 32) (k1_hw64 : k1_chk64 v34 v1022), ∀ a x, ((![v34, v1022] : Fin 2 → IVec S16 32) a x).toNat < S16x1024.size a := fun v34 v1022 k1_hw64 => k1_hw64
def k1_off67 (k1_t1 : Fin k1_t1_loop.trips) : Fin 2 → Nat :=
  let c31_i32_526 : BitVec 32 := 31#32
  let v1027 : Index := Scalar.indexCast c31_i32_526
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1028 : Index := Scalar.indexCast v349
  ![31, v1028.toNat]

def k1_chk65 (v1033 : IVec S16 32) : Prop :=
  (∀ a x, ((![v1033] : Fin 1 → IVec S16 32) a x).toNat < S8192.size a)
theorem k1_idx65_inb : ∀ (v1033 : IVec S16 32) (k1_hw65 : k1_chk65 v1033), ∀ a x, ((![v1033] : Fin 1 → IVec S16 32) a x).toNat < S8192.size a := fun v1033 k1_hw65 => k1_hw65
def k1_off68 (k1_t1 : Fin k1_t1_loop.trips) : Fin 2 → Nat :=
  let c32_i32_534 : BitVec 32 := 32#32
  let v1046 : Index := Scalar.indexCast c32_i32_534
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1047 : Index := Scalar.indexCast v349
  ![32, v1047.toNat]

def k1_chk66 (v34 : IVec S16 32) (v1045 : IVec S16 32) : Prop :=
  (∀ a x, ((![v34, v1045] : Fin 2 → IVec S16 32) a x).toNat < S16x1024.size a)
theorem k1_idx66_inb : ∀ (v34 : IVec S16 32) (v1045 : IVec S16 32) (k1_hw66 : k1_chk66 v34 v1045), ∀ a x, ((![v34, v1045] : Fin 2 → IVec S16 32) a x).toNat < S16x1024.size a := fun v34 v1045 k1_hw66 => k1_hw66
def k1_off69 (k1_t1 : Fin k1_t1_loop.trips) : Fin 2 → Nat :=
  let c32_i32_535 : BitVec 32 := 32#32
  let v1050 : Index := Scalar.indexCast c32_i32_535
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1051 : Index := Scalar.indexCast v349
  ![32, v1051.toNat]

def k1_chk67 (v1056 : IVec S16 32) : Prop :=
  (∀ a x, ((![v1056] : Fin 1 → IVec S16 32) a x).toNat < S8192.size a)
theorem k1_idx67_inb : ∀ (v1056 : IVec S16 32) (k1_hw67 : k1_chk67 v1056), ∀ a x, ((![v1056] : Fin 1 → IVec S16 32) a x).toNat < S8192.size a := fun v1056 k1_hw67 => k1_hw67
def k1_off70 (k1_t1 : Fin k1_t1_loop.trips) : Fin 2 → Nat :=
  let c33_i32 : BitVec 32 := 33#32
  let v1069 : Index := Scalar.indexCast c33_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1070 : Index := Scalar.indexCast v349
  ![33, v1070.toNat]

def k1_chk68 (v34 : IVec S16 32) (v1068 : IVec S16 32) : Prop :=
  (∀ a x, ((![v34, v1068] : Fin 2 → IVec S16 32) a x).toNat < S16x1024.size a)
theorem k1_idx68_inb : ∀ (v34 : IVec S16 32) (v1068 : IVec S16 32) (k1_hw68 : k1_chk68 v34 v1068), ∀ a x, ((![v34, v1068] : Fin 2 → IVec S16 32) a x).toNat < S16x1024.size a := fun v34 v1068 k1_hw68 => k1_hw68
def k1_off71 (k1_t1 : Fin k1_t1_loop.trips) : Fin 2 → Nat :=
  let c33_i32_543 : BitVec 32 := 33#32
  let v1073 : Index := Scalar.indexCast c33_i32_543
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1074 : Index := Scalar.indexCast v349
  ![33, v1074.toNat]

def k1_chk69 (v1079 : IVec S16 32) : Prop :=
  (∀ a x, ((![v1079] : Fin 1 → IVec S16 32) a x).toNat < S8192.size a)
theorem k1_idx69_inb : ∀ (v1079 : IVec S16 32) (k1_hw69 : k1_chk69 v1079), ∀ a x, ((![v1079] : Fin 1 → IVec S16 32) a x).toNat < S8192.size a := fun v1079 k1_hw69 => k1_hw69
def k1_off72 (k1_t1 : Fin k1_t1_loop.trips) : Fin 2 → Nat :=
  let c34_i32 : BitVec 32 := 34#32
  let v1092 : Index := Scalar.indexCast c34_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1093 : Index := Scalar.indexCast v349
  ![34, v1093.toNat]

def k1_chk70 (v34 : IVec S16 32) (v1091 : IVec S16 32) : Prop :=
  (∀ a x, ((![v34, v1091] : Fin 2 → IVec S16 32) a x).toNat < S16x1024.size a)
theorem k1_idx70_inb : ∀ (v34 : IVec S16 32) (v1091 : IVec S16 32) (k1_hw70 : k1_chk70 v34 v1091), ∀ a x, ((![v34, v1091] : Fin 2 → IVec S16 32) a x).toNat < S16x1024.size a := fun v34 v1091 k1_hw70 => k1_hw70
def k1_off73 (k1_t1 : Fin k1_t1_loop.trips) : Fin 2 → Nat :=
  let c34_i32_551 : BitVec 32 := 34#32
  let v1096 : Index := Scalar.indexCast c34_i32_551
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1097 : Index := Scalar.indexCast v349
  ![34, v1097.toNat]

def k1_chk71 (v1102 : IVec S16 32) : Prop :=
  (∀ a x, ((![v1102] : Fin 1 → IVec S16 32) a x).toNat < S8192.size a)
theorem k1_idx71_inb : ∀ (v1102 : IVec S16 32) (k1_hw71 : k1_chk71 v1102), ∀ a x, ((![v1102] : Fin 1 → IVec S16 32) a x).toNat < S8192.size a := fun v1102 k1_hw71 => k1_hw71
def k1_off74 (k1_t1 : Fin k1_t1_loop.trips) : Fin 2 → Nat :=
  let c35_i32 : BitVec 32 := 35#32
  let v1115 : Index := Scalar.indexCast c35_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1116 : Index := Scalar.indexCast v349
  ![35, v1116.toNat]

def k1_chk72 (v34 : IVec S16 32) (v1114 : IVec S16 32) : Prop :=
  (∀ a x, ((![v34, v1114] : Fin 2 → IVec S16 32) a x).toNat < S16x1024.size a)
theorem k1_idx72_inb : ∀ (v34 : IVec S16 32) (v1114 : IVec S16 32) (k1_hw72 : k1_chk72 v34 v1114), ∀ a x, ((![v34, v1114] : Fin 2 → IVec S16 32) a x).toNat < S16x1024.size a := fun v34 v1114 k1_hw72 => k1_hw72
def k1_off75 (k1_t1 : Fin k1_t1_loop.trips) : Fin 2 → Nat :=
  let c35_i32_559 : BitVec 32 := 35#32
  let v1119 : Index := Scalar.indexCast c35_i32_559
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1120 : Index := Scalar.indexCast v349
  ![35, v1120.toNat]

def k1_chk73 (v1125 : IVec S16 32) : Prop :=
  (∀ a x, ((![v1125] : Fin 1 → IVec S16 32) a x).toNat < S8192.size a)
theorem k1_idx73_inb : ∀ (v1125 : IVec S16 32) (k1_hw73 : k1_chk73 v1125), ∀ a x, ((![v1125] : Fin 1 → IVec S16 32) a x).toNat < S8192.size a := fun v1125 k1_hw73 => k1_hw73
def k1_off76 (k1_t1 : Fin k1_t1_loop.trips) : Fin 2 → Nat :=
  let c36_i32 : BitVec 32 := 36#32
  let v1138 : Index := Scalar.indexCast c36_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1139 : Index := Scalar.indexCast v349
  ![36, v1139.toNat]

def k1_chk74 (v34 : IVec S16 32) (v1137 : IVec S16 32) : Prop :=
  (∀ a x, ((![v34, v1137] : Fin 2 → IVec S16 32) a x).toNat < S16x1024.size a)
theorem k1_idx74_inb : ∀ (v34 : IVec S16 32) (v1137 : IVec S16 32) (k1_hw74 : k1_chk74 v34 v1137), ∀ a x, ((![v34, v1137] : Fin 2 → IVec S16 32) a x).toNat < S16x1024.size a := fun v34 v1137 k1_hw74 => k1_hw74
def k1_off77 (k1_t1 : Fin k1_t1_loop.trips) : Fin 2 → Nat :=
  let c36_i32_567 : BitVec 32 := 36#32
  let v1142 : Index := Scalar.indexCast c36_i32_567
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1143 : Index := Scalar.indexCast v349
  ![36, v1143.toNat]

def k1_chk75 (v1148 : IVec S16 32) : Prop :=
  (∀ a x, ((![v1148] : Fin 1 → IVec S16 32) a x).toNat < S8192.size a)
theorem k1_idx75_inb : ∀ (v1148 : IVec S16 32) (k1_hw75 : k1_chk75 v1148), ∀ a x, ((![v1148] : Fin 1 → IVec S16 32) a x).toNat < S8192.size a := fun v1148 k1_hw75 => k1_hw75
def k1_off78 (k1_t1 : Fin k1_t1_loop.trips) : Fin 2 → Nat :=
  let c37_i32 : BitVec 32 := 37#32
  let v1161 : Index := Scalar.indexCast c37_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1162 : Index := Scalar.indexCast v349
  ![37, v1162.toNat]

def k1_chk76 (v34 : IVec S16 32) (v1160 : IVec S16 32) : Prop :=
  (∀ a x, ((![v34, v1160] : Fin 2 → IVec S16 32) a x).toNat < S16x1024.size a)
theorem k1_idx76_inb : ∀ (v34 : IVec S16 32) (v1160 : IVec S16 32) (k1_hw76 : k1_chk76 v34 v1160), ∀ a x, ((![v34, v1160] : Fin 2 → IVec S16 32) a x).toNat < S16x1024.size a := fun v34 v1160 k1_hw76 => k1_hw76
def k1_off79 (k1_t1 : Fin k1_t1_loop.trips) : Fin 2 → Nat :=
  let c37_i32_575 : BitVec 32 := 37#32
  let v1165 : Index := Scalar.indexCast c37_i32_575
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1166 : Index := Scalar.indexCast v349
  ![37, v1166.toNat]

def k1_chk77 (v1171 : IVec S16 32) : Prop :=
  (∀ a x, ((![v1171] : Fin 1 → IVec S16 32) a x).toNat < S8192.size a)
theorem k1_idx77_inb : ∀ (v1171 : IVec S16 32) (k1_hw77 : k1_chk77 v1171), ∀ a x, ((![v1171] : Fin 1 → IVec S16 32) a x).toNat < S8192.size a := fun v1171 k1_hw77 => k1_hw77
def k1_off80 (k1_t1 : Fin k1_t1_loop.trips) : Fin 2 → Nat :=
  let c38_i32 : BitVec 32 := 38#32
  let v1184 : Index := Scalar.indexCast c38_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1185 : Index := Scalar.indexCast v349
  ![38, v1185.toNat]

def k1_chk78 (v34 : IVec S16 32) (v1183 : IVec S16 32) : Prop :=
  (∀ a x, ((![v34, v1183] : Fin 2 → IVec S16 32) a x).toNat < S16x1024.size a)
theorem k1_idx78_inb : ∀ (v34 : IVec S16 32) (v1183 : IVec S16 32) (k1_hw78 : k1_chk78 v34 v1183), ∀ a x, ((![v34, v1183] : Fin 2 → IVec S16 32) a x).toNat < S16x1024.size a := fun v34 v1183 k1_hw78 => k1_hw78
def k1_off81 (k1_t1 : Fin k1_t1_loop.trips) : Fin 2 → Nat :=
  let c38_i32_583 : BitVec 32 := 38#32
  let v1188 : Index := Scalar.indexCast c38_i32_583
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1189 : Index := Scalar.indexCast v349
  ![38, v1189.toNat]

def k1_chk79 (v1194 : IVec S16 32) : Prop :=
  (∀ a x, ((![v1194] : Fin 1 → IVec S16 32) a x).toNat < S8192.size a)
theorem k1_idx79_inb : ∀ (v1194 : IVec S16 32) (k1_hw79 : k1_chk79 v1194), ∀ a x, ((![v1194] : Fin 1 → IVec S16 32) a x).toNat < S8192.size a := fun v1194 k1_hw79 => k1_hw79
def k1_off82 (k1_t1 : Fin k1_t1_loop.trips) : Fin 2 → Nat :=
  let c39_i32 : BitVec 32 := 39#32
  let v1207 : Index := Scalar.indexCast c39_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1208 : Index := Scalar.indexCast v349
  ![39, v1208.toNat]

def k1_chk80 (v34 : IVec S16 32) (v1206 : IVec S16 32) : Prop :=
  (∀ a x, ((![v34, v1206] : Fin 2 → IVec S16 32) a x).toNat < S16x1024.size a)
theorem k1_idx80_inb : ∀ (v34 : IVec S16 32) (v1206 : IVec S16 32) (k1_hw80 : k1_chk80 v34 v1206), ∀ a x, ((![v34, v1206] : Fin 2 → IVec S16 32) a x).toNat < S16x1024.size a := fun v34 v1206 k1_hw80 => k1_hw80
def k1_off83 (k1_t1 : Fin k1_t1_loop.trips) : Fin 2 → Nat :=
  let c39_i32_591 : BitVec 32 := 39#32
  let v1211 : Index := Scalar.indexCast c39_i32_591
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c16_i32_286 : BitVec 32 := 16#32
  let v349 : BitVec 32 := Scalar.muli v306 c16_i32_286
  let v1212 : Index := Scalar.indexCast v349
  ![39, v1212.toNat]
def k1_off84 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32 : BitVec 32 := 2#32
  let c0_i32_19 : BitVec 32 := 0#32
  let c1_i32_21 : BitVec 32 := 1#32
  let arg13 : BitVec 32 := Scf.iv c0_i32_19 c1_i32_21 k1_t1
  let v306 : BitVec 32 := Scalar.muli c2_i32 arg13
  let c2_i32_592 : BitVec 32 := 2#32
  let v1214 : BitVec 32 := Scalar.addi v306 c2_i32_592
  let c7_i32_593 : BitVec 32 := 7#32
  let v1215 : BitVec 32 := Scalar.minsi v1214 c7_i32_593
  let c16_i32_594 : BitVec 32 := 16#32
  let v1216 : BitVec 32 := Scalar.muli v1215 c16_i32_594
  let v1217 : BitVec 32 := Scalar.addi v2 v1216
  let c0_i32_595 : BitVec 32 := 0#32
  ![v1217.toNat, 0]
def k1_off85 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_597 : BitVec 32 := 16#32
  let v1220 : BitVec 32 := Scalar.muli v308 c16_i32_597
  let v1221 : BitVec 32 := Scalar.addi v2 v1220
  let c0_i32_598 : BitVec 32 := 0#32
  ![v1221.toNat, 0]

def k1_chk81 (v1264 : IVec S16 32) : Prop :=
  (∀ a x, ((![v1264] : Fin 1 → IVec S16 32) a x).toNat < S8192.size a)
theorem k1_idx81_inb : ∀ (v1264 : IVec S16 32) (k1_hw81 : k1_chk81 v1264), ∀ a x, ((![v1264] : Fin 1 → IVec S16 32) a x).toNat < S8192.size a := fun v1264 k1_hw81 => k1_hw81
def k1_off86 (k1_t1 : Fin k1_t1_loop.trips) : Fin 2 → Nat :=
  let c0_i32_620 : BitVec 32 := 0#32
  let v1270 : Index := Scalar.indexCast c0_i32_620
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1271 : Index := Scalar.indexCast v1260
  ![0, v1271.toNat]

def k1_chk82 (v34 : IVec S16 32) (v1265 : IVec S16 32) : Prop :=
  (∀ a x, ((![v34, v1265] : Fin 2 → IVec S16 32) a x).toNat < S16x1024.size a)
theorem k1_idx82_inb : ∀ (v34 : IVec S16 32) (v1265 : IVec S16 32) (k1_hw82 : k1_chk82 v34 v1265), ∀ a x, ((![v34, v1265] : Fin 2 → IVec S16 32) a x).toNat < S16x1024.size a := fun v34 v1265 k1_hw82 => k1_hw82
def k1_off87 (k1_t1 : Fin k1_t1_loop.trips) : Fin 2 → Nat :=
  let c0_i32_621 : BitVec 32 := 0#32
  let v1274 : Index := Scalar.indexCast c0_i32_621
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1275 : Index := Scalar.indexCast v1260
  ![0, v1275.toNat]

def k1_chk83 (v1280 : IVec S16 32) : Prop :=
  (∀ a x, ((![v1280] : Fin 1 → IVec S16 32) a x).toNat < S8192.size a)
theorem k1_idx83_inb : ∀ (v1280 : IVec S16 32) (k1_hw83 : k1_chk83 v1280), ∀ a x, ((![v1280] : Fin 1 → IVec S16 32) a x).toNat < S8192.size a := fun v1280 k1_hw83 => k1_hw83
def k1_off88 (k1_t1 : Fin k1_t1_loop.trips) : Fin 2 → Nat :=
  let c1_i32_626 : BitVec 32 := 1#32
  let v1286 : Index := Scalar.indexCast c1_i32_626
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1287 : Index := Scalar.indexCast v1260
  ![1, v1287.toNat]

def k1_chk84 (v34 : IVec S16 32) (v1281 : IVec S16 32) : Prop :=
  (∀ a x, ((![v34, v1281] : Fin 2 → IVec S16 32) a x).toNat < S16x1024.size a)
theorem k1_idx84_inb : ∀ (v34 : IVec S16 32) (v1281 : IVec S16 32) (k1_hw84 : k1_chk84 v34 v1281), ∀ a x, ((![v34, v1281] : Fin 2 → IVec S16 32) a x).toNat < S16x1024.size a := fun v34 v1281 k1_hw84 => k1_hw84
def k1_off89 (k1_t1 : Fin k1_t1_loop.trips) : Fin 2 → Nat :=
  let c1_i32_627 : BitVec 32 := 1#32
  let v1290 : Index := Scalar.indexCast c1_i32_627
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1291 : Index := Scalar.indexCast v1260
  ![1, v1291.toNat]

def k1_chk85 (v1296 : IVec S16 32) : Prop :=
  (∀ a x, ((![v1296] : Fin 1 → IVec S16 32) a x).toNat < S8192.size a)
theorem k1_idx85_inb : ∀ (v1296 : IVec S16 32) (k1_hw85 : k1_chk85 v1296), ∀ a x, ((![v1296] : Fin 1 → IVec S16 32) a x).toNat < S8192.size a := fun v1296 k1_hw85 => k1_hw85
def k1_off90 (k1_t1 : Fin k1_t1_loop.trips) : Fin 2 → Nat :=
  let c2_i32_632 : BitVec 32 := 2#32
  let v1302 : Index := Scalar.indexCast c2_i32_632
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1303 : Index := Scalar.indexCast v1260
  ![2, v1303.toNat]

def k1_chk86 (v34 : IVec S16 32) (v1297 : IVec S16 32) : Prop :=
  (∀ a x, ((![v34, v1297] : Fin 2 → IVec S16 32) a x).toNat < S16x1024.size a)
theorem k1_idx86_inb : ∀ (v34 : IVec S16 32) (v1297 : IVec S16 32) (k1_hw86 : k1_chk86 v34 v1297), ∀ a x, ((![v34, v1297] : Fin 2 → IVec S16 32) a x).toNat < S16x1024.size a := fun v34 v1297 k1_hw86 => k1_hw86
def k1_off91 (k1_t1 : Fin k1_t1_loop.trips) : Fin 2 → Nat :=
  let c2_i32_633 : BitVec 32 := 2#32
  let v1306 : Index := Scalar.indexCast c2_i32_633
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1307 : Index := Scalar.indexCast v1260
  ![2, v1307.toNat]

def k1_chk87 (v1312 : IVec S16 32) : Prop :=
  (∀ a x, ((![v1312] : Fin 1 → IVec S16 32) a x).toNat < S8192.size a)
theorem k1_idx87_inb : ∀ (v1312 : IVec S16 32) (k1_hw87 : k1_chk87 v1312), ∀ a x, ((![v1312] : Fin 1 → IVec S16 32) a x).toNat < S8192.size a := fun v1312 k1_hw87 => k1_hw87
def k1_off92 (k1_t1 : Fin k1_t1_loop.trips) : Fin 2 → Nat :=
  let c3_i32_638 : BitVec 32 := 3#32
  let v1318 : Index := Scalar.indexCast c3_i32_638
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1319 : Index := Scalar.indexCast v1260
  ![3, v1319.toNat]

def k1_chk88 (v34 : IVec S16 32) (v1313 : IVec S16 32) : Prop :=
  (∀ a x, ((![v34, v1313] : Fin 2 → IVec S16 32) a x).toNat < S16x1024.size a)
theorem k1_idx88_inb : ∀ (v34 : IVec S16 32) (v1313 : IVec S16 32) (k1_hw88 : k1_chk88 v34 v1313), ∀ a x, ((![v34, v1313] : Fin 2 → IVec S16 32) a x).toNat < S16x1024.size a := fun v34 v1313 k1_hw88 => k1_hw88
def k1_off93 (k1_t1 : Fin k1_t1_loop.trips) : Fin 2 → Nat :=
  let c3_i32_639 : BitVec 32 := 3#32
  let v1322 : Index := Scalar.indexCast c3_i32_639
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1323 : Index := Scalar.indexCast v1260
  ![3, v1323.toNat]

def k1_chk89 (v1328 : IVec S16 32) : Prop :=
  (∀ a x, ((![v1328] : Fin 1 → IVec S16 32) a x).toNat < S8192.size a)
theorem k1_idx89_inb : ∀ (v1328 : IVec S16 32) (k1_hw89 : k1_chk89 v1328), ∀ a x, ((![v1328] : Fin 1 → IVec S16 32) a x).toNat < S8192.size a := fun v1328 k1_hw89 => k1_hw89
def k1_off94 (k1_t1 : Fin k1_t1_loop.trips) : Fin 2 → Nat :=
  let c4_i32_644 : BitVec 32 := 4#32
  let v1334 : Index := Scalar.indexCast c4_i32_644
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1335 : Index := Scalar.indexCast v1260
  ![4, v1335.toNat]

def k1_chk90 (v34 : IVec S16 32) (v1329 : IVec S16 32) : Prop :=
  (∀ a x, ((![v34, v1329] : Fin 2 → IVec S16 32) a x).toNat < S16x1024.size a)
theorem k1_idx90_inb : ∀ (v34 : IVec S16 32) (v1329 : IVec S16 32) (k1_hw90 : k1_chk90 v34 v1329), ∀ a x, ((![v34, v1329] : Fin 2 → IVec S16 32) a x).toNat < S16x1024.size a := fun v34 v1329 k1_hw90 => k1_hw90
def k1_off95 (k1_t1 : Fin k1_t1_loop.trips) : Fin 2 → Nat :=
  let c4_i32_645 : BitVec 32 := 4#32
  let v1338 : Index := Scalar.indexCast c4_i32_645
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1339 : Index := Scalar.indexCast v1260
  ![4, v1339.toNat]

def k1_chk91 (v1344 : IVec S16 32) : Prop :=
  (∀ a x, ((![v1344] : Fin 1 → IVec S16 32) a x).toNat < S8192.size a)
theorem k1_idx91_inb : ∀ (v1344 : IVec S16 32) (k1_hw91 : k1_chk91 v1344), ∀ a x, ((![v1344] : Fin 1 → IVec S16 32) a x).toNat < S8192.size a := fun v1344 k1_hw91 => k1_hw91
def k1_off96 (k1_t1 : Fin k1_t1_loop.trips) : Fin 2 → Nat :=
  let c5_i32_650 : BitVec 32 := 5#32
  let v1350 : Index := Scalar.indexCast c5_i32_650
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1351 : Index := Scalar.indexCast v1260
  ![5, v1351.toNat]

def k1_chk92 (v34 : IVec S16 32) (v1345 : IVec S16 32) : Prop :=
  (∀ a x, ((![v34, v1345] : Fin 2 → IVec S16 32) a x).toNat < S16x1024.size a)
theorem k1_idx92_inb : ∀ (v34 : IVec S16 32) (v1345 : IVec S16 32) (k1_hw92 : k1_chk92 v34 v1345), ∀ a x, ((![v34, v1345] : Fin 2 → IVec S16 32) a x).toNat < S16x1024.size a := fun v34 v1345 k1_hw92 => k1_hw92
def k1_off97 (k1_t1 : Fin k1_t1_loop.trips) : Fin 2 → Nat :=
  let c5_i32_651 : BitVec 32 := 5#32
  let v1354 : Index := Scalar.indexCast c5_i32_651
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1355 : Index := Scalar.indexCast v1260
  ![5, v1355.toNat]

def k1_chk93 (v1360 : IVec S16 32) : Prop :=
  (∀ a x, ((![v1360] : Fin 1 → IVec S16 32) a x).toNat < S8192.size a)
theorem k1_idx93_inb : ∀ (v1360 : IVec S16 32) (k1_hw93 : k1_chk93 v1360), ∀ a x, ((![v1360] : Fin 1 → IVec S16 32) a x).toNat < S8192.size a := fun v1360 k1_hw93 => k1_hw93
def k1_off98 (k1_t1 : Fin k1_t1_loop.trips) : Fin 2 → Nat :=
  let c6_i32_656 : BitVec 32 := 6#32
  let v1366 : Index := Scalar.indexCast c6_i32_656
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1367 : Index := Scalar.indexCast v1260
  ![6, v1367.toNat]

def k1_chk94 (v34 : IVec S16 32) (v1361 : IVec S16 32) : Prop :=
  (∀ a x, ((![v34, v1361] : Fin 2 → IVec S16 32) a x).toNat < S16x1024.size a)
theorem k1_idx94_inb : ∀ (v34 : IVec S16 32) (v1361 : IVec S16 32) (k1_hw94 : k1_chk94 v34 v1361), ∀ a x, ((![v34, v1361] : Fin 2 → IVec S16 32) a x).toNat < S16x1024.size a := fun v34 v1361 k1_hw94 => k1_hw94
def k1_off99 (k1_t1 : Fin k1_t1_loop.trips) : Fin 2 → Nat :=
  let c6_i32_657 : BitVec 32 := 6#32
  let v1370 : Index := Scalar.indexCast c6_i32_657
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1371 : Index := Scalar.indexCast v1260
  ![6, v1371.toNat]

def k1_chk95 (v1376 : IVec S16 32) : Prop :=
  (∀ a x, ((![v1376] : Fin 1 → IVec S16 32) a x).toNat < S8192.size a)
theorem k1_idx95_inb : ∀ (v1376 : IVec S16 32) (k1_hw95 : k1_chk95 v1376), ∀ a x, ((![v1376] : Fin 1 → IVec S16 32) a x).toNat < S8192.size a := fun v1376 k1_hw95 => k1_hw95
def k1_off100 (k1_t1 : Fin k1_t1_loop.trips) : Fin 2 → Nat :=
  let c7_i32_662 : BitVec 32 := 7#32
  let v1382 : Index := Scalar.indexCast c7_i32_662
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1383 : Index := Scalar.indexCast v1260
  ![7, v1383.toNat]

def k1_chk96 (v34 : IVec S16 32) (v1377 : IVec S16 32) : Prop :=
  (∀ a x, ((![v34, v1377] : Fin 2 → IVec S16 32) a x).toNat < S16x1024.size a)
theorem k1_idx96_inb : ∀ (v34 : IVec S16 32) (v1377 : IVec S16 32) (k1_hw96 : k1_chk96 v34 v1377), ∀ a x, ((![v34, v1377] : Fin 2 → IVec S16 32) a x).toNat < S16x1024.size a := fun v34 v1377 k1_hw96 => k1_hw96
def k1_off101 (k1_t1 : Fin k1_t1_loop.trips) : Fin 2 → Nat :=
  let c7_i32_663 : BitVec 32 := 7#32
  let v1386 : Index := Scalar.indexCast c7_i32_663
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1387 : Index := Scalar.indexCast v1260
  ![7, v1387.toNat]

def k1_chk97 (v1392 : IVec S16 32) : Prop :=
  (∀ a x, ((![v1392] : Fin 1 → IVec S16 32) a x).toNat < S8192.size a)
theorem k1_idx97_inb : ∀ (v1392 : IVec S16 32) (k1_hw97 : k1_chk97 v1392), ∀ a x, ((![v1392] : Fin 1 → IVec S16 32) a x).toNat < S8192.size a := fun v1392 k1_hw97 => k1_hw97
def k1_off102 (k1_t1 : Fin k1_t1_loop.trips) : Fin 2 → Nat :=
  let c8_i32_671 : BitVec 32 := 8#32
  let v1405 : Index := Scalar.indexCast c8_i32_671
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1406 : Index := Scalar.indexCast v1260
  ![8, v1406.toNat]

def k1_chk98 (v34 : IVec S16 32) (v1404 : IVec S16 32) : Prop :=
  (∀ a x, ((![v34, v1404] : Fin 2 → IVec S16 32) a x).toNat < S16x1024.size a)
theorem k1_idx98_inb : ∀ (v34 : IVec S16 32) (v1404 : IVec S16 32) (k1_hw98 : k1_chk98 v34 v1404), ∀ a x, ((![v34, v1404] : Fin 2 → IVec S16 32) a x).toNat < S16x1024.size a := fun v34 v1404 k1_hw98 => k1_hw98
def k1_off103 (k1_t1 : Fin k1_t1_loop.trips) : Fin 2 → Nat :=
  let c8_i32_672 : BitVec 32 := 8#32
  let v1409 : Index := Scalar.indexCast c8_i32_672
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1410 : Index := Scalar.indexCast v1260
  ![8, v1410.toNat]

def k1_chk99 (v1415 : IVec S16 32) : Prop :=
  (∀ a x, ((![v1415] : Fin 1 → IVec S16 32) a x).toNat < S8192.size a)
theorem k1_idx99_inb : ∀ (v1415 : IVec S16 32) (k1_hw99 : k1_chk99 v1415), ∀ a x, ((![v1415] : Fin 1 → IVec S16 32) a x).toNat < S8192.size a := fun v1415 k1_hw99 => k1_hw99
def k1_off104 (k1_t1 : Fin k1_t1_loop.trips) : Fin 2 → Nat :=
  let c9_i32_680 : BitVec 32 := 9#32
  let v1428 : Index := Scalar.indexCast c9_i32_680
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1429 : Index := Scalar.indexCast v1260
  ![9, v1429.toNat]

def k1_chk100 (v34 : IVec S16 32) (v1427 : IVec S16 32) : Prop :=
  (∀ a x, ((![v34, v1427] : Fin 2 → IVec S16 32) a x).toNat < S16x1024.size a)
theorem k1_idx100_inb : ∀ (v34 : IVec S16 32) (v1427 : IVec S16 32) (k1_hw100 : k1_chk100 v34 v1427), ∀ a x, ((![v34, v1427] : Fin 2 → IVec S16 32) a x).toNat < S16x1024.size a := fun v34 v1427 k1_hw100 => k1_hw100
def k1_off105 (k1_t1 : Fin k1_t1_loop.trips) : Fin 2 → Nat :=
  let c9_i32_681 : BitVec 32 := 9#32
  let v1432 : Index := Scalar.indexCast c9_i32_681
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1433 : Index := Scalar.indexCast v1260
  ![9, v1433.toNat]

def k1_chk101 (v1438 : IVec S16 32) : Prop :=
  (∀ a x, ((![v1438] : Fin 1 → IVec S16 32) a x).toNat < S8192.size a)
theorem k1_idx101_inb : ∀ (v1438 : IVec S16 32) (k1_hw101 : k1_chk101 v1438), ∀ a x, ((![v1438] : Fin 1 → IVec S16 32) a x).toNat < S8192.size a := fun v1438 k1_hw101 => k1_hw101
def k1_off106 (k1_t1 : Fin k1_t1_loop.trips) : Fin 2 → Nat :=
  let c10_i32_689 : BitVec 32 := 10#32
  let v1451 : Index := Scalar.indexCast c10_i32_689
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1452 : Index := Scalar.indexCast v1260
  ![10, v1452.toNat]

def k1_chk102 (v34 : IVec S16 32) (v1450 : IVec S16 32) : Prop :=
  (∀ a x, ((![v34, v1450] : Fin 2 → IVec S16 32) a x).toNat < S16x1024.size a)
theorem k1_idx102_inb : ∀ (v34 : IVec S16 32) (v1450 : IVec S16 32) (k1_hw102 : k1_chk102 v34 v1450), ∀ a x, ((![v34, v1450] : Fin 2 → IVec S16 32) a x).toNat < S16x1024.size a := fun v34 v1450 k1_hw102 => k1_hw102
def k1_off107 (k1_t1 : Fin k1_t1_loop.trips) : Fin 2 → Nat :=
  let c10_i32_690 : BitVec 32 := 10#32
  let v1455 : Index := Scalar.indexCast c10_i32_690
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1456 : Index := Scalar.indexCast v1260
  ![10, v1456.toNat]

def k1_chk103 (v1461 : IVec S16 32) : Prop :=
  (∀ a x, ((![v1461] : Fin 1 → IVec S16 32) a x).toNat < S8192.size a)
theorem k1_idx103_inb : ∀ (v1461 : IVec S16 32) (k1_hw103 : k1_chk103 v1461), ∀ a x, ((![v1461] : Fin 1 → IVec S16 32) a x).toNat < S8192.size a := fun v1461 k1_hw103 => k1_hw103
def k1_off108 (k1_t1 : Fin k1_t1_loop.trips) : Fin 2 → Nat :=
  let c11_i32_698 : BitVec 32 := 11#32
  let v1474 : Index := Scalar.indexCast c11_i32_698
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1475 : Index := Scalar.indexCast v1260
  ![11, v1475.toNat]

def k1_chk104 (v34 : IVec S16 32) (v1473 : IVec S16 32) : Prop :=
  (∀ a x, ((![v34, v1473] : Fin 2 → IVec S16 32) a x).toNat < S16x1024.size a)
theorem k1_idx104_inb : ∀ (v34 : IVec S16 32) (v1473 : IVec S16 32) (k1_hw104 : k1_chk104 v34 v1473), ∀ a x, ((![v34, v1473] : Fin 2 → IVec S16 32) a x).toNat < S16x1024.size a := fun v34 v1473 k1_hw104 => k1_hw104
def k1_off109 (k1_t1 : Fin k1_t1_loop.trips) : Fin 2 → Nat :=
  let c11_i32_699 : BitVec 32 := 11#32
  let v1478 : Index := Scalar.indexCast c11_i32_699
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1479 : Index := Scalar.indexCast v1260
  ![11, v1479.toNat]

def k1_chk105 (v1484 : IVec S16 32) : Prop :=
  (∀ a x, ((![v1484] : Fin 1 → IVec S16 32) a x).toNat < S8192.size a)
theorem k1_idx105_inb : ∀ (v1484 : IVec S16 32) (k1_hw105 : k1_chk105 v1484), ∀ a x, ((![v1484] : Fin 1 → IVec S16 32) a x).toNat < S8192.size a := fun v1484 k1_hw105 => k1_hw105
def k1_off110 (k1_t1 : Fin k1_t1_loop.trips) : Fin 2 → Nat :=
  let c12_i32_707 : BitVec 32 := 12#32
  let v1497 : Index := Scalar.indexCast c12_i32_707
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1498 : Index := Scalar.indexCast v1260
  ![12, v1498.toNat]

def k1_chk106 (v34 : IVec S16 32) (v1496 : IVec S16 32) : Prop :=
  (∀ a x, ((![v34, v1496] : Fin 2 → IVec S16 32) a x).toNat < S16x1024.size a)
theorem k1_idx106_inb : ∀ (v34 : IVec S16 32) (v1496 : IVec S16 32) (k1_hw106 : k1_chk106 v34 v1496), ∀ a x, ((![v34, v1496] : Fin 2 → IVec S16 32) a x).toNat < S16x1024.size a := fun v34 v1496 k1_hw106 => k1_hw106
def k1_off111 (k1_t1 : Fin k1_t1_loop.trips) : Fin 2 → Nat :=
  let c12_i32_708 : BitVec 32 := 12#32
  let v1501 : Index := Scalar.indexCast c12_i32_708
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1502 : Index := Scalar.indexCast v1260
  ![12, v1502.toNat]

def k1_chk107 (v1507 : IVec S16 32) : Prop :=
  (∀ a x, ((![v1507] : Fin 1 → IVec S16 32) a x).toNat < S8192.size a)
theorem k1_idx107_inb : ∀ (v1507 : IVec S16 32) (k1_hw107 : k1_chk107 v1507), ∀ a x, ((![v1507] : Fin 1 → IVec S16 32) a x).toNat < S8192.size a := fun v1507 k1_hw107 => k1_hw107
def k1_off112 (k1_t1 : Fin k1_t1_loop.trips) : Fin 2 → Nat :=
  let c13_i32_716 : BitVec 32 := 13#32
  let v1520 : Index := Scalar.indexCast c13_i32_716
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1521 : Index := Scalar.indexCast v1260
  ![13, v1521.toNat]

def k1_chk108 (v34 : IVec S16 32) (v1519 : IVec S16 32) : Prop :=
  (∀ a x, ((![v34, v1519] : Fin 2 → IVec S16 32) a x).toNat < S16x1024.size a)
theorem k1_idx108_inb : ∀ (v34 : IVec S16 32) (v1519 : IVec S16 32) (k1_hw108 : k1_chk108 v34 v1519), ∀ a x, ((![v34, v1519] : Fin 2 → IVec S16 32) a x).toNat < S16x1024.size a := fun v34 v1519 k1_hw108 => k1_hw108
def k1_off113 (k1_t1 : Fin k1_t1_loop.trips) : Fin 2 → Nat :=
  let c13_i32_717 : BitVec 32 := 13#32
  let v1524 : Index := Scalar.indexCast c13_i32_717
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1525 : Index := Scalar.indexCast v1260
  ![13, v1525.toNat]

def k1_chk109 (v1530 : IVec S16 32) : Prop :=
  (∀ a x, ((![v1530] : Fin 1 → IVec S16 32) a x).toNat < S8192.size a)
theorem k1_idx109_inb : ∀ (v1530 : IVec S16 32) (k1_hw109 : k1_chk109 v1530), ∀ a x, ((![v1530] : Fin 1 → IVec S16 32) a x).toNat < S8192.size a := fun v1530 k1_hw109 => k1_hw109
def k1_off114 (k1_t1 : Fin k1_t1_loop.trips) : Fin 2 → Nat :=
  let c14_i32_725 : BitVec 32 := 14#32
  let v1543 : Index := Scalar.indexCast c14_i32_725
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1544 : Index := Scalar.indexCast v1260
  ![14, v1544.toNat]

def k1_chk110 (v34 : IVec S16 32) (v1542 : IVec S16 32) : Prop :=
  (∀ a x, ((![v34, v1542] : Fin 2 → IVec S16 32) a x).toNat < S16x1024.size a)
theorem k1_idx110_inb : ∀ (v34 : IVec S16 32) (v1542 : IVec S16 32) (k1_hw110 : k1_chk110 v34 v1542), ∀ a x, ((![v34, v1542] : Fin 2 → IVec S16 32) a x).toNat < S16x1024.size a := fun v34 v1542 k1_hw110 => k1_hw110
def k1_off115 (k1_t1 : Fin k1_t1_loop.trips) : Fin 2 → Nat :=
  let c14_i32_726 : BitVec 32 := 14#32
  let v1547 : Index := Scalar.indexCast c14_i32_726
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1548 : Index := Scalar.indexCast v1260
  ![14, v1548.toNat]

def k1_chk111 (v1553 : IVec S16 32) : Prop :=
  (∀ a x, ((![v1553] : Fin 1 → IVec S16 32) a x).toNat < S8192.size a)
theorem k1_idx111_inb : ∀ (v1553 : IVec S16 32) (k1_hw111 : k1_chk111 v1553), ∀ a x, ((![v1553] : Fin 1 → IVec S16 32) a x).toNat < S8192.size a := fun v1553 k1_hw111 => k1_hw111
def k1_off116 (k1_t1 : Fin k1_t1_loop.trips) : Fin 2 → Nat :=
  let c15_i32_734 : BitVec 32 := 15#32
  let v1566 : Index := Scalar.indexCast c15_i32_734
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1567 : Index := Scalar.indexCast v1260
  ![15, v1567.toNat]

def k1_chk112 (v34 : IVec S16 32) (v1565 : IVec S16 32) : Prop :=
  (∀ a x, ((![v34, v1565] : Fin 2 → IVec S16 32) a x).toNat < S16x1024.size a)
theorem k1_idx112_inb : ∀ (v34 : IVec S16 32) (v1565 : IVec S16 32) (k1_hw112 : k1_chk112 v34 v1565), ∀ a x, ((![v34, v1565] : Fin 2 → IVec S16 32) a x).toNat < S16x1024.size a := fun v34 v1565 k1_hw112 => k1_hw112
def k1_off117 (k1_t1 : Fin k1_t1_loop.trips) : Fin 2 → Nat :=
  let c15_i32_735 : BitVec 32 := 15#32
  let v1570 : Index := Scalar.indexCast c15_i32_735
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1571 : Index := Scalar.indexCast v1260
  ![15, v1571.toNat]

def k1_chk113 (v1576 : IVec S16 32) : Prop :=
  (∀ a x, ((![v1576] : Fin 1 → IVec S16 32) a x).toNat < S8192.size a)
theorem k1_idx113_inb : ∀ (v1576 : IVec S16 32) (k1_hw113 : k1_chk113 v1576), ∀ a x, ((![v1576] : Fin 1 → IVec S16 32) a x).toNat < S8192.size a := fun v1576 k1_hw113 => k1_hw113
def k1_off118 (k1_t1 : Fin k1_t1_loop.trips) : Fin 2 → Nat :=
  let c16_i32_743 : BitVec 32 := 16#32
  let v1589 : Index := Scalar.indexCast c16_i32_743
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1590 : Index := Scalar.indexCast v1260
  ![16, v1590.toNat]

def k1_chk114 (v34 : IVec S16 32) (v1588 : IVec S16 32) : Prop :=
  (∀ a x, ((![v34, v1588] : Fin 2 → IVec S16 32) a x).toNat < S16x1024.size a)
theorem k1_idx114_inb : ∀ (v34 : IVec S16 32) (v1588 : IVec S16 32) (k1_hw114 : k1_chk114 v34 v1588), ∀ a x, ((![v34, v1588] : Fin 2 → IVec S16 32) a x).toNat < S16x1024.size a := fun v34 v1588 k1_hw114 => k1_hw114
def k1_off119 (k1_t1 : Fin k1_t1_loop.trips) : Fin 2 → Nat :=
  let c16_i32_744 : BitVec 32 := 16#32
  let v1593 : Index := Scalar.indexCast c16_i32_744
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1594 : Index := Scalar.indexCast v1260
  ![16, v1594.toNat]

def k1_chk115 (v1599 : IVec S16 32) : Prop :=
  (∀ a x, ((![v1599] : Fin 1 → IVec S16 32) a x).toNat < S8192.size a)
theorem k1_idx115_inb : ∀ (v1599 : IVec S16 32) (k1_hw115 : k1_chk115 v1599), ∀ a x, ((![v1599] : Fin 1 → IVec S16 32) a x).toNat < S8192.size a := fun v1599 k1_hw115 => k1_hw115
def k1_off120 (k1_t1 : Fin k1_t1_loop.trips) : Fin 2 → Nat :=
  let c17_i32_752 : BitVec 32 := 17#32
  let v1612 : Index := Scalar.indexCast c17_i32_752
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1613 : Index := Scalar.indexCast v1260
  ![17, v1613.toNat]

def k1_chk116 (v34 : IVec S16 32) (v1611 : IVec S16 32) : Prop :=
  (∀ a x, ((![v34, v1611] : Fin 2 → IVec S16 32) a x).toNat < S16x1024.size a)
theorem k1_idx116_inb : ∀ (v34 : IVec S16 32) (v1611 : IVec S16 32) (k1_hw116 : k1_chk116 v34 v1611), ∀ a x, ((![v34, v1611] : Fin 2 → IVec S16 32) a x).toNat < S16x1024.size a := fun v34 v1611 k1_hw116 => k1_hw116
def k1_off121 (k1_t1 : Fin k1_t1_loop.trips) : Fin 2 → Nat :=
  let c17_i32_753 : BitVec 32 := 17#32
  let v1616 : Index := Scalar.indexCast c17_i32_753
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1617 : Index := Scalar.indexCast v1260
  ![17, v1617.toNat]

def k1_chk117 (v1622 : IVec S16 32) : Prop :=
  (∀ a x, ((![v1622] : Fin 1 → IVec S16 32) a x).toNat < S8192.size a)
theorem k1_idx117_inb : ∀ (v1622 : IVec S16 32) (k1_hw117 : k1_chk117 v1622), ∀ a x, ((![v1622] : Fin 1 → IVec S16 32) a x).toNat < S8192.size a := fun v1622 k1_hw117 => k1_hw117
def k1_off122 (k1_t1 : Fin k1_t1_loop.trips) : Fin 2 → Nat :=
  let c18_i32_761 : BitVec 32 := 18#32
  let v1635 : Index := Scalar.indexCast c18_i32_761
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1636 : Index := Scalar.indexCast v1260
  ![18, v1636.toNat]

def k1_chk118 (v34 : IVec S16 32) (v1634 : IVec S16 32) : Prop :=
  (∀ a x, ((![v34, v1634] : Fin 2 → IVec S16 32) a x).toNat < S16x1024.size a)
theorem k1_idx118_inb : ∀ (v34 : IVec S16 32) (v1634 : IVec S16 32) (k1_hw118 : k1_chk118 v34 v1634), ∀ a x, ((![v34, v1634] : Fin 2 → IVec S16 32) a x).toNat < S16x1024.size a := fun v34 v1634 k1_hw118 => k1_hw118
def k1_off123 (k1_t1 : Fin k1_t1_loop.trips) : Fin 2 → Nat :=
  let c18_i32_762 : BitVec 32 := 18#32
  let v1639 : Index := Scalar.indexCast c18_i32_762
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1640 : Index := Scalar.indexCast v1260
  ![18, v1640.toNat]

def k1_chk119 (v1645 : IVec S16 32) : Prop :=
  (∀ a x, ((![v1645] : Fin 1 → IVec S16 32) a x).toNat < S8192.size a)
theorem k1_idx119_inb : ∀ (v1645 : IVec S16 32) (k1_hw119 : k1_chk119 v1645), ∀ a x, ((![v1645] : Fin 1 → IVec S16 32) a x).toNat < S8192.size a := fun v1645 k1_hw119 => k1_hw119
def k1_off124 (k1_t1 : Fin k1_t1_loop.trips) : Fin 2 → Nat :=
  let c19_i32_770 : BitVec 32 := 19#32
  let v1658 : Index := Scalar.indexCast c19_i32_770
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1659 : Index := Scalar.indexCast v1260
  ![19, v1659.toNat]

def k1_chk120 (v34 : IVec S16 32) (v1657 : IVec S16 32) : Prop :=
  (∀ a x, ((![v34, v1657] : Fin 2 → IVec S16 32) a x).toNat < S16x1024.size a)
theorem k1_idx120_inb : ∀ (v34 : IVec S16 32) (v1657 : IVec S16 32) (k1_hw120 : k1_chk120 v34 v1657), ∀ a x, ((![v34, v1657] : Fin 2 → IVec S16 32) a x).toNat < S16x1024.size a := fun v34 v1657 k1_hw120 => k1_hw120
def k1_off125 (k1_t1 : Fin k1_t1_loop.trips) : Fin 2 → Nat :=
  let c19_i32_771 : BitVec 32 := 19#32
  let v1662 : Index := Scalar.indexCast c19_i32_771
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1663 : Index := Scalar.indexCast v1260
  ![19, v1663.toNat]

def k1_chk121 (v1668 : IVec S16 32) : Prop :=
  (∀ a x, ((![v1668] : Fin 1 → IVec S16 32) a x).toNat < S8192.size a)
theorem k1_idx121_inb : ∀ (v1668 : IVec S16 32) (k1_hw121 : k1_chk121 v1668), ∀ a x, ((![v1668] : Fin 1 → IVec S16 32) a x).toNat < S8192.size a := fun v1668 k1_hw121 => k1_hw121
def k1_off126 (k1_t1 : Fin k1_t1_loop.trips) : Fin 2 → Nat :=
  let c20_i32_779 : BitVec 32 := 20#32
  let v1681 : Index := Scalar.indexCast c20_i32_779
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1682 : Index := Scalar.indexCast v1260
  ![20, v1682.toNat]

def k1_chk122 (v34 : IVec S16 32) (v1680 : IVec S16 32) : Prop :=
  (∀ a x, ((![v34, v1680] : Fin 2 → IVec S16 32) a x).toNat < S16x1024.size a)
theorem k1_idx122_inb : ∀ (v34 : IVec S16 32) (v1680 : IVec S16 32) (k1_hw122 : k1_chk122 v34 v1680), ∀ a x, ((![v34, v1680] : Fin 2 → IVec S16 32) a x).toNat < S16x1024.size a := fun v34 v1680 k1_hw122 => k1_hw122
def k1_off127 (k1_t1 : Fin k1_t1_loop.trips) : Fin 2 → Nat :=
  let c20_i32_780 : BitVec 32 := 20#32
  let v1685 : Index := Scalar.indexCast c20_i32_780
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1686 : Index := Scalar.indexCast v1260
  ![20, v1686.toNat]

def k1_chk123 (v1691 : IVec S16 32) : Prop :=
  (∀ a x, ((![v1691] : Fin 1 → IVec S16 32) a x).toNat < S8192.size a)
theorem k1_idx123_inb : ∀ (v1691 : IVec S16 32) (k1_hw123 : k1_chk123 v1691), ∀ a x, ((![v1691] : Fin 1 → IVec S16 32) a x).toNat < S8192.size a := fun v1691 k1_hw123 => k1_hw123
def k1_off128 (k1_t1 : Fin k1_t1_loop.trips) : Fin 2 → Nat :=
  let c21_i32_788 : BitVec 32 := 21#32
  let v1704 : Index := Scalar.indexCast c21_i32_788
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1705 : Index := Scalar.indexCast v1260
  ![21, v1705.toNat]

def k1_chk124 (v34 : IVec S16 32) (v1703 : IVec S16 32) : Prop :=
  (∀ a x, ((![v34, v1703] : Fin 2 → IVec S16 32) a x).toNat < S16x1024.size a)
theorem k1_idx124_inb : ∀ (v34 : IVec S16 32) (v1703 : IVec S16 32) (k1_hw124 : k1_chk124 v34 v1703), ∀ a x, ((![v34, v1703] : Fin 2 → IVec S16 32) a x).toNat < S16x1024.size a := fun v34 v1703 k1_hw124 => k1_hw124
def k1_off129 (k1_t1 : Fin k1_t1_loop.trips) : Fin 2 → Nat :=
  let c21_i32_789 : BitVec 32 := 21#32
  let v1708 : Index := Scalar.indexCast c21_i32_789
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1709 : Index := Scalar.indexCast v1260
  ![21, v1709.toNat]

def k1_chk125 (v1714 : IVec S16 32) : Prop :=
  (∀ a x, ((![v1714] : Fin 1 → IVec S16 32) a x).toNat < S8192.size a)
theorem k1_idx125_inb : ∀ (v1714 : IVec S16 32) (k1_hw125 : k1_chk125 v1714), ∀ a x, ((![v1714] : Fin 1 → IVec S16 32) a x).toNat < S8192.size a := fun v1714 k1_hw125 => k1_hw125
def k1_off130 (k1_t1 : Fin k1_t1_loop.trips) : Fin 2 → Nat :=
  let c22_i32_797 : BitVec 32 := 22#32
  let v1727 : Index := Scalar.indexCast c22_i32_797
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1728 : Index := Scalar.indexCast v1260
  ![22, v1728.toNat]

def k1_chk126 (v34 : IVec S16 32) (v1726 : IVec S16 32) : Prop :=
  (∀ a x, ((![v34, v1726] : Fin 2 → IVec S16 32) a x).toNat < S16x1024.size a)
theorem k1_idx126_inb : ∀ (v34 : IVec S16 32) (v1726 : IVec S16 32) (k1_hw126 : k1_chk126 v34 v1726), ∀ a x, ((![v34, v1726] : Fin 2 → IVec S16 32) a x).toNat < S16x1024.size a := fun v34 v1726 k1_hw126 => k1_hw126
def k1_off131 (k1_t1 : Fin k1_t1_loop.trips) : Fin 2 → Nat :=
  let c22_i32_798 : BitVec 32 := 22#32
  let v1731 : Index := Scalar.indexCast c22_i32_798
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1732 : Index := Scalar.indexCast v1260
  ![22, v1732.toNat]

def k1_chk127 (v1737 : IVec S16 32) : Prop :=
  (∀ a x, ((![v1737] : Fin 1 → IVec S16 32) a x).toNat < S8192.size a)
theorem k1_idx127_inb : ∀ (v1737 : IVec S16 32) (k1_hw127 : k1_chk127 v1737), ∀ a x, ((![v1737] : Fin 1 → IVec S16 32) a x).toNat < S8192.size a := fun v1737 k1_hw127 => k1_hw127
def k1_off132 (k1_t1 : Fin k1_t1_loop.trips) : Fin 2 → Nat :=
  let c23_i32_806 : BitVec 32 := 23#32
  let v1750 : Index := Scalar.indexCast c23_i32_806
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1751 : Index := Scalar.indexCast v1260
  ![23, v1751.toNat]

def k1_chk128 (v34 : IVec S16 32) (v1749 : IVec S16 32) : Prop :=
  (∀ a x, ((![v34, v1749] : Fin 2 → IVec S16 32) a x).toNat < S16x1024.size a)
theorem k1_idx128_inb : ∀ (v34 : IVec S16 32) (v1749 : IVec S16 32) (k1_hw128 : k1_chk128 v34 v1749), ∀ a x, ((![v34, v1749] : Fin 2 → IVec S16 32) a x).toNat < S16x1024.size a := fun v34 v1749 k1_hw128 => k1_hw128
def k1_off133 (k1_t1 : Fin k1_t1_loop.trips) : Fin 2 → Nat :=
  let c23_i32_807 : BitVec 32 := 23#32
  let v1754 : Index := Scalar.indexCast c23_i32_807
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1755 : Index := Scalar.indexCast v1260
  ![23, v1755.toNat]

def k1_chk129 (v1760 : IVec S16 32) : Prop :=
  (∀ a x, ((![v1760] : Fin 1 → IVec S16 32) a x).toNat < S8192.size a)
theorem k1_idx129_inb : ∀ (v1760 : IVec S16 32) (k1_hw129 : k1_chk129 v1760), ∀ a x, ((![v1760] : Fin 1 → IVec S16 32) a x).toNat < S8192.size a := fun v1760 k1_hw129 => k1_hw129
def k1_off134 (k1_t1 : Fin k1_t1_loop.trips) : Fin 2 → Nat :=
  let c24_i32_815 : BitVec 32 := 24#32
  let v1773 : Index := Scalar.indexCast c24_i32_815
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1774 : Index := Scalar.indexCast v1260
  ![24, v1774.toNat]

def k1_chk130 (v34 : IVec S16 32) (v1772 : IVec S16 32) : Prop :=
  (∀ a x, ((![v34, v1772] : Fin 2 → IVec S16 32) a x).toNat < S16x1024.size a)
theorem k1_idx130_inb : ∀ (v34 : IVec S16 32) (v1772 : IVec S16 32) (k1_hw130 : k1_chk130 v34 v1772), ∀ a x, ((![v34, v1772] : Fin 2 → IVec S16 32) a x).toNat < S16x1024.size a := fun v34 v1772 k1_hw130 => k1_hw130
def k1_off135 (k1_t1 : Fin k1_t1_loop.trips) : Fin 2 → Nat :=
  let c24_i32_816 : BitVec 32 := 24#32
  let v1777 : Index := Scalar.indexCast c24_i32_816
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1778 : Index := Scalar.indexCast v1260
  ![24, v1778.toNat]

def k1_chk131 (v1783 : IVec S16 32) : Prop :=
  (∀ a x, ((![v1783] : Fin 1 → IVec S16 32) a x).toNat < S8192.size a)
theorem k1_idx131_inb : ∀ (v1783 : IVec S16 32) (k1_hw131 : k1_chk131 v1783), ∀ a x, ((![v1783] : Fin 1 → IVec S16 32) a x).toNat < S8192.size a := fun v1783 k1_hw131 => k1_hw131
def k1_off136 (k1_t1 : Fin k1_t1_loop.trips) : Fin 2 → Nat :=
  let c25_i32_824 : BitVec 32 := 25#32
  let v1796 : Index := Scalar.indexCast c25_i32_824
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1797 : Index := Scalar.indexCast v1260
  ![25, v1797.toNat]

def k1_chk132 (v34 : IVec S16 32) (v1795 : IVec S16 32) : Prop :=
  (∀ a x, ((![v34, v1795] : Fin 2 → IVec S16 32) a x).toNat < S16x1024.size a)
theorem k1_idx132_inb : ∀ (v34 : IVec S16 32) (v1795 : IVec S16 32) (k1_hw132 : k1_chk132 v34 v1795), ∀ a x, ((![v34, v1795] : Fin 2 → IVec S16 32) a x).toNat < S16x1024.size a := fun v34 v1795 k1_hw132 => k1_hw132
def k1_off137 (k1_t1 : Fin k1_t1_loop.trips) : Fin 2 → Nat :=
  let c25_i32_825 : BitVec 32 := 25#32
  let v1800 : Index := Scalar.indexCast c25_i32_825
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1801 : Index := Scalar.indexCast v1260
  ![25, v1801.toNat]

def k1_chk133 (v1806 : IVec S16 32) : Prop :=
  (∀ a x, ((![v1806] : Fin 1 → IVec S16 32) a x).toNat < S8192.size a)
theorem k1_idx133_inb : ∀ (v1806 : IVec S16 32) (k1_hw133 : k1_chk133 v1806), ∀ a x, ((![v1806] : Fin 1 → IVec S16 32) a x).toNat < S8192.size a := fun v1806 k1_hw133 => k1_hw133
def k1_off138 (k1_t1 : Fin k1_t1_loop.trips) : Fin 2 → Nat :=
  let c26_i32_833 : BitVec 32 := 26#32
  let v1819 : Index := Scalar.indexCast c26_i32_833
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1820 : Index := Scalar.indexCast v1260
  ![26, v1820.toNat]

def k1_chk134 (v34 : IVec S16 32) (v1818 : IVec S16 32) : Prop :=
  (∀ a x, ((![v34, v1818] : Fin 2 → IVec S16 32) a x).toNat < S16x1024.size a)
theorem k1_idx134_inb : ∀ (v34 : IVec S16 32) (v1818 : IVec S16 32) (k1_hw134 : k1_chk134 v34 v1818), ∀ a x, ((![v34, v1818] : Fin 2 → IVec S16 32) a x).toNat < S16x1024.size a := fun v34 v1818 k1_hw134 => k1_hw134
def k1_off139 (k1_t1 : Fin k1_t1_loop.trips) : Fin 2 → Nat :=
  let c26_i32_834 : BitVec 32 := 26#32
  let v1823 : Index := Scalar.indexCast c26_i32_834
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1824 : Index := Scalar.indexCast v1260
  ![26, v1824.toNat]

def k1_chk135 (v1829 : IVec S16 32) : Prop :=
  (∀ a x, ((![v1829] : Fin 1 → IVec S16 32) a x).toNat < S8192.size a)
theorem k1_idx135_inb : ∀ (v1829 : IVec S16 32) (k1_hw135 : k1_chk135 v1829), ∀ a x, ((![v1829] : Fin 1 → IVec S16 32) a x).toNat < S8192.size a := fun v1829 k1_hw135 => k1_hw135
def k1_off140 (k1_t1 : Fin k1_t1_loop.trips) : Fin 2 → Nat :=
  let c27_i32_842 : BitVec 32 := 27#32
  let v1842 : Index := Scalar.indexCast c27_i32_842
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1843 : Index := Scalar.indexCast v1260
  ![27, v1843.toNat]

def k1_chk136 (v34 : IVec S16 32) (v1841 : IVec S16 32) : Prop :=
  (∀ a x, ((![v34, v1841] : Fin 2 → IVec S16 32) a x).toNat < S16x1024.size a)
theorem k1_idx136_inb : ∀ (v34 : IVec S16 32) (v1841 : IVec S16 32) (k1_hw136 : k1_chk136 v34 v1841), ∀ a x, ((![v34, v1841] : Fin 2 → IVec S16 32) a x).toNat < S16x1024.size a := fun v34 v1841 k1_hw136 => k1_hw136
def k1_off141 (k1_t1 : Fin k1_t1_loop.trips) : Fin 2 → Nat :=
  let c27_i32_843 : BitVec 32 := 27#32
  let v1846 : Index := Scalar.indexCast c27_i32_843
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1847 : Index := Scalar.indexCast v1260
  ![27, v1847.toNat]

def k1_chk137 (v1852 : IVec S16 32) : Prop :=
  (∀ a x, ((![v1852] : Fin 1 → IVec S16 32) a x).toNat < S8192.size a)
theorem k1_idx137_inb : ∀ (v1852 : IVec S16 32) (k1_hw137 : k1_chk137 v1852), ∀ a x, ((![v1852] : Fin 1 → IVec S16 32) a x).toNat < S8192.size a := fun v1852 k1_hw137 => k1_hw137
def k1_off142 (k1_t1 : Fin k1_t1_loop.trips) : Fin 2 → Nat :=
  let c28_i32_851 : BitVec 32 := 28#32
  let v1865 : Index := Scalar.indexCast c28_i32_851
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1866 : Index := Scalar.indexCast v1260
  ![28, v1866.toNat]

def k1_chk138 (v34 : IVec S16 32) (v1864 : IVec S16 32) : Prop :=
  (∀ a x, ((![v34, v1864] : Fin 2 → IVec S16 32) a x).toNat < S16x1024.size a)
theorem k1_idx138_inb : ∀ (v34 : IVec S16 32) (v1864 : IVec S16 32) (k1_hw138 : k1_chk138 v34 v1864), ∀ a x, ((![v34, v1864] : Fin 2 → IVec S16 32) a x).toNat < S16x1024.size a := fun v34 v1864 k1_hw138 => k1_hw138
def k1_off143 (k1_t1 : Fin k1_t1_loop.trips) : Fin 2 → Nat :=
  let c28_i32_852 : BitVec 32 := 28#32
  let v1869 : Index := Scalar.indexCast c28_i32_852
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1870 : Index := Scalar.indexCast v1260
  ![28, v1870.toNat]

def k1_chk139 (v1875 : IVec S16 32) : Prop :=
  (∀ a x, ((![v1875] : Fin 1 → IVec S16 32) a x).toNat < S8192.size a)
theorem k1_idx139_inb : ∀ (v1875 : IVec S16 32) (k1_hw139 : k1_chk139 v1875), ∀ a x, ((![v1875] : Fin 1 → IVec S16 32) a x).toNat < S8192.size a := fun v1875 k1_hw139 => k1_hw139
def k1_off144 (k1_t1 : Fin k1_t1_loop.trips) : Fin 2 → Nat :=
  let c29_i32_860 : BitVec 32 := 29#32
  let v1888 : Index := Scalar.indexCast c29_i32_860
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1889 : Index := Scalar.indexCast v1260
  ![29, v1889.toNat]

def k1_chk140 (v34 : IVec S16 32) (v1887 : IVec S16 32) : Prop :=
  (∀ a x, ((![v34, v1887] : Fin 2 → IVec S16 32) a x).toNat < S16x1024.size a)
theorem k1_idx140_inb : ∀ (v34 : IVec S16 32) (v1887 : IVec S16 32) (k1_hw140 : k1_chk140 v34 v1887), ∀ a x, ((![v34, v1887] : Fin 2 → IVec S16 32) a x).toNat < S16x1024.size a := fun v34 v1887 k1_hw140 => k1_hw140
def k1_off145 (k1_t1 : Fin k1_t1_loop.trips) : Fin 2 → Nat :=
  let c29_i32_861 : BitVec 32 := 29#32
  let v1892 : Index := Scalar.indexCast c29_i32_861
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1893 : Index := Scalar.indexCast v1260
  ![29, v1893.toNat]

def k1_chk141 (v1898 : IVec S16 32) : Prop :=
  (∀ a x, ((![v1898] : Fin 1 → IVec S16 32) a x).toNat < S8192.size a)
theorem k1_idx141_inb : ∀ (v1898 : IVec S16 32) (k1_hw141 : k1_chk141 v1898), ∀ a x, ((![v1898] : Fin 1 → IVec S16 32) a x).toNat < S8192.size a := fun v1898 k1_hw141 => k1_hw141
def k1_off146 (k1_t1 : Fin k1_t1_loop.trips) : Fin 2 → Nat :=
  let c30_i32_869 : BitVec 32 := 30#32
  let v1911 : Index := Scalar.indexCast c30_i32_869
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1912 : Index := Scalar.indexCast v1260
  ![30, v1912.toNat]

def k1_chk142 (v34 : IVec S16 32) (v1910 : IVec S16 32) : Prop :=
  (∀ a x, ((![v34, v1910] : Fin 2 → IVec S16 32) a x).toNat < S16x1024.size a)
theorem k1_idx142_inb : ∀ (v34 : IVec S16 32) (v1910 : IVec S16 32) (k1_hw142 : k1_chk142 v34 v1910), ∀ a x, ((![v34, v1910] : Fin 2 → IVec S16 32) a x).toNat < S16x1024.size a := fun v34 v1910 k1_hw142 => k1_hw142
def k1_off147 (k1_t1 : Fin k1_t1_loop.trips) : Fin 2 → Nat :=
  let c30_i32_870 : BitVec 32 := 30#32
  let v1915 : Index := Scalar.indexCast c30_i32_870
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1916 : Index := Scalar.indexCast v1260
  ![30, v1916.toNat]

def k1_chk143 (v1921 : IVec S16 32) : Prop :=
  (∀ a x, ((![v1921] : Fin 1 → IVec S16 32) a x).toNat < S8192.size a)
theorem k1_idx143_inb : ∀ (v1921 : IVec S16 32) (k1_hw143 : k1_chk143 v1921), ∀ a x, ((![v1921] : Fin 1 → IVec S16 32) a x).toNat < S8192.size a := fun v1921 k1_hw143 => k1_hw143
def k1_off148 (k1_t1 : Fin k1_t1_loop.trips) : Fin 2 → Nat :=
  let c31_i32_878 : BitVec 32 := 31#32
  let v1934 : Index := Scalar.indexCast c31_i32_878
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1935 : Index := Scalar.indexCast v1260
  ![31, v1935.toNat]

def k1_chk144 (v34 : IVec S16 32) (v1933 : IVec S16 32) : Prop :=
  (∀ a x, ((![v34, v1933] : Fin 2 → IVec S16 32) a x).toNat < S16x1024.size a)
theorem k1_idx144_inb : ∀ (v34 : IVec S16 32) (v1933 : IVec S16 32) (k1_hw144 : k1_chk144 v34 v1933), ∀ a x, ((![v34, v1933] : Fin 2 → IVec S16 32) a x).toNat < S16x1024.size a := fun v34 v1933 k1_hw144 => k1_hw144
def k1_off149 (k1_t1 : Fin k1_t1_loop.trips) : Fin 2 → Nat :=
  let c31_i32_879 : BitVec 32 := 31#32
  let v1938 : Index := Scalar.indexCast c31_i32_879
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1939 : Index := Scalar.indexCast v1260
  ![31, v1939.toNat]

def k1_chk145 (v1944 : IVec S16 32) : Prop :=
  (∀ a x, ((![v1944] : Fin 1 → IVec S16 32) a x).toNat < S8192.size a)
theorem k1_idx145_inb : ∀ (v1944 : IVec S16 32) (k1_hw145 : k1_chk145 v1944), ∀ a x, ((![v1944] : Fin 1 → IVec S16 32) a x).toNat < S8192.size a := fun v1944 k1_hw145 => k1_hw145
def k1_off150 (k1_t1 : Fin k1_t1_loop.trips) : Fin 2 → Nat :=
  let c32_i32_887 : BitVec 32 := 32#32
  let v1957 : Index := Scalar.indexCast c32_i32_887
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1958 : Index := Scalar.indexCast v1260
  ![32, v1958.toNat]

def k1_chk146 (v34 : IVec S16 32) (v1956 : IVec S16 32) : Prop :=
  (∀ a x, ((![v34, v1956] : Fin 2 → IVec S16 32) a x).toNat < S16x1024.size a)
theorem k1_idx146_inb : ∀ (v34 : IVec S16 32) (v1956 : IVec S16 32) (k1_hw146 : k1_chk146 v34 v1956), ∀ a x, ((![v34, v1956] : Fin 2 → IVec S16 32) a x).toNat < S16x1024.size a := fun v34 v1956 k1_hw146 => k1_hw146
def k1_off151 (k1_t1 : Fin k1_t1_loop.trips) : Fin 2 → Nat :=
  let c32_i32_888 : BitVec 32 := 32#32
  let v1961 : Index := Scalar.indexCast c32_i32_888
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1962 : Index := Scalar.indexCast v1260
  ![32, v1962.toNat]

def k1_chk147 (v1967 : IVec S16 32) : Prop :=
  (∀ a x, ((![v1967] : Fin 1 → IVec S16 32) a x).toNat < S8192.size a)
theorem k1_idx147_inb : ∀ (v1967 : IVec S16 32) (k1_hw147 : k1_chk147 v1967), ∀ a x, ((![v1967] : Fin 1 → IVec S16 32) a x).toNat < S8192.size a := fun v1967 k1_hw147 => k1_hw147
def k1_off152 (k1_t1 : Fin k1_t1_loop.trips) : Fin 2 → Nat :=
  let c33_i32_896 : BitVec 32 := 33#32
  let v1980 : Index := Scalar.indexCast c33_i32_896
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1981 : Index := Scalar.indexCast v1260
  ![33, v1981.toNat]

def k1_chk148 (v34 : IVec S16 32) (v1979 : IVec S16 32) : Prop :=
  (∀ a x, ((![v34, v1979] : Fin 2 → IVec S16 32) a x).toNat < S16x1024.size a)
theorem k1_idx148_inb : ∀ (v34 : IVec S16 32) (v1979 : IVec S16 32) (k1_hw148 : k1_chk148 v34 v1979), ∀ a x, ((![v34, v1979] : Fin 2 → IVec S16 32) a x).toNat < S16x1024.size a := fun v34 v1979 k1_hw148 => k1_hw148
def k1_off153 (k1_t1 : Fin k1_t1_loop.trips) : Fin 2 → Nat :=
  let c33_i32_897 : BitVec 32 := 33#32
  let v1984 : Index := Scalar.indexCast c33_i32_897
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v1985 : Index := Scalar.indexCast v1260
  ![33, v1985.toNat]

def k1_chk149 (v1990 : IVec S16 32) : Prop :=
  (∀ a x, ((![v1990] : Fin 1 → IVec S16 32) a x).toNat < S8192.size a)
theorem k1_idx149_inb : ∀ (v1990 : IVec S16 32) (k1_hw149 : k1_chk149 v1990), ∀ a x, ((![v1990] : Fin 1 → IVec S16 32) a x).toNat < S8192.size a := fun v1990 k1_hw149 => k1_hw149
def k1_off154 (k1_t1 : Fin k1_t1_loop.trips) : Fin 2 → Nat :=
  let c34_i32_905 : BitVec 32 := 34#32
  let v2003 : Index := Scalar.indexCast c34_i32_905
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2004 : Index := Scalar.indexCast v1260
  ![34, v2004.toNat]

def k1_chk150 (v34 : IVec S16 32) (v2002 : IVec S16 32) : Prop :=
  (∀ a x, ((![v34, v2002] : Fin 2 → IVec S16 32) a x).toNat < S16x1024.size a)
theorem k1_idx150_inb : ∀ (v34 : IVec S16 32) (v2002 : IVec S16 32) (k1_hw150 : k1_chk150 v34 v2002), ∀ a x, ((![v34, v2002] : Fin 2 → IVec S16 32) a x).toNat < S16x1024.size a := fun v34 v2002 k1_hw150 => k1_hw150
def k1_off155 (k1_t1 : Fin k1_t1_loop.trips) : Fin 2 → Nat :=
  let c34_i32_906 : BitVec 32 := 34#32
  let v2007 : Index := Scalar.indexCast c34_i32_906
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2008 : Index := Scalar.indexCast v1260
  ![34, v2008.toNat]

def k1_chk151 (v2013 : IVec S16 32) : Prop :=
  (∀ a x, ((![v2013] : Fin 1 → IVec S16 32) a x).toNat < S8192.size a)
theorem k1_idx151_inb : ∀ (v2013 : IVec S16 32) (k1_hw151 : k1_chk151 v2013), ∀ a x, ((![v2013] : Fin 1 → IVec S16 32) a x).toNat < S8192.size a := fun v2013 k1_hw151 => k1_hw151
def k1_off156 (k1_t1 : Fin k1_t1_loop.trips) : Fin 2 → Nat :=
  let c35_i32_914 : BitVec 32 := 35#32
  let v2026 : Index := Scalar.indexCast c35_i32_914
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2027 : Index := Scalar.indexCast v1260
  ![35, v2027.toNat]

def k1_chk152 (v34 : IVec S16 32) (v2025 : IVec S16 32) : Prop :=
  (∀ a x, ((![v34, v2025] : Fin 2 → IVec S16 32) a x).toNat < S16x1024.size a)
theorem k1_idx152_inb : ∀ (v34 : IVec S16 32) (v2025 : IVec S16 32) (k1_hw152 : k1_chk152 v34 v2025), ∀ a x, ((![v34, v2025] : Fin 2 → IVec S16 32) a x).toNat < S16x1024.size a := fun v34 v2025 k1_hw152 => k1_hw152
def k1_off157 (k1_t1 : Fin k1_t1_loop.trips) : Fin 2 → Nat :=
  let c35_i32_915 : BitVec 32 := 35#32
  let v2030 : Index := Scalar.indexCast c35_i32_915
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2031 : Index := Scalar.indexCast v1260
  ![35, v2031.toNat]

def k1_chk153 (v2036 : IVec S16 32) : Prop :=
  (∀ a x, ((![v2036] : Fin 1 → IVec S16 32) a x).toNat < S8192.size a)
theorem k1_idx153_inb : ∀ (v2036 : IVec S16 32) (k1_hw153 : k1_chk153 v2036), ∀ a x, ((![v2036] : Fin 1 → IVec S16 32) a x).toNat < S8192.size a := fun v2036 k1_hw153 => k1_hw153
def k1_off158 (k1_t1 : Fin k1_t1_loop.trips) : Fin 2 → Nat :=
  let c36_i32_923 : BitVec 32 := 36#32
  let v2049 : Index := Scalar.indexCast c36_i32_923
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2050 : Index := Scalar.indexCast v1260
  ![36, v2050.toNat]

def k1_chk154 (v34 : IVec S16 32) (v2048 : IVec S16 32) : Prop :=
  (∀ a x, ((![v34, v2048] : Fin 2 → IVec S16 32) a x).toNat < S16x1024.size a)
theorem k1_idx154_inb : ∀ (v34 : IVec S16 32) (v2048 : IVec S16 32) (k1_hw154 : k1_chk154 v34 v2048), ∀ a x, ((![v34, v2048] : Fin 2 → IVec S16 32) a x).toNat < S16x1024.size a := fun v34 v2048 k1_hw154 => k1_hw154
def k1_off159 (k1_t1 : Fin k1_t1_loop.trips) : Fin 2 → Nat :=
  let c36_i32_924 : BitVec 32 := 36#32
  let v2053 : Index := Scalar.indexCast c36_i32_924
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2054 : Index := Scalar.indexCast v1260
  ![36, v2054.toNat]

def k1_chk155 (v2059 : IVec S16 32) : Prop :=
  (∀ a x, ((![v2059] : Fin 1 → IVec S16 32) a x).toNat < S8192.size a)
theorem k1_idx155_inb : ∀ (v2059 : IVec S16 32) (k1_hw155 : k1_chk155 v2059), ∀ a x, ((![v2059] : Fin 1 → IVec S16 32) a x).toNat < S8192.size a := fun v2059 k1_hw155 => k1_hw155
def k1_off160 (k1_t1 : Fin k1_t1_loop.trips) : Fin 2 → Nat :=
  let c37_i32_932 : BitVec 32 := 37#32
  let v2072 : Index := Scalar.indexCast c37_i32_932
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2073 : Index := Scalar.indexCast v1260
  ![37, v2073.toNat]

def k1_chk156 (v34 : IVec S16 32) (v2071 : IVec S16 32) : Prop :=
  (∀ a x, ((![v34, v2071] : Fin 2 → IVec S16 32) a x).toNat < S16x1024.size a)
theorem k1_idx156_inb : ∀ (v34 : IVec S16 32) (v2071 : IVec S16 32) (k1_hw156 : k1_chk156 v34 v2071), ∀ a x, ((![v34, v2071] : Fin 2 → IVec S16 32) a x).toNat < S16x1024.size a := fun v34 v2071 k1_hw156 => k1_hw156
def k1_off161 (k1_t1 : Fin k1_t1_loop.trips) : Fin 2 → Nat :=
  let c37_i32_933 : BitVec 32 := 37#32
  let v2076 : Index := Scalar.indexCast c37_i32_933
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2077 : Index := Scalar.indexCast v1260
  ![37, v2077.toNat]

def k1_chk157 (v2082 : IVec S16 32) : Prop :=
  (∀ a x, ((![v2082] : Fin 1 → IVec S16 32) a x).toNat < S8192.size a)
theorem k1_idx157_inb : ∀ (v2082 : IVec S16 32) (k1_hw157 : k1_chk157 v2082), ∀ a x, ((![v2082] : Fin 1 → IVec S16 32) a x).toNat < S8192.size a := fun v2082 k1_hw157 => k1_hw157
def k1_off162 (k1_t1 : Fin k1_t1_loop.trips) : Fin 2 → Nat :=
  let c38_i32_941 : BitVec 32 := 38#32
  let v2095 : Index := Scalar.indexCast c38_i32_941
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2096 : Index := Scalar.indexCast v1260
  ![38, v2096.toNat]

def k1_chk158 (v34 : IVec S16 32) (v2094 : IVec S16 32) : Prop :=
  (∀ a x, ((![v34, v2094] : Fin 2 → IVec S16 32) a x).toNat < S16x1024.size a)
theorem k1_idx158_inb : ∀ (v34 : IVec S16 32) (v2094 : IVec S16 32) (k1_hw158 : k1_chk158 v34 v2094), ∀ a x, ((![v34, v2094] : Fin 2 → IVec S16 32) a x).toNat < S16x1024.size a := fun v34 v2094 k1_hw158 => k1_hw158
def k1_off163 (k1_t1 : Fin k1_t1_loop.trips) : Fin 2 → Nat :=
  let c38_i32_942 : BitVec 32 := 38#32
  let v2099 : Index := Scalar.indexCast c38_i32_942
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2100 : Index := Scalar.indexCast v1260
  ![38, v2100.toNat]

def k1_chk159 (v2105 : IVec S16 32) : Prop :=
  (∀ a x, ((![v2105] : Fin 1 → IVec S16 32) a x).toNat < S8192.size a)
theorem k1_idx159_inb : ∀ (v2105 : IVec S16 32) (k1_hw159 : k1_chk159 v2105), ∀ a x, ((![v2105] : Fin 1 → IVec S16 32) a x).toNat < S8192.size a := fun v2105 k1_hw159 => k1_hw159
def k1_off164 (k1_t1 : Fin k1_t1_loop.trips) : Fin 2 → Nat :=
  let c39_i32_950 : BitVec 32 := 39#32
  let v2118 : Index := Scalar.indexCast c39_i32_950
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2119 : Index := Scalar.indexCast v1260
  ![39, v2119.toNat]

def k1_chk160 (v34 : IVec S16 32) (v2117 : IVec S16 32) : Prop :=
  (∀ a x, ((![v34, v2117] : Fin 2 → IVec S16 32) a x).toNat < S16x1024.size a)
theorem k1_idx160_inb : ∀ (v34 : IVec S16 32) (v2117 : IVec S16 32) (k1_hw160 : k1_chk160 v34 v2117), ∀ a x, ((![v34, v2117] : Fin 2 → IVec S16 32) a x).toNat < S16x1024.size a := fun v34 v2117 k1_hw160 => k1_hw160
def k1_off165 (k1_t1 : Fin k1_t1_loop.trips) : Fin 2 → Nat :=
  let c39_i32_951 : BitVec 32 := 39#32
  let v2122 : Index := Scalar.indexCast c39_i32_951
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c16_i32_615 : BitVec 32 := 16#32
  let v1260 : BitVec 32 := Scalar.muli v308 c16_i32_615
  let v2123 : Index := Scalar.indexCast v1260
  ![39, v2123.toNat]
def k1_off166 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_269 : BitVec 32 := 2#32
  let c0_i32_19 : BitVec 32 := 0#32
  let c1_i32_21 : BitVec 32 := 1#32
  let arg13 : BitVec 32 := Scf.iv c0_i32_19 c1_i32_21 k1_t1
  let v307 : BitVec 32 := Scalar.muli c2_i32_269 arg13
  let c1_i32_270 : BitVec 32 := 1#32
  let v308 : BitVec 32 := Scalar.addi v307 c1_i32_270
  let c2_i32_952 : BitVec 32 := 2#32
  let v2125 : BitVec 32 := Scalar.addi v308 c2_i32_952
  let c7_i32_953 : BitVec 32 := 7#32
  let v2126 : BitVec 32 := Scalar.minsi v2125 c7_i32_953
  let c16_i32_954 : BitVec 32 := 16#32
  let v2127 : BitVec 32 := Scalar.muli v2126 c16_i32_954
  let v2128 : BitVec 32 := Scalar.addi v2 v2127
  let c0_i32_955 : BitVec 32 := 0#32
  ![v2128.toNat, 0]
def k1_off167 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c112_i32 : BitVec 32 := 112#32
  let v42 : BitVec 32 := Scalar.addi v2 c112_i32
  let c0_i32_23 : BitVec 32 := 0#32
  ![v42.toNat, 0]
def k1_off168 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_269_r1 : BitVec 32 := 0#32
  let c0_i32_270_r1 : BitVec 32 := 0#32
  ![v1.toNat, 0, 0]
abbrev grid2 : Pipeline.Grid := ⟨2, ![2, 16], ![false, false]⟩

def k2_off1 (i : grid2.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6_r0 : BitVec 32 := 0#32
  let c0_i32_7_r0 : BitVec 32 := 0#32
  ![v1.toNat, 0, 0]
@[reducible] def k2_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
def k2_off2 (k2_t1 : Fin k2_t1_loop.trips) : Fin 2 → Nat :=
  let c0_i32_7 : BitVec 32 := 0#32
  let v8 : Index := Scalar.indexCast c0_i32_7
  let c0_i32_0 : BitVec 32 := 0#32
  let c1_i32 : BitVec 32 := 1#32
  let arg8 : BitVec 32 := Scf.iv c0_i32_0 c1_i32 k2_t1
  let c16_i32_6 : BitVec 32 := 16#32
  let v7 : BitVec 32 := Scalar.muli arg8 c16_i32_6
  let v9 : Index := Scalar.indexCast v7
  ![0, v9.toNat]
def k2_off3 (k2_t1 : Fin k2_t1_loop.trips) : Fin 2 → Nat :=
  let c1_i32_9 : BitVec 32 := 1#32
  let v12 : Index := Scalar.indexCast c1_i32_9
  let c0_i32_0 : BitVec 32 := 0#32
  let c1_i32 : BitVec 32 := 1#32
  let arg8 : BitVec 32 := Scf.iv c0_i32_0 c1_i32 k2_t1
  let c16_i32_8 : BitVec 32 := 16#32
  let v11 : BitVec 32 := Scalar.muli arg8 c16_i32_8
  let v13 : Index := Scalar.indexCast v11
  ![1, v13.toNat]
def k2_off4 (k2_t1 : Fin k2_t1_loop.trips) : Fin 2 → Nat :=
  let c2_i32 : BitVec 32 := 2#32
  let v16 : Index := Scalar.indexCast c2_i32
  let c0_i32_0 : BitVec 32 := 0#32
  let c1_i32 : BitVec 32 := 1#32
  let arg8 : BitVec 32 := Scf.iv c0_i32_0 c1_i32 k2_t1
  let c16_i32_10 : BitVec 32 := 16#32
  let v15 : BitVec 32 := Scalar.muli arg8 c16_i32_10
  let v17 : Index := Scalar.indexCast v15
  ![2, v17.toNat]
def k2_off5 (k2_t1 : Fin k2_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k2_t1
  let c16_i32_11 : BitVec 32 := 16#32
  let v19 : BitVec 32 := Scalar.muli arg8 c16_i32_11
  let v21 : Index := Scalar.indexCast v19
  ![3, v21.toNat]
def k2_off6 (k2_t1 : Fin k2_t1_loop.trips) : Fin 2 → Nat :=
  let c4_i32 : BitVec 32 := 4#32
  let v24 : Index := Scalar.indexCast c4_i32
  let c0_i32_0 : BitVec 32 := 0#32
  let c1_i32 : BitVec 32 := 1#32
  let arg8 : BitVec 32 := Scf.iv c0_i32_0 c1_i32 k2_t1
  let c16_i32_12 : BitVec 32 := 16#32
  let v23 : BitVec 32 := Scalar.muli arg8 c16_i32_12
  let v25 : Index := Scalar.indexCast v23
  ![4, v25.toNat]
def k2_off7 (k2_t1 : Fin k2_t1_loop.trips) : Fin 2 → Nat :=
  let c5_i32 : BitVec 32 := 5#32
  let v28 : Index := Scalar.indexCast c5_i32
  let c0_i32_0 : BitVec 32 := 0#32
  let c1_i32 : BitVec 32 := 1#32
  let arg8 : BitVec 32 := Scf.iv c0_i32_0 c1_i32 k2_t1
  let c16_i32_13 : BitVec 32 := 16#32
  let v27 : BitVec 32 := Scalar.muli arg8 c16_i32_13
  let v29 : Index := Scalar.indexCast v27
  ![5, v29.toNat]
def k2_off8 (k2_t1 : Fin k2_t1_loop.trips) : Fin 2 → Nat :=
  let c6_i32 : BitVec 32 := 6#32
  let v32 : Index := Scalar.indexCast c6_i32
  let c0_i32_0 : BitVec 32 := 0#32
  let c1_i32 : BitVec 32 := 1#32
  let arg8 : BitVec 32 := Scf.iv c0_i32_0 c1_i32 k2_t1
  let c16_i32_14 : BitVec 32 := 16#32
  let v31 : BitVec 32 := Scalar.muli arg8 c16_i32_14
  let v33 : Index := Scalar.indexCast v31
  ![6, v33.toNat]
def k2_off9 (k2_t1 : Fin k2_t1_loop.trips) : Fin 2 → Nat :=
  let c7_i32 : BitVec 32 := 7#32
  let v36 : Index := Scalar.indexCast c7_i32
  let c0_i32_0 : BitVec 32 := 0#32
  let c1_i32 : BitVec 32 := 1#32
  let arg8 : BitVec 32 := Scf.iv c0_i32_0 c1_i32 k2_t1
  let c16_i32_15 : BitVec 32 := 16#32
  let v35 : BitVec 32 := Scalar.muli arg8 c16_i32_15
  let v37 : Index := Scalar.indexCast v35
  ![7, v37.toNat]
def k2_off10 (k2_t1 : Fin k2_t1_loop.trips) : Fin 2 → Nat :=
  let c8_i32_17 : BitVec 32 := 8#32
  let v40 : Index := Scalar.indexCast c8_i32_17
  let c0_i32_0 : BitVec 32 := 0#32
  let c1_i32 : BitVec 32 := 1#32
  let arg8 : BitVec 32 := Scf.iv c0_i32_0 c1_i32 k2_t1
  let c16_i32_16 : BitVec 32 := 16#32
  let v39 : BitVec 32 := Scalar.muli arg8 c16_i32_16
  let v41 : Index := Scalar.indexCast v39
  ![8, v41.toNat]
def k2_off11 (k2_t1 : Fin k2_t1_loop.trips) : Fin 2 → Nat :=
  let c9_i32 : BitVec 32 := 9#32
  let v44 : Index := Scalar.indexCast c9_i32
  let c0_i32_0 : BitVec 32 := 0#32
  let c1_i32 : BitVec 32 := 1#32
  let arg8 : BitVec 32 := Scf.iv c0_i32_0 c1_i32 k2_t1
  let c16_i32_18 : BitVec 32 := 16#32
  let v43 : BitVec 32 := Scalar.muli arg8 c16_i32_18
  let v45 : Index := Scalar.indexCast v43
  ![9, v45.toNat]
def k2_off12 (k2_t1 : Fin k2_t1_loop.trips) : Fin 2 → Nat :=
  let c10_i32 : BitVec 32 := 10#32
  let v48 : Index := Scalar.indexCast c10_i32
  let c0_i32_0 : BitVec 32 := 0#32
  let c1_i32 : BitVec 32 := 1#32
  let arg8 : BitVec 32 := Scf.iv c0_i32_0 c1_i32 k2_t1
  let c16_i32_19 : BitVec 32 := 16#32
  let v47 : BitVec 32 := Scalar.muli arg8 c16_i32_19
  let v49 : Index := Scalar.indexCast v47
  ![10, v49.toNat]
def k2_off13 (k2_t1 : Fin k2_t1_loop.trips) : Fin 2 → Nat :=
  let c11_i32 : BitVec 32 := 11#32
  let v52 : Index := Scalar.indexCast c11_i32
  let c0_i32_0 : BitVec 32 := 0#32
  let c1_i32 : BitVec 32 := 1#32
  let arg8 : BitVec 32 := Scf.iv c0_i32_0 c1_i32 k2_t1
  let c16_i32_20 : BitVec 32 := 16#32
  let v51 : BitVec 32 := Scalar.muli arg8 c16_i32_20
  let v53 : Index := Scalar.indexCast v51
  ![11, v53.toNat]
def k2_off14 (k2_t1 : Fin k2_t1_loop.trips) : Fin 2 → Nat :=
  let c12_i32 : BitVec 32 := 12#32
  let v56 : Index := Scalar.indexCast c12_i32
  let c0_i32_0 : BitVec 32 := 0#32
  let c1_i32 : BitVec 32 := 1#32
  let arg8 : BitVec 32 := Scf.iv c0_i32_0 c1_i32 k2_t1
  let c16_i32_21 : BitVec 32 := 16#32
  let v55 : BitVec 32 := Scalar.muli arg8 c16_i32_21
  let v57 : Index := Scalar.indexCast v55
  ![12, v57.toNat]
def k2_off15 (k2_t1 : Fin k2_t1_loop.trips) : Fin 2 → Nat :=
  let c13_i32 : BitVec 32 := 13#32
  let v60 : Index := Scalar.indexCast c13_i32
  let c0_i32_0 : BitVec 32 := 0#32
  let c1_i32 : BitVec 32 := 1#32
  let arg8 : BitVec 32 := Scf.iv c0_i32_0 c1_i32 k2_t1
  let c16_i32_22 : BitVec 32 := 16#32
  let v59 : BitVec 32 := Scalar.muli arg8 c16_i32_22
  let v61 : Index := Scalar.indexCast v59
  ![13, v61.toNat]
def k2_off16 (k2_t1 : Fin k2_t1_loop.trips) : Fin 2 → Nat :=
  let c14_i32 : BitVec 32 := 14#32
  let v64 : Index := Scalar.indexCast c14_i32
  let c0_i32_0 : BitVec 32 := 0#32
  let c1_i32 : BitVec 32 := 1#32
  let arg8 : BitVec 32 := Scf.iv c0_i32_0 c1_i32 k2_t1
  let c16_i32_23 : BitVec 32 := 16#32
  let v63 : BitVec 32 := Scalar.muli arg8 c16_i32_23
  let v65 : Index := Scalar.indexCast v63
  ![14, v65.toNat]
def k2_off17 (k2_t1 : Fin k2_t1_loop.trips) : Fin 2 → Nat :=
  let c15_i32 : BitVec 32 := 15#32
  let v68 : Index := Scalar.indexCast c15_i32
  let c0_i32_0 : BitVec 32 := 0#32
  let c1_i32 : BitVec 32 := 1#32
  let arg8 : BitVec 32 := Scf.iv c0_i32_0 c1_i32 k2_t1
  let c16_i32_24 : BitVec 32 := 16#32
  let v67 : BitVec 32 := Scalar.muli arg8 c16_i32_24
  let v69 : Index := Scalar.indexCast v67
  ![15, v69.toNat]
@[reducible] def k2_t2_loop : Scf.Loop 32 :=
  let c0_i32_3 : BitVec 32 := 0#32
  let c8_i32 : BitVec 32 := 8#32
  let v6 : BitVec 32 := Scalar.addi c0_i32_3 c8_i32
  let c1_i32_4 : BitVec 32 := 1#32
  ⟨c0_i32_3, v6, c1_i32_4⟩
def k2_off18 (k2_t2 : Fin k2_t2_loop.trips) : Fin 2 → Nat :=
  let c0_i32_7 : BitVec 32 := 0#32
  let v8 : Index := Scalar.indexCast c0_i32_7
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v9 : Index := Scalar.indexCast v7
  ![0, v9.toNat]

def k2_chk1 (v3 : IVec S16 32) (v15 : IVec S16 32) : Prop :=
  (∀ a x, ((![v3, v15] : Fin 2 → IVec S16 32) a x).toNat < S16x1024.size a)
theorem k2_idx1_inb : ∀ (v3 : IVec S16 32) (v15 : IVec S16 32) (k2_hw1 : k2_chk1 v3 v15), ∀ a x, ((![v3, v15] : Fin 2 → IVec S16 32) a x).toNat < S16x1024.size a := fun v3 v15 k2_hw1 => k2_hw1
def k2_off19 (k2_t2 : Fin k2_t2_loop.trips) : Fin 2 → Nat :=
  let c1_i32_11 : BitVec 32 := 1#32
  let v18 : Index := Scalar.indexCast c1_i32_11
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v19 : Index := Scalar.indexCast v7
  ![1, v19.toNat]

def k2_chk2 (v3 : IVec S16 32) (v25 : IVec S16 32) : Prop :=
  (∀ a x, ((![v3, v25] : Fin 2 → IVec S16 32) a x).toNat < S16x1024.size a)
theorem k2_idx2_inb : ∀ (v3 : IVec S16 32) (v25 : IVec S16 32) (k2_hw2 : k2_chk2 v3 v25), ∀ a x, ((![v3, v25] : Fin 2 → IVec S16 32) a x).toNat < S16x1024.size a := fun v3 v25 k2_hw2 => k2_hw2
def k2_off20 (k2_t2 : Fin k2_t2_loop.trips) : Fin 2 → Nat :=
  let c2_i32 : BitVec 32 := 2#32
  let v28 : Index := Scalar.indexCast c2_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v29 : Index := Scalar.indexCast v7
  ![2, v29.toNat]

def k2_chk3 (v3 : IVec S16 32) (v35 : IVec S16 32) : Prop :=
  (∀ a x, ((![v3, v35] : Fin 2 → IVec S16 32) a x).toNat < S16x1024.size a)
theorem k2_idx3_inb : ∀ (v3 : IVec S16 32) (v35 : IVec S16 32) (k2_hw3 : k2_chk3 v3 v35), ∀ a x, ((![v3, v35] : Fin 2 → IVec S16 32) a x).toNat < S16x1024.size a := fun v3 v35 k2_hw3 => k2_hw3
def k2_off21 (k2_t2 : Fin k2_t2_loop.trips) : Fin 2 → Nat :=
  let c3_i32 : BitVec 32 := 3#32
  let v38 : Index := Scalar.indexCast c3_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v39 : Index := Scalar.indexCast v7
  ![3, v39.toNat]

def k2_chk4 (v3 : IVec S16 32) (v45 : IVec S16 32) : Prop :=
  (∀ a x, ((![v3, v45] : Fin 2 → IVec S16 32) a x).toNat < S16x1024.size a)
theorem k2_idx4_inb : ∀ (v3 : IVec S16 32) (v45 : IVec S16 32) (k2_hw4 : k2_chk4 v3 v45), ∀ a x, ((![v3, v45] : Fin 2 → IVec S16 32) a x).toNat < S16x1024.size a := fun v3 v45 k2_hw4 => k2_hw4
def k2_off22 (k2_t2 : Fin k2_t2_loop.trips) : Fin 2 → Nat :=
  let c4_i32 : BitVec 32 := 4#32
  let v48 : Index := Scalar.indexCast c4_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v49 : Index := Scalar.indexCast v7
  ![4, v49.toNat]

def k2_chk5 (v3 : IVec S16 32) (v55 : IVec S16 32) : Prop :=
  (∀ a x, ((![v3, v55] : Fin 2 → IVec S16 32) a x).toNat < S16x1024.size a)
theorem k2_idx5_inb : ∀ (v3 : IVec S16 32) (v55 : IVec S16 32) (k2_hw5 : k2_chk5 v3 v55), ∀ a x, ((![v3, v55] : Fin 2 → IVec S16 32) a x).toNat < S16x1024.size a := fun v3 v55 k2_hw5 => k2_hw5
def k2_off23 (k2_t2 : Fin k2_t2_loop.trips) : Fin 2 → Nat :=
  let c5_i32 : BitVec 32 := 5#32
  let v58 : Index := Scalar.indexCast c5_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v59 : Index := Scalar.indexCast v7
  ![5, v59.toNat]

def k2_chk6 (v3 : IVec S16 32) (v65 : IVec S16 32) : Prop :=
  (∀ a x, ((![v3, v65] : Fin 2 → IVec S16 32) a x).toNat < S16x1024.size a)
theorem k2_idx6_inb : ∀ (v3 : IVec S16 32) (v65 : IVec S16 32) (k2_hw6 : k2_chk6 v3 v65), ∀ a x, ((![v3, v65] : Fin 2 → IVec S16 32) a x).toNat < S16x1024.size a := fun v3 v65 k2_hw6 => k2_hw6
def k2_off24 (k2_t2 : Fin k2_t2_loop.trips) : Fin 2 → Nat :=
  let c6_i32 : BitVec 32 := 6#32
  let v68 : Index := Scalar.indexCast c6_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v69 : Index := Scalar.indexCast v7
  ![6, v69.toNat]

def k2_chk7 (v3 : IVec S16 32) (v75 : IVec S16 32) : Prop :=
  (∀ a x, ((![v3, v75] : Fin 2 → IVec S16 32) a x).toNat < S16x1024.size a)
theorem k2_idx7_inb : ∀ (v3 : IVec S16 32) (v75 : IVec S16 32) (k2_hw7 : k2_chk7 v3 v75), ∀ a x, ((![v3, v75] : Fin 2 → IVec S16 32) a x).toNat < S16x1024.size a := fun v3 v75 k2_hw7 => k2_hw7
def k2_off25 (k2_t2 : Fin k2_t2_loop.trips) : Fin 2 → Nat :=
  let c7_i32 : BitVec 32 := 7#32
  let v78 : Index := Scalar.indexCast c7_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v79 : Index := Scalar.indexCast v7
  ![7, v79.toNat]

def k2_chk8 (v3 : IVec S16 32) (v85 : IVec S16 32) : Prop :=
  (∀ a x, ((![v3, v85] : Fin 2 → IVec S16 32) a x).toNat < S16x1024.size a)
theorem k2_idx8_inb : ∀ (v3 : IVec S16 32) (v85 : IVec S16 32) (k2_hw8 : k2_chk8 v3 v85), ∀ a x, ((![v3, v85] : Fin 2 → IVec S16 32) a x).toNat < S16x1024.size a := fun v3 v85 k2_hw8 => k2_hw8
def k2_off26 (k2_t2 : Fin k2_t2_loop.trips) : Fin 2 → Nat :=
  let c8_i32_33 : BitVec 32 := 8#32
  let v88 : Index := Scalar.indexCast c8_i32_33
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v89 : Index := Scalar.indexCast v7
  ![8, v89.toNat]

def k2_chk9 (v3 : IVec S16 32) (v95 : IVec S16 32) : Prop :=
  (∀ a x, ((![v3, v95] : Fin 2 → IVec S16 32) a x).toNat < S16x1024.size a)
theorem k2_idx9_inb : ∀ (v3 : IVec S16 32) (v95 : IVec S16 32) (k2_hw9 : k2_chk9 v3 v95), ∀ a x, ((![v3, v95] : Fin 2 → IVec S16 32) a x).toNat < S16x1024.size a := fun v3 v95 k2_hw9 => k2_hw9
def k2_off27 (k2_t2 : Fin k2_t2_loop.trips) : Fin 2 → Nat :=
  let c9_i32 : BitVec 32 := 9#32
  let v98 : Index := Scalar.indexCast c9_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v99 : Index := Scalar.indexCast v7
  ![9, v99.toNat]

def k2_chk10 (v3 : IVec S16 32) (v105 : IVec S16 32) : Prop :=
  (∀ a x, ((![v3, v105] : Fin 2 → IVec S16 32) a x).toNat < S16x1024.size a)
theorem k2_idx10_inb : ∀ (v3 : IVec S16 32) (v105 : IVec S16 32) (k2_hw10 : k2_chk10 v3 v105), ∀ a x, ((![v3, v105] : Fin 2 → IVec S16 32) a x).toNat < S16x1024.size a := fun v3 v105 k2_hw10 => k2_hw10
def k2_off28 (k2_t2 : Fin k2_t2_loop.trips) : Fin 2 → Nat :=
  let c10_i32 : BitVec 32 := 10#32
  let v108 : Index := Scalar.indexCast c10_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v109 : Index := Scalar.indexCast v7
  ![10, v109.toNat]

def k2_chk11 (v3 : IVec S16 32) (v115 : IVec S16 32) : Prop :=
  (∀ a x, ((![v3, v115] : Fin 2 → IVec S16 32) a x).toNat < S16x1024.size a)
theorem k2_idx11_inb : ∀ (v3 : IVec S16 32) (v115 : IVec S16 32) (k2_hw11 : k2_chk11 v3 v115), ∀ a x, ((![v3, v115] : Fin 2 → IVec S16 32) a x).toNat < S16x1024.size a := fun v3 v115 k2_hw11 => k2_hw11
def k2_off29 (k2_t2 : Fin k2_t2_loop.trips) : Fin 2 → Nat :=
  let c11_i32 : BitVec 32 := 11#32
  let v118 : Index := Scalar.indexCast c11_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v119 : Index := Scalar.indexCast v7
  ![11, v119.toNat]

def k2_chk12 (v3 : IVec S16 32) (v125 : IVec S16 32) : Prop :=
  (∀ a x, ((![v3, v125] : Fin 2 → IVec S16 32) a x).toNat < S16x1024.size a)
theorem k2_idx12_inb : ∀ (v3 : IVec S16 32) (v125 : IVec S16 32) (k2_hw12 : k2_chk12 v3 v125), ∀ a x, ((![v3, v125] : Fin 2 → IVec S16 32) a x).toNat < S16x1024.size a := fun v3 v125 k2_hw12 => k2_hw12
def k2_off30 (k2_t2 : Fin k2_t2_loop.trips) : Fin 2 → Nat :=
  let c12_i32 : BitVec 32 := 12#32
  let v128 : Index := Scalar.indexCast c12_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v129 : Index := Scalar.indexCast v7
  ![12, v129.toNat]

def k2_chk13 (v3 : IVec S16 32) (v135 : IVec S16 32) : Prop :=
  (∀ a x, ((![v3, v135] : Fin 2 → IVec S16 32) a x).toNat < S16x1024.size a)
theorem k2_idx13_inb : ∀ (v3 : IVec S16 32) (v135 : IVec S16 32) (k2_hw13 : k2_chk13 v3 v135), ∀ a x, ((![v3, v135] : Fin 2 → IVec S16 32) a x).toNat < S16x1024.size a := fun v3 v135 k2_hw13 => k2_hw13
def k2_off31 (k2_t2 : Fin k2_t2_loop.trips) : Fin 2 → Nat :=
  let c13_i32 : BitVec 32 := 13#32
  let v138 : Index := Scalar.indexCast c13_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v139 : Index := Scalar.indexCast v7
  ![13, v139.toNat]

def k2_chk14 (v3 : IVec S16 32) (v145 : IVec S16 32) : Prop :=
  (∀ a x, ((![v3, v145] : Fin 2 → IVec S16 32) a x).toNat < S16x1024.size a)
theorem k2_idx14_inb : ∀ (v3 : IVec S16 32) (v145 : IVec S16 32) (k2_hw14 : k2_chk14 v3 v145), ∀ a x, ((![v3, v145] : Fin 2 → IVec S16 32) a x).toNat < S16x1024.size a := fun v3 v145 k2_hw14 => k2_hw14
def k2_off32 (k2_t2 : Fin k2_t2_loop.trips) : Fin 2 → Nat :=
  let c14_i32 : BitVec 32 := 14#32
  let v148 : Index := Scalar.indexCast c14_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v149 : Index := Scalar.indexCast v7
  ![14, v149.toNat]

def k2_chk15 (v3 : IVec S16 32) (v155 : IVec S16 32) : Prop :=
  (∀ a x, ((![v3, v155] : Fin 2 → IVec S16 32) a x).toNat < S16x1024.size a)
theorem k2_idx15_inb : ∀ (v3 : IVec S16 32) (v155 : IVec S16 32) (k2_hw15 : k2_chk15 v3 v155), ∀ a x, ((![v3, v155] : Fin 2 → IVec S16 32) a x).toNat < S16x1024.size a := fun v3 v155 k2_hw15 => k2_hw15
def k2_off33 (k2_t2 : Fin k2_t2_loop.trips) : Fin 2 → Nat :=
  let c15_i32 : BitVec 32 := 15#32
  let v158 : Index := Scalar.indexCast c15_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v159 : Index := Scalar.indexCast v7
  ![15, v159.toNat]

def k2_chk16 (v3 : IVec S16 32) (v165 : IVec S16 32) : Prop :=
  (∀ a x, ((![v3, v165] : Fin 2 → IVec S16 32) a x).toNat < S16x1024.size a)
theorem k2_idx16_inb : ∀ (v3 : IVec S16 32) (v165 : IVec S16 32) (k2_hw16 : k2_chk16 v3 v165), ∀ a x, ((![v3, v165] : Fin 2 → IVec S16 32) a x).toNat < S16x1024.size a := fun v3 v165 k2_hw16 => k2_hw16
def k2_off34 (k2_t2 : Fin k2_t2_loop.trips) : Fin 2 → Nat :=
  let c16_i32_58 : BitVec 32 := 16#32
  let v168 : Index := Scalar.indexCast c16_i32_58
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v169 : Index := Scalar.indexCast v7
  ![16, v169.toNat]

def k2_chk17 (v3 : IVec S16 32) (v175 : IVec S16 32) : Prop :=
  (∀ a x, ((![v3, v175] : Fin 2 → IVec S16 32) a x).toNat < S16x1024.size a)
theorem k2_idx17_inb : ∀ (v3 : IVec S16 32) (v175 : IVec S16 32) (k2_hw17 : k2_chk17 v3 v175), ∀ a x, ((![v3, v175] : Fin 2 → IVec S16 32) a x).toNat < S16x1024.size a := fun v3 v175 k2_hw17 => k2_hw17
def k2_off35 (k2_t2 : Fin k2_t2_loop.trips) : Fin 2 → Nat :=
  let c17_i32 : BitVec 32 := 17#32
  let v178 : Index := Scalar.indexCast c17_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v179 : Index := Scalar.indexCast v7
  ![17, v179.toNat]

def k2_chk18 (v3 : IVec S16 32) (v185 : IVec S16 32) : Prop :=
  (∀ a x, ((![v3, v185] : Fin 2 → IVec S16 32) a x).toNat < S16x1024.size a)
theorem k2_idx18_inb : ∀ (v3 : IVec S16 32) (v185 : IVec S16 32) (k2_hw18 : k2_chk18 v3 v185), ∀ a x, ((![v3, v185] : Fin 2 → IVec S16 32) a x).toNat < S16x1024.size a := fun v3 v185 k2_hw18 => k2_hw18
def k2_off36 (k2_t2 : Fin k2_t2_loop.trips) : Fin 2 → Nat :=
  let c18_i32 : BitVec 32 := 18#32
  let v188 : Index := Scalar.indexCast c18_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v189 : Index := Scalar.indexCast v7
  ![18, v189.toNat]

def k2_chk19 (v3 : IVec S16 32) (v195 : IVec S16 32) : Prop :=
  (∀ a x, ((![v3, v195] : Fin 2 → IVec S16 32) a x).toNat < S16x1024.size a)
theorem k2_idx19_inb : ∀ (v3 : IVec S16 32) (v195 : IVec S16 32) (k2_hw19 : k2_chk19 v3 v195), ∀ a x, ((![v3, v195] : Fin 2 → IVec S16 32) a x).toNat < S16x1024.size a := fun v3 v195 k2_hw19 => k2_hw19
def k2_off37 (k2_t2 : Fin k2_t2_loop.trips) : Fin 2 → Nat :=
  let c19_i32 : BitVec 32 := 19#32
  let v198 : Index := Scalar.indexCast c19_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v199 : Index := Scalar.indexCast v7
  ![19, v199.toNat]

def k2_chk20 (v3 : IVec S16 32) (v205 : IVec S16 32) : Prop :=
  (∀ a x, ((![v3, v205] : Fin 2 → IVec S16 32) a x).toNat < S16x1024.size a)
theorem k2_idx20_inb : ∀ (v3 : IVec S16 32) (v205 : IVec S16 32) (k2_hw20 : k2_chk20 v3 v205), ∀ a x, ((![v3, v205] : Fin 2 → IVec S16 32) a x).toNat < S16x1024.size a := fun v3 v205 k2_hw20 => k2_hw20
def k2_off38 (k2_t2 : Fin k2_t2_loop.trips) : Fin 2 → Nat :=
  let c20_i32 : BitVec 32 := 20#32
  let v208 : Index := Scalar.indexCast c20_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v209 : Index := Scalar.indexCast v7
  ![20, v209.toNat]

def k2_chk21 (v3 : IVec S16 32) (v215 : IVec S16 32) : Prop :=
  (∀ a x, ((![v3, v215] : Fin 2 → IVec S16 32) a x).toNat < S16x1024.size a)
theorem k2_idx21_inb : ∀ (v3 : IVec S16 32) (v215 : IVec S16 32) (k2_hw21 : k2_chk21 v3 v215), ∀ a x, ((![v3, v215] : Fin 2 → IVec S16 32) a x).toNat < S16x1024.size a := fun v3 v215 k2_hw21 => k2_hw21
def k2_off39 (k2_t2 : Fin k2_t2_loop.trips) : Fin 2 → Nat :=
  let c21_i32 : BitVec 32 := 21#32
  let v218 : Index := Scalar.indexCast c21_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v219 : Index := Scalar.indexCast v7
  ![21, v219.toNat]

def k2_chk22 (v3 : IVec S16 32) (v225 : IVec S16 32) : Prop :=
  (∀ a x, ((![v3, v225] : Fin 2 → IVec S16 32) a x).toNat < S16x1024.size a)
theorem k2_idx22_inb : ∀ (v3 : IVec S16 32) (v225 : IVec S16 32) (k2_hw22 : k2_chk22 v3 v225), ∀ a x, ((![v3, v225] : Fin 2 → IVec S16 32) a x).toNat < S16x1024.size a := fun v3 v225 k2_hw22 => k2_hw22
def k2_off40 (k2_t2 : Fin k2_t2_loop.trips) : Fin 2 → Nat :=
  let c22_i32 : BitVec 32 := 22#32
  let v228 : Index := Scalar.indexCast c22_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v229 : Index := Scalar.indexCast v7
  ![22, v229.toNat]

def k2_chk23 (v3 : IVec S16 32) (v235 : IVec S16 32) : Prop :=
  (∀ a x, ((![v3, v235] : Fin 2 → IVec S16 32) a x).toNat < S16x1024.size a)
theorem k2_idx23_inb : ∀ (v3 : IVec S16 32) (v235 : IVec S16 32) (k2_hw23 : k2_chk23 v3 v235), ∀ a x, ((![v3, v235] : Fin 2 → IVec S16 32) a x).toNat < S16x1024.size a := fun v3 v235 k2_hw23 => k2_hw23
def k2_off41 (k2_t2 : Fin k2_t2_loop.trips) : Fin 2 → Nat :=
  let c23_i32 : BitVec 32 := 23#32
  let v238 : Index := Scalar.indexCast c23_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v239 : Index := Scalar.indexCast v7
  ![23, v239.toNat]

def k2_chk24 (v3 : IVec S16 32) (v245 : IVec S16 32) : Prop :=
  (∀ a x, ((![v3, v245] : Fin 2 → IVec S16 32) a x).toNat < S16x1024.size a)
theorem k2_idx24_inb : ∀ (v3 : IVec S16 32) (v245 : IVec S16 32) (k2_hw24 : k2_chk24 v3 v245), ∀ a x, ((![v3, v245] : Fin 2 → IVec S16 32) a x).toNat < S16x1024.size a := fun v3 v245 k2_hw24 => k2_hw24
def k2_off42 (k2_t2 : Fin k2_t2_loop.trips) : Fin 2 → Nat :=
  let c24_i32 : BitVec 32 := 24#32
  let v248 : Index := Scalar.indexCast c24_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v249 : Index := Scalar.indexCast v7
  ![24, v249.toNat]

def k2_chk25 (v3 : IVec S16 32) (v255 : IVec S16 32) : Prop :=
  (∀ a x, ((![v3, v255] : Fin 2 → IVec S16 32) a x).toNat < S16x1024.size a)
theorem k2_idx25_inb : ∀ (v3 : IVec S16 32) (v255 : IVec S16 32) (k2_hw25 : k2_chk25 v3 v255), ∀ a x, ((![v3, v255] : Fin 2 → IVec S16 32) a x).toNat < S16x1024.size a := fun v3 v255 k2_hw25 => k2_hw25
def k2_off43 (k2_t2 : Fin k2_t2_loop.trips) : Fin 2 → Nat :=
  let c25_i32 : BitVec 32 := 25#32
  let v258 : Index := Scalar.indexCast c25_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v259 : Index := Scalar.indexCast v7
  ![25, v259.toNat]

def k2_chk26 (v3 : IVec S16 32) (v265 : IVec S16 32) : Prop :=
  (∀ a x, ((![v3, v265] : Fin 2 → IVec S16 32) a x).toNat < S16x1024.size a)
theorem k2_idx26_inb : ∀ (v3 : IVec S16 32) (v265 : IVec S16 32) (k2_hw26 : k2_chk26 v3 v265), ∀ a x, ((![v3, v265] : Fin 2 → IVec S16 32) a x).toNat < S16x1024.size a := fun v3 v265 k2_hw26 => k2_hw26
def k2_off44 (k2_t2 : Fin k2_t2_loop.trips) : Fin 2 → Nat :=
  let c26_i32 : BitVec 32 := 26#32
  let v268 : Index := Scalar.indexCast c26_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v269 : Index := Scalar.indexCast v7
  ![26, v269.toNat]

def k2_chk27 (v3 : IVec S16 32) (v275 : IVec S16 32) : Prop :=
  (∀ a x, ((![v3, v275] : Fin 2 → IVec S16 32) a x).toNat < S16x1024.size a)
theorem k2_idx27_inb : ∀ (v3 : IVec S16 32) (v275 : IVec S16 32) (k2_hw27 : k2_chk27 v3 v275), ∀ a x, ((![v3, v275] : Fin 2 → IVec S16 32) a x).toNat < S16x1024.size a := fun v3 v275 k2_hw27 => k2_hw27
def k2_off45 (k2_t2 : Fin k2_t2_loop.trips) : Fin 2 → Nat :=
  let c27_i32 : BitVec 32 := 27#32
  let v278 : Index := Scalar.indexCast c27_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v279 : Index := Scalar.indexCast v7
  ![27, v279.toNat]

def k2_chk28 (v3 : IVec S16 32) (v285 : IVec S16 32) : Prop :=
  (∀ a x, ((![v3, v285] : Fin 2 → IVec S16 32) a x).toNat < S16x1024.size a)
theorem k2_idx28_inb : ∀ (v3 : IVec S16 32) (v285 : IVec S16 32) (k2_hw28 : k2_chk28 v3 v285), ∀ a x, ((![v3, v285] : Fin 2 → IVec S16 32) a x).toNat < S16x1024.size a := fun v3 v285 k2_hw28 => k2_hw28
def k2_off46 (k2_t2 : Fin k2_t2_loop.trips) : Fin 2 → Nat :=
  let c28_i32 : BitVec 32 := 28#32
  let v288 : Index := Scalar.indexCast c28_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v289 : Index := Scalar.indexCast v7
  ![28, v289.toNat]

def k2_chk29 (v3 : IVec S16 32) (v295 : IVec S16 32) : Prop :=
  (∀ a x, ((![v3, v295] : Fin 2 → IVec S16 32) a x).toNat < S16x1024.size a)
theorem k2_idx29_inb : ∀ (v3 : IVec S16 32) (v295 : IVec S16 32) (k2_hw29 : k2_chk29 v3 v295), ∀ a x, ((![v3, v295] : Fin 2 → IVec S16 32) a x).toNat < S16x1024.size a := fun v3 v295 k2_hw29 => k2_hw29
def k2_off47 (k2_t2 : Fin k2_t2_loop.trips) : Fin 2 → Nat :=
  let c29_i32 : BitVec 32 := 29#32
  let v298 : Index := Scalar.indexCast c29_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v299 : Index := Scalar.indexCast v7
  ![29, v299.toNat]

def k2_chk30 (v3 : IVec S16 32) (v305 : IVec S16 32) : Prop :=
  (∀ a x, ((![v3, v305] : Fin 2 → IVec S16 32) a x).toNat < S16x1024.size a)
theorem k2_idx30_inb : ∀ (v3 : IVec S16 32) (v305 : IVec S16 32) (k2_hw30 : k2_chk30 v3 v305), ∀ a x, ((![v3, v305] : Fin 2 → IVec S16 32) a x).toNat < S16x1024.size a := fun v3 v305 k2_hw30 => k2_hw30
def k2_off48 (k2_t2 : Fin k2_t2_loop.trips) : Fin 2 → Nat :=
  let c30_i32 : BitVec 32 := 30#32
  let v308 : Index := Scalar.indexCast c30_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v309 : Index := Scalar.indexCast v7
  ![30, v309.toNat]

def k2_chk31 (v3 : IVec S16 32) (v315 : IVec S16 32) : Prop :=
  (∀ a x, ((![v3, v315] : Fin 2 → IVec S16 32) a x).toNat < S16x1024.size a)
theorem k2_idx31_inb : ∀ (v3 : IVec S16 32) (v315 : IVec S16 32) (k2_hw31 : k2_chk31 v3 v315), ∀ a x, ((![v3, v315] : Fin 2 → IVec S16 32) a x).toNat < S16x1024.size a := fun v3 v315 k2_hw31 => k2_hw31
def k2_off49 (k2_t2 : Fin k2_t2_loop.trips) : Fin 2 → Nat :=
  let c31_i32 : BitVec 32 := 31#32
  let v318 : Index := Scalar.indexCast c31_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v319 : Index := Scalar.indexCast v7
  ![31, v319.toNat]

def k2_chk32 (v3 : IVec S16 32) (v325 : IVec S16 32) : Prop :=
  (∀ a x, ((![v3, v325] : Fin 2 → IVec S16 32) a x).toNat < S16x1024.size a)
theorem k2_idx32_inb : ∀ (v3 : IVec S16 32) (v325 : IVec S16 32) (k2_hw32 : k2_chk32 v3 v325), ∀ a x, ((![v3, v325] : Fin 2 → IVec S16 32) a x).toNat < S16x1024.size a := fun v3 v325 k2_hw32 => k2_hw32
def k2_off50 (k2_t2 : Fin k2_t2_loop.trips) : Fin 2 → Nat :=
  let c32_i32 : BitVec 32 := 32#32
  let v328 : Index := Scalar.indexCast c32_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v329 : Index := Scalar.indexCast v7
  ![32, v329.toNat]

def k2_chk33 (v3 : IVec S16 32) (v335 : IVec S16 32) : Prop :=
  (∀ a x, ((![v3, v335] : Fin 2 → IVec S16 32) a x).toNat < S16x1024.size a)
theorem k2_idx33_inb : ∀ (v3 : IVec S16 32) (v335 : IVec S16 32) (k2_hw33 : k2_chk33 v3 v335), ∀ a x, ((![v3, v335] : Fin 2 → IVec S16 32) a x).toNat < S16x1024.size a := fun v3 v335 k2_hw33 => k2_hw33
def k2_off51 (k2_t2 : Fin k2_t2_loop.trips) : Fin 2 → Nat :=
  let c33_i32 : BitVec 32 := 33#32
  let v338 : Index := Scalar.indexCast c33_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v339 : Index := Scalar.indexCast v7
  ![33, v339.toNat]

def k2_chk34 (v3 : IVec S16 32) (v345 : IVec S16 32) : Prop :=
  (∀ a x, ((![v3, v345] : Fin 2 → IVec S16 32) a x).toNat < S16x1024.size a)
theorem k2_idx34_inb : ∀ (v3 : IVec S16 32) (v345 : IVec S16 32) (k2_hw34 : k2_chk34 v3 v345), ∀ a x, ((![v3, v345] : Fin 2 → IVec S16 32) a x).toNat < S16x1024.size a := fun v3 v345 k2_hw34 => k2_hw34
def k2_off52 (k2_t2 : Fin k2_t2_loop.trips) : Fin 2 → Nat :=
  let c34_i32 : BitVec 32 := 34#32
  let v348 : Index := Scalar.indexCast c34_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v349 : Index := Scalar.indexCast v7
  ![34, v349.toNat]

def k2_chk35 (v3 : IVec S16 32) (v355 : IVec S16 32) : Prop :=
  (∀ a x, ((![v3, v355] : Fin 2 → IVec S16 32) a x).toNat < S16x1024.size a)
theorem k2_idx35_inb : ∀ (v3 : IVec S16 32) (v355 : IVec S16 32) (k2_hw35 : k2_chk35 v3 v355), ∀ a x, ((![v3, v355] : Fin 2 → IVec S16 32) a x).toNat < S16x1024.size a := fun v3 v355 k2_hw35 => k2_hw35
def k2_off53 (k2_t2 : Fin k2_t2_loop.trips) : Fin 2 → Nat :=
  let c35_i32 : BitVec 32 := 35#32
  let v358 : Index := Scalar.indexCast c35_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v359 : Index := Scalar.indexCast v7
  ![35, v359.toNat]

def k2_chk36 (v3 : IVec S16 32) (v365 : IVec S16 32) : Prop :=
  (∀ a x, ((![v3, v365] : Fin 2 → IVec S16 32) a x).toNat < S16x1024.size a)
theorem k2_idx36_inb : ∀ (v3 : IVec S16 32) (v365 : IVec S16 32) (k2_hw36 : k2_chk36 v3 v365), ∀ a x, ((![v3, v365] : Fin 2 → IVec S16 32) a x).toNat < S16x1024.size a := fun v3 v365 k2_hw36 => k2_hw36
def k2_off54 (k2_t2 : Fin k2_t2_loop.trips) : Fin 2 → Nat :=
  let c36_i32 : BitVec 32 := 36#32
  let v368 : Index := Scalar.indexCast c36_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v369 : Index := Scalar.indexCast v7
  ![36, v369.toNat]

def k2_chk37 (v3 : IVec S16 32) (v375 : IVec S16 32) : Prop :=
  (∀ a x, ((![v3, v375] : Fin 2 → IVec S16 32) a x).toNat < S16x1024.size a)
theorem k2_idx37_inb : ∀ (v3 : IVec S16 32) (v375 : IVec S16 32) (k2_hw37 : k2_chk37 v3 v375), ∀ a x, ((![v3, v375] : Fin 2 → IVec S16 32) a x).toNat < S16x1024.size a := fun v3 v375 k2_hw37 => k2_hw37
def k2_off55 (k2_t2 : Fin k2_t2_loop.trips) : Fin 2 → Nat :=
  let c37_i32 : BitVec 32 := 37#32
  let v378 : Index := Scalar.indexCast c37_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v379 : Index := Scalar.indexCast v7
  ![37, v379.toNat]

def k2_chk38 (v3 : IVec S16 32) (v385 : IVec S16 32) : Prop :=
  (∀ a x, ((![v3, v385] : Fin 2 → IVec S16 32) a x).toNat < S16x1024.size a)
theorem k2_idx38_inb : ∀ (v3 : IVec S16 32) (v385 : IVec S16 32) (k2_hw38 : k2_chk38 v3 v385), ∀ a x, ((![v3, v385] : Fin 2 → IVec S16 32) a x).toNat < S16x1024.size a := fun v3 v385 k2_hw38 => k2_hw38
def k2_off56 (k2_t2 : Fin k2_t2_loop.trips) : Fin 2 → Nat :=
  let c38_i32 : BitVec 32 := 38#32
  let v388 : Index := Scalar.indexCast c38_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v389 : Index := Scalar.indexCast v7
  ![38, v389.toNat]

def k2_chk39 (v3 : IVec S16 32) (v395 : IVec S16 32) : Prop :=
  (∀ a x, ((![v3, v395] : Fin 2 → IVec S16 32) a x).toNat < S16x1024.size a)
theorem k2_idx39_inb : ∀ (v3 : IVec S16 32) (v395 : IVec S16 32) (k2_hw39 : k2_chk39 v3 v395), ∀ a x, ((![v3, v395] : Fin 2 → IVec S16 32) a x).toNat < S16x1024.size a := fun v3 v395 k2_hw39 => k2_hw39
def k2_off57 (k2_t2 : Fin k2_t2_loop.trips) : Fin 2 → Nat :=
  let c39_i32 : BitVec 32 := 39#32
  let v398 : Index := Scalar.indexCast c39_i32
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v399 : Index := Scalar.indexCast v7
  ![39, v399.toNat]

def k2_chk40 (v3 : IVec S16 32) (v405 : IVec S16 32) : Prop :=
  (∀ a x, ((![v3, v405] : Fin 2 → IVec S16 32) a x).toNat < S16x1024.size a)
theorem k2_idx40_inb : ∀ (v3 : IVec S16 32) (v405 : IVec S16 32) (k2_hw40 : k2_chk40 v3 v405), ∀ a x, ((![v3, v405] : Fin 2 → IVec S16 32) a x).toNat < S16x1024.size a := fun v3 v405 k2_hw40 => k2_hw40
def k2_off58 (i : grid2.Coords) (k2_t2 : Fin k2_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c0_i32_3 : BitVec 32 := 0#32
  let c1_i32_4 : BitVec 32 := 1#32
  let arg8 : BitVec 32 := Scf.iv c0_i32_3 c1_i32_4 k2_t2
  let c16_i32_131 : BitVec 32 := 16#32
  let v408 : BitVec 32 := Scalar.muli arg8 c16_i32_131
  let v409 : BitVec 32 := Scalar.addi v2 v408
  let c0_i32_252_r2 : BitVec 32 := 0#32
  ![v409.toNat, 0]
def k2_off59 (k2_t2 : Fin k2_t2_loop.trips) : Fin 2 → Nat :=
  let c0_i32_132 : BitVec 32 := 0#32
  let v410 : Index := Scalar.indexCast c0_i32_132
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v411 : Index := Scalar.indexCast v7
  ![0, v411.toNat]

def k2_chk41 (v3 : IVec S16 32) (v414 : IVec S16 32) : Prop :=
  (∀ a x, ((![v3, v414] : Fin 2 → IVec S16 32) a x).toNat < S16x1024.size a)
theorem k2_idx41_inb : ∀ (v3 : IVec S16 32) (v414 : IVec S16 32) (k2_hw41 : k2_chk41 v3 v414), ∀ a x, ((![v3, v414] : Fin 2 → IVec S16 32) a x).toNat < S16x1024.size a := fun v3 v414 k2_hw41 => k2_hw41
def k2_off60 (k2_t2 : Fin k2_t2_loop.trips) : Fin 2 → Nat :=
  let c1_i32_135 : BitVec 32 := 1#32
  let v417 : Index := Scalar.indexCast c1_i32_135
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v418 : Index := Scalar.indexCast v7
  ![1, v418.toNat]

def k2_chk42 (v3 : IVec S16 32) (v421 : IVec S16 32) : Prop :=
  (∀ a x, ((![v3, v421] : Fin 2 → IVec S16 32) a x).toNat < S16x1024.size a)
theorem k2_idx42_inb : ∀ (v3 : IVec S16 32) (v421 : IVec S16 32) (k2_hw42 : k2_chk42 v3 v421), ∀ a x, ((![v3, v421] : Fin 2 → IVec S16 32) a x).toNat < S16x1024.size a := fun v3 v421 k2_hw42 => k2_hw42
def k2_off61 (k2_t2 : Fin k2_t2_loop.trips) : Fin 2 → Nat :=
  let c2_i32_138 : BitVec 32 := 2#32
  let v424 : Index := Scalar.indexCast c2_i32_138
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v425 : Index := Scalar.indexCast v7
  ![2, v425.toNat]

def k2_chk43 (v3 : IVec S16 32) (v428 : IVec S16 32) : Prop :=
  (∀ a x, ((![v3, v428] : Fin 2 → IVec S16 32) a x).toNat < S16x1024.size a)
theorem k2_idx43_inb : ∀ (v3 : IVec S16 32) (v428 : IVec S16 32) (k2_hw43 : k2_chk43 v3 v428), ∀ a x, ((![v3, v428] : Fin 2 → IVec S16 32) a x).toNat < S16x1024.size a := fun v3 v428 k2_hw43 => k2_hw43
def k2_off62 (k2_t2 : Fin k2_t2_loop.trips) : Fin 2 → Nat :=
  let c3_i32_141 : BitVec 32 := 3#32
  let v431 : Index := Scalar.indexCast c3_i32_141
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v432 : Index := Scalar.indexCast v7
  ![3, v432.toNat]

def k2_chk44 (v3 : IVec S16 32) (v435 : IVec S16 32) : Prop :=
  (∀ a x, ((![v3, v435] : Fin 2 → IVec S16 32) a x).toNat < S16x1024.size a)
theorem k2_idx44_inb : ∀ (v3 : IVec S16 32) (v435 : IVec S16 32) (k2_hw44 : k2_chk44 v3 v435), ∀ a x, ((![v3, v435] : Fin 2 → IVec S16 32) a x).toNat < S16x1024.size a := fun v3 v435 k2_hw44 => k2_hw44
def k2_off63 (k2_t2 : Fin k2_t2_loop.trips) : Fin 2 → Nat :=
  let c4_i32_144 : BitVec 32 := 4#32
  let v438 : Index := Scalar.indexCast c4_i32_144
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v439 : Index := Scalar.indexCast v7
  ![4, v439.toNat]

def k2_chk45 (v3 : IVec S16 32) (v442 : IVec S16 32) : Prop :=
  (∀ a x, ((![v3, v442] : Fin 2 → IVec S16 32) a x).toNat < S16x1024.size a)
theorem k2_idx45_inb : ∀ (v3 : IVec S16 32) (v442 : IVec S16 32) (k2_hw45 : k2_chk45 v3 v442), ∀ a x, ((![v3, v442] : Fin 2 → IVec S16 32) a x).toNat < S16x1024.size a := fun v3 v442 k2_hw45 => k2_hw45
def k2_off64 (k2_t2 : Fin k2_t2_loop.trips) : Fin 2 → Nat :=
  let c5_i32_147 : BitVec 32 := 5#32
  let v445 : Index := Scalar.indexCast c5_i32_147
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v446 : Index := Scalar.indexCast v7
  ![5, v446.toNat]

def k2_chk46 (v3 : IVec S16 32) (v449 : IVec S16 32) : Prop :=
  (∀ a x, ((![v3, v449] : Fin 2 → IVec S16 32) a x).toNat < S16x1024.size a)
theorem k2_idx46_inb : ∀ (v3 : IVec S16 32) (v449 : IVec S16 32) (k2_hw46 : k2_chk46 v3 v449), ∀ a x, ((![v3, v449] : Fin 2 → IVec S16 32) a x).toNat < S16x1024.size a := fun v3 v449 k2_hw46 => k2_hw46
def k2_off65 (k2_t2 : Fin k2_t2_loop.trips) : Fin 2 → Nat :=
  let c6_i32_150 : BitVec 32 := 6#32
  let v452 : Index := Scalar.indexCast c6_i32_150
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v453 : Index := Scalar.indexCast v7
  ![6, v453.toNat]

def k2_chk47 (v3 : IVec S16 32) (v456 : IVec S16 32) : Prop :=
  (∀ a x, ((![v3, v456] : Fin 2 → IVec S16 32) a x).toNat < S16x1024.size a)
theorem k2_idx47_inb : ∀ (v3 : IVec S16 32) (v456 : IVec S16 32) (k2_hw47 : k2_chk47 v3 v456), ∀ a x, ((![v3, v456] : Fin 2 → IVec S16 32) a x).toNat < S16x1024.size a := fun v3 v456 k2_hw47 => k2_hw47
def k2_off66 (k2_t2 : Fin k2_t2_loop.trips) : Fin 2 → Nat :=
  let c7_i32_153 : BitVec 32 := 7#32
  let v459 : Index := Scalar.indexCast c7_i32_153
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v460 : Index := Scalar.indexCast v7
  ![7, v460.toNat]

def k2_chk48 (v3 : IVec S16 32) (v463 : IVec S16 32) : Prop :=
  (∀ a x, ((![v3, v463] : Fin 2 → IVec S16 32) a x).toNat < S16x1024.size a)
theorem k2_idx48_inb : ∀ (v3 : IVec S16 32) (v463 : IVec S16 32) (k2_hw48 : k2_chk48 v3 v463), ∀ a x, ((![v3, v463] : Fin 2 → IVec S16 32) a x).toNat < S16x1024.size a := fun v3 v463 k2_hw48 => k2_hw48
def k2_off67 (k2_t2 : Fin k2_t2_loop.trips) : Fin 2 → Nat :=
  let c8_i32_156 : BitVec 32 := 8#32
  let v466 : Index := Scalar.indexCast c8_i32_156
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v467 : Index := Scalar.indexCast v7
  ![8, v467.toNat]

def k2_chk49 (v3 : IVec S16 32) (v470 : IVec S16 32) : Prop :=
  (∀ a x, ((![v3, v470] : Fin 2 → IVec S16 32) a x).toNat < S16x1024.size a)
theorem k2_idx49_inb : ∀ (v3 : IVec S16 32) (v470 : IVec S16 32) (k2_hw49 : k2_chk49 v3 v470), ∀ a x, ((![v3, v470] : Fin 2 → IVec S16 32) a x).toNat < S16x1024.size a := fun v3 v470 k2_hw49 => k2_hw49
def k2_off68 (k2_t2 : Fin k2_t2_loop.trips) : Fin 2 → Nat :=
  let c9_i32_159 : BitVec 32 := 9#32
  let v473 : Index := Scalar.indexCast c9_i32_159
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v474 : Index := Scalar.indexCast v7
  ![9, v474.toNat]

def k2_chk50 (v3 : IVec S16 32) (v477 : IVec S16 32) : Prop :=
  (∀ a x, ((![v3, v477] : Fin 2 → IVec S16 32) a x).toNat < S16x1024.size a)
theorem k2_idx50_inb : ∀ (v3 : IVec S16 32) (v477 : IVec S16 32) (k2_hw50 : k2_chk50 v3 v477), ∀ a x, ((![v3, v477] : Fin 2 → IVec S16 32) a x).toNat < S16x1024.size a := fun v3 v477 k2_hw50 => k2_hw50
def k2_off69 (k2_t2 : Fin k2_t2_loop.trips) : Fin 2 → Nat :=
  let c10_i32_162 : BitVec 32 := 10#32
  let v480 : Index := Scalar.indexCast c10_i32_162
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v481 : Index := Scalar.indexCast v7
  ![10, v481.toNat]

def k2_chk51 (v3 : IVec S16 32) (v484 : IVec S16 32) : Prop :=
  (∀ a x, ((![v3, v484] : Fin 2 → IVec S16 32) a x).toNat < S16x1024.size a)
theorem k2_idx51_inb : ∀ (v3 : IVec S16 32) (v484 : IVec S16 32) (k2_hw51 : k2_chk51 v3 v484), ∀ a x, ((![v3, v484] : Fin 2 → IVec S16 32) a x).toNat < S16x1024.size a := fun v3 v484 k2_hw51 => k2_hw51
def k2_off70 (k2_t2 : Fin k2_t2_loop.trips) : Fin 2 → Nat :=
  let c11_i32_165 : BitVec 32 := 11#32
  let v487 : Index := Scalar.indexCast c11_i32_165
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v488 : Index := Scalar.indexCast v7
  ![11, v488.toNat]

def k2_chk52 (v3 : IVec S16 32) (v491 : IVec S16 32) : Prop :=
  (∀ a x, ((![v3, v491] : Fin 2 → IVec S16 32) a x).toNat < S16x1024.size a)
theorem k2_idx52_inb : ∀ (v3 : IVec S16 32) (v491 : IVec S16 32) (k2_hw52 : k2_chk52 v3 v491), ∀ a x, ((![v3, v491] : Fin 2 → IVec S16 32) a x).toNat < S16x1024.size a := fun v3 v491 k2_hw52 => k2_hw52
def k2_off71 (k2_t2 : Fin k2_t2_loop.trips) : Fin 2 → Nat :=
  let c12_i32_168 : BitVec 32 := 12#32
  let v494 : Index := Scalar.indexCast c12_i32_168
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v495 : Index := Scalar.indexCast v7
  ![12, v495.toNat]

def k2_chk53 (v3 : IVec S16 32) (v498 : IVec S16 32) : Prop :=
  (∀ a x, ((![v3, v498] : Fin 2 → IVec S16 32) a x).toNat < S16x1024.size a)
theorem k2_idx53_inb : ∀ (v3 : IVec S16 32) (v498 : IVec S16 32) (k2_hw53 : k2_chk53 v3 v498), ∀ a x, ((![v3, v498] : Fin 2 → IVec S16 32) a x).toNat < S16x1024.size a := fun v3 v498 k2_hw53 => k2_hw53
def k2_off72 (k2_t2 : Fin k2_t2_loop.trips) : Fin 2 → Nat :=
  let c13_i32_171 : BitVec 32 := 13#32
  let v501 : Index := Scalar.indexCast c13_i32_171
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v502 : Index := Scalar.indexCast v7
  ![13, v502.toNat]

def k2_chk54 (v3 : IVec S16 32) (v505 : IVec S16 32) : Prop :=
  (∀ a x, ((![v3, v505] : Fin 2 → IVec S16 32) a x).toNat < S16x1024.size a)
theorem k2_idx54_inb : ∀ (v3 : IVec S16 32) (v505 : IVec S16 32) (k2_hw54 : k2_chk54 v3 v505), ∀ a x, ((![v3, v505] : Fin 2 → IVec S16 32) a x).toNat < S16x1024.size a := fun v3 v505 k2_hw54 => k2_hw54
def k2_off73 (k2_t2 : Fin k2_t2_loop.trips) : Fin 2 → Nat :=
  let c14_i32_174 : BitVec 32 := 14#32
  let v508 : Index := Scalar.indexCast c14_i32_174
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v509 : Index := Scalar.indexCast v7
  ![14, v509.toNat]

def k2_chk55 (v3 : IVec S16 32) (v512 : IVec S16 32) : Prop :=
  (∀ a x, ((![v3, v512] : Fin 2 → IVec S16 32) a x).toNat < S16x1024.size a)
theorem k2_idx55_inb : ∀ (v3 : IVec S16 32) (v512 : IVec S16 32) (k2_hw55 : k2_chk55 v3 v512), ∀ a x, ((![v3, v512] : Fin 2 → IVec S16 32) a x).toNat < S16x1024.size a := fun v3 v512 k2_hw55 => k2_hw55
def k2_off74 (k2_t2 : Fin k2_t2_loop.trips) : Fin 2 → Nat :=
  let c15_i32_177 : BitVec 32 := 15#32
  let v515 : Index := Scalar.indexCast c15_i32_177
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v516 : Index := Scalar.indexCast v7
  ![15, v516.toNat]

def k2_chk56 (v3 : IVec S16 32) (v519 : IVec S16 32) : Prop :=
  (∀ a x, ((![v3, v519] : Fin 2 → IVec S16 32) a x).toNat < S16x1024.size a)
theorem k2_idx56_inb : ∀ (v3 : IVec S16 32) (v519 : IVec S16 32) (k2_hw56 : k2_chk56 v3 v519), ∀ a x, ((![v3, v519] : Fin 2 → IVec S16 32) a x).toNat < S16x1024.size a := fun v3 v519 k2_hw56 => k2_hw56
def k2_off75 (k2_t2 : Fin k2_t2_loop.trips) : Fin 2 → Nat :=
  let c16_i32_180 : BitVec 32 := 16#32
  let v522 : Index := Scalar.indexCast c16_i32_180
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v523 : Index := Scalar.indexCast v7
  ![16, v523.toNat]

def k2_chk57 (v3 : IVec S16 32) (v526 : IVec S16 32) : Prop :=
  (∀ a x, ((![v3, v526] : Fin 2 → IVec S16 32) a x).toNat < S16x1024.size a)
theorem k2_idx57_inb : ∀ (v3 : IVec S16 32) (v526 : IVec S16 32) (k2_hw57 : k2_chk57 v3 v526), ∀ a x, ((![v3, v526] : Fin 2 → IVec S16 32) a x).toNat < S16x1024.size a := fun v3 v526 k2_hw57 => k2_hw57
def k2_off76 (k2_t2 : Fin k2_t2_loop.trips) : Fin 2 → Nat :=
  let c17_i32_183 : BitVec 32 := 17#32
  let v529 : Index := Scalar.indexCast c17_i32_183
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v530 : Index := Scalar.indexCast v7
  ![17, v530.toNat]

def k2_chk58 (v3 : IVec S16 32) (v533 : IVec S16 32) : Prop :=
  (∀ a x, ((![v3, v533] : Fin 2 → IVec S16 32) a x).toNat < S16x1024.size a)
theorem k2_idx58_inb : ∀ (v3 : IVec S16 32) (v533 : IVec S16 32) (k2_hw58 : k2_chk58 v3 v533), ∀ a x, ((![v3, v533] : Fin 2 → IVec S16 32) a x).toNat < S16x1024.size a := fun v3 v533 k2_hw58 => k2_hw58
def k2_off77 (k2_t2 : Fin k2_t2_loop.trips) : Fin 2 → Nat :=
  let c18_i32_186 : BitVec 32 := 18#32
  let v536 : Index := Scalar.indexCast c18_i32_186
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v537 : Index := Scalar.indexCast v7
  ![18, v537.toNat]

def k2_chk59 (v3 : IVec S16 32) (v540 : IVec S16 32) : Prop :=
  (∀ a x, ((![v3, v540] : Fin 2 → IVec S16 32) a x).toNat < S16x1024.size a)
theorem k2_idx59_inb : ∀ (v3 : IVec S16 32) (v540 : IVec S16 32) (k2_hw59 : k2_chk59 v3 v540), ∀ a x, ((![v3, v540] : Fin 2 → IVec S16 32) a x).toNat < S16x1024.size a := fun v3 v540 k2_hw59 => k2_hw59
def k2_off78 (k2_t2 : Fin k2_t2_loop.trips) : Fin 2 → Nat :=
  let c19_i32_189 : BitVec 32 := 19#32
  let v543 : Index := Scalar.indexCast c19_i32_189
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v544 : Index := Scalar.indexCast v7
  ![19, v544.toNat]

def k2_chk60 (v3 : IVec S16 32) (v547 : IVec S16 32) : Prop :=
  (∀ a x, ((![v3, v547] : Fin 2 → IVec S16 32) a x).toNat < S16x1024.size a)
theorem k2_idx60_inb : ∀ (v3 : IVec S16 32) (v547 : IVec S16 32) (k2_hw60 : k2_chk60 v3 v547), ∀ a x, ((![v3, v547] : Fin 2 → IVec S16 32) a x).toNat < S16x1024.size a := fun v3 v547 k2_hw60 => k2_hw60
def k2_off79 (k2_t2 : Fin k2_t2_loop.trips) : Fin 2 → Nat :=
  let c20_i32_192 : BitVec 32 := 20#32
  let v550 : Index := Scalar.indexCast c20_i32_192
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v551 : Index := Scalar.indexCast v7
  ![20, v551.toNat]

def k2_chk61 (v3 : IVec S16 32) (v554 : IVec S16 32) : Prop :=
  (∀ a x, ((![v3, v554] : Fin 2 → IVec S16 32) a x).toNat < S16x1024.size a)
theorem k2_idx61_inb : ∀ (v3 : IVec S16 32) (v554 : IVec S16 32) (k2_hw61 : k2_chk61 v3 v554), ∀ a x, ((![v3, v554] : Fin 2 → IVec S16 32) a x).toNat < S16x1024.size a := fun v3 v554 k2_hw61 => k2_hw61
def k2_off80 (k2_t2 : Fin k2_t2_loop.trips) : Fin 2 → Nat :=
  let c21_i32_195 : BitVec 32 := 21#32
  let v557 : Index := Scalar.indexCast c21_i32_195
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v558 : Index := Scalar.indexCast v7
  ![21, v558.toNat]

def k2_chk62 (v3 : IVec S16 32) (v561 : IVec S16 32) : Prop :=
  (∀ a x, ((![v3, v561] : Fin 2 → IVec S16 32) a x).toNat < S16x1024.size a)
theorem k2_idx62_inb : ∀ (v3 : IVec S16 32) (v561 : IVec S16 32) (k2_hw62 : k2_chk62 v3 v561), ∀ a x, ((![v3, v561] : Fin 2 → IVec S16 32) a x).toNat < S16x1024.size a := fun v3 v561 k2_hw62 => k2_hw62
def k2_off81 (k2_t2 : Fin k2_t2_loop.trips) : Fin 2 → Nat :=
  let c22_i32_198 : BitVec 32 := 22#32
  let v564 : Index := Scalar.indexCast c22_i32_198
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v565 : Index := Scalar.indexCast v7
  ![22, v565.toNat]

def k2_chk63 (v3 : IVec S16 32) (v568 : IVec S16 32) : Prop :=
  (∀ a x, ((![v3, v568] : Fin 2 → IVec S16 32) a x).toNat < S16x1024.size a)
theorem k2_idx63_inb : ∀ (v3 : IVec S16 32) (v568 : IVec S16 32) (k2_hw63 : k2_chk63 v3 v568), ∀ a x, ((![v3, v568] : Fin 2 → IVec S16 32) a x).toNat < S16x1024.size a := fun v3 v568 k2_hw63 => k2_hw63
def k2_off82 (k2_t2 : Fin k2_t2_loop.trips) : Fin 2 → Nat :=
  let c23_i32_201 : BitVec 32 := 23#32
  let v571 : Index := Scalar.indexCast c23_i32_201
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v572 : Index := Scalar.indexCast v7
  ![23, v572.toNat]

def k2_chk64 (v3 : IVec S16 32) (v575 : IVec S16 32) : Prop :=
  (∀ a x, ((![v3, v575] : Fin 2 → IVec S16 32) a x).toNat < S16x1024.size a)
theorem k2_idx64_inb : ∀ (v3 : IVec S16 32) (v575 : IVec S16 32) (k2_hw64 : k2_chk64 v3 v575), ∀ a x, ((![v3, v575] : Fin 2 → IVec S16 32) a x).toNat < S16x1024.size a := fun v3 v575 k2_hw64 => k2_hw64
def k2_off83 (k2_t2 : Fin k2_t2_loop.trips) : Fin 2 → Nat :=
  let c24_i32_204 : BitVec 32 := 24#32
  let v578 : Index := Scalar.indexCast c24_i32_204
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v579 : Index := Scalar.indexCast v7
  ![24, v579.toNat]

def k2_chk65 (v3 : IVec S16 32) (v582 : IVec S16 32) : Prop :=
  (∀ a x, ((![v3, v582] : Fin 2 → IVec S16 32) a x).toNat < S16x1024.size a)
theorem k2_idx65_inb : ∀ (v3 : IVec S16 32) (v582 : IVec S16 32) (k2_hw65 : k2_chk65 v3 v582), ∀ a x, ((![v3, v582] : Fin 2 → IVec S16 32) a x).toNat < S16x1024.size a := fun v3 v582 k2_hw65 => k2_hw65
def k2_off84 (k2_t2 : Fin k2_t2_loop.trips) : Fin 2 → Nat :=
  let c25_i32_207 : BitVec 32 := 25#32
  let v585 : Index := Scalar.indexCast c25_i32_207
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v586 : Index := Scalar.indexCast v7
  ![25, v586.toNat]

def k2_chk66 (v3 : IVec S16 32) (v589 : IVec S16 32) : Prop :=
  (∀ a x, ((![v3, v589] : Fin 2 → IVec S16 32) a x).toNat < S16x1024.size a)
theorem k2_idx66_inb : ∀ (v3 : IVec S16 32) (v589 : IVec S16 32) (k2_hw66 : k2_chk66 v3 v589), ∀ a x, ((![v3, v589] : Fin 2 → IVec S16 32) a x).toNat < S16x1024.size a := fun v3 v589 k2_hw66 => k2_hw66
def k2_off85 (k2_t2 : Fin k2_t2_loop.trips) : Fin 2 → Nat :=
  let c26_i32_210 : BitVec 32 := 26#32
  let v592 : Index := Scalar.indexCast c26_i32_210
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v593 : Index := Scalar.indexCast v7
  ![26, v593.toNat]

def k2_chk67 (v3 : IVec S16 32) (v596 : IVec S16 32) : Prop :=
  (∀ a x, ((![v3, v596] : Fin 2 → IVec S16 32) a x).toNat < S16x1024.size a)
theorem k2_idx67_inb : ∀ (v3 : IVec S16 32) (v596 : IVec S16 32) (k2_hw67 : k2_chk67 v3 v596), ∀ a x, ((![v3, v596] : Fin 2 → IVec S16 32) a x).toNat < S16x1024.size a := fun v3 v596 k2_hw67 => k2_hw67
def k2_off86 (k2_t2 : Fin k2_t2_loop.trips) : Fin 2 → Nat :=
  let c27_i32_213 : BitVec 32 := 27#32
  let v599 : Index := Scalar.indexCast c27_i32_213
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v600 : Index := Scalar.indexCast v7
  ![27, v600.toNat]

def k2_chk68 (v3 : IVec S16 32) (v603 : IVec S16 32) : Prop :=
  (∀ a x, ((![v3, v603] : Fin 2 → IVec S16 32) a x).toNat < S16x1024.size a)
theorem k2_idx68_inb : ∀ (v3 : IVec S16 32) (v603 : IVec S16 32) (k2_hw68 : k2_chk68 v3 v603), ∀ a x, ((![v3, v603] : Fin 2 → IVec S16 32) a x).toNat < S16x1024.size a := fun v3 v603 k2_hw68 => k2_hw68
def k2_off87 (k2_t2 : Fin k2_t2_loop.trips) : Fin 2 → Nat :=
  let c28_i32_216 : BitVec 32 := 28#32
  let v606 : Index := Scalar.indexCast c28_i32_216
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v607 : Index := Scalar.indexCast v7
  ![28, v607.toNat]

def k2_chk69 (v3 : IVec S16 32) (v610 : IVec S16 32) : Prop :=
  (∀ a x, ((![v3, v610] : Fin 2 → IVec S16 32) a x).toNat < S16x1024.size a)
theorem k2_idx69_inb : ∀ (v3 : IVec S16 32) (v610 : IVec S16 32) (k2_hw69 : k2_chk69 v3 v610), ∀ a x, ((![v3, v610] : Fin 2 → IVec S16 32) a x).toNat < S16x1024.size a := fun v3 v610 k2_hw69 => k2_hw69
def k2_off88 (k2_t2 : Fin k2_t2_loop.trips) : Fin 2 → Nat :=
  let c29_i32_219 : BitVec 32 := 29#32
  let v613 : Index := Scalar.indexCast c29_i32_219
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v614 : Index := Scalar.indexCast v7
  ![29, v614.toNat]

def k2_chk70 (v3 : IVec S16 32) (v617 : IVec S16 32) : Prop :=
  (∀ a x, ((![v3, v617] : Fin 2 → IVec S16 32) a x).toNat < S16x1024.size a)
theorem k2_idx70_inb : ∀ (v3 : IVec S16 32) (v617 : IVec S16 32) (k2_hw70 : k2_chk70 v3 v617), ∀ a x, ((![v3, v617] : Fin 2 → IVec S16 32) a x).toNat < S16x1024.size a := fun v3 v617 k2_hw70 => k2_hw70
def k2_off89 (k2_t2 : Fin k2_t2_loop.trips) : Fin 2 → Nat :=
  let c30_i32_222 : BitVec 32 := 30#32
  let v620 : Index := Scalar.indexCast c30_i32_222
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v621 : Index := Scalar.indexCast v7
  ![30, v621.toNat]

def k2_chk71 (v3 : IVec S16 32) (v624 : IVec S16 32) : Prop :=
  (∀ a x, ((![v3, v624] : Fin 2 → IVec S16 32) a x).toNat < S16x1024.size a)
theorem k2_idx71_inb : ∀ (v3 : IVec S16 32) (v624 : IVec S16 32) (k2_hw71 : k2_chk71 v3 v624), ∀ a x, ((![v3, v624] : Fin 2 → IVec S16 32) a x).toNat < S16x1024.size a := fun v3 v624 k2_hw71 => k2_hw71
def k2_off90 (k2_t2 : Fin k2_t2_loop.trips) : Fin 2 → Nat :=
  let c31_i32_225 : BitVec 32 := 31#32
  let v627 : Index := Scalar.indexCast c31_i32_225
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v628 : Index := Scalar.indexCast v7
  ![31, v628.toNat]

def k2_chk72 (v3 : IVec S16 32) (v631 : IVec S16 32) : Prop :=
  (∀ a x, ((![v3, v631] : Fin 2 → IVec S16 32) a x).toNat < S16x1024.size a)
theorem k2_idx72_inb : ∀ (v3 : IVec S16 32) (v631 : IVec S16 32) (k2_hw72 : k2_chk72 v3 v631), ∀ a x, ((![v3, v631] : Fin 2 → IVec S16 32) a x).toNat < S16x1024.size a := fun v3 v631 k2_hw72 => k2_hw72
def k2_off91 (k2_t2 : Fin k2_t2_loop.trips) : Fin 2 → Nat :=
  let c32_i32_228 : BitVec 32 := 32#32
  let v634 : Index := Scalar.indexCast c32_i32_228
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v635 : Index := Scalar.indexCast v7
  ![32, v635.toNat]

def k2_chk73 (v3 : IVec S16 32) (v638 : IVec S16 32) : Prop :=
  (∀ a x, ((![v3, v638] : Fin 2 → IVec S16 32) a x).toNat < S16x1024.size a)
theorem k2_idx73_inb : ∀ (v3 : IVec S16 32) (v638 : IVec S16 32) (k2_hw73 : k2_chk73 v3 v638), ∀ a x, ((![v3, v638] : Fin 2 → IVec S16 32) a x).toNat < S16x1024.size a := fun v3 v638 k2_hw73 => k2_hw73
def k2_off92 (k2_t2 : Fin k2_t2_loop.trips) : Fin 2 → Nat :=
  let c33_i32_231 : BitVec 32 := 33#32
  let v641 : Index := Scalar.indexCast c33_i32_231
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v642 : Index := Scalar.indexCast v7
  ![33, v642.toNat]

def k2_chk74 (v3 : IVec S16 32) (v645 : IVec S16 32) : Prop :=
  (∀ a x, ((![v3, v645] : Fin 2 → IVec S16 32) a x).toNat < S16x1024.size a)
theorem k2_idx74_inb : ∀ (v3 : IVec S16 32) (v645 : IVec S16 32) (k2_hw74 : k2_chk74 v3 v645), ∀ a x, ((![v3, v645] : Fin 2 → IVec S16 32) a x).toNat < S16x1024.size a := fun v3 v645 k2_hw74 => k2_hw74
def k2_off93 (k2_t2 : Fin k2_t2_loop.trips) : Fin 2 → Nat :=
  let c34_i32_234 : BitVec 32 := 34#32
  let v648 : Index := Scalar.indexCast c34_i32_234
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v649 : Index := Scalar.indexCast v7
  ![34, v649.toNat]

def k2_chk75 (v3 : IVec S16 32) (v652 : IVec S16 32) : Prop :=
  (∀ a x, ((![v3, v652] : Fin 2 → IVec S16 32) a x).toNat < S16x1024.size a)
theorem k2_idx75_inb : ∀ (v3 : IVec S16 32) (v652 : IVec S16 32) (k2_hw75 : k2_chk75 v3 v652), ∀ a x, ((![v3, v652] : Fin 2 → IVec S16 32) a x).toNat < S16x1024.size a := fun v3 v652 k2_hw75 => k2_hw75
def k2_off94 (k2_t2 : Fin k2_t2_loop.trips) : Fin 2 → Nat :=
  let c35_i32_237 : BitVec 32 := 35#32
  let v655 : Index := Scalar.indexCast c35_i32_237
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v656 : Index := Scalar.indexCast v7
  ![35, v656.toNat]

def k2_chk76 (v3 : IVec S16 32) (v659 : IVec S16 32) : Prop :=
  (∀ a x, ((![v3, v659] : Fin 2 → IVec S16 32) a x).toNat < S16x1024.size a)
theorem k2_idx76_inb : ∀ (v3 : IVec S16 32) (v659 : IVec S16 32) (k2_hw76 : k2_chk76 v3 v659), ∀ a x, ((![v3, v659] : Fin 2 → IVec S16 32) a x).toNat < S16x1024.size a := fun v3 v659 k2_hw76 => k2_hw76
def k2_off95 (k2_t2 : Fin k2_t2_loop.trips) : Fin 2 → Nat :=
  let c36_i32_240 : BitVec 32 := 36#32
  let v662 : Index := Scalar.indexCast c36_i32_240
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v663 : Index := Scalar.indexCast v7
  ![36, v663.toNat]

def k2_chk77 (v3 : IVec S16 32) (v666 : IVec S16 32) : Prop :=
  (∀ a x, ((![v3, v666] : Fin 2 → IVec S16 32) a x).toNat < S16x1024.size a)
theorem k2_idx77_inb : ∀ (v3 : IVec S16 32) (v666 : IVec S16 32) (k2_hw77 : k2_chk77 v3 v666), ∀ a x, ((![v3, v666] : Fin 2 → IVec S16 32) a x).toNat < S16x1024.size a := fun v3 v666 k2_hw77 => k2_hw77
def k2_off96 (k2_t2 : Fin k2_t2_loop.trips) : Fin 2 → Nat :=
  let c37_i32_243 : BitVec 32 := 37#32
  let v669 : Index := Scalar.indexCast c37_i32_243
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v670 : Index := Scalar.indexCast v7
  ![37, v670.toNat]

def k2_chk78 (v3 : IVec S16 32) (v673 : IVec S16 32) : Prop :=
  (∀ a x, ((![v3, v673] : Fin 2 → IVec S16 32) a x).toNat < S16x1024.size a)
theorem k2_idx78_inb : ∀ (v3 : IVec S16 32) (v673 : IVec S16 32) (k2_hw78 : k2_chk78 v3 v673), ∀ a x, ((![v3, v673] : Fin 2 → IVec S16 32) a x).toNat < S16x1024.size a := fun v3 v673 k2_hw78 => k2_hw78
def k2_off97 (k2_t2 : Fin k2_t2_loop.trips) : Fin 2 → Nat :=
  let c38_i32_246 : BitVec 32 := 38#32
  let v676 : Index := Scalar.indexCast c38_i32_246
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v677 : Index := Scalar.indexCast v7
  ![38, v677.toNat]

def k2_chk79 (v3 : IVec S16 32) (v680 : IVec S16 32) : Prop :=
  (∀ a x, ((![v3, v680] : Fin 2 → IVec S16 32) a x).toNat < S16x1024.size a)
theorem k2_idx79_inb : ∀ (v3 : IVec S16 32) (v680 : IVec S16 32) (k2_hw79 : k2_chk79 v3 v680), ∀ a x, ((![v3, v680] : Fin 2 → IVec S16 32) a x).toNat < S16x1024.size a := fun v3 v680 k2_hw79 => k2_hw79
def k2_off98 (k2_t2 : Fin k2_t2_loop.trips) : Fin 2 → Nat :=
  let c39_i32_249 : BitVec 32 := 39#32
  let v683 : Index := Scalar.indexCast c39_i32_249
  let c0_i32_3 : BitVec 32 := 0#32
  let c1_i32_4 : BitVec 32 := 1#32
  let arg8 : BitVec 32 := Scf.iv c0_i32_3 c1_i32_4 k2_t2
  let c16_i32_6 : BitVec 32 := 16#32
  let v7 : BitVec 32 := Scalar.muli arg8 c16_i32_6
  let v684 : Index := Scalar.indexCast v7
  ![39, v684.toNat]

def k2_chk80 (v3 : IVec S16 32) (v687 : IVec S16 32) : Prop :=
  (∀ a x, ((![v3, v687] : Fin 2 → IVec S16 32) a x).toNat < S16x1024.size a)
theorem k2_idx80_inb : ∀ (v3 : IVec S16 32) (v687 : IVec S16 32) (k2_hw80 : k2_chk80 v3 v687), ∀ a x, ((![v3, v687] : Fin 2 → IVec S16 32) a x).toNat < S16x1024.size a := fun v3 v687 k2_hw80 => k2_hw80
abbrev grid3 : Pipeline.Grid := ⟨2, ![2, 16], ![false, false]⟩

def k3_off1 (i : grid3.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6_r0 : BitVec 32 := 0#32
  let c0_i32_7_r0 : BitVec 32 := 0#32
  ![v1.toNat, 0, 0]
@[reducible] def k3_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
def k3_off2 (k3_t1 : Fin k3_t1_loop.trips) : Fin 2 → Nat :=
  let c0_i32_7 : BitVec 32 := 0#32
  let v8 : Index := Scalar.indexCast c0_i32_7
  let c0_i32_0 : BitVec 32 := 0#32
  let c1_i32 : BitVec 32 := 1#32
  let arg8 : BitVec 32 := Scf.iv c0_i32_0 c1_i32 k3_t1
  let c16_i32_6 : BitVec 32 := 16#32
  let v7 : BitVec 32 := Scalar.muli arg8 c16_i32_6
  let v9 : Index := Scalar.indexCast v7
  ![0, v9.toNat]
def k3_off3 (k3_t1 : Fin k3_t1_loop.trips) : Fin 2 → Nat :=
  let c1_i32_9 : BitVec 32 := 1#32
  let v12 : Index := Scalar.indexCast c1_i32_9
  let c0_i32_0 : BitVec 32 := 0#32
  let c1_i32 : BitVec 32 := 1#32
  let arg8 : BitVec 32 := Scf.iv c0_i32_0 c1_i32 k3_t1
  let c16_i32_8 : BitVec 32 := 16#32
  let v11 : BitVec 32 := Scalar.muli arg8 c16_i32_8
  let v13 : Index := Scalar.indexCast v11
  ![1, v13.toNat]
def k3_off4 (k3_t1 : Fin k3_t1_loop.trips) : Fin 2 → Nat :=
  let c2_i32 : BitVec 32 := 2#32
  let v16 : Index := Scalar.indexCast c2_i32
  let c0_i32_0 : BitVec 32 := 0#32
  let c1_i32 : BitVec 32 := 1#32
  let arg8 : BitVec 32 := Scf.iv c0_i32_0 c1_i32 k3_t1
  let c16_i32_10 : BitVec 32 := 16#32
  let v15 : BitVec 32 := Scalar.muli arg8 c16_i32_10
  let v17 : Index := Scalar.indexCast v15
  ![2, v17.toNat]
def k3_off5 (k3_t1 : Fin k3_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k3_t1
  let c16_i32_11 : BitVec 32 := 16#32
  let v19 : BitVec 32 := Scalar.muli arg8 c16_i32_11
  let v21 : Index := Scalar.indexCast v19
  ![3, v21.toNat]
def k3_off6 (k3_t1 : Fin k3_t1_loop.trips) : Fin 2 → Nat :=
  let c4_i32 : BitVec 32 := 4#32
  let v24 : Index := Scalar.indexCast c4_i32
  let c0_i32_0 : BitVec 32 := 0#32
  let c1_i32 : BitVec 32 := 1#32
  let arg8 : BitVec 32 := Scf.iv c0_i32_0 c1_i32 k3_t1
  let c16_i32_12 : BitVec 32 := 16#32
  let v23 : BitVec 32 := Scalar.muli arg8 c16_i32_12
  let v25 : Index := Scalar.indexCast v23
  ![4, v25.toNat]
def k3_off7 (k3_t1 : Fin k3_t1_loop.trips) : Fin 2 → Nat :=
  let c5_i32 : BitVec 32 := 5#32
  let v28 : Index := Scalar.indexCast c5_i32
  let c0_i32_0 : BitVec 32 := 0#32
  let c1_i32 : BitVec 32 := 1#32
  let arg8 : BitVec 32 := Scf.iv c0_i32_0 c1_i32 k3_t1
  let c16_i32_13 : BitVec 32 := 16#32
  let v27 : BitVec 32 := Scalar.muli arg8 c16_i32_13
  let v29 : Index := Scalar.indexCast v27
  ![5, v29.toNat]
def k3_off8 (k3_t1 : Fin k3_t1_loop.trips) : Fin 2 → Nat :=
  let c6_i32 : BitVec 32 := 6#32
  let v32 : Index := Scalar.indexCast c6_i32
  let c0_i32_0 : BitVec 32 := 0#32
  let c1_i32 : BitVec 32 := 1#32
  let arg8 : BitVec 32 := Scf.iv c0_i32_0 c1_i32 k3_t1
  let c16_i32_14 : BitVec 32 := 16#32
  let v31 : BitVec 32 := Scalar.muli arg8 c16_i32_14
  let v33 : Index := Scalar.indexCast v31
  ![6, v33.toNat]
def k3_off9 (k3_t1 : Fin k3_t1_loop.trips) : Fin 2 → Nat :=
  let c7_i32 : BitVec 32 := 7#32
  let v36 : Index := Scalar.indexCast c7_i32
  let c0_i32_0 : BitVec 32 := 0#32
  let c1_i32 : BitVec 32 := 1#32
  let arg8 : BitVec 32 := Scf.iv c0_i32_0 c1_i32 k3_t1
  let c16_i32_15 : BitVec 32 := 16#32
  let v35 : BitVec 32 := Scalar.muli arg8 c16_i32_15
  let v37 : Index := Scalar.indexCast v35
  ![7, v37.toNat]
def k3_off10 (k3_t1 : Fin k3_t1_loop.trips) : Fin 2 → Nat :=
  let c8_i32_17 : BitVec 32 := 8#32
  let v40 : Index := Scalar.indexCast c8_i32_17
  let c0_i32_0 : BitVec 32 := 0#32
  let c1_i32 : BitVec 32 := 1#32
  let arg8 : BitVec 32 := Scf.iv c0_i32_0 c1_i32 k3_t1
  let c16_i32_16 : BitVec 32 := 16#32
  let v39 : BitVec 32 := Scalar.muli arg8 c16_i32_16
  let v41 : Index := Scalar.indexCast v39
  ![8, v41.toNat]
def k3_off11 (k3_t1 : Fin k3_t1_loop.trips) : Fin 2 → Nat :=
  let c9_i32 : BitVec 32 := 9#32
  let v44 : Index := Scalar.indexCast c9_i32
  let c0_i32_0 : BitVec 32 := 0#32
  let c1_i32 : BitVec 32 := 1#32
  let arg8 : BitVec 32 := Scf.iv c0_i32_0 c1_i32 k3_t1
  let c16_i32_18 : BitVec 32 := 16#32
  let v43 : BitVec 32 := Scalar.muli arg8 c16_i32_18
  let v45 : Index := Scalar.indexCast v43
  ![9, v45.toNat]
def k3_off12 (k3_t1 : Fin k3_t1_loop.trips) : Fin 2 → Nat :=
  let c10_i32 : BitVec 32 := 10#32
  let v48 : Index := Scalar.indexCast c10_i32
  let c0_i32_0 : BitVec 32 := 0#32
  let c1_i32 : BitVec 32 := 1#32
  let arg8 : BitVec 32 := Scf.iv c0_i32_0 c1_i32 k3_t1
  let c16_i32_19 : BitVec 32 := 16#32
  let v47 : BitVec 32 := Scalar.muli arg8 c16_i32_19
  let v49 : Index := Scalar.indexCast v47
  ![10, v49.toNat]
def k3_off13 (k3_t1 : Fin k3_t1_loop.trips) : Fin 2 → Nat :=
  let c11_i32 : BitVec 32 := 11#32
  let v52 : Index := Scalar.indexCast c11_i32
  let c0_i32_0 : BitVec 32 := 0#32
  let c1_i32 : BitVec 32 := 1#32
  let arg8 : BitVec 32 := Scf.iv c0_i32_0 c1_i32 k3_t1
  let c16_i32_20 : BitVec 32 := 16#32
  let v51 : BitVec 32 := Scalar.muli arg8 c16_i32_20
  let v53 : Index := Scalar.indexCast v51
  ![11, v53.toNat]
def k3_off14 (k3_t1 : Fin k3_t1_loop.trips) : Fin 2 → Nat :=
  let c12_i32 : BitVec 32 := 12#32
  let v56 : Index := Scalar.indexCast c12_i32
  let c0_i32_0 : BitVec 32 := 0#32
  let c1_i32 : BitVec 32 := 1#32
  let arg8 : BitVec 32 := Scf.iv c0_i32_0 c1_i32 k3_t1
  let c16_i32_21 : BitVec 32 := 16#32
  let v55 : BitVec 32 := Scalar.muli arg8 c16_i32_21
  let v57 : Index := Scalar.indexCast v55
  ![12, v57.toNat]
def k3_off15 (k3_t1 : Fin k3_t1_loop.trips) : Fin 2 → Nat :=
  let c13_i32 : BitVec 32 := 13#32
  let v60 : Index := Scalar.indexCast c13_i32
  let c0_i32_0 : BitVec 32 := 0#32
  let c1_i32 : BitVec 32 := 1#32
  let arg8 : BitVec 32 := Scf.iv c0_i32_0 c1_i32 k3_t1
  let c16_i32_22 : BitVec 32 := 16#32
  let v59 : BitVec 32 := Scalar.muli arg8 c16_i32_22
  let v61 : Index := Scalar.indexCast v59
  ![13, v61.toNat]
def k3_off16 (k3_t1 : Fin k3_t1_loop.trips) : Fin 2 → Nat :=
  let c14_i32 : BitVec 32 := 14#32
  let v64 : Index := Scalar.indexCast c14_i32
  let c0_i32_0 : BitVec 32 := 0#32
  let c1_i32 : BitVec 32 := 1#32
  let arg8 : BitVec 32 := Scf.iv c0_i32_0 c1_i32 k3_t1
  let c16_i32_23 : BitVec 32 := 16#32
  let v63 : BitVec 32 := Scalar.muli arg8 c16_i32_23
  let v65 : Index := Scalar.indexCast v63
  ![14, v65.toNat]
def k3_off17 (k3_t1 : Fin k3_t1_loop.trips) : Fin 2 → Nat :=
  let c15_i32 : BitVec 32 := 15#32
  let v68 : Index := Scalar.indexCast c15_i32
  let c0_i32_0 : BitVec 32 := 0#32
  let c1_i32 : BitVec 32 := 1#32
  let arg8 : BitVec 32 := Scf.iv c0_i32_0 c1_i32 k3_t1
  let c16_i32_24 : BitVec 32 := 16#32
  let v67 : BitVec 32 := Scalar.muli arg8 c16_i32_24
  let v69 : Index := Scalar.indexCast v67
  ![15, v69.toNat]
@[reducible] def k3_t2_loop : Scf.Loop 32 :=
  let c0_i32_3 : BitVec 32 := 0#32
  let c8_i32 : BitVec 32 := 8#32
  let v6 : BitVec 32 := Scalar.addi c0_i32_3 c8_i32
  let c1_i32_4 : BitVec 32 := 1#32
  ⟨c0_i32_3, v6, c1_i32_4⟩
def k3_off18 (k3_t2 : Fin k3_t2_loop.trips) : Fin 2 → Nat :=
  let c0_i32_7 : BitVec 32 := 0#32
  let v8 : Index := Scalar.indexCast c0_i32_7
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v9 : Index := Scalar.indexCast v7
  ![0, v9.toNat]

def k3_chk1 (v3 : IVec S16 32) (v15 : IVec S16 32) : Prop :=
  (∀ a x, ((![v3, v15] : Fin 2 → IVec S16 32) a x).toNat < S16x1024.size a)
theorem k3_idx1_inb : ∀ (v3 : IVec S16 32) (v15 : IVec S16 32) (k3_hw1 : k3_chk1 v3 v15), ∀ a x, ((![v3, v15] : Fin 2 → IVec S16 32) a x).toNat < S16x1024.size a := fun v3 v15 k3_hw1 => k3_hw1
def k3_off19 (k3_t2 : Fin k3_t2_loop.trips) : Fin 2 → Nat :=
  let c1_i32_11 : BitVec 32 := 1#32
  let v18 : Index := Scalar.indexCast c1_i32_11
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v19 : Index := Scalar.indexCast v7
  ![1, v19.toNat]

def k3_chk2 (v3 : IVec S16 32) (v25 : IVec S16 32) : Prop :=
  (∀ a x, ((![v3, v25] : Fin 2 → IVec S16 32) a x).toNat < S16x1024.size a)
theorem k3_idx2_inb : ∀ (v3 : IVec S16 32) (v25 : IVec S16 32) (k3_hw2 : k3_chk2 v3 v25), ∀ a x, ((![v3, v25] : Fin 2 → IVec S16 32) a x).toNat < S16x1024.size a := fun v3 v25 k3_hw2 => k3_hw2
def k3_off20 (k3_t2 : Fin k3_t2_loop.trips) : Fin 2 → Nat :=
  let c2_i32 : BitVec 32 := 2#32
  let v28 : Index := Scalar.indexCast c2_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v29 : Index := Scalar.indexCast v7
  ![2, v29.toNat]

def k3_chk3 (v3 : IVec S16 32) (v35 : IVec S16 32) : Prop :=
  (∀ a x, ((![v3, v35] : Fin 2 → IVec S16 32) a x).toNat < S16x1024.size a)
theorem k3_idx3_inb : ∀ (v3 : IVec S16 32) (v35 : IVec S16 32) (k3_hw3 : k3_chk3 v3 v35), ∀ a x, ((![v3, v35] : Fin 2 → IVec S16 32) a x).toNat < S16x1024.size a := fun v3 v35 k3_hw3 => k3_hw3
def k3_off21 (k3_t2 : Fin k3_t2_loop.trips) : Fin 2 → Nat :=
  let c3_i32 : BitVec 32 := 3#32
  let v38 : Index := Scalar.indexCast c3_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v39 : Index := Scalar.indexCast v7
  ![3, v39.toNat]

def k3_chk4 (v3 : IVec S16 32) (v45 : IVec S16 32) : Prop :=
  (∀ a x, ((![v3, v45] : Fin 2 → IVec S16 32) a x).toNat < S16x1024.size a)
theorem k3_idx4_inb : ∀ (v3 : IVec S16 32) (v45 : IVec S16 32) (k3_hw4 : k3_chk4 v3 v45), ∀ a x, ((![v3, v45] : Fin 2 → IVec S16 32) a x).toNat < S16x1024.size a := fun v3 v45 k3_hw4 => k3_hw4
def k3_off22 (k3_t2 : Fin k3_t2_loop.trips) : Fin 2 → Nat :=
  let c4_i32 : BitVec 32 := 4#32
  let v48 : Index := Scalar.indexCast c4_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v49 : Index := Scalar.indexCast v7
  ![4, v49.toNat]

def k3_chk5 (v3 : IVec S16 32) (v55 : IVec S16 32) : Prop :=
  (∀ a x, ((![v3, v55] : Fin 2 → IVec S16 32) a x).toNat < S16x1024.size a)
theorem k3_idx5_inb : ∀ (v3 : IVec S16 32) (v55 : IVec S16 32) (k3_hw5 : k3_chk5 v3 v55), ∀ a x, ((![v3, v55] : Fin 2 → IVec S16 32) a x).toNat < S16x1024.size a := fun v3 v55 k3_hw5 => k3_hw5
def k3_off23 (k3_t2 : Fin k3_t2_loop.trips) : Fin 2 → Nat :=
  let c5_i32 : BitVec 32 := 5#32
  let v58 : Index := Scalar.indexCast c5_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v59 : Index := Scalar.indexCast v7
  ![5, v59.toNat]

def k3_chk6 (v3 : IVec S16 32) (v65 : IVec S16 32) : Prop :=
  (∀ a x, ((![v3, v65] : Fin 2 → IVec S16 32) a x).toNat < S16x1024.size a)
theorem k3_idx6_inb : ∀ (v3 : IVec S16 32) (v65 : IVec S16 32) (k3_hw6 : k3_chk6 v3 v65), ∀ a x, ((![v3, v65] : Fin 2 → IVec S16 32) a x).toNat < S16x1024.size a := fun v3 v65 k3_hw6 => k3_hw6
def k3_off24 (k3_t2 : Fin k3_t2_loop.trips) : Fin 2 → Nat :=
  let c6_i32 : BitVec 32 := 6#32
  let v68 : Index := Scalar.indexCast c6_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v69 : Index := Scalar.indexCast v7
  ![6, v69.toNat]

def k3_chk7 (v3 : IVec S16 32) (v75 : IVec S16 32) : Prop :=
  (∀ a x, ((![v3, v75] : Fin 2 → IVec S16 32) a x).toNat < S16x1024.size a)
theorem k3_idx7_inb : ∀ (v3 : IVec S16 32) (v75 : IVec S16 32) (k3_hw7 : k3_chk7 v3 v75), ∀ a x, ((![v3, v75] : Fin 2 → IVec S16 32) a x).toNat < S16x1024.size a := fun v3 v75 k3_hw7 => k3_hw7
def k3_off25 (k3_t2 : Fin k3_t2_loop.trips) : Fin 2 → Nat :=
  let c7_i32 : BitVec 32 := 7#32
  let v78 : Index := Scalar.indexCast c7_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v79 : Index := Scalar.indexCast v7
  ![7, v79.toNat]

def k3_chk8 (v3 : IVec S16 32) (v85 : IVec S16 32) : Prop :=
  (∀ a x, ((![v3, v85] : Fin 2 → IVec S16 32) a x).toNat < S16x1024.size a)
theorem k3_idx8_inb : ∀ (v3 : IVec S16 32) (v85 : IVec S16 32) (k3_hw8 : k3_chk8 v3 v85), ∀ a x, ((![v3, v85] : Fin 2 → IVec S16 32) a x).toNat < S16x1024.size a := fun v3 v85 k3_hw8 => k3_hw8
def k3_off26 (k3_t2 : Fin k3_t2_loop.trips) : Fin 2 → Nat :=
  let c8_i32_33 : BitVec 32 := 8#32
  let v88 : Index := Scalar.indexCast c8_i32_33
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v89 : Index := Scalar.indexCast v7
  ![8, v89.toNat]

def k3_chk9 (v3 : IVec S16 32) (v95 : IVec S16 32) : Prop :=
  (∀ a x, ((![v3, v95] : Fin 2 → IVec S16 32) a x).toNat < S16x1024.size a)
theorem k3_idx9_inb : ∀ (v3 : IVec S16 32) (v95 : IVec S16 32) (k3_hw9 : k3_chk9 v3 v95), ∀ a x, ((![v3, v95] : Fin 2 → IVec S16 32) a x).toNat < S16x1024.size a := fun v3 v95 k3_hw9 => k3_hw9
def k3_off27 (k3_t2 : Fin k3_t2_loop.trips) : Fin 2 → Nat :=
  let c9_i32 : BitVec 32 := 9#32
  let v98 : Index := Scalar.indexCast c9_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v99 : Index := Scalar.indexCast v7
  ![9, v99.toNat]

def k3_chk10 (v3 : IVec S16 32) (v105 : IVec S16 32) : Prop :=
  (∀ a x, ((![v3, v105] : Fin 2 → IVec S16 32) a x).toNat < S16x1024.size a)
theorem k3_idx10_inb : ∀ (v3 : IVec S16 32) (v105 : IVec S16 32) (k3_hw10 : k3_chk10 v3 v105), ∀ a x, ((![v3, v105] : Fin 2 → IVec S16 32) a x).toNat < S16x1024.size a := fun v3 v105 k3_hw10 => k3_hw10
def k3_off28 (k3_t2 : Fin k3_t2_loop.trips) : Fin 2 → Nat :=
  let c10_i32 : BitVec 32 := 10#32
  let v108 : Index := Scalar.indexCast c10_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v109 : Index := Scalar.indexCast v7
  ![10, v109.toNat]

def k3_chk11 (v3 : IVec S16 32) (v115 : IVec S16 32) : Prop :=
  (∀ a x, ((![v3, v115] : Fin 2 → IVec S16 32) a x).toNat < S16x1024.size a)
theorem k3_idx11_inb : ∀ (v3 : IVec S16 32) (v115 : IVec S16 32) (k3_hw11 : k3_chk11 v3 v115), ∀ a x, ((![v3, v115] : Fin 2 → IVec S16 32) a x).toNat < S16x1024.size a := fun v3 v115 k3_hw11 => k3_hw11
def k3_off29 (k3_t2 : Fin k3_t2_loop.trips) : Fin 2 → Nat :=
  let c11_i32 : BitVec 32 := 11#32
  let v118 : Index := Scalar.indexCast c11_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v119 : Index := Scalar.indexCast v7
  ![11, v119.toNat]

def k3_chk12 (v3 : IVec S16 32) (v125 : IVec S16 32) : Prop :=
  (∀ a x, ((![v3, v125] : Fin 2 → IVec S16 32) a x).toNat < S16x1024.size a)
theorem k3_idx12_inb : ∀ (v3 : IVec S16 32) (v125 : IVec S16 32) (k3_hw12 : k3_chk12 v3 v125), ∀ a x, ((![v3, v125] : Fin 2 → IVec S16 32) a x).toNat < S16x1024.size a := fun v3 v125 k3_hw12 => k3_hw12
def k3_off30 (k3_t2 : Fin k3_t2_loop.trips) : Fin 2 → Nat :=
  let c12_i32 : BitVec 32 := 12#32
  let v128 : Index := Scalar.indexCast c12_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v129 : Index := Scalar.indexCast v7
  ![12, v129.toNat]

def k3_chk13 (v3 : IVec S16 32) (v135 : IVec S16 32) : Prop :=
  (∀ a x, ((![v3, v135] : Fin 2 → IVec S16 32) a x).toNat < S16x1024.size a)
theorem k3_idx13_inb : ∀ (v3 : IVec S16 32) (v135 : IVec S16 32) (k3_hw13 : k3_chk13 v3 v135), ∀ a x, ((![v3, v135] : Fin 2 → IVec S16 32) a x).toNat < S16x1024.size a := fun v3 v135 k3_hw13 => k3_hw13
def k3_off31 (k3_t2 : Fin k3_t2_loop.trips) : Fin 2 → Nat :=
  let c13_i32 : BitVec 32 := 13#32
  let v138 : Index := Scalar.indexCast c13_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v139 : Index := Scalar.indexCast v7
  ![13, v139.toNat]

def k3_chk14 (v3 : IVec S16 32) (v145 : IVec S16 32) : Prop :=
  (∀ a x, ((![v3, v145] : Fin 2 → IVec S16 32) a x).toNat < S16x1024.size a)
theorem k3_idx14_inb : ∀ (v3 : IVec S16 32) (v145 : IVec S16 32) (k3_hw14 : k3_chk14 v3 v145), ∀ a x, ((![v3, v145] : Fin 2 → IVec S16 32) a x).toNat < S16x1024.size a := fun v3 v145 k3_hw14 => k3_hw14
def k3_off32 (k3_t2 : Fin k3_t2_loop.trips) : Fin 2 → Nat :=
  let c14_i32 : BitVec 32 := 14#32
  let v148 : Index := Scalar.indexCast c14_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v149 : Index := Scalar.indexCast v7
  ![14, v149.toNat]

def k3_chk15 (v3 : IVec S16 32) (v155 : IVec S16 32) : Prop :=
  (∀ a x, ((![v3, v155] : Fin 2 → IVec S16 32) a x).toNat < S16x1024.size a)
theorem k3_idx15_inb : ∀ (v3 : IVec S16 32) (v155 : IVec S16 32) (k3_hw15 : k3_chk15 v3 v155), ∀ a x, ((![v3, v155] : Fin 2 → IVec S16 32) a x).toNat < S16x1024.size a := fun v3 v155 k3_hw15 => k3_hw15
def k3_off33 (k3_t2 : Fin k3_t2_loop.trips) : Fin 2 → Nat :=
  let c15_i32 : BitVec 32 := 15#32
  let v158 : Index := Scalar.indexCast c15_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v159 : Index := Scalar.indexCast v7
  ![15, v159.toNat]

def k3_chk16 (v3 : IVec S16 32) (v165 : IVec S16 32) : Prop :=
  (∀ a x, ((![v3, v165] : Fin 2 → IVec S16 32) a x).toNat < S16x1024.size a)
theorem k3_idx16_inb : ∀ (v3 : IVec S16 32) (v165 : IVec S16 32) (k3_hw16 : k3_chk16 v3 v165), ∀ a x, ((![v3, v165] : Fin 2 → IVec S16 32) a x).toNat < S16x1024.size a := fun v3 v165 k3_hw16 => k3_hw16
def k3_off34 (k3_t2 : Fin k3_t2_loop.trips) : Fin 2 → Nat :=
  let c16_i32_58 : BitVec 32 := 16#32
  let v168 : Index := Scalar.indexCast c16_i32_58
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v169 : Index := Scalar.indexCast v7
  ![16, v169.toNat]

def k3_chk17 (v3 : IVec S16 32) (v175 : IVec S16 32) : Prop :=
  (∀ a x, ((![v3, v175] : Fin 2 → IVec S16 32) a x).toNat < S16x1024.size a)
theorem k3_idx17_inb : ∀ (v3 : IVec S16 32) (v175 : IVec S16 32) (k3_hw17 : k3_chk17 v3 v175), ∀ a x, ((![v3, v175] : Fin 2 → IVec S16 32) a x).toNat < S16x1024.size a := fun v3 v175 k3_hw17 => k3_hw17
def k3_off35 (k3_t2 : Fin k3_t2_loop.trips) : Fin 2 → Nat :=
  let c17_i32 : BitVec 32 := 17#32
  let v178 : Index := Scalar.indexCast c17_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v179 : Index := Scalar.indexCast v7
  ![17, v179.toNat]

def k3_chk18 (v3 : IVec S16 32) (v185 : IVec S16 32) : Prop :=
  (∀ a x, ((![v3, v185] : Fin 2 → IVec S16 32) a x).toNat < S16x1024.size a)
theorem k3_idx18_inb : ∀ (v3 : IVec S16 32) (v185 : IVec S16 32) (k3_hw18 : k3_chk18 v3 v185), ∀ a x, ((![v3, v185] : Fin 2 → IVec S16 32) a x).toNat < S16x1024.size a := fun v3 v185 k3_hw18 => k3_hw18
def k3_off36 (k3_t2 : Fin k3_t2_loop.trips) : Fin 2 → Nat :=
  let c18_i32 : BitVec 32 := 18#32
  let v188 : Index := Scalar.indexCast c18_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v189 : Index := Scalar.indexCast v7
  ![18, v189.toNat]

def k3_chk19 (v3 : IVec S16 32) (v195 : IVec S16 32) : Prop :=
  (∀ a x, ((![v3, v195] : Fin 2 → IVec S16 32) a x).toNat < S16x1024.size a)
theorem k3_idx19_inb : ∀ (v3 : IVec S16 32) (v195 : IVec S16 32) (k3_hw19 : k3_chk19 v3 v195), ∀ a x, ((![v3, v195] : Fin 2 → IVec S16 32) a x).toNat < S16x1024.size a := fun v3 v195 k3_hw19 => k3_hw19
def k3_off37 (k3_t2 : Fin k3_t2_loop.trips) : Fin 2 → Nat :=
  let c19_i32 : BitVec 32 := 19#32
  let v198 : Index := Scalar.indexCast c19_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v199 : Index := Scalar.indexCast v7
  ![19, v199.toNat]

def k3_chk20 (v3 : IVec S16 32) (v205 : IVec S16 32) : Prop :=
  (∀ a x, ((![v3, v205] : Fin 2 → IVec S16 32) a x).toNat < S16x1024.size a)
theorem k3_idx20_inb : ∀ (v3 : IVec S16 32) (v205 : IVec S16 32) (k3_hw20 : k3_chk20 v3 v205), ∀ a x, ((![v3, v205] : Fin 2 → IVec S16 32) a x).toNat < S16x1024.size a := fun v3 v205 k3_hw20 => k3_hw20
def k3_off38 (k3_t2 : Fin k3_t2_loop.trips) : Fin 2 → Nat :=
  let c20_i32 : BitVec 32 := 20#32
  let v208 : Index := Scalar.indexCast c20_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v209 : Index := Scalar.indexCast v7
  ![20, v209.toNat]

def k3_chk21 (v3 : IVec S16 32) (v215 : IVec S16 32) : Prop :=
  (∀ a x, ((![v3, v215] : Fin 2 → IVec S16 32) a x).toNat < S16x1024.size a)
theorem k3_idx21_inb : ∀ (v3 : IVec S16 32) (v215 : IVec S16 32) (k3_hw21 : k3_chk21 v3 v215), ∀ a x, ((![v3, v215] : Fin 2 → IVec S16 32) a x).toNat < S16x1024.size a := fun v3 v215 k3_hw21 => k3_hw21
def k3_off39 (k3_t2 : Fin k3_t2_loop.trips) : Fin 2 → Nat :=
  let c21_i32 : BitVec 32 := 21#32
  let v218 : Index := Scalar.indexCast c21_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v219 : Index := Scalar.indexCast v7
  ![21, v219.toNat]

def k3_chk22 (v3 : IVec S16 32) (v225 : IVec S16 32) : Prop :=
  (∀ a x, ((![v3, v225] : Fin 2 → IVec S16 32) a x).toNat < S16x1024.size a)
theorem k3_idx22_inb : ∀ (v3 : IVec S16 32) (v225 : IVec S16 32) (k3_hw22 : k3_chk22 v3 v225), ∀ a x, ((![v3, v225] : Fin 2 → IVec S16 32) a x).toNat < S16x1024.size a := fun v3 v225 k3_hw22 => k3_hw22
def k3_off40 (k3_t2 : Fin k3_t2_loop.trips) : Fin 2 → Nat :=
  let c22_i32 : BitVec 32 := 22#32
  let v228 : Index := Scalar.indexCast c22_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v229 : Index := Scalar.indexCast v7
  ![22, v229.toNat]

def k3_chk23 (v3 : IVec S16 32) (v235 : IVec S16 32) : Prop :=
  (∀ a x, ((![v3, v235] : Fin 2 → IVec S16 32) a x).toNat < S16x1024.size a)
theorem k3_idx23_inb : ∀ (v3 : IVec S16 32) (v235 : IVec S16 32) (k3_hw23 : k3_chk23 v3 v235), ∀ a x, ((![v3, v235] : Fin 2 → IVec S16 32) a x).toNat < S16x1024.size a := fun v3 v235 k3_hw23 => k3_hw23
def k3_off41 (k3_t2 : Fin k3_t2_loop.trips) : Fin 2 → Nat :=
  let c23_i32 : BitVec 32 := 23#32
  let v238 : Index := Scalar.indexCast c23_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v239 : Index := Scalar.indexCast v7
  ![23, v239.toNat]

def k3_chk24 (v3 : IVec S16 32) (v245 : IVec S16 32) : Prop :=
  (∀ a x, ((![v3, v245] : Fin 2 → IVec S16 32) a x).toNat < S16x1024.size a)
theorem k3_idx24_inb : ∀ (v3 : IVec S16 32) (v245 : IVec S16 32) (k3_hw24 : k3_chk24 v3 v245), ∀ a x, ((![v3, v245] : Fin 2 → IVec S16 32) a x).toNat < S16x1024.size a := fun v3 v245 k3_hw24 => k3_hw24
def k3_off42 (k3_t2 : Fin k3_t2_loop.trips) : Fin 2 → Nat :=
  let c24_i32 : BitVec 32 := 24#32
  let v248 : Index := Scalar.indexCast c24_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v249 : Index := Scalar.indexCast v7
  ![24, v249.toNat]

def k3_chk25 (v3 : IVec S16 32) (v255 : IVec S16 32) : Prop :=
  (∀ a x, ((![v3, v255] : Fin 2 → IVec S16 32) a x).toNat < S16x1024.size a)
theorem k3_idx25_inb : ∀ (v3 : IVec S16 32) (v255 : IVec S16 32) (k3_hw25 : k3_chk25 v3 v255), ∀ a x, ((![v3, v255] : Fin 2 → IVec S16 32) a x).toNat < S16x1024.size a := fun v3 v255 k3_hw25 => k3_hw25
def k3_off43 (k3_t2 : Fin k3_t2_loop.trips) : Fin 2 → Nat :=
  let c25_i32 : BitVec 32 := 25#32
  let v258 : Index := Scalar.indexCast c25_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v259 : Index := Scalar.indexCast v7
  ![25, v259.toNat]

def k3_chk26 (v3 : IVec S16 32) (v265 : IVec S16 32) : Prop :=
  (∀ a x, ((![v3, v265] : Fin 2 → IVec S16 32) a x).toNat < S16x1024.size a)
theorem k3_idx26_inb : ∀ (v3 : IVec S16 32) (v265 : IVec S16 32) (k3_hw26 : k3_chk26 v3 v265), ∀ a x, ((![v3, v265] : Fin 2 → IVec S16 32) a x).toNat < S16x1024.size a := fun v3 v265 k3_hw26 => k3_hw26
def k3_off44 (k3_t2 : Fin k3_t2_loop.trips) : Fin 2 → Nat :=
  let c26_i32 : BitVec 32 := 26#32
  let v268 : Index := Scalar.indexCast c26_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v269 : Index := Scalar.indexCast v7
  ![26, v269.toNat]

def k3_chk27 (v3 : IVec S16 32) (v275 : IVec S16 32) : Prop :=
  (∀ a x, ((![v3, v275] : Fin 2 → IVec S16 32) a x).toNat < S16x1024.size a)
theorem k3_idx27_inb : ∀ (v3 : IVec S16 32) (v275 : IVec S16 32) (k3_hw27 : k3_chk27 v3 v275), ∀ a x, ((![v3, v275] : Fin 2 → IVec S16 32) a x).toNat < S16x1024.size a := fun v3 v275 k3_hw27 => k3_hw27
def k3_off45 (k3_t2 : Fin k3_t2_loop.trips) : Fin 2 → Nat :=
  let c27_i32 : BitVec 32 := 27#32
  let v278 : Index := Scalar.indexCast c27_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v279 : Index := Scalar.indexCast v7
  ![27, v279.toNat]

def k3_chk28 (v3 : IVec S16 32) (v285 : IVec S16 32) : Prop :=
  (∀ a x, ((![v3, v285] : Fin 2 → IVec S16 32) a x).toNat < S16x1024.size a)
theorem k3_idx28_inb : ∀ (v3 : IVec S16 32) (v285 : IVec S16 32) (k3_hw28 : k3_chk28 v3 v285), ∀ a x, ((![v3, v285] : Fin 2 → IVec S16 32) a x).toNat < S16x1024.size a := fun v3 v285 k3_hw28 => k3_hw28
def k3_off46 (k3_t2 : Fin k3_t2_loop.trips) : Fin 2 → Nat :=
  let c28_i32 : BitVec 32 := 28#32
  let v288 : Index := Scalar.indexCast c28_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v289 : Index := Scalar.indexCast v7
  ![28, v289.toNat]

def k3_chk29 (v3 : IVec S16 32) (v295 : IVec S16 32) : Prop :=
  (∀ a x, ((![v3, v295] : Fin 2 → IVec S16 32) a x).toNat < S16x1024.size a)
theorem k3_idx29_inb : ∀ (v3 : IVec S16 32) (v295 : IVec S16 32) (k3_hw29 : k3_chk29 v3 v295), ∀ a x, ((![v3, v295] : Fin 2 → IVec S16 32) a x).toNat < S16x1024.size a := fun v3 v295 k3_hw29 => k3_hw29
def k3_off47 (k3_t2 : Fin k3_t2_loop.trips) : Fin 2 → Nat :=
  let c29_i32 : BitVec 32 := 29#32
  let v298 : Index := Scalar.indexCast c29_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v299 : Index := Scalar.indexCast v7
  ![29, v299.toNat]

def k3_chk30 (v3 : IVec S16 32) (v305 : IVec S16 32) : Prop :=
  (∀ a x, ((![v3, v305] : Fin 2 → IVec S16 32) a x).toNat < S16x1024.size a)
theorem k3_idx30_inb : ∀ (v3 : IVec S16 32) (v305 : IVec S16 32) (k3_hw30 : k3_chk30 v3 v305), ∀ a x, ((![v3, v305] : Fin 2 → IVec S16 32) a x).toNat < S16x1024.size a := fun v3 v305 k3_hw30 => k3_hw30
def k3_off48 (k3_t2 : Fin k3_t2_loop.trips) : Fin 2 → Nat :=
  let c30_i32 : BitVec 32 := 30#32
  let v308 : Index := Scalar.indexCast c30_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v309 : Index := Scalar.indexCast v7
  ![30, v309.toNat]

def k3_chk31 (v3 : IVec S16 32) (v315 : IVec S16 32) : Prop :=
  (∀ a x, ((![v3, v315] : Fin 2 → IVec S16 32) a x).toNat < S16x1024.size a)
theorem k3_idx31_inb : ∀ (v3 : IVec S16 32) (v315 : IVec S16 32) (k3_hw31 : k3_chk31 v3 v315), ∀ a x, ((![v3, v315] : Fin 2 → IVec S16 32) a x).toNat < S16x1024.size a := fun v3 v315 k3_hw31 => k3_hw31
def k3_off49 (k3_t2 : Fin k3_t2_loop.trips) : Fin 2 → Nat :=
  let c31_i32 : BitVec 32 := 31#32
  let v318 : Index := Scalar.indexCast c31_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v319 : Index := Scalar.indexCast v7
  ![31, v319.toNat]

def k3_chk32 (v3 : IVec S16 32) (v325 : IVec S16 32) : Prop :=
  (∀ a x, ((![v3, v325] : Fin 2 → IVec S16 32) a x).toNat < S16x1024.size a)
theorem k3_idx32_inb : ∀ (v3 : IVec S16 32) (v325 : IVec S16 32) (k3_hw32 : k3_chk32 v3 v325), ∀ a x, ((![v3, v325] : Fin 2 → IVec S16 32) a x).toNat < S16x1024.size a := fun v3 v325 k3_hw32 => k3_hw32
def k3_off50 (k3_t2 : Fin k3_t2_loop.trips) : Fin 2 → Nat :=
  let c32_i32 : BitVec 32 := 32#32
  let v328 : Index := Scalar.indexCast c32_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v329 : Index := Scalar.indexCast v7
  ![32, v329.toNat]

def k3_chk33 (v3 : IVec S16 32) (v335 : IVec S16 32) : Prop :=
  (∀ a x, ((![v3, v335] : Fin 2 → IVec S16 32) a x).toNat < S16x1024.size a)
theorem k3_idx33_inb : ∀ (v3 : IVec S16 32) (v335 : IVec S16 32) (k3_hw33 : k3_chk33 v3 v335), ∀ a x, ((![v3, v335] : Fin 2 → IVec S16 32) a x).toNat < S16x1024.size a := fun v3 v335 k3_hw33 => k3_hw33
def k3_off51 (k3_t2 : Fin k3_t2_loop.trips) : Fin 2 → Nat :=
  let c33_i32 : BitVec 32 := 33#32
  let v338 : Index := Scalar.indexCast c33_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v339 : Index := Scalar.indexCast v7
  ![33, v339.toNat]

def k3_chk34 (v3 : IVec S16 32) (v345 : IVec S16 32) : Prop :=
  (∀ a x, ((![v3, v345] : Fin 2 → IVec S16 32) a x).toNat < S16x1024.size a)
theorem k3_idx34_inb : ∀ (v3 : IVec S16 32) (v345 : IVec S16 32) (k3_hw34 : k3_chk34 v3 v345), ∀ a x, ((![v3, v345] : Fin 2 → IVec S16 32) a x).toNat < S16x1024.size a := fun v3 v345 k3_hw34 => k3_hw34
def k3_off52 (k3_t2 : Fin k3_t2_loop.trips) : Fin 2 → Nat :=
  let c34_i32 : BitVec 32 := 34#32
  let v348 : Index := Scalar.indexCast c34_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v349 : Index := Scalar.indexCast v7
  ![34, v349.toNat]

def k3_chk35 (v3 : IVec S16 32) (v355 : IVec S16 32) : Prop :=
  (∀ a x, ((![v3, v355] : Fin 2 → IVec S16 32) a x).toNat < S16x1024.size a)
theorem k3_idx35_inb : ∀ (v3 : IVec S16 32) (v355 : IVec S16 32) (k3_hw35 : k3_chk35 v3 v355), ∀ a x, ((![v3, v355] : Fin 2 → IVec S16 32) a x).toNat < S16x1024.size a := fun v3 v355 k3_hw35 => k3_hw35
def k3_off53 (k3_t2 : Fin k3_t2_loop.trips) : Fin 2 → Nat :=
  let c35_i32 : BitVec 32 := 35#32
  let v358 : Index := Scalar.indexCast c35_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v359 : Index := Scalar.indexCast v7
  ![35, v359.toNat]

def k3_chk36 (v3 : IVec S16 32) (v365 : IVec S16 32) : Prop :=
  (∀ a x, ((![v3, v365] : Fin 2 → IVec S16 32) a x).toNat < S16x1024.size a)
theorem k3_idx36_inb : ∀ (v3 : IVec S16 32) (v365 : IVec S16 32) (k3_hw36 : k3_chk36 v3 v365), ∀ a x, ((![v3, v365] : Fin 2 → IVec S16 32) a x).toNat < S16x1024.size a := fun v3 v365 k3_hw36 => k3_hw36
def k3_off54 (k3_t2 : Fin k3_t2_loop.trips) : Fin 2 → Nat :=
  let c36_i32 : BitVec 32 := 36#32
  let v368 : Index := Scalar.indexCast c36_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v369 : Index := Scalar.indexCast v7
  ![36, v369.toNat]

def k3_chk37 (v3 : IVec S16 32) (v375 : IVec S16 32) : Prop :=
  (∀ a x, ((![v3, v375] : Fin 2 → IVec S16 32) a x).toNat < S16x1024.size a)
theorem k3_idx37_inb : ∀ (v3 : IVec S16 32) (v375 : IVec S16 32) (k3_hw37 : k3_chk37 v3 v375), ∀ a x, ((![v3, v375] : Fin 2 → IVec S16 32) a x).toNat < S16x1024.size a := fun v3 v375 k3_hw37 => k3_hw37
def k3_off55 (k3_t2 : Fin k3_t2_loop.trips) : Fin 2 → Nat :=
  let c37_i32 : BitVec 32 := 37#32
  let v378 : Index := Scalar.indexCast c37_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v379 : Index := Scalar.indexCast v7
  ![37, v379.toNat]

def k3_chk38 (v3 : IVec S16 32) (v385 : IVec S16 32) : Prop :=
  (∀ a x, ((![v3, v385] : Fin 2 → IVec S16 32) a x).toNat < S16x1024.size a)
theorem k3_idx38_inb : ∀ (v3 : IVec S16 32) (v385 : IVec S16 32) (k3_hw38 : k3_chk38 v3 v385), ∀ a x, ((![v3, v385] : Fin 2 → IVec S16 32) a x).toNat < S16x1024.size a := fun v3 v385 k3_hw38 => k3_hw38
def k3_off56 (k3_t2 : Fin k3_t2_loop.trips) : Fin 2 → Nat :=
  let c38_i32 : BitVec 32 := 38#32
  let v388 : Index := Scalar.indexCast c38_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v389 : Index := Scalar.indexCast v7
  ![38, v389.toNat]

def k3_chk39 (v3 : IVec S16 32) (v395 : IVec S16 32) : Prop :=
  (∀ a x, ((![v3, v395] : Fin 2 → IVec S16 32) a x).toNat < S16x1024.size a)
theorem k3_idx39_inb : ∀ (v3 : IVec S16 32) (v395 : IVec S16 32) (k3_hw39 : k3_chk39 v3 v395), ∀ a x, ((![v3, v395] : Fin 2 → IVec S16 32) a x).toNat < S16x1024.size a := fun v3 v395 k3_hw39 => k3_hw39
def k3_off57 (k3_t2 : Fin k3_t2_loop.trips) : Fin 2 → Nat :=
  let c39_i32 : BitVec 32 := 39#32
  let v398 : Index := Scalar.indexCast c39_i32
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v399 : Index := Scalar.indexCast v7
  ![39, v399.toNat]

def k3_chk40 (v3 : IVec S16 32) (v405 : IVec S16 32) : Prop :=
  (∀ a x, ((![v3, v405] : Fin 2 → IVec S16 32) a x).toNat < S16x1024.size a)
theorem k3_idx40_inb : ∀ (v3 : IVec S16 32) (v405 : IVec S16 32) (k3_hw40 : k3_chk40 v3 v405), ∀ a x, ((![v3, v405] : Fin 2 → IVec S16 32) a x).toNat < S16x1024.size a := fun v3 v405 k3_hw40 => k3_hw40
def k3_off58 (i : grid3.Coords) (k3_t2 : Fin k3_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c0_i32_3 : BitVec 32 := 0#32
  let c1_i32_4 : BitVec 32 := 1#32
  let arg8 : BitVec 32 := Scf.iv c0_i32_3 c1_i32_4 k3_t2
  let c16_i32_131 : BitVec 32 := 16#32
  let v408 : BitVec 32 := Scalar.muli arg8 c16_i32_131
  let v409 : BitVec 32 := Scalar.addi v2 v408
  let c0_i32_252_r2 : BitVec 32 := 0#32
  ![v409.toNat, 0]
def k3_off59 (k3_t2 : Fin k3_t2_loop.trips) : Fin 2 → Nat :=
  let c0_i32_132 : BitVec 32 := 0#32
  let v410 : Index := Scalar.indexCast c0_i32_132
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v411 : Index := Scalar.indexCast v7
  ![0, v411.toNat]

def k3_chk41 (v3 : IVec S16 32) (v414 : IVec S16 32) : Prop :=
  (∀ a x, ((![v3, v414] : Fin 2 → IVec S16 32) a x).toNat < S16x1024.size a)
theorem k3_idx41_inb : ∀ (v3 : IVec S16 32) (v414 : IVec S16 32) (k3_hw41 : k3_chk41 v3 v414), ∀ a x, ((![v3, v414] : Fin 2 → IVec S16 32) a x).toNat < S16x1024.size a := fun v3 v414 k3_hw41 => k3_hw41
def k3_off60 (k3_t2 : Fin k3_t2_loop.trips) : Fin 2 → Nat :=
  let c1_i32_135 : BitVec 32 := 1#32
  let v417 : Index := Scalar.indexCast c1_i32_135
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v418 : Index := Scalar.indexCast v7
  ![1, v418.toNat]

def k3_chk42 (v3 : IVec S16 32) (v421 : IVec S16 32) : Prop :=
  (∀ a x, ((![v3, v421] : Fin 2 → IVec S16 32) a x).toNat < S16x1024.size a)
theorem k3_idx42_inb : ∀ (v3 : IVec S16 32) (v421 : IVec S16 32) (k3_hw42 : k3_chk42 v3 v421), ∀ a x, ((![v3, v421] : Fin 2 → IVec S16 32) a x).toNat < S16x1024.size a := fun v3 v421 k3_hw42 => k3_hw42
def k3_off61 (k3_t2 : Fin k3_t2_loop.trips) : Fin 2 → Nat :=
  let c2_i32_138 : BitVec 32 := 2#32
  let v424 : Index := Scalar.indexCast c2_i32_138
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v425 : Index := Scalar.indexCast v7
  ![2, v425.toNat]

def k3_chk43 (v3 : IVec S16 32) (v428 : IVec S16 32) : Prop :=
  (∀ a x, ((![v3, v428] : Fin 2 → IVec S16 32) a x).toNat < S16x1024.size a)
theorem k3_idx43_inb : ∀ (v3 : IVec S16 32) (v428 : IVec S16 32) (k3_hw43 : k3_chk43 v3 v428), ∀ a x, ((![v3, v428] : Fin 2 → IVec S16 32) a x).toNat < S16x1024.size a := fun v3 v428 k3_hw43 => k3_hw43
def k3_off62 (k3_t2 : Fin k3_t2_loop.trips) : Fin 2 → Nat :=
  let c3_i32_141 : BitVec 32 := 3#32
  let v431 : Index := Scalar.indexCast c3_i32_141
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v432 : Index := Scalar.indexCast v7
  ![3, v432.toNat]

def k3_chk44 (v3 : IVec S16 32) (v435 : IVec S16 32) : Prop :=
  (∀ a x, ((![v3, v435] : Fin 2 → IVec S16 32) a x).toNat < S16x1024.size a)
theorem k3_idx44_inb : ∀ (v3 : IVec S16 32) (v435 : IVec S16 32) (k3_hw44 : k3_chk44 v3 v435), ∀ a x, ((![v3, v435] : Fin 2 → IVec S16 32) a x).toNat < S16x1024.size a := fun v3 v435 k3_hw44 => k3_hw44
def k3_off63 (k3_t2 : Fin k3_t2_loop.trips) : Fin 2 → Nat :=
  let c4_i32_144 : BitVec 32 := 4#32
  let v438 : Index := Scalar.indexCast c4_i32_144
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v439 : Index := Scalar.indexCast v7
  ![4, v439.toNat]

def k3_chk45 (v3 : IVec S16 32) (v442 : IVec S16 32) : Prop :=
  (∀ a x, ((![v3, v442] : Fin 2 → IVec S16 32) a x).toNat < S16x1024.size a)
theorem k3_idx45_inb : ∀ (v3 : IVec S16 32) (v442 : IVec S16 32) (k3_hw45 : k3_chk45 v3 v442), ∀ a x, ((![v3, v442] : Fin 2 → IVec S16 32) a x).toNat < S16x1024.size a := fun v3 v442 k3_hw45 => k3_hw45
def k3_off64 (k3_t2 : Fin k3_t2_loop.trips) : Fin 2 → Nat :=
  let c5_i32_147 : BitVec 32 := 5#32
  let v445 : Index := Scalar.indexCast c5_i32_147
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v446 : Index := Scalar.indexCast v7
  ![5, v446.toNat]

def k3_chk46 (v3 : IVec S16 32) (v449 : IVec S16 32) : Prop :=
  (∀ a x, ((![v3, v449] : Fin 2 → IVec S16 32) a x).toNat < S16x1024.size a)
theorem k3_idx46_inb : ∀ (v3 : IVec S16 32) (v449 : IVec S16 32) (k3_hw46 : k3_chk46 v3 v449), ∀ a x, ((![v3, v449] : Fin 2 → IVec S16 32) a x).toNat < S16x1024.size a := fun v3 v449 k3_hw46 => k3_hw46
def k3_off65 (k3_t2 : Fin k3_t2_loop.trips) : Fin 2 → Nat :=
  let c6_i32_150 : BitVec 32 := 6#32
  let v452 : Index := Scalar.indexCast c6_i32_150
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v453 : Index := Scalar.indexCast v7
  ![6, v453.toNat]

def k3_chk47 (v3 : IVec S16 32) (v456 : IVec S16 32) : Prop :=
  (∀ a x, ((![v3, v456] : Fin 2 → IVec S16 32) a x).toNat < S16x1024.size a)
theorem k3_idx47_inb : ∀ (v3 : IVec S16 32) (v456 : IVec S16 32) (k3_hw47 : k3_chk47 v3 v456), ∀ a x, ((![v3, v456] : Fin 2 → IVec S16 32) a x).toNat < S16x1024.size a := fun v3 v456 k3_hw47 => k3_hw47
def k3_off66 (k3_t2 : Fin k3_t2_loop.trips) : Fin 2 → Nat :=
  let c7_i32_153 : BitVec 32 := 7#32
  let v459 : Index := Scalar.indexCast c7_i32_153
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v460 : Index := Scalar.indexCast v7
  ![7, v460.toNat]

def k3_chk48 (v3 : IVec S16 32) (v463 : IVec S16 32) : Prop :=
  (∀ a x, ((![v3, v463] : Fin 2 → IVec S16 32) a x).toNat < S16x1024.size a)
theorem k3_idx48_inb : ∀ (v3 : IVec S16 32) (v463 : IVec S16 32) (k3_hw48 : k3_chk48 v3 v463), ∀ a x, ((![v3, v463] : Fin 2 → IVec S16 32) a x).toNat < S16x1024.size a := fun v3 v463 k3_hw48 => k3_hw48
def k3_off67 (k3_t2 : Fin k3_t2_loop.trips) : Fin 2 → Nat :=
  let c8_i32_156 : BitVec 32 := 8#32
  let v466 : Index := Scalar.indexCast c8_i32_156
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v467 : Index := Scalar.indexCast v7
  ![8, v467.toNat]

def k3_chk49 (v3 : IVec S16 32) (v470 : IVec S16 32) : Prop :=
  (∀ a x, ((![v3, v470] : Fin 2 → IVec S16 32) a x).toNat < S16x1024.size a)
theorem k3_idx49_inb : ∀ (v3 : IVec S16 32) (v470 : IVec S16 32) (k3_hw49 : k3_chk49 v3 v470), ∀ a x, ((![v3, v470] : Fin 2 → IVec S16 32) a x).toNat < S16x1024.size a := fun v3 v470 k3_hw49 => k3_hw49
def k3_off68 (k3_t2 : Fin k3_t2_loop.trips) : Fin 2 → Nat :=
  let c9_i32_159 : BitVec 32 := 9#32
  let v473 : Index := Scalar.indexCast c9_i32_159
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v474 : Index := Scalar.indexCast v7
  ![9, v474.toNat]

def k3_chk50 (v3 : IVec S16 32) (v477 : IVec S16 32) : Prop :=
  (∀ a x, ((![v3, v477] : Fin 2 → IVec S16 32) a x).toNat < S16x1024.size a)
theorem k3_idx50_inb : ∀ (v3 : IVec S16 32) (v477 : IVec S16 32) (k3_hw50 : k3_chk50 v3 v477), ∀ a x, ((![v3, v477] : Fin 2 → IVec S16 32) a x).toNat < S16x1024.size a := fun v3 v477 k3_hw50 => k3_hw50
def k3_off69 (k3_t2 : Fin k3_t2_loop.trips) : Fin 2 → Nat :=
  let c10_i32_162 : BitVec 32 := 10#32
  let v480 : Index := Scalar.indexCast c10_i32_162
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v481 : Index := Scalar.indexCast v7
  ![10, v481.toNat]

def k3_chk51 (v3 : IVec S16 32) (v484 : IVec S16 32) : Prop :=
  (∀ a x, ((![v3, v484] : Fin 2 → IVec S16 32) a x).toNat < S16x1024.size a)
theorem k3_idx51_inb : ∀ (v3 : IVec S16 32) (v484 : IVec S16 32) (k3_hw51 : k3_chk51 v3 v484), ∀ a x, ((![v3, v484] : Fin 2 → IVec S16 32) a x).toNat < S16x1024.size a := fun v3 v484 k3_hw51 => k3_hw51
def k3_off70 (k3_t2 : Fin k3_t2_loop.trips) : Fin 2 → Nat :=
  let c11_i32_165 : BitVec 32 := 11#32
  let v487 : Index := Scalar.indexCast c11_i32_165
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v488 : Index := Scalar.indexCast v7
  ![11, v488.toNat]

def k3_chk52 (v3 : IVec S16 32) (v491 : IVec S16 32) : Prop :=
  (∀ a x, ((![v3, v491] : Fin 2 → IVec S16 32) a x).toNat < S16x1024.size a)
theorem k3_idx52_inb : ∀ (v3 : IVec S16 32) (v491 : IVec S16 32) (k3_hw52 : k3_chk52 v3 v491), ∀ a x, ((![v3, v491] : Fin 2 → IVec S16 32) a x).toNat < S16x1024.size a := fun v3 v491 k3_hw52 => k3_hw52
def k3_off71 (k3_t2 : Fin k3_t2_loop.trips) : Fin 2 → Nat :=
  let c12_i32_168 : BitVec 32 := 12#32
  let v494 : Index := Scalar.indexCast c12_i32_168
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v495 : Index := Scalar.indexCast v7
  ![12, v495.toNat]

def k3_chk53 (v3 : IVec S16 32) (v498 : IVec S16 32) : Prop :=
  (∀ a x, ((![v3, v498] : Fin 2 → IVec S16 32) a x).toNat < S16x1024.size a)
theorem k3_idx53_inb : ∀ (v3 : IVec S16 32) (v498 : IVec S16 32) (k3_hw53 : k3_chk53 v3 v498), ∀ a x, ((![v3, v498] : Fin 2 → IVec S16 32) a x).toNat < S16x1024.size a := fun v3 v498 k3_hw53 => k3_hw53
def k3_off72 (k3_t2 : Fin k3_t2_loop.trips) : Fin 2 → Nat :=
  let c13_i32_171 : BitVec 32 := 13#32
  let v501 : Index := Scalar.indexCast c13_i32_171
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v502 : Index := Scalar.indexCast v7
  ![13, v502.toNat]

def k3_chk54 (v3 : IVec S16 32) (v505 : IVec S16 32) : Prop :=
  (∀ a x, ((![v3, v505] : Fin 2 → IVec S16 32) a x).toNat < S16x1024.size a)
theorem k3_idx54_inb : ∀ (v3 : IVec S16 32) (v505 : IVec S16 32) (k3_hw54 : k3_chk54 v3 v505), ∀ a x, ((![v3, v505] : Fin 2 → IVec S16 32) a x).toNat < S16x1024.size a := fun v3 v505 k3_hw54 => k3_hw54
def k3_off73 (k3_t2 : Fin k3_t2_loop.trips) : Fin 2 → Nat :=
  let c14_i32_174 : BitVec 32 := 14#32
  let v508 : Index := Scalar.indexCast c14_i32_174
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v509 : Index := Scalar.indexCast v7
  ![14, v509.toNat]

def k3_chk55 (v3 : IVec S16 32) (v512 : IVec S16 32) : Prop :=
  (∀ a x, ((![v3, v512] : Fin 2 → IVec S16 32) a x).toNat < S16x1024.size a)
theorem k3_idx55_inb : ∀ (v3 : IVec S16 32) (v512 : IVec S16 32) (k3_hw55 : k3_chk55 v3 v512), ∀ a x, ((![v3, v512] : Fin 2 → IVec S16 32) a x).toNat < S16x1024.size a := fun v3 v512 k3_hw55 => k3_hw55
def k3_off74 (k3_t2 : Fin k3_t2_loop.trips) : Fin 2 → Nat :=
  let c15_i32_177 : BitVec 32 := 15#32
  let v515 : Index := Scalar.indexCast c15_i32_177
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v516 : Index := Scalar.indexCast v7
  ![15, v516.toNat]

def k3_chk56 (v3 : IVec S16 32) (v519 : IVec S16 32) : Prop :=
  (∀ a x, ((![v3, v519] : Fin 2 → IVec S16 32) a x).toNat < S16x1024.size a)
theorem k3_idx56_inb : ∀ (v3 : IVec S16 32) (v519 : IVec S16 32) (k3_hw56 : k3_chk56 v3 v519), ∀ a x, ((![v3, v519] : Fin 2 → IVec S16 32) a x).toNat < S16x1024.size a := fun v3 v519 k3_hw56 => k3_hw56
def k3_off75 (k3_t2 : Fin k3_t2_loop.trips) : Fin 2 → Nat :=
  let c16_i32_180 : BitVec 32 := 16#32
  let v522 : Index := Scalar.indexCast c16_i32_180
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v523 : Index := Scalar.indexCast v7
  ![16, v523.toNat]

def k3_chk57 (v3 : IVec S16 32) (v526 : IVec S16 32) : Prop :=
  (∀ a x, ((![v3, v526] : Fin 2 → IVec S16 32) a x).toNat < S16x1024.size a)
theorem k3_idx57_inb : ∀ (v3 : IVec S16 32) (v526 : IVec S16 32) (k3_hw57 : k3_chk57 v3 v526), ∀ a x, ((![v3, v526] : Fin 2 → IVec S16 32) a x).toNat < S16x1024.size a := fun v3 v526 k3_hw57 => k3_hw57
def k3_off76 (k3_t2 : Fin k3_t2_loop.trips) : Fin 2 → Nat :=
  let c17_i32_183 : BitVec 32 := 17#32
  let v529 : Index := Scalar.indexCast c17_i32_183
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v530 : Index := Scalar.indexCast v7
  ![17, v530.toNat]

def k3_chk58 (v3 : IVec S16 32) (v533 : IVec S16 32) : Prop :=
  (∀ a x, ((![v3, v533] : Fin 2 → IVec S16 32) a x).toNat < S16x1024.size a)
theorem k3_idx58_inb : ∀ (v3 : IVec S16 32) (v533 : IVec S16 32) (k3_hw58 : k3_chk58 v3 v533), ∀ a x, ((![v3, v533] : Fin 2 → IVec S16 32) a x).toNat < S16x1024.size a := fun v3 v533 k3_hw58 => k3_hw58
def k3_off77 (k3_t2 : Fin k3_t2_loop.trips) : Fin 2 → Nat :=
  let c18_i32_186 : BitVec 32 := 18#32
  let v536 : Index := Scalar.indexCast c18_i32_186
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v537 : Index := Scalar.indexCast v7
  ![18, v537.toNat]

def k3_chk59 (v3 : IVec S16 32) (v540 : IVec S16 32) : Prop :=
  (∀ a x, ((![v3, v540] : Fin 2 → IVec S16 32) a x).toNat < S16x1024.size a)
theorem k3_idx59_inb : ∀ (v3 : IVec S16 32) (v540 : IVec S16 32) (k3_hw59 : k3_chk59 v3 v540), ∀ a x, ((![v3, v540] : Fin 2 → IVec S16 32) a x).toNat < S16x1024.size a := fun v3 v540 k3_hw59 => k3_hw59
def k3_off78 (k3_t2 : Fin k3_t2_loop.trips) : Fin 2 → Nat :=
  let c19_i32_189 : BitVec 32 := 19#32
  let v543 : Index := Scalar.indexCast c19_i32_189
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v544 : Index := Scalar.indexCast v7
  ![19, v544.toNat]

def k3_chk60 (v3 : IVec S16 32) (v547 : IVec S16 32) : Prop :=
  (∀ a x, ((![v3, v547] : Fin 2 → IVec S16 32) a x).toNat < S16x1024.size a)
theorem k3_idx60_inb : ∀ (v3 : IVec S16 32) (v547 : IVec S16 32) (k3_hw60 : k3_chk60 v3 v547), ∀ a x, ((![v3, v547] : Fin 2 → IVec S16 32) a x).toNat < S16x1024.size a := fun v3 v547 k3_hw60 => k3_hw60
def k3_off79 (k3_t2 : Fin k3_t2_loop.trips) : Fin 2 → Nat :=
  let c20_i32_192 : BitVec 32 := 20#32
  let v550 : Index := Scalar.indexCast c20_i32_192
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v551 : Index := Scalar.indexCast v7
  ![20, v551.toNat]

def k3_chk61 (v3 : IVec S16 32) (v554 : IVec S16 32) : Prop :=
  (∀ a x, ((![v3, v554] : Fin 2 → IVec S16 32) a x).toNat < S16x1024.size a)
theorem k3_idx61_inb : ∀ (v3 : IVec S16 32) (v554 : IVec S16 32) (k3_hw61 : k3_chk61 v3 v554), ∀ a x, ((![v3, v554] : Fin 2 → IVec S16 32) a x).toNat < S16x1024.size a := fun v3 v554 k3_hw61 => k3_hw61
def k3_off80 (k3_t2 : Fin k3_t2_loop.trips) : Fin 2 → Nat :=
  let c21_i32_195 : BitVec 32 := 21#32
  let v557 : Index := Scalar.indexCast c21_i32_195
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v558 : Index := Scalar.indexCast v7
  ![21, v558.toNat]

def k3_chk62 (v3 : IVec S16 32) (v561 : IVec S16 32) : Prop :=
  (∀ a x, ((![v3, v561] : Fin 2 → IVec S16 32) a x).toNat < S16x1024.size a)
theorem k3_idx62_inb : ∀ (v3 : IVec S16 32) (v561 : IVec S16 32) (k3_hw62 : k3_chk62 v3 v561), ∀ a x, ((![v3, v561] : Fin 2 → IVec S16 32) a x).toNat < S16x1024.size a := fun v3 v561 k3_hw62 => k3_hw62
def k3_off81 (k3_t2 : Fin k3_t2_loop.trips) : Fin 2 → Nat :=
  let c22_i32_198 : BitVec 32 := 22#32
  let v564 : Index := Scalar.indexCast c22_i32_198
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v565 : Index := Scalar.indexCast v7
  ![22, v565.toNat]

def k3_chk63 (v3 : IVec S16 32) (v568 : IVec S16 32) : Prop :=
  (∀ a x, ((![v3, v568] : Fin 2 → IVec S16 32) a x).toNat < S16x1024.size a)
theorem k3_idx63_inb : ∀ (v3 : IVec S16 32) (v568 : IVec S16 32) (k3_hw63 : k3_chk63 v3 v568), ∀ a x, ((![v3, v568] : Fin 2 → IVec S16 32) a x).toNat < S16x1024.size a := fun v3 v568 k3_hw63 => k3_hw63
def k3_off82 (k3_t2 : Fin k3_t2_loop.trips) : Fin 2 → Nat :=
  let c23_i32_201 : BitVec 32 := 23#32
  let v571 : Index := Scalar.indexCast c23_i32_201
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v572 : Index := Scalar.indexCast v7
  ![23, v572.toNat]

def k3_chk64 (v3 : IVec S16 32) (v575 : IVec S16 32) : Prop :=
  (∀ a x, ((![v3, v575] : Fin 2 → IVec S16 32) a x).toNat < S16x1024.size a)
theorem k3_idx64_inb : ∀ (v3 : IVec S16 32) (v575 : IVec S16 32) (k3_hw64 : k3_chk64 v3 v575), ∀ a x, ((![v3, v575] : Fin 2 → IVec S16 32) a x).toNat < S16x1024.size a := fun v3 v575 k3_hw64 => k3_hw64
def k3_off83 (k3_t2 : Fin k3_t2_loop.trips) : Fin 2 → Nat :=
  let c24_i32_204 : BitVec 32 := 24#32
  let v578 : Index := Scalar.indexCast c24_i32_204
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v579 : Index := Scalar.indexCast v7
  ![24, v579.toNat]

def k3_chk65 (v3 : IVec S16 32) (v582 : IVec S16 32) : Prop :=
  (∀ a x, ((![v3, v582] : Fin 2 → IVec S16 32) a x).toNat < S16x1024.size a)
theorem k3_idx65_inb : ∀ (v3 : IVec S16 32) (v582 : IVec S16 32) (k3_hw65 : k3_chk65 v3 v582), ∀ a x, ((![v3, v582] : Fin 2 → IVec S16 32) a x).toNat < S16x1024.size a := fun v3 v582 k3_hw65 => k3_hw65
def k3_off84 (k3_t2 : Fin k3_t2_loop.trips) : Fin 2 → Nat :=
  let c25_i32_207 : BitVec 32 := 25#32
  let v585 : Index := Scalar.indexCast c25_i32_207
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v586 : Index := Scalar.indexCast v7
  ![25, v586.toNat]

def k3_chk66 (v3 : IVec S16 32) (v589 : IVec S16 32) : Prop :=
  (∀ a x, ((![v3, v589] : Fin 2 → IVec S16 32) a x).toNat < S16x1024.size a)
theorem k3_idx66_inb : ∀ (v3 : IVec S16 32) (v589 : IVec S16 32) (k3_hw66 : k3_chk66 v3 v589), ∀ a x, ((![v3, v589] : Fin 2 → IVec S16 32) a x).toNat < S16x1024.size a := fun v3 v589 k3_hw66 => k3_hw66
def k3_off85 (k3_t2 : Fin k3_t2_loop.trips) : Fin 2 → Nat :=
  let c26_i32_210 : BitVec 32 := 26#32
  let v592 : Index := Scalar.indexCast c26_i32_210
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v593 : Index := Scalar.indexCast v7
  ![26, v593.toNat]

def k3_chk67 (v3 : IVec S16 32) (v596 : IVec S16 32) : Prop :=
  (∀ a x, ((![v3, v596] : Fin 2 → IVec S16 32) a x).toNat < S16x1024.size a)
theorem k3_idx67_inb : ∀ (v3 : IVec S16 32) (v596 : IVec S16 32) (k3_hw67 : k3_chk67 v3 v596), ∀ a x, ((![v3, v596] : Fin 2 → IVec S16 32) a x).toNat < S16x1024.size a := fun v3 v596 k3_hw67 => k3_hw67
def k3_off86 (k3_t2 : Fin k3_t2_loop.trips) : Fin 2 → Nat :=
  let c27_i32_213 : BitVec 32 := 27#32
  let v599 : Index := Scalar.indexCast c27_i32_213
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v600 : Index := Scalar.indexCast v7
  ![27, v600.toNat]

def k3_chk68 (v3 : IVec S16 32) (v603 : IVec S16 32) : Prop :=
  (∀ a x, ((![v3, v603] : Fin 2 → IVec S16 32) a x).toNat < S16x1024.size a)
theorem k3_idx68_inb : ∀ (v3 : IVec S16 32) (v603 : IVec S16 32) (k3_hw68 : k3_chk68 v3 v603), ∀ a x, ((![v3, v603] : Fin 2 → IVec S16 32) a x).toNat < S16x1024.size a := fun v3 v603 k3_hw68 => k3_hw68
def k3_off87 (k3_t2 : Fin k3_t2_loop.trips) : Fin 2 → Nat :=
  let c28_i32_216 : BitVec 32 := 28#32
  let v606 : Index := Scalar.indexCast c28_i32_216
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v607 : Index := Scalar.indexCast v7
  ![28, v607.toNat]

def k3_chk69 (v3 : IVec S16 32) (v610 : IVec S16 32) : Prop :=
  (∀ a x, ((![v3, v610] : Fin 2 → IVec S16 32) a x).toNat < S16x1024.size a)
theorem k3_idx69_inb : ∀ (v3 : IVec S16 32) (v610 : IVec S16 32) (k3_hw69 : k3_chk69 v3 v610), ∀ a x, ((![v3, v610] : Fin 2 → IVec S16 32) a x).toNat < S16x1024.size a := fun v3 v610 k3_hw69 => k3_hw69
def k3_off88 (k3_t2 : Fin k3_t2_loop.trips) : Fin 2 → Nat :=
  let c29_i32_219 : BitVec 32 := 29#32
  let v613 : Index := Scalar.indexCast c29_i32_219
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v614 : Index := Scalar.indexCast v7
  ![29, v614.toNat]

def k3_chk70 (v3 : IVec S16 32) (v617 : IVec S16 32) : Prop :=
  (∀ a x, ((![v3, v617] : Fin 2 → IVec S16 32) a x).toNat < S16x1024.size a)
theorem k3_idx70_inb : ∀ (v3 : IVec S16 32) (v617 : IVec S16 32) (k3_hw70 : k3_chk70 v3 v617), ∀ a x, ((![v3, v617] : Fin 2 → IVec S16 32) a x).toNat < S16x1024.size a := fun v3 v617 k3_hw70 => k3_hw70
def k3_off89 (k3_t2 : Fin k3_t2_loop.trips) : Fin 2 → Nat :=
  let c30_i32_222 : BitVec 32 := 30#32
  let v620 : Index := Scalar.indexCast c30_i32_222
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v621 : Index := Scalar.indexCast v7
  ![30, v621.toNat]

def k3_chk71 (v3 : IVec S16 32) (v624 : IVec S16 32) : Prop :=
  (∀ a x, ((![v3, v624] : Fin 2 → IVec S16 32) a x).toNat < S16x1024.size a)
theorem k3_idx71_inb : ∀ (v3 : IVec S16 32) (v624 : IVec S16 32) (k3_hw71 : k3_chk71 v3 v624), ∀ a x, ((![v3, v624] : Fin 2 → IVec S16 32) a x).toNat < S16x1024.size a := fun v3 v624 k3_hw71 => k3_hw71
def k3_off90 (k3_t2 : Fin k3_t2_loop.trips) : Fin 2 → Nat :=
  let c31_i32_225 : BitVec 32 := 31#32
  let v627 : Index := Scalar.indexCast c31_i32_225
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v628 : Index := Scalar.indexCast v7
  ![31, v628.toNat]

def k3_chk72 (v3 : IVec S16 32) (v631 : IVec S16 32) : Prop :=
  (∀ a x, ((![v3, v631] : Fin 2 → IVec S16 32) a x).toNat < S16x1024.size a)
theorem k3_idx72_inb : ∀ (v3 : IVec S16 32) (v631 : IVec S16 32) (k3_hw72 : k3_chk72 v3 v631), ∀ a x, ((![v3, v631] : Fin 2 → IVec S16 32) a x).toNat < S16x1024.size a := fun v3 v631 k3_hw72 => k3_hw72
def k3_off91 (k3_t2 : Fin k3_t2_loop.trips) : Fin 2 → Nat :=
  let c32_i32_228 : BitVec 32 := 32#32
  let v634 : Index := Scalar.indexCast c32_i32_228
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v635 : Index := Scalar.indexCast v7
  ![32, v635.toNat]

def k3_chk73 (v3 : IVec S16 32) (v638 : IVec S16 32) : Prop :=
  (∀ a x, ((![v3, v638] : Fin 2 → IVec S16 32) a x).toNat < S16x1024.size a)
theorem k3_idx73_inb : ∀ (v3 : IVec S16 32) (v638 : IVec S16 32) (k3_hw73 : k3_chk73 v3 v638), ∀ a x, ((![v3, v638] : Fin 2 → IVec S16 32) a x).toNat < S16x1024.size a := fun v3 v638 k3_hw73 => k3_hw73
def k3_off92 (k3_t2 : Fin k3_t2_loop.trips) : Fin 2 → Nat :=
  let c33_i32_231 : BitVec 32 := 33#32
  let v641 : Index := Scalar.indexCast c33_i32_231
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v642 : Index := Scalar.indexCast v7
  ![33, v642.toNat]

def k3_chk74 (v3 : IVec S16 32) (v645 : IVec S16 32) : Prop :=
  (∀ a x, ((![v3, v645] : Fin 2 → IVec S16 32) a x).toNat < S16x1024.size a)
theorem k3_idx74_inb : ∀ (v3 : IVec S16 32) (v645 : IVec S16 32) (k3_hw74 : k3_chk74 v3 v645), ∀ a x, ((![v3, v645] : Fin 2 → IVec S16 32) a x).toNat < S16x1024.size a := fun v3 v645 k3_hw74 => k3_hw74
def k3_off93 (k3_t2 : Fin k3_t2_loop.trips) : Fin 2 → Nat :=
  let c34_i32_234 : BitVec 32 := 34#32
  let v648 : Index := Scalar.indexCast c34_i32_234
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v649 : Index := Scalar.indexCast v7
  ![34, v649.toNat]

def k3_chk75 (v3 : IVec S16 32) (v652 : IVec S16 32) : Prop :=
  (∀ a x, ((![v3, v652] : Fin 2 → IVec S16 32) a x).toNat < S16x1024.size a)
theorem k3_idx75_inb : ∀ (v3 : IVec S16 32) (v652 : IVec S16 32) (k3_hw75 : k3_chk75 v3 v652), ∀ a x, ((![v3, v652] : Fin 2 → IVec S16 32) a x).toNat < S16x1024.size a := fun v3 v652 k3_hw75 => k3_hw75
def k3_off94 (k3_t2 : Fin k3_t2_loop.trips) : Fin 2 → Nat :=
  let c35_i32_237 : BitVec 32 := 35#32
  let v655 : Index := Scalar.indexCast c35_i32_237
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v656 : Index := Scalar.indexCast v7
  ![35, v656.toNat]

def k3_chk76 (v3 : IVec S16 32) (v659 : IVec S16 32) : Prop :=
  (∀ a x, ((![v3, v659] : Fin 2 → IVec S16 32) a x).toNat < S16x1024.size a)
theorem k3_idx76_inb : ∀ (v3 : IVec S16 32) (v659 : IVec S16 32) (k3_hw76 : k3_chk76 v3 v659), ∀ a x, ((![v3, v659] : Fin 2 → IVec S16 32) a x).toNat < S16x1024.size a := fun v3 v659 k3_hw76 => k3_hw76
def k3_off95 (k3_t2 : Fin k3_t2_loop.trips) : Fin 2 → Nat :=
  let c36_i32_240 : BitVec 32 := 36#32
  let v662 : Index := Scalar.indexCast c36_i32_240
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v663 : Index := Scalar.indexCast v7
  ![36, v663.toNat]

def k3_chk77 (v3 : IVec S16 32) (v666 : IVec S16 32) : Prop :=
  (∀ a x, ((![v3, v666] : Fin 2 → IVec S16 32) a x).toNat < S16x1024.size a)
theorem k3_idx77_inb : ∀ (v3 : IVec S16 32) (v666 : IVec S16 32) (k3_hw77 : k3_chk77 v3 v666), ∀ a x, ((![v3, v666] : Fin 2 → IVec S16 32) a x).toNat < S16x1024.size a := fun v3 v666 k3_hw77 => k3_hw77
def k3_off96 (k3_t2 : Fin k3_t2_loop.trips) : Fin 2 → Nat :=
  let c37_i32_243 : BitVec 32 := 37#32
  let v669 : Index := Scalar.indexCast c37_i32_243
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v670 : Index := Scalar.indexCast v7
  ![37, v670.toNat]

def k3_chk78 (v3 : IVec S16 32) (v673 : IVec S16 32) : Prop :=
  (∀ a x, ((![v3, v673] : Fin 2 → IVec S16 32) a x).toNat < S16x1024.size a)
theorem k3_idx78_inb : ∀ (v3 : IVec S16 32) (v673 : IVec S16 32) (k3_hw78 : k3_chk78 v3 v673), ∀ a x, ((![v3, v673] : Fin 2 → IVec S16 32) a x).toNat < S16x1024.size a := fun v3 v673 k3_hw78 => k3_hw78
def k3_off97 (k3_t2 : Fin k3_t2_loop.trips) : Fin 2 → Nat :=
  let c38_i32_246 : BitVec 32 := 38#32
  let v676 : Index := Scalar.indexCast c38_i32_246
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v677 : Index := Scalar.indexCast v7
  ![38, v677.toNat]

def k3_chk79 (v3 : IVec S16 32) (v680 : IVec S16 32) : Prop :=
  (∀ a x, ((![v3, v680] : Fin 2 → IVec S16 32) a x).toNat < S16x1024.size a)
theorem k3_idx79_inb : ∀ (v3 : IVec S16 32) (v680 : IVec S16 32) (k3_hw79 : k3_chk79 v3 v680), ∀ a x, ((![v3, v680] : Fin 2 → IVec S16 32) a x).toNat < S16x1024.size a := fun v3 v680 k3_hw79 => k3_hw79
def k3_off98 (k3_t2 : Fin k3_t2_loop.trips) : Fin 2 → Nat :=
  let c39_i32_249 : BitVec 32 := 39#32
  let v683 : Index := Scalar.indexCast c39_i32_249
  let c0_i32_3 : BitVec 32 := 0#32
  let c1_i32_4 : BitVec 32 := 1#32
  let arg8 : BitVec 32 := Scf.iv c0_i32_3 c1_i32_4 k3_t2
  let c16_i32_6 : BitVec 32 := 16#32
  let v7 : BitVec 32 := Scalar.muli arg8 c16_i32_6
  let v684 : Index := Scalar.indexCast v7
  ![39, v684.toNat]

def k3_chk80 (v3 : IVec S16 32) (v687 : IVec S16 32) : Prop :=
  (∀ a x, ((![v3, v687] : Fin 2 → IVec S16 32) a x).toNat < S16x1024.size a)
theorem k3_idx80_inb : ∀ (v3 : IVec S16 32) (v687 : IVec S16 32) (k3_hw80 : k3_chk80 v3 v687), ∀ a x, ((![v3, v687] : Fin 2 → IVec S16 32) a x).toNat < S16x1024.size a := fun v3 v687 k3_hw80 => k3_hw80
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S8x1024x8 : Shape := ⟨3, ![8, 1024, 8]⟩
abbrev S4096x1024 : Shape := ⟨2, ![4096, 1024]⟩
abbrev S32x48x128 : Shape := ⟨3, ![32, 48, 128]⟩
abbrev S8x32x32x8 : Shape := ⟨4, ![8, 32, 32, 8]⟩
abbrev S8x1x32x8 : Shape := ⟨4, ![8, 1, 32, 8]⟩
abbrev S8x34x32x8 : Shape := ⟨4, ![8, 34, 32, 8]⟩
abbrev S8x34x1x8 : Shape := ⟨4, ![8, 34, 1, 8]⟩
abbrev S8x34x34x8 : Shape := ⟨4, ![8, 34, 34, 8]⟩
abbrev S_ : Shape := ⟨0, ![]⟩
abbrev S8x32x32x40 : Shape := ⟨4, ![8, 32, 32, 40]⟩
abbrev S8192x40 : Shape := ⟨2, ![8192, 40]⟩
abbrev S8192x1024 : Shape := ⟨2, ![8192, 1024]⟩
abbrev S8192x40x1 : Shape := ⟨3, ![8192, 40, 1]⟩
abbrev S1 : Shape := ⟨1, ![1]⟩
abbrev S1x1x1 : Shape := ⟨3, ![1, 1, 1]⟩
abbrev S8192x8 : Shape := ⟨2, ![8192, 8]⟩
abbrev S8192x48 : Shape := ⟨2, ![8192, 48]⟩
abbrev S64x128x48 : Shape := ⟨3, ![64, 128, 48]⟩
abbrev S64x48x128 : Shape := ⟨3, ![64, 48, 128]⟩
abbrev S32x128x48 : Shape := ⟨3, ![32, 128, 48]⟩
abbrev S4096x48 : Shape := ⟨2, ![4096, 48]⟩
abbrev S4096x40 : Shape := ⟨2, ![4096, 40]⟩
abbrev S4096 : Shape := ⟨1, ![4096]⟩
abbrev S4096x1 : Shape := ⟨2, ![4096, 1]⟩
abbrev S4096x40x1 : Shape := ⟨3, ![4096, 40, 1]⟩
abbrev S4096x40x2 : Shape := ⟨3, ![4096, 40, 2]⟩

abbrev nBuf : Space → Nat
  | .hbm => 213
  | .vmem => 0
  | .smem => 0
  | _ => 0

abbrev hbmTy0_0 (i : Nat) : BufTy := match i % 128 with
  | 0 => ⟨S8x1024x8, .i32⟩
  | 1 => ⟨S4096x1024, .f32⟩
  | 2 => ⟨S4096x1024, .f32⟩
  | 3 => ⟨S32x48x128, .f32⟩
  | 4 => ⟨S32x48x128, .i32⟩
  | 5 => ⟨S32x48x128, .f32⟩
  | 6 => ⟨S32x48x128, .i32⟩
  | 7 => ⟨S8x32x32x8, .i32⟩
  | 8 => ⟨S8x1x32x8, .i32⟩
  | 9 => ⟨S8x1x32x8, .i32⟩
  | 10 => ⟨S8x34x32x8, .i32⟩
  | 11 => ⟨S8x34x1x8, .i32⟩
  | 12 => ⟨S8x34x1x8, .i32⟩
  | 13 => ⟨S8x34x34x8, .i32⟩
  | 14 => ⟨S_, .i32⟩
  | 15 => ⟨S_, .i32⟩
  | 16 => ⟨S8x34x34x8, .i32⟩
  | 17 => ⟨S8x34x34x8, .i32⟩
  | 18 => ⟨S8x34x34x8, .i32⟩
  | 19 => ⟨S_, .i32⟩
  | 20 => ⟨S8x34x34x8, .i32⟩
  | 21 => ⟨S8x34x34x8, .i1⟩
  | 22 => ⟨S8x34x34x8, .i32⟩
  | 23 => ⟨S8x34x34x8, .i32⟩
  | 24 => ⟨S_, .i32⟩
  | 25 => ⟨S8x34x34x8, .i32⟩
  | 26 => ⟨S8x34x34x8, .i1⟩
  | 27 => ⟨S8x34x34x8, .i1⟩
  | 28 => ⟨S_, .i32⟩
  | 29 => ⟨S8x34x34x8, .i32⟩
  | 30 => ⟨S8x34x34x8, .i32⟩
  | 31 => ⟨S8x34x34x8, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8x34x34x8, .i32⟩
  | 39 => ⟨S8x34x34x8, .i32⟩
  | 40 => ⟨S_, .i32⟩
  | 41 => ⟨S8x34x34x8, .i32⟩
  | 42 => ⟨S8x34x34x8, .i1⟩
  | 43 => ⟨S_, .i32⟩
  | 44 => ⟨S8x34x34x8, .i32⟩
  | 45 => ⟨S8x34x34x8, .i1⟩
  | 46 => ⟨S_, .i32⟩
  | 47 => ⟨S_, .i1⟩
  | 48 => ⟨S8x34x34x8, .i1⟩
  | 49 => ⟨S8x34x34x8, .i1⟩
  | 50 => ⟨S8x34x34x8, .i1⟩
  | 51 => ⟨S8x34x34x8, .i32⟩
  | 52 => ⟨S8x34x34x8, .i32⟩
  | 53 => ⟨S8x34x34x8, .i32⟩
  | 54 => ⟨S8x32x32x8, .i32⟩
  | 55 => ⟨S_, .i32⟩
  | 56 => ⟨S8x32x32x8, .i32⟩
  | 57 => ⟨S8x32x32x8, .i32⟩
  | 58 => ⟨S_, .i32⟩
  | 59 => ⟨S8x32x32x8, .i32⟩
  | 60 => ⟨S8x32x32x8, .i32⟩
  | 61 => ⟨S_, .i32⟩
  | 62 => ⟨S8x32x32x8, .i32⟩
  | 63 => ⟨S8x32x32x8, .i32⟩
  | 64 => ⟨S8x32x32x8, .i32⟩
  | 65 => ⟨S8x32x32x8, .i32⟩
  | 66 => ⟨S8x32x32x8, .i32⟩
  | 67 => ⟨S_, .i32⟩
  | 68 => ⟨S8x32x32x8, .i32⟩
  | 69 => ⟨S8x32x32x8, .i32⟩
  | 70 => ⟨S_, .i32⟩
  | 71 => ⟨S8x32x32x8, .i32⟩
  | 72 => ⟨S8x32x32x8, .i32⟩
  | 73 => ⟨S_, .i32⟩
  | 74 => ⟨S8x32x32x8, .i32⟩
  | 75 => ⟨S8x32x32x8, .i32⟩
  | 76 => ⟨S8x32x32x8, .i32⟩
  | 77 => ⟨S8x32x32x8, .i32⟩
  | 78 => ⟨S8x32x32x8, .i32⟩
  | 79 => ⟨S_, .i32⟩
  | 80 => ⟨S8x32x32x8, .i32⟩
  | 81 => ⟨S8x32x32x8, .i32⟩
  | 82 => ⟨S8x32x32x8, .i32⟩
  | 83 => ⟨S_, .i32⟩
  | 84 => ⟨S8x32x32x8, .i32⟩
  | 85 => ⟨S8x32x32x8, .i32⟩
  | 86 => ⟨S_, .i32⟩
  | 87 => ⟨S8x32x32x8, .i32⟩
  | 88 => ⟨S8x32x32x8, .i32⟩
  | 89 => ⟨S8x32x32x8, .i32⟩
  | 90 => ⟨S8x32x32x8, .i32⟩
  | 91 => ⟨S_, .i32⟩
  | 92 => ⟨S8x32x32x8, .i32⟩
  | 93 => ⟨S8x32x32x8, .i32⟩
  | 94 => ⟨S8x32x32x8, .i32⟩
  | 95 => ⟨S_, .i32⟩
  | 96 => ⟨S8x32x32x8, .i32⟩
  | 97 => ⟨S8x32x32x8, .i32⟩
  | 98 => ⟨S_, .i32⟩
  | 99 => ⟨S8x32x32x8, .i32⟩
  | 100 => ⟨S8x32x32x8, .i32⟩
  | 101 => ⟨S8x32x32x8, .i32⟩
  | 102 => ⟨S8x32x32x40, .i32⟩
  | 103 => ⟨S8192x40, .i32⟩
  | 104 => ⟨S8192x1024, .f32⟩
  | 105 => ⟨S_, .i32⟩
  | 106 => ⟨S8192x40, .i32⟩
  | 107 => ⟨S8192x40, .i1⟩
  | 108 => ⟨S_, .i32⟩
  | 109 => ⟨S8192x40, .i32⟩
  | 110 => ⟨S8192x40, .i32⟩
  | 111 => ⟨S8192x40, .i32⟩
  | 112 => ⟨S8192x40x1, .i32⟩
  | 113 => ⟨S1, .i32⟩
  | 114 => ⟨S_, .i32⟩
  | 115 => ⟨S8192x40x1, .i32⟩
  | 116 => ⟨S8192x40x1, .i1⟩
  | 117 => ⟨S1x1x1, .i32⟩
  | 118 => ⟨S8192x40x1, .i32⟩
  | 119 => ⟨S8192x40x1, .i1⟩
  | 120 => ⟨S8192x40x1, .i1⟩
  | 121 => ⟨S_, .i1⟩
  | 122 => ⟨S8192x40, .i1⟩
  | 123 => ⟨S8192x40, .f32⟩
  | 124 => ⟨S_, .f32⟩
  | 125 => ⟨S8192x40, .f32⟩
  | 126 => ⟨S8192x40, .f32⟩
  | 127 => ⟨S_, .i32⟩
  | _ => ⟨S8x1024x8, .i32⟩

abbrev hbmTy0_1 (i : Nat) : BufTy := match i % 128 with
  | 0 => ⟨S8192x8, .i32⟩
  | 1 => ⟨S8192x48, .i32⟩
  | 2 => ⟨S64x128x48, .i32⟩
  | 3 => ⟨S64x48x128, .i32⟩
  | 4 => ⟨S_, .f32⟩
  | 5 => ⟨S8192x8, .f32⟩
  | 6 => ⟨S8192x48, .f32⟩
  | 7 => ⟨S64x128x48, .f32⟩
  | 8 => ⟨S64x48x128, .f32⟩
  | 9 => ⟨S32x48x128, .i32⟩
  | 10 => ⟨S32x48x128, .f32⟩
  | 11 => ⟨S32x48x128, .i32⟩
  | 12 => ⟨S32x48x128, .f32⟩
  | 13 => ⟨S32x128x48, .f32⟩
  | 14 => ⟨S4096x48, .f32⟩
  | 15 => ⟨S4096x40, .f32⟩
  | 16 => ⟨S32x128x48, .i32⟩
  | 17 => ⟨S4096x48, .i32⟩
  | 18 => ⟨S4096x40, .i32⟩
  | 19 => ⟨S4096, .i32⟩
  | 20 => ⟨S4096x1, .i32⟩
  | 21 => ⟨S_, .f32⟩
  | 22 => ⟨S4096x1024, .f32⟩
  | 23 => ⟨S_, .i32⟩
  | 24 => ⟨S4096x40, .i32⟩
  | 25 => ⟨S4096x40, .i1⟩
  | 26 => ⟨S_, .i32⟩
  | 27 => ⟨S_, .i32⟩
  | 28 => ⟨S4096x40, .i32⟩
  | 29 => ⟨S4096x40, .i32⟩
  | 30 => ⟨S_, .i32⟩
  | 31 => ⟨S4096x1, .i32⟩
  | 32 => ⟨S4096x1, .i1⟩
  | 33 => ⟨S_, .i32⟩
  | 34 => ⟨S4096x1, .i32⟩
  | 35 => ⟨S4096x1, .i32⟩
  | 36 => ⟨S4096x1, .i32⟩
  | 37 => ⟨S_, .i32⟩
  | 38 => ⟨S4096x40, .i32⟩
  | 39 => ⟨S4096x40, .i1⟩
  | 40 => ⟨S_, .i32⟩
  | 41 => ⟨S4096x40, .i32⟩
  | 42 => ⟨S4096x40, .i32⟩
  | 43 => ⟨S4096x40, .i32⟩
  | 44 => ⟨S4096x40, .i32⟩
  | 45 => ⟨S4096x40x1, .i32⟩
  | 46 => ⟨S4096x40x1, .i32⟩
  | 47 => ⟨S4096x40x2, .i32⟩
  | 48 => ⟨S4096x1024, .f32⟩
  | 49 => ⟨S32x128x48, .f32⟩
  | 50 => ⟨S4096x48, .f32⟩
  | 51 => ⟨S4096x40, .f32⟩
  | 52 => ⟨S32x128x48, .i32⟩
  | 53 => ⟨S4096x48, .i32⟩
  | 54 => ⟨S4096x40, .i32⟩
  | 55 => ⟨S4096, .i32⟩
  | 56 => ⟨S4096x1, .i32⟩
  | 57 => ⟨S_, .f32⟩
  | 58 => ⟨S4096x1024, .f32⟩
  | 59 => ⟨S_, .i32⟩
  | 60 => ⟨S4096x40, .i32⟩
  | 61 => ⟨S4096x40, .i1⟩
  | 62 => ⟨S_, .i32⟩
  | 63 => ⟨S_, .i32⟩
  | 64 => ⟨S4096x40, .i32⟩
  | 65 => ⟨S4096x40, .i32⟩
  | 66 => ⟨S_, .i32⟩
  | 67 => ⟨S4096x1, .i32⟩
  | 68 => ⟨S4096x1, .i1⟩
  | 69 => ⟨S_, .i32⟩
  | 70 => ⟨S4096x1, .i32⟩
  | 71 => ⟨S4096x1, .i32⟩
  | 72 => ⟨S4096x1, .i32⟩
  | 73 => ⟨S_, .i32⟩
  | 74 => ⟨S4096x40, .i32⟩
  | 75 => ⟨S4096x40, .i1⟩
  | 76 => ⟨S_, .i32⟩
  | 77 => ⟨S4096x40, .i32⟩
  | 78 => ⟨S4096x40, .i32⟩
  | 79 => ⟨S4096x40, .i32⟩
  | 80 => ⟨S4096x40, .i32⟩
  | 81 => ⟨S4096x40x1, .i32⟩
  | 82 => ⟨S4096x40x1, .i32⟩
  | 83 => ⟨S4096x40x2, .i32⟩
  | 84 => ⟨S4096x1024, .f32⟩
  | _ => ⟨S8x1024x8, .i32⟩

abbrev hbmTy (i : Nat) : BufTy := match i / 128 with
  | 0 => hbmTy0_0 i
  | 1 => hbmTy0_1 i
  | _ => ⟨S8x1024x8, .i32⟩

abbrev bufTy : (tb : Table) → Fin (tcTables nBuf tb) → BufTy
  | .hbm, ⟨i, _⟩ => hbmTy i
  | _, _ => ⟨S8x1024x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v8 : Ref sig .tc := ⟨.hbm, 53, rfl⟩
abbrev main_v9 : Ref sig .tc := ⟨.hbm, 54, rfl⟩
abbrev main_c_1 : Ref sig .tc := ⟨.hbm, 55, rfl⟩
abbrev main_v10 : Ref sig .tc := ⟨.hbm, 56, rfl⟩
abbrev main_v11 : Ref sig .tc := ⟨.hbm, 57, rfl⟩
abbrev main_c_2 : Ref sig .tc := ⟨.hbm, 58, rfl⟩
abbrev main_v12 : Ref sig .tc := ⟨.hbm, 59, rfl⟩
abbrev main_v13 : Ref sig .tc := ⟨.hbm, 60, rfl⟩
abbrev main_c_3 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_4 : Ref sig .tc := ⟨.hbm, 67, rfl⟩
abbrev main_v19 : Ref sig .tc := ⟨.hbm, 68, rfl⟩
abbrev main_v20 : Ref sig .tc := ⟨.hbm, 69, rfl⟩
abbrev main_c_5 : Ref sig .tc := ⟨.hbm, 70, rfl⟩
abbrev main_v21 : Ref sig .tc := ⟨.hbm, 71, rfl⟩
abbrev main_v22 : Ref sig .tc := ⟨.hbm, 72, rfl⟩
abbrev main_c_6 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_7 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_8 : Ref sig .tc := ⟨.hbm, 83, rfl⟩
abbrev main_v31 : Ref sig .tc := ⟨.hbm, 84, rfl⟩
abbrev main_v32 : Ref sig .tc := ⟨.hbm, 85, rfl⟩
abbrev main_c_9 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_10 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_c_11 : Ref sig .tc := ⟨.hbm, 95, rfl⟩
abbrev main_v40 : Ref sig .tc := ⟨.hbm, 96, rfl⟩
abbrev main_v41 : Ref sig .tc := ⟨.hbm, 97, rfl⟩
abbrev main_c_12 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_cst : Ref sig .tc := ⟨.hbm, 124, rfl⟩
abbrev main_call2_v14 : Ref sig .tc := ⟨.hbm, 125, rfl⟩
abbrev main_v48 : Ref sig .tc := ⟨.hbm, 126, rfl⟩
abbrev main_c_13 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_cst : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_cst_14 : Ref sig .tc := ⟨.hbm, 149, rfl⟩
abbrev main_v69 : Ref sig .tc := ⟨.hbm, 150, rfl⟩
abbrev main_c_15 : Ref sig .tc := ⟨.hbm, 151, rfl⟩
abbrev main_v70 : Ref sig .tc := ⟨.hbm, 152, rfl⟩
abbrev main_v71 : Ref sig .tc := ⟨.hbm, 153, rfl⟩
abbrev main_c_16 : Ref sig .tc := ⟨.hbm, 154, rfl⟩
abbrev main_call3_v0 : Ref sig .tc := ⟨.hbm, 155, rfl⟩
abbrev main_call3_v1 : Ref sig .tc := ⟨.hbm, 156, rfl⟩
abbrev main_v72 : Ref sig .tc := ⟨.hbm, 157, rfl⟩
abbrev main_c_17 : Ref sig .tc := ⟨.hbm, 158, rfl⟩
abbrev main_v73 : Ref sig .tc := ⟨.hbm, 159, rfl⟩
abbrev main_v74 : Ref sig .tc := ⟨.hbm, 160, rfl⟩
abbrev main_c_18 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_c_19 : Ref sig .tc := ⟨.hbm, 165, rfl⟩
abbrev main_v78 : Ref sig .tc := ⟨.hbm, 166, rfl⟩
abbrev main_v79 : Ref sig .tc := ⟨.hbm, 167, rfl⟩
abbrev main_c_20 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_cst_21 : Ref sig .tc := ⟨.hbm, 185, rfl⟩
abbrev main_v96 : Ref sig .tc := ⟨.hbm, 186, rfl⟩
abbrev main_c_22 : Ref sig .tc := ⟨.hbm, 187, rfl⟩
abbrev main_v97 : Ref sig .tc := ⟨.hbm, 188, rfl⟩
abbrev main_v98 : Ref sig .tc := ⟨.hbm, 189, rfl⟩
abbrev main_c_23 : Ref sig .tc := ⟨.hbm, 190, rfl⟩
abbrev main_call4_v0 : Ref sig .tc := ⟨.hbm, 191, rfl⟩
abbrev main_call4_v1 : Ref sig .tc := ⟨.hbm, 192, rfl⟩
abbrev main_v99 : Ref sig .tc := ⟨.hbm, 193, rfl⟩
abbrev main_c_24 : Ref sig .tc := ⟨.hbm, 194, rfl⟩
abbrev main_v100 : Ref sig .tc := ⟨.hbm, 195, rfl⟩
abbrev main_v101 : Ref sig .tc := ⟨.hbm, 196, rfl⟩
abbrev main_c_25 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_c_26 : Ref sig .tc := ⟨.hbm, 201, rfl⟩
abbrev main_v105 : Ref sig .tc := ⟨.hbm, 202, rfl⟩
abbrev main_v106 : Ref sig .tc := ⟨.hbm, 203, rfl⟩
abbrev main_c_27 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩

abbrev nD : Nat := 1
abbrev τ : Topo := Topo.v7x

variable {F : FTy → Type} [FloatOps F]
-- ==== Product.lean ====
abbrev S8x192x32x32 : Shape := ⟨4, ![8, 192, 32, 32]⟩
abbrev S4096x1024 : Shape := ⟨2, ![4096, 1024]⟩
abbrev S8x192x1024 : Shape := ⟨3, ![8, 192, 1024]⟩
abbrev S4x1024x1024 : Shape := ⟨3, ![4, 1024, 1024]⟩
abbrev S1x192x1024 : Shape := ⟨3, ![1, 192, 1024]⟩
abbrev S1x256x1024 : Shape := ⟨3, ![1, 256, 1024]⟩
abbrev S1x192x256 : Shape := ⟨3, ![1, 192, 256]⟩
abbrev S192x1024 : Shape := ⟨2, ![192, 1024]⟩
abbrev S256x1024 : Shape := ⟨2, ![256, 1024]⟩
abbrev S192x256 : Shape := ⟨2, ![192, 256]⟩

abbrev nBuf : Space → Nat
  | .hbm => 8
  | .vmem => 12
  | .smem => 0
  | _ => 0

abbrev bufTy : (tb : Table) → Fin (tcTables nBuf tb) → BufTy
  | .hbm, ⟨0, _⟩ => ⟨S8x192x32x32, .f32⟩
  | .hbm, ⟨1, _⟩ => ⟨S4096x1024, .f32⟩
  | .hbm, ⟨2, _⟩ => ⟨S4096x1024, .f32⟩
  | .hbm, ⟨3, _⟩ => ⟨S8x192x1024, .f32⟩
  | .hbm, ⟨4, _⟩ => ⟨S4x1024x1024, .f32⟩
  | .hbm, ⟨5, _⟩ => ⟨S8x192x1024, .f32⟩
  | .hbm, ⟨6, _⟩ => ⟨S4x1024x1024, .f32⟩
  | .hbm, ⟨7, _⟩ => ⟨S8x192x1024, .f32⟩
  | .local _ .vmem, ⟨0, _⟩ => ⟨S1x192x1024, .f32⟩
  | .local _ .vmem, ⟨1, _⟩ => ⟨S1x192x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x192x256, .f32⟩
  | .local _ .vmem, ⟨5, _⟩ => ⟨S1x192x256, .f32⟩
  | .local _ .vmem, ⟨6, _⟩ => ⟨S1x192x1024, .f32⟩
  | .local _ .vmem, ⟨7, _⟩ => ⟨S1x192x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x192x256, .f32⟩
  | .local _ .vmem, ⟨11, _⟩ => ⟨S1x192x256, .f32⟩
  | _, _ => ⟨S8x192x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

abbrev stage1_0 : Fin 2 → Memref sig .tc .vmem S1x192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ProductReferenceIdeal.lean ====
abbrev S8x192x32x32 : Shape := ⟨4, ![8, 192, 32, 32]⟩
abbrev S4096x1024 : Shape := ⟨2, ![4096, 1024]⟩
abbrev S8192x1024 : Shape := ⟨2, ![8192, 1024]⟩
abbrev S8x1024x1024 : Shape := ⟨3, ![8, 1024, 1024]⟩
abbrev S8x192x1024 : Shape := ⟨3, ![8, 192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x192x32x32, .f32⟩
  | .hbm, ⟨1, _⟩ => ⟨S4096x1024, .f32⟩
  | .hbm, ⟨2, _⟩ => ⟨S4096x1024, .f32⟩
  | .hbm, ⟨3, _⟩ => ⟨S8192x1024, .f32⟩
  | .hbm, ⟨4, _⟩ => ⟨S8x1024x1024, .f32⟩
  | .hbm, ⟨5, _⟩ => ⟨S8x192x1024, .f32⟩
  | .hbm, ⟨6, _⟩ => ⟨S8x192x1024, .f32⟩
  | _, _ => ⟨S8x192x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Logits.lean ====
abbrev S8x192x32x32 : Shape := ⟨4, ![8, 192, 32, 32]⟩
abbrev S8x64x32x32 : Shape := ⟨4, ![8, 64, 32, 32]⟩
abbrev S8x192x1024 : Shape := ⟨3, ![8, 192, 1024]⟩
abbrev S8x64x1024 : Shape := ⟨3, ![8, 64, 1024]⟩
abbrev S4x1024x1024 : Shape := ⟨3, ![4, 1024, 1024]⟩
abbrev S1x192x256 : Shape := ⟨3, ![1, 192, 256]⟩
abbrev S1x192x1024 : Shape := ⟨3, ![1, 192, 1024]⟩
abbrev S1x64x256 : Shape := ⟨3, ![1, 64, 256]⟩
abbrev S1x64x1024 : Shape := ⟨3, ![1, 64, 1024]⟩
abbrev S1x256x1024 : Shape := ⟨3, ![1, 256, 1024]⟩
abbrev S192x256 : Shape := ⟨2, ![192, 256]⟩
abbrev S192x1024 : Shape := ⟨2, ![192, 1024]⟩
abbrev S256x1024 : Shape := ⟨2, ![256, 1024]⟩
abbrev S64x256 : Shape := ⟨2, ![64, 256]⟩
abbrev S64x1024 : Shape := ⟨2, ![64, 1024]⟩

abbrev nBuf : Space → Nat
  | .hbm => 12
  | .vmem => 24
  | .smem => 0
  | _ => 0

abbrev bufTy : (tb : Table) → Fin (tcTables nBuf tb) → BufTy
  | .hbm, ⟨0, _⟩ => ⟨S8x192x32x32, .f32⟩
  | .hbm, ⟨1, _⟩ => ⟨S8x192x32x32, .f32⟩
  | .hbm, ⟨2, _⟩ => ⟨S8x64x32x32, .f32⟩
  | .hbm, ⟨3, _⟩ => ⟨S8x64x32x32, .f32⟩
  | .hbm, ⟨4, _⟩ => ⟨S8x192x1024, .f32⟩
  | .hbm, ⟨5, _⟩ => ⟨S8x192x1024, .f32⟩
  | .hbm, ⟨6, _⟩ => ⟨S8x64x1024, .f32⟩
  | .hbm, ⟨7, _⟩ => ⟨S8x64x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .local _ .vmem, ⟨0, _⟩ => ⟨S1x192x256, .f32⟩
  | .local _ .vmem, ⟨1, _⟩ => ⟨S1x192x256, .f32⟩
  | .local _ .vmem, ⟨2, _⟩ => ⟨S1x192x1024, .f32⟩
  | .local _ .vmem, ⟨3, _⟩ => ⟨S1x192x1024, .f32⟩
  | .local _ .vmem, ⟨4, _⟩ => ⟨S1x64x256, .f32⟩
  | .local _ .vmem, ⟨5, _⟩ => ⟨S1x64x256, .f32⟩
  | .local _ .vmem, ⟨6, _⟩ => ⟨S1x64x1024, .f32⟩
  | .local _ .vmem, ⟨7, _⟩ => ⟨S1x64x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x192x256, .f32⟩
  | .local _ .vmem, ⟨13, _⟩ => ⟨S1x192x256, .f32⟩
  | .local _ .vmem, ⟨14, _⟩ => ⟨S1x192x1024, .f32⟩
  | .local _ .vmem, ⟨15, _⟩ => ⟨S1x192x1024, .f32⟩
  | .local _ .vmem, ⟨16, _⟩ => ⟨S1x64x256, .f32⟩
  | .local _ .vmem, ⟨17, _⟩ => ⟨S1x64x256, .f32⟩
  | .local _ .vmem, ⟨18, _⟩ => ⟨S1x64x1024, .f32⟩
  | .local _ .vmem, ⟨19, _⟩ => ⟨S1x64x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | _, _ => ⟨S8x192x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x192x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== LogitsReferenceIdeal.lean ====
abbrev S8x192x32x32 : Shape := ⟨4, ![8, 192, 32, 32]⟩
abbrev S8x64x32x32 : Shape := ⟨4, ![8, 64, 32, 32]⟩
abbrev S8x192x1024 : Shape := ⟨3, ![8, 192, 1024]⟩
abbrev S8x1024x1024 : Shape := ⟨3, ![8, 1024, 1024]⟩
abbrev S8x64x1024 : Shape := ⟨3, ![8, 64, 1024]⟩
abbrev S_ : Shape := ⟨0, ![]⟩
abbrev S4x1024x1024 : Shape := ⟨3, ![4, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x192x32x32, .f32⟩
  | .hbm, ⟨1, _⟩ => ⟨S8x192x32x32, .f32⟩
  | .hbm, ⟨2, _⟩ => ⟨S8x64x32x32, .f32⟩
  | .hbm, ⟨3, _⟩ => ⟨S8x64x32x32, .f32⟩
  | .hbm, ⟨4, _⟩ => ⟨S8x192x1024, .f32⟩
  | .hbm, ⟨5, _⟩ => ⟨S8x192x1024, .f32⟩
  | .hbm, ⟨6, _⟩ => ⟨S8x1024x1024, .f32⟩
  | .hbm, ⟨7, _⟩ => ⟨S8x64x1024, .f32⟩
  | .hbm, ⟨8, _⟩ => ⟨S8x64x1024, .f32⟩
  | .hbm, ⟨9, _⟩ => ⟨S8x1024x1024, .f32⟩
  | .hbm, ⟨10, _⟩ => ⟨S_, .f32⟩
  | .hbm, ⟨11, _⟩ => ⟨S8x1024x1024, .f32⟩
  | .hbm, ⟨12, _⟩ => ⟨S8x1024x1024, .i1⟩
  | .hbm, ⟨13, _⟩ => ⟨S8x1024x1024, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S4x1024x1024, .f32⟩
  | _, _ => ⟨S8x192x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Weights.lean ====
abbrev S32x48x128 : Shape := ⟨3, ![32, 48, 128]⟩
abbrev S8192x8 : Shape := ⟨2, ![8192, 8]⟩
abbrev S2x48x128 : Shape := ⟨3, ![2, 48, 128]⟩
abbrev S256x8 : Shape := ⟨2, ![256, 8]⟩
abbrev S2x128 : Shape := ⟨2, ![2, 128]⟩
abbrev S2x1x128 : Shape := ⟨3, ![2, 1, 128]⟩
abbrev S2x8x128 : Shape := ⟨3, ![2, 8, 128]⟩
abbrev S2x128x8 : Shape := ⟨3, ![2, 128, 8]⟩

abbrev nBuf : Space → Nat
  | .hbm => 12
  | .vmem => 24
  | .smem => 0
  | _ => 0

abbrev bufTy : (tb : Table) → Fin (tcTables nBuf tb) → BufTy
  | .hbm, ⟨0, _⟩ => ⟨S32x48x128, .f32⟩
  | .hbm, ⟨1, _⟩ => ⟨S32x48x128, .f32⟩
  | .hbm, ⟨2, _⟩ => ⟨S32x48x128, .i32⟩
  | .hbm, ⟨3, _⟩ => ⟨S32x48x128, .f32⟩
  | .hbm, ⟨4, _⟩ => ⟨S32x48x128, .f32⟩
  | .hbm, ⟨5, _⟩ => ⟨S32x48x128, .i32⟩
  | .hbm, ⟨6, _⟩ => ⟨S32x48x128, .f32⟩
  | .hbm, ⟨7, _⟩ => ⟨S32x48x128, .i32⟩
  | .hbm, ⟨8, _⟩ => ⟨S8192x8, .i32⟩
  | .hbm, ⟨9, _⟩ => ⟨S32x48x128, .f32⟩
  | .hbm, ⟨10, _⟩ => ⟨S32x48x128, .i32⟩
  | .hbm, ⟨11, _⟩ => ⟨S8192x8, .i32⟩
  | .local _ .vmem, ⟨0, _⟩ => ⟨S2x48x128, .f32⟩
  | .local _ .vmem, ⟨1, _⟩ => ⟨S2x48x128, .f32⟩
  | .local _ .vmem, ⟨2, _⟩ => ⟨S2x48x128, .f32⟩
  | .local _ .vmem, ⟨3, _⟩ => ⟨S2x48x128, .f32⟩
  | .local _ .vmem, ⟨4, _⟩ => ⟨S2x48x128, .i32⟩
  | .local _ .vmem, ⟨5, _⟩ => ⟨S2x48x128, .i32⟩
  | .local _ .vmem, ⟨6, _⟩ => ⟨S2x48x128, .f32⟩
  | .local _ .vmem, ⟨7, _⟩ => ⟨S2x48x128, .f32⟩
  | .local _ .vmem, ⟨8, _⟩ => ⟨S2x48x128, .i32⟩
  | .local _ .vmem, ⟨9, _⟩ => ⟨S2x48x128, .i32⟩
  | .local _ .vmem, ⟨10, _⟩ => ⟨S256x8, .i32⟩
  | .local _ .vmem, ⟨11, _⟩ => ⟨S256x8, .i32⟩
  | .local _ .vmem, ⟨12, _⟩ => ⟨S2x48x128, .f32⟩
  | .local _ .vmem, ⟨13, _⟩ => ⟨S2x48x128, .f32⟩
  | .local _ .vmem, ⟨14, _⟩ => ⟨S2x48x128, .f32⟩
  | .local _ .vmem, ⟨15, _⟩ => ⟨S2x48x128, .f32⟩
  | .local _ .vmem, ⟨16, _⟩ => ⟨S2x48x128, .i32⟩
  | .local _ .vmem, ⟨17, _⟩ => ⟨S2x48x128, .i32⟩
  | .local _ .vmem, ⟨18, _⟩ => ⟨S2x48x128, .f32⟩
  | .local _ .vmem, ⟨19, _⟩ => ⟨S2x48x128, .f32⟩
  | .local _ .vmem, ⟨20, _⟩ => ⟨S2x48x128, .i32⟩
  | .local _ .vmem, ⟨21, _⟩ => ⟨S2x48x128, .i32⟩
  | .local _ .vmem, ⟨22, _⟩ => ⟨S256x8, .i32⟩
  | .local _ .vmem, ⟨23, _⟩ => ⟨S256x8, .i32⟩
  | _, _ => ⟨S32x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x48x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x48x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x48x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage1_0 : Fin 2 → Memref sig .tc .vmem S2x48x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x48x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x48x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x48x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x48x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x8 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== WeightsReferenceIdeal.lean ====
abbrev S32x48x128 : Shape := ⟨3, ![32, 48, 128]⟩
abbrev S64x48x128 : Shape := ⟨3, ![64, 48, 128]⟩
abbrev S64x128x48 : Shape := ⟨3, ![64, 128, 48]⟩
abbrev S8192x48 : Shape := ⟨2, ![8192, 48]⟩
abbrev S8192x40 : Shape := ⟨2, ![8192, 40]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S8192x8x1 : Shape := ⟨3, ![8192, 8, 1]⟩
abbrev S1 : Shape := ⟨1, ![1]⟩
abbrev S1x1x1 : Shape := ⟨3, ![1, 1, 1]⟩
abbrev S8192x40x1 : Shape := ⟨3, ![8192, 40, 1]⟩
abbrev S8192x1x40 : Shape := ⟨3, ![8192, 1, 40]⟩
abbrev S8192x40x40 : Shape := ⟨3, ![8192, 40, 40]⟩
abbrev S40 : Shape := ⟨1, ![40]⟩
abbrev S1x40 : Shape := ⟨2, ![1, 40]⟩
abbrev S40x1 : Shape := ⟨2, ![40, 1]⟩
abbrev S40x40 : Shape := ⟨2, ![40, 40]⟩
abbrev S1x40x40 : Shape := ⟨3, ![1, 40, 40]⟩
abbrev S8192x7 : Shape := ⟨2, ![8192, 7]⟩

abbrev nBuf : Space → Nat
  | .hbm => 112
  | .vmem => 0
  | .smem => 0
  | _ => 0

abbrev bufTy : (tb : Table) → Fin (tcTables nBuf tb) → BufTy
  | .hbm, ⟨0, _⟩ => ⟨S32x48x128, .f32⟩
  | .hbm, ⟨1, _⟩ => ⟨S32x48x128, .f32⟩
  | .hbm, ⟨2, _⟩ => ⟨S32x48x128, .i32⟩
  | .hbm, ⟨3, _⟩ => ⟨S32x48x128, .f32⟩
  | .hbm, ⟨4, _⟩ => ⟨S32x48x128, .f32⟩
  | .hbm, ⟨5, _⟩ => ⟨S32x48x128, .i32⟩
  | .hbm, ⟨6, _⟩ => ⟨S64x48x128, .f32⟩
  | .hbm, ⟨7, _⟩ => ⟨S64x128x48, .f32⟩
  | .hbm, ⟨8, _⟩ => ⟨S8192x48, .f32⟩
  | .hbm, ⟨9, _⟩ => ⟨S8192x40, .f32⟩
  | .hbm, ⟨10, _⟩ => ⟨S64x48x128, .f32⟩
  | .hbm, ⟨11, _⟩ => ⟨S64x128x48, .f32⟩
  | .hbm, ⟨12, _⟩ => ⟨S8192x48, .f32⟩
  | .hbm, ⟨13, _⟩ => ⟨S8192x40, .f32⟩
  | .hbm, ⟨14, _⟩ => ⟨S64x48x128, .i32⟩
  | .hbm, ⟨15, _⟩ => ⟨S64x128x48, .i32⟩
  | .hbm, ⟨16, _⟩ => ⟨S8192x48, .i32⟩
  | .hbm, ⟨17, _⟩ => ⟨S8192x40, .i32⟩
  | .hbm, ⟨18, _⟩ => ⟨S_, .f32⟩
  | .hbm, ⟨19, _⟩ => ⟨S8192x40, .f32⟩
  | .hbm, ⟨20, _⟩ => ⟨S8192x40, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x40, .f32⟩
  | .hbm, ⟨25, _⟩ => ⟨S8192x40, .f32⟩
  | .hbm, ⟨26, _⟩ => ⟨S8192x40, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x40, .f32⟩
  | .hbm, ⟨31, _⟩ => ⟨S8192x40, .f32⟩
  | .hbm, ⟨32, _⟩ => ⟨S_, .f32⟩
  | .hbm, ⟨33, _⟩ => ⟨S8192x40, .f32⟩
  | .hbm, ⟨34, _⟩ => ⟨S8192x40, .i1⟩
  | .hbm, ⟨35, _⟩ => ⟨S8192x40, .f32⟩
  | .hbm, ⟨36, _⟩ => ⟨S8192x40, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8, .f32⟩
  | .hbm, ⟨41, _⟩ => ⟨S8192x8, .i32⟩
  | .hbm, ⟨42, _⟩ => ⟨S_, .i32⟩
  | .hbm, ⟨43, _⟩ => ⟨S8192x8, .i32⟩
  | .hbm, ⟨44, _⟩ => ⟨S8192x8, .i1⟩
  | .hbm, ⟨45, _⟩ => ⟨S_, .i32⟩
  | .hbm, ⟨46, _⟩ => ⟨S8192x8, .i32⟩
  | .hbm, ⟨47, _⟩ => ⟨S8192x8, .i32⟩
  | .hbm, ⟨48, _⟩ => ⟨S8192x8, .i32⟩
  | .hbm, ⟨49, _⟩ => ⟨S8192x8x1, .i32⟩
  | .hbm, ⟨50, _⟩ => ⟨S1, .i32⟩
  | .hbm, ⟨51, _⟩ => ⟨S_, .i32⟩
  | .hbm, ⟨52, _⟩ => ⟨S8192x8x1, .i32⟩
  | .hbm, ⟨53, _⟩ => ⟨S8192x8x1, .i1⟩
  | .hbm, ⟨54, _⟩ => ⟨S1x1x1, .i32⟩
  | .hbm, ⟨55, _⟩ => ⟨S8192x8x1, .i32⟩
  | .hbm, ⟨56, _⟩ => ⟨S8192x8x1, .i1⟩
  | .hbm, ⟨57, _⟩ => ⟨S8192x8x1, .i1⟩
  | .hbm, ⟨58, _⟩ => ⟨S_, .i1⟩
  | .hbm, ⟨59, _⟩ => ⟨S8192x8, .i1⟩
  | .hbm, ⟨60, _⟩ => ⟨S8192x8, .i32⟩
  | .hbm, ⟨61, _⟩ => ⟨S_, .i32⟩
  | .hbm, ⟨62, _⟩ => ⟨S8192x8, .i32⟩
  | .hbm, ⟨63, _⟩ => ⟨S8192x8, .i32⟩
  | .hbm, ⟨64, _⟩ => ⟨S8192x40x1, .i32⟩
  | .hbm, ⟨65, _⟩ => ⟨S8192x1x40, .i32⟩
  | .hbm, ⟨66, _⟩ => ⟨S8192x40x40, .i32⟩
  | .hbm, ⟨67, _⟩ => ⟨S8192x40x40, .i32⟩
  | .hbm, ⟨68, _⟩ => ⟨S8192x40x40, .i1⟩
  | .hbm, ⟨69, _⟩ => ⟨S8192x1x40, .f32⟩
  | .hbm, ⟨70, _⟩ => ⟨S_, .f32⟩
  | .hbm, ⟨71, _⟩ => ⟨S_, .f32⟩
  | .hbm, ⟨72, _⟩ => ⟨S8192x40x40, .f32⟩
  | .hbm, ⟨73, _⟩ => ⟨S8192x40x40, .f32⟩
  | .hbm, ⟨74, _⟩ => ⟨S8192x40x40, .f32⟩
  | .hbm, ⟨75, _⟩ => ⟨S_, .f32⟩
  | .hbm, ⟨76, _⟩ => ⟨S8192x40, .f32⟩
  | .hbm, ⟨77, _⟩ => ⟨S40, .i32⟩
  | .hbm, ⟨78, _⟩ => ⟨S1x40, .i32⟩
  | .hbm, ⟨79, _⟩ => ⟨S40, .i32⟩
  | .hbm, ⟨80, _⟩ => ⟨S40x1, .i32⟩
  | .hbm, ⟨81, _⟩ => ⟨S40x40, .i32⟩
  | .hbm, ⟨82, _⟩ => ⟨S40x40, .i32⟩
  | .hbm, ⟨83, _⟩ => ⟨S40x40, .i1⟩
  | .hbm, ⟨84, _⟩ => ⟨S1x40x40, .i1⟩
  | .hbm, ⟨85, _⟩ => ⟨S8192x40x40, .i1⟩
  | .hbm, ⟨86, _⟩ => ⟨S8192x40x40, .i1⟩
  | .hbm, ⟨87, _⟩ => ⟨S_, .i1⟩
  | .hbm, ⟨88, _⟩ => ⟨S8192x40, .i1⟩
  | .hbm, ⟨89, _⟩ => ⟨S8192x40, .i1⟩
  | .hbm, ⟨90, _⟩ => ⟨S_, .f32⟩
  | .hbm, ⟨91, _⟩ => ⟨S_, .f32⟩
  | .hbm, ⟨92, _⟩ => ⟨S8192x40, .f32⟩
  | .hbm, ⟨93, _⟩ => ⟨S8192x40, .f32⟩
  | .hbm, ⟨94, _⟩ => ⟨S_, .f32⟩
  | .hbm, ⟨95, _⟩ => ⟨S8192x7, .f32⟩
  | .hbm, ⟨96, _⟩ => ⟨S8192x48, .f32⟩
  | .hbm, ⟨97, _⟩ => ⟨S64x128x48, .f32⟩
  | .hbm, ⟨98, _⟩ => ⟨S64x48x128, .f32⟩
  | .hbm, ⟨99, _⟩ => ⟨S_, .i32⟩
  | .hbm, ⟨100, _⟩ => ⟨S_, .i32⟩
  | .hbm, ⟨101, _⟩ => ⟨S8192x40, .i32⟩
  | .hbm, ⟨102, _⟩ => ⟨S8192x40, .i32⟩
  | .hbm, ⟨103, _⟩ => ⟨S_, .i32⟩
  | .hbm, ⟨104, _⟩ => ⟨S8192x8, .i32⟩
  | .hbm, ⟨105, _⟩ => ⟨S8192x48, .i32⟩
  | .hbm, ⟨106, _⟩ => ⟨S64x128x48, .i32⟩
  | .hbm, ⟨107, _⟩ => ⟨S64x48x128, .i32⟩
  | .hbm, ⟨108, _⟩ => ⟨S32x48x128, .f32⟩
  | .hbm, ⟨109, _⟩ => ⟨S32x48x128, .i32⟩
  | .hbm, ⟨110, _⟩ => ⟨S32x48x128, .f32⟩
  | .hbm, ⟨111, _⟩ => ⟨S32x48x128, .i32⟩
  | _, _ => ⟨S32x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_values : Ref sig .tc := ⟨.hbm, 40, rfl⟩
abbrev main_indices : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_c_4 : Ref sig .tc := ⟨.hbm, 61, rfl⟩
abbrev main_call0_v14 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_call2_v0 : Ref sig .tc := ⟨.hbm, 91, rfl⟩
abbrev main_call2_v1 : Ref sig .tc := ⟨.hbm, 92, rfl⟩
abbrev main_v50 : Ref sig .tc := ⟨.hbm, 93, rfl⟩
abbrev main_cst_7 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_8 : Ref sig .tc := ⟨.hbm, 99, rfl⟩
abbrev main_call3_v0 : Ref sig .tc := ⟨.hbm, 100, rfl⟩
abbrev main_call3_v1 : Ref sig .tc := ⟨.hbm, 101, rfl⟩
abbrev main_v55 : Ref sig .tc := ⟨.hbm, 102, rfl⟩
abbrev main_c_9 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩

abbrev nD : Nat := 1
abbrev τ : Topo := Topo.v7x

variable {F : FTy → Type} [FloatOps F]
-- ==== Proof.Body.lean ====
/-
  The SparseCore kernel's body, restated: the printed function is a long unrolled run of parts; here it is written as
  the kernel's own Python has it — a step per neighbour column, forty of them over a chunk of sixteen rows, two chunks
  to a trip of the loop, and a step per padding piece — and the printed function is shown to be that program by
  definitional unfolding, so that everything afterwards is proved of ONE step at a symbolic column.
-/
module

public import proofs.«01_k».proof.Proof.Gen.KernelIdeal
public import proofs.«01_k».proof.Proof.Gen.KernelIdeal.Skeleton
public import Idealize.ShloMosaic.Lib.SparseCore.Ops

@[expose] public section

noncomputable section

namespace Cert.Proof.Body

open Cert.KernelIdeal Cert.KernelIdeal.Gen
open Idealize.ShloMosaic Idealize.SL.Sem

variable {F : FTy → Type} [FloatOps F]

/-! ## The vectors a step computes -/

/-- A vector of sixteen copies of one word. -/
abbrev bc (w : BitVec 32) : IVec S16 32 := broadcast S16 w

/-- The sixteen rows of a chunk, `n₀ + 0 … n₀ + 15`. -/
def rowsVec (v34 : IVec S16 32) (n₀ : BitVec 32) : IVec S16 32 := addi (bc n₀) v34

/-- The row whose previous indices group `g` reads: the row itself, or its neighbour above, below, left or right
    (clamped at the image's edge). -/
def srcVec (n : IVec S16 32) : Nat → IVec S16 32
  | 0 => n
  | 1 => addi (muli (maxsi (subi (shrui n (bc 5#32)) (bc 1#32)) (bc 0#32)) (bc 32#32)) (andi n (bc 31#32))
  | 2 => addi (muli (minsi (addi (shrui n (bc 5#32)) (bc 1#32)) (bc 31#32)) (bc 32#32)) (andi n (bc 31#32))
  | 3 => addi (muli (shrui n (bc 5#32)) (bc 32#32)) (maxsi (subi (andi n (bc 31#32)) (bc 1#32)) (bc 0#32))
  | _ => addi (muli (shrui n (bc 5#32)) (bc 32#32)) (minsi (addi (andi n (bc 31#32)) (bc 1#32)) (bc 31#32))

/-- The word of the index table that column `c` reads: entry `c % 8` of its group's row. -/
def tabVec (n : IVec S16 32) (c : Nat) : IVec S16 32 :=
  addi (muli (srcVec n (c / 8)) (bc 8#32)) (bc (BitVec.ofNat 32 (c % 8)))

/-- The position group `g` makes of a previous index: itself, or one step down, up, right or left (clamped). -/
def posVec (p : IVec S16 32) : Nat → IVec S16 32
  | 0 => p
  | 1 => addi (muli (minsi (addi (shrui p (bc 5#32)) (bc 1#32)) (bc 31#32)) (bc 32#32)) (andi p (bc 31#32))
  | 2 => addi (muli (maxsi (subi (shrui p (bc 5#32)) (bc 1#32)) (bc 0#32)) (bc 32#32)) (andi p (bc 31#32))
  | 3 => addi (muli (shrui p (bc 5#32)) (bc 32#32)) (minsi (addi (andi p (bc 31#32)) (bc 1#32)) (bc 31#32))
  | _ => addi (muli (shrui p (bc 5#32)) (bc 32#32)) (maxsi (subi (andi p (bc 31#32)) (bc 1#32)) (bc 0#32))

/-! ## The steps -/

/-- Where column `c`'s sixteen words lie in the two result buffers: row `c`, from lane `w`. -/
def colOff (c : Nat) (w : BitVec 32) : Fin 2 → Nat := ![c, (Scalar.indexCast w).toNat]

theorem colOff_inb (c : Nat) (hc : c < 48) (w : BitVec 32) (hw : w.toNat + 16 ≤ 128) : ∀ a, colOff c w a + S1x16.size a ≤ S48x128.size a := by
  intro a
  match a with
  | 0 => show c + 1 ≤ 48; omega
  | 1 =>
    have h : (Scalar.indexCast w).toNat = w.toNat := by

      rfl
    show (Scalar.indexCast w).toNat + 16 ≤ 128; omega

section
variable (i : grid0.Coords)

/-- The programs of a tile. -/
abbrev TP (α : Type) : Type 1 := Prog (TpuEff nD τ sig (Elt F) Λ₀ (.scVector ((i 0).castLE hcore0) ((i 1).castLE hsub0))) α

variable (arg6 : Memref sig .scVector .vmem S8192 .i32) (abuf : Memref sig .scVector .vmem S16x1024 .f32)
variable (arg9 : Memref sig .scVector .vmem S48x128 .i32) (arg10 : Memref sig .scVector .vmem S48x128 .f32)

/-- The second half of a column: the positions `v` checked, stored, and the rows' logits at them read and stored. -/
def colTail (v34 v : IVec S16 32) (w : BitVec 32) (hw : w.toNat + 16 ≤ 128) (c : Nat) (hc : c < 48) : TP (F := F) i PUnit := do
  have k0_hw2 : k0_chk2 v34 v := (← Prog.lift (TpuEff.assume (k0_chk2 v34 v) (k0_chk2.dec v34 v))).down
  let _l : Vec F S1x16 .i32 ← Prog.lift (.load arg9 (Rect.unit (s := S48x128) (colOff c w) S1x16.size (colOff_inb c hc w hw)).toLoadRect (View.loadsAt_vmem h_S1x16))
  Prog.lift (.store arg9 (Rect.unit (s := S48x128) (colOff c w) S1x16.size (colOff_inb c hc w hw)) (shapeCast S1x16 v shapeCasts_S16_S1x16) Finset.univ (View.stores_vmem_bits_univ h_S1x16 rfl) (.inl rfl))
  let s : Vec F S16 .f32 ← SparseCore.vectorLoadIdx abuf ![v34, v] (k0_idx2_inb v34 v k0_hw2) (View.loads_vmem h_S16x1024)
  let _l : Vec F S1x16 .f32 ← Prog.lift (.load arg10 (Rect.unit (s := S48x128) (colOff c w) S1x16.size (colOff_inb c hc w hw)).toLoadRect (View.loadsAt_vmem h_S1x16))
  Prog.lift (.store arg10 (Rect.unit (s := S48x128) (colOff c w) S1x16.size (colOff_inb c hc w hw)) (shapeCast S1x16 s shapeCasts_S16_S1x16) Finset.univ (View.stores_vmem_bits_univ h_S1x16 rfl) (.inl rfl))

/-- Column `c` of the chunk in `abuf` whose rows are `n` and whose lanes start at `w`: read the previous index, make
    the position, store it, read the row's logit there, store it. -/
def colStep (v34 n : IVec S16 32) (w : BitVec 32) (hw : w.toNat + 16 ≤ 128) (c : Nat) (hc : c < 48) : TP (F := F) i PUnit := do
  have k0_hw1 : k0_chk1 (tabVec n c) := (← Prog.lift (TpuEff.assume (k0_chk1 (tabVec n c)) (k0_chk1.dec (tabVec n c)))).down
  let p : Vec F S16 .i32 ← SparseCore.vectorLoadIdx arg6 ![tabVec n c] (k0_idx1_inb (tabVec n c) k0_hw1) (View.loads_vmem h_S8192)
  colTail i abuf arg9 arg10 v34 (posVec p (c / 8)) w hw c hc

/-- The last `k` of the forty columns, in order. -/
def colSteps (v34 n : IVec S16 32) (w : BitVec 32) (hw : w.toNat + 16 ≤ 128) : (k : Nat) → k ≤ 40 → TP (F := F) i PUnit
  | 0, _ => pure ⟨⟩
  | k + 1, h => colStep i arg6 abuf arg9 arg10 v34 n w hw (40 - (k + 1)) (by omega) >>= fun _ => colSteps v34 n w hw k (by omega)

/-- The offsets of padding piece `n`: rows 40 to 47, eight pieces of sixteen lanes each. -/
def padOff (n : Nat) : Fin 2 → Nat := ![40 + n / 8, n % 8 * 16]

theorem padOff_inb (n : Nat) (hn : n < 64) : ∀ a, padOff n a + S1x16.size a ≤ S48x128.size a := by
  intro a
  match a with
  | 0 => show 40 + n / 8 + 1 ≤ 48; omega
  | 1 => show n % 8 * 16 + 16 ≤ 128; omega

/-- Padding piece `n`: zeros to both result buffers. -/
def padStep (n : Nat) (hn : n < 64) : TP (F := F) i PUnit := do
  let _l : Vec F S1x16 .i32 ← Prog.lift (.load arg9 (Rect.unit (s := S48x128) (padOff n) S1x16.size (padOff_inb n hn)).toLoadRect (View.loadsAt_vmem h_S1x16))
  Prog.lift (.store arg9 (Rect.unit (s := S48x128) (padOff n) S1x16.size (padOff_inb n hn)) (shapeCast S1x16 k0_pay195 shapeCasts_S16_S1x16) Finset.univ (View.stores_vmem_bits_univ h_S1x16 rfl) (.inl rfl))
  let _l : Vec F S1x16 .f32 ← Prog.lift (.load arg10 (Rect.unit (s := S48x128) (padOff n) S1x16.size (padOff_inb n hn)).toLoadRect (View.loadsAt_vmem h_S1x16))
  Prog.lift (.store arg10 (Rect.unit (s := S48x128) (padOff n) S1x16.size (padOff_inb n hn)) (shapeCast S1x16 (k0_pay196 (F := F)) shapeCasts_S16_S1x16) Finset.univ (View.stores_vmem_bits_univ h_S1x16 rfl) (.inl rfl))

/-- The last `k` of the sixty-four padding pieces, in order. -/
def padSteps : (k : Nat) → k ≤ 64 → TP (F := F) i PUnit
  | 0, _ => pure ⟨⟩
  | k + 1, h => padStep i arg9 arg10 (64 - (k + 1)) (by omega) >>= fun _ => padSteps k (by omega)

end

section
variable (i : grid0.Coords) (arg2 : Memref sig .scVector .hbm S65536 .i32) (harg2 : arg2.IsWhole) (arg3 : Memref sig .scVector .hbm S4096x1024 .f32) (harg3 : arg3.IsWhole) (arg4 : Memref sig .scVector .hbm S32x48x128 .i32) (harg4 : arg4.IsWhole) (arg5 : Memref sig .scVector .hbm S32x48x128 .f32) (harg5 : arg5.IsWhole) (arg6 : Memref sig .scVector .vmem S8192 .i32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S48x128 .i32) (harg9 : arg9.IsWhole) (arg10 : Memref sig .scVector .vmem S48x128 .f32) (harg10 : arg10.IsWhole) (arg11 : DmaSems sig S_) (arg12 : DmaSems sig S_) (v306_r0 : DmaSems sig S_) (v306_r1 : DmaSems sig S_) (v306_r2 : DmaSems sig S_)

/-- The word of the lane the first chunk of trip `t` starts at, `32 t`. -/
def laneA (t : Fin k0_t1_loop.trips) : BitVec 32 := Scalar.muli (Scalar.muli 2#32 (Scf.iv 0#32 1#32 t)) 16#32
/-- The word of the lane the second chunk of trip `t` starts at, `32 t + 16`. -/
def laneB (t : Fin k0_t1_loop.trips) : BitVec 32 := Scalar.muli (Scalar.addi (Scalar.muli 2#32 (Scf.iv 0#32 1#32 t)) 1#32) 16#32

theorem laneA_eq : ∀ t, (laneA t).toNat = 32 * t.1 := by decide
theorem laneB_eq : ∀ t, (laneB t).toNat = 32 * t.1 + 16 := by decide
theorem laneA_le (t : Fin k0_t1_loop.trips) : (laneA t).toNat + 16 ≤ 128 := by
  have h : k0_t1_loop.trips = 4 := by decide
  rw [laneA_eq]; omega
theorem laneB_le (t : Fin k0_t1_loop.trips) : (laneB t).toNat + 16 ≤ 128 := by
  have h : k0_t1_loop.trips = 4 := by decide
  rw [laneB_eq]; omega

/-- A trip of the loop: wait for the first chunk, its forty columns, refill its buffer; then the second. -/
def tripBody (v31 : BitVec 32) (v34 : IVec S16 32) : Fin k0_t1_loop.trips → Unit → TP (F := F) i Unit := fun t _ => do
  Prog.lift (.waitDma2 arg11.sem (arg3.slice (Rect.unit (s := S4096x1024) (k0_off3 i t) S16x1024.size (k0_off3_inb i t)) (fun _ => rfl)) arg7 (View.wordExact_bits rfl) harg7.wordExact)
  colSteps i arg6 arg7 arg9 arg10 v34 (rowsVec v34 (Scalar.addi v31 (laneA t))) (laneA t) (laneA_le t) 40 le_rfl
  Prog.lift (.enqueueDma (arg3.slice (Rect.unit (s := S4096x1024) (k0_off84 i t) S16x1024.size (k0_off84_inb i t)) (fun _ => rfl)) (.here arg7) (.dma arg11.sem) (View.wordExact_bits rfl) harg7.wordExact ⟨Or.inl rfl, trivial⟩)
  Prog.lift (.waitDma2 arg12.sem (arg3.slice (Rect.unit (s := S4096x1024) (k0_off85 i t) S16x1024.size (k0_off85_inb i t)) (fun _ => rfl)) arg8 (View.wordExact_bits rfl) harg8.wordExact)
  colSteps i arg6 arg8 arg9 arg10 v34 (rowsVec v34 (Scalar.addi v31 (laneB t))) (laneB t) (laneB_le t) 40 le_rfl
  Prog.lift (.enqueueDma (arg3.slice (Rect.unit (s := S4096x1024) (k0_off166 i t) S16x1024.size (k0_off166_inb i t)) (fun _ => rfl)) (.here arg8) (.dma arg12.sem) (View.wordExact_bits rfl) harg8.wordExact ⟨Or.inl rfl, trivial⟩)
  pure ⟨⟩

set_option maxRecDepth 65536 in
set_option maxHeartbeats 2000000 in
/-- The printed region of the loop is a trip: by definitional unfolding. -/
theorem trip_eq (v2 v31 : BitVec 32) (v34 : IVec S16 32) :
    k0_t1_body (F := F) i arg2 harg2 arg3 harg3 arg4 harg4 arg5 harg5 arg6 harg6 arg7 harg7 arg8 harg8 arg9 harg9 arg10 harg10 arg11 arg12 v306_r0 v306_r1 v306_r2 v2 v31 v34
      = tripBody i arg3 arg6 arg7 harg7 arg8 harg8 arg9 arg10 arg11 arg12 v31 v34 := by
  funext t u
  simp only [tripBody, colSteps, Prog.bind_assoc, Nat.reduceAdd, Nat.reduceSub]
  rfl

/-- The word of the number of a tile, `16 · core + subcore`. -/
def widWord : BitVec 32 := Scalar.addi (Scalar.muli (BitVec.ofNat 32 (i 0).val) 16#32) (BitVec.ofNat 32 (i 1).val)

/-- The word of the first row (of its batch's 1024) a tile works on, as the kernel computes it: `128 · (wid mod 8)`. -/
def rowWord : BitVec 32 :=
  let v1 : BitVec 32 := widWord i
  let v21 : BitVec 1 := Scalar.cmpi .eq 8#32 0#32
  let v22 : BitVec 32 := Scalar.select v21 1#32 8#32
  let v23 : BitVec 32 := Scalar.remsi v1 v22
  let v24 : BitVec 1 := Scalar.cmpi .ne v23 0#32
  let v25 : BitVec 1 := Scalar.cmpi .slt v23 0#32
  let v26 : BitVec 1 := Scalar.cmpi .slt v22 0#32
  let v27 : BitVec 1 := Scalar.xori v25 v26
  let v28 : BitVec 1 := Scalar.andi v27 v24
  let v29 : BitVec 32 := Scalar.addi v23 v22
  let v30 : BitVec 32 := Scalar.select v28 v29 v23
  Scalar.muli v30 128#32

theorem rowWord_eq : ∀ a : Fin 2, ∀ b : Fin 16, (rowWord (fun | 0 => a | 1 => b)).toNat = (16 * a.1 + b.1) % 8 * 128 := by decide

/-- The lane numbers `0 … 15`. -/
def lanes : IVec S16 32 := iota .scVector S16 32 [0] iota_S16_d0_w32_scVector

variable (o1 : Fin 1 → Nat) (ho1 : ∀ a, o1 a + S8192.size a ≤ S65536.size a)

/-- A tile's body, its batch's indices those from `o1` of the flat table on: the batch's indices in, the first two chunks under way, the four trips, the two chunks the last trip
    refilled for nothing, the padding, and the two results out. -/
def tileBody : TP (F := F) i PUnit := do
  Prog.lift (.enqueueDma (arg2.slice (Rect.unit (s := S65536) o1 S8192.size ho1) (fun _ => rfl)) (.here arg6) (.dma v306_r0.sem) (View.wordExact_bits rfl) harg6.wordExact ⟨Or.inl rfl, trivial⟩)
  Prog.lift (.waitDma2 v306_r0.sem (arg2.slice (Rect.unit (s := S65536) o1 S8192.size ho1) (fun _ => rfl)) arg6 (View.wordExact_bits rfl) harg6.wordExact)
  Prog.lift (.enqueueDma (arg3.slice (Rect.unit (s := S4096x1024) (k0_off2 i 0#32) S16x1024.size (k0_off2_inb i 0)) (fun _ => rfl)) (.here arg7) (.dma arg11.sem) (View.wordExact_bits rfl) harg7.wordExact ⟨Or.inl rfl, trivial⟩)
  Prog.lift (.enqueueDma (arg3.slice (Rect.unit (s := S4096x1024) (k0_off2 i 16#32) S16x1024.size (k0_off2_inb i 1)) (fun _ => rfl)) (.here arg8) (.dma arg12.sem) (View.wordExact_bits rfl) harg8.wordExact ⟨Or.inl rfl, trivial⟩)
  Scf.Loop.for k0_t1_loop k0_t1_ok ⟨⟩ (tripBody i arg3 arg6 arg7 harg7 arg8 harg8 arg9 arg10 arg11 arg12 (rowWord i) lanes)
  Prog.lift (.waitDma2 arg11.sem (arg3.slice (Rect.unit (s := S4096x1024) (k0_off167 i) S16x1024.size (k0_off167_inb i)) (fun _ => rfl)) arg7 (View.wordExact_bits rfl) harg7.wordExact)
  Prog.lift (.waitDma2 arg12.sem (arg3.slice (Rect.unit (s := S4096x1024) (k0_off167 i) S16x1024.size (k0_off167_inb i)) (fun _ => rfl)) arg8 (View.wordExact_bits rfl) harg8.wordExact)
  padSteps i arg9 arg10 64 le_rfl
  Prog.lift (.enqueueDma arg9 (.here ((arg4.slice (Rect.unit (s := S32x48x128) (k0_off168 i) S1x48x128.size (k0_off168_inb i)) (fun _ => rfl)).squeeze S48x128 squeezes_S1x48x128_S48x128)) (.dma v306_r1.sem) harg9.wordExact ((View.wordExact_bits rfl).reshape _ _) ⟨Or.inl rfl, trivial⟩)
  Prog.lift (.waitDma2 v306_r1.sem arg9 ((arg4.slice (Rect.unit (s := S32x48x128) (k0_off168 i) S1x48x128.size (k0_off168_inb i)) (fun _ => rfl)).squeeze S48x128 squeezes_S1x48x128_S48x128) harg9.wordExact ((View.wordExact_bits rfl).reshape _ _))
  Prog.lift (.enqueueDma arg10 (.here ((arg5.slice (Rect.unit (s := S32x48x128) (k0_off168 i) S1x48x128.size (k0_off168_inb i)) (fun _ => rfl)).squeeze S48x128 squeezes_S1x48x128_S48x128)) (.dma v306_r2.sem) harg10.wordExact ((View.wordExact_bits rfl).reshape _ _) ⟨Or.inl rfl, trivial⟩)
  Prog.lift (.waitDma2 v306_r2.sem arg10 ((arg5.slice (Rect.unit (s := S32x48x128) (k0_off168 i) S1x48x128.size (k0_off168_inb i)) (fun _ => rfl)).squeeze S48x128 squeezes_S1x48x128_S48x128) harg10.wordExact ((View.wordExact_bits rfl).reshape _ _))
  pure ⟨⟩

set_option maxRecDepth 65536 in
set_option maxHeartbeats 2000000 in
/-- The printed function of the first call is `tileBody`: by definitional unfolding. -/
theorem cc0_eq :
    cc0__lambda_ (F := F) i arg2 harg2 arg3 harg3 arg4 harg4 arg5 harg5 arg6 harg6 arg7 harg7 arg8 harg8 arg9 harg9 arg10 harg10 arg11 arg12 v306_r0 v306_r1 v306_r2
      = tileBody i arg2 arg3 arg4 arg5 arg6 harg6 arg7 harg7 arg8 harg8 arg9 harg9 arg10 harg10 arg11 arg12 v306_r0 v306_r1 v306_r2 (k0_off1 i) (k0_off1_inb i) := by
  unfold tileBody
  rw [← trip_eq i arg2 harg2 arg3 harg3 arg4 harg4 arg5 harg5 arg6 harg6 arg7 harg7 arg8 harg8 arg9 harg9 arg10 harg10 arg11 arg12 v306_r0 v306_r1 v306_r2 (Scalar.muli (widWord i) 128#32)]
  unfold cc0__lambda_
  rw [k0_part53_eq_skeleton]
  unfold k0_part53_skel
  simp only [padSteps, Prog.bind_assoc, Nat.reduceAdd, Nat.reduceSub]
  rfl

set_option maxRecDepth 65536 in
set_option maxHeartbeats 2000000 in
/-- The second call's loop, whose region the first call's is a copy of. -/
theorem trip_eq1 (v2 v31 : BitVec 32) (v34 : IVec S16 32) :
    k1_t1_body (F := F) i arg2 harg2 arg3 harg3 arg4 harg4 arg5 harg5 arg6 harg6 arg7 harg7 arg8 harg8 arg9 harg9 arg10 harg10 arg11 arg12 v306_r0 v306_r1 v306_r2 v2 v31 v34
      = tripBody i arg3 arg6 arg7 harg7 arg8 harg8 arg9 arg10 arg11 arg12 v31 v34 := by
  funext t u
  simp only [tripBody, colSteps, Prog.bind_assoc, Nat.reduceAdd, Nat.reduceSub]
  rfl

set_option maxRecDepth 65536 in
set_option maxHeartbeats 2000000 in
/-- The printed function of the second call is `tileBody` from four batches on. -/
theorem cc1_eq :
    cc1__lambda_ (F := F) i arg2 harg2 arg3 harg3 arg4 harg4 arg5 harg5 arg6 harg6 arg7 harg7 arg8 harg8 arg9 harg9 arg10 harg10 arg11 arg12 v306_r0 v306_r1 v306_r2
      = tileBody i arg2 arg3 arg4 arg5 arg6 harg6 arg7 harg7 arg8 harg8 arg9 harg9 arg10 harg10 arg11 arg12 v306_r0 v306_r1 v306_r2 (k1_off1 i) (k1_off1_inb i) := by
  unfold tileBody
  rw [← trip_eq1 i arg2 harg2 arg3 harg3 arg4 harg4 arg5 harg5 arg6 harg6 arg7 harg7 arg8 harg8 arg9 harg9 arg10 harg10 arg11 arg12 v306_r0 v306_r1 v306_r2 (Scalar.muli (widWord i) 128#32)]
  unfold cc1__lambda_
  rw [k1_part53_eq_skeleton]
  unfold k1_part53_skel
  simp only [padSteps, Prog.bind_assoc, Nat.reduceAdd, Nat.reduceSub]
  rfl

end

end Cert.Proof.Body
-- ==== Proof.DenseBody.lean ====
/-
  The body of the calls that spread weights into dense rows, restated as the kernel's own Python has it: a trip of zeros
  over the chunk's buffer, and a trip per chunk — forty columns put, the chunk sent out, the forty columns wiped. The
  printed functions of both calls are shown to be that program by definitional unfolding.
-/
module

public import proofs.«01_k».proof.Proof.Body

@[expose] public section

noncomputable section

namespace Cert.Proof.Body

open Cert.KernelIdeal Cert.KernelIdeal.Gen
open Idealize.ShloMosaic Idealize.SL.Sem

variable {F : FTy → Type} [FloatOps F]

/-- Where piece `r` of a block of sixteen columns from `w` lies in the chunk's buffer. -/
def rowOff (r : Nat) (w : BitVec 32) : Fin 2 → Nat := ![r, (Scalar.indexCast w).toNat]

theorem rowOff_inb (r : Nat) (hr : r < 16) (w : BitVec 32) (hw : w.toNat + 16 ≤ 1024) : ∀ a, rowOff r w a + S1x16.size a ≤ S16x1024.size a := by
  intro a
  match a with
  | 0 => show r + 1 ≤ 16; omega
  | 1 =>
    have h : (Scalar.indexCast w).toNat = w.toNat := rfl
    show (Scalar.indexCast w).toNat + 16 ≤ 1024; omega

/-- The columns sixteen words name: a word below zero names column 0 (and is masked). -/
def colVec (s : Vec F S1x16 .i32) : IVec S16 32 := maxsi (shapeCast S16 s shapeCasts_S1x16_S16) (bc 0#32)
/-- The lanes whose word is not below zero. -/
def maskVec (s : Vec F S1x16 .i32) : IVec S16 1 := cmpi .sge (shapeCast S16 s shapeCasts_S1x16_S16 : IVec S16 32) (bc 0#32)
/-- Sixteen zeros. -/
abbrev zeros : FVec F S16 .f32 := k2_pay278 (F := F)

section
variable (i : grid0.Coords)
variable (wbuf : Memref sig .scVector .vmem S48x128 .f32) (sbuf : Memref sig .scVector .vmem S48x128 .i32) (buf : Memref sig .scVector .vmem S16x1024 .f32)

/-- Zeros to columns `w … w + 15` of row `r`. -/
def zeroStep (w : BitVec 32) (hw : w.toNat + 16 ≤ 1024) (r : Nat) (hr : r < 16) : TP (F := F) i PUnit := do
  let _l : Vec F S1x16 .f32 ← Prog.lift (.load buf (Rect.unit (s := S16x1024) (rowOff r w) S1x16.size (rowOff_inb r hr w hw)).toLoadRect (View.loadsAt_vmem h_S1x16))
  Prog.lift (.store buf (Rect.unit (s := S16x1024) (rowOff r w) S1x16.size (rowOff_inb r hr w hw)) (shapeCast S1x16 (zeros (F := F)) shapeCasts_S16_S1x16) Finset.univ (View.stores_vmem_bits_univ h_S1x16 rfl) (.inl rfl))

/-- The last `k` of the sixteen rows, in order. -/
def zeroSteps (w : BitVec 32) (hw : w.toNat + 16 ≤ 1024) : (k : Nat) → k ≤ 16 → TP (F := F) i PUnit
  | 0, _ => pure ⟨⟩
  | k + 1, h => zeroStep i buf w hw (16 - (k + 1)) (by omega) >>= fun _ => zeroSteps w hw k (by omega)

/-- Column `c` of the chunk whose lanes start at `w`: each lane's weight to the column of its row that its word names. -/
def putStep (v3 : IVec S16 32) (w : BitVec 32) (hw : w.toNat + 16 ≤ 128) (c : Nat) (hc : c < 48) : TP (F := F) i PUnit := do
  let x : Vec F S1x16 .f32 ← Prog.lift (.load wbuf (Rect.unit (s := S48x128) (colOff c w) S1x16.size (colOff_inb c hc w hw)).toLoadRect (View.loadsAt_vmem h_S1x16))
  let s : Vec F S1x16 .i32 ← Prog.lift (.load sbuf (Rect.unit (s := S48x128) (colOff c w) S1x16.size (colOff_inb c hc w hw)).toLoadRect (View.loadsAt_vmem h_S1x16))
  have hw1 : k2_chk1 v3 (colVec s) := (← Prog.lift (TpuEff.assume (k2_chk1 v3 (colVec s)) (k2_chk1.dec v3 (colVec s)))).down
  SparseCore.vectorStoreIdx buf ![v3, colVec s] (shapeCast S16 x shapeCasts_S1x16_S16) (maskVec s) false (k2_idx1_inb v3 (colVec s) hw1) (View.stores_vmem_bits_univ h_S16x1024 rfl)

/-- The last `k` of the forty columns, in order. -/
def putSteps (v3 : IVec S16 32) (w : BitVec 32) (hw : w.toNat + 16 ≤ 128) : (k : Nat) → k ≤ 40 → TP (F := F) i PUnit
  | 0, _ => pure ⟨⟩
  | k + 1, h => putStep i wbuf sbuf buf v3 w hw (40 - (k + 1)) (by omega) >>= fun _ => putSteps v3 w hw k (by omega)

/-- Column `c` undone: zero where `putStep` put a weight. -/
def wipeStep (v3 : IVec S16 32) (w : BitVec 32) (hw : w.toNat + 16 ≤ 128) (c : Nat) (hc : c < 48) : TP (F := F) i PUnit := do
  let s : Vec F S1x16 .i32 ← Prog.lift (.load sbuf (Rect.unit (s := S48x128) (colOff c w) S1x16.size (colOff_inb c hc w hw)).toLoadRect (View.loadsAt_vmem h_S1x16))
  have hw1 : k2_chk1 v3 (colVec s) := (← Prog.lift (TpuEff.assume (k2_chk1 v3 (colVec s)) (k2_chk1.dec v3 (colVec s)))).down
  SparseCore.vectorStoreIdx buf ![v3, colVec s] (zeros (F := F)) (maskVec s) false (k2_idx1_inb v3 (colVec s) hw1) (View.stores_vmem_bits_univ h_S16x1024 rfl)

/-- The last `k` of the forty columns undone, in order. -/
def wipeSteps (v3 : IVec S16 32) (w : BitVec 32) (hw : w.toNat + 16 ≤ 128) : (k : Nat) → k ≤ 40 → TP (F := F) i PUnit
  | 0, _ => pure ⟨⟩
  | k + 1, h => wipeStep i sbuf buf v3 w hw (40 - (k + 1)) (by omega) >>= fun _ => wipeSteps v3 w hw k (by omega)

end

section
variable (i : grid0.Coords) (arg2 : Memref sig .scVector .hbm S32x48x128 .f32) (harg2 : arg2.IsWhole) (arg3 : Memref sig .scVector .hbm S32x48x128 .i32) (harg3 : arg3.IsWhole) (arg4 : Memref sig .scVector .hbm S4096x1024 .f32) (harg4 : arg4.IsWhole) (arg5 : Memref sig .scVector .vmem S48x128 .f32) (harg5 : arg5.IsWhole) (arg6 : Memref sig .scVector .vmem S48x128 .i32) (harg6 : arg6.IsWhole) (arg7 : Memref sig .scVector .vmem S16x1024 .f32) (harg7 : arg7.IsWhole) (v7_r0 : DmaSems sig S_) (v7_r1 : DmaSems sig S_) (v690_r2 : DmaSems sig S_)

/-- The word of the first column of block `t`, `16 t`. -/
def blkW (t : Fin k2_t1_loop.trips) : BitVec 32 := Scalar.muli (Scf.iv 0#32 1#32 t) 16#32
/-- The word of the first lane of chunk `t`, `16 t`. -/
def chkW (t : Fin k2_t2_loop.trips) : BitVec 32 := Scalar.muli (Scf.iv 0#32 1#32 t) 16#32

theorem blkW_eq : ∀ t, (blkW t).toNat = 16 * t.1 := by decide
theorem chkW_eq : ∀ t, (chkW t).toNat = 16 * t.1 := by decide
theorem blk_trips : k2_t1_loop.trips = 64 := by decide
theorem chk_trips : k2_t2_loop.trips = 8 := by decide
theorem blkW_le (t : Fin k2_t1_loop.trips) : (blkW t).toNat + 16 ≤ 1024 := by
  have h := blk_trips
  rw [blkW_eq]; omega
theorem chkW_le (t : Fin k2_t2_loop.trips) : (chkW t).toNat + 16 ≤ 128 := by
  have h := chk_trips
  rw [chkW_eq]; omega

/-- A trip of zeros. -/
def zeroBody : Fin k2_t1_loop.trips → Unit → TP (F := F) i Unit := fun t _ => do
  zeroSteps i arg7 (blkW t) (blkW_le t) 16 le_rfl
  pure ⟨⟩

/-- A chunk's trip: the columns put, the sixteen rows sent out, the columns wiped. -/
def denseTrip (v3 : IVec S16 32) : Fin k2_t2_loop.trips → Unit → TP (F := F) i Unit := fun t _ => do
  putSteps i arg5 arg6 arg7 v3 (chkW t) (chkW_le t) 40 le_rfl
  Prog.lift (.enqueueDma arg7 (.here (arg4.slice (Rect.unit (s := S4096x1024) (k2_off58 i t) S16x1024.size (k2_off58_inb i t)) (fun _ => rfl))) (.dma v690_r2.sem) harg7.wordExact (View.wordExact_bits rfl) ⟨Or.inl rfl, trivial⟩)
  Prog.lift (.waitDma2 v690_r2.sem arg7 (arg4.slice (Rect.unit (s := S4096x1024) (k2_off58 i t) S16x1024.size (k2_off58_inb i t)) (fun _ => rfl)) harg7.wordExact (View.wordExact_bits rfl))
  wipeSteps i arg6 arg7 v3 (chkW t) (chkW_le t) 40 le_rfl
  pure ⟨⟩

/-- A tile's body: its weights and words in, the buffer zeroed, the eight chunks. -/
def denseBody : TP (F := F) i PUnit := do
  Prog.lift (.enqueueDma ((arg2.slice (Rect.unit (s := S32x48x128) (k2_off1 i) S1x48x128.size (k2_off1_inb i)) (fun _ => rfl)).squeeze S48x128 squeezes_S1x48x128_S48x128) (.here arg5) (.dma v7_r0.sem) ((View.wordExact_bits rfl).reshape _ _) harg5.wordExact ⟨Or.inl rfl, trivial⟩)
  Prog.lift (.waitDma2 v7_r0.sem ((arg2.slice (Rect.unit (s := S32x48x128) (k2_off1 i) S1x48x128.size (k2_off1_inb i)) (fun _ => rfl)).squeeze S48x128 squeezes_S1x48x128_S48x128) arg5 ((View.wordExact_bits rfl).reshape _ _) harg5.wordExact)
  Prog.lift (.enqueueDma ((arg3.slice (Rect.unit (s := S32x48x128) (k2_off1 i) S1x48x128.size (k2_off1_inb i)) (fun _ => rfl)).squeeze S48x128 squeezes_S1x48x128_S48x128) (.here arg6) (.dma v7_r1.sem) ((View.wordExact_bits rfl).reshape _ _) harg6.wordExact ⟨Or.inl rfl, trivial⟩)
  Prog.lift (.waitDma2 v7_r1.sem ((arg3.slice (Rect.unit (s := S32x48x128) (k2_off1 i) S1x48x128.size (k2_off1_inb i)) (fun _ => rfl)).squeeze S48x128 squeezes_S1x48x128_S48x128) arg6 ((View.wordExact_bits rfl).reshape _ _) harg6.wordExact)
  Scf.Loop.for k2_t1_loop k2_t1_ok ⟨⟩ (zeroBody i arg7)
  Scf.Loop.for k2_t2_loop k2_t2_ok ⟨⟩ (denseTrip i arg4 arg5 arg6 arg7 harg7 v690_r2 lanes)
  pure ⟨⟩

set_option maxRecDepth 65536 in
set_option maxHeartbeats 2000000 in
/-- The printed region of the first loop is a trip of zeros. -/
theorem zeroBody_eq :
    k2_t1_body (F := F) i arg2 harg2 arg3 harg3 arg4 harg4 arg5 harg5 arg6 harg6 arg7 harg7 v7_r0 v7_r1 v690_r2 = zeroBody i arg7 := by
  funext t u
  simp only [zeroBody, zeroSteps, Prog.bind_assoc, Nat.reduceAdd, Nat.reduceSub]
  rfl

set_option maxRecDepth 65536 in
set_option maxHeartbeats 2000000 in
/-- The printed region of the second loop is a chunk's trip. -/
theorem denseTrip_eq (v2 : BitVec 32) (v3 : IVec S16 32) :
    k2_t2_body (F := F) i arg2 harg2 arg3 harg3 arg4 harg4 arg5 harg5 arg6 harg6 arg7 harg7 v7_r0 v7_r1 v690_r2 v2 v3
      = denseTrip i arg4 arg5 arg6 arg7 harg7 v690_r2 v3 := by
  funext t u
  simp only [denseTrip, putSteps, wipeSteps, Prog.bind_assoc, Nat.reduceAdd, Nat.reduceSub]
  rfl

set_option maxRecDepth 65536 in
set_option maxHeartbeats 2000000 in
/-- The printed function of the third call is `denseBody`. -/
theorem cc2_eq :
    cc2__k4_body (F := F) i arg2 harg2 arg3 harg3 arg4 harg4 arg5 harg5 arg6 harg6 arg7 harg7 v7_r0 v7_r1 v690_r2
      = denseBody i arg2 arg3 arg4 arg5 harg5 arg6 harg6 arg7 harg7 v7_r0 v7_r1 v690_r2 := by
  unfold denseBody
  rw [← zeroBody_eq i arg2 harg2 arg3 harg3 arg4 harg4 arg5 harg5 arg6 harg6 arg7 harg7 v7_r0 v7_r1 v690_r2,
    ← denseTrip_eq i arg2 harg2 arg3 harg3 arg4 harg4 arg5 harg5 arg6 harg6 arg7 harg7 v7_r0 v7_r1 v690_r2 (Scalar.muli (widWord i) 128#32)]
  unfold cc2__k4_body
  rw [k2_part24_eq_skeleton]
  unfold k2_part24_skel
  simp only [Prog.bind_assoc]
  rfl

set_option maxRecDepth 65536 in
set_option maxHeartbeats 2000000 in
/-- The fourth call's first loop. -/
theorem zeroBody_eq3 :
    k3_t1_body (F := F) i arg2 harg2 arg3 harg3 arg4 harg4 arg5 harg5 arg6 harg6 arg7 harg7 v7_r0 v7_r1 v690_r2 = zeroBody i arg7 := by
  funext t u
  simp only [zeroBody, zeroSteps, Prog.bind_assoc, Nat.reduceAdd, Nat.reduceSub]
  rfl

set_option maxRecDepth 65536 in
set_option maxHeartbeats 2000000 in
/-- The fourth call's second loop. -/
theorem denseTrip_eq3 (v2 : BitVec 32) (v3 : IVec S16 32) :
    k3_t2_body (F := F) i arg2 harg2 arg3 harg3 arg4 harg4 arg5 harg5 arg6 harg6 arg7 harg7 v7_r0 v7_r1 v690_r2 v2 v3
      = denseTrip i arg4 arg5 arg6 arg7 harg7 v690_r2 v3 := by
  funext t u
  simp only [denseTrip, putSteps, wipeSteps, Prog.bind_assoc, Nat.reduceAdd, Nat.reduceSub]
  rfl

set_option maxRecDepth 65536 in
set_option maxHeartbeats 2000000 in
/-- The printed function of the fourth call is `denseBody` too. -/
theorem cc3_eq :
    cc3__k4_body (F := F) i arg2 harg2 arg3 harg3 arg4 harg4 arg5 harg5 arg6 harg6 arg7 harg7 v7_r0 v7_r1 v690_r2
      = denseBody i arg2 arg3 arg4 arg5 harg5 arg6 harg6 arg7 harg7 v7_r0 v7_r1 v690_r2 := by
  unfold denseBody
  rw [← zeroBody_eq3 i arg2 harg2 arg3 harg3 arg4 harg4 arg5 harg5 arg6 harg6 arg7 harg7 v7_r0 v7_r1 v690_r2,
    ← denseTrip_eq3 i arg2 harg2 arg3 harg3 arg4 harg4 arg5 harg5 arg6 harg6 arg7 harg7 v7_r0 v7_r1 v690_r2 (Scalar.muli (widWord i) 128#32)]
  unfold cc3__k4_body
  rw [k3_part24_eq_skeleton]
  unfold k3_part24_skel
  simp only [Prog.bind_assoc]
  rfl

end

end Cert.Proof.Body
-- ==== Proof.Step.lean ====
/-
  What a neighbour column comes to, word by word, and the rule for one column of a chunk: the two result buffers change
  at sixteen lanes of one row, to the neighbour positions and to the logits at them.
-/
module

public import proofs.«01_k».proof.Proof.Body
public import Idealize.ShloMosaic.Lib.Tactic
public import Idealize.ShloMosaic.Lib.WritesUnit
public import Idealize.ShloMosaic.Lib.ValueLayout

@[expose] public section

noncomputable section

namespace Cert.Proof.Body

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-! ## The words -/

/-- The source row of group `g` for row `n`, a word at a time. -/
def srcW (n : BitVec 32) : Nat → BitVec 32
  | 0 => n
  | 1 => IntOp.addi (IntOp.muli (IntOp.maxsi (IntOp.subi (IntOp.shrui .vector n 5#32) 1#32) 0#32) 32#32) (IntOp.andi n 31#32)
  | 2 => IntOp.addi (IntOp.muli (IntOp.minsi (IntOp.addi (IntOp.shrui .vector n 5#32) 1#32) 31#32) 32#32) (IntOp.andi n 31#32)
  | 3 => IntOp.addi (IntOp.muli (IntOp.shrui .vector n 5#32) 32#32) (IntOp.maxsi (IntOp.subi (IntOp.andi n 31#32) 1#32) 0#32)
  | _ => IntOp.addi (IntOp.muli (IntOp.shrui .vector n 5#32) 32#32) (IntOp.minsi (IntOp.addi (IntOp.andi n 31#32) 1#32) 31#32)

/-- The position group `g` makes of the previous index `p`, a word at a time. -/
def posW (p : BitVec 32) : Nat → BitVec 32
  | 0 => p
  | 1 => IntOp.addi (IntOp.muli (IntOp.minsi (IntOp.addi (IntOp.shrui .vector p 5#32) 1#32) 31#32) 32#32) (IntOp.andi p 31#32)
  | 2 => IntOp.addi (IntOp.muli (IntOp.maxsi (IntOp.subi (IntOp.shrui .vector p 5#32) 1#32) 0#32) 32#32) (IntOp.andi p 31#32)
  | 3 => IntOp.addi (IntOp.muli (IntOp.shrui .vector p 5#32) 32#32) (IntOp.minsi (IntOp.addi (IntOp.andi p 31#32) 1#32) 31#32)
  | _ => IntOp.addi (IntOp.muli (IntOp.shrui .vector p 5#32) 32#32) (IntOp.maxsi (IntOp.subi (IntOp.andi p 31#32) 1#32) 0#32)

/-- The word of the table column `c` reads for row `n`. -/
def tabW (n : BitVec 32) (c : Nat) : BitVec 32 := IntOp.addi (IntOp.muli (srcW n (c / 8)) 8#32) (BitVec.ofNat 32 (c % 8))

theorem srcVec_apply (n : IVec S16 32) (g : Nat) (x : S16.Idx) : srcVec n g x = srcW (n x) g := by
  match g with
  | 0 => rfl
  | 1 => rfl
  | 2 => rfl
  | 3 => rfl
  | _ + 4 => rfl

theorem posVec_apply (p : IVec S16 32) (g : Nat) (x : S16.Idx) : posVec p g x = posW (p x) g := by
  match g with
  | 0 => rfl
  | 1 => rfl
  | 2 => rfl
  | 3 => rfl
  | _ + 4 => rfl

theorem tabVec_apply (n : IVec S16 32) (c : Nat) (x : S16.Idx) : tabVec n c x = tabW (n x) c := by
  show IntOp.addi (IntOp.muli (srcVec n (c / 8) x) 8#32) (BitVec.ofNat 32 (c % 8)) = _
  rw [srcVec_apply]; rfl

/-- The source row in numbers. -/
def srcN (n : Nat) : Nat → Nat
  | 0 => n
  | 1 => (n / 32 - 1) * 32 + n % 32
  | 2 => (min (n / 32 + 1) 31) * 32 + n % 32
  | 3 => n / 32 * 32 + (n % 32 - 1)
  | _ => n / 32 * 32 + min (n % 32 + 1) 31

/-- The position in numbers. -/
def posN (p : Nat) : Nat → Nat
  | 0 => p
  | 1 => (min (p / 32 + 1) 31) * 32 + p % 32
  | 2 => (p / 32 - 1) * 32 + p % 32
  | 3 => p / 32 * 32 + min (p % 32 + 1) 31
  | _ => p / 32 * 32 + (p % 32 - 1)

theorem srcW_fin : ∀ n : Fin 1024, ∀ g : Fin 5, (srcW (BitVec.ofNat 32 n.val) g.val).toNat = srcN n.val g.val := by decide +kernel
theorem posW_fin : ∀ p : Fin 1024, ∀ g : Fin 5, (posW (BitVec.ofNat 32 p.val) g.val).toNat = posN p.val g.val := by decide +kernel

/-- The source row of a row below 1024 is `srcN`. -/
theorem srcW_toNat (n : BitVec 32) (hn : n.toNat < 1024) (g : Nat) (hg : g < 5) : (srcW n g).toNat = srcN n.toNat g := by
  have := srcW_fin ⟨n.toNat, hn⟩ ⟨g, hg⟩
  simpa only [BitVec.ofNat_toNat, BitVec.setWidth_eq] using this
/-- The position made of an index below 1024 is `posN`. -/
theorem posW_toNat (p : BitVec 32) (hp : p.toNat < 1024) (g : Nat) (hg : g < 5) : (posW p g).toNat = posN p.toNat g := by
  have := posW_fin ⟨p.toNat, hp⟩ ⟨g, hg⟩
  simpa only [BitVec.ofNat_toNat, BitVec.setWidth_eq] using this

theorem srcN_lt (n : Nat) (hn : n < 1024) (g : Nat) : srcN n g < 1024 := by
  match g with
  | 0 => exact hn
  | 1 => show (n / 32 - 1) * 32 + n % 32 < 1024; omega
  | 2 => show (min (n / 32 + 1) 31) * 32 + n % 32 < 1024; omega
  | 3 => show n / 32 * 32 + (n % 32 - 1) < 1024; omega
  | _ + 4 => show n / 32 * 32 + min (n % 32 + 1) 31 < 1024; omega
theorem posN_lt (p : Nat) (hp : p < 1024) (g : Nat) : posN p g < 1024 := by
  match g with
  | 0 => exact hp
  | 1 => show (min (p / 32 + 1) 31) * 32 + p % 32 < 1024; omega
  | 2 => show (p / 32 - 1) * 32 + p % 32 < 1024; omega
  | 3 => show p / 32 * 32 + min (p % 32 + 1) 31 < 1024; omega
  | _ + 4 => show p / 32 * 32 + (p % 32 - 1) < 1024; omega

/-- The table word of column `c` and row `n < 1024` is entry `c % 8` of the source row. -/
theorem tabW_toNat (n : BitVec 32) (hn : n.toNat < 1024) (c : Nat) (hc : c < 40) :
    (tabW n c).toNat = srcN n.toNat (c / 8) * 8 + c % 8 := by
  have h1 := srcW_toNat n hn (c / 8) (by omega)
  have h2 := srcN_lt n.toNat hn (c / 8)
  show (srcW n (c / 8) * 8#32 + BitVec.ofNat 32 (c % 8)).toNat = _
  simp only [BitVec.toNat_add, BitVec.toNat_mul, BitVec.toNat_ofNat, h1]
  omega
theorem tabW_lt (n : BitVec 32) (hn : n.toNat < 1024) (c : Nat) (hc : c < 40) : (tabW n c).toNat < 8192 := by
  have h2 := srcN_lt n.toNat hn (c / 8)
  rw [tabW_toNat n hn c hc]; omega

/-! ## The change a column makes -/

variable {F : FTy → Type} [FloatOps F]

/-- Contents `f` of a result buffer with lanes `lo … lo + 15` of row `c` set to `v`, a function of the lane. -/
def colUpd {α : Type} (f : S48x128.Idx → α) (c lo : Nat) (v : Nat → α) : S48x128.Idx → α :=
  fun x => if (x 0).val = c ∧ lo ≤ (x 1).val ∧ (x 1).val < lo + 16 then v (x 1).val else f x

/-- Contents `f` of a result buffer with lanes `lo … lo + 15` of the first `m` rows set to `u`, a function of row and lane. -/
def colsTo {α : Type} (f : S48x128.Idx → α) (lo m : Nat) (u : Nat → Nat → α) : S48x128.Idx → α :=
  fun x => if (x 0).val < m ∧ lo ≤ (x 1).val ∧ (x 1).val < lo + 16 then u (x 0).val (x 1).val else f x

theorem colsTo_zero {α : Type} (f : S48x128.Idx → α) (lo : Nat) (u : Nat → Nat → α) : colsTo f lo 0 u = f := by
  funext x; unfold colsTo; rw [if_neg (by omega)]

theorem colUpd_colsTo {α : Type} (f : S48x128.Idx → α) (lo m : Nat) (u : Nat → Nat → α) :
    colUpd (colsTo f lo m u) m lo (u m) = colsTo f lo (m + 1) u := by
  funext x
  unfold colUpd colsTo
  by_cases h : (x 0).val = m ∧ lo ≤ (x 1).val ∧ (x 1).val < lo + 16
  · rw [if_pos h, if_pos (by omega), h.1]
  · rw [if_neg h]
    by_cases h' : (x 0).val < m ∧ lo ≤ (x 1).val ∧ (x 1).val < lo + 16
    · rw [if_pos h', if_pos (by omega)]
    · rw [if_neg h', if_neg (by omega)]

/-- A store of sixteen lanes at `(c, lo)` of a result buffer is `colUpd` of what the buffer reads. -/
theorem write_col {e : EltTy} (v : View sig .scVector .vmem S48x128 e)
    (f : v.ty.Contents (Elt F)) (off : Fin 2 → Nat) (inb : ∀ a, off a + S1x16.size a ≤ S48x128.size a) (c lo : Nat) (hoff : off = ![c, lo])
    (w : S16.Idx → Elt F e) (u : Nat → Elt F e) (hu : ∀ k : Fin 16, w (ValueIdx.ix1 k) = u (lo + k.val)) :
    v.read (Elt F) ((v.slice (Rect.unit (s := S48x128) off S1x16.size inb)).write (Elt F) f (shapeCast S1x16 w shapeCasts_S16_S1x16) Finset.univ)
      = colUpd (v.read (Elt F) f) c lo u := by
  funext x
  have h := View.read_writes_cons_unit (Val := Elt F) v f inb (shapeCast S1x16 w shapeCasts_S16_S1x16) [] x hoff
  rw [View.writes_cons, View.writes_nil] at h
  rw [h]
  unfold colUpd
  by_cases hx : (x 0).val = c ∧ lo ≤ (x 1).val ∧ (x 1).val < lo + 16
  · rw [if_pos hx, dif_pos (by
      intro a
      match a with
      | 0 => show c ≤ (x 0).val ∧ (x 0).val < c + 1; omega
      | 1 => show lo ≤ (x 1).val ∧ (x 1).val < lo + 16; omega)]
    have hk : (x 1).val = lo + ((x 1).val - lo) := by omega
    refine Eq.trans ?_ ((hu ⟨(x 1).val - lo, by omega⟩).trans (congrArg u hk.symm))
    refine Eq.trans (congrArg _ ?_) (ValueIdx.shapeCast_a_1a_apply w shapeCasts_S16_S1x16 0 ⟨(x 1).val - lo, by omega⟩)
    funext a
    match a with
    | 0 => exact Subsingleton.elim (α := Fin 1) _ _
    | 1 => rfl
  · rw [if_neg hx, dif_neg (by
      intro h
      have h0 : c ≤ (x 0).val ∧ (x 0).val < c + 1 := h 0
      have h1 : lo ≤ (x 1).val ∧ (x 1).val < lo + 16 := h 1
      omega)]

/-- Reading a view through its whole rectangle is reading it. -/
theorem read_whole_rect {κ : Kind} {sp : Space} {s : Shape} {e : EltTy} (v : View sig κ sp s e) (f : v.ty.Contents (Elt F)) :
    (v.slice (Rect.whole s)).read (Elt F) f = v.read (Elt F) f := by
  funext x
  have hx : (Rect.whole s).emb x = x := funext fun a => Fin.ext (by show 0 + 1 * (x a).val = (x a).val; omega)
  exact congrArg (v.read (Elt F) f) hx

/-- The word a column puts at row `r` of its batch: the neighbour position made of the previous index it reads in the
    table `T`. -/
def idxW (T : Nat → BitVec 32) (r c : Nat) : BitVec 32 := posW (T (tabW (BitVec.ofNat 32 r) c).toNat) (c / 8)

theorem idxW_lt (T : Nat → BitVec 32) (hT : ∀ k, k < 8192 → (T k).toNat < 1024) (r c : Nat) (hr : r < 1024) (hc : c < 40) :
    (idxW T r c).toNat < 1024 := by
  have h1 : (BitVec.ofNat 32 r).toNat = r := by rw [BitVec.toNat_ofNat]; omega
  have h := hT _ (tabW_lt (BitVec.ofNat 32 r) (by omega) c hc)
  unfold idxW
  rw [posW_toNat _ h _ (by omega)]
  exact posN_lt _ h _

theorem lanes_apply (x : S16.Idx) : lanes x = BitVec.ofNat 32 (x 0).val := by
  have h : ∀ k : Fin 16, lanes (ValueIdx.ix1 k) = BitVec.ofNat 32 k.val := by decide
  have hx : x = ValueIdx.ix1 (x 0) := by
    funext a; match a with | 0 => rfl
  rw [hx]; exact h _

/-! ## The rule for a column -/

section Rule

variable {Ix : Type} [DecidableEq Ix] {Name : Type} [DecidableEq Name] {U : Type} [URA U] {Lvl : Type} [Preorder Lvl]
variable {defs : Defs nD τ sig (Elt F) Λ₀} (𝒱 : Variants) (i : grid0.Coords) (d : Dev nD)

local notation "𝕄" => MT nD τ sig Ix (Elt F) Name U Lvl

/-- The thread of a tile. -/
abbrev thr (d : Dev nD) (i : grid0.Coords) : Thread nD τ := (d, .scVector ((i 0).castLE hcore0) ((i 1).castLE hsub0))

variable (bd : Option 𝒱.V) (E : Set Name) {α : Type} {Q : α → sProp (MT nD τ sig Ix (Elt F) Name U Lvl)}

/-- A memref's buffer held whole, reading `g`. -/
def reads {sp : Space} {s : Shape} {e : EltTy} (m : Memref sig .scVector sp s e) (g : s.Idx → Elt F e) : sProp 𝕄 :=
  iprop(∃ f, ⌜m.view.read (Elt F) f = g⌝ ∗ (m.view.loc (thr d i) ↦{fullShare} f))

variable (arg6 : Memref sig .scVector .vmem S8192 .i32) (abuf : Memref sig .scVector .vmem S16x1024 .f32)
variable (arg9 : Memref sig .scVector .vmem S48x128 .i32) (arg10 : Memref sig .scVector .vmem S48x128 .f32)

/-- The second half of a column, the positions `v` known. -/
theorem wp_colTail (A : Nat → Nat → Elt F .f32)
    (fa : S16x1024.Idx → Elt F .f32) (lo : Nat) (hfa : ∀ x : S16x1024.Idx, fa x = A (lo + (x 0).val) (x 1).val)
    (w : BitVec 32) (hw : w.toNat + 16 ≤ 128) (hlo : w.toNat = lo) (c : Nat) (hc : c < 48)
    (u : Nat → BitVec 32) (hu : ∀ l, l < 128 → (u l).toNat < 1024) (v : IVec S16 32) (hv : ∀ x, v x = u (lo + (x 0).val))
    (fi : S48x128.Idx → Elt F .i32) (fs : S48x128.Idx → Elt F .f32)
    (k : PUnit → TP (F := F) i α) :
    (iprop(reads i d abuf fa ∗ reads i d arg9 fi ∗ reads i d arg10 fs) : sProp 𝕄)
      ⊢ iprop((iprop(reads i d abuf fa
            ∗ reads i d arg9 (colUpd fi c lo u)
            ∗ reads i d arg10 (colUpd fs c lo fun l => A l (u l).toNat))
          -∗ wp frame (wpE defs 𝒱 (thr d i) bd) E (k ⟨⟩) Q)
        -∗ wp frame (wpE defs 𝒱 (thr d i) bd) E (colTail i abuf arg9 arg10 lanes v w hw c hc >>= k) Q) := by
  have hchk2 : k0_chk2 lanes v := by
    intro a x
    have hx : (x 0).val < 16 := (x 0).isLt
    match a with
    | 0 =>
      show (lanes x).toNat < 16
      rw [lanes_apply, BitVec.toNat_ofNat]; omega
    | 1 =>
      show (v x).toNat < 1024
      rw [hv]; exact hu _ (by omega)
  have hoff : colOff c w = ![c, lo] := by
    unfold colOff
    rw [show (Scalar.indexCast w).toNat = lo from hlo]
  unfold reads colTail
  simp only [Prog.lift, Prog.bind_op, Prog.bind_ret, Prog.bind_assoc, Prog.pure_eq_ret]
  iintro ⟨⟨%ga, %ha, Ha⟩, ⟨%gi, %hi, Hi⟩, ⟨%gs, %hs, Hs⟩⟩ Hk
  iapply (wp_assume 𝒱 (thr d i) bd E hchk2)
  iapply (wp_load_rect (defs := defs) 𝒱 (thr d i) bd E (cs := .vmem) (m := arg9) (q := fullShare) (f := gi) (r := Rect.unit (s := S48x128) (colOff c w) S1x16.size (colOff_inb c hc w hw)) (S := Finset.univ) (Finset.subset_univ _)) $$ Hi
  iintro Hi
  iapply (wp_store (defs := defs) 𝒱 (thr d i) bd E (cs := .vmem) (m := arg9) (f := gi) (r := Rect.unit (s := S48x128) (colOff c w) S1x16.size (colOff_inb c hc w hw)) (S := Finset.univ) (Finset.subset_univ _)) $$ Hi
  iintro Hi
  iapply (SparseCore.wp_vectorLoadIdx (defs := defs) 𝒱 (thr d i) bd E (base := abuf) (S := Finset.univ) (Finset.subset_univ _)) $$ Ha
  iintro Ha
  iapply (wp_load_rect (defs := defs) 𝒱 (thr d i) bd E (cs := .vmem) (m := arg10) (q := fullShare) (f := gs) (r := Rect.unit (s := S48x128) (colOff c w) S1x16.size (colOff_inb c hc w hw)) (S := Finset.univ) (Finset.subset_univ _)) $$ Hs
  iintro Hs
  iapply (wp_store (defs := defs) 𝒱 (thr d i) bd E (cs := .vmem) (m := arg10) (f := gs) (r := Rect.unit (s := S48x128) (colOff c w) S1x16.size (colOff_inb c hc w hw)) (S := Finset.univ) (Finset.subset_univ _)) $$ Hs
  iintro Hs
  iapply Hk
  isplitl [Ha]
  · iexists _; isplitr
    · ipureintro; exact ha
    · iexact Ha
  isplitl [Hi]
  · iexists _; isplitr
    · ipureintro
      rw [← hi]
      exact write_col arg9.view gi (colOff c w) (colOff_inb c hc w hw) c lo hoff v u fun k => hv _
    · iexact Hi
  · iexists _; isplitr
    swap
    · iexact Hs
    · ipureintro
      rw [← hs]
      refine write_col arg10.view gs (colOff c w) (colOff_inb c hc w hw) c lo hoff _ (fun l => A l (u l).toNat) fun k => ?_
      show (abuf.access (Rect.whole S16x1024)).read (Elt F) ga _ = _
      rw [read_whole_rect, ha, hfa]
      show A (lo + (lanes (ValueIdx.ix1 k)).toNat) (v (ValueIdx.ix1 k)).toNat = _
      rw [hv, lanes_apply, BitVec.toNat_ofNat]
      have hk16 : k.val % 2 ^ 32 = k.val := Nat.mod_eq_of_lt (by omega)
      show A (lo + k.val % 2 ^ 32) _ = _
      rw [hk16]

/-- One column, from the table at `T`, the chunk's rows at `A` (rows counted from the tile's first, `R` in its batch): the result buffers change by
    `colUpd` to the positions and the logits. -/
theorem wp_colStep (T : Nat → BitVec 32) (hT : ∀ k, k < 8192 → (T k).toNat < 1024) (A : Nat → Nat → Elt F .f32)
    (ft : S8192.Idx → Elt F .i32) (hft : ∀ x : S8192.Idx, ft x = T (x 0).val)
    (fa : S16x1024.Idx → Elt F .f32) (R lo : Nat) (hR : R + 128 ≤ 1024) (hfa : ∀ x : S16x1024.Idx, fa x = A (lo + (x 0).val) (x 1).val)
    (n : IVec S16 32) (hn : ∀ x, n x = BitVec.ofNat 32 (R + lo + (x 0).val))
    (w : BitVec 32) (hw : w.toNat + 16 ≤ 128) (hlo : w.toNat = lo) (c : Nat) (hc : c < 48) (hc40 : c < 40)
    (fi : S48x128.Idx → Elt F .i32) (fs : S48x128.Idx → Elt F .f32)
    (k : PUnit → TP (F := F) i α) :
    (iprop(reads i d arg6 ft ∗ reads i d abuf fa ∗ reads i d arg9 fi ∗ reads i d arg10 fs) : sProp 𝕄)
      ⊢ iprop((iprop(reads i d arg6 ft ∗ reads i d abuf fa
            ∗ reads i d arg9 (colUpd fi c lo fun l => idxW T (R + l) c)
            ∗ reads i d arg10 (colUpd fs c lo fun l => A l (idxW T (R + l) c).toNat))
          -∗ wp frame (wpE defs 𝒱 (thr d i) bd) E (k ⟨⟩) Q)
        -∗ wp frame (wpE defs 𝒱 (thr d i) bd) E (colStep i arg6 abuf arg9 arg10 lanes n w hw c hc >>= k) Q) := by
  have hrow : ∀ x : S16.Idx, (n x).toNat < 1024 := fun x => by
    have hx : (x 0).val < 16 := (x 0).isLt
    rw [hn, BitVec.toNat_ofNat]; omega
  have hchk1 : k0_chk1 (tabVec n c) := by
    intro a x
    match a with
    | 0 => show (tabVec n c x).toNat < 8192; rw [tabVec_apply]; exact tabW_lt _ (hrow x) c hc40
  unfold colStep
  simp only [Prog.lift, Prog.bind_op, Prog.bind_ret, Prog.bind_assoc]
  iintro ⟨Hr, Ha, Hi, Hs⟩ Hk
  unfold reads
  icases Hr with ⟨%gt, %ht, Ht⟩
  iapply (wp_assume 𝒱 (thr d i) bd E hchk1)
  iapply (SparseCore.wp_vectorLoadIdx (defs := defs) 𝒱 (thr d i) bd E (base := arg6) (S := Finset.univ) (Finset.subset_univ _)) $$ Ht
  iintro Ht
  iapply (wp_colTail 𝒱 i d bd E abuf arg9 arg10 A fa lo hfa w hw hlo c hc (fun l => idxW T (R + l) c)
    (fun l hl => idxW_lt T hT _ c (by omega) hc40) _ ?hv fi fs k) $$ [Ha Hi Hs]
  case hv =>
    intro x
    rw [posVec_apply]
    show posW ((arg6.access (Rect.whole S8192)).read (Elt F) gt _) (c / 8) = _
    rw [read_whole_rect, ht, hft]
    unfold idxW
    show posW (T (tabVec n c x).toNat) (c / 8) = _
    rw [tabVec_apply, hn, Nat.add_assoc]
  · unfold reads
    isplitl [Ha]
    · iexact Ha
    isplitl [Hi]
    · iexact Hi
    · iexact Hs
  iintro ⟨Ha, Hi, Hs⟩
  iapply Hk
  isplitl [Ht]
  · iexists _; isplitr
    · ipureintro; exact ht
    · iexact Ht
  unfold reads
  isplitl [Ha]
  · iexact Ha
  isplitl [Hi]
  · iexact Hi
  · iexact Hs

/-- The last `k` columns of a chunk, the first `40 - k` done. -/
theorem wp_colSteps (T : Nat → BitVec 32) (hT : ∀ k, k < 8192 → (T k).toNat < 1024) (A : Nat → Nat → Elt F .f32)
    (ft : S8192.Idx → Elt F .i32) (hft : ∀ x : S8192.Idx, ft x = T (x 0).val)
    (fa : S16x1024.Idx → Elt F .f32) (R lo : Nat) (hR : R + 128 ≤ 1024) (hfa : ∀ x : S16x1024.Idx, fa x = A (lo + (x 0).val) (x 1).val)
    (n : IVec S16 32) (hn : ∀ x, n x = BitVec.ofNat 32 (R + lo + (x 0).val))
    (w : BitVec 32) (hw : w.toNat + 16 ≤ 128) (hlo : w.toNat = lo)
    (fi : S48x128.Idx → Elt F .i32) (fs : S48x128.Idx → Elt F .f32)
    (j : PUnit → TP (F := F) i α) : ∀ (k : Nat) (hk : k ≤ 40),
    (iprop(reads i d arg6 ft ∗ reads i d abuf fa ∗ reads i d arg9 (colsTo fi lo (40 - k) fun c l => idxW T (R + l) c)
        ∗ reads i d arg10 (colsTo fs lo (40 - k) fun c l => A l (idxW T (R + l) c).toNat)) : sProp 𝕄)
      ⊢ iprop((iprop(reads i d arg6 ft ∗ reads i d abuf fa ∗ reads i d arg9 (colsTo fi lo 40 fun c l => idxW T (R + l) c)
            ∗ reads i d arg10 (colsTo fs lo 40 fun c l => A l (idxW T (R + l) c).toNat))
          -∗ wp frame (wpE defs 𝒱 (thr d i) bd) E (j ⟨⟩) Q)
        -∗ wp frame (wpE defs 𝒱 (thr d i) bd) E (colSteps i arg6 abuf arg9 arg10 lanes n w hw k hk >>= j) Q)
  | 0, hk => by
    rw [show (colSteps i arg6 abuf arg9 arg10 lanes n w hw 0 hk >>= j) = j ⟨⟩ from rfl]
    iintro H Hk
    iapply Hk
    iexact H
  | k + 1, hk => by
    have hm : 40 - k = 40 - (k + 1) + 1 := by omega
    rw [show colSteps i arg6 abuf arg9 arg10 lanes n w hw (k + 1) hk
      = (colStep i arg6 abuf arg9 arg10 lanes n w hw (40 - (k + 1)) (by omega) >>= fun _ => colSteps i arg6 abuf arg9 arg10 lanes n w hw k (by omega)) from rfl,
      Prog.bind_assoc]
    iintro H Hk
    iapply (wp_colStep 𝒱 i d bd E arg6 abuf arg9 arg10 T hT A ft hft fa R lo hR hfa n hn w hw hlo (40 - (k + 1)) _ (by omega) _ _ _) $$ H
    rw [colUpd_colsTo, colUpd_colsTo (u := fun c l => A l (idxW T (R + l) c).toNat), ← hm]
    iintro H
    iapply (wp_colSteps T hT A ft hft fa R lo hR hfa n hn w hw hlo fi fs j k _) $$ H
    iexact Hk

/-! ## The padding rows -/

/-- The first `m` padding pieces of a result buffer set to `z`. -/
def padTo {α : Type} (f : S48x128.Idx → α) (m : Nat) (z : α) : S48x128.Idx → α :=
  fun x => if 40 ≤ (x 0).val ∧ ((x 0).val - 40) * 8 + (x 1).val / 16 < m then z else f x

theorem padTo_zero {α : Type} (f : S48x128.Idx → α) (z : α) : padTo f 0 z = f := by
  funext x; unfold padTo; rw [if_neg (by omega)]

theorem colUpd_padTo {α : Type} (f : S48x128.Idx → α) (m : Nat) (z : α) :
    colUpd (padTo f m z) (40 + m / 8) (m % 8 * 16) (fun _ => z) = padTo f (m + 1) z := by
  funext x
  have h1 : (x 1).val < 128 := (x 1).isLt
  unfold colUpd padTo
  by_cases h : (x 0).val = 40 + m / 8 ∧ m % 8 * 16 ≤ (x 1).val ∧ (x 1).val < m % 8 * 16 + 16
  · rw [if_pos h, if_pos (by omega)]
  · rw [if_neg h]
    by_cases h' : 40 ≤ (x 0).val ∧ ((x 0).val - 40) * 8 + (x 1).val / 16 < m
    · rw [if_pos h', if_pos (by omega)]
    · rw [if_neg h', if_neg (by omega)]

/-- The zero of the padding of the logits. -/
def padZ : Elt F .f32 := k0_pay196 (F := F) (ValueIdx.ix1 0)

/-- The last `k` padding pieces, the first `64 - k` done. -/
theorem wp_padSteps (fi : S48x128.Idx → Elt F .i32) (fs : S48x128.Idx → Elt F .f32)
    (j : PUnit → TP (F := F) i α) : ∀ (k : Nat) (hk : k ≤ 64),
    (iprop(reads i d arg9 (padTo fi (64 - k) (0#32 : BitVec 32)) ∗ reads i d arg10 (padTo fs (64 - k) padZ)) : sProp 𝕄)
      ⊢ iprop((iprop(reads i d arg9 (padTo fi 64 (0#32 : BitVec 32)) ∗ reads i d arg10 (padTo fs 64 padZ))
          -∗ wp frame (wpE defs 𝒱 (thr d i) bd) E (j ⟨⟩) Q)
        -∗ wp frame (wpE defs 𝒱 (thr d i) bd) E (padSteps i arg9 arg10 k hk >>= j) Q)
  | 0, hk => by
    rw [show (padSteps (F := F) i arg9 arg10 0 hk >>= j) = j ⟨⟩ from rfl]
    iintro H Hk
    iapply Hk
    iexact H
  | k + 1, hk => by
    have hm : 64 - k = 64 - (k + 1) + 1 := by omega
    have hlt : 64 - (k + 1) < 64 := by omega
    rw [show padSteps (F := F) i arg9 arg10 (k + 1) hk
      = (padStep i arg9 arg10 (64 - (k + 1)) (by omega) >>= fun _ => padSteps i arg9 arg10 k (by omega)) from rfl,
      Prog.bind_assoc]
    unfold padStep reads
    simp only [Prog.lift, Prog.bind_op, Prog.bind_ret, Prog.bind_assoc, Prog.pure_eq_ret]
    iintro ⟨⟨%gi, %hi, Hi⟩, ⟨%gs, %hs, Hs⟩⟩ Hk
    iapply (wp_load_rect (defs := defs) 𝒱 (thr d i) bd E (cs := .vmem) (m := arg9) (q := fullShare) (f := gi) (r := (Rect.unit (s := S48x128) (padOff (64 - (k + 1))) S1x16.size (padOff_inb (64 - (k + 1)) hlt))) (S := Finset.univ) (Finset.subset_univ _)) $$ Hi
    iintro Hi
    iapply (wp_store (defs := defs) 𝒱 (thr d i) bd E (cs := .vmem) (m := arg9) (f := gi) (r := (Rect.unit (s := S48x128) (padOff (64 - (k + 1))) S1x16.size (padOff_inb (64 - (k + 1)) hlt))) (S := Finset.univ) (Finset.subset_univ _)) $$ Hi
    iintro Hi
    iapply (wp_load_rect (defs := defs) 𝒱 (thr d i) bd E (cs := .vmem) (m := arg10) (q := fullShare) (f := gs) (r := (Rect.unit (s := S48x128) (padOff (64 - (k + 1))) S1x16.size (padOff_inb (64 - (k + 1)) hlt))) (S := Finset.univ) (Finset.subset_univ _)) $$ Hs
    iintro Hs
    iapply (wp_store (defs := defs) 𝒱 (thr d i) bd E (cs := .vmem) (m := arg10) (f := gs) (r := (Rect.unit (s := S48x128) (padOff (64 - (k + 1))) S1x16.size (padOff_inb (64 - (k + 1)) hlt))) (S := Finset.univ) (Finset.subset_univ _)) $$ Hs
    iintro Hs
    iapply (wp_padSteps fi fs j k _) $$ [Hi Hs]
    · rw [hm, ← colUpd_padTo, ← colUpd_padTo]
      unfold reads
      isplitl [Hi]
      · iexists _; isplitr
        · ipureintro
          rw [← hi]
          exact write_col (F := F) (e := .i32) arg9.view gi (padOff (64 - (k + 1))) (padOff_inb _ hlt) _ _ rfl k0_pay195 (fun _ => (0#32 : BitVec 32)) fun _ => rfl
        · iexact Hi
      · iexists _; isplitr
        · ipureintro
          rw [← hs]
          exact write_col (F := F) (e := .f32) arg10.view gs (padOff (64 - (k + 1))) (padOff_inb _ hlt) _ _ rfl (k0_pay196 (F := F)) (fun _ => padZ) fun _ => rfl
        · iexact Hs
    iexact Hk

end Rule

end Cert.Proof.Body
-- ==== Proof.DenseStep.lean ====
/-
  What a column put into, or wiped from, the buffer of sixteen dense rows comes to, and the rules for the steps: the
  lane's word names a column of the lane's row, and a word below zero names none.
-/
module

public import proofs.«01_k».proof.Proof.DenseBody
public import proofs.«01_k».proof.Proof.Step
public import Idealize.ShloMosaic.Lib.ScatterToDense.Spec
public import Idealize.ShloMosaic.Lib.WordCmp

@[expose] public section

noncomputable section

namespace Cert.Proof.Body

open Cert.KernelIdeal Cert.KernelIdeal.Gen
open Idealize.ShloMosaic
open Idealize.ShloMosaic.ScatterToDense (GS)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Sixteen lanes stored at the columns their words name -/

/-- One lane of an indexed store whose lanes go to rows of their own. -/
def laneStep (col : IVec S16 32) (v : Vec F S16 .f32) (mask : IVec S16 1)
    (h : ∀ a x, ((![lanes, col] : Fin 2 → IVec S16 32) a x).toNat < S16x1024.size a) (g : Vec F S16x1024 .f32) (k : Fin 16) : Vec F S16x1024 .f32 :=
  if mask (Shape.ofLane (d := ![16]) k) = 1 then
    fun j => if (∀ a, (j a).val = (idxAt (s := S16x1024) (![lanes, col] : Fin 2 → IVec S16 32) h (Shape.ofLane (d := ![16]) k) a).val) then v (Shape.ofLane (d := ![16]) k) else g j
  else g

theorem storeIdx_eq_foldl (f : Vec F S16x1024 .f32) (col : IVec S16 32) (v : Vec F S16 .f32) (mask : IVec S16 1)
    (h : ∀ a x, ((![lanes, col] : Fin 2 → IVec S16 32) a x).toNat < S16x1024.size a) :
    storeIdx (F := F) (s := S16x1024) f ![lanes, col] v mask false h = (List.finRange 16).foldl (laneStep col v mask h) f := by
  unfold storeIdx
  refine congrArg (fun st : Vec F S16x1024 .f32 → Fin 16 → Vec F S16x1024 .f32 => List.foldl st f (List.finRange 16)) ?_
  funext g k
  unfold laneStep
  by_cases hm : mask (Shape.ofLane (d := ![16]) k) = 1
  · refine (if_pos hm).trans (Eq.trans ?_ (if_pos hm).symm)
    funext j
    by_cases hj : ∀ a, (j a).val = (idxAt (s := S16x1024) (![lanes, col] : Fin 2 → IVec S16 32) h (Shape.ofLane (d := ![16]) k) a).val
    · exact (if_pos hj).trans (if_pos hj).symm
    · exact (if_neg hj).trans (if_neg hj).symm
  · exact (if_neg hm).trans (if_neg hm).symm

/-- An indexed store whose lanes go to rows of their own: row `r` is changed by lane `r` alone, at the column its word names. -/
theorem storeIdx_rows (f : Vec F S16x1024 .f32) (col : IVec S16 32) (v : Vec F S16 .f32) (mask : IVec S16 1)
    (h : ∀ a x, ((![lanes, col] : Fin 2 → IVec S16 32) a x).toNat < S16x1024.size a) (x : S16x1024.Idx) :
    storeIdx (F := F) (s := S16x1024) f ![lanes, col] v mask false h x
      = if mask (ValueIdx.ix1 (x 0)) = 1 ∧ (x 1).val = (col (ValueIdx.ix1 (x 0))).toNat then v (ValueIdx.ix1 (x 0)) else f x := by
  have hl : ∀ k : Fin 16, (Shape.ofLane (d := ![16]) k : S16.Idx) = ValueIdx.ix1 k := fun k => by
    funext a; match a with | 0 => rfl
  rw [storeIdx_eq_foldl]
  have step : ∀ (r : Fin 16), x 0 = r → ∀ (g : Vec F S16x1024 .f32) (k : Fin 16), laneStep col v mask h g k x
      = if r = k ∧ mask (ValueIdx.ix1 r) = 1 ∧ (x 1).val = (col (ValueIdx.ix1 r)).toNat then v (ValueIdx.ix1 r) else g x := by
    intro r hr g k
    have hrow : (lanes (ValueIdx.ix1 k)).toNat = k.val := by
      rw [lanes_apply, BitVec.toNat_ofNat]
      exact Nat.mod_eq_of_lt (by have := k.isLt; show k.val < _; omega)
    have hall : (∀ a, (x a).val = (idxAt (s := S16x1024) (![lanes, col] : Fin 2 → IVec S16 32) h (ValueIdx.ix1 k) a).val) ↔ r = k ∧ (x 1).val = (col (ValueIdx.ix1 k)).toNat := by
      constructor
      · intro ha
        exact ⟨hr.symm.trans (Fin.ext ((ha 0).trans hrow)), ha 1⟩
      · rintro ⟨h0, h1⟩ a
        match a with
        | 0 => exact (congrArg Fin.val (hr.trans h0)).trans hrow.symm
        | 1 => exact h1
    unfold laneStep
    rw [hl]
    by_cases hm : mask (ValueIdx.ix1 k) = 1
    · rw [if_pos hm]
      by_cases hk : r = k ∧ (x 1).val = (col (ValueIdx.ix1 k)).toNat
      · obtain ⟨rfl, hk2⟩ := hk
        exact Eq.trans (if_pos (hall.mpr ⟨rfl, hk2⟩)) (if_pos ⟨rfl, hm, hk2⟩).symm
      · exact Eq.trans (if_neg fun ha => hk (hall.mp ha)) (if_neg (by rintro ⟨rfl, -, h2⟩; exact hk ⟨rfl, h2⟩)).symm
    · rw [if_neg hm, if_neg (by rintro ⟨rfl, h2, -⟩; exact hm h2)]
  have key : ∀ (r : Fin 16) (hr : x 0 = r) (l : List (Fin 16)) (f : Vec F S16x1024 .f32),
      l.foldl (laneStep col v mask h) f x
        = if r ∈ l ∧ mask (ValueIdx.ix1 r) = 1 ∧ (x 1).val = (col (ValueIdx.ix1 r)).toNat then v (ValueIdx.ix1 r) else f x := by
    intro r hr l
    induction l with
    | nil =>
      intro f
      refine (if_neg ?_).symm
      rintro ⟨hn, -⟩
      exact absurd hn List.not_mem_nil
    | cons k l ih =>
      intro f
      rw [List.foldl_cons, ih, step r hr]
      by_cases hm : mask (ValueIdx.ix1 r) = 1 ∧ (x 1).val = (col (ValueIdx.ix1 r)).toNat
      · by_cases h1 : r ∈ l
        · rw [if_pos ⟨h1, hm⟩, if_pos ⟨List.mem_cons_of_mem _ h1, hm⟩]
        · rw [if_neg fun hh => h1 hh.1]
          by_cases h2 : r = k
          · rw [if_pos ⟨h2, hm⟩, if_pos ⟨h2 ▸ List.mem_cons_self, hm⟩]
          · rw [if_neg fun hh => h2 hh.1, if_neg fun hh => (List.mem_cons.mp hh.1).elim h2 h1]
      · rw [if_neg fun hh => hm hh.2, if_neg fun hh => hm hh.2, if_neg fun hh => hm hh.2]
  refine (key (x 0) rfl (List.finRange 16) f).trans ?_
  by_cases hm : mask (ValueIdx.ix1 (x 0)) = 1 ∧ (x 1).val = (col (ValueIdx.ix1 (x 0))).toNat
  · exact (if_pos ⟨List.mem_finRange _, hm⟩).trans (if_pos hm).symm
  · exact (if_neg fun hh => hm hh.2).trans (if_neg hm).symm

/-- A word names column `n < 1024` through the mask and the clamp exactly when it is `n`. -/
theorem hit_iff (s : BitVec 32) (n : Nat) (hn : n < 1024) :
    (IntOp.cmpi .sge s 0#32 = 1 ∧ n = (IntOp.maxsi s 0#32).toNat) ↔ n = s.toNat := by
  have hs := s.isLt
  have h1 : IntOp.cmpi .sge s 0#32 = 1 ↔ s.toNat < 2 ^ 31 := by
    show BitVec.ofBool ((0#32 : BitVec 32).sle s) = 1 ↔ _
    rw [WordCmp.ofBool_eq_one_iff', BitVec.sle_eq_decide, decide_eq_true_iff, BitVec.toInt_eq_toNat_cond s]
    show (0 : Int) ≤ _ ↔ _
    split <;> omega
  have h2 : s.toNat < 2 ^ 31 → IntOp.maxsi s 0#32 = s := by
    intro h
    unfold IntOp.maxsi
    by_cases h0 : (0#32 : BitVec 32).slt s = true
    · rw [if_pos h0]
    · rw [if_neg h0]
      rw [BitVec.slt_eq_decide, decide_eq_true_iff, BitVec.toInt_eq_toNat_cond s, if_pos (by omega)] at h0
      have h0' : ¬ (0 : Int) < (s.toNat : Int) := h0
      exact (BitVec.eq_of_toNat_eq (show s.toNat = 0 by omega)).symm
  constructor
  · rintro ⟨ha, hb⟩
    rw [h2 (h1.mp ha)] at hb; exact hb
  · intro h
    have hlt : s.toNat < 2 ^ 31 := by omega
    exact ⟨h1.mpr hlt, by rw [h2 hlt]; exact h⟩

/-- The column a word below 1024 names, clamped at 0, is one of the row's. -/
theorem maxsi_lt (s : BitVec 32) (hs : s.toInt < 1024) : (IntOp.maxsi s 0#32).toNat < 1024 := by
  unfold IntOp.maxsi
  by_cases h0 : (0#32 : BitVec 32).slt s = true
  · rw [if_pos h0]
    rw [BitVec.slt_eq_decide, decide_eq_true_iff] at h0
    have h0' : (0 : Int) < s.toInt := h0
    rw [BitVec.toInt_eq_toNat_cond s] at h0' hs
    have hlt := s.isLt
    split at h0' <;> omega
  · rw [if_neg h0]; decide

/-- A dense buffer with, in every row `r`, `v (lo + r)` at the column that word `W (lo + r)` names. -/
def hitUpd {α : Type} (f : S16x1024.Idx → α) (lo : Nat) (W : Nat → BitVec 32) (v : Nat → α) : S16x1024.Idx → α :=
  fun x => if (x 1).val = (W (lo + (x 0).val)).toNat then v (lo + (x 0).val) else f x

/-- A dense buffer with `z` in columns `lo … lo + 15` of its first `m` rows. -/
def blkTo {α : Type} (f : S16x1024.Idx → α) (lo m : Nat) (z : α) : S16x1024.Idx → α :=
  fun x => if (x 0).val < m ∧ lo ≤ (x 1).val ∧ (x 1).val < lo + 16 then z else f x

/-- Rows of candidates: row `r` of the buffer after the first `m` of the columns `W`, `V`, over `f`. -/
def candTo {α : Type} (f : S16x1024.Idx → α) (lo : Nat) (W : Nat → Nat → BitVec 32) (V : Nat → Nat → α) (m : Nat) : S16x1024.Idx → α :=
  fun x => GS (fun c => W c (lo + (x 0).val)) (fun c => V c (lo + (x 0).val)) (f x) (x 1).val m

theorem candTo_zero {α : Type} (f : S16x1024.Idx → α) (lo : Nat) (W : Nat → Nat → BitVec 32) (V : Nat → Nat → α) : candTo f lo W V 0 = f := rfl

theorem hitUpd_candTo {α : Type} (f : S16x1024.Idx → α) (lo : Nat) (W : Nat → Nat → BitVec 32) (V : Nat → Nat → α) (m : Nat) :
    hitUpd (candTo f lo W V m) lo (W m) (V m) = candTo f lo W V (m + 1) := rfl

/-- What a column names it names when wiped: the buffer is `z` everywhere again. -/
theorem candTo_wipe {α : Type} (lo : Nat) (W : Nat → Nat → BitVec 32) (V : Nat → Nat → α) (z : α) (m : Nat) :
    candTo (candTo (fun _ => z) lo W V m) lo W (fun _ _ => z) m = fun _ => z := by
  have key : ∀ (w : Nat → BitVec 32) (v : Nat → α) (y : α) (n k : Nat),
      GS w (fun _ => z) y n k = z ∨ (GS w (fun _ => z) y n k = y ∧ ∀ u : Nat → α, GS w u z n k = z) := by
    intro w v y n k
    induction k with
    | zero => exact .inr ⟨rfl, fun _ => rfl⟩
    | succ k ih =>
      by_cases h : n = (w k).toNat
      · exact .inl (ScatterToDense.GS_succ_hit h)
      · rcases ih with ih | ⟨h1, h2⟩
        · exact .inl ((ScatterToDense.GS_succ_miss h).trans ih)
        · exact .inr ⟨(ScatterToDense.GS_succ_miss h).trans h1, fun u => (ScatterToDense.GS_succ_miss h).trans (h2 u)⟩
  funext x
  rcases key (fun c => W c (lo + (x 0).val)) (fun c => V c (lo + (x 0).val)) (candTo (fun _ => z) lo W V m x) (x 1).val m with h | ⟨h1, h2⟩
  · exact h
  · exact h1.trans (h2 _)

theorem blkTo_zero {α : Type} (f : S16x1024.Idx → α) (lo : Nat) (z : α) : blkTo f lo 0 z = f := by
  funext x; unfold blkTo; rw [if_neg (by omega)]

/-- A store of sixteen copies of `z` at `(r, lo)`. -/
theorem write_row {e : EltTy} (v : View sig .scVector .vmem S16x1024 e)
    (f : v.ty.Contents (Elt F)) (g : S16x1024.Idx → Elt F e) (off : Fin 2 → Nat) (inb : ∀ a, off a + S1x16.size a ≤ S16x1024.size a) (r lo : Nat) (hoff : off = ![r, lo])
    (w : S16.Idx → Elt F e) (z : Elt F e) (hw : ∀ k, w k = z) (hf : v.read (Elt F) f = blkTo g lo r z) :
    v.read (Elt F) ((v.slice (Rect.unit (s := S16x1024) off S1x16.size inb)).write (Elt F) f (shapeCast S1x16 w shapeCasts_S16_S1x16) Finset.univ)
      = blkTo g lo (r + 1) z := by
  funext x
  have h := View.read_writes_cons_unit (Val := Elt F) v f inb (shapeCast S1x16 w shapeCasts_S16_S1x16) [] x hoff
  rw [View.writes_cons, View.writes_nil] at h
  rw [h]
  unfold blkTo
  by_cases hx : (x 0).val = r ∧ lo ≤ (x 1).val ∧ (x 1).val < lo + 16
  · rw [if_pos (by omega), dif_pos (by
      intro a
      match a with
      | 0 => show r ≤ (x 0).val ∧ (x 0).val < r + 1; omega
      | 1 => show lo ≤ (x 1).val ∧ (x 1).val < lo + 16; omega)]
    exact hw _
  · rw [dif_neg (by
      intro h
      have h0 : r ≤ (x 0).val ∧ (x 0).val < r + 1 := h 0
      have h1 : lo ≤ (x 1).val ∧ (x 1).val < lo + 16 := h 1
      omega)]
    refine (congrFun hf x).trans ?_
    unfold blkTo
    by_cases hx' : (x 0).val < r ∧ lo ≤ (x 1).val ∧ (x 1).val < lo + 16
    · rw [if_pos hx', if_pos (by omega)]
    · rw [if_neg hx', if_neg (by omega)]

/-- Sixteen lanes of a row of a buffer of columns, loaded. -/
theorem read_lanes {e : EltTy} (v : View sig .scVector .vmem S48x128 e) (f : v.ty.Contents (Elt F)) (W : Nat → Nat → Elt F e)
    (hW : ∀ x, v.read (Elt F) f x = W (x 0).val (x 1).val) (off : Fin 2 → Nat) (inb : ∀ a, off a + S1x16.size a ≤ S48x128.size a) (c lo : Nat) (hoff : off = ![c, lo])
    (k : Fin 16) :
    (shapeCast S16 ((v.slice (Rect.unit (s := S48x128) off S1x16.size inb)).read (Elt F) f : S1x16.Idx → Elt F e) shapeCasts_S1x16_S16 : S16.Idx → Elt F e) (ValueIdx.ix1 k)
      = W c (lo + k.val) := by
  subst hoff
  refine (ValueIdx.shapeCast_1a_a_apply _ shapeCasts_S1x16_S16 k).trans ?_
  refine (hW ((Rect.unit (s := S48x128) ![c, lo] S1x16.size inb).emb (ValueIdx.ix2 (0 : Fin 1) k))).trans ?_
  show W (c + 1 * 0) (lo + 1 * k.val) = _
  simp only [Nat.one_mul, Nat.mul_zero, Nat.add_zero]

/-- A view written through its whole rectangle reads what was written. -/
theorem read_write_whole {κ : Kind} {sp : Space} {s : Shape} {e : EltTy} (v : View sig κ sp s e) (f : v.ty.Contents (Elt F)) (g : s.Idx → Elt F e) :
    v.read (Elt F) ((v.slice (Rect.whole s)).write (Elt F) f g Finset.univ) = g :=
  (read_whole_rect v _).symm.trans (View.read_write_univ _ _)

/-! ## The rules for the steps -/

section Rule

variable {Ix : Type} [DecidableEq Ix] {Name : Type} [DecidableEq Name] {U : Type} [URA U] {Lvl : Type} [Preorder Lvl]
variable {defs : Defs nD τ sig (Elt F) Λ₀} (𝒱 : Variants) (i : grid0.Coords) (d : Dev nD)

local notation "𝕄" => MT nD τ sig Ix (Elt F) Name U Lvl

variable (bd : Option 𝒱.V) (E : Set Name) {α : Type} {Q : α → sProp (MT nD τ sig Ix (Elt F) Name U Lvl)}

variable (wbuf : Memref sig .scVector .vmem S48x128 .f32) (sbuf : Memref sig .scVector .vmem S48x128 .i32) (buf : Memref sig .scVector .vmem S16x1024 .f32)

/-- The last `k` rows of a block of zeros, the first `16 - k` done. -/
theorem wp_zeroSteps (f : S16x1024.Idx → Elt F .f32) (w : BitVec 32) (hw : w.toNat + 16 ≤ 1024)
    (j : PUnit → TP (F := F) i α) : ∀ (k : Nat) (hk : k ≤ 16),
    (reads i d buf (blkTo f w.toNat (16 - k) padZ) : sProp 𝕄)
      ⊢ iprop((reads i d buf (blkTo f w.toNat 16 padZ) -∗ wp frame (wpE defs 𝒱 (thr d i) bd) E (j ⟨⟩) Q)
        -∗ wp frame (wpE defs 𝒱 (thr d i) bd) E (zeroSteps i buf w hw k hk >>= j) Q)
  | 0, hk => by
    rw [show (zeroSteps (F := F) i buf w hw 0 hk >>= j) = j ⟨⟩ from rfl]
    iintro H Hk
    iapply Hk
    iexact H
  | k + 1, hk => by
    have hm : 16 - k = 16 - (k + 1) + 1 := by omega
    have hlt : 16 - (k + 1) < 16 := by omega
    rw [show zeroSteps (F := F) i buf w hw (k + 1) hk
      = (zeroStep i buf w hw (16 - (k + 1)) (by omega) >>= fun _ => zeroSteps i buf w hw k (by omega)) from rfl,
      Prog.bind_assoc]
    unfold zeroStep
    simp only [Prog.lift, Prog.bind_op, Prog.bind_ret, Prog.bind_assoc, Prog.pure_eq_ret]
    iintro H Hk
    unfold reads
    icases H with ⟨%g, %hg, H⟩
    iapply (wp_load_rect (defs := defs) 𝒱 (thr d i) bd E (cs := .vmem) (m := buf) (q := fullShare) (f := g) (r := (Rect.unit (s := S16x1024) (rowOff (16 - (k + 1)) w) S1x16.size (rowOff_inb (16 - (k + 1)) hlt w hw))) (S := Finset.univ) (Finset.subset_univ _)) $$ H
    iintro H
    iapply (wp_store (defs := defs) 𝒱 (thr d i) bd E (cs := .vmem) (m := buf) (f := g) (r := (Rect.unit (s := S16x1024) (rowOff (16 - (k + 1)) w) S1x16.size (rowOff_inb (16 - (k + 1)) hlt w hw))) (S := Finset.univ) (Finset.subset_univ _)) $$ H
    iintro H
    iapply (wp_zeroSteps f w hw j k _) $$ [H]
    · rw [hm]
      unfold reads
      iexists _; isplitr
      · ipureintro
        exact write_row (F := F) (e := .f32) buf.view g f (rowOff (16 - (k + 1)) w) (rowOff_inb _ hlt w hw) _ _ rfl (zeros (F := F)) padZ (fun _ => rfl) hg
      · iexact H
    unfold reads
    iexact Hk

variable (W : Nat → Nat → BitVec 32) (V : Nat → Nat → Elt F .f32) (gw : S48x128.Idx → Elt F .f32) (gs : S48x128.Idx → Elt F .i32)

/-- An indexed store, at what the buffer reads. -/
theorem wp_storeAll {idxs : Fin S16x1024.rank → IVec S16 32} {v : Vec F S16 .f32} {mask : IVec S16 1} {h : ∀ a x, (idxs a x).toNat < S16x1024.size a}
    {hs : (buf.access (.whole S16x1024)).Stores Finset.univ} (fb : S16x1024.Idx → Elt F .f32) {k : PUnit → TP (F := F) i α} :
    (reads i d buf fb : sProp 𝕄)
      ⊢ iprop((reads i d buf (storeIdx (F := F) fb idxs v mask false h) -∗ wp frame (wpE defs 𝒱 (thr d i) bd) E (k ⟨⟩) Q)
        -∗ wp frame (wpE defs 𝒱 (thr d i) bd) E (SparseCore.vectorStoreIdx buf idxs v mask false h hs >>= k) Q) := by
  rw [SparseCore.vectorStoreIdx_bind (c := thr d i)]
  unfold reads
  iintro ⟨%g, %hg, H⟩ Hk
  iapply (wp_load_rect (defs := defs) 𝒱 (thr d i) bd E (cs := .vmem) (m := buf) (q := fullShare) (f := g) (r := Rect.whole S16x1024) (S := Finset.univ) (Finset.subset_univ _)) $$ H
  iintro H
  iapply (wp_store (defs := defs) 𝒱 (thr d i) bd E (cs := .vmem) (m := buf) (f := g) (r := Rect.whole S16x1024) (S := Finset.univ) (Finset.subset_univ _)) $$ H
  iintro H
  iapply Hk
  iexists _; isplitr
  swap
  · iexact H
  · ipureintro
    refine (read_write_whole (F := F) buf.view g _).trans ?_
    exact congrArg (fun f => storeIdx (F := F) f idxs v mask false h) ((read_whole_rect (F := F) buf.view g).trans hg)

/-- An indexed store of the lanes' words `s` at column `c`, values `v`, to the dense buffer. -/
theorem wp_hit (hW : ∀ l, l < 128 → ∀ c, c < 40 → (W c l).toInt < 1024)
    (lo c : Nat) (hlo : lo + 16 ≤ 128) (hc : c < 40) (s : Vec F S1x16 .i32) (v : Vec F S16 .f32) (u : Nat → Elt F .f32)
    (hs : ∀ k : Fin 16, (shapeCast S16 s shapeCasts_S1x16_S16 : IVec S16 32) (ValueIdx.ix1 k) = W c (lo + k.val))
    (hv : ∀ k : Fin 16, v (ValueIdx.ix1 k) = u (lo + k.val)) (fb : S16x1024.Idx → Elt F .f32)
    (k : PUnit → TP (F := F) i α) :
    (reads i d buf fb : sProp 𝕄)
      ⊢ iprop((reads i d buf (hitUpd fb lo (W c) u) -∗ wp frame (wpE defs 𝒱 (thr d i) bd) E (k ⟨⟩) Q)
        -∗ wp frame (wpE defs 𝒱 (thr d i) bd) E ((do
            have hw1 : k2_chk1 lanes (colVec s) := (← Prog.lift (TpuEff.assume (k2_chk1 lanes (colVec s)) (k2_chk1.dec lanes (colVec s)))).down
            SparseCore.vectorStoreIdx buf ![lanes, colVec s] v (maskVec s) false (k2_idx1_inb lanes (colVec s) hw1) (View.stores_vmem_bits_univ h_S16x1024 rfl)) >>= k) Q) := by
  have hcol : ∀ k : Fin 16, colVec s (ValueIdx.ix1 k) = IntOp.maxsi (W c (lo + k.val)) 0#32 := fun k => by
    show IntOp.maxsi ((shapeCast S16 s shapeCasts_S1x16_S16 : IVec S16 32) (ValueIdx.ix1 k)) 0#32 = _
    rw [hs]
  have hmask : ∀ k : Fin 16, maskVec s (ValueIdx.ix1 k) = IntOp.cmpi .sge (W c (lo + k.val)) 0#32 := fun k => by
    show IntOp.cmpi .sge ((shapeCast S16 s shapeCasts_S1x16_S16 : IVec S16 32) (ValueIdx.ix1 k)) 0#32 = _
    rw [hs]
  have hchk : k2_chk1 lanes (colVec s) := by
    intro a x
    have hx : (x 0).val < 16 := (x 0).isLt
    match a with
    | 0 =>
      show (lanes x).toNat < 16
      rw [lanes_apply, BitVec.toNat_ofNat]; omega
    | 1 =>
      show (colVec s x).toNat < 1024
      rw [(congrArg (colVec s) (ValueIdx.eq_ix1 x)).trans (hcol (x 0))]
      exact maxsi_lt _ (hW _ (by show lo + (x 0).val < 128; omega) c hc)
  simp only [Prog.lift, Prog.bind_op, Prog.bind_ret, Prog.bind_assoc]
  iintro H Hk
  iapply (wp_assume 𝒱 (thr d i) bd E hchk)
  iapply (wp_storeAll (defs := defs) 𝒱 i d bd E buf (k := k)) $$ H
  iintro H
  iapply Hk
  rw [show hitUpd fb lo (W c) u = storeIdx (F := F) fb ![lanes, colVec s] v (maskVec s) false (k2_idx1_inb lanes (colVec s) hchk) from ?_]
  · iexact H
  · symm
    funext x
    refine (storeIdx_rows _ (colVec s) v (maskVec s) _ x).trans ?_
    have aux : ∀ (r : Fin 16) (n : Nat), n < 1024 → ∀ y : Elt F .f32,
        (if maskVec s (ValueIdx.ix1 r) = 1 ∧ n = (colVec s (ValueIdx.ix1 r)).toNat then v (ValueIdx.ix1 r) else y)
          = if n = (W c (lo + r.val)).toNat then u (lo + r.val) else y := by
      intro r n hn y
      have hiff := hit_iff (W c (lo + r.val)) n hn
      rw [hcol, hmask, hv]
      by_cases hh : n = (W c (lo + r.val)).toNat
      · rw [if_pos hh, if_pos (hiff.mpr hh)]
      · rw [if_neg hh, if_neg (fun h => hh (hiff.mp h))]
    exact aux (x 0) (x 1).val (x 1).isLt (fb x)

/-- The last `k` columns put, the first `40 - k` done. -/
theorem wp_putSteps (hW : ∀ l, l < 128 → ∀ c, c < 40 → (W c l).toInt < 1024) (hgw : ∀ x, gw x = V (x 0).val (x 1).val) (hgs : ∀ x, gs x = W (x 0).val (x 1).val)
    (w : BitVec 32) (hw : w.toNat + 16 ≤ 128) (fb : S16x1024.Idx → Elt F .f32)
    (j : PUnit → TP (F := F) i α) : ∀ (k : Nat) (hk : k ≤ 40),
    (iprop(reads i d wbuf gw ∗ reads i d sbuf gs ∗ reads i d buf (candTo fb w.toNat W V (40 - k))) : sProp 𝕄)
      ⊢ iprop((iprop(reads i d wbuf gw ∗ reads i d sbuf gs ∗ reads i d buf (candTo fb w.toNat W V 40))
          -∗ wp frame (wpE defs 𝒱 (thr d i) bd) E (j ⟨⟩) Q)
        -∗ wp frame (wpE defs 𝒱 (thr d i) bd) E (putSteps i wbuf sbuf buf lanes w hw k hk >>= j) Q)
  | 0, hk => by
    rw [show (putSteps (F := F) i wbuf sbuf buf lanes w hw 0 hk >>= j) = j ⟨⟩ from rfl]
    iintro H Hk
    iapply Hk
    iexact H
  | k + 1, hk => by
    have hm : 40 - k = 40 - (k + 1) + 1 := by omega
    have hlt : 40 - (k + 1) < 48 := by omega
    rw [show putSteps (F := F) i wbuf sbuf buf lanes w hw (k + 1) hk
      = (putStep i wbuf sbuf buf lanes w hw (40 - (k + 1)) (by omega) >>= fun _ => putSteps i wbuf sbuf buf lanes w hw k (by omega)) from rfl,
      Prog.bind_assoc]
    unfold putStep
    rw [Prog.bind_assoc]
    iintro ⟨Hw, Hs, H⟩ Hk
    unfold reads
    icases Hw with ⟨%fw, %hfw, Hw⟩
    icases Hs with ⟨%fs, %hfs, Hs⟩
    iapply (wp_load_rect (defs := defs) 𝒱 (thr d i) bd E (cs := .vmem) (m := wbuf) (q := fullShare) (f := fw) (r := (Rect.unit (s := S48x128) (colOff (40 - (k + 1)) w) S1x16.size (colOff_inb (40 - (k + 1)) hlt w hw))) (S := Finset.univ) (Finset.subset_univ _)) $$ Hw
    iintro Hw
    iapply (wp_load_rect (defs := defs) 𝒱 (thr d i) bd E (cs := .vmem) (m := sbuf) (q := fullShare) (f := fs) (r := (Rect.unit (s := S48x128) (colOff (40 - (k + 1)) w) S1x16.size (colOff_inb (40 - (k + 1)) hlt w hw))) (S := Finset.univ) (Finset.subset_univ _)) $$ Hs
    iintro Hs
    iapply (wp_hit (defs := defs) 𝒱 i d bd E buf W hW w.toNat (40 - (k + 1)) hw (by omega) _ _ (V (40 - (k + 1)))
      (read_lanes (F := F) (e := .i32) sbuf.view fs W (fun x => (congrFun hfs x).trans (hgs x)) _ _ _ _ rfl)
      (read_lanes (F := F) (e := .f32) wbuf.view fw V (fun x => (congrFun hfw x).trans (hgw x)) _ _ _ _ rfl) (candTo fb w.toNat W V (40 - (k + 1))) _) $$ [H]
    · unfold reads; iexact H
    rw [hitUpd_candTo, ← hm]
    iintro H
    iapply (wp_putSteps hW hgw hgs w hw fb j k _) $$ [Hw Hs H]
    · unfold reads
      isplitl [Hw]
      · iexists fw; isplitr
        · ipureintro; exact hfw
        · iexact Hw
      isplitl [Hs]
      · iexists fs; isplitr
        · ipureintro; exact hfs
        · iexact Hs
      iexact H
    unfold reads
    iexact Hk

/-- The last `k` columns wiped, the first `40 - k` done. -/
theorem wp_wipeSteps (hW : ∀ l, l < 128 → ∀ c, c < 40 → (W c l).toInt < 1024) (hgs : ∀ x, gs x = W (x 0).val (x 1).val)
    (w : BitVec 32) (hw : w.toNat + 16 ≤ 128) (fb : S16x1024.Idx → Elt F .f32)
    (j : PUnit → TP (F := F) i α) : ∀ (k : Nat) (hk : k ≤ 40),
    (iprop(reads i d sbuf gs ∗ reads i d buf (candTo fb w.toNat W (fun _ _ => padZ) (40 - k))) : sProp 𝕄)
      ⊢ iprop((iprop(reads i d sbuf gs ∗ reads i d buf (candTo fb w.toNat W (fun _ _ => padZ) 40))
          -∗ wp frame (wpE defs 𝒱 (thr d i) bd) E (j ⟨⟩) Q)
        -∗ wp frame (wpE defs 𝒱 (thr d i) bd) E (wipeSteps i sbuf buf lanes w hw k hk >>= j) Q)
  | 0, hk => by
    rw [show (wipeSteps (F := F) i sbuf buf lanes w hw 0 hk >>= j) = j ⟨⟩ from rfl]
    iintro H Hk
    iapply Hk
    iexact H
  | k + 1, hk => by
    have hm : 40 - k = 40 - (k + 1) + 1 := by omega
    have hlt : 40 - (k + 1) < 48 := by omega
    rw [show wipeSteps (F := F) i sbuf buf lanes w hw (k + 1) hk
      = (wipeStep i sbuf buf lanes w hw (40 - (k + 1)) (by omega) >>= fun _ => wipeSteps i sbuf buf lanes w hw k (by omega)) from rfl,
      Prog.bind_assoc]
    unfold wipeStep
    rw [Prog.bind_assoc]
    iintro ⟨Hs, H⟩ Hk
    unfold reads
    icases Hs with ⟨%fs, %hfs, Hs⟩
    iapply (wp_load_rect (defs := defs) 𝒱 (thr d i) bd E (cs := .vmem) (m := sbuf) (q := fullShare) (f := fs) (r := (Rect.unit (s := S48x128) (colOff (40 - (k + 1)) w) S1x16.size (colOff_inb (40 - (k + 1)) hlt w hw))) (S := Finset.univ) (Finset.subset_univ _)) $$ Hs
    iintro Hs
    iapply (wp_hit (defs := defs) 𝒱 i d bd E buf W hW w.toNat (40 - (k + 1)) hw (by omega) _ _ (fun _ => padZ)
      (read_lanes (F := F) (e := .i32) sbuf.view fs W (fun x => (congrFun hfs x).trans (hgs x)) _ _ _ _ rfl)
      (fun _ => rfl) (candTo fb w.toNat W (fun _ _ => padZ) (40 - (k + 1))) _) $$ [H]
    · unfold reads; iexact H
    rw [hitUpd_candTo (V := fun _ _ => padZ), ← hm]
    iintro H
    iapply (wp_wipeSteps hW hgs w hw fb j k _) $$ [Hs H]
    · unfold reads
      isplitl [Hs]
      · iexists fs; isplitr
        · ipureintro; exact hfs
        · iexact Hs
      iexact H
    unfold reads
    iexact Hk

end Rule

end Cert.Proof.Body
-- ==== Proof.Tile.lean ====
/-
  A tile's run: the table of its batch fetched, the eight chunks of logit rows through two buffers in flight by turns, the
  forty columns of each chunk, the padding rows, and the two results written out.
-/
module

public import proofs.«01_k».proof.Proof.Step
public import Idealize.ShloMosaic.Lib.SparseCore.FromWhole
public import Idealize.ShloMosaic.Lib.SparseCore.Quiescent

@[expose] public section

noncomputable section

namespace Cert.Proof.Body

open Cert.KernelIdeal Cert.KernelIdeal.Gen
open Idealize.ShloMosaic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Chunks and how far the results are done -/

/-- Sixteen rows of an array of rows of 1024, from row `o`. -/
def chunkV {α : Type} (Aa : Nat → Nat → α) (o : Nat) : S16x1024.Idx → α := fun x => Aa (o + (x 0).val) (x 1).val

/-- A sixteen-row slice of a memref reading `Aa` reads a chunk of it. -/
theorem read_chunk {κ : Kind} {sp : Space} {e : EltTy} (v : View sig κ sp S4096x1024 e) (f : v.ty.Contents (Elt F)) (Aa : Nat → Nat → Elt F e)
    (ha : ∀ x, v.read (Elt F) f x = Aa (x 0).val (x 1).val) (off : Fin 2 → Nat) (inb : ∀ a, off a + S16x1024.size a ≤ S4096x1024.size a)
    (o : Nat) (hoff : off = ![o, 0]) :
    (v.slice (Rect.unit (s := S4096x1024) off S16x1024.size inb)).read (Elt F) f = chunkV Aa o := by
  subst hoff
  funext x
  refine (ha ((Rect.unit (s := S4096x1024) ![o, 0] S16x1024.size inb).emb x)).trans ?_
  show Aa (o + 1 * (x 0).val) (0 + 1 * (x 1).val) = Aa (o + (x 0).val) (x 1).val
  rw [Nat.one_mul, Nat.one_mul, Nat.zero_add]

/-- The first `L` lanes of the forty rows of a result buffer hold `u`, a function of row and lane. -/
def doneTo {α : Type} (u : Nat → Nat → α) (L : Nat) (f : S48x128.Idx → α) : Prop :=
  ∀ x : S48x128.Idx, (x 0).val < 40 → (x 1).val < L → f x = u (x 0).val (x 1).val

theorem doneTo_zero {α : Type} (u : Nat → Nat → α) (f : S48x128.Idx → α) : doneTo u 0 f := fun _ _ h => absurd h (Nat.not_lt_zero _)

theorem doneTo_cols {α : Type} {u : Nat → Nat → α} {lo : Nat} {f : S48x128.Idx → α} (h : doneTo u lo f) : doneTo u (lo + 16) (colsTo f lo 40 u) := by
  intro x h0 h1
  unfold colsTo
  by_cases hx : (x 0).val < 40 ∧ lo ≤ (x 1).val ∧ (x 1).val < lo + 16
  · rw [if_pos hx]
  · rw [if_neg hx]; exact h x h0 (by omega)

/-- A result buffer at the end: `u` in its first forty rows, `z` in the padding rows. -/
def full {α : Type} (u : Nat → Nat → α) (z : α) : S48x128.Idx → α := fun x => if (x 0).val < 40 then u (x 0).val (x 1).val else z

theorem padTo_done {α : Type} {u : Nat → Nat → α} {f : S48x128.Idx → α} (h : doneTo u 128 f) (z : α) : padTo f 64 z = full u z := by
  funext x
  have h0 : (x 0).val < 48 := (x 0).isLt
  have h1 : (x 1).val < 128 := (x 1).isLt
  unfold padTo full
  by_cases hx : (x 0).val < 40
  · rw [if_neg (by omega), if_pos hx]; exact h x hx h1
  · rw [if_pos (by omega), if_neg hx]

/-- The rows of a chunk as the kernel counts them. -/
theorem rows_apply (r w : BitVec 32) (R lo : Nat) (hr : r.toNat = R) (hw : w.toNat = lo) (x : S16.Idx) :
    rowsVec lanes (Scalar.addi r w) x = BitVec.ofNat 32 (R + lo + (x 0).val) := by
  show (r + w) + lanes x = _
  rw [lanes_apply]
  apply BitVec.eq_of_toNat_eq
  simp only [BitVec.toNat_add, BitVec.toNat_ofNat, hr, hw]
  omega

/-! ## The rules for the copies -/

section Rules

variable {Ix : Type} [DecidableEq Ix] {Name : Type} [DecidableEq Name] [Infinite Name] {U : Type} [URA U] [CountersIn U] {Lvl : Type} [Preorder Lvl]
variable {defs : Defs nD τ sig (Elt F) Λ₀} (𝒱 : Variants) (i : grid0.Coords) (d : Dev nD)

local notation "𝕄" => MT nD τ sig Ix (Elt F) Name U Lvl

/-- The ghost counters of the transfers. -/
abbrev EC : UEmb Counters (MT nD τ sig Ix (Elt F) Name U Lvl) := countersEmb

variable (bd : Option 𝒱.V) {α : Type} {Q : α → sProp (MT nD τ sig Ix (Elt F) Name U Lvl)}

/-- A memref's buffer held whole, at some contents. -/
def heldAny {sp : Space} {s : Shape} {e : EltTy} (m : Memref sig .scVector sp s e) : sProp 𝕄 :=
  iprop(∃ f, m.view.loc (thr d i) ↦{fullShare} f)

theorem reads_heldAny {sp : Space} {s : Shape} {e : EltTy} (m : Memref sig .scVector sp s e) (g : s.Idx → Elt F e) :
    (reads i d m g : sProp 𝕄) ⊢ heldAny i d m := by
  unfold reads heldAny
  iintro ⟨%f, -, H⟩
  iexists f; iexact H

theorem heldAny_reads {sp : Space} {s : Shape} {e : EltTy} (m : Memref sig .scVector sp s e) :
    (heldAny i d m : sProp 𝕄) ⊢ iprop(∃ g, reads i d m g) := by
  unfold reads heldAny
  iintro ⟨%f, H⟩
  iexists (m.view.read (Elt F) f); iexists f; isplitr
  · ipureintro; rfl
  · iexact H

/-- What the tile owes, with waits at index `ι` recorded beyond `W`. -/
def owesUp (ι : Ix) (O : CellTallies nD τ sig Ix) (W : Waits sig Ix) : sProp 𝕄 :=
  iprop(∃ W', ⌜∀ p ∈ W', p ∈ W ∨ p.2 = ι⌝ ∗ owes (thr d i) O W')

/-- Starting a copy into a buffer held whole. -/
theorem wp_fetch {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (τ := τ) (p := (thr d i).2) sp sm (.here dst)}
    {k : PUnit → TP (F := F) i α} {q : PosShare TreeShare} {fs : Buf (Elt F) (src.view.loc (thr d i))}
    (hs : 0 < s.numel) (ι : Ix) (g : s.Idx → Elt F e) (hg : src.view.read (Elt F) fs = g) :
    (iprop((src.view.loc (thr d i) ↦{q} fs) ∗ heldAny i d dst ∗ semVal (thr d i, sm) 0) : sProp 𝕄)
      ⊢ iprop((Flight EC (thr d i) sm ι (dst.view.amount sm) iprop(reads i d dst g ∗ (src.view.loc (thr d i) ↦{q} fs))
              -∗ wp frame (wpE defs 𝒱 (thr d i) bd) Set.univ (k ⟨⟩) Q)
          -∗ wp frame (wpE defs 𝒱 (thr d i) bd) Set.univ (.op (.enqueueDma src (.here dst) sm hsrc hdst hsem) k) Q) := by
  unfold heldAny
  iintro ⟨Hs, ⟨%f, Hd⟩, Hv⟩ Hk
  iapply (wp_dmaFromWhole EC 𝒱 (thr d i) bd (Sd := Finset.univ) ι (dst.view.amount sm) rfl (View.amount_pos _ _ hs) (Finset.subset_univ _)) $$ [Hs Hd Hv]
  · iframe Hs Hd Hv
  iintro Hf
  iapply Hk
  iapply (Flight_mono EC (thr d i) ?h) $$ Hf
  case h =>
    iintro ⟨Hd, Hs⟩
    isplitl [Hd]
    · unfold reads
      iexists _; isplitr
      swap
      · iexact Hd
      · ipureintro
        rw [View.read_write_univ, ← hg]
    · iexact Hs

/-- Starting a copy of a buffer held whole into a part of another. -/
theorem wp_put {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (τ := τ) (p := (thr d i).2) sp sm (.here dst)}
    {k : PUnit → TP (F := F) i α} {fd : Buf (Elt F) (dst.view.loc (thr d i))}
    (hs : 0 < s.numel) (ι : Ix) (g : s.Idx → Elt F e) :
    (iprop(reads i d src g ∗ (dst.view.loc (thr d i) ↦[dst.view.set]{fullShare} fd) ∗ semVal (thr d i, sm) 0) : sProp 𝕄)
      ⊢ iprop((Flight EC (thr d i) sm ι (dst.view.amount sm)
                iprop((dst.view.loc (thr d i) ↦[dst.view.set]{fullShare} (dst.view.write (Elt F) fd g Finset.univ)) ∗ heldAny i d src)
              -∗ wp frame (wpE defs 𝒱 (thr d i) bd) Set.univ (k ⟨⟩) Q)
          -∗ wp frame (wpE defs 𝒱 (thr d i) bd) Set.univ (.op (.enqueueDma src (.here dst) sm hsrc hdst hsem) k) Q) := by
  unfold reads
  iintro ⟨⟨%f, %hf, Hs⟩, Hd, Hv⟩ Hk
  iapply (wp_dmaFromWhole EC 𝒱 (thr d i) bd (Sd := dst.view.set) ι (dst.view.amount sm) rfl (View.amount_pos _ _ hs) (Finset.Subset.refl _)) $$ [Hs Hd Hv]
  · iframe Hs Hd Hv
  iintro Hf
  iapply Hk
  iapply (Flight_mono EC (thr d i) ?h) $$ Hf
  case h =>
    iintro ⟨Hd, Hs⟩
    isplitl [Hd]
    · subst hf; iexact Hd
    · unfold heldAny; iexists f; iexact Hs

/-- Waiting for a copy in flight. -/
theorem wp_await {sp sp' : Space} {s s' : Shape} {e e' : EltTy} {src : Memref sig .scVector sp s' e'} {dst : Memref sig .scVector sp' s e} {sem : DmaSem sig}
    {hsrc : src.view.WordExact} {hdst : dst.view.WordExact} {k : PUnit → TP (F := F) i α} (ι : Ix) {X : sProp (MT nD τ sig Ix (Elt F) Name U Lvl)}
    {O : CellTallies nD τ sig Ix} {W : Waits sig Ix} :
    (iprop(Flight EC (thr d i) (.dma sem) ι (dst.view.amount (.dma sem)) X ∗ MayWaits (thr d i) ι O ∗ owesUp i d ι O W) : sProp 𝕄)
      ⊢ iprop((iprop(X ∗ semVal (thr d i, .dma sem) 0 ∗ owesUp i d ι O W) -∗ wp frame (wpE defs 𝒱 (thr d i) bd) Set.univ (k ⟨⟩) Q)
          -∗ wp frame (wpE defs 𝒱 (thr d i) bd) Set.univ (.op (.waitDma2 sem src dst hsrc hdst) k) Q) := by
  unfold owesUp
  iintro ⟨Hf, Hmw, %W', %hW', HO⟩ Hk
  iapply (wp_waitLocalO EC 𝒱 (thr d i) bd ι (N := dst.view.amount (.dma sem)) rfl) $$ [Hf Hmw HO]
  · isplitl [Hf]; · iexact Hf
    isplitl [HO]; · iexact HO
    iapply (MayWaits.elim (SemLoc.dma sem)) $$ Hmw
  iintro ⟨HX, Hv, HO⟩
  iapply Hk
  isplitl [HX]; · iexact HX
  isplitl [Hv]; · iexact Hv
  iexists _; isplitr
  swap
  · iexact HO
  · ipureintro; intro p hp
    rcases Finset.mem_insert.mp hp with hp | hp
    · exact .inr (hp ▸ rfl)
    · exact hW' p hp

/-! ## A trip and the tile -/

variable (arg2 : Memref sig .scVector .hbm S65536 .i32) (harg2 : arg2.IsWhole) (arg3 : Memref sig .scVector .hbm S4096x1024 .f32) (harg3 : arg3.IsWhole) (arg4 : Memref sig .scVector .hbm S32x48x128 .i32) (harg4 : arg4.IsWhole) (arg5 : Memref sig .scVector .hbm S32x48x128 .f32) (harg5 : arg5.IsWhole) (arg6 : Memref sig .scVector .vmem S8192 .i32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S48x128 .i32) (harg9 : arg9.IsWhole) (arg10 : Memref sig .scVector .vmem S48x128 .f32) (harg10 : arg10.IsWhole) (arg11 : DmaSems sig S_) (arg12 : DmaSems sig S_) (v306_r0 : DmaSems sig S_) (v306_r1 : DmaSems sig S_) (v306_r2 : DmaSems sig S_)

/-- The first of the rows of logits of a tile. -/
abbrev baseRow (i : grid0.Coords) : Nat := 2048 * (i 0).val + 128 * (i 1).val
/-- The positions a tile makes, by column and lane, from its table `T` and its first row `R` in its batch. -/
def uI (T : Nat → BitVec 32) (R c l : Nat) : BitVec 32 := idxW T (R + l) c
/-- The logits at those positions. -/
def uS {β : Type} (T : Nat → BitVec 32) (R : Nat) (Aa : Nat → Nat → β) (b c l : Nat) : β := Aa (b + l) (idxW T (R + l) c).toNat

variable (T : Nat → BitVec 32) (R : Nat) (Aa : Nat → Nat → Elt F .f32) (ft : S8192.Idx → Elt F .i32) (qa qb : PosShare TreeShare)
variable (af : Buf (Elt F) (arg3.view.loc (thr d i))) (ι : Ix) (O : CellTallies nD τ sig Ix) (W : Waits sig Ix)

/-- What a tile holds before trip `n`: the table, the chunks `2n` and `2n + 1` (at most 7) in flight to the two buffers, and the
    results done in their first `32 n` lanes. -/
def inv (n : Nat) (_ : Unit) : sProp 𝕄 :=
  iprop(MayWaits (thr d i) ι O ∗ reads i d arg6 ft
    ∗ Flight EC (thr d i) (.dma arg11.sem) ι (arg7.view.amount (.dma arg11.sem))
        iprop(reads i d arg7 (chunkV Aa (baseRow i + 16 * min (2 * n) 7)) ∗ (arg3.view.loc (thr d i) ↦{qa} af))
    ∗ Flight EC (thr d i) (.dma arg12.sem) ι (arg8.view.amount (.dma arg12.sem))
        iprop(reads i d arg8 (chunkV Aa (baseRow i + 16 * min (2 * n + 1) 7)) ∗ (arg3.view.loc (thr d i) ↦{qb} af))
    ∗ (∃ fi fs, ⌜doneTo (uI T R) (32 * n) fi⌝ ∗ ⌜doneTo (uS T R Aa (baseRow i)) (32 * n) fs⌝ ∗ reads i d arg9 fi ∗ reads i d arg10 fs)
    ∗ owesUp i d ι O W)

theorem trips_eq : k0_t1_loop.trips = 4 := by decide

/-- A trip keeps the invariant. -/
theorem wp_trip (hT : ∀ k, k < 8192 → (T k).toNat < 1024) (hft : ∀ x : S8192.Idx, ft x = T (x 0).val) (hR : R + 128 ≤ 1024)
    (haf : ∀ x, arg3.view.read (Elt F) af x = Aa (x 0).val (x 1).val) (r : BitVec 32) (hr : r.toNat = R)
    (t : Fin k0_t1_loop.trips) (u : Unit) :
    (inv i d arg3 arg6 arg7 arg8 arg9 arg10 arg11 arg12 T R Aa ft qa qb af ι O W t.val u : sProp 𝕄)
      ⊢ wp frame (wpE defs 𝒱 (thr d i) bd) Set.univ (tripBody i arg3 arg6 arg7 harg7 arg8 harg8 arg9 arg10 arg11 arg12 r lanes t u)
          (inv i d arg3 arg6 arg7 arg8 arg9 arg10 arg11 arg12 T R Aa ft qa qb af ι O W (t.val + 1)) := by
  have ht : t.val < 4 := trips_eq ▸ t.isLt
  have hA : ∀ x : S16x1024.Idx, chunkV Aa (baseRow i + 16 * min (2 * t.val) 7) x = Aa (baseRow i + (32 * t.val + (x 0).val)) (x 1).val := fun x => by
    unfold chunkV; congr 1; omega
  have hB : ∀ x : S16x1024.Idx, chunkV Aa (baseRow i + 16 * min (2 * t.val + 1) 7) x = Aa (baseRow i + (32 * t.val + 16 + (x 0).val)) (x 1).val := fun x => by
    unfold chunkV; congr 1; omega
  unfold inv tripBody
  simp only [Prog.lift, Prog.bind_op, Prog.bind_ret, Prog.pure_eq_ret]
  iintro ⟨#Hmw, Ht, HfA, HfB, ⟨%fi, %fs, %hfi, %hfs, Hi, Hs⟩, HO⟩
  iapply (wp_await (defs := defs) 𝒱 i d bd ι) $$ [HfA HO]
  · isplitl [HfA]; · iexact HfA
    isplitr; · iexact Hmw
    iexact HO
  iintro ⟨⟨Ha, Hsrc⟩, Hv, HO⟩
  iapply (wp_colSteps (defs := defs) 𝒱 i d bd Set.univ arg6 arg7 arg9 arg10 T hT (fun l c => Aa (baseRow i + l) c) ft hft _ R (32 * t.val) hR hA _
    (rows_apply r (laneA t) R (32 * t.val) hr (laneA_eq t)) (laneA t) (laneA_le t) (laneA_eq t) fi fs _ 40 le_rfl) $$ [Ht Ha Hi Hs]
  · rw [Nat.sub_self, colsTo_zero, colsTo_zero]
    isplitl [Ht]; · iexact Ht
    isplitl [Ha]; · iexact Ha
    isplitl [Hi]; · iexact Hi
    iexact Hs
  iintro ⟨Ht, Ha, Hi, Hs⟩
  ihave Ha := (reads_heldAny i d arg7 _) $$ Ha
  iapply (wp_fetch (defs := defs) 𝒱 i d bd (show 0 < S16x1024.numel by decide) ι _ (read_chunk arg3.view af Aa haf _ _ _ (k0_off84_eq i t))) $$ [Hsrc Ha Hv]
  · isplitl [Hsrc]; · iexact Hsrc
    isplitl [Ha]; · iexact Ha
    iexact Hv
  iintro HfA
  iapply (wp_await (defs := defs) 𝒱 i d bd ι) $$ [HfB HO]
  · isplitl [HfB]; · iexact HfB
    isplitr; · iexact Hmw
    iexact HO
  iintro ⟨⟨Ha, Hsrc⟩, Hv, HO⟩
  iapply (wp_colSteps (defs := defs) 𝒱 i d bd Set.univ arg6 arg8 arg9 arg10 T hT (fun l c => Aa (baseRow i + l) c) ft hft _ R (32 * t.val + 16) hR hB _
    (rows_apply r (laneB t) R (32 * t.val + 16) hr (laneB_eq t)) (laneB t) (laneB_le t) (laneB_eq t) _ _ _ 40 le_rfl) $$ [Ht Ha Hi Hs]
  · rw [Nat.sub_self, colsTo_zero, colsTo_zero]
    isplitl [Ht]; · iexact Ht
    isplitl [Ha]; · iexact Ha
    isplitl [Hi]; · iexact Hi
    iexact Hs
  iintro ⟨Ht, Ha, Hi, Hs⟩
  ihave Ha := (reads_heldAny i d arg8 _) $$ Ha
  iapply (wp_fetch (defs := defs) 𝒱 i d bd (show 0 < S16x1024.numel by decide) ι _ (read_chunk arg3.view af Aa haf _ _ _ (k0_off166_eq i t))) $$ [Hsrc Ha Hv]
  · isplitl [Hsrc]; · iexact Hsrc
    isplitl [Ha]; · iexact Ha
    iexact Hv
  iintro HfB
  rw [wp_ret]; imodintro
  isplitr; · iexact Hmw
  isplitl [Ht]; · iexact Ht
  isplitl [HfA]; · iexact HfA
  isplitl [HfB]; · iexact HfB
  isplitl [Hi Hs]
  · iexists _; iexists _
    isplitr
    rotate_left
    · isplitr
      rotate_left
      · isplitl [Hi]; · iexact Hi
        iexact Hs
      · ipureintro
        exact doneTo_cols (u := uS T R Aa (baseRow i)) (doneTo_cols (u := uS T R Aa (baseRow i)) hfs)
    · ipureintro
      exact doneTo_cols (u := uI T R) (doneTo_cols (u := uI T R) hfi)
  · iexact HO

/-- Where a tile's forty-eight rows of the indices lie in the result, and where those of the logits. -/
abbrev outI : Memref sig .scVector .hbm S48x128 .i32 := (arg4.slice (Rect.unit (s := S32x48x128) (k0_off168 i) S1x48x128.size (k0_off168_inb i)) (fun _ => rfl)).squeeze S48x128 squeezes_S1x48x128_S48x128
abbrev outS : Memref sig .scVector .hbm S48x128 .f32 := (arg5.slice (Rect.unit (s := S32x48x128) (k0_off168 i) S1x48x128.size (k0_off168_inb i)) (fun _ => rfl)).squeeze S48x128 squeezes_S1x48x128_S48x128

/-- A tile, from the two arrays it reads, its parts of the two results, and its own buffers and semaphores: it leaves the
    positions and the logits in its parts, and everything else as it was. -/
theorem wp_tile (hT : ∀ k, k < 8192 → (T k).toNat < 1024) (hR : R + 128 ≤ 1024)
    (haf : ∀ x, arg3.view.read (Elt F) af x = Aa (x 0).val (x 1).val) (hr : (rowWord i).toNat = R)
    (o1 : Fin 1 → Nat) (ho1 : ∀ a, o1 a + S8192.size a ≤ S65536.size a)
    (qp : PosShare TreeShare) (pf : Buf (Elt F) (arg2.view.loc (thr d i)))
    (hpf : ∀ x : S8192.Idx, (arg2.slice (Rect.unit (s := S65536) o1 S8192.size ho1) (fun _ => rfl)).view.read (Elt F) pf x = T (x 0).val)
    (f4 : Buf (Elt F) (arg4.view.loc (thr d i))) (f5 : Buf (Elt F) (arg5.view.loc (thr d i))) :
    (iprop(MayWaits (thr d i) ι O ∗ (arg2.view.loc (thr d i) ↦{qp} pf) ∗ (arg3.view.loc (thr d i) ↦{qa} af) ∗ (arg3.view.loc (thr d i) ↦{qb} af)
        ∗ (arg4.view.loc (thr d i) ↦[(outI i arg4).view.set]{fullShare} f4) ∗ (arg5.view.loc (thr d i) ↦[(outS i arg5).view.set]{fullShare} f5)
        ∗ heldAny i d arg6 ∗ heldAny i d arg7 ∗ heldAny i d arg8 ∗ heldAny i d arg9 ∗ heldAny i d arg10
        ∗ semVal (thr d i, .dma arg11.sem) 0 ∗ semVal (thr d i, .dma arg12.sem) 0 ∗ semVal (thr d i, .dma v306_r0.sem) 0
        ∗ semVal (thr d i, .dma v306_r1.sem) 0 ∗ semVal (thr d i, .dma v306_r2.sem) 0 ∗ owesUp i d ι O W) : sProp 𝕄)
      ⊢ wp frame (wpE defs 𝒱 (thr d i) bd) Set.univ
          (tileBody i arg2 arg3 arg4 arg5 arg6 harg6 arg7 harg7 arg8 harg8 arg9 harg9 arg10 harg10 arg11 arg12 v306_r0 v306_r1 v306_r2 o1 ho1)
          (fun _ => iprop((arg2.view.loc (thr d i) ↦{qp} pf) ∗ (arg3.view.loc (thr d i) ↦{qa} af) ∗ (arg3.view.loc (thr d i) ↦{qb} af)
            ∗ (arg4.view.loc (thr d i) ↦[(outI i arg4).view.set]{fullShare} (outI i arg4).view.write (Elt F) f4 (full (uI T R) (0#32 : BitVec 32)) Finset.univ)
            ∗ (arg5.view.loc (thr d i) ↦[(outS i arg5).view.set]{fullShare} (outS i arg5).view.write (Elt F) f5 (full (uS T R Aa (baseRow i)) padZ) Finset.univ)
            ∗ heldAny i d arg6 ∗ heldAny i d arg7 ∗ heldAny i d arg8 ∗ heldAny i d arg9 ∗ heldAny i d arg10
            ∗ semVal (thr d i, .dma arg11.sem) 0 ∗ semVal (thr d i, .dma arg12.sem) 0 ∗ semVal (thr d i, .dma v306_r0.sem) 0
            ∗ semVal (thr d i, .dma v306_r1.sem) 0 ∗ semVal (thr d i, .dma v306_r2.sem) 0 ∗ owesUp i d ι O W)) := by
  unfold tileBody
  simp only [Prog.lift, Prog.bind_op, Prog.bind_ret, Prog.pure_eq_ret]
  iintro ⟨#Hmw, Hp, HaA, HaB, H4, H5, Hb6, Hb7, Hb8, Hb9, Hb10, Hv11, Hv12, Hv0, Hv1, Hv2, HO⟩
  -- the table
  iapply (wp_fetch (defs := defs) 𝒱 i d bd (show 0 < S8192.numel by decide) ι _ rfl) $$ [Hp Hb6 Hv0]
  · isplitl [Hp]; · iexact Hp
    isplitl [Hb6]; · iexact Hb6
    iexact Hv0
  iintro Hf
  iapply (wp_await (defs := defs) 𝒱 i d bd ι) $$ [Hf HO]
  · isplitl [Hf]; · iexact Hf
    isplitr; · iexact Hmw
    iexact HO
  iintro ⟨⟨Ht, Hp⟩, Hv0, HO⟩
  -- the first two chunks
  iapply (wp_fetch (defs := defs) 𝒱 i d bd (show 0 < S16x1024.numel by decide) ι _ (read_chunk arg3.view af Aa haf _ _ _ (k0_off2_eq i 0))) $$ [HaA Hb7 Hv11]
  · isplitl [HaA]; · iexact HaA
    isplitl [Hb7]; · iexact Hb7
    iexact Hv11
  iintro HfA
  iapply (wp_fetch (defs := defs) 𝒱 i d bd (show 0 < S16x1024.numel by decide) ι _ (read_chunk arg3.view af Aa haf _ _ _ (k0_off2_eq i 1))) $$ [HaB Hb8 Hv12]
  · isplitl [HaB]; · iexact HaB
    isplitl [Hb8]; · iexact Hb8
    iexact Hv12
  iintro HfB
  -- the trips
  ihave H9 := (heldAny_reads i d arg9) $$ Hb9
  ihave H10 := (heldAny_reads i d arg10) $$ Hb10
  icases H9 with ⟨%g9, H9⟩
  icases H10 with ⟨%g10, H10⟩
  iapply (Scf.wp_for_bind frame (wpE defs 𝒱 (thr d i) bd) Set.univ _ _ _ k0_t1_ok ⟨⟩ _
    (inv i d arg3 arg6 arg7 arg8 arg9 arg10 arg11 arg12 T R Aa _ qa qb af ι O W)
    (wp_trip 𝒱 i d bd arg3 arg6 arg7 harg7 arg8 harg8 arg9 arg10 arg11 arg12 T R Aa _ qa qb af ι O W hT hpf hR haf (rowWord i) hr)) $$ [Ht HfA HfB H9 H10 HO]
  · unfold inv
    isplitr; · iexact Hmw
    isplitl [Ht]; · iexact Ht
    isplitl [HfA]; · iexact HfA
    isplitl [HfB]; · iexact HfB
    isplitl [H9 H10]
    · iexists g9; iexists g10
      isplitr; · ipureintro; exact doneTo_zero _ _
      isplitr; · ipureintro; exact doneTo_zero _ _
      isplitl [H9]; · iexact H9
      iexact H10
    · iexact HO
  iintro %_ HI
  rw [show Scf.trips k0_t1_loop.lb k0_t1_loop.ub k0_t1_loop.st = 4 from trips_eq]
  unfold inv
  icases HI with ⟨-, Ht, HfA, HfB, ⟨%fi, %fs, %hfi, %hfs, Hi, Hs⟩, HO⟩
  -- the two chunks the last trip fetched again
  iapply (wp_await (defs := defs) 𝒱 i d bd ι) $$ [HfA HO]
  · isplitl [HfA]; · iexact HfA
    isplitr; · iexact Hmw
    iexact HO
  iintro ⟨⟨Hb7, HaA⟩, Hv11, HO⟩
  iapply (wp_await (defs := defs) 𝒱 i d bd ι) $$ [HfB HO]
  · isplitl [HfB]; · iexact HfB
    isplitr; · iexact Hmw
    iexact HO
  iintro ⟨⟨Hb8, HaB⟩, Hv12, HO⟩
  -- the padding rows
  iapply (wp_padSteps (defs := defs) 𝒱 i d bd Set.univ arg9 arg10 fi fs _ 64 le_rfl) $$ [Hi Hs]
  · rw [Nat.sub_self, padTo_zero, padTo_zero]
    isplitl [Hi]; · iexact Hi
    iexact Hs
  rw [padTo_done hfi, padTo_done hfs]
  iintro ⟨Hi, Hs⟩
  -- the results
  iapply (wp_put (defs := defs) 𝒱 i d bd (show 0 < S48x128.numel by decide) ι _) $$ [Hi H4 Hv1]
  · isplitl [Hi]; · iexact Hi
    isplitl [H4]; · iexact H4
    iexact Hv1
  iintro Hf
  iapply (wp_await (defs := defs) 𝒱 i d bd ι) $$ [Hf HO]
  · isplitl [Hf]; · iexact Hf
    isplitr; · iexact Hmw
    iexact HO
  iintro ⟨⟨H4, Hb9⟩, Hv1, HO⟩
  iapply (wp_put (defs := defs) 𝒱 i d bd (show 0 < S48x128.numel by decide) ι _) $$ [Hs H5 Hv2]
  · isplitl [Hs]; · iexact Hs
    isplitl [H5]; · iexact H5
    iexact Hv2
  iintro Hf
  iapply (wp_await (defs := defs) 𝒱 i d bd ι) $$ [Hf HO]
  · isplitl [Hf]; · iexact Hf
    isplitr; · iexact Hmw
    iexact HO
  iintro ⟨⟨H5, Hb10⟩, Hv2, HO⟩
  rw [wp_ret]; imodintro
  ihave Hb6 := (reads_heldAny i d arg6 _) $$ Ht
  ihave Hb7 := (reads_heldAny i d arg7 _) $$ Hb7
  ihave Hb8 := (reads_heldAny i d arg8 _) $$ Hb8
  iframe Hp HaA HaB H4 H5 Hb6 Hb7 Hb8 Hb9 Hb10 Hv11 Hv12 Hv0 Hv1 Hv2 HO

end Rules

end Cert.Proof.Body
-- ==== Proof.Dense.lean ====
/-
  A tile's run of a dense call: its weights and words fetched, the buffer zeroed, and for each of its eight chunks the
  columns put, the sixteen rows written out and the columns wiped, which leaves the buffer zero for the next chunk.
-/
module

public import proofs.«01_k».proof.Proof.DenseStep
public import proofs.«01_k».proof.Proof.Tile

@[expose] public section

noncomputable section

namespace Cert.Proof.Body

open Cert.KernelIdeal Cert.KernelIdeal.Gen
open Idealize.ShloMosaic
open Idealize.ShloMosaic.Transfers
open Idealize.ShloMosaic.ScatterToDense (GS)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The dense row of lane `l`: zero, but at the column a word names its weight, the last where several name it. -/
def denseN (W : Nat → Nat → BitVec 32) (V : Nat → Nat → Elt F .f32) (l n : Nat) : Elt F .f32 :=
  GS (fun c => W c l) (fun c => V c l) (padZ (F := F)) n 40

/-- Sixteen rows written into an array of dense rows. -/
theorem read_write_chunk {κ : Kind} {sp : Space} {e : EltTy} (v : View sig κ sp S4096x1024 e) (f : v.ty.Contents (Elt F)) (off : Fin 2 → Nat)
    (inb : ∀ a, off a + S16x1024.size a ≤ S4096x1024.size a) (o : Nat) (hoff : off = ![o, 0]) (g : S16x1024.Idx → Elt F e) (u : Nat → Nat → Elt F e)
    (hg : ∀ y : S16x1024.Idx, g y = u (o + (y 0).val) (y 1).val) (x : S4096x1024.Idx) :
    v.read (Elt F) ((v.slice (Rect.unit (s := S4096x1024) off S16x1024.size inb)).write (Elt F) f g Finset.univ) x
      = if o ≤ (x 0).val ∧ (x 0).val < o + 16 then u (x 0).val (x 1).val else v.read (Elt F) f x := by
  have h := View.read_writes_cons_unit (Val := Elt F) v f inb g [] x hoff
  rw [View.writes_cons, View.writes_nil] at h
  rw [h]
  have hx1 : (x 1).val < 1024 := (x 1).isLt
  by_cases hx : o ≤ (x 0).val ∧ (x 0).val < o + 16
  · rw [if_pos hx, dif_pos (by
      intro a
      match a with
      | 0 => exact hx
      | 1 => exact ⟨Nat.zero_le _, by show (x 1).val < 0 + 1024; omega⟩)]
    refine (hg _).trans ?_
    show u (o + ((x 0).val - o)) ((x 1).val - 0) = _
    rw [Nat.sub_zero, show o + ((x 0).val - o) = (x 0).val by omega]
  · rw [if_neg hx, dif_neg (fun hh => hx (hh 0))]

section Rules

variable {Ix : Type} [DecidableEq Ix] {Name : Type} [DecidableEq Name] [Infinite Name] {U : Type} [URA U] [CountersIn U] {Lvl : Type} [Preorder Lvl]
variable {defs : Defs nD τ sig (Elt F) Λ₀} (𝒱 : Variants) (i : grid0.Coords) (d : Dev nD)

local notation "𝕄" => MT nD τ sig Ix (Elt F) Name U Lvl

variable (bd : Option 𝒱.V) {α : Type} {Q : α → sProp (MT nD τ sig Ix (Elt F) Name U Lvl)}

/-- Starting a copy of a buffer held whole into a part of what is held of another. -/
theorem wp_putIn {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (τ := τ) (p := (thr d i).2) sp sm (.here dst)}
    {k : PUnit → TP (F := F) i α} {Sd : Finset (Idx (dst.view.loc (thr d i)))} {fd : Buf (Elt F) (dst.view.loc (thr d i))}
    (hs : 0 < s.numel) (ι : Ix) (g : s.Idx → Elt F e) (hSd : dst.view.set ⊆ Sd) :
    (iprop(reads i d src g ∗ (dst.view.loc (thr d i) ↦[Sd]{fullShare} fd) ∗ semVal (thr d i, sm) 0) : sProp 𝕄)
      ⊢ iprop((Flight EC (thr d i) sm ι (dst.view.amount sm)
                iprop((dst.view.loc (thr d i) ↦[Sd]{fullShare} (dst.view.write (Elt F) fd g Finset.univ)) ∗ reads i d src g)
              -∗ wp frame (wpE defs 𝒱 (thr d i) bd) Set.univ (k ⟨⟩) Q)
          -∗ wp frame (wpE defs 𝒱 (thr d i) bd) Set.univ (.op (.enqueueDma src (.here dst) sm hsrc hdst hsem) k) Q) := by
  unfold reads
  iintro ⟨⟨%f, %hf, Hs⟩, Hd, Hv⟩ Hk
  iapply (wp_dmaFromWhole EC 𝒱 (thr d i) bd (Sd := Sd) ι (dst.view.amount sm) rfl (View.amount_pos _ _ hs) hSd) $$ [Hs Hd Hv]
  · iframe Hs Hd Hv
  iintro Hf
  iapply Hk
  iapply (Flight_mono EC (thr d i) ?h) $$ Hf
  case h =>
    iintro ⟨Hd, Hs⟩
    isplitl [Hd]
    · subst hf; iexact Hd
    · iexists f; isplitr
      · ipureintro; exact hf
      · iexact Hs

variable (arg2 : Memref sig .scVector .hbm S32x48x128 .f32) (harg2 : arg2.IsWhole) (arg3 : Memref sig .scVector .hbm S32x48x128 .i32) (harg3 : arg3.IsWhole) (arg4 : Memref sig .scVector .hbm S4096x1024 .f32) (harg4 : arg4.IsWhole) (arg5 : Memref sig .scVector .vmem S48x128 .f32) (harg5 : arg5.IsWhole) (arg6 : Memref sig .scVector .vmem S48x128 .i32) (harg6 : arg6.IsWhole) (arg7 : Memref sig .scVector .vmem S16x1024 .f32) (harg7 : arg7.IsWhole) (v7_r0 : DmaSems sig S_) (v7_r1 : DmaSems sig S_) (v690_r2 : DmaSems sig S_)

variable (W : Nat → Nat → BitVec 32) (V : Nat → Nat → Elt F .f32) (gw : S48x128.Idx → Elt F .f32) (gs : S48x128.Idx → Elt F .i32)
variable (Sd : Finset (Idx (arg4.view.loc (thr d i)))) (ι : Ix) (O : CellTallies nD τ sig Ix) (Ws : Waits sig Ix)

/-- A chunk's sixteen rows in the result. -/
abbrev outD (t : Fin k2_t2_loop.trips) : Memref sig .scVector .hbm S16x1024 .f32 :=
  arg4.slice (Rect.unit (s := S4096x1024) (k2_off58 i t) S16x1024.size (k2_off58_inb i t)) (fun _ => rfl)
/-- A tile's weights, or words, in the array of all of them. -/
abbrev inC {e : EltTy} (a : Memref sig .scVector .hbm S32x48x128 e) : Memref sig .scVector .hbm S48x128 e :=
  (a.slice (Rect.unit (s := S32x48x128) (k2_off1 i) S1x48x128.size (k2_off1_inb i)) (fun _ => rfl)).squeeze S48x128 squeezes_S1x48x128_S48x128

/-- Before trip `n` of the zeros: the first `16 n` columns of the buffer are zero. -/
def zinv (n : Nat) (_ : Unit) : sProp 𝕄 :=
  iprop(∃ f, ⌜∀ x : S16x1024.Idx, (x 1).val < 16 * n → f x = padZ⌝ ∗ reads i d arg7 f)

theorem wp_zeroTrip (t : Fin k2_t1_loop.trips) (u : Unit) :
    (zinv i d arg7 t.val u : sProp 𝕄) ⊢ wp frame (wpE defs 𝒱 (thr d i) bd) Set.univ (zeroBody i arg7 t u) (zinv i d arg7 (t.val + 1)) := by
  unfold zinv zeroBody
  iintro ⟨%f, %hf, H⟩
  iapply (wp_zeroSteps (defs := defs) 𝒱 i d bd Set.univ arg7 f (blkW t) (blkW_le t) _ 16 le_rfl) $$ [H]
  · rw [Nat.sub_self, blkTo_zero]; iexact H
  iintro H
  simp only [Prog.pure_eq_ret]
  rw [wp_ret]; imodintro
  iexists _; isplitr
  swap
  · iexact H
  · ipureintro
    intro x hx
    have h0 : (x 0).val < 16 := (x 0).isLt
    have hb := blkW_eq t
    unfold blkTo
    by_cases hx' : (x 0).val < 16 ∧ (blkW t).toNat ≤ (x 1).val ∧ (x 1).val < (blkW t).toNat + 16
    · rw [if_pos hx']
    · rw [if_neg hx']; exact hf x (by omega)

/-- Before chunk `n`: the buffer is zero, and the tile's first `16 n` rows are written. -/
def dinv (n : Nat) (_ : Unit) : sProp 𝕄 :=
  iprop(MayWaits (thr d i) ι O ∗ reads i d arg5 gw ∗ reads i d arg6 gs ∗ reads i d arg7 (fun _ => padZ (F := F))
    ∗ (∃ f, ⌜∀ x : S4096x1024.Idx, baseRow i ≤ (x 0).val → (x 0).val < baseRow i + 16 * n → arg4.view.read (Elt F) f x = denseN W V ((x 0).val - baseRow i) (x 1).val⌝
        ∗ (arg4.view.loc (thr d i) ↦[Sd]{fullShare} f))
    ∗ semVal (thr d i, .dma v690_r2.sem) 0 ∗ owesUp i d ι O Ws)

theorem wp_denseTrip (hW : ∀ l, l < 128 → ∀ c, c < 40 → (W c l).toInt < 1024) (hgw : ∀ x, gw x = V (x 0).val (x 1).val) (hgs : ∀ x, gs x = W (x 0).val (x 1).val)
    (hSd : ∀ t, (outD i arg4 t).view.set ⊆ Sd) (t : Fin k2_t2_loop.trips) (u : Unit) :
    (dinv i d arg4 arg5 arg6 arg7 v690_r2 W V gw gs Sd ι O Ws t.val u : sProp 𝕄)
      ⊢ wp frame (wpE defs 𝒱 (thr d i) bd) Set.univ (denseTrip i arg4 arg5 arg6 arg7 harg7 v690_r2 lanes t u)
          (dinv i d arg4 arg5 arg6 arg7 v690_r2 W V gw gs Sd ι O Ws (t.val + 1)) := by
  have hlo := chkW_eq t
  unfold dinv denseTrip
  simp only [Prog.lift, Prog.bind_op, Prog.bind_ret, Prog.pure_eq_ret]
  iintro ⟨#Hmw, H5, H6, H7, ⟨%f, %hf, H4⟩, Hv, HO⟩
  iapply (wp_putSteps (defs := defs) 𝒱 i d bd Set.univ arg5 arg6 arg7 W V gw gs hW hgw hgs (chkW t) (chkW_le t) (fun _ => padZ) _ 40 le_rfl) $$ [H5 H6 H7]
  · rw [Nat.sub_self, candTo_zero]
    isplitl [H5]; · iexact H5
    isplitl [H6]; · iexact H6
    iexact H7
  iintro ⟨H5, H6, H7⟩
  iapply (wp_putIn (defs := defs) 𝒱 i d bd (dst := outD i arg4 t) (show 0 < S16x1024.numel by decide) ι _ (hSd t)) $$ [H7 H4 Hv]
  · isplitl [H7]; · iexact H7
    isplitl [H4]; · iexact H4
    iexact Hv
  iintro Hf
  iapply (wp_await (defs := defs) 𝒱 i d bd ι) $$ [Hf HO]
  · isplitl [Hf]; · iexact Hf
    isplitr; · iexact Hmw
    iexact HO
  iintro ⟨⟨H4, H7⟩, Hv, HO⟩
  iapply (wp_wipeSteps (defs := defs) 𝒱 i d bd Set.univ arg6 arg7 W gs hW hgs (chkW t) (chkW_le t) _ _ 40 le_rfl) $$ [H6 H7]
  · rw [Nat.sub_self, candTo_zero]
    isplitl [H6]; · iexact H6
    iexact H7
  rw [candTo_wipe]
  iintro ⟨H6, H7⟩
  rw [wp_ret]; imodintro
  isplitr; · iexact Hmw
  isplitl [H5]; · iexact H5
  isplitl [H6]; · iexact H6
  isplitl [H7]; · iexact H7
  isplitl [H4]
  · iexists _; isplitr
    swap
    · iexact H4
    · ipureintro
      intro x hx0 hx1
      have hr := read_write_chunk (F := F) arg4.view f (k2_off58 i t) (k2_off58_inb i t) (baseRow i + 16 * t.val) (k2_off58_eq i t)
        (candTo (fun _ => padZ) (chkW t).toNat W V 40) (fun r n => denseN W V (r - baseRow i) n) (fun y => by
          show GS (fun c => W c ((chkW t).toNat + (y 0).val)) (fun c => V c ((chkW t).toNat + (y 0).val)) _ _ _ = _
          rw [hlo]
          show _ = denseN W V (baseRow i + 16 * t.val + (y 0).val - baseRow i) (y 1).val
          rw [show baseRow i + 16 * t.val + (y 0).val - baseRow i = 16 * t.val + (y 0).val by omega]
          rfl) x
      refine hr.trans ?_
      by_cases h : baseRow i + 16 * t.val ≤ (x 0).val ∧ (x 0).val < baseRow i + 16 * t.val + 16
      · rw [if_pos h]
      · rw [if_neg h]; exact hf x hx0 (by omega)
  isplitl [Hv]; · iexact Hv
  iexact HO

/-- A tile of a dense call: its rows of the result are written, everything else is as it was. -/
theorem wp_dense (hW : ∀ l, l < 128 → ∀ c, c < 40 → (W c l).toInt < 1024) (hSd : ∀ t, (outD i arg4 t).view.set ⊆ Sd)
    (qw qs : PosShare TreeShare) (wf : Buf (Elt F) (arg2.view.loc (thr d i))) (sf : Buf (Elt F) (arg3.view.loc (thr d i)))
    (hwf : ∀ x, (inC i arg2).view.read (Elt F) wf x = V (x 0).val (x 1).val) (hsf : ∀ x, (inC i arg3).view.read (Elt F) sf x = W (x 0).val (x 1).val)
    (f4 : Buf (Elt F) (arg4.view.loc (thr d i))) :
    (iprop(MayWaits (thr d i) ι O ∗ (arg2.view.loc (thr d i) ↦{qw} wf) ∗ (arg3.view.loc (thr d i) ↦{qs} sf) ∗ (arg4.view.loc (thr d i) ↦[Sd]{fullShare} f4)
        ∗ heldAny i d arg5 ∗ heldAny i d arg6 ∗ heldAny i d arg7
        ∗ semVal (thr d i, .dma v7_r0.sem) 0 ∗ semVal (thr d i, .dma v7_r1.sem) 0 ∗ semVal (thr d i, .dma v690_r2.sem) 0 ∗ owesUp i d ι O Ws) : sProp 𝕄)
      ⊢ wp frame (wpE defs 𝒱 (thr d i) bd) Set.univ
          (denseBody i arg2 arg3 arg4 arg5 harg5 arg6 harg6 arg7 harg7 v7_r0 v7_r1 v690_r2)
          (fun _ => iprop((arg2.view.loc (thr d i) ↦{qw} wf) ∗ (arg3.view.loc (thr d i) ↦{qs} sf)
            ∗ (∃ f, ⌜∀ x : S4096x1024.Idx, baseRow i ≤ (x 0).val → (x 0).val < baseRow i + 128 → arg4.view.read (Elt F) f x = denseN W V ((x 0).val - baseRow i) (x 1).val⌝
                ∗ (arg4.view.loc (thr d i) ↦[Sd]{fullShare} f))
            ∗ heldAny i d arg5 ∗ heldAny i d arg6 ∗ heldAny i d arg7
            ∗ semVal (thr d i, .dma v7_r0.sem) 0 ∗ semVal (thr d i, .dma v7_r1.sem) 0 ∗ semVal (thr d i, .dma v690_r2.sem) 0 ∗ owesUp i d ι O Ws)) := by
  unfold denseBody
  simp only [Prog.lift, Prog.bind_op, Prog.bind_ret, Prog.pure_eq_ret]
  iintro ⟨#Hmw, Hw, Hs, H4, H5, H6, H7, Hv0, Hv1, Hv2, HO⟩
  iapply (wp_fetch (defs := defs) 𝒱 i d bd (show 0 < S48x128.numel by decide) ι _ rfl) $$ [Hw H5 Hv0]
  · isplitl [Hw]; · iexact Hw
    isplitl [H5]; · iexact H5
    iexact Hv0
  iintro Hf
  iapply (wp_await (defs := defs) 𝒱 i d bd ι) $$ [Hf HO]
  · isplitl [Hf]; · iexact Hf
    isplitr; · iexact Hmw
    iexact HO
  iintro ⟨⟨H5, Hw⟩, Hv0, HO⟩
  iapply (wp_fetch (defs := defs) 𝒱 i d bd (show 0 < S48x128.numel by decide) ι _ rfl) $$ [Hs H6 Hv1]
  · isplitl [Hs]; · iexact Hs
    isplitl [H6]; · iexact H6
    iexact Hv1
  iintro Hf
  iapply (wp_await (defs := defs) 𝒱 i d bd ι) $$ [Hf HO]
  · isplitl [Hf]; · iexact Hf
    isplitr; · iexact Hmw
    iexact HO
  iintro ⟨⟨H6, Hs⟩, Hv1, HO⟩
  -- the zeros
  ihave H7 := (heldAny_reads i d arg7) $$ H7
  icases H7 with ⟨%g7, H7⟩
  iapply (Scf.wp_for_bind frame (wpE defs 𝒱 (thr d i) bd) Set.univ _ _ _ k2_t1_ok ⟨⟩ _ (zinv i d arg7) (wp_zeroTrip 𝒱 i d bd arg7)) $$ [H7]
  · unfold zinv
    iexists g7; isplitr
    · ipureintro; intro x hx; exact absurd hx (Nat.not_lt_zero _)
    · iexact H7
  iintro %_ HI
  rw [show Scf.trips k2_t1_loop.lb k2_t1_loop.ub k2_t1_loop.st = 64 from blk_trips]
  unfold zinv
  icases HI with ⟨%f7, %hf7, H7⟩
  rw [show f7 = fun _ => padZ (F := F) from funext fun x => hf7 x (by have := (x 1).isLt; show (x 1).val < 1024; exact this)]
  -- the chunks
  iapply (Scf.wp_for_bind frame (wpE defs 𝒱 (thr d i) bd) Set.univ _ _ _ k2_t2_ok ⟨⟩ _
    (dinv i d arg4 arg5 arg6 arg7 v690_r2 W V _ _ Sd ι O Ws)
    (wp_denseTrip 𝒱 i d bd arg4 arg5 arg6 arg7 harg7 v690_r2 W V _ _ Sd ι O Ws hW hwf hsf hSd)) $$ [H5 H6 H7 H4 Hv2 HO]
  · unfold dinv
    isplitr; · iexact Hmw
    isplitl [H5]; · iexact H5
    isplitl [H6]; · iexact H6
    isplitl [H7]; · iexact H7
    isplitl [H4]
    · iexists f4; isplitr
      · ipureintro; intro x h0 h1; exact absurd h1 (by omega)
      · iexact H4
    isplitl [Hv2]; · iexact Hv2
    iexact HO
  iintro %_ HI
  rw [show Scf.trips k2_t2_loop.lb k2_t2_loop.ub k2_t2_loop.st = 8 from chk_trips]
  unfold dinv
  icases HI with ⟨-, H5, H6, H7, ⟨%f, %hf, H4⟩, Hv2, HO⟩
  rw [wp_ret]; imodintro
  ihave H5 := (reads_heldAny i d arg5 _) $$ H5
  ihave H6 := (reads_heldAny i d arg6 _) $$ H6
  ihave H7 := (reads_heldAny i d arg7 _) $$ H7
  isplitl [Hw]; · iexact Hw
  isplitl [Hs]; · iexact Hs
  isplitl [H4]
  · iexists f; isplitr
    · ipureintro; exact hf
    · iexact H4
  iframe H5 H6 H7 Hv0 Hv1 Hv2 HO

end Rules

end Cert.Proof.Body
-- ==== Proof.Spec.lean ====
/-
  What the results of a call hold, element by element, from the arrays it reads, and that a tile's
  writes put that in its part of each.
-/
module

public import proofs.«01_k».proof.Proof.Dense

@[expose] public section

noncomputable section

namespace Cert.Proof.Body

open Cert.KernelIdeal Cert.KernelIdeal.Gen
open Idealize.ShloMosaic
open ValueIdx (ix1 ix2 ix3)

variable {F : FTy → Type} [FloatOps F]

/-- The word `k` of batch `b`'s table of previous indices. -/
def tableN (pf : S65536.Idx → BitVec 32) (b k : Nat) : BitVec 32 := pf (ix1 ⟨(8192 * b + k) % 65536, Nat.mod_lt _ (by decide)⟩)

/-- The logit of row `r` at column `c`. -/
def logitN {α : Type} (af : S4096x1024.Idx → α) (r c : Nat) : α := af (ix2 ⟨r % 4096, Nat.mod_lt _ (by decide)⟩ ⟨c % 1024, Nat.mod_lt _ (by decide)⟩)

/-- The word of tile `w` at column `c`, lane `l`. -/
def wordN {α : Type} (f : S32x48x128.Idx → α) (w c l : Nat) : α :=
  f (ix3 ⟨w % 32, Nat.mod_lt _ (by decide)⟩ ⟨c % 48, Nat.mod_lt _ (by decide)⟩ ⟨l % 128, Nat.mod_lt _ (by decide)⟩)

/-- The positions of the four batches from `b0`: of tile `w`, column `c`, lane `l`, the `c`-th neighbour position of row
    `128 (w % 8) + l` of batch `b0 + w / 8`, and zero in the padding columns. -/
def posSpec (b0 : Nat) (pf : S65536.Idx → BitVec 32) : S32x48x128.Idx → BitVec 32 := fun x =>
  full (uI (tableN pf (b0 + (x 0).val / 8)) ((x 0).val % 8 * 128)) (0#32 : BitVec 32) (ix2 (x 1) (x 2))

/-- The logits at those positions, zero in the padding columns. -/
def selSpec (b0 : Nat) (pf : S65536.Idx → BitVec 32) (af : S4096x1024.Idx → Elt F .f32) : S32x48x128.Idx → Elt F .f32 := fun x =>
  full (uS (tableN pf (b0 + (x 0).val / 8)) ((x 0).val % 8 * 128) (logitN af) (128 * (x 0).val)) (padZ (F := F)) (ix2 (x 1) (x 2))

/-- The dense rows: row `r` has the weights of tile `r / 128`, lane `r % 128`, at the columns its words name. -/
def denseSpec (wf : S32x48x128.Idx → Elt F .f32) (sf : S32x48x128.Idx → BitVec 32) : S4096x1024.Idx → Elt F .f32 := fun x =>
  denseN (wordN sf ((x 0).val / 128)) (wordN wf ((x 0).val / 128)) ((x 0).val % 128) (x 1).val

/-! ## A tile's part -/

/-- The number of a tile. -/
def wid (i : grid0.Coords) : Nat := 16 * (i 0).val + (i 1).val

theorem wid_lt (i : grid0.Coords) : wid i < 32 := by
  have h0 : (i 0).val < 2 := (i 0).isLt
  have h1 : (i 1).val < 16 := (i 1).isLt
  unfold wid; omega

/-- The elements of a result that tile `w` writes. -/
def tileSet (w : Nat) : Finset S32x48x128.Idx := Finset.univ.filter fun x => (x 0).val = w

/-- The rows of a dense result that tile `w` writes. -/
def rowSet (w : Nat) : Finset S4096x1024.Idx := Finset.univ.filter fun x => (x 0).val / 128 = w

/-- A tile's part as the kernel slices it places an element of its own at the tile's number. -/
theorem place_out (i : grid0.Coords) (off : Fin 3 → Nat) (inb : ∀ a, off a + S1x48x128.size a ≤ S32x48x128.size a)
    (e : off = ![16 * (i 0).val + (i 1).val, 0, 0]) (x : S48x128.Idx) :
    (Rect.unit (s := S32x48x128) off S1x48x128.size inb).emb (Shape.reshapeEquiv squeezes_S1x48x128_S48x128.numel_eq x)
      = (ix3 ⟨wid i, wid_lt i⟩ (x 0) (x 1) : S32x48x128.Idx) := by
  have hr : Shape.reshapeEquiv squeezes_S1x48x128_S48x128.numel_eq x = (ix3 (0 : Fin 1) (x 0) (x 1) : S1x48x128.Idx) :=
    (congrArg (Shape.reshapeEquiv squeezes_S1x48x128_S48x128.numel_eq) (ValueIdx.eq_ix2 x)).trans (ValueIdx.reshapeEquiv_ix2_1ab _ (x 0) (x 1))
  refine (congrArg (Rect.unit (s := S32x48x128) off S1x48x128.size inb).emb hr).trans ?_
  subst e
  funext a
  apply Fin.ext
  match a with
  | ⟨0, _⟩ => rfl
  | ⟨1, _⟩ => show 0 + 1 * (x 0).val = (x 0).val; omega
  | ⟨2, _⟩ => show 0 + 1 * (x 1).val = (x 1).val; omega

/-- An element of a tile's part is where the tile's own element of the same column and lane is placed. -/
theorem place_at (i : grid0.Coords) {y : S32x48x128.Idx} (hy : y ∈ tileSet (wid i)) : (ix3 ⟨wid i, wid_lt i⟩ (y 1) (y 2) : S32x48x128.Idx) = y := by
  rw [show (⟨wid i, wid_lt i⟩ : Fin 32) = y 0 from Fin.ext (Finset.mem_filter.mp hy).2.symm]
  exact (ValueIdx.eq_ix3 y).symm

/-- The elements so placed are the tile's part. -/
theorem mem_placed (i : grid0.Coords) (f : S48x128.Idx → S32x48x128.Idx) (hf : ∀ x, f x = ix3 ⟨wid i, wid_lt i⟩ (x 0) (x 1)) (y : S32x48x128.Idx) :
    (∃ x, x ∈ Finset.univ ∧ f x = y) ↔ y ∈ tileSet (wid i) := by
  constructor
  · rintro ⟨x, -, rfl⟩
    exact Finset.mem_filter.mpr ⟨Finset.mem_univ _, congrArg (fun z : S32x48x128.Idx => (z 0).val) (hf x)⟩
  · intro hy
    exact ⟨ix2 (y 1) (y 2), Finset.mem_univ _, (hf _).trans (place_at i hy)⟩

/-- On a tile's part the positions are the tile's, -/
theorem posSpec_at (b0 : Nat) (pf : S65536.Idx → BitVec 32) (i : grid0.Coords) {y : S32x48x128.Idx} (hy : y ∈ tileSet (wid i)) :
    full (uI (tableN pf (b0 + wid i / 8)) (wid i % 8 * 128)) (0#32 : BitVec 32) (ix2 (y 1) (y 2) : S48x128.Idx) = posSpec b0 pf y := by
  unfold posSpec; rw [(Finset.mem_filter.mp hy).2]

/-- and so the logits, -/
theorem selSpec_at (b0 : Nat) (pf : S65536.Idx → BitVec 32) (af : S4096x1024.Idx → Elt F .f32) (i : grid0.Coords) {y : S32x48x128.Idx} (hy : y ∈ tileSet (wid i)) :
    full (uS (tableN pf (b0 + wid i / 8)) (wid i % 8 * 128) (logitN af) (baseRow i)) (padZ (F := F)) (ix2 (y 1) (y 2) : S48x128.Idx) = selSpec b0 pf af y := by
  unfold selSpec
  rw [(Finset.mem_filter.mp hy).2, show 128 * wid i = baseRow i by unfold wid; show _ = 2048 * (i 0).val + 128 * (i 1).val; omega]

theorem baseRow_wid (i : grid0.Coords) : baseRow i = 128 * wid i := by
  unfold wid; show 2048 * (i 0).val + 128 * (i 1).val = _; omega

/-- and so the dense rows. -/
theorem denseSpec_at (wf : S32x48x128.Idx → Elt F .f32) (sf : S32x48x128.Idx → BitVec 32) (i : grid0.Coords) {y : S4096x1024.Idx} (hy : y ∈ rowSet (wid i)) :
    denseN (wordN sf (wid i)) (wordN wf (wid i)) ((y 0).val - baseRow i) (y 1).val = denseSpec wf sf y := by
  have h := (Finset.mem_filter.mp hy).2
  unfold denseSpec
  rw [baseRow_wid i, h, show (y 0).val % 128 = (y 0).val - 128 * wid i by omega]

theorem rowSet_bounds (i : grid0.Coords) {y : S4096x1024.Idx} (hy : y ∈ rowSet (wid i)) : baseRow i ≤ (y 0).val ∧ (y 0).val < baseRow i + 128 := by
  have h := (Finset.mem_filter.mp hy).2
  rw [baseRow_wid i]; omega

/-! ## The parts and the writes of each call's results -/

theorem outI0_set (i : grid0.Coords) : (outI i (Memref.whole main_v1_0_scv)).view.set = tileSet (wid i) := by
  ext y
  exact (Finset.mem_map (f := (outI i (Memref.whole main_v1_0_scv)).view.emb) (s := Finset.univ) (b := y)).trans (mem_placed i _ (place_out i _ _ (k0_off168_eq i)) y)
theorem outS0_set (i : grid0.Coords) : (outS i (Memref.whole main_v1_1_scv)).view.set = tileSet (wid i) := by
  ext y
  exact (Finset.mem_map (f := (outS i (Memref.whole main_v1_1_scv)).view.emb) (s := Finset.univ) (b := y)).trans (mem_placed i _ (place_out i _ _ (k0_off168_eq i)) y)
theorem outI1_set (i : grid0.Coords) : (outI i (Memref.whole main_v2_0_scv)).view.set = tileSet (wid i) := by
  ext y
  exact (Finset.mem_map (f := (outI i (Memref.whole main_v2_0_scv)).view.emb) (s := Finset.univ) (b := y)).trans (mem_placed i _ (place_out i _ _ (k0_off168_eq i)) y)
theorem outS1_set (i : grid0.Coords) : (outS i (Memref.whole main_v2_1_scv)).view.set = tileSet (wid i) := by
  ext y
  exact (Finset.mem_map (f := (outS i (Memref.whole main_v2_1_scv)).view.emb) (s := Finset.univ) (b := y)).trans (mem_placed i _ (place_out i _ _ (k0_off168_eq i)) y)

/-- What a tile's write leaves at an element of its part is what it wrote of that column and lane. -/
theorem outI0_write (i : grid0.Coords) (f : S32x48x128.Idx → BitVec 32) (g : S48x128.Idx → BitVec 32) {y : S32x48x128.Idx} (hy : y ∈ tileSet (wid i)) :
    (outI i (Memref.whole main_v1_0_scv)).view.write (Elt F) f g Finset.univ y = g (ix2 (y 1) (y 2)) := by
  have h := (outI i (Memref.whole main_v1_0_scv)).view.write_emb_of_mem (Val := Elt F) f g (Finset.mem_univ (ix2 (y 1) (y 2) : S48x128.Idx))
  rwa [show (outI i (Memref.whole main_v1_0_scv)).view.emb (ix2 (y 1) (y 2) : S48x128.Idx) = y from (place_out i _ _ (k0_off168_eq i) _).trans (place_at i hy)] at h
theorem outS0_write (i : grid0.Coords) (f : S32x48x128.Idx → Elt F .f32) (g : S48x128.Idx → Elt F .f32) {y : S32x48x128.Idx} (hy : y ∈ tileSet (wid i)) :
    (outS i (Memref.whole main_v1_1_scv)).view.write (Elt F) f g Finset.univ y = g (ix2 (y 1) (y 2)) := by
  have h := (outS i (Memref.whole main_v1_1_scv)).view.write_emb_of_mem (Val := Elt F) f g (Finset.mem_univ (ix2 (y 1) (y 2) : S48x128.Idx))
  rwa [show (outS i (Memref.whole main_v1_1_scv)).view.emb (ix2 (y 1) (y 2) : S48x128.Idx) = y from (place_out i _ _ (k0_off168_eq i) _).trans (place_at i hy)] at h
theorem outI1_write (i : grid0.Coords) (f : S32x48x128.Idx → BitVec 32) (g : S48x128.Idx → BitVec 32) {y : S32x48x128.Idx} (hy : y ∈ tileSet (wid i)) :
    (outI i (Memref.whole main_v2_0_scv)).view.write (Elt F) f g Finset.univ y = g (ix2 (y 1) (y 2)) := by
  have h := (outI i (Memref.whole main_v2_0_scv)).view.write_emb_of_mem (Val := Elt F) f g (Finset.mem_univ (ix2 (y 1) (y 2) : S48x128.Idx))
  rwa [show (outI i (Memref.whole main_v2_0_scv)).view.emb (ix2 (y 1) (y 2) : S48x128.Idx) = y from (place_out i _ _ (k0_off168_eq i) _).trans (place_at i hy)] at h
theorem outS1_write (i : grid0.Coords) (f : S32x48x128.Idx → Elt F .f32) (g : S48x128.Idx → Elt F .f32) {y : S32x48x128.Idx} (hy : y ∈ tileSet (wid i)) :
    (outS i (Memref.whole main_v2_1_scv)).view.write (Elt F) f g Finset.univ y = g (ix2 (y 1) (y 2)) := by
  have h := (outS i (Memref.whole main_v2_1_scv)).view.write_emb_of_mem (Val := Elt F) f g (Finset.mem_univ (ix2 (y 1) (y 2) : S48x128.Idx))
  rwa [show (outS i (Memref.whole main_v2_1_scv)).view.emb (ix2 (y 1) (y 2) : S48x128.Idx) = y from (place_out i _ _ (k0_off168_eq i) _).trans (place_at i hy)] at h

/-- A chunk's rows are among the tile's. -/
theorem mem_rows (i : grid0.Coords) (t : Fin k2_t2_loop.trips) (x : S16x1024.Idx) :
    (Rect.unit (s := S4096x1024) (k2_off58 i t) S16x1024.size (k2_off58_inb i t)).emb x ∈ rowSet (wid i) := by
  have ht : t.val < 8 := chk_trips ▸ t.isLt
  have hx : (x 0).val < 16 := (x 0).isLt
  refine Finset.mem_filter.mpr ⟨Finset.mem_univ _, ?_⟩
  show (k2_off58 i t 0 + 1 * (x 0).val) / 128 = wid i
  rw [k2_off58_eq i t]
  show (2048 * (i 0).val + 128 * (i 1).val + 16 * t.val + 1 * (x 0).val) / 128 = 16 * (i 0).val + (i 1).val
  omega
theorem outD0_sub (i : grid0.Coords) (t : Fin k2_t2_loop.trips) : (outD i (Memref.whole main_v3_scv) t).view.set ⊆ rowSet (wid i) := by
  intro y hy
  obtain ⟨x, -, rfl⟩ := (Finset.mem_map (f := (outD i (Memref.whole main_v3_scv) t).view.emb) (s := Finset.univ) (b := y)).mp hy
  exact mem_rows i t x
theorem outD1_sub (i : grid0.Coords) (t : Fin k2_t2_loop.trips) : (outD i (Memref.whole main_v4_scv) t).view.set ⊆ rowSet (wid i) := by
  intro y hy
  obtain ⟨x, -, rfl⟩ := (Finset.mem_map (f := (outD i (Memref.whole main_v4_scv) t).view.emb) (s := Finset.univ) (b := y)).mp hy
  exact mem_rows i t x

/-! ## What a tile reads -/

/-- The table a tile fetches is its batch's. -/
theorem table_read (i : grid0.Coords) (b0 : Nat) (hb : b0 + wid i / 8 < 8) (o1 : Fin 1 → Nat) (ho1 : ∀ a, o1 a + S8192.size a ≤ S65536.size a)
    (e : o1 0 = 8192 * (b0 + wid i / 8)) (pf : S65536.Idx → BitVec 32) (x : S8192.Idx) :
    ((Memref.whole main_v0_scv : Memref sig .scVector _ S65536 .i32).slice (Rect.unit (s := S65536) o1 S8192.size ho1) (fun _ => rfl)).view.read (Elt F) pf x
      = tableN pf (b0 + wid i / 8) (x 0).val := by
  have hx : (x 0).val < 8192 := (x 0).isLt
  show pf ((Rect.unit (s := S65536) o1 S8192.size ho1).emb x) = _
  unfold tableN
  congr 1
  rw [ValueIdx.eq_ix1 ((Rect.unit (s := S65536) o1 S8192.size ho1).emb x)]
  congr 1
  apply Fin.ext
  show o1 0 + 1 * (x 0).val = _
  show _ = (8192 * (b0 + wid i / 8) + (x 0).val) % 65536
  rw [e, Nat.mod_eq_of_lt (by omega), Nat.one_mul]

theorem off0_eq : ∀ i : grid0.Coords, k0_off1 i 0 = 8192 * (0 + wid i / 8) := by decide +kernel
theorem off1_eq : ∀ i : grid0.Coords, k1_off1 i 0 = 8192 * (4 + wid i / 8) := by decide +kernel

/-- The word a tile fetches of column `c`, lane `l`. -/
theorem word_at {α : Type} (f : S32x48x128.Idx → α) (i : grid0.Coords) (x : S48x128.Idx) :
    f ((Rect.unit (s := S32x48x128) (k2_off1 i) S1x48x128.size (k2_off1_inb i)).emb (Shape.reshapeEquiv squeezes_S1x48x128_S48x128.numel_eq x))
      = wordN f (wid i) (x 0).val (x 1).val := by
  have h0 : (x 0).val < 48 := (x 0).isLt
  have h1 : (x 1).val < 128 := (x 1).isLt
  refine (congrArg f (place_out i _ _ (k2_off1_eq i) x)).trans ?_
  unfold wordN
  congr 1
  exact congr (congrArg₂ ix3 (Fin.ext (Nat.mod_eq_of_lt (wid_lt i)).symm) (Fin.ext (Nat.mod_eq_of_lt h0).symm)) (Fin.ext (Nat.mod_eq_of_lt h1).symm)

/-- The logits by row and column, of any whole array's reading. -/
theorem logit_at {α : Type} (af : S4096x1024.Idx → α) (x : S4096x1024.Idx) : af x = logitN af (x 0).val (x 1).val := by
  have h0 : (x 0).val < 4096 := (x 0).isLt
  have h1 : (x 1).val < 1024 := (x 1).isLt
  unfold logitN
  conv_lhs => rw [ValueIdx.eq_ix2 x]
  congr 1
  exact congrArg₂ ix2 (Fin.ext (Nat.mod_eq_of_lt h0).symm) (Fin.ext (Nat.mod_eq_of_lt h1).symm)

theorem rowWord_wid (i : grid0.Coords) : (rowWord i).toNat = wid i % 8 * 128 := by
  have h : i = fun | 0 => i 0 | 1 => i 1 := by funext a; match a with | 0 => rfl | 1 => rfl
  rw [h]; exact rowWord_eq (i 0) (i 1)

end Cert.Proof.Body

end
-- ==== Proof.Task.lean ====
/-
  A tile's task of each kind of call, from the share of what the call reads that the tile holds and its part of what it
  writes: the part is left as specified. And the buffers and semaphores of a tile's own that a task takes.
-/
module

public import proofs.«01_k».proof.Proof.Spec
public import Idealize.ShloMosaic.Lib.Pipeline.Kit

@[expose] public section

noncomputable section

namespace Cert.Proof.Body

open Cert.KernelIdeal Cert.KernelIdeal.Gen
open Idealize.ShloMosaic
open Idealize.ShloMosaic.Transfers
open Idealize.ShloMosaic.SparseCore.Cfg (ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] [CountersIn U] {Lvl : Type} [Preorder Lvl]
variable {defs : Defs nD τ sig (Elt F) Λ₀} (𝒱 : Variants) (i : grid0.Coords) (d : Dev nD)

local notation "𝕄" => MT nD τ sig Ix (Elt F) Name U Lvl

/-! ## A tile's own semaphores and buffers -/

/-- A semaphore of a tile. -/
abbrev cell (g : DmaSem sig) : GSem nD τ sig := (thr d i, .dma g)

theorem cell_mem (g : DmaSem sig) : cell i d g ∈ ownCells (thr d i) := by
  refine (mem_ownCells (g := cell i d g)).mpr ⟨rfl, ?_⟩
  show (SemLoc.dma g : SemLoc sig).isScoped .scVector = true
  revert g; decide

theorem cell_ne {g g' : DmaSem sig} (h : g ≠ g') : cell i d g ≠ cell i d g' := fun e => h (SemLoc.dma.inj (Prod.mk.inj e).2)

/-- Semaphores of a tile, none twice, are a part of all its semaphores. -/
theorem sems_split (gs : List (DmaSem sig)) (hn : gs.Nodup) :
    ∃ C : sProp 𝕄, (ownSems0 (thr d i) : sProp 𝕄) = gs.foldr (fun g R => iprop(semVal (cell i d g) 0 ∗ R)) C := by
  suffices h : ∀ S : Finset (GSem nD τ sig), (∀ g ∈ gs, cell i d g ∈ S) →
      ∃ C : sProp 𝕄, (bigSep S fun g => (semVal g 0 : sProp 𝕄)) = gs.foldr (fun g R => iprop(semVal (cell i d g) 0 ∗ R)) C from
    h _ fun g _ => cell_mem i d g
  induction gs with
  | nil => exact fun S _ => ⟨_, rfl⟩
  | cons g gs ih =>
    intro S hS
    obtain ⟨hg, hgs⟩ := List.nodup_cons.mp hn
    obtain ⟨C, hC⟩ := ih hgs (S.erase (cell i d g)) fun g' h' =>
      Finset.mem_erase.mpr ⟨cell_ne i d fun e => hg (e ▸ h'), hS g' (List.mem_cons_of_mem _ h')⟩
    exact ⟨C, (SparseCore.bigSep_erase' (hS g List.mem_cons_self)).trans (congrArg (fun R => iprop(semVal (cell i d g) 0 ∗ R)) hC)⟩

/-- A buffer of a tile's own. -/
abbrev own (b : Ref sig .scVector) : DevRef τ sig := (thr d i).2.devRef b

/-- Buffers of a tile's own, none twice, are a part of all it owns. -/
theorem bufs_split (bs : List (Ref sig .scVector)) (hn : bs.Nodup) (ho : ∀ b ∈ bs, own i d b ∈ ownRefs (τ := τ) (thr d i).2) :
    ∃ C : sProp 𝕄, (ownBufs (thr d i) : sProp 𝕄) = bs.foldr (fun b R => iprop((∃ f, ((d, own i d b) : Loc nD τ sig) ↦{fullShare} f) ∗ R)) C := by
  suffices h : ∀ S : Finset (DevRef τ sig), (∀ b ∈ bs, own i d b ∈ S) →
      ∃ C : sProp 𝕄, (bigSep S fun b => (iprop(∃ f, ((d, b) : Loc nD τ sig) ↦{fullShare} f) : sProp 𝕄))
        = bs.foldr (fun b R => iprop((∃ f, ((d, own i d b) : Loc nD τ sig) ↦{fullShare} f) ∗ R)) C from
    h _ ho
  clear ho
  induction bs with
  | nil => exact fun S _ => ⟨_, rfl⟩
  | cons b bs ih =>
    intro S hS
    obtain ⟨hb, hbs⟩ := List.nodup_cons.mp hn
    obtain ⟨C, hC⟩ := ih hbs (S.erase (own i d b)) fun b' h' =>
      Finset.mem_erase.mpr ⟨fun e => hb (Proc.devRef_injective _ e ▸ h'), hS b' (List.mem_cons_of_mem _ h')⟩
    exact ⟨C, (SparseCore.bigSep_erase' (hS b List.mem_cons_self)).trans (congrArg (fun R => iprop((∃ f, ((d, own i d b) : Loc nD τ sig) ↦{fullShare} f) ∗ R)) hC)⟩

/-! ## The tasks -/

section Gather

variable (arg2 : Memref sig .scVector .hbm S65536 .i32) (arg3 : Memref sig .scVector .hbm S4096x1024 .f32) (arg4 : Memref sig .scVector .hbm S32x48x128 .i32) (arg5 : Memref sig .scVector .hbm S32x48x128 .f32) (arg6 : Memref sig .scVector .vmem S8192 .i32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S48x128 .i32) (harg9 : arg9.IsWhole) (arg10 : Memref sig .scVector .vmem S48x128 .f32) (harg10 : arg10.IsWhole) (arg11 : DmaSems sig S_) (arg12 : DmaSems sig S_) (v306_r0 : DmaSems sig S_) (v306_r1 : DmaSems sig S_) (v306_r2 : DmaSems sig S_)

/-- A gathering tile's task. -/
theorem gather_task (T : Nat → BitVec 32) (R : Nat) (Aa : Nat → Nat → Elt F .f32) (ι : Ix) (O : CellTallies nD τ sig Ix) (W : Waits sig Ix) (B C : sProp 𝕄)
    (hT : ∀ k, k < 8192 → (T k).toNat < 1024) (hR : R + 128 ≤ 1024) (hr : (rowWord i).toNat = R)
    (o1 : Fin 1 → Nat) (ho1 : ∀ a, o1 a + S8192.size a ≤ S65536.size a) (q : PosShare TreeShare)
    (pf : Buf (Elt F) (arg2.view.loc (thr d i))) (af : Buf (Elt F) (arg3.view.loc (thr d i)))
    (hpf : ∀ x : S8192.Idx, (arg2.slice (Rect.unit (s := S65536) o1 S8192.size ho1) (fun _ => rfl)).view.read (Elt F) pf x = T (x 0).val)
    (haf : ∀ x, arg3.view.read (Elt F) af x = Aa (x 0).val (x 1).val)
    (S4 : Finset (Idx (arg4.view.loc (thr d i)))) (S5 : Finset (Idx (arg5.view.loc (thr d i))))
    (h4 : (outI i arg4).view.set = S4) (h5 : (outS i arg5).view.set = S5)
    (f4 g4 : Buf (Elt F) (arg4.view.loc (thr d i))) (f5 g5 : Buf (Elt F) (arg5.view.loc (thr d i)))
    (w4 : ∀ y ∈ S4, (outI i arg4).view.write (Elt F) f4 (full (uI T R) (0#32 : BitVec 32)) Finset.univ y = g4 y)
    (w5 : ∀ y ∈ S5, (outS i arg5).view.write (Elt F) f5 (full (uS T R Aa (baseRow i)) padZ) Finset.univ y = g5 y) :
    (iprop(MayWaits (thr d i) ι O
        ∗ ((arg2.view.loc (thr d i) ↦{q} pf) ∗ (arg3.view.loc (thr d i) ↦{q} af) ∗ (arg4.view.loc (thr d i) ↦[S4]{fullShare} f4) ∗ (arg5.view.loc (thr d i) ↦[S5]{fullShare} f5))
        ∗ (heldAny i d arg6 ∗ heldAny i d arg7 ∗ heldAny i d arg8 ∗ heldAny i d arg9 ∗ heldAny i d arg10 ∗ B)
        ∗ (semVal (thr d i, .dma arg11.sem) 0 ∗ semVal (thr d i, .dma arg12.sem) 0 ∗ semVal (thr d i, .dma v306_r0.sem) 0
          ∗ semVal (thr d i, .dma v306_r1.sem) 0 ∗ semVal (thr d i, .dma v306_r2.sem) 0 ∗ C)
        ∗ owesUp i d ι O W) : sProp 𝕄)
      ⊢ wp frame (wpE defs 𝒱 (thr d i) none) Set.univ
          (tileBody i arg2 arg3 arg4 arg5 arg6 harg6 arg7 harg7 arg8 harg8 arg9 harg9 arg10 harg10 arg11 arg12 v306_r0 v306_r1 v306_r2 o1 ho1)
          (fun _ => iprop(((arg2.view.loc (thr d i) ↦{q} pf) ∗ (arg3.view.loc (thr d i) ↦{q} af) ∗ (arg4.view.loc (thr d i) ↦[S4]{fullShare} g4) ∗ (arg5.view.loc (thr d i) ↦[S5]{fullShare} g5))
            ∗ (heldAny i d arg6 ∗ heldAny i d arg7 ∗ heldAny i d arg8 ∗ heldAny i d arg9 ∗ heldAny i d arg10 ∗ B)
            ∗ (semVal (thr d i, .dma arg11.sem) 0 ∗ semVal (thr d i, .dma arg12.sem) 0 ∗ semVal (thr d i, .dma v306_r0.sem) 0
              ∗ semVal (thr d i, .dma v306_r1.sem) 0 ∗ semVal (thr d i, .dma v306_r2.sem) 0 ∗ C)
            ∗ owesUp i d ι O W)) := by
  subst h4 h5
  iintro ⟨#Hmw, ⟨Hp, Ha, Hi, Hs⟩, ⟨H6, H7, H8, H9, H10, HB⟩, ⟨Hv5, Hv6, Hv0, Hv1, Hv2, HC⟩, HO⟩
  ihave Ha2 := (pointsTo_share (PosShare.mem_left_op_right q)).1 $$ Ha
  icases Ha2 with ⟨HaA, HaB⟩
  iapply (wp_wand frame (wpE defs 𝒱 (thr d i) none) Set.univ) $$ [HaA HaB Hp Hi Hs H6 H7 H8 H9 H10 Hv5 Hv6 Hv0 Hv1 Hv2 HO]
  · iapply (wp_tile (F := F) (defs := defs) 𝒱 i d none (arg2 := arg2) (arg3 := arg3) (arg4 := arg4) (arg5 := arg5) (T := T) (R := R)
      (Aa := Aa) (qa := q.left) (qb := q.right) (af := af) (ι := ι) (O := O) (W := W)
      (hT := hT) (hR := hR) (haf := haf) (hr := hr) (o1 := o1) (ho1 := ho1) (qp := q) (pf := pf) (hpf := hpf) (f4 := f4) (f5 := f5))
    isplitr; · iexact Hmw
    isplitl [Hp]; · iexact Hp
    isplitl [HaA]; · iexact HaA
    isplitl [HaB]; · iexact HaB
    isplitl [Hi]; · iexact Hi
    isplitl [Hs]; · iexact Hs
    isplitl [H6]; · iexact H6
    isplitl [H7]; · iexact H7
    isplitl [H8]; · iexact H8
    isplitl [H9]; · iexact H9
    isplitl [H10]; · iexact H10
    isplitl [Hv5]; · iexact Hv5
    isplitl [Hv6]; · iexact Hv6
    isplitl [Hv0]; · iexact Hv0
    isplitl [Hv1]; · iexact Hv1
    isplitl [Hv2]; · iexact Hv2
    iexact HO
  iintro %_ ⟨Hp, HaA, HaB, Hi, Hs, H6, H7, H8, H9, H10, Hv5, Hv6, Hv0, Hv1, Hv2, HO⟩
  ihave Ha := (pointsTo_share (PosShare.mem_left_op_right q)).2 $$ [HaA HaB]
  · isplitl [HaA] <;> iassumption
  ihave Hi := (Entails.of_eq (pointsTo_congr w4)) $$ Hi
  ihave Hs := (Entails.of_eq (pointsTo_congr w5)) $$ Hs
  iframe Hp Ha Hi Hs H6 H7 H8 H9 H10 HB Hv5 Hv6 Hv0 Hv1 Hv2 HC HO

end Gather

section Dense

variable (arg2 : Memref sig .scVector .hbm S32x48x128 .f32) (arg3 : Memref sig .scVector .hbm S32x48x128 .i32) (arg4 : Memref sig .scVector .hbm S4096x1024 .f32) (arg5 : Memref sig .scVector .vmem S48x128 .f32) (harg5 : arg5.IsWhole) (arg6 : Memref sig .scVector .vmem S48x128 .i32) (harg6 : arg6.IsWhole) (arg7 : Memref sig .scVector .vmem S16x1024 .f32) (harg7 : arg7.IsWhole) (v7_r0 : DmaSems sig S_) (v7_r1 : DmaSems sig S_) (v690_r2 : DmaSems sig S_)

/-- A dense tile's task. -/
theorem dense_task (Wd : Nat → Nat → BitVec 32) (Vd : Nat → Nat → Elt F .f32) (ι : Ix) (O : CellTallies nD τ sig Ix) (Ws : Waits sig Ix) (B C : sProp 𝕄)
    (hW : ∀ l, l < 128 → ∀ c, c < 40 → (Wd c l).toInt < 1024) (S4 : Finset (Idx (arg4.view.loc (thr d i)))) (hS4 : ∀ t, (outD i arg4 t).view.set ⊆ S4) (q : PosShare TreeShare)
    (wf : Buf (Elt F) (arg2.view.loc (thr d i))) (sf : Buf (Elt F) (arg3.view.loc (thr d i)))
    (hwf : ∀ x, (inC i arg2).view.read (Elt F) wf x = Vd (x 0).val (x 1).val) (hsf : ∀ x, (inC i arg3).view.read (Elt F) sf x = Wd (x 0).val (x 1).val)
    (f4 g4 : Buf (Elt F) (arg4.view.loc (thr d i)))
    (w4 : ∀ f : Buf (Elt F) (arg4.view.loc (thr d i)), (∀ x : S4096x1024.Idx, baseRow i ≤ (x 0).val → (x 0).val < baseRow i + 128 →
        arg4.view.read (Elt F) f x = denseN Wd Vd ((x 0).val - baseRow i) (x 1).val) → ∀ y ∈ S4, f y = g4 y) :
    (iprop(MayWaits (thr d i) ι O
        ∗ ((arg2.view.loc (thr d i) ↦{q} wf) ∗ (arg3.view.loc (thr d i) ↦{q} sf) ∗ (arg4.view.loc (thr d i) ↦[S4]{fullShare} f4))
        ∗ (heldAny i d arg5 ∗ heldAny i d arg6 ∗ heldAny i d arg7 ∗ B)
        ∗ (semVal (thr d i, .dma v7_r0.sem) 0 ∗ semVal (thr d i, .dma v7_r1.sem) 0 ∗ semVal (thr d i, .dma v690_r2.sem) 0 ∗ C)
        ∗ owesUp i d ι O Ws) : sProp 𝕄)
      ⊢ wp frame (wpE defs 𝒱 (thr d i) none) Set.univ
          (denseBody i arg2 arg3 arg4 arg5 harg5 arg6 harg6 arg7 harg7 v7_r0 v7_r1 v690_r2)
          (fun _ => iprop(((arg2.view.loc (thr d i) ↦{q} wf) ∗ (arg3.view.loc (thr d i) ↦{q} sf) ∗ (arg4.view.loc (thr d i) ↦[S4]{fullShare} g4))
            ∗ (heldAny i d arg5 ∗ heldAny i d arg6 ∗ heldAny i d arg7 ∗ B)
            ∗ (semVal (thr d i, .dma v7_r0.sem) 0 ∗ semVal (thr d i, .dma v7_r1.sem) 0 ∗ semVal (thr d i, .dma v690_r2.sem) 0 ∗ C)
            ∗ owesUp i d ι O Ws)) := by
  iintro ⟨#Hmw, ⟨Hw, Hs, H4⟩, ⟨H5, H6, H7, HB⟩, ⟨Hv0, Hv1, Hv2, HC⟩, HO⟩
  iapply (wp_wand frame (wpE defs 𝒱 (thr d i) none) Set.univ) $$ [Hw Hs H4 H5 H6 H7 Hv0 Hv1 Hv2 HO]
  · iapply (wp_dense (F := F) (defs := defs) 𝒱 i d none arg2 arg3 arg4 arg5 harg5 arg6 harg6 arg7 harg7 v7_r0 v7_r1 v690_r2 Wd Vd S4 ι O Ws hW hS4 q q wf sf hwf hsf f4)
    isplitr; · iexact Hmw
    isplitl [Hw]; · iexact Hw
    isplitl [Hs]; · iexact Hs
    isplitl [H4]; · iexact H4
    isplitl [H5]; · iexact H5
    isplitl [H6]; · iexact H6
    isplitl [H7]; · iexact H7
    isplitl [Hv0]; · iexact Hv0
    isplitl [Hv1]; · iexact Hv1
    isplitl [Hv2]; · iexact Hv2
    iexact HO
  iintro %_ ⟨Hw, Hs, ⟨%f, %hf, H4⟩, H5, H6, H7, Hv0, Hv1, Hv2, HO⟩
  ihave H4 := (Entails.of_eq (pointsTo_congr (w4 f hf))) $$ H4
  iframe Hw Hs H4 H5 H6 H7 HB Hv0 Hv1 Hv2 HC HO

end Dense

end Cert.Proof.Body

end
-- ==== Proof.Launch.lean ====
/-
  The launch of the four calls, in order: what a call reads is dealt to its thirty-two tiles by shares, what it writes by
  parts, every tile's run is its task's, and the parts are put together again as the whole results.
-/
module

public import proofs.«01_k».proof.Defs
public import proofs.«01_k».proof.Proof.Task
public import Idealize.ShloMosaic.Lib.StableHlo.Run
public import Idealize.ShloMosaic.Lib.Pipeline.Kit

@[expose] public section

noncomputable section

namespace Cert.Proof.Launch

open Cert.KernelIdeal Cert.KernelIdeal.Gen Cert.Proof.Body
open Idealize.ShloMosaic
open Idealize.ShloMosaic.Transfers
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

/-! ## The program as the launch theorem sees it -/

abbrev ΛP : Labels := Pipeline.Sig Λ₀ (Fin 0) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 4) (Elt F) ℕ UU ℕ

abbrev EH : Emb UH (MT nD τ sig (HIx 4) (Elt F) ℕ UU ℕ) := embL

/-! ## Dealing a call's arrays -/

/-- The share of an array a SparseCore holds, and a tile's of that. -/
def coreShare (c : Fin 2) : PosShare TreeShare := dealOf fullShare Finset.univ c
def tileShare (c : Fin 2) (i : Fin 16) : PosShare TreeShare := dealOf (coreShare c) Finset.univ i

section Deal

variable {p a o o' : Loc nD τ sig} (fp : Buf (Elt F) p) (fa : Buf (Elt F) a) (fo : Buf (Elt F) o) (fo' : Buf (Elt F) o')
variable (P : ℕ → Finset (Idx o)) (P' : ℕ → Finset (Idx o'))

/-- The parts of the thirty-two tiles: apart from each other, and together everything. -/
structure Parts {o : Loc nD τ sig} (P : ℕ → Finset (Idx o)) : Prop where
  apart : ∀ a b, a ≠ b → Disjoint (P a) (P b)
  every : ∀ x, ∃ w, w < 32 ∧ x ∈ P w

/-- A SparseCore's part is its sixteen tiles'. -/
def corePart (c : ℕ) : Finset (Idx o) := (Finset.univ : Finset (Fin 16)).biUnion fun i => P (16 * c + i.val)

theorem part_core (h : Parts P) (c : Fin 2) :
    (o ↦[corePart P c.val]{fullShare} fo : sProp 𝕄) = bigSep Finset.univ fun i : Fin 16 => (o ↦[P (16 * c.val + i.val)]{fullShare} fo) :=
  pointsTo_biUnion (Finset.univ : Finset (Fin 16)) (fun i => P (16 * c.val + i.val)) fun _ _ _ _ hne => h.apart _ _ fun e => hne (Fin.ext (by omega))

theorem part_all (h : Parts P) : (o ↦{fullShare} fo : sProp 𝕄) = bigSep Finset.univ fun c : Fin 2 => (o ↦[corePart P c.val]{fullShare} fo) := by
  have hd : ∀ i ∈ (Finset.univ : Finset (Fin 2)), ∀ j ∈ (Finset.univ : Finset (Fin 2)), i ≠ j → Disjoint (corePart P i.val) (corePart P j.val) := by
    intro i _ j _ hne
    have hne' : i.val ≠ j.val := fun e => hne (Fin.ext e)
    exact (Finset.disjoint_biUnion_left _ _ _).mpr fun a _ => (Finset.disjoint_biUnion_right _ _ _).mpr fun b _ => h.apart _ _ (by omega)
  rw [← pointsTo_biUnion (Finset.univ : Finset (Fin 2)) (fun c => corePart P c.val) hd]
  congr 1
  ext x
  obtain ⟨w, hw, hx⟩ := h.every x
  refine ⟨fun _ => Finset.mem_biUnion.mpr ⟨⟨w / 16, by omega⟩, Finset.mem_univ _, Finset.mem_biUnion.mpr ⟨⟨w % 16, Nat.mod_lt _ (by decide)⟩, Finset.mem_univ _, ?_⟩⟩,
    fun _ => Finset.mem_univ _⟩
  show x ∈ P (16 * (w / 16) + w % 16)
  rwa [Nat.div_add_mod]

/-- What a tile holds of a call that reads two arrays and writes two, -/
def tile2 (c : Fin 2) (i : Fin 16) : sProp 𝕄 :=
  iprop((p ↦{tileShare c i} fp) ∗ (a ↦{tileShare c i} fa) ∗ (o ↦[P (16 * c.val + i.val)]{fullShare} fo) ∗ (o' ↦[P' (16 * c.val + i.val)]{fullShare} fo'))
/-- what a SparseCore holds, -/
def core2 (c : Fin 2) : sProp 𝕄 :=
  iprop((p ↦{coreShare c} fp) ∗ (a ↦{coreShare c} fa) ∗ (o ↦[corePart P c.val]{fullShare} fo) ∗ (o' ↦[corePart P' c.val]{fullShare} fo'))
/-- and everything. -/
def all2 : sProp 𝕄 := iprop((p ↦{fullShare} fp) ∗ (a ↦{fullShare} fa) ∗ (o ↦{fullShare} fo) ∗ (o' ↦{fullShare} fo'))

theorem core2_eq (h : Parts P) (h' : Parts P') (c : Fin 2) :
    (core2 fp fa fo fo' P P' c : sProp 𝕄) = bigSep Finset.univ fun i : Fin 16 => tile2 fp fa fo fo' P P' c i := by
  unfold core2 tile2
  rw [bigSep_sep', bigSep_sep', bigSep_sep', part_core fo P h, part_core fo' P' h', pointsTo_deal (Finset.univ : Finset (Fin 16)) Finset.univ_nonempty (coreShare c) (ℓ := p),
    pointsTo_deal (Finset.univ : Finset (Fin 16)) Finset.univ_nonempty (coreShare c) (ℓ := a)]
  rfl

theorem all2_eq (h : Parts P) (h' : Parts P') : (all2 fp fa fo fo' : sProp 𝕄) = bigSep Finset.univ fun c : Fin 2 => core2 fp fa fo fo' P P' c := by
  unfold all2 core2
  rw [bigSep_sep', bigSep_sep', bigSep_sep', part_all fo P h, part_all fo' P' h', pointsTo_deal (Finset.univ : Finset (Fin 2)) Finset.univ_nonempty fullShare (ℓ := p),
    pointsTo_deal (Finset.univ : Finset (Fin 2)) Finset.univ_nonempty fullShare (ℓ := a)]
  rfl

/-- The same of a call that reads two arrays and writes one. -/
def tile1 (c : Fin 2) (i : Fin 16) : sProp 𝕄 :=
  iprop((p ↦{tileShare c i} fp) ∗ (a ↦{tileShare c i} fa) ∗ (o ↦[P (16 * c.val + i.val)]{fullShare} fo))
def core1 (c : Fin 2) : sProp 𝕄 := iprop((p ↦{coreShare c} fp) ∗ (a ↦{coreShare c} fa) ∗ (o ↦[corePart P c.val]{fullShare} fo))
def all1 : sProp 𝕄 := iprop((p ↦{fullShare} fp) ∗ (a ↦{fullShare} fa) ∗ (o ↦{fullShare} fo))

theorem core1_eq (h : Parts P) (c : Fin 2) : (core1 fp fa fo P c : sProp 𝕄) = bigSep Finset.univ fun i : Fin 16 => tile1 fp fa fo P c i := by
  unfold core1 tile1
  rw [bigSep_sep', bigSep_sep', part_core fo P h, pointsTo_deal (Finset.univ : Finset (Fin 16)) Finset.univ_nonempty (coreShare c) (ℓ := p),
    pointsTo_deal (Finset.univ : Finset (Fin 16)) Finset.univ_nonempty (coreShare c) (ℓ := a)]
  rfl

theorem all1_eq (h : Parts P) : (all1 fp fa fo : sProp 𝕄) = bigSep Finset.univ fun c : Fin 2 => core1 fp fa fo P c := by
  unfold all1 core1
  rw [bigSep_sep', bigSep_sep', part_all fo P h, pointsTo_deal (Finset.univ : Finset (Fin 2)) Finset.univ_nonempty fullShare (ℓ := p),
    pointsTo_deal (Finset.univ : Finset (Fin 2)) Finset.univ_nonempty fullShare (ℓ := a)]
  rfl

end Deal

/-! ## The arrays -/

/-- An array of @main. -/
abbrev loc (b : Ref sig .tc) (d : Dev nD) : Loc nD τ sig := (SparseCore.T d).loc b

theorem tileParts (b : Ref sig .tc) (d : Dev nD) (P : ℕ → Finset (Idx (loc b d))) (f : Idx (loc b d) → S32x48x128.Idx) (h : ∀ w x, x ∈ P w ↔ f x ∈ tileSet w) : Parts P where
  apart a b hab := Finset.disjoint_left.mpr fun x h1 h2 => hab
    ((Finset.mem_filter.mp ((h a x).mp h1)).2.symm.trans (Finset.mem_filter.mp ((h b x).mp h2)).2)
  every x := ⟨(f x 0).val, (f x 0).isLt, (h _ x).mpr (Finset.mem_filter.mpr ⟨Finset.mem_univ _, rfl⟩)⟩

theorem rowParts (b : Ref sig .tc) (d : Dev nD) (P : ℕ → Finset (Idx (loc b d))) (f : Idx (loc b d) → S4096x1024.Idx) (h : ∀ w x, x ∈ P w ↔ f x ∈ rowSet w) : Parts P where
  apart a b hab := Finset.disjoint_left.mpr fun x h1 h2 => hab
    ((Finset.mem_filter.mp ((h a x).mp h1)).2.symm.trans (Finset.mem_filter.mp ((h b x).mp h2)).2)
  every x := ⟨(f x 0).val / 128, Nat.div_lt_of_lt_mul (f x 0).isLt, (h _ x).mpr (Finset.mem_filter.mpr ⟨Finset.mem_univ _, rfl⟩)⟩

variable (m : (ℓ : Loc nD τ sig) → Buf (Elt F) ℓ) (ρ : Dev nD → PrngReg)

/-- The previous indices flattened. -/
def tab (d : Dev nD) : S65536.Idx → BitVec 32 := shapeCast (α := BitVec 32) S65536 (m (loc main_arg0 d)) shapeCasts_S8x1024x8_S65536

/-- Every previous index names a position, and no word of the first forty columns names a column beyond the last. -/
structure Ranges : Prop where
  tab : ∀ (d : Dev nD) (x : S8x1024x8.Idx), (show BitVec 32 from m (loc main_arg0 d) x).toNat < 1024
  w0 : ∀ (d : Dev nD) (x : S32x48x128.Idx), (x 1).val < 40 → (show BitVec 32 from m (loc main_arg4 d) x).toInt < 1024
  w1 : ∀ (d : Dev nD) (x : S32x48x128.Idx), (x 1).val < 40 → (show BitVec 32 from m (loc main_arg6 d) x).toInt < 1024

variable {m} in
theorem tab_lt (h : Ranges m) (d : Dev nD) (x : S65536.Idx) : (tab m d x).toNat < 1024 := h.tab d _

theorem word_lt {f : S32x48x128.Idx → BitVec 32} (h : ∀ x, (x 1).val < 40 → (f x).toInt < 1024) (w c l : Nat) (hc : c < 40) : (wordN f w c l).toInt < 1024 :=
  h _ (by show c % 48 < 40; omega)

variable [FloatOps F]

/-- What the results hold at the end. -/
abbrev outP0 (d : Dev nD) : Buf (Elt F) (loc main_v1_0 d) := posSpec 0 (tab m d)
abbrev outL0 (d : Dev nD) : Buf (Elt F) (loc main_v1_1 d) := selSpec (F := F) 0 (tab m d) (m (loc main_arg1 d))
abbrev outP1 (d : Dev nD) : Buf (Elt F) (loc main_v2_0 d) := posSpec 4 (tab m d)
abbrev outL1 (d : Dev nD) : Buf (Elt F) (loc main_v2_1 d) := selSpec (F := F) 4 (tab m d) (m (loc main_arg2 d))
abbrev outD0 (d : Dev nD) : Buf (Elt F) (loc main_v3 d) := denseSpec (F := F) (m (loc main_arg3 d)) (m (loc main_arg4 d))
abbrev outD1 (d : Dev nD) : Buf (Elt F) (loc main_v4 d) := denseSpec (F := F) (m (loc main_arg5 d)) (m (loc main_arg6 d))

/-! ## What each call hands over and takes back -/

/-- What tile `i` of SparseCore `c` holds of call `q`'s arrays, before its task and after it, -/
def tileAt (after : Bool) (q : Fin 4) (d : Dev nD) (c : Fin 2) (i : Fin 16) : sProp 𝕄 :=
  match q with
  | 0 => tile2 (p := loc main_v0 d) (a := loc main_arg1 d) (o := loc main_v1_0 d) (o' := loc main_v1_1 d) (tab m d) (m _)
      (if after then outP0 m d else m _) (if after then outL0 m d else m _) tileSet tileSet c i
  | 1 => tile2 (p := loc main_v0 d) (a := loc main_arg2 d) (o := loc main_v2_0 d) (o' := loc main_v2_1 d) (tab m d) (m _)
      (if after then outP1 m d else m _) (if after then outL1 m d else m _) tileSet tileSet c i
  | 2 => tile1 (p := loc main_arg3 d) (a := loc main_arg4 d) (o := loc main_v3 d) (m _) (m _) (if after then outD0 m d else m _) rowSet c i
  | 3 => tile1 (p := loc main_arg5 d) (a := loc main_arg6 d) (o := loc main_v4 d) (m _) (m _) (if after then outD1 m d else m _) rowSet c i
/-- what SparseCore `c` holds, -/
def coreAt (after : Bool) (q : Fin 4) (d : Dev nD) (c : Fin 2) : sProp 𝕄 :=
  match q with
  | 0 => core2 (p := loc main_v0 d) (a := loc main_arg1 d) (o := loc main_v1_0 d) (o' := loc main_v1_1 d) (tab m d) (m _)
      (if after then outP0 m d else m _) (if after then outL0 m d else m _) tileSet tileSet c
  | 1 => core2 (p := loc main_v0 d) (a := loc main_arg2 d) (o := loc main_v2_0 d) (o' := loc main_v2_1 d) (tab m d) (m _)
      (if after then outP1 m d else m _) (if after then outL1 m d else m _) tileSet tileSet c
  | 2 => core1 (p := loc main_arg3 d) (a := loc main_arg4 d) (o := loc main_v3 d) (m _) (m _) (if after then outD0 m d else m _) rowSet c
  | 3 => core1 (p := loc main_arg5 d) (a := loc main_arg6 d) (o := loc main_v4 d) (m _) (m _) (if after then outD1 m d else m _) rowSet c
/-- and the call's arrays whole. -/
def allAt (after : Bool) (q : Fin 4) (d : Dev nD) : sProp 𝕄 :=
  match q with
  | 0 => all2 (p := loc main_v0 d) (a := loc main_arg1 d) (o := loc main_v1_0 d) (o' := loc main_v1_1 d) (tab m d) (m _)
      (if after then outP0 m d else m _) (if after then outL0 m d else m _)
  | 1 => all2 (p := loc main_v0 d) (a := loc main_arg2 d) (o := loc main_v2_0 d) (o' := loc main_v2_1 d) (tab m d) (m _)
      (if after then outP1 m d else m _) (if after then outL1 m d else m _)
  | 2 => all1 (p := loc main_arg3 d) (a := loc main_arg4 d) (o := loc main_v3 d) (m _) (m _) (if after then outD0 m d else m _)
  | 3 => all1 (p := loc main_arg5 d) (a := loc main_arg6 d) (o := loc main_v4 d) (m _) (m _) (if after then outD1 m d else m _)

theorem coreAt_eq (after : Bool) (q : Fin 4) (d : Dev nD) (c : Fin 2) : (coreAt m after q d c : sProp 𝕄) = bigSep Finset.univ fun i : Fin 16 => tileAt m after q d c i :=
  match q with
  | 0 => core2_eq _ _ _ _ _ _ (tileParts main_v1_0 d _ id fun _ _ => Iff.rfl) (tileParts main_v1_1 d _ id fun _ _ => Iff.rfl) c
  | 1 => core2_eq _ _ _ _ _ _ (tileParts main_v2_0 d _ id fun _ _ => Iff.rfl) (tileParts main_v2_1 d _ id fun _ _ => Iff.rfl) c
  | 2 => core1_eq _ _ _ _ (rowParts main_v3 d _ id fun _ _ => Iff.rfl) c
  | 3 => core1_eq _ _ _ _ (rowParts main_v4 d _ id fun _ _ => Iff.rfl) c

theorem allAt_eq (after : Bool) (q : Fin 4) (d : Dev nD) : (allAt m after q d : sProp 𝕄) = bigSep Finset.univ fun c : Fin 2 => coreAt m after q d c :=
  match q with
  | 0 => all2_eq _ _ _ _ _ _ (tileParts main_v1_0 d _ id fun _ _ => Iff.rfl) (tileParts main_v1_1 d _ id fun _ _ => Iff.rfl)
  | 1 => all2_eq _ _ _ _ _ _ (tileParts main_v2_0 d _ id fun _ _ => Iff.rfl) (tileParts main_v2_1 d _ id fun _ _ => Iff.rfl)
  | 2 => all1_eq _ _ _ _ (rowParts main_v3 d _ id fun _ _ => Iff.rfl)
  | 3 => all1_eq _ _ _ _ (rowParts main_v4 d _ id fun _ _ => Iff.rfl)

omit [FloatOps F] in
theorem nCore_eq (q : Fin 4) : (K (F := F)).nCore q = 2 := match q with | 0 => rfl | 1 => rfl | 2 => rfl | 3 => rfl
omit [FloatOps F] in
theorem nSub_eq (q : Fin 4) : (K (F := F)).nSub q = 16 := match q with | 0 => rfl | 1 => rfl | 2 => rfl | 3 => rfl

/-- What the calls hand over and take back. -/
def P : (K (F := F)).Pay (nD := nD) (Val := Elt F) (Name := ℕ) (U := UU) where
  st := fun q d c => coreAt m false q d (Fin.cast (nCore_eq q) c)
  dn := fun q d c => coreAt m true q d (Fin.cast (nCore_eq q) c)
  go := fun q d c i => tileAt m false q d (Fin.cast (nCore_eq q) c) (Fin.cast (nSub_eq q) i)
  td := fun q d c i => tileAt m true q d (Fin.cast (nCore_eq q) c) (Fin.cast (nSub_eq q) i)
  x := fun _ _ => iprop(emp)

instance coreAt_storable (b : Bool) (q : Fin 4) (d : Dev nD) (c : Fin 2) : Storable (upEmb : UEmb _ 𝕄) (coreAt m b q d c) :=
  match q with
  | 0 => by unfold coreAt core2; infer_instance
  | 1 => by unfold coreAt core2; infer_instance
  | 2 => by unfold coreAt core1; infer_instance
  | 3 => by unfold coreAt core1; infer_instance
instance tileAt_storable (b : Bool) (q : Fin 4) (d : Dev nD) (c : Fin 2) (i : Fin 16) : Storable (upEmb : UEmb _ 𝕄) (tileAt m b q d c i) :=
  match q with
  | 0 => by unfold tileAt tile2; infer_instance
  | 1 => by unfold tileAt tile2; infer_instance
  | 2 => by unfold tileAt tile1; infer_instance
  | 3 => by unfold tileAt tile1; infer_instance

instance P_storable : (P (F := F) m).IsStorable where
  st q d c := coreAt_storable m false q d _
  dn q d c := coreAt_storable m true q d _
  go q d c i := tileAt_storable m false q d _ _
  td q d c i := tileAt_storable m true q d _ _

/-! ## The tiles' tasks -/

section Tile

variable (d : Dev nD) (i : grid0.Coords)

/-- A task, over the tile's own buffers and semaphores, from a run of its body over those it uses. -/
theorem task_of (hF : (K (F := F)).Facts) {α : Type} {A A' B C : sProp 𝕄} {e : TP (F := F) i α} {O : CellTallies nD τ sig (HIx 4)} {W : Waits sig (HIx 4)}
    {R : Option (Fin 4) → Prop} (hO : ∀ g, O g none = 0) (hB : (ownBufs (thr d i) : sProp 𝕄) = B) (hC : (ownSems0 (thr d i) : sProp 𝕄) = C)
    (h : iprop(MayWaits (thr d i) none O ∗ A ∗ B ∗ C ∗ owesUp i d none O W) ⊢ wp frame (wpE (defs₀ (F := F)) 𝒱₀ (thr d i) none) Set.univ e fun _ => iprop(A' ∗ B ∗ C ∗ owesUp i d none O W)) :
    (iprop(levAts (K (F := F)).L (K (F := F)).lev ∗ emp ∗ A ∗ scopedBufs (thr d i) ∗ scopedSems0 (thr d i) ∗ owes (thr d i) O W) : sProp 𝕄)
      ⊢ wp frame (wpE (defs₀ (F := F)) 𝒱₀ (thr d i) none) Set.univ e
          fun _ => iprop(A' ∗ scopedBufs (thr d i) ∗ scopedSems0 (thr d i) ∗ ∃ W', ⌜∀ p ∈ W', p ∈ W ∨ p.2 = none ∨ R p.2⌝ ∗ owes (thr d i) O W') := by
  rw [(K (F := F)).scopedBufs_V hF d ((i 0).castLE hcore0) ((i 1).castLE hsub0), SparseCore.Cfg.scopedSems0_V (Val := Elt F) d ((i 0).castLE hcore0) ((i 1).castLE hsub0), hB, hC]
  iintro ⟨#Hlv, -, HA, HB, HC, HO⟩
  ihave Hmw := ((K (F := F)).mayWaits_none (thr := thr d i) hO) $$ Hlv
  iapply (wp_wand frame (wpE (defs₀ (F := F)) 𝒱₀ (thr d i) none) Set.univ) $$ [HA HB HC HO]
  · iapply h
    isplitr; · iexact Hmw
    isplitl [HA]; · iexact HA
    isplitl [HB]; · iexact HB
    isplitl [HC]; · iexact HC
    unfold owesUp
    iexists W; isplitr
    · ipureintro; exact fun p hp => .inl hp
    · iexact HO
  iintro %_ ⟨HA, HB, HC, HO⟩
  isplitl [HA]; · iexact HA
  isplitl [HB]; · iexact HB
  isplitl [HC]; · iexact HC
  unfold owesUp
  icases HO with ⟨%W', %hW', HO⟩
  iexists W'; isplitr
  · ipureintro; exact fun p hp => (hW' p hp).imp_right Or.inl
  · iexact HO

/-- A task's program as the launch runs it. -/
abbrev task0 : TP (F := F) i PUnit :=
  cc0__lambda_ i (Memref.whole main_v0_scv) (Memref.isWhole_whole _) (Memref.whole main_arg1_scv) (Memref.isWhole_whole _)
    (Memref.whole main_v1_0_scv) (Memref.isWhole_whole _) (Memref.whole main_v1_1_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scoped0 cc0_scoped1 cc0_scoped2
abbrev task1 : TP (F := F) i PUnit :=
  cc1__lambda_ i (Memref.whole main_v0_scv) (Memref.isWhole_whole _) (Memref.whole main_arg2_scv) (Memref.isWhole_whole _)
    (Memref.whole main_v2_0_scv) (Memref.isWhole_whole _) (Memref.whole main_v2_1_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) cc1_scratch5 cc1_scratch6 cc1_scoped0 cc1_scoped1 cc1_scoped2
abbrev task2 : TP (F := F) i PUnit :=
  cc2__k4_body i (Memref.whole main_arg3_scv) (Memref.isWhole_whole _) (Memref.whole main_arg4_scv) (Memref.isWhole_whole _)
    (Memref.whole main_v3_scv) (Memref.isWhole_whole _) (Memref.whole cc2_scratch0) (Memref.isWhole_whole _)
    (Memref.whole cc2_scratch1) (Memref.isWhole_whole _) (Memref.whole cc2_scratch2) (Memref.isWhole_whole _) cc2_scoped0 cc2_scoped1 cc2_scoped2
abbrev task3 : TP (F := F) i PUnit :=
  cc3__k4_body i (Memref.whole main_arg5_scv) (Memref.isWhole_whole _) (Memref.whole main_arg6_scv) (Memref.isWhole_whole _)
    (Memref.whole main_v4_scv) (Memref.isWhole_whole _) (Memref.whole cc3_scratch0) (Memref.isWhole_whole _)
    (Memref.whole cc3_scratch1) (Memref.isWhole_whole _) (Memref.whole cc3_scratch2) (Memref.isWhole_whole _) cc3_scoped0 cc3_scoped1 cc3_scoped2

/-- A task of call `q` runs from its holding before to its holding after. -/
def Runs (q : Fin 4) (e : TP (F := F) i PUnit) : Prop :=
  ∀ (O : CellTallies nD τ sig (HIx 4)) (W : Waits sig (HIx 4)), (∀ g, O g none = 0) → ∀ R : Option (Fin 4) → Prop,
    (iprop(levAts (K (F := F)).L (K (F := F)).lev ∗ emp ∗ tileAt m false q d (i 0) (i 1) ∗ scopedBufs (thr d i) ∗ scopedSems0 (thr d i) ∗ owes (thr d i) O W) : sProp 𝕄)
      ⊢ wp frame (wpE (defs₀ (F := F)) 𝒱₀ (thr d i) none) Set.univ e
          fun _ => iprop(tileAt m true q d (i 0) (i 1) ∗ scopedBufs (thr d i) ∗ scopedSems0 (thr d i) ∗ ∃ W', ⌜∀ p ∈ W', p ∈ W ∨ p.2 = none ∨ R p.2⌝ ∗ owes (thr d i) O W')

theorem runs0 (h : Ranges m) : Runs m d i 0 (task0 i) := by
  intro O W hO R
  obtain ⟨B, hB⟩ := bufs_split (F := F) (Ix := HIx 4) (Name := ℕ) (U := UU) (Lvl := ℕ) i d [cc0_scratch0, cc0_scratch1, cc0_scratch2, cc0_scratch3, cc0_scratch4] (by decide)
    (by simp only [List.forall_mem_cons]; exact ⟨SparseCore.Cfg.mem_ownRefs_of_owner rfl, SparseCore.Cfg.mem_ownRefs_of_owner rfl, SparseCore.Cfg.mem_ownRefs_of_owner rfl,
      SparseCore.Cfg.mem_ownRefs_of_owner rfl, SparseCore.Cfg.mem_ownRefs_of_owner rfl, fun _ h => nomatch h⟩)
  obtain ⟨C, hC⟩ := sems_split (F := F) (Ix := HIx 4) (Name := ℕ) (U := UU) (Lvl := ℕ) i d [cc0_scratch5.sem, cc0_scratch6.sem, cc0_scoped0.sem, cc0_scoped1.sem, cc0_scoped2.sem] (by decide)
  have hB' : (ownBufs (thr d i) : sProp 𝕄) = iprop(heldAny i d (Memref.whole cc0_scratch0) ∗ heldAny i d (Memref.whole cc0_scratch1) ∗ heldAny i d (Memref.whole cc0_scratch2)
      ∗ heldAny i d (Memref.whole cc0_scratch3) ∗ heldAny i d (Memref.whole cc0_scratch4) ∗ B) := hB
  have hC' : (ownSems0 (thr d i) : sProp 𝕄) = iprop(semVal (thr d i, .dma cc0_scratch5.sem) 0 ∗ semVal (thr d i, .dma cc0_scratch6.sem) 0 ∗ semVal (thr d i, .dma cc0_scoped0.sem) 0
      ∗ semVal (thr d i, .dma cc0_scoped1.sem) 0 ∗ semVal (thr d i, .dma cc0_scoped2.sem) 0 ∗ C) := hC
  refine task_of d i facts hO hB' hC' ?_
  unfold task0
  rw [cc0_eq]
  rw [show (tileAt m false 0 d (i 0) (i 1) : sProp 𝕄) = iprop((loc main_v0 d ↦{tileShare (i 0) (i 1)} tab m d) ∗ (loc main_arg1 d ↦{tileShare (i 0) (i 1)} m (loc main_arg1 d))
      ∗ (loc main_v1_0 d ↦[tileSet (wid i)]{fullShare} m (loc main_v1_0 d)) ∗ (loc main_v1_1 d ↦[tileSet (wid i)]{fullShare} m (loc main_v1_1 d))) from rfl,
    show (tileAt m true 0 d (i 0) (i 1) : sProp 𝕄) = iprop((loc main_v0 d ↦{tileShare (i 0) (i 1)} tab m d) ∗ (loc main_arg1 d ↦{tileShare (i 0) (i 1)} m (loc main_arg1 d))
      ∗ (loc main_v1_0 d ↦[tileSet (wid i)]{fullShare} outP0 m d) ∗ (loc main_v1_1 d ↦[tileSet (wid i)]{fullShare} outL0 m d)) from rfl]
  have hg := gather_task (Name := ℕ) (U := UU) (Lvl := ℕ) (defs := defs₀ (F := F)) 𝒱₀ i d (Memref.whole main_v0_scv) (Memref.whole main_arg1_scv) (Memref.whole main_v1_0_scv) (Memref.whole main_v1_1_scv)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scoped0 cc0_scoped1 cc0_scoped2
    (tableN (tab m d) (0 + wid i / 8)) (wid i % 8 * 128) (logitN (m (loc main_arg1 d))) (none : HIx 4) O W B C (fun k _ => tab_lt h d _) (by omega) (rowWord_wid i)
    (k0_off1 i) (k0_off1_inb i) (tileShare (i 0) (i 1)) (tab m d) (m (loc main_arg1 d))
    (table_read i 0 (by have := wid_lt i; omega) _ _ (off0_eq i) (tab m d)) (logit_at (m (loc main_arg1 d)))
    (tileSet (wid i)) (tileSet (wid i)) (outI0_set i) (outS0_set i) (m (loc main_v1_0 d)) (outP0 m d) (m (loc main_v1_1 d)) (outL0 m d)
    (fun y hy => (outI0_write i _ _ hy).trans (posSpec_at 0 _ i hy)) (fun y hy => (outS0_write i _ _ hy).trans (selSpec_at 0 _ _ i hy))
  exact hg

theorem runs1 (h : Ranges m) : Runs m d i 1 (task1 i) := by
  intro O W hO R
  obtain ⟨B, hB⟩ := bufs_split (F := F) (Ix := HIx 4) (Name := ℕ) (U := UU) (Lvl := ℕ) i d [cc1_scratch0, cc1_scratch1, cc1_scratch2, cc1_scratch3, cc1_scratch4] (by decide)
    (by simp only [List.forall_mem_cons]; exact ⟨SparseCore.Cfg.mem_ownRefs_of_owner rfl, SparseCore.Cfg.mem_ownRefs_of_owner rfl, SparseCore.Cfg.mem_ownRefs_of_owner rfl,
      SparseCore.Cfg.mem_ownRefs_of_owner rfl, SparseCore.Cfg.mem_ownRefs_of_owner rfl, fun _ h => nomatch h⟩)
  obtain ⟨C, hC⟩ := sems_split (F := F) (Ix := HIx 4) (Name := ℕ) (U := UU) (Lvl := ℕ) i d [cc1_scratch5.sem, cc1_scratch6.sem, cc1_scoped0.sem, cc1_scoped1.sem, cc1_scoped2.sem] (by decide)
  have hB' : (ownBufs (thr d i) : sProp 𝕄) = iprop(heldAny i d (Memref.whole cc1_scratch0) ∗ heldAny i d (Memref.whole cc1_scratch1) ∗ heldAny i d (Memref.whole cc1_scratch2)
      ∗ heldAny i d (Memref.whole cc1_scratch3) ∗ heldAny i d (Memref.whole cc1_scratch4) ∗ B) := hB
  have hC' : (ownSems0 (thr d i) : sProp 𝕄) = iprop(semVal (thr d i, .dma cc1_scratch5.sem) 0 ∗ semVal (thr d i, .dma cc1_scratch6.sem) 0 ∗ semVal (thr d i, .dma cc1_scoped0.sem) 0
      ∗ semVal (thr d i, .dma cc1_scoped1.sem) 0 ∗ semVal (thr d i, .dma cc1_scoped2.sem) 0 ∗ C) := hC
  refine task_of d i facts hO hB' hC' ?_
  unfold task1
  rw [cc1_eq]
  rw [show (tileAt m false 1 d (i 0) (i 1) : sProp 𝕄) = iprop((loc main_v0 d ↦{tileShare (i 0) (i 1)} tab m d) ∗ (loc main_arg2 d ↦{tileShare (i 0) (i 1)} m (loc main_arg2 d))
      ∗ (loc main_v2_0 d ↦[tileSet (wid i)]{fullShare} m (loc main_v2_0 d)) ∗ (loc main_v2_1 d ↦[tileSet (wid i)]{fullShare} m (loc main_v2_1 d))) from rfl,
    show (tileAt m true 1 d (i 0) (i 1) : sProp 𝕄) = iprop((loc main_v0 d ↦{tileShare (i 0) (i 1)} tab m d) ∗ (loc main_arg2 d ↦{tileShare (i 0) (i 1)} m (loc main_arg2 d))
      ∗ (loc main_v2_0 d ↦[tileSet (wid i)]{fullShare} outP1 m d) ∗ (loc main_v2_1 d ↦[tileSet (wid i)]{fullShare} outL1 m d)) from rfl]
  have hg := gather_task (Name := ℕ) (U := UU) (Lvl := ℕ) (defs := defs₀ (F := F)) 𝒱₀ i d (Memref.whole main_v0_scv) (Memref.whole main_arg2_scv) (Memref.whole main_v2_0_scv) (Memref.whole main_v2_1_scv)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) cc1_scratch5 cc1_scratch6 cc1_scoped0 cc1_scoped1 cc1_scoped2
    (tableN (tab m d) (4 + wid i / 8)) (wid i % 8 * 128) (logitN (m (loc main_arg2 d))) (none : HIx 4) O W B C (fun k _ => tab_lt h d _) (by omega) (rowWord_wid i)
    (k1_off1 i) (k1_off1_inb i) (tileShare (i 0) (i 1)) (tab m d) (m (loc main_arg2 d))
    (table_read i 4 (by have := wid_lt i; omega) _ _ (off1_eq i) (tab m d)) (logit_at (m (loc main_arg2 d)))
    (tileSet (wid i)) (tileSet (wid i)) (outI1_set i) (outS1_set i) (m (loc main_v2_0 d)) (outP1 m d) (m (loc main_v2_1 d)) (outL1 m d)
    (fun y hy => (outI1_write i _ _ hy).trans (posSpec_at 4 _ i hy)) (fun y hy => (outS1_write i _ _ hy).trans (selSpec_at 4 _ _ i hy))
  exact hg

theorem runs2 (h : Ranges m) : Runs m d i 2 (task2 i) := by
  intro O W hO R
  obtain ⟨B, hB⟩ := bufs_split (F := F) (Ix := HIx 4) (Name := ℕ) (U := UU) (Lvl := ℕ) i d [cc2_scratch0, cc2_scratch1, cc2_scratch2] (by decide)
    (by simp only [List.forall_mem_cons]; exact ⟨SparseCore.Cfg.mem_ownRefs_of_owner rfl, SparseCore.Cfg.mem_ownRefs_of_owner rfl, SparseCore.Cfg.mem_ownRefs_of_owner rfl, fun _ h => nomatch h⟩)
  obtain ⟨C, hC⟩ := sems_split (F := F) (Ix := HIx 4) (Name := ℕ) (U := UU) (Lvl := ℕ) i d [cc2_scoped0.sem, cc2_scoped1.sem, cc2_scoped2.sem] (by decide)
  have hB' : (ownBufs (thr d i) : sProp 𝕄) = iprop(heldAny i d (Memref.whole cc2_scratch0) ∗ heldAny i d (Memref.whole cc2_scratch1) ∗ heldAny i d (Memref.whole cc2_scratch2) ∗ B) := hB
  have hC' : (ownSems0 (thr d i) : sProp 𝕄) = iprop(semVal (thr d i, .dma cc2_scoped0.sem) 0 ∗ semVal (thr d i, .dma cc2_scoped1.sem) 0 ∗ semVal (thr d i, .dma cc2_scoped2.sem) 0 ∗ C) := hC
  refine task_of d i facts hO hB' hC' ?_
  unfold task2
  rw [cc2_eq]
  rw [show (tileAt m false 2 d (i 0) (i 1) : sProp 𝕄) = iprop((loc main_arg3 d ↦{tileShare (i 0) (i 1)} m (loc main_arg3 d)) ∗ (loc main_arg4 d ↦{tileShare (i 0) (i 1)} m (loc main_arg4 d))
      ∗ (loc main_v3 d ↦[rowSet (wid i)]{fullShare} m (loc main_v3 d))) from rfl,
    show (tileAt m true 2 d (i 0) (i 1) : sProp 𝕄) = iprop((loc main_arg3 d ↦{tileShare (i 0) (i 1)} m (loc main_arg3 d)) ∗ (loc main_arg4 d ↦{tileShare (i 0) (i 1)} m (loc main_arg4 d))
      ∗ (loc main_v3 d ↦[rowSet (wid i)]{fullShare} outD0 m d)) from rfl]
  have hg := dense_task (Name := ℕ) (U := UU) (Lvl := ℕ) (defs := defs₀ (F := F)) 𝒱₀ i d (Memref.whole main_arg3_scv) (Memref.whole main_arg4_scv) (Memref.whole main_v3_scv)
    (Memref.whole cc2_scratch0) (Memref.isWhole_whole _) (Memref.whole cc2_scratch1) (Memref.isWhole_whole _) (Memref.whole cc2_scratch2) (Memref.isWhole_whole _)
    cc2_scoped0 cc2_scoped1 cc2_scoped2 (wordN (m (loc main_arg4 d)) (wid i)) (wordN (m (loc main_arg3 d)) (wid i)) (none : HIx 4) O W B C
    (fun l _ c hc => word_lt (h.w0 d) _ c l hc) (rowSet (wid i)) (outD0_sub i) (tileShare (i 0) (i 1)) (m (loc main_arg3 d)) (m (loc main_arg4 d))
    (word_at (m (loc main_arg3 d)) i) (word_at (m (loc main_arg4 d)) i) (m (loc main_v3 d)) (outD0 m d)
    (fun f hf y hy => (hf y (rowSet_bounds i hy).1 (rowSet_bounds i hy).2).trans (denseSpec_at _ _ i hy))
  exact hg

theorem runs3 (h : Ranges m) : Runs m d i 3 (task3 i) := by
  intro O W hO R
  obtain ⟨B, hB⟩ := bufs_split (F := F) (Ix := HIx 4) (Name := ℕ) (U := UU) (Lvl := ℕ) i d [cc3_scratch0, cc3_scratch1, cc3_scratch2] (by decide)
    (by simp only [List.forall_mem_cons]; exact ⟨SparseCore.Cfg.mem_ownRefs_of_owner rfl, SparseCore.Cfg.mem_ownRefs_of_owner rfl, SparseCore.Cfg.mem_ownRefs_of_owner rfl, fun _ h => nomatch h⟩)
  obtain ⟨C, hC⟩ := sems_split (F := F) (Ix := HIx 4) (Name := ℕ) (U := UU) (Lvl := ℕ) i d [cc3_scoped0.sem, cc3_scoped1.sem, cc3_scoped2.sem] (by decide)
  have hB' : (ownBufs (thr d i) : sProp 𝕄) = iprop(heldAny i d (Memref.whole cc3_scratch0) ∗ heldAny i d (Memref.whole cc3_scratch1) ∗ heldAny i d (Memref.whole cc3_scratch2) ∗ B) := hB
  have hC' : (ownSems0 (thr d i) : sProp 𝕄) = iprop(semVal (thr d i, .dma cc3_scoped0.sem) 0 ∗ semVal (thr d i, .dma cc3_scoped1.sem) 0 ∗ semVal (thr d i, .dma cc3_scoped2.sem) 0 ∗ C) := hC
  refine task_of d i facts hO hB' hC' ?_
  unfold task3
  rw [cc3_eq]
  rw [show (tileAt m false 3 d (i 0) (i 1) : sProp 𝕄) = iprop((loc main_arg5 d ↦{tileShare (i 0) (i 1)} m (loc main_arg5 d)) ∗ (loc main_arg6 d ↦{tileShare (i 0) (i 1)} m (loc main_arg6 d))
      ∗ (loc main_v4 d ↦[rowSet (wid i)]{fullShare} m (loc main_v4 d))) from rfl,
    show (tileAt m true 3 d (i 0) (i 1) : sProp 𝕄) = iprop((loc main_arg5 d ↦{tileShare (i 0) (i 1)} m (loc main_arg5 d)) ∗ (loc main_arg6 d ↦{tileShare (i 0) (i 1)} m (loc main_arg6 d))
      ∗ (loc main_v4 d ↦[rowSet (wid i)]{fullShare} outD1 m d)) from rfl]
  have hg := dense_task (Name := ℕ) (U := UU) (Lvl := ℕ) (defs := defs₀ (F := F)) 𝒱₀ i d (Memref.whole main_arg5_scv) (Memref.whole main_arg6_scv) (Memref.whole main_v4_scv)
    (Memref.whole cc3_scratch0) (Memref.isWhole_whole _) (Memref.whole cc3_scratch1) (Memref.isWhole_whole _) (Memref.whole cc3_scratch2) (Memref.isWhole_whole _)
    cc3_scoped0 cc3_scoped1 cc3_scoped2 (wordN (m (loc main_arg6 d)) (wid i)) (wordN (m (loc main_arg5 d)) (wid i)) (none : HIx 4) O W B C
    (fun l _ c hc => word_lt (h.w1 d) _ c l hc) (rowSet (wid i)) (outD1_sub i) (tileShare (i 0) (i 1)) (m (loc main_arg5 d)) (m (loc main_arg6 d))
    (word_at (m (loc main_arg5 d)) i) (word_at (m (loc main_arg6 d)) i) (m (loc main_v4 d)) (outD1 m d)
    (fun f hf y hy => (hf y (rowSet_bounds i hy).1 (rowSet_bounds i hy).2).trans (denseSpec_at _ _ i hy))
  exact hg

end Tile

/-! ## The obligations of the launch -/

/-- A tile's coordinates. -/
abbrev coords (c : Fin (grid0.bound 0)) (s : Fin (grid0.bound 1)) : grid0.Coords :=
  fun | 0 => c | 1 => s | ⟨_ + 2, h⟩ => absurd h (Nat.not_lt.2 (Nat.le_add_left _ _))

/-- A call's task as the launch calls it: the tile's, its program the kernel's at the tile's coordinates. -/
theorem onTile_runs (q : Fin 4) (task : (i : grid0.Coords) → TP (F := F) i PUnit) (d : Dev nD) (hrun : ∀ i, Runs m d i q (task i))
    (c : Fin τ.nSC) (s : Fin τ.nSub) (hc : c.val < grid0.bound 0) (hs : s.val < grid0.bound 1)
    {O : CellTallies nD τ sig (HIx 4)} {W : Waits sig (HIx 4)} (hO : ∀ g, O g none = 0) (R : Option (Fin 4) → Prop) :
    (iprop(levAts (K (F := F)).L (K (F := F)).lev ∗ emp ∗ tileAt m false q d ⟨c.val, hc⟩ ⟨s.val, hs⟩ ∗ scopedBufs (V d c s) ∗ scopedSems0 (V d c s) ∗ owes (V d c s) O W) : sProp 𝕄)
      ⊢ wp frame (wpE (D (F := F)) 𝒱 (V d c s) (some v₀)) Set.univ
          (Pipeline.liftProg (SparseCore.onTile hcore0 hsub0 (fun c s => task (coords c s)) ⟨⟩ c s))
          fun _ => iprop(tileAt m true q d ⟨c.val, hc⟩ ⟨s.val, hs⟩ ∗ scopedBufs (V d c s) ∗ scopedSems0 (V d c s) ∗ ∃ W', ⌜∀ p ∈ W', p ∈ W ∨ p.2 = none ∨ R p.2⌝ ∗ owes (V d c s) O W') := by
  refine BI.Entails.trans ?_ (Pipeline.wp_liftProg (D (F := F)) (Pipeline.defs_kernel pcfgs defs₀) 𝒱₀ _ Set.univ none _ _)
  have h : c.val < grid0.bound 0 ∧ s.val < grid0.bound 1 := ⟨hc, hs⟩
  simp only [SparseCore.onTile, h, and_self, ↓reduceDIte]
  exact hrun (coords ⟨_, hc⟩ ⟨_, hs⟩) O W hO R

theorem tileObl0 (h : Ranges m) : (K (F := F)).TileObl (D (F := F)) 𝒱 (P m) v₀ 0 := by
  intro d c i O W hO _ _
  simp only [show (P m).ox = fun _ _ => 0 from rfl, add_zero]
  exact onTile_runs m 0 task0 d (fun i => runs0 m d i h) ((K (F := F)).core 0 c) ((K (F := F)).sub 0 i) c.isLt i.isLt hO (fun x => x = some 0)
theorem tileObl1 (h : Ranges m) : (K (F := F)).TileObl (D (F := F)) 𝒱 (P m) v₀ 1 := by
  intro d c i O W hO _ _
  simp only [show (P m).ox = fun _ _ => 0 from rfl, add_zero]
  exact onTile_runs m 1 task1 d (fun i => runs1 m d i h) ((K (F := F)).core 1 c) ((K (F := F)).sub 1 i) c.isLt i.isLt hO (fun x => x = some 1)
theorem tileObl2 (h : Ranges m) : (K (F := F)).TileObl (D (F := F)) 𝒱 (P m) v₀ 2 := by
  intro d c i O W hO _ _
  simp only [show (P m).ox = fun _ _ => 0 from rfl, add_zero]
  exact onTile_runs m 2 task2 d (fun i => runs2 m d i h) ((K (F := F)).core 2 c) ((K (F := F)).sub 2 i) c.isLt i.isLt hO (fun x => x = some 2)
theorem tileObl3 (h : Ranges m) : (K (F := F)).TileObl (D (F := F)) 𝒱 (P m) v₀ 3 := by
  intro d c i O W hO _ _
  simp only [show (P m).ox = fun _ _ => 0 from rfl, add_zero]
  exact onTile_runs m 3 task3 d (fun i => runs3 m d i h) ((K (F := F)).core 3 c) ((K (F := F)).sub 3 i) c.isLt i.isLt hO (fun x => x = some 3)

/-- The holdings of a call's SparseCores and of their tiles, over the launch's own ranges of them. -/
theorem bigSep_subs (q : Fin 4) (Φ : Fin 16 → sProp 𝕄) :
    (bigSep Finset.univ fun i : Fin ((K (F := F)).nSub q) => Φ (Fin.cast (nSub_eq q) i)) = bigSep Finset.univ Φ :=
  match q with
  | 0 => bigSep_congr fun _ _ => congrArg Φ (Fin.ext rfl)
  | 1 => bigSep_congr fun _ _ => congrArg Φ (Fin.ext rfl)
  | 2 => bigSep_congr fun _ _ => congrArg Φ (Fin.ext rfl)
  | 3 => bigSep_congr fun _ _ => congrArg Φ (Fin.ext rfl)

theorem bigSep_cores (q : Fin 4) (Φ : Fin 2 → sProp 𝕄) :
    (bigSep Finset.univ fun c : Fin ((K (F := F)).nCore q) => Φ (Fin.cast (nCore_eq q) c)) = bigSep Finset.univ Φ :=
  match q with
  | 0 => bigSep_congr fun _ _ => congrArg Φ (Fin.ext rfl)
  | 1 => bigSep_congr fun _ _ => congrArg Φ (Fin.ext rfl)
  | 2 => bigSep_congr fun _ _ => congrArg Φ (Fin.ext rfl)
  | 3 => bigSep_congr fun _ _ => congrArg Φ (Fin.ext rfl)

theorem vecSplit (q : Fin 4) : (K (F := F)).VecSplit' (P m) q := by
  intro d c
  show coreAt m false q d (Fin.cast (nCore_eq q) c) ⊢ |={Set.univ}=> iprop(
      (bigSep Finset.univ fun i : Fin ((K (F := F)).nSub q) => tileAt m false q d (Fin.cast (nCore_eq q) c) (Fin.cast (nSub_eq q) i))
      ∗ ((bigSep Finset.univ fun i : Fin ((K (F := F)).nSub q) => tileAt m true q d (Fin.cast (nCore_eq q) c) (Fin.cast (nSub_eq q) i))
          -∗ coreAt m true q d (Fin.cast (nCore_eq q) c)))
  rw [bigSep_subs (F := F) q (fun i => tileAt m false q d (Fin.cast (nCore_eq q) c) i),
    bigSep_subs (F := F) q (fun i => tileAt m true q d (Fin.cast (nCore_eq q) c) i), coreAt_eq, coreAt_eq]
  iintro H; imodintro
  isplitl [H]; · iexact H
  iintro H; iexact H

theorem st_eq (q : Fin 4) (d : Dev nD) : (bigSep Finset.univ fun c : Fin ((K (F := F)).nCore q) => (P m).st q d c) = allAt m false q d :=
  (bigSep_cores (F := F) q (fun c => coreAt m false q d c)).trans (allAt_eq m false q d).symm
theorem dn_eq (q : Fin 4) (d : Dev nD) : (bigSep Finset.univ fun c : Fin ((K (F := F)).nCore q) => (P m).dn q d c) = allAt m true q d :=
  (bigSep_cores (F := F) q (fun c => coreAt m true q d c)).trans (allAt_eq m true q d).symm

/-! ## The launch element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 4 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## @main -/

/-- An array of @main as the host's operation names it. -/
abbrev dref (b : Ref sig .tc) : DevRef τ sig := Proc.devRef .tc b
abbrev opFlat : HloOp τ sig (Elt F) := StableHlo.reshape main_arg0 main_v0 (rfl : (.i32 : EltTy) = .i32) shapeCasts_S8x1024x8_S65536

/-- @main's arrays. -/
abbrev S14 : Finset (DevRef τ sig) := {dref main_arg0, dref main_v0, dref main_arg1, dref main_v1_0, dref main_v1_1, dref main_arg2, dref main_v2_0, dref main_v2_1,
  dref main_arg3, dref main_arg4, dref main_v3, dref main_arg5, dref main_arg6, dref main_v4}

omit [FloatOps F] in
theorem held_S14 (d : Dev nD) (V : Valuation τ sig (Elt F)) : (held (T d) S14 V : sProp 𝕄) = iprop((loc main_arg0 d ↦{fullShare} V (dref main_arg0))
    ∗ (loc main_v0 d ↦{fullShare} V (dref main_v0))
    ∗ (loc main_arg1 d ↦{fullShare} V (dref main_arg1))
    ∗ (loc main_v1_0 d ↦{fullShare} V (dref main_v1_0))
    ∗ (loc main_v1_1 d ↦{fullShare} V (dref main_v1_1))
    ∗ (loc main_arg2 d ↦{fullShare} V (dref main_arg2))
    ∗ (loc main_v2_0 d ↦{fullShare} V (dref main_v2_0))
    ∗ (loc main_v2_1 d ↦{fullShare} V (dref main_v2_1))
    ∗ (loc main_arg3 d ↦{fullShare} V (dref main_arg3))
    ∗ (loc main_arg4 d ↦{fullShare} V (dref main_arg4))
    ∗ (loc main_v3 d ↦{fullShare} V (dref main_v3))
    ∗ (loc main_arg5 d ↦{fullShare} V (dref main_arg5))
    ∗ (loc main_arg6 d ↦{fullShare} V (dref main_arg6))
    ∗ (loc main_v4 d ↦{fullShare} V (dref main_v4))) := by
  unfold held S14
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S14 (V0 m d) := by
  unfold unscopedBufs
  rw [held_S14, show (Finset.univ.filter fun b : Ref sig .tc => ¬ b.isScoped) = {main_arg0, main_v0, main_arg1, main_v1_0, main_v1_1, main_arg2, main_v2_0, main_v2_1,
      main_arg3, main_arg4, main_v3, main_arg5, main_arg6, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

omit [FloatOps F] in
/-- After the reshape: the flat table, everything else as at the launch. -/
theorem held_flat (d : Dev nD) : (held (T d) S14 ((opFlat (F := F)).result (V0 m d)) : sProp 𝕄) = iprop((loc main_arg0 d ↦{fullShare} m (loc main_arg0 d))
    ∗ (loc main_v0 d ↦{fullShare} tab m d)
    ∗ (loc main_arg1 d ↦{fullShare} m (loc main_arg1 d))
    ∗ (loc main_v1_0 d ↦{fullShare} m (loc main_v1_0 d))
    ∗ (loc main_v1_1 d ↦{fullShare} m (loc main_v1_1 d))
    ∗ (loc main_arg2 d ↦{fullShare} m (loc main_arg2 d))
    ∗ (loc main_v2_0 d ↦{fullShare} m (loc main_v2_0 d))
    ∗ (loc main_v2_1 d ↦{fullShare} m (loc main_v2_1 d))
    ∗ (loc main_arg3 d ↦{fullShare} m (loc main_arg3 d))
    ∗ (loc main_arg4 d ↦{fullShare} m (loc main_arg4 d))
    ∗ (loc main_v3 d ↦{fullShare} m (loc main_v3 d))
    ∗ (loc main_arg5 d ↦{fullShare} m (loc main_arg5 d))
    ∗ (loc main_arg6 d ↦{fullShare} m (loc main_arg6 d))
    ∗ (loc main_v4 d ↦{fullShare} m (loc main_v4 d))) := by
  have hne : ∀ b : Ref sig .tc, dref b ≠ dref main_v0 → (opFlat (F := F)).result (V0 m d) (dref b) = m (loc b d) := fun b h =>
    (opFlat (F := F)).result_of_not_mem (V0 m d) (show dref b ∉ ({dref main_v0} : Finset (DevRef τ sig)) from fun h' => h (Finset.mem_singleton.mp h'))
  rw [held_S14, show (opFlat (F := F)).result (V0 m d) (dref main_v0) = tab m d from StableHlo.reshape_result main_arg0 main_v0 rfl shapeCasts_S8x1024x8_S65536 _ _ _,
    hne main_arg0 (by decide), hne main_arg1 (by decide), hne main_v1_0 (by decide), hne main_v1_1 (by decide), hne main_arg2 (by decide),
    hne main_v2_0 (by decide), hne main_v2_1 (by decide), hne main_arg3 (by decide), hne main_arg4 (by decide), hne main_v3 (by decide),
    hne main_arg5 (by decide), hne main_arg6 (by decide), hne main_v4 (by decide)]

theorem flat_sub : (opFlat (F := F)).bufs ⊆ S14 := show ({dref main_arg0, dref main_v0} : Finset (DevRef τ sig)) ⊆ S14 by decide

/-- What @main leaves: the arguments as they were, the results as specified. -/
abbrev FIN (d : Dev nD) : sProp 𝕄 :=
  iprop((loc main_arg0 d ↦{fullShare} m (loc main_arg0 d)) ∗ (loc main_arg1 d ↦{fullShare} m (loc main_arg1 d)) ∗ (loc main_arg2 d ↦{fullShare} m (loc main_arg2 d))
    ∗ (loc main_arg3 d ↦{fullShare} m (loc main_arg3 d)) ∗ (loc main_arg4 d ↦{fullShare} m (loc main_arg4 d)) ∗ (loc main_arg5 d ↦{fullShare} m (loc main_arg5 d))
    ∗ (loc main_arg6 d ↦{fullShare} m (loc main_arg6 d))
    ∗ (loc main_v1_0 d ↦{fullShare} outP0 m d) ∗ (loc main_v1_1 d ↦{fullShare} outL0 m d) ∗ (loc main_v2_0 d ↦{fullShare} outP1 m d) ∗ (loc main_v2_1 d ↦{fullShare} outL1 m d)
    ∗ (loc main_v3 d ↦{fullShare} outD0 m d) ∗ (loc main_v4 d ↦{fullShare} outD1 m d) ∗ emp)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S14) flat_sub (V := V0 m d)) $$ [Hb Hheld]
  · isplitl [Hb]; · iexact Hb
    iexact Hheld
  iintro ⟨Hb, Hheld⟩
  ihave Hh := (Entails.of_eq (held_flat (F := F) m d)) $$ Hheld
  icases Hh with ⟨Hr, Hp, Ha0, Hi0, Hs0, Ha1, Hi1, Hs1, Hw0, Hc0, Hd0, Hw1, Hc1, Hd1⟩
  rw [wp_ret]; imodintro
  iapply ((K (F := F)).wp_run (D (F := F)) 𝒱 (EH := EH) (P := P m) κ d 0) $$ [Hst Hb Hts Hr Hp Ha0 Hi0 Hs0 Ha1 Hi1 Hs1 Hw0 Hc0 Hd0 Hw1 Hc1 Hd1]
  isplitr; · iexact Hctx
  isplitl [Hst]; · iexact Hst
  isplitl [Hp Ha0 Hi0 Hs0]
  · rw [st_eq]; unfold allAt all2
    isplitl [Hp]; · iexact Hp
    isplitl [Ha0]; · iexact Ha0
    isplitl [Hi0]; · iexact Hi0
    iexact Hs0
  iintro ⟨Hst, Hdn⟩
  ihave Hdn' := (Entails.of_eq (dn_eq m 0 d)) $$ Hdn
  unfold allAt all2
  icases Hdn' with ⟨Hp, Ha0, Hi0, Hs0⟩
  iapply ((K (F := F)).wp_run (D (F := F)) 𝒱 (EH := EH) (P := P m) κ d 1) $$ [Hst Hb Hts Hr Hp Ha0 Hi0 Hs0 Ha1 Hi1 Hs1 Hw0 Hc0 Hd0 Hw1 Hc1 Hd1]
  isplitr; · iexact Hctx
  isplitl [Hst]; · iexact Hst
  isplitl [Hp Ha1 Hi1 Hs1]
  · rw [st_eq]; unfold allAt all2
    isplitl [Hp]; · iexact Hp
    isplitl [Ha1]; · iexact Ha1
    isplitl [Hi1]; · iexact Hi1
    iexact Hs1
  iintro ⟨Hst, Hdn⟩
  ihave Hdn' := (Entails.of_eq (dn_eq m 1 d)) $$ Hdn
  unfold allAt all2
  icases Hdn' with ⟨Hp, Ha1, Hi1, Hs1⟩
  iapply ((K (F := F)).wp_run (D (F := F)) 𝒱 (EH := EH) (P := P m) κ d 2) $$ [Hst Hb Hts Hr Hp Ha0 Hi0 Hs0 Ha1 Hi1 Hs1 Hw0 Hc0 Hd0 Hw1 Hc1 Hd1]
  isplitr; · iexact Hctx
  isplitl [Hst]; · iexact Hst
  isplitl [Hw0 Hc0 Hd0]
  · rw [st_eq]; unfold allAt all1
    isplitl [Hw0]; · iexact Hw0
    isplitl [Hc0]; · iexact Hc0
    iexact Hd0
  iintro ⟨Hst, Hdn⟩
  ihave Hdn' := (Entails.of_eq (dn_eq m 2 d)) $$ Hdn
  unfold allAt all1
  icases Hdn' with ⟨Hw0, Hc0, Hd0⟩
  iapply ((K (F := F)).wp_run (D (F := F)) 𝒱 (EH := EH) (P := P m) κ d 3) $$ [Hst Hb Hts Hr Hp Ha0 Hi0 Hs0 Ha1 Hi1 Hs1 Hw0 Hc0 Hd0 Hw1 Hc1 Hd1]
  isplitr; · iexact Hctx
  isplitl [Hst]; · iexact Hst
  isplitl [Hw1 Hc1 Hd1]
  · rw [st_eq]; unfold allAt all1
    isplitl [Hw1]; · iexact Hw1
    isplitl [Hc1]; · iexact Hc1
    iexact Hd1
  iintro ⟨Hst, Hdn⟩
  ihave Hdn' := (Entails.of_eq (dn_eq m 3 d)) $$ Hdn
  unfold allAt all1
  icases Hdn' with ⟨Hw1, Hc1, Hd1⟩
  imodintro
  isplitl [Hst]; · iexact Hst
  isplitr [Hb Hts]
  · isplitl [Hr]; · iexact Hr
    isplitl [Ha0]; · iexact Ha0
    isplitl [Ha1]; · iexact Ha1
    isplitl [Hw0]; · iexact Hw0
    isplitl [Hc0]; · iexact Hc0
    isplitl [Hw1]; · iexact Hw1
    isplitl [Hc1]; · iexact Hc1
    isplitl [Hi0]; · iexact Hi0
    isplitl [Hs0]; · iexact Hs0
    isplitl [Hi1]; · iexact Hi1
    isplitl [Hs1]; · iexact Hs1
    isplitl [Hd0]; · iexact Hd0
    isplitl [Hd1]; · iexact Hd1
    iempintro
  isplitl [Hb] <;> iassumption

/-- The arguments as they were, and the results as specified. -/
def fq (d : Dev nD) (st : (ℓ : Loc nD τ sig) → Buf (Elt F) ℓ) : Prop :=
  st (loc main_arg0 d) = m (loc main_arg0 d) ∧ st (loc main_arg1 d) = m (loc main_arg1 d) ∧ st (loc main_arg2 d) = m (loc main_arg2 d)
    ∧ st (loc main_arg3 d) = m (loc main_arg3 d) ∧ st (loc main_arg4 d) = m (loc main_arg4 d) ∧ st (loc main_arg5 d) = m (loc main_arg5 d)
    ∧ st (loc main_arg6 d) = m (loc main_arg6 d)
    ∧ st (loc main_v1_0 d) = outP0 m d ∧ st (loc main_v1_1 d) = outL0 m d ∧ st (loc main_v2_0 d) = outP1 m d ∧ st (loc main_v2_1 d) = outL1 m d
    ∧ st (loc main_v3 d) = outD0 m d ∧ st (loc main_v4 d) = outD1 m d ∧ True

/-- An array held whole is the memory's, whatever else is held says of it. -/
theorem agree_step {st : Phys nD τ sig (Elt F)} {ℓ : Loc nD τ sig} {f : Buf (Elt F) ℓ} {R : sProp 𝕄} {φ : Prop} (h : iprop(R ∗ SI st) ⊢ (⌜φ⌝ : sProp 𝕄)) :
    iprop(((ℓ ↦{fullShare} f) ∗ R) ∗ SI st) ⊢ (⌜st.mem.mem ℓ = f ∧ φ⌝ : sProp 𝕄) := by
  iintro ⟨⟨Hl, HR⟩, HSI⟩
  ihave H := (persistent_entails_right (SI_pointsTo_agree (st := st) (ℓ := ℓ) (I := Finset.univ) (q := fullShare) (f := f))) $$ [HSI Hl]
  · isplitl [HSI] <;> iassumption
  icases H with ⟨%h1, HSI, -⟩
  ihave H := h $$ [HR HSI]
  · isplitl [HR] <;> iassumption
  icases H with %h2
  ipureintro; exact ⟨funext fun i => h1 i (Finset.mem_univ i), h2⟩

theorem hfin (d : Dev nD) (st : Phys nD τ sig (Elt F)) : iprop(FIN m d ∗ SI st) ⊢ (⌜fq m d st.mem.mem⌝ : sProp 𝕄) :=
  agree_step (agree_step (agree_step (agree_step (agree_step (agree_step (agree_step (agree_step (agree_step (agree_step (agree_step (agree_step (agree_step
    (by iintro -; ipureintro; trivial)))))))))))))

/-! ## The program's run -/

/-- The program terminates without fault, with the arguments as they were, the results as specified, and every semaphore at zero. -/
theorem run_main [∀ e, Nonempty (Elt F e)] (h : Ranges m) :
    θ_run (Cert.KernelIdeal.defs (F := F)) (Cert.KernelIdeal.threads (F := F)) ⟨m, fun _ => 0, ρ⟩
      (fun r => (∀ c : Dev nD, fq m c r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq)
    (fun q _ => match q with | 0 => tileObl0 m h | 1 => tileObl1 m h | 2 => tileObl2 m h | 3 => tileObl3 m h)
    (fun q _ => SparseCore.Cfg.VecSplit.of_plain (vecSplit m q))
    m ρ main (fun _ => iprop(emp)) (FIN m) (u₀ (F := F)) (sep_elim_left.trans (hu₀ m)) (hmain m ρ) (fun d st => fq m d st.mem.mem) (hfin m) _ (fun _ h hz => ⟨h, hz⟩)

end Cert.Proof.Launch

end
-- ==== Proof.RefValue.lean ====
/-
  What the reference's positions and logits hold, element by element, in the kernel's layout.
-/
module

public import proofs.«01_k».proof.Proof.Spec
public import proofs.«01_k».proof.Proof.Gen.ReferenceIdeal.Run
public import Idealize.ShloMosaic.Lib.Pipeline.Value
public import Idealize.ShloMosaic.Lib.ReduceAll
public import Idealize.ShloMosaic.Lib.WordCmp

@[expose] public section

noncomputable section

namespace Cert.Proof.Ref

open Cert.ReferenceIdeal Cert.ReferenceIdeal.Gen Cert.ReferenceIdeal.Value
open Idealize.ShloMosaic Idealize.ShloMosaic.StableHlo
open ValueIdx (ix0 ix1 ix2 ix3 ix4)
open Cert.Proof.Body (posW srcN posN tabW idxW tableN logitN posSpec selSpec padZ uI uS full)

/-! ## One word -/

/-- The sign of a word. -/
def sgn (w : BitVec 32) : BitVec 32 := if w = 0 then 0 else if w.msb then -1 else 1

/-- The quotient by 32, rounded down, as the reference computes it. -/
def divR (w : BitVec 32) : BitVec 32 :=
  Scalar.select (IntOp.andi (IntOp.cmpi .ne (sgn w) (sgn 32#32)) (IntOp.cmpi .ne (IntOp.remsi .host w 32#32) 0#32))
    (IntOp.subi (IntOp.divsi .host w 32#32) 1#32) (IntOp.divsi .host w 32#32)

/-- The divisor of the remainder, which is never zero. -/
def den : BitVec 32 := Scalar.select (IntOp.cmpi .eq 32#32 0#32) 1#32 32#32

/-- The remainder by 32, of the divisor's sign, as the reference computes it. -/
def remR (w : BitVec 32) : BitVec 32 :=
  Scalar.select (IntOp.andi (IntOp.cmpi .ne (IntOp.cmpi .slt (IntOp.remsi .host w den) 0#32) (IntOp.cmpi .slt den 0#32))
      (IntOp.cmpi .ne (IntOp.remsi .host w den) 0#32))
    (IntOp.addi (IntOp.remsi .host w den) den) (IntOp.remsi .host w den)

/-- The position group `g` makes of the previous index `p`, as the reference computes it. -/
def posR (p : BitVec 32) : Nat → BitVec 32
  | 0 => p
  | 1 => IntOp.addi (IntOp.muli (IntOp.minsi (IntOp.addi (divR p) 1#32) 31#32) 32#32) (remR p)
  | 2 => IntOp.addi (IntOp.muli (IntOp.maxsi (IntOp.subi (divR p) 1#32) 0#32) 32#32) (remR p)
  | 3 => IntOp.addi (IntOp.muli (divR p) 32#32) (IntOp.minsi (IntOp.addi (remR p) 1#32) 31#32)
  | _ => IntOp.addi (IntOp.muli (divR p) 32#32) (IntOp.maxsi (IntOp.subi (remR p) 1#32) 0#32)

theorem posR_fin : ∀ p : Fin 1024, ∀ g : Fin 5, posR (BitVec.ofNat 32 p.val) g.val = posW (BitVec.ofNat 32 p.val) g.val := by
  decide +kernel

/-- Of an index below 1024 the reference and the kernel make the same position. -/
theorem posR_eq (p : BitVec 32) (hp : p.toNat < 1024) (g : Nat) (hg : g < 5) : posR p g = posW p g := by
  have := posR_fin ⟨p.toNat, hp⟩ ⟨g, hg⟩
  simpa only [BitVec.ofNat_toNat, BitVec.setWidth_eq] using this

/-! ## The padded table -/

variable {F : FTy → Type} [FloatOps F] (V0 : Valuation τ sig (Elt F))

/-- The previous indices laid flat. -/
def flat : Cert.KernelIdeal.S65536.Idx → BitVec 32 :=
  shapeCast Cert.KernelIdeal.S65536 (V0 (Proc.devRef .tc main_arg0) : S8x1024x8.Idx → BitVec 32) Cert.KernelIdeal.Gen.shapeCasts_S8x1024x8_S65536

/-- Entry `k` of cell (`i`, `j`) of batch `b`. -/
theorem v0_at (b : Fin 8) (i j : Fin 32) (k : Fin 8) :
    (res_main_v0 V0 : S8x32x32x8.Idx → BitVec 32) (ix4 b i j k) = tableN (flat V0) b.val ((32 * i.val + j.val) * 8 + k.val) := by
  have hb := b.isLt; have hi := i.isLt; have hj := j.isLt; have hk := k.isLt
  refine (shapeCast_apply _ _ (ix4 b i j k) (ix3 b (⟨32 * i.val + j.val, by omega⟩ : Fin 1024) k) ?_).trans ?_
  · rw [Shape.rowMajor_val_three, Shape.rowMajor_val_four]
    show (b.val * 1024 + (32 * i.val + j.val)) * 8 + k.val = ((b.val * 32 + i.val) * 32 + j.val) * 8 + k.val
    omega
  refine (shapeCast_apply _ _ (ix1 _) _ ?_).symm
  rw [Shape.rowMajor_val_three, Shape.rowMajor_val_one]
  show (b.val * 1024 + (32 * i.val + j.val)) * 8 + k.val = (8192 * b.val + ((32 * i.val + j.val) * 8 + k.val)) % 65536
  omega

/-- The row or column of the table a row or column of the padded one repeats. -/
def cl (p : Fin 34) : Fin 32 := ⟨min (p.val - 1) 31, by omega⟩

/-- The table padded by its first and last rows. -/
theorem v3_at (b : Fin 8) (p : Fin 34) (j : Fin 32) (k : Fin 8) :
    (res_main_v3 V0 : S8x34x32x8.Idx → BitVec 32) (ix4 b p j k) = (res_main_v0 V0 : S8x32x32x8.Idx → BitVec 32) (ix4 b (cl p) j k) := by
  have hp := p.isLt
  unfold res_main_v3
  rcases (by omega : p.val = 0 ∨ (1 ≤ p.val ∧ p.val ≤ 32) ∨ p.val = 33) with h | h | h
  · refine (concatenate_apply_piece (t := S8x34x32x8) 1 _ _ (ix4 b p j k) 0 (by show 0 < 3; decide) S8x1x32x8 _ rfl rfl 0 (by rfl)
      (ix4 b (0 : Fin 1) j k) ?_ ?_).trans ?_
    · intro a ha; fin_cases a
      · rfl
      · exact absurd rfl ha
      · rfl
      · rfl
    · exact h.symm
    refine extractStridedSlice_apply _ _ _ _ _ ?_
    intro a; fin_cases a
    · exact (Nat.zero_add _).symm
    · show min (p.val - 1) 31 = 0 + 0; omega
    · exact (Nat.zero_add _).symm
    · exact (Nat.zero_add _).symm
  · refine (concatenate_apply_piece (t := S8x34x32x8) 1 _ _ (ix4 b p j k) 1 (by show 1 < 3; decide) S8x32x32x8 _ rfl rfl 1 (by rfl)
      (ix4 b (cl p) j k) ?_ ?_)
    · intro a ha; fin_cases a
      · rfl
      · exact absurd rfl ha
      · rfl
      · rfl
    · show 1 + min (p.val - 1) 31 = p.val; omega
  · refine (concatenate_apply_piece (t := S8x34x32x8) 1 _ _ (ix4 b p j k) 2 (by show 2 < 3; decide) S8x1x32x8 _ rfl rfl 33 (by rfl)
      (ix4 b (0 : Fin 1) j k) ?_ ?_).trans ?_
    · intro a ha; fin_cases a
      · rfl
      · exact absurd rfl ha
      · rfl
      · rfl
    · exact h.symm
    refine extractStridedSlice_apply _ _ _ _ _ ?_
    intro a; fin_cases a
    · exact (Nat.zero_add _).symm
    · show min (p.val - 1) 31 = 31 + 0; omega
    · exact (Nat.zero_add _).symm
    · exact (Nat.zero_add _).symm

/-- The table padded on all four sides. -/
theorem v6_at (b : Fin 8) (p q : Fin 34) (k : Fin 8) :
    (res_main_v6 V0 : S8x34x34x8.Idx → BitVec 32) (ix4 b p q k)
      = tableN (flat V0) b.val ((32 * (cl p).val + (cl q).val) * 8 + k.val) := by
  have hq := q.isLt
  rw [← v0_at V0 b (cl p) (cl q) k, ← v3_at V0 b p (cl q) k]
  unfold res_main_v6
  rcases (by omega : q.val = 0 ∨ (1 ≤ q.val ∧ q.val ≤ 32) ∨ q.val = 33) with h | h | h
  · refine (concatenate_apply_piece (t := S8x34x34x8) 2 _ _ (ix4 b p q k) 0 (by show 0 < 3; decide) S8x34x1x8 _ rfl rfl 0 (by rfl)
      (ix4 b p (0 : Fin 1) k) ?_ ?_).trans ?_
    · intro a ha; fin_cases a
      · rfl
      · rfl
      · exact absurd rfl ha
      · rfl
    · exact h.symm
    refine extractStridedSlice_apply _ _ _ _ _ ?_
    intro a; fin_cases a
    · exact (Nat.zero_add _).symm
    · exact (Nat.zero_add _).symm
    · show min (q.val - 1) 31 = 0 + 0; omega
    · exact (Nat.zero_add _).symm
  · refine (concatenate_apply_piece (t := S8x34x34x8) 2 _ _ (ix4 b p q k) 1 (by show 1 < 3; decide) S8x34x32x8 _ rfl rfl 1 (by rfl)
      (ix4 b p (cl q) k) ?_ ?_)
    · intro a ha; fin_cases a
      · rfl
      · rfl
      · exact absurd rfl ha
      · rfl
    · show 1 + min (q.val - 1) 31 = q.val; omega
  · refine (concatenate_apply_piece (t := S8x34x34x8) 2 _ _ (ix4 b p q k) 2 (by show 2 < 3; decide) S8x34x1x8 _ rfl rfl 33 (by rfl)
      (ix4 b p (0 : Fin 1) k) ?_ ?_).trans ?_
    · intro a ha; fin_cases a
      · rfl
      · rfl
      · exact absurd rfl ha
      · rfl
    · exact h.symm
    refine extractStridedSlice_apply _ _ _ _ _ ?_
    intro a; fin_cases a
    · exact (Nat.zero_add _).symm
    · exact (Nat.zero_add _).symm
    · show min (q.val - 1) 31 = 31 + 0; omega
    · exact (Nat.zero_add _).symm

/-! ## The positions -/

theorem v7_at (y : S8x34x34x8.Idx) : (res_main_v7 V0 : S8x34x34x8.Idx → BitVec 32) y = divR ((res_main_v6 V0 : S8x34x34x8.Idx → BitVec 32) y) := rfl
theorem v8_at (y : S8x34x34x8.Idx) : (res_main_v8 V0 : S8x34x34x8.Idx → BitVec 32) y = remR ((res_main_v6 V0 : S8x34x34x8.Idx → BitVec 32) y) := rfl

/-- How far down the padded table group `g`'s source cell lies. -/
def dr : Nat → Nat
  | 1 => 0
  | 2 => 2
  | _ => 1
/-- How far right the padded table group `g`'s source cell lies. -/
def dc : Nat → Nat
  | 3 => 0
  | 4 => 2
  | _ => 1

/-- A slice of the padded table at offset (`o₁`, `o₂`). -/
theorem slice_at {off : Fin 4 → Nat} {o₁ o₂ : Nat} (hoff : off = ![0, o₁, o₂, 0]) (x : S8x34x34x8.Idx → BitVec 32)
    (h : S8x34x34x8.Slices off S8x32x32x8) (b : Fin 8) (i j : Fin 32) (k : Fin 8) (h₁ : i.val + o₁ < 34) (h₂ : j.val + o₂ < 34) :
    extractStridedSlice S8x32x32x8 off x h (ix4 b i j k) = x (ix4 b ⟨i.val + o₁, h₁⟩ ⟨j.val + o₂, h₂⟩ k) := by
  subst hoff
  refine extractStridedSlice_apply _ _ _ _ _ ?_
  intro a; fin_cases a
  · exact (Nat.zero_add _).symm
  · exact Nat.add_comm _ _
  · exact Nat.add_comm _ _
  · exact (Nat.zero_add _).symm

/-- Five tables of 8 columns laid side by side. -/
theorem five_at (f : Fin 5 → S8x32x32x8.Idx → BitVec 32)
    (h : Shape.Concatenates [S8x32x32x8, S8x32x32x8, S8x32x32x8, S8x32x32x8, S8x32x32x8] S8x32x32x40 3)
    (b : Fin 8) (i j : Fin 32) (c : Fin 40) (g : Fin 5) (k : Fin 8) (hc : c.val = 8 * g.val + k.val) :
    concatenate S8x32x32x40 3 [⟨S8x32x32x8, f 0⟩, ⟨S8x32x32x8, f 1⟩, ⟨S8x32x32x8, f 2⟩, ⟨S8x32x32x8, f 3⟩, ⟨S8x32x32x8, f 4⟩] h (ix4 b i j c)
      = f g (ix4 b i j k) := by
  refine concatenate_ofFn_apply (t := S8x32x32x40) (s₁ := S8x32x32x8) 3 f h rfl 8 rfl (ix4 b i j c) g (by show c.val / 8 = g.val; omega) _
    (by show k.val = c.val % 8; omega) ?_
  intro a ha; fin_cases a
  · rfl
  · rfl
  · rfl
  · exact absurd rfl ha

/-- The position of column `c` of row `r`, the cell (`i`, `j`) of batch `b`. -/
theorem v46_at (r : Fin 8192) (c : Fin 40) (b : Fin 8) (i j : Fin 32) (hr : r.val = (b.val * 32 + i.val) * 32 + j.val)
    (g k : Nat) (hg5 : g < 5) (hk8 : k < 8) (hgk : c.val = 8 * g + k) :
    (res_main_v46 V0 : S8192x40.Idx → BitVec 32) (ix2 r c)
      = posR (tableN (flat V0) b.val ((32 * min (i.val + dr g - 1) 31 + min (j.val + dc g - 1) 31) * 8 + k)) g := by
  have hi := i.isLt; have hj := j.isLt; have hc := c.isLt
  unfold res_main_v46
  refine (shapeCast_apply _ _ (ix2 r c) (ix4 b i j c) ?_).trans ?_
  · rw [Shape.rowMajor_val_four, Shape.rowMajor_val_two]
    show ((b.val * 32 + i.val) * 32 + j.val) * 40 + c.val = r.val * 40 + c.val
    rw [hr]
  refine (five_at ![_, _, _, _, _] _ b i j c ⟨g, hg5⟩ ⟨k, hk8⟩ hgk).trans ?_
  have hy : ∀ (o₁ o₂ : Nat) (h₁ : i.val + o₁ < 34) (h₂ : j.val + o₂ < 34) (k : Fin 8),
      (res_main_v6 V0 : S8x34x34x8.Idx → BitVec 32) (ix4 b ⟨i.val + o₁, h₁⟩ ⟨j.val + o₂, h₂⟩ k)
        = tableN (flat V0) b.val ((32 * min (i.val + o₁ - 1) 31 + min (j.val + o₂ - 1) 31) * 8 + k.val) := fun o₁ o₂ h₁ h₂ k => v6_at V0 b _ _ k
  have s8 := fun (o₁ o₂ : Nat) (h : S8x34x34x8.Slices ![0, o₁, o₂, 0] S8x32x32x8) (h₁ : i.val + o₁ < 34) (h₂ : j.val + o₂ < 34) =>
    (slice_at rfl (res_main_v7 V0) h b i j ⟨k, hk8⟩ h₁ h₂).trans ((v7_at V0 _).trans (congrArg divR (hy o₁ o₂ h₁ h₂ ⟨k, hk8⟩)))
  have s9 := fun (o₁ o₂ : Nat) (h : S8x34x34x8.Slices ![0, o₁, o₂, 0] S8x32x32x8) (h₁ : i.val + o₁ < 34) (h₂ : j.val + o₂ < 34) =>
    (slice_at rfl (res_main_v8 V0) h b i j ⟨k, hk8⟩ h₁ h₂).trans ((v8_at V0 _).trans (congrArg remR (hy o₁ o₂ h₁ h₂ ⟨k, hk8⟩)))
  rcases (by omega : g = 0 ∨ g = 1 ∨ g = 2 ∨ g = 3 ∨ g = 4) with rfl | rfl | rfl | rfl | rfl
  · refine (v0_at V0 b i j ⟨k, hk8⟩).trans (congrArg (tableN (flat V0) b.val) ?_)
    show (32 * i.val + j.val) * 8 + k = (32 * min (i.val + 1 - 1) 31 + min (j.val + 1 - 1) 31) * 8 + k
    omega
  · exact congrArg₂ (fun u v => IntOp.addi (IntOp.muli (IntOp.minsi (IntOp.addi u 1#32) 31#32) 32#32) v)
      (s8 0 1 slices_S8x34x34x8_S8x32x32x8_0_0_1_0 (by omega) (by omega)) (s9 0 1 slices_S8x34x34x8_S8x32x32x8_0_0_1_0 (by omega) (by omega))
  · exact congrArg₂ (fun u v => IntOp.addi (IntOp.muli (IntOp.maxsi (IntOp.subi u 1#32) 0#32) 32#32) v)
      (s8 2 1 slices_S8x34x34x8_S8x32x32x8_0_2_1_0 (by omega) (by omega)) (s9 2 1 slices_S8x34x34x8_S8x32x32x8_0_2_1_0 (by omega) (by omega))
  · exact congrArg₂ (fun u v => IntOp.addi (IntOp.muli u 32#32) (IntOp.minsi (IntOp.addi v 1#32) 31#32))
      (s8 1 0 slices_S8x34x34x8_S8x32x32x8_0_1_0_0 (by omega) (by omega)) (s9 1 0 slices_S8x34x34x8_S8x32x32x8_0_1_0_0 (by omega) (by omega))
  · exact congrArg₂ (fun u v => IntOp.addi (IntOp.muli u 32#32) (IntOp.maxsi (IntOp.subi v 1#32) 0#32))
      (s8 1 2 slices_S8x34x34x8_S8x32x32x8_0_1_2_0 (by omega) (by omega)) (s9 1 2 slices_S8x34x34x8_S8x32x32x8_0_1_2_0 (by omega) (by omega))

/-- The source cell in numbers. -/
theorem srcN_cell (i j : Nat) (hi : i < 32) (hj : j < 32) (g : Nat) (hg : g < 5) :
    srcN (32 * i + j) g = 32 * min (i + dr g - 1) 31 + min (j + dc g - 1) 31 := by
  rcases (by omega : g = 0 ∨ g = 1 ∨ g = 2 ∨ g = 3 ∨ g = 4) with rfl | rfl | rfl | rfl | rfl
  · show 32 * i + j = 32 * min (i + 1 - 1) 31 + min (j + 1 - 1) 31; omega
  · show ((32 * i + j) / 32 - 1) * 32 + (32 * i + j) % 32 = 32 * min (i + 0 - 1) 31 + min (j + 1 - 1) 31; omega
  · show min ((32 * i + j) / 32 + 1) 31 * 32 + (32 * i + j) % 32 = 32 * min (i + 2 - 1) 31 + min (j + 1 - 1) 31; omega
  · show (32 * i + j) / 32 * 32 + ((32 * i + j) % 32 - 1) = 32 * min (i + 1 - 1) 31 + min (j + 0 - 1) 31; omega
  · show (32 * i + j) / 32 * 32 + min ((32 * i + j) % 32 + 1) 31 = 32 * min (i + 1 - 1) 31 + min (j + 2 - 1) 31; omega

variable (hT : ∀ x, (flat V0 x).toNat < 1024)
include hT

/-- The position of column `c` of row `r`. -/
theorem idx_at (r : Fin 8192) (c : Fin 40) :
    (res_main_v46 V0 : S8192x40.Idx → BitVec 32) (ix2 r c) = idxW (tableN (flat V0) (r.val / 1024)) (r.val % 1024) c.val := by
  have hr := r.isLt; have hc := c.isLt
  rw [v46_at V0 r c ⟨r.val / 1024, by omega⟩ ⟨r.val % 1024 / 32, by omega⟩ ⟨r.val % 32, by omega⟩
    (by show r.val = (r.val / 1024 * 32 + r.val % 1024 / 32) * 32 + r.val % 32; omega) (c.val / 8) (c.val % 8) (by omega) (by omega) (by omega)]
  refine (posR_eq _ (hT _) _ (by omega)).trans ?_
  have hn : (BitVec.ofNat 32 (r.val % 1024)).toNat = r.val % 1024 := by rw [BitVec.toNat_ofNat]; omega
  have h := Body.tabW_toNat (BitVec.ofNat 32 (r.val % 1024)) (by omega) c.val hc
  have e : srcN (r.val % 1024) (c.val / 8) = _ :=
    (congrArg (srcN · (c.val / 8)) (by omega : r.val % 1024 = 32 * (r.val % 1024 / 32) + r.val % 32)).trans
      (srcN_cell _ _ (by omega) (by omega) _ (by omega))
  rw [hn, e] at h
  unfold idxW
  rw [h]
  rfl

theorem idx_lt (r : Fin 8192) (c : Fin 40) : ((res_main_v46 V0 : S8192x40.Idx → BitVec 32) (ix2 r c)).toNat < 1024 := by
  rw [idx_at V0 hT]
  exact Body.idxW_lt _ (fun k _ => hT _) _ _ (Nat.mod_lt _ (by decide)) c.isLt

omit hT

/-! ## The layout of the results -/

/-- Rows padded on the right, cut in groups of 128 and turned: tile `w`, column `c`, lane `l`. -/
theorem turn_at {α : Type} (y : S8192x48.Idx → α) (h₂ : S8192x48.ShapeCasts S64x128x48) (h₃ : S64x128x48.Transposes [0, 2, 1] S64x48x128)
    (w : Fin 64) (c : Fin 48) (l : Fin 128) (r : Fin 8192) (hr : r.val = w.val * 128 + l.val) :
    transpose S64x48x128 [0, 2, 1] (shapeCast S64x128x48 y h₂) h₃ (ix3 w c l) = y (ix2 r c) := by
  refine (transpose_apply _ _ _ (ix3 w c l) (ix3 w l c) ?_).trans (shapeCast_apply _ _ _ _ ?_)
  · intro a; fin_cases a
    · rfl
    · rfl
    · rfl
  · rw [Shape.rowMajor_val_three, Shape.rowMajor_val_two]
    show r.val * 48 + c.val = (w.val * 128 + l.val) * 48 + c.val
    rw [hr]

/-- Rows of 40 columns padded by 8. -/
theorem pad_at {α : Type} (z : S8192x40.Idx → α) (zz : S8192x8.Idx → α) (v : α) (hz : ∀ y, zz y = v)
    (h : Shape.Concatenates [S8192x40, S8192x8] S8192x48 1) (r : Fin 8192) (c : Fin 48) :
    concatenate S8192x48 1 [⟨S8192x40, z⟩, ⟨S8192x8, zz⟩] h (ix2 r c) = if hc : c.val < 40 then z (ix2 r ⟨c.val, hc⟩) else v := by
  have h48 := c.isLt
  split
  · next hc =>
    refine concatenate_apply_piece (t := S8192x48) 1 _ _ (ix2 r c) 0 (by show 0 < 2; decide) S8192x40 _ rfl rfl 0 (by rfl) (ix2 r ⟨c.val, hc⟩) ?_ (Nat.zero_add _)
    intro a ha; fin_cases a
    · rfl
    · exact absurd rfl ha
  · next hc =>
    refine (concatenate_apply_piece (t := S8192x48) 1 _ _ (ix2 r c) 1 (by show 1 < 2; decide) S8192x8 _ rfl rfl 40 (by rfl)
      (ix2 r (⟨c.val - 40, by omega⟩ : Fin 8)) ?_ ?_).trans (hz _)
    · intro a ha; fin_cases a
      · rfl
      · exact absurd rfl ha
    · show 40 + (c.val - 40) = c.val; omega

/-- A start index's coordinate is the result's on the axis named. -/
theorem siCoord_val {s si t : Shape} (d : GatherDims s si t) (j : t.Idx) (b : Fin si.rank) (hb : b ∈ d.siKept) (e : Fin t.rank)
    (he : d.batchDims[d.siKept.idxOf b]? = some e) : (d.siCoord j b hb).val = (j e).val := by
  obtain ⟨hlt, hv⟩ := List.getElem?_eq_some_iff.1 he
  unfold GatherDims.siCoord
  rw [Fin.val_cast, hv]

/-- The gather of the logits, row by row. -/
theorem gather_at {α : Type} (a : S8192x1024.Idx → α) (idx : IVec S8192x40x1 32) (r : Fin 8192) (c : Fin 40) :
    Host.gather gather_S8192x1024_S8192x40x1_S8192x40_n_1_0_0_1_2_11 a idx (ix2 r c)
      = a (ix2 r ⟨min (idx (ix3 r c (0 : Fin 1))).toInt.toNat 1023, by omega⟩) := by
  unfold Host.gather
  congr 1
  generalize hd : gather_S8192x1024_S8192x40x1_S8192x40_n_1_0_0_1_2_11 = d
  have hcoll : d.collapsedSliceDims = [1] := by rw [← hd]; rfl
  have hob : d.operandBatchingDims = [0] := by rw [← hd]; rfl
  have hsim : d.startIndexMap = [1] := by rw [← hd]; rfl
  have hsb : d.startIndicesBatchingDims = [0] := by rw [← hd]; rfl
  have hivd : d.indexVectorDim = 2 := by rw [← hd]; rfl
  have hsl : d.sliceSizes 1 = 1 := by rw [← hd]; rfl
  have hbd : d.batchDims = [0, 1] := by rw [← hd]; decide
  have hsk : d.siKept = [0, 1] := by rw [← hd]; decide
  have hk : ∀ p : Fin 2, p ∉ d.sKept := by
    intro p; rw [GatherDims.mem_sKept, hcoll, hob]; fin_cases p <;> simp
  funext p
  apply Fin.ext
  simp only [GatherDims.operandIdx, GatherDims.offCoord_eq_zero _ _ _ (hk p), Nat.add_zero]
  match p with
  | ⟨0, _⟩ =>
    rw [GatherDims.start_batching d _ _ _ (by rw [hob]; exact List.mem_singleton.mpr rfl)]
    unfold GatherDims.batchCoord
    rw [dif_pos (by rw [hob]; exact List.mem_singleton.mpr rfl), Nat.zero_add]
    exact siCoord_val d _ _ _ 0 (by simp [hob, hsb, hbd, hsk])
  | ⟨1, _⟩ =>
    rw [GatherDims.batchCoord_eq_zero _ _ _ (by rw [hob]; simp)]
    unfold GatherDims.start
    rw [dif_pos (by rw [hsim]; exact List.mem_singleton.mpr rfl), Nat.add_zero]
    show min (idx _).toInt.toNat (1024 - d.sliceSizes 1) = min (idx (ix3 r c (0 : Fin 1))).toInt.toNat 1023
    rw [hsl]
    congr 4
    funext b
    apply Fin.ext
    match b with
    | ⟨0, _⟩ =>
      unfold GatherDims.siIdx
      rw [dif_neg (by rw [hivd]; simp)]
      exact siCoord_val d _ _ _ 0 (by rw [hbd, hsk]; rfl)
    | ⟨1, _⟩ =>
      unfold GatherDims.siIdx
      rw [dif_neg (by rw [hivd]; simp)]
      exact siCoord_val d _ _ _ 1 (by rw [hbd, hsk]; rfl)
    | ⟨2, _⟩ => exact Nat.lt_one_iff.1 (Fin.isLt _)

/-- The tables of the two halves one above the other. -/
theorem cat_at {α : Type} (a₀ a₁ : S4096x1024.Idx → α) (h : Shape.Concatenates [S4096x1024, S4096x1024] S8192x1024 0) (r : Fin 8192) (c : Fin 1024) :
    concatenate S8192x1024 0 [⟨S4096x1024, a₀⟩, ⟨S4096x1024, a₁⟩] h (ix2 r c) = logitN (if r.val < 4096 then a₀ else a₁) r.val c.val := by
  have hr := r.isLt; have hc := c.isLt
  split
  · next hr4 =>
    refine (concatenate_apply_piece (t := S8192x1024) 0 _ _ (ix2 r c) 0 (by show 0 < 2; decide) S4096x1024 _ rfl rfl 0 (by rfl)
      (ix2 (⟨r.val, hr4⟩ : Fin 4096) c) ?_ (Nat.zero_add _)).trans ?_
    · intro a ha; fin_cases a
      · exact absurd rfl ha
      · rfl
    · exact congrArg a₀ (congrArg₂ ix2 (Fin.ext (Nat.mod_eq_of_lt hr4).symm) (Fin.ext (Nat.mod_eq_of_lt hc).symm))
  · next hr4 =>
    refine (concatenate_apply_piece (t := S8192x1024) 0 _ _ (ix2 r c) 1 (by show 1 < 2; decide) S4096x1024 _ rfl rfl 4096 (by rfl)
      (ix2 (⟨r.val - 4096, by omega⟩ : Fin 4096) c) ?_ ?_).trans ?_
    · intro a ha; fin_cases a
      · exact absurd rfl ha
      · rfl
    · show 4096 + (r.val - 4096) = r.val; omega
    · exact congrArg a₁ (congrArg₂ ix2 (Fin.ext (by show r.val - 4096 = r.val % 4096; omega)) (Fin.ext (Nat.mod_eq_of_lt hc).symm))

/-- Half of the tiles: those from `8 b0` on. -/
theorem half_at {α : Type} (y : S64x48x128.Idx → α) (b0 : Nat) (hb : b0 ≤ 4) {off : Fin 3 → Nat} (hoff : off = ![8 * b0, 0, 0])
    (h : S64x48x128.Slices off S32x48x128) (w : Fin 32) (c : Fin 48) (l : Fin 128) :
    extractStridedSlice S32x48x128 off y h (ix3 w c l) = y (ix3 (⟨8 * b0 + w.val, by omega⟩ : Fin 64) c l) := by
  subst hoff
  refine extractStridedSlice_apply _ _ _ _ _ ?_
  intro a; fin_cases a
  · rfl
  · exact (Nat.zero_add _).symm
  · exact (Nat.zero_add _).symm

/-! ## The positions and the logits, tile by tile -/

include hT

/-- The positions of tile `w`. -/
theorem pos_at (w : Fin 64) (c : Fin 48) (l : Fin 128) :
    (res_main_v52 V0 : S64x48x128.Idx → BitVec 32) (ix3 w c l)
      = if c.val < 40 then idxW (tableN (flat V0) (w.val / 8)) (w.val % 8 * 128 + l.val) c.val else 0#32 := by
  have hw := w.isLt; have hl := l.isLt
  unfold res_main_v52
  refine (turn_at _ _ _ w c l ⟨w.val * 128 + l.val, by omega⟩ rfl).trans ?_
  refine (pad_at _ _ 0#32 (fun _ => rfl) _ _ _).trans ?_
  split
  · refine (idx_at V0 hT _ _).trans ?_
    show idxW (tableN (flat V0) ((w.val * 128 + l.val) / 1024)) ((w.val * 128 + l.val) % 1024) c.val = _
    rw [show (w.val * 128 + l.val) / 1024 = w.val / 8 by omega, show (w.val * 128 + l.val) % 1024 = w.val % 8 * 128 + l.val by omega]
  · rfl

/-- The positions of half the tiles are those of the four batches from `b0`. -/
theorem pos_result (b0 : Nat) (hb : b0 ≤ 4) {off : Fin 3 → Nat} (hoff : off = ![8 * b0, 0, 0]) (h : S64x48x128.Slices off S32x48x128) :
    extractStridedSlice S32x48x128 off (res_main_v52 V0 : S64x48x128.Idx → BitVec 32) h = posSpec b0 (flat V0) := by
  funext x
  rw [ValueIdx.eq_ix3 x]
  generalize (x 0 : Fin 32) = w
  generalize (x 1 : Fin 48) = c
  generalize (x 2 : Fin 128) = l
  refine (half_at _ b0 hb hoff h w c l).trans ((pos_at V0 hT _ c l).trans ?_)
  show _ = if c.val < 40 then uI (tableN (flat V0) (b0 + w.val / 8)) (w.val % 8 * 128) c.val l.val else 0#32
  show (if c.val < 40 then idxW (tableN (flat V0) ((8 * b0 + w.val) / 8)) ((8 * b0 + w.val) % 8 * 128 + l.val) c.val else 0#32) = _
  rw [show (8 * b0 + w.val) / 8 = b0 + w.val / 8 by omega, show (8 * b0 + w.val) % 8 = w.val % 8 by omega]
  rfl

/-- The start indices of the gather are the positions. -/
theorem start_at (r : Fin 8192) (c : Fin 40) :
    (res_main_call2_v5 V0 : S8192x40x1.Idx → BitVec 32) (ix3 r c (0 : Fin 1)) = (res_main_v46 V0 : S8192x40.Idx → BitVec 32) (ix2 r c) := by
  unfold res_main_call2_v5
  refine (shapeCast_apply _ _ _ (ix2 r c) ?_).trans ?_
  · rw [Shape.rowMajor_val_two]
    refine Eq.trans ?_ (Shape.rowMajor_val_three (ix3 r c (0 : Fin 1) : S8192x40x1.Idx)).symm
    show r.val * 40 + c.val = (r.val * 40 + c.val) * 1 + 0
    omega
  · have h := idx_lt V0 hT r c
    show Scalar.select (IntOp.cmpi .slt ((res_main_v46 V0 : S8192x40.Idx → BitVec 32) (ix2 r c)) 0#32) _ ((res_main_v46 V0 : S8192x40.Idx → BitVec 32) (ix2 r c)) = _
    generalize (res_main_v46 V0 : S8192x40.Idx → BitVec 32) (ix2 r c) = w at h ⊢
    have hb : IntOp.cmpi .slt w 0#32 = 0#1 := by
      rw [IntOp.cmpi, WordCmp.ofBool_eq_zero_iff, BitVec.slt_eq_decide, BitVec.toInt_eq_toNat_cond]
      simp; omega
    rw [hb]
    rfl

/-- Every start index is a column of the logits. -/
theorem start_ok (x : S8192x40x1.Idx) : ((res_main_call2_v5 V0 : S8192x40x1.Idx → BitVec 32) x).toNat < 1024 := by
  have e : x = ix3 (x 0) (x 1) (0 : Fin 1) := by
    refine (ValueIdx.eq_ix3 x).trans ?_
    congr 1
    exact Fin.ext (Nat.lt_one_iff.1 (x 2).isLt)
  rw [e]
  exact (congrArg BitVec.toNat (start_at V0 hT (x 0) (x 1))).trans_lt (idx_lt V0 hT (x 0) (x 1))

omit hT in
/-- Where the mask is set a select takes its first operand. -/
theorem select_set {α : Type} {t : Shape} (b : IVec t 1) (u v : t.Idx → α) (j : t.Idx) (h : b j = 1#1) : select b u v j = u j := by
  show Scalar.select (b j) (u j) (v j) = u j
  rw [h]
  rfl

/-- The logits of tile `w`. -/
theorem sel_at (w : Fin 64) (c : Fin 48) (l : Fin 128) :
    (res_main_v56 V0 : S64x48x128.Idx → Elt F .f32) (ix3 w c l)
      = if c.val < 40 then logitN (if w.val * 128 + l.val < 4096 then (V0 (Proc.devRef .tc main_arg1) : S4096x1024.Idx → Elt F .f32) else V0 (Proc.devRef .tc main_arg2))
          (w.val * 128 + l.val) (idxW (tableN (flat V0) (w.val / 8)) (w.val % 8 * 128 + l.val) c.val).toNat else padZ (F := F) := by
  have hw := w.isLt; have hl := l.isLt
  unfold res_main_v56
  refine (turn_at _ _ _ w c l ⟨w.val * 128 + l.val, by omega⟩ rfl).trans ?_
  refine (pad_at _ _ (padZ (F := F)) (fun _ => rfl) _ _ _).trans ?_
  split
  · next hc =>
    generalize hr : (⟨w.val * 128 + l.val, by omega⟩ : Fin 8192) = r
    have hrv : w.val * 128 + l.val = r.val := by rw [← hr]
    generalize hcc : (⟨c.val, hc⟩ : Fin 40) = k
    have hcv : c.val = k.val := by rw [← hcc]
    have hred : Host.reduce IntOp.andi (andi (cmpi .sge (res_main_call2_v5 V0) (broadcastInDim S8192x40x1 ![] bcast_S_S8192x40x1 (constantI S_ 32 0#32)))
        (cmpi .sle (res_main_call2_v5 V0) (broadcastInDim S8192x40x1 ![0, 1, 2] bcast_S1x1x1_S8192x40x1_0_1_2 (broadcastInDim S1x1x1 ![2] bcast_S1_S1x1x1_2 (constantI S1 32 1023#32)))))
        (constantI S_ 1 1#1) reducesTo_S8192x40x1_S8192x40_d2 h_S_ (ix2 r k) = 1#1 := by
      refine Host.reduce_andi_one _ _ _ _ _ rfl fun y => ?_
      show IntOp.andi (IntOp.cmpi .sge ((res_main_call2_v5 V0 : S8192x40x1.Idx → BitVec 32) y) 0#32) (IntOp.cmpi .sle ((res_main_call2_v5 V0 : S8192x40x1.Idx → BitVec 32) y) 1023#32) = 1#1
      have hy := start_ok V0 hT y
      generalize (res_main_call2_v5 V0 : S8192x40x1.Idx → BitVec 32) y = w at hy ⊢
      rw [IntOp.cmpi, IntOp.cmpi, WordCmp.andi_ofBool, WordCmp.ofBool_eq_one_iff, BitVec.sle_eq_decide, BitVec.sle_eq_decide,
        BitVec.toInt_eq_toNat_of_lt (x := w) (by omega)]
      simp; omega
    refine (select_set _ _ _ _ hred).trans ?_
    refine (gather_at _ _ r k).trans ?_
    refine (cat_at _ _ _ r _).trans ?_
    have hi := (start_at V0 hT r k).trans (idx_at V0 hT r k)
    have hlt : (idxW (tableN (flat V0) (r.val / 1024)) (r.val % 1024) k.val).toNat < 1024 := (congrArg BitVec.toNat (idx_at V0 hT r k)).symm.trans_lt (idx_lt V0 hT r k)
    rw [show w.val / 8 = r.val / 1024 by omega, show w.val % 8 * 128 + l.val = r.val % 1024 by omega, hrv, hcv]
    generalize hw : idxW (tableN (flat V0) (r.val / 1024)) (r.val % 1024) k.val = u at hi hlt ⊢
    refine congrArg (logitN _ r.val) ?_
    show min ((res_main_call2_v5 V0 : S8192x40x1.Idx → BitVec 32) (ix3 r k (0 : Fin 1))).toInt.toNat 1023 = u.toNat
    rw [hi, BitVec.toInt_eq_toNat_cond]
    have := u.isLt
    split <;> omega
  · rfl

/-- The logits of half the tiles are those of the four batches from `b0`, read from that half's table. -/
theorem sel_result (b0 : Nat) (hb : b0 ≤ 4) {off : Fin 3 → Nat} (hoff : off = ![8 * b0, 0, 0]) (h : S64x48x128.Slices off S32x48x128)
    (hb4 : 1024 * b0 % 4096 = 0) (af : S4096x1024.Idx → Elt F .f32)
    (haf : (if b0 < 4 then (V0 (Proc.devRef .tc main_arg1) : S4096x1024.Idx → Elt F .f32) else V0 (Proc.devRef .tc main_arg2)) = af) :
    extractStridedSlice S32x48x128 off (res_main_v56 V0 : S64x48x128.Idx → Elt F .f32) h = selSpec (F := F) b0 (flat V0) af := by
  funext x
  rw [ValueIdx.eq_ix3 x]
  generalize (x 0 : Fin 32) = w
  generalize (x 1 : Fin 48) = c
  generalize (x 2 : Fin 128) = l
  have hw : w.val < 32 := w.isLt
  have hl : l.val < 128 := l.isLt
  refine (half_at _ b0 hb hoff h w c l).trans ((sel_at V0 hT _ c l).trans ?_)
  show (if c.val < 40 then logitN (if (8 * b0 + w.val) * 128 + l.val < 4096 then (V0 (Proc.devRef .tc main_arg1) : S4096x1024.Idx → Elt F .f32) else V0 (Proc.devRef .tc main_arg2))
      ((8 * b0 + w.val) * 128 + l.val) (idxW (tableN (flat V0) ((8 * b0 + w.val) / 8)) ((8 * b0 + w.val) % 8 * 128 + l.val) c.val).toNat else padZ (F := F))
    = if c.val < 40 then uS (tableN (flat V0) (b0 + w.val / 8)) (w.val % 8 * 128) (logitN af) (128 * w.val) c.val l.val else padZ (F := F)
  have hif : (if (8 * b0 + w.val) * 128 + l.val < 4096 then (V0 (Proc.devRef .tc main_arg1) : S4096x1024.Idx → Elt F .f32) else V0 (Proc.devRef .tc main_arg2)) = af := by
    rw [← haf]; exact if_congr (by omega) rfl rfl
  rw [hif, show (8 * b0 + w.val) / 8 = b0 + w.val / 8 by omega, show (8 * b0 + w.val) % 8 = w.val % 8 by omega]
  split
  · unfold uS logitN
    refine congrArg af (congrArg₂ ix2 (Fin.ext ?_) rfl)
    show ((8 * b0 + w.val) * 128 + l.val) % 4096 = (128 * w.val + l.val) % 4096
    omega
  · rfl

end Cert.Proof.Ref

end
-- ==== Proof.RefDense.lean ====
/-
  What the reference's two dense results hold: in every row, at the column a word of that row names, the weight beside the last
  such word, and zero elsewhere.
-/
module

public import proofs.«01_k».proof.Proof.Spec
public import proofs.«01_k».proof.Proof.Gen.ReferenceIdeal.Run
public import Idealize.ShloMosaic.Lib.Pipeline.Value
public import Idealize.ShloMosaic.Lib.WordCmp
public import Idealize.ShloMosaic.Lib.ScatterToDense.RefScatter

@[expose] public section

noncomputable section

namespace Cert.Proof.Ref

open Cert.ReferenceIdeal Cert.ReferenceIdeal.Gen Cert.ReferenceIdeal.Value
open Idealize.ShloMosaic Idealize.ShloMosaic.StableHlo
open ValueIdx (ix0 ix1 ix2 ix3 ix4)
open Cert.Proof.Body (wordN denseN denseSpec padZ)
open Idealize.ShloMosaic.ScatterToDense (GS negTo negTo_lt eq_negTo_toNat_iff scatter_eq_GS)
open Idealize.ShloMosaic.LaneScatter (lastHit_congr)
open Idealize.ShloMosaic.Routing (wrap_of_lt)

/-! ## The tables the scatter is handed -/

/-- A table of tiles laid out row by row, its padding columns cut off. -/
def rowsOf {α : Type} (s : S32x48x128.Idx → α) : S4096x40.Idx → α :=
  extractStridedSlice S4096x40 ![0, 0] (shapeCast S4096x48 (transpose S32x128x48 [0, 2, 1] s transposes_S32x48x128_S32x128x48_0_2_1)
    shapeCasts_S32x128x48_S4096x48) slices_S4096x48_S4096x40_0_0

/-- Row `r` of it is lane `r % 128` of tile `r / 128`. -/
theorem rowsOf_at {α : Type} (s : S32x48x128.Idx → α) (r : Fin 4096) (c : Fin 40) :
    rowsOf s (ix2 r c) = wordN s (r.val / 128) c.val (r.val % 128) := by
  have hr := r.isLt; have hc := c.isLt
  unfold rowsOf
  refine (extractStridedSlice_apply _ _ _ _ (ix2 r (⟨c.val, by omega⟩ : Fin 48)) ?_).trans ?_
  · intro a; fin_cases a
    · exact (Nat.zero_add _).symm
    · exact (Nat.zero_add _).symm
  refine (shapeCast_apply _ _ _ (ix3 (⟨r.val / 128, by omega⟩ : Fin 32) (⟨r.val % 128, by omega⟩ : Fin 128) (⟨c.val, by omega⟩ : Fin 48)) ?_).trans ?_
  · rw [Shape.rowMajor_val_three, Shape.rowMajor_val_two]
    show (r.val / 128 * 128 + r.val % 128) * 48 + c.val = r.val * 48 + c.val
    omega
  refine (transpose_apply _ _ _ _ (ix3 (⟨r.val / 128, by omega⟩ : Fin 32) (⟨c.val, by omega⟩ : Fin 48) (⟨r.val % 128, by omega⟩ : Fin 128)) ?_).trans ?_
  · intro a; fin_cases a
    · rfl
    · rfl
    · rfl
  unfold wordN
  congr 1
  refine congr (congrArg₂ ix3 (Fin.ext ?_) (Fin.ext ?_)) (Fin.ext ?_)
  · show r.val / 128 = r.val / 128 % 32; omega
  · show c.val = c.val % 48; omega
  · show r.val % 128 = r.val % 128 % 128; omega

/-- The row numbers. -/
def rowNo : S4096x1.Idx → BitVec 32 := broadcastInDim S4096x1 ![0] bcast_S4096_S4096x1_0 (iotaInDim S4096 32 0)

/-- The columns to write: a negative word is sent past the last column. -/
def colNo (u : S4096x40.Idx → BitVec 32) : S4096x40.Idx → BitVec 32 :=
  select (cmpi .sge u (broadcastInDim S4096x40 ![] bcast_S_S4096x40 (constantI S_ 32 0#32))) u
    (broadcastInDim S4096x40 ![] bcast_S_S4096x40 (id (constantI S_ 32 1024#32)))

/-- The index pairs (row, column), each number first counted from the end where it is negative. -/
def pairs (u : S4096x40.Idx → BitVec 32) : IVec S4096x40x2 32 :=
  concatenate S4096x40x2 2 [⟨S4096x40x1, (broadcastInDim S4096x40x1 ![0, 1] bcast_S4096x40_S4096x40x1_0_1 (broadcastInDim S4096x40 ![0, 1] bcast_S4096x1_S4096x40_0_1
      (select (cmpi .slt rowNo (broadcastInDim S4096x1 ![] bcast_S_S4096x1 (constantI S_ 32 0#32)))
        (addi rowNo (broadcastInDim S4096x1 ![] bcast_S_S4096x1 (constantI S_ 32 4096#32))) rowNo)))⟩,
    ⟨S4096x40x1, (broadcastInDim S4096x40x1 ![0, 1] bcast_S4096x40_S4096x40x1_0_1
      (select (cmpi .slt (colNo u) (broadcastInDim S4096x40 ![] bcast_S_S4096x40 (constantI S_ 32 0#32)))
        (addi (colNo u) (broadcastInDim S4096x40 ![] bcast_S_S4096x40 (constantI S_ 32 1024#32))) (colNo u)))⟩]
    concatenates_S4096x40x1_S4096x40x1_S4096x40x2_d2

/-- The choice by `0 ≤ w` on one word. -/
theorem where_nonneg (n : Nat) (w : BitVec 32) : Scalar.select (IntOp.cmpi .sge w 0#32) w (BitVec.ofNat 32 n) = negTo n w := by
  have hw := w.isLt
  rw [WordCmp.cmpi_sge_eq, WordCmp.select_decide]
  unfold negTo
  have h0 : (0#32 : BitVec 32).toInt = 0 := by decide
  by_cases h : w.toNat < 2 ^ 31
  · rw [if_pos (by rw [h0, BitVec.toInt_eq_toNat_cond]; split <;> omega), if_pos h]
  · rw [if_neg (by rw [h0, BitVec.toInt_eq_toNat_cond]; split <;> omega), if_neg h]

/-- A broadcast over a new last axis. -/
theorem unit_at {α : Type} (x : S4096x40.Idx → α) (r : Fin 4096) (c : Fin 40) (z : Fin 1) :
    broadcastInDim S4096x40x1 ![0, 1] bcast_S4096x40_S4096x40x1_0_1 x (ix3 r c z) = x (ix2 r c) := by
  refine broadcastInDim_apply _ _ _ _ (ix2 r c) ?_
  intro a; fin_cases a <;> rfl

/-- The column number of an update. -/
theorem colNo_at (u : S4096x40.Idx → BitVec 32) (y : S4096x40.Idx) : colNo u y = negTo 1024 (u y) := where_nonneg 1024 (u y)

/-- The first of an index pair is the row. -/
theorem pairs_row (u : S4096x40.Idx → BitVec 32) (r : Fin 4096) (c : Fin 40) : pairs u (ix3 r c (0 : Fin 2)) = BitVec.ofNat 32 r.val := by
  unfold pairs
  refine (concatenate_apply_piece (t := S4096x40x2) 2 _ _ (ix3 r c (0 : Fin 2)) 0 (by show 0 < 2; decide) S4096x40x1 _ rfl rfl 0 (by rfl)
    (ix3 r c (0 : Fin 1)) ?_ ?_).trans ?_
  · intro a ha; fin_cases a
    · rfl
    · rfl
    · exact absurd rfl ha
  · rfl
  refine (unit_at _ r c 0).trans ?_
  refine (broadcastInDim_apply _ _ _ _ (ix2 r (0 : Fin 1)) ?_).trans ?_
  · intro a; fin_cases a <;> rfl
  have e : rowNo (ix2 r (0 : Fin 1)) = BitVec.ofNat 32 r.val := by
    refine (broadcastInDim_apply _ _ _ _ (ix1 r) ?_).trans rfl
    intro a; fin_cases a; rfl
  show Scalar.select (IntOp.cmpi .slt (rowNo (ix2 r (0 : Fin 1))) 0#32) _ (rowNo (ix2 r (0 : Fin 1))) = _
  rw [e]
  refine wrap_of_lt _ _ ?_
  rw [BitVec.toNat_ofNat]
  have := r.isLt
  omega

/-- The second is the column. -/
theorem pairs_col (u : S4096x40.Idx → BitVec 32) (r : Fin 4096) (c : Fin 40) : pairs u (ix3 r c (1 : Fin 2)) = negTo 1024 (u (ix2 r c)) := by
  unfold pairs
  refine (concatenate_apply_piece (t := S4096x40x2) 2 _ _ (ix3 r c (1 : Fin 2)) 1 (by show 1 < 2; decide) S4096x40x1 _ rfl rfl 1 (by rfl)
    (ix3 r c (0 : Fin 1)) ?_ ?_).trans ?_
  · intro a ha; fin_cases a
    · rfl
    · rfl
    · exact absurd rfl ha
  · rfl
  refine (unit_at _ r c 0).trans ?_
  show Scalar.select (IntOp.cmpi .slt (colNo u (ix2 r c)) 0#32) _ (colNo u (ix2 r c)) = _
  rw [colNo_at]
  exact wrap_of_lt _ _ (negTo_lt (by decide) _)

variable {F : FTy → Type} [FloatOps F]

/-- A dense result. -/
theorem dense_result (w : S32x48x128.Idx → Elt F .f32) (s : S32x48x128.Idx → BitVec 32) :
    Host.scatter scatter_S4096x1024_S4096x40x2_S4096x40_n_01_01_2 (fun _ b => b)
      (broadcastInDim S4096x1024 ![] bcast_S_S4096x1024 (constant (F := F) S_ .f32 0x00000000#32)) (pairs (rowsOf s)) (rowsOf w)
      = denseSpec (F := F) w s := by
  funext x
  rw [ValueIdx.eq_ix2 x]
  generalize (x 0 : Fin 4096) = r
  generalize (x 1 : Fin 1024) = j
  refine (scatter_eq_GS (T := 4096) (C := 1024) (K := 40) _ rfl rfl rfl (by decide) (by decide) _ _ _
    (fun i k => negTo 1024 (wordN s (i.val / 128) k (i.val % 128))) (fun i k => wordN w (i.val / 128) k (i.val % 128))
    (fun i k => pairs_row _ i k) (fun i k => (pairs_col _ i k).trans (congrArg (negTo 1024) (rowsOf_at s i k))) (fun i k => rowsOf_at w i k) r j).trans ?_
  show GS _ _ _ j.val 40 = denseN (wordN s (r.val / 128)) (wordN w (r.val / 128)) (r.val % 128) j.val
  unfold denseN GS
  exact lastHit_congr _ (fun k _ => eq_negTo_toNat_iff j.isLt (by decide) _) (fun _ _ _ => rfl)

end Cert.Proof.Ref

end
-- ==== Proof.Product.lean ====
/-
  The weighted sums: what both halves of the batches leave in the output array, and the reference's product of the same
  values and weights.
-/
module

public import proofs.«01_k».proof.Proof.Gen.ProductIdeal
public import proofs.«01_k».proof.Proof.Gen.ProductIdeal.Frame
public import proofs.«01_k».proof.Proof.Gen.ProductReferenceIdeal.Run
public import Idealize.ShloMosaic.Lib.Pipeline.ValueKit
public import Idealize.ShloMosaic.Lib.Pointwise

@[expose] public section

noncomputable section

namespace Cert.Proof.Prod

open Cert.ProductIdeal Cert.ProductIdeal.Gen
open Idealize.ShloMosaic Idealize.ShloMosaic.TcCoe Idealize.ShloMosaic.StableHlo
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Window)

local notation "𝕄" => MT nD τ sig Unit (Elt Ideal) ℕ (UR sig nD τ) ℕ

/-! ## One block -/

/-- An element of a block's product: the sum over the contracted coordinate of the operands' products. -/
theorem pay0_at (x : Vec Ideal S1x192x1024 .f32) (w : Vec Ideal S1x256x1024 .f32) (y : S1x192x256.Idx) :
    k0_pay1 (F := Ideal) x w y = ∑ k : Fin 1024, x (ix3 0 (y 1) k) * w (ix3 0 (y 2) k) := by
  unfold k0_pay1
  simp only [pointwise]
  exact zero_add _

/-- The second call's block is the same product. -/
theorem pay1_at (x : Vec Ideal S1x192x1024 .f32) (w : Vec Ideal S1x256x1024 .f32) (y : S1x192x256.Idx) :
    k1_pay1 (F := Ideal) x w y = ∑ k : Fin 1024, x (ix3 0 (y 1) k) * w (ix3 0 (y 2) k) := pay0_at x w y

/-- What the first call's body leaves in its output block. -/
theorem out0_eq (x : Vec Ideal S1x192x1024 .f32) (w : Vec Ideal S1x256x1024 .f32) : out0_2 (F := Ideal) x w = k0_pay1 x w := by
  unfold out0_2
  frame_out

/-- What the second call's body leaves in its output block. -/
theorem out1_eq (c : Dev nD) (i : grid1.Coords) (a2 : Memref sig .tc .vmem S1x192x1024 .f32) (h2 : a2.IsWhole)
    (a3 : Memref sig .tc .vmem S1x256x1024 .f32) (h3 : a3.IsWhole) (a5 : Memref sig .tc .vmem S1x192x256 .f32) (h5 : a5.IsWhole)
    (x : Vec Ideal S1x192x1024 .f32) (w : Vec Ideal S1x256x1024 .f32) : out1_A_2 (F := Ideal) c i a2 h2 a3 h3 a5 h5 x w = k1_pay1 x w := by
  unfold out1_A_2
  rw [View.read_writes_junk_eq_canon]
  have e : (kernelRun1_A (F := Ideal) c i a2 h2 a3 h3 a5 h5 x w).1 = [⟨r0_2, k1_pay1 (View.ld x r0_0) (View.ld w r0_1)⟩] := by
    unfold kernelRun1_A
    refine congrArg₂ (fun a b => [(⟨r0_2, k1_pay1 (F := Ideal) a b⟩ : View.Piece (Elt Ideal) S1x192x256 .f32)]) ?_ ?_
    · rw [View.readAt_eq_ld, Memref.IsWhole.read_unread]
    · rw [View.readAt_eq_ld, Memref.IsWhole.read_unread]
  rw [e]
  frame_out

/-! ## The arrays after the two calls -/

/-- Where the blocks of the first call lie. -/
theorem index0_0 : ∀ t : Fin cfg0.N, win0_0.index t = ![(grid0.coords t 0).val, 0, 0] := (by decide +kernel : ∀ t : Fin grid0.N, _)
theorem index0_1 : ∀ t : Fin cfg0.N, win0_1.index t = ![(grid0.coords t 0).val, (grid0.coords t 1).val, 0] := (by decide +kernel : ∀ t : Fin grid0.N, _)
theorem index0_2 : ∀ t : Fin cfg0.N, win0_2.index t = ![(grid0.coords t 0).val, 0, (grid0.coords t 1).val] := (by decide +kernel : ∀ t : Fin grid0.N, _)
/-- Where the blocks of the second call lie: four batches on, but in its own weights. -/
theorem index1_0 : ∀ t : Fin cfg1.N, win1_0.index t = ![(grid1.coords t 0).val + 4, 0, 0] := (by decide +kernel : ∀ t : Fin grid1.N, _)
theorem index1_1 : ∀ t : Fin cfg1.N, win1_1.index t = ![(grid1.coords t 0).val, (grid1.coords t 1).val, 0] := (by decide +kernel : ∀ t : Fin grid1.N, _)
theorem index1_2 : ∀ t : Fin cfg1.N, win1_2.index t = ![(grid1.coords t 0).val + 4, 0, (grid1.coords t 1).val] := (by decide +kernel : ∀ t : Fin grid1.N, _)

/-- The weighted sum of batch `i 0`, its weights batch `(i 0) % 4` of one half. -/
def sumAt (v : S8x192x1024.Idx → Elt Ideal .f32) (w : S4x1024x1024.Idx → Elt Ideal .f32) (i : S8x192x1024.Idx) : Elt Ideal .f32 :=
  ∑ k : Fin 1024, v (ix3 (i 0) (i 1) k) * w (ix3 (⟨(i 0).val % 4, Nat.mod_lt _ (by decide)⟩ : Fin 4) (i 2) k)

/-- Two such sums are equal when their factors are. -/
theorem sums_eq {v v' w w' : Fin 1024 → Elt Ideal .f32} (hv : ∀ k, v k = v' k) (hw : ∀ k, w k = w' k) :
    ∑ k, v k * w k = ∑ k, v' k * w' k := by
  rw [funext hv, funext hw]

variable (V : (c : Dev nD) → (b : Ref sig .tc) → Buf (Elt Ideal) ((c : Thread nD τ).loc b))

/-- After the first call the first four batches hold their weighted sums. -/
theorem first (c : Dev nD) (i : S8x192x1024.Idx) (hi : (i 0).val < 4) :
    (dat0 (F := Ideal) V c).arrAt 2 cfg0.N i = sumAt (V c main_v0) (V c main_v1) i := by
  refine ((dat0 (F := Ideal) V c).arrAt_apply_of_coversWhere 2 (sumAt (V c main_v0) (V c main_v1)) (P := fun j : S8x192x1024.Idx => (j 0).val / 1 < 4)
    (fun β => β (0 : Fin 3) < 4) (by decide +kernel) (fun t hf y => ?_) (fun j => Iff.rfl) i).trans (if_pos (by omega))
  blk_simp
  rw [after0_2, out0_eq, pay0_at]
  unfold sumAt
  blk_simp [iblk0, index0_2]
  refine sums_eq (fun k => congrArg (V c main_v0) ?_) (fun k => congrArg (V c main_v1) ?_)
  · blk_ext [index0_0, index0_2]
  · have hb : (grid0.coords t 0).val < 4 := (grid0.coords t 0).isLt
    blk_ext [index0_1, index0_2]

/-- After the second call the last four batches hold their weighted sums, and the first four what they held. -/
theorem second (c : Dev nD) (i : S8x192x1024.Idx) :
    (dat1 (F := Ideal) V c).arrAt 2 cfg1.N i = if 4 ≤ (i 0).val / 1 then sumAt (V c main_v0) (V c main_v3) i else V c main_v4 i := by
  refine ((dat1 (F := Ideal) V c).arrAt_apply_of_coversWhere 2 (sumAt (V c main_v0) (V c main_v3)) (P := fun j : S8x192x1024.Idx => 4 ≤ (j 0).val / 1)
    (fun β => 4 ≤ β (0 : Fin 3)) (by decide +kernel) (fun t hf y => ?_) (fun j => Iff.rfl) i)
  blk_simp
  rw [after1_2]; unfold outsAt1; rw [out1_eq, pay1_at]
  unfold sumAt
  blk_simp [iblk1, index1_2]
  refine sums_eq (fun k => congrArg (V c main_v0) ?_) (fun k => congrArg (V c main_v3) ?_)
  · blk_ext [index1_0, index1_2]
  · have hb : (grid1.coords t 0).val < 4 := (grid1.coords t 0).isLt
    blk_ext [index1_1, index1_2]

/-! ## The run -/

/-- The half of the weights a batch is in. -/
def halfOf (w₀ w₁ : S4x1024x1024.Idx → Elt Ideal .f32) (b : ℕ) : S4x1024x1024.Idx → Elt Ideal .f32 := if 4 ≤ b then w₁ else w₀

/-- What the output array ends holding, from the three argument arrays. -/
def product (v : S8x192x32x32.Idx → Elt Ideal .f32) (w₀ w₁ : S4096x1024.Idx → Elt Ideal .f32) (i : S8x192x1024.Idx) : Elt Ideal .f32 :=
  sumAt (shapeCast _ v shapeCasts_S8x192x32x32_S8x192x1024)
    (halfOf (shapeCast _ w₀ shapeCasts_S4096x1024_S4x1024x1024) (shapeCast _ w₁ shapeCasts_S4096x1024_S4x1024x1024) (i 0).val) i

/-- The reference's weights: the two halves one after the other. -/
def attn (w₀ w₁ : FVec Ideal Cert.ProductReferenceIdeal.S4096x1024 .f32) : FVec Ideal Cert.ProductReferenceIdeal.S8x1024x1024 .f32 :=
  shapeCast Cert.ProductReferenceIdeal.S8x1024x1024
    (concatenate Cert.ProductReferenceIdeal.S8192x1024 0 [⟨Cert.ProductReferenceIdeal.S4096x1024, w₀⟩, ⟨Cert.ProductReferenceIdeal.S4096x1024, w₁⟩]
      Cert.ProductReferenceIdeal.Facts₀.concatenates_S4096x1024_S4096x1024_S8192x1024_d0)
    Cert.ProductReferenceIdeal.Facts₀.shapeCasts_S8192x1024_S8x1024x1024

theorem attn_at (w₀ w₁ : FVec Ideal Cert.ProductReferenceIdeal.S4096x1024 .f32) (b : Fin 8) (n k : Fin 1024) :
    attn w₀ w₁ (ix3 b n k)
      = halfOf (shapeCast _ w₀ shapeCasts_S4096x1024_S4x1024x1024) (shapeCast _ w₁ shapeCasts_S4096x1024_S4x1024x1024) b.val
          (ix3 (⟨b.val % 4, Nat.mod_lt _ (by decide)⟩ : Fin 4) n k) := by
  have hb := b.isLt; have hn := n.isLt; have hk := k.isLt
  unfold attn halfOf
  split
  · simp only [pointwise]
    rw [dif_neg (by omega)]
    refine congrArg w₁ (congrArg₂ ix2 (Fin.ext ?_) (Fin.ext ?_))
    · show b.val * 1024 + n.val - 4096 = b.val % 4 * 1024 + n.val
      omega
    · rfl
  · simp only [pointwise]
    rw [dif_pos (by omega)]
    refine congrArg w₀ (congrArg₂ ix2 (Fin.ext ?_) rfl)
    show b.val * 1024 + n.val = b.val % 4 * 1024 + n.val
    omega

/-- The reference's product of the same arguments. -/
theorem reference_eq (v : FVec Ideal Cert.ProductReferenceIdeal.S8x192x32x32 .f32) (w₀ w₁ : FVec Ideal Cert.ProductReferenceIdeal.S4096x1024 .f32) :
    Host.dotGeneral (F := Ideal) Cert.ProductReferenceIdeal.dot_S8x192x1024_S8x1024x1024_S8x192x1024_2_2_1_1_0_0 none
        (shapeCast Cert.ProductReferenceIdeal.S8x192x1024 v Cert.ProductReferenceIdeal.Facts₀.shapeCasts_S8x192x32x32_S8x192x1024) (attn w₀ w₁)
      = product v w₀ w₁ := by
  funext i
  unfold product sumAt
  generalize hz : shapeCast Cert.ProductReferenceIdeal.S8x192x1024 v Cert.ProductReferenceIdeal.Facts₀.shapeCasts_S8x192x32x32_S8x192x1024 = z
  simp only [pointwise]
  exact (zero_add _).trans (sums_eq (fun _ => rfl) fun k => attn_at w₀ w₁ (i 0) (i 2) k)

variable (m : (ℓ : Loc nD τ sig) → Buf (Elt Ideal) ℓ) (ρ : Dev nD → PrngReg)

/-- The values as both calls find them. -/
theorem values_at (c : Dev nD) : V1 (F := Ideal) m ρ c main_v0
    = shapeCast _ (m ((c : Thread nD τ).loc main_arg0)) shapeCasts_S8x192x32x32_S8x192x1024 := by
  show StableHlo.after hostOps0 (W0 m ρ c) main_v0 = _
  after_results <;> rfl

/-- The first half of the weights as the first call finds them. -/
theorem weights₀_at (c : Dev nD) : V1 (F := Ideal) m ρ c main_v1
    = shapeCast _ (m ((c : Thread nD τ).loc main_arg1)) shapeCasts_S4096x1024_S4x1024x1024 := by
  show StableHlo.after hostOps0 (W0 m ρ c) main_v1 = _
  after_results <;> rfl

/-- The output array ends holding the weighted sums. -/
theorem final (c : Dev nD) : W4 (F := Ideal) m ρ c (Proc.devRef .tc main_v4)
    = product (m ((c : Thread nD τ).loc main_arg0)) (m ((c : Thread nD τ).loc main_arg1)) (m ((c : Thread nD τ).loc main_arg2)) := by
  have hv : V3 (F := Ideal) m ρ c main_v0 = V1 (F := Ideal) m ρ c main_v0 :=
    (W3_of m ρ c main_v0 (by decide)).trans (W2_of m ρ c main_v0 (by decide +kernel))
  have hw : V3 (F := Ideal) m ρ c main_v3 = shapeCast _ (m ((c : Thread nD τ).loc main_arg2)) shapeCasts_S4096x1024_S4x1024x1024 := by
    rw [← W2_args m ρ c main_arg2 (by decide)]
    show StableHlo.after hostOps1 (W2 m ρ c) main_v3 = _
    after_results <;> rfl
  have ho : V3 (F := Ideal) m ρ c main_v4 = (dat0 (F := Ideal) (V1 m ρ) c).arrAt 2 cfg0.N := by
    refine Eq.trans ?_ (W2_arr m ρ c 2)
    show StableHlo.after hostOps1 (W2 m ρ c) main_v4 = _
    after_results <;> rfl
  refine (W4_arr m ρ c 2).trans (funext fun i => ?_)
  refine (second (V3 m ρ) c i).trans ?_
  unfold product halfOf
  rw [hv, hw, ho, values_at]
  split
  · rename_i h
    rw [if_pos (by omega)]
  · rename_i h
    rw [if_neg (by omega), first _ c i (by omega), values_at, weights₀_at]

-- `θ_run_regions_kit_sems`'s implicit arguments are found by unfolding plain definitions in a metavariable's type
set_option backward.isDefEq.respectTransparency.types false in
/-- Every weakly fair execution ends with the output array holding the weighted sums and the arguments unchanged. -/
theorem run : θ_run defs (onTc (τ := τ) (main (F := Ideal))) ⟨m, fun _ => 0, ρ⟩ (fun r => ∀ c : Dev nD,
      r.2.mem ((c.tc : Thread nD τ).loc main_v4)
        = product (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4 (by decide))).trans (final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Proof.Prod

end
-- ==== Proof.Logits.lean ====
/-
  The logits and the mask: what both halves of the batches leave in the four arrays, and the reference's products of the
  same arguments.
-/
module

public import proofs.«01_k».proof.Proof.Gen.LogitsIdeal
public import proofs.«01_k».proof.Proof.Gen.LogitsIdeal.Frame
public import proofs.«01_k».proof.Proof.Gen.LogitsReferenceIdeal.Run
public import Idealize.ShloMosaic.Lib.Pipeline.ValueKit
public import Idealize.ShloMosaic.Lib.Pointwise

@[expose] public section

noncomputable section

namespace Cert.Proof.Logits

open Cert.LogitsIdeal Cert.LogitsIdeal.Gen
open Idealize.ShloMosaic Idealize.ShloMosaic.TcCoe Idealize.ShloMosaic.StableHlo
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Window)

local notation "𝕄" => MT nD τ sig Unit (Elt Ideal) ℕ (UR sig nD τ) ℕ

/-- One where the number is positive, else zero. -/
def pos (p : Elt Ideal .f32) : Elt Ideal .f32 := if (0 : EReal) < p then (1 : EReal) else (0 : EReal)

/-! ## One block -/

/-- An element of a block of logits. -/
theorem pay2_at (x : Vec Ideal S1x192x256 .f32) (w : Vec Ideal S1x192x1024 .f32) (y : S1x256x1024.Idx) :
    k0_pay2 (F := Ideal) x w y = ∑ k : Fin 192, x (ix3 0 k (y 1)) * w (ix3 0 k (y 2)) := by
  unfold k0_pay2
  simp only [pointwise]
  exact zero_add _

/-- An element of a block of the mask. -/
theorem pay1_at (x : Vec Ideal S1x64x256 .f32) (w : Vec Ideal S1x64x1024 .f32) (y : S1x256x1024.Idx) :
    k0_pay1 (F := Ideal) x w y = pos (∑ k : Fin 64, x (ix3 0 k (y 1)) * w (ix3 0 k (y 2))) := by
  unfold k0_pay1 pos
  simp only [pointwise, zero_add]

/-- What the bodies leave in their output blocks. -/
theorem out0_4_eq (x : Vec Ideal S1x192x256 .f32) (w : Vec Ideal S1x192x1024 .f32) (x' : Vec Ideal S1x64x256 .f32) (w' : Vec Ideal S1x64x1024 .f32) :
    out0_4 (F := Ideal) x w x' w' = k0_pay2 x w := by
  unfold out0_4
  frame_out

/-- And of the mask. -/
theorem out0_5_eq (x : Vec Ideal S1x192x256 .f32) (w : Vec Ideal S1x192x1024 .f32) (x' : Vec Ideal S1x64x256 .f32) (w' : Vec Ideal S1x64x1024 .f32) :
    out0_5 (F := Ideal) x w x' w' = k0_pay1 x' w' := by
  unfold out0_5
  frame_out

/-- The same of the second half. -/
theorem out1_4_eq (x : Vec Ideal S1x192x256 .f32) (w : Vec Ideal S1x192x1024 .f32) (x' : Vec Ideal S1x64x256 .f32) (w' : Vec Ideal S1x64x1024 .f32) :
    out1_4 (F := Ideal) x w x' w' = k0_pay2 x w := out0_4_eq x w x' w'

/-- And of its mask. -/
theorem out1_5_eq (x : Vec Ideal S1x192x256 .f32) (w : Vec Ideal S1x192x1024 .f32) (x' : Vec Ideal S1x64x256 .f32) (w' : Vec Ideal S1x64x1024 .f32) :
    out1_5 (F := Ideal) x w x' w' = k0_pay1 x' w' := out0_5_eq x w x' w'

/-! ## The arrays after the two calls -/

/-- Where the blocks of the first call lie. -/
theorem index0_0 : ∀ t : Fin cfg0.N, win0_0.index t = ![(grid0.coords t 0).val, 0, (grid0.coords t 1).val] := (by decide +kernel : ∀ t : Fin grid0.N, _)
theorem index0_1 : ∀ t : Fin cfg0.N, win0_1.index t = ![(grid0.coords t 0).val, 0, 0] := (by decide +kernel : ∀ t : Fin grid0.N, _)
theorem index0_2 : ∀ t : Fin cfg0.N, win0_2.index t = ![(grid0.coords t 0).val, 0, (grid0.coords t 1).val] := (by decide +kernel : ∀ t : Fin grid0.N, _)
theorem index0_3 : ∀ t : Fin cfg0.N, win0_3.index t = ![(grid0.coords t 0).val, 0, 0] := (by decide +kernel : ∀ t : Fin grid0.N, _)
theorem index0_4 : ∀ t : Fin cfg0.N, win0_4.index t = ![(grid0.coords t 0).val, (grid0.coords t 1).val, 0] := (by decide +kernel : ∀ t : Fin grid0.N, _)
theorem index0_5 : ∀ t : Fin cfg0.N, win0_5.index t = ![(grid0.coords t 0).val, (grid0.coords t 1).val, 0] := (by decide +kernel : ∀ t : Fin grid0.N, _)
/-- Where the blocks of the second call lie: four batches on in the arguments. -/
theorem index1_0 : ∀ t : Fin cfg1.N, win1_0.index t = ![(grid1.coords t 0).val + 4, 0, (grid1.coords t 1).val] := (by decide +kernel : ∀ t : Fin grid1.N, _)
theorem index1_1 : ∀ t : Fin cfg1.N, win1_1.index t = ![(grid1.coords t 0).val + 4, 0, 0] := (by decide +kernel : ∀ t : Fin grid1.N, _)
theorem index1_2 : ∀ t : Fin cfg1.N, win1_2.index t = ![(grid1.coords t 0).val + 4, 0, (grid1.coords t 1).val] := (by decide +kernel : ∀ t : Fin grid1.N, _)
theorem index1_3 : ∀ t : Fin cfg1.N, win1_3.index t = ![(grid1.coords t 0).val + 4, 0, 0] := (by decide +kernel : ∀ t : Fin grid1.N, _)
theorem index1_4 : ∀ t : Fin cfg1.N, win1_4.index t = ![(grid1.coords t 0).val, (grid1.coords t 1).val, 0] := (by decide +kernel : ∀ t : Fin grid1.N, _)
theorem index1_5 : ∀ t : Fin cfg1.N, win1_5.index t = ![(grid1.coords t 0).val, (grid1.coords t 1).val, 0] := (by decide +kernel : ∀ t : Fin grid1.N, _)

/-- Batch `i 0` of the half that starts at batch `b`. -/
def batch (b : ℕ) (hb : b ≤ 4) (i : S4x1024x1024.Idx) : Fin 8 := ⟨(i 0).val + b, by have : (i 0).val < 4 := (i 0).isLt; omega⟩

/-- The logits of one half. -/
def logits (b : ℕ) (hb : b ≤ 4) (q k : S8x192x1024.Idx → Elt Ideal .f32) (i : S4x1024x1024.Idx) : Elt Ideal .f32 :=
  ∑ x : Fin 192, q (ix3 (batch b hb i) x (i 1)) * k (ix3 (batch b hb i) x (i 2))

/-- The mask of one half. -/
def mask (b : ℕ) (hb : b ≤ 4) (q k : S8x64x1024.Idx → Elt Ideal .f32) (i : S4x1024x1024.Idx) : Elt Ideal .f32 :=
  pos (∑ x : Fin 64, q (ix3 (batch b hb i) x (i 1)) * k (ix3 (batch b hb i) x (i 2)))

/-- Two such sums are equal when their factors are. -/
theorem sums_eq {n : ℕ} {v v' w w' : Fin n → Elt Ideal .f32} (hv : ∀ k, v k = v' k) (hw : ∀ k, w k = w' k) :
    ∑ k, v k * w k = ∑ k, v' k * w' k := by
  rw [funext hv, funext hw]

variable (V : (c : Dev nD) → (b : Ref sig .tc) → Buf (Elt Ideal) ((c : Thread nD τ).loc b))

/-- The first call's logits. -/
theorem first_logits (c : Dev nD) : (dat0 (F := Ideal) V c).arrAt 4 cfg0.N = logits 0 (by decide) (V c main_v0) (V c main_v1) := by
  refine (dat0 (F := Ideal) V c).arrAt_eq_of_covers 4 (logits 0 (by decide) (V c main_v0) (V c main_v1)) (by decide +kernel) (fun t hf y => ?_)
  blk_simp
  rw [after0_4, out0_4_eq, pay2_at]
  unfold logits batch
  blk_simp [iblk0, index0_4]
  refine sums_eq (fun k => congrArg (V c main_v0) ?_) (fun k => congrArg (V c main_v1) ?_)
  · blk_ext [index0_0, index0_4]
  · blk_ext [index0_1, index0_4]

/-- The first call's mask. -/
theorem first_mask (c : Dev nD) : (dat0 (F := Ideal) V c).arrAt 5 cfg0.N = mask 0 (by decide) (V c main_v2) (V c main_v3) := by
  refine (dat0 (F := Ideal) V c).arrAt_eq_of_covers 5 (mask 0 (by decide) (V c main_v2) (V c main_v3)) (by decide +kernel) (fun t hf y => ?_)
  blk_simp
  rw [after0_5, out0_5_eq, pay1_at]
  unfold mask batch
  blk_simp [iblk0, index0_5]
  refine congrArg pos (sums_eq (fun k => congrArg (V c main_v2) ?_) (fun k => congrArg (V c main_v3) ?_))
  · blk_ext [index0_2, index0_5]
  · blk_ext [index0_3, index0_5]

/-- The second call's logits. -/
theorem second_logits (c : Dev nD) : (dat1 (F := Ideal) V c).arrAt 4 cfg1.N = logits 4 (by decide) (V c main_v0) (V c main_v1) := by
  refine (dat1 (F := Ideal) V c).arrAt_eq_of_covers 4 (logits 4 (by decide) (V c main_v0) (V c main_v1)) (by decide +kernel) (fun t hf y => ?_)
  blk_simp
  rw [after1_4, out1_4_eq, pay2_at]
  unfold logits batch
  blk_simp [iblk1, index1_4]
  refine sums_eq (fun k => congrArg (V c main_v0) ?_) (fun k => congrArg (V c main_v1) ?_)
  · blk_ext [index1_0, index1_4]
  · blk_ext [index1_1, index1_4]

/-- The second call's mask. -/
theorem second_mask (c : Dev nD) : (dat1 (F := Ideal) V c).arrAt 5 cfg1.N = mask 4 (by decide) (V c main_v2) (V c main_v3) := by
  refine (dat1 (F := Ideal) V c).arrAt_eq_of_covers 5 (mask 4 (by decide) (V c main_v2) (V c main_v3)) (by decide +kernel) (fun t hf y => ?_)
  blk_simp
  rw [after1_5, out1_5_eq, pay1_at]
  unfold mask batch
  blk_simp [iblk1, index1_5]
  refine congrArg pos (sums_eq (fun k => congrArg (V c main_v2) ?_) (fun k => congrArg (V c main_v3) ?_))
  · blk_ext [index1_2, index1_5]
  · blk_ext [index1_3, index1_5]

/-! ## The reference -/

/-- Two places with the same coordinates. -/
theorem ix3_of {a b c : ℕ} {x x' : Fin a} {y y' : Fin b} {z z' : Fin c} (hx : x.val = x'.val) (hy : y.val = y'.val) (hz : z.val = z'.val) :
    ix3 x y z = ix3 x' y' z' := by
  rw [Fin.ext hx, Fin.ext hy, Fin.ext hz]

/-- The word of a comparison as a number. -/
theorem word_pos (z : EReal) : FloatOps.uitofp (F := Ideal) .f32 (BitVec.ofBool (decide (0 < z))) = if 0 < z then (1 : EReal) else (0 : EReal) := by
  by_cases h : 0 < z <;> simp [h, FloatOps.uitofp]

/-- The reference's logits, of the half that starts at batch `b`. -/
theorem ref_logits (q k : FVec Ideal Cert.LogitsReferenceIdeal.S8x192x32x32 .f32) (b : ℕ) (hb : b ≤ 4) (h) :
    extractStridedSlice Cert.LogitsReferenceIdeal.S4x1024x1024 ![b, 0, 0]
      (Host.dotGeneral (F := Ideal) Cert.LogitsReferenceIdeal.dot_S8x192x1024_S8x192x1024_S8x1024x1024_1_1_2_2_0_0 none
        (shapeCast Cert.LogitsReferenceIdeal.S8x192x1024 q Cert.LogitsReferenceIdeal.Facts₀.shapeCasts_S8x192x32x32_S8x192x1024)
        (shapeCast Cert.LogitsReferenceIdeal.S8x192x1024 k Cert.LogitsReferenceIdeal.Facts₀.shapeCasts_S8x192x32x32_S8x192x1024)) h
      = logits b hb (shapeCast _ q shapeCasts_S8x192x32x32_S8x192x1024) (shapeCast _ k shapeCasts_S8x192x32x32_S8x192x1024) := by
  funext i
  unfold logits
  generalize hq : shapeCast Cert.LogitsReferenceIdeal.S8x192x1024 q Cert.LogitsReferenceIdeal.Facts₀.shapeCasts_S8x192x32x32_S8x192x1024 = zq
  generalize hk : shapeCast Cert.LogitsReferenceIdeal.S8x192x1024 k Cert.LogitsReferenceIdeal.Facts₀.shapeCasts_S8x192x32x32_S8x192x1024 = zk
  simp only [pointwise, zero_add]
  refine Finset.sum_congr rfl fun k _ => congrArg₂ (fun a b => a * b) ?_ ?_
  · exact congrArg zq (ix3_of (Nat.add_comm _ _) rfl (Nat.zero_add _))
  · exact congrArg zk (ix3_of (Nat.add_comm _ _) rfl (Nat.zero_add _))

/-- The reference's mask, of the half that starts at batch `b`. -/
theorem ref_mask (q k : FVec Ideal Cert.LogitsReferenceIdeal.S8x64x32x32 .f32) (b : ℕ) (hb : b ≤ 4) (h) :
    extractStridedSlice Cert.LogitsReferenceIdeal.S4x1024x1024 ![b, 0, 0]
      (uitofp (F := Ideal) .f32 (cmpf .ogt (Host.dotGeneral (F := Ideal) Cert.LogitsReferenceIdeal.dot_S8x64x1024_S8x64x1024_S8x1024x1024_1_1_2_2_0_0 none
        (shapeCast Cert.LogitsReferenceIdeal.S8x64x1024 q Cert.LogitsReferenceIdeal.Facts₀.shapeCasts_S8x64x32x32_S8x64x1024)
        (shapeCast Cert.LogitsReferenceIdeal.S8x64x1024 k Cert.LogitsReferenceIdeal.Facts₀.shapeCasts_S8x64x32x32_S8x64x1024))
        (broadcastInDim Cert.LogitsReferenceIdeal.S8x1024x1024 ![] Cert.LogitsReferenceIdeal.Facts₀.bcast_S_S8x1024x1024 (constant Cert.LogitsReferenceIdeal.S_ .f32 0x00000000#32)))) h
      = mask b hb (shapeCast _ q shapeCasts_S8x64x32x32_S8x64x1024) (shapeCast _ k shapeCasts_S8x64x32x32_S8x64x1024) := by
  funext i
  unfold mask pos
  generalize hq : shapeCast Cert.LogitsReferenceIdeal.S8x64x1024 q Cert.LogitsReferenceIdeal.Facts₀.shapeCasts_S8x64x32x32_S8x64x1024 = zq
  generalize hk : shapeCast Cert.LogitsReferenceIdeal.S8x64x1024 k Cert.LogitsReferenceIdeal.Facts₀.shapeCasts_S8x64x32x32_S8x64x1024 = zk
  simp only [pointwise, zero_add]
  refine Eq.trans ?_ (word_pos (∑ x : Fin 64, zq (ix3 (batch b hb i) x (i 1)) * zk (ix3 (batch b hb i) x (i 2))))
  exact congrArg (fun z : EReal => FloatOps.uitofp (F := Ideal) .f32 (BitVec.ofBool (decide (0 < z))))
    (Finset.sum_congr rfl fun k _ => congrArg₂ (fun a b => a * b)
      (congrArg zq (ix3_of (Nat.add_comm _ _) rfl (Nat.zero_add _))) (congrArg zk (ix3_of (Nat.add_comm _ _) rfl (Nat.zero_add _))))

/-! ## The run -/

variable (m : (ℓ : Loc nD τ sig) → Buf (Elt Ideal) ℓ) (ρ : Dev nD → PrngReg)

/-- The arguments as both calls find them. -/
theorem arg0_at (c : Dev nD) : V1 (F := Ideal) m ρ c main_v0
    = shapeCast _ (m ((c : Thread nD τ).loc main_arg0)) shapeCasts_S8x192x32x32_S8x192x1024 := by
  show StableHlo.after hostOps0 (W0 m ρ c) main_v0 = _
  after_results <;> rfl
/-- The keys, reshaped. -/
theorem arg1_at (c : Dev nD) : V1 (F := Ideal) m ρ c main_v1
    = shapeCast _ (m ((c : Thread nD τ).loc main_arg1)) shapeCasts_S8x192x32x32_S8x192x1024 := by
  show StableHlo.after hostOps0 (W0 m ρ c) main_v1 = _
  after_results <;> rfl
/-- The pruning queries, reshaped. -/
theorem arg2_at (c : Dev nD) : V1 (F := Ideal) m ρ c main_v2
    = shapeCast _ (m ((c : Thread nD τ).loc main_arg2)) shapeCasts_S8x64x32x32_S8x64x1024 := by
  show StableHlo.after hostOps0 (W0 m ρ c) main_v2 = _
  after_results <;> rfl
/-- The pruning keys, reshaped. -/
theorem arg3_at (c : Dev nD) : V1 (F := Ideal) m ρ c main_v3
    = shapeCast _ (m ((c : Thread nD τ).loc main_arg3)) shapeCasts_S8x64x32x32_S8x64x1024 := by
  show StableHlo.after hostOps0 (W0 m ρ c) main_v3 = _
  after_results <;> rfl

/-- What one half's logits end as, from the arguments. -/
def logitsOf (b : ℕ) (hb : b ≤ 4) (q k : S8x192x32x32.Idx → Elt Ideal .f32) : S4x1024x1024.Idx → Elt Ideal .f32 :=
  logits b hb (shapeCast _ q shapeCasts_S8x192x32x32_S8x192x1024) (shapeCast _ k shapeCasts_S8x192x32x32_S8x192x1024)

/-- What one half's mask ends as, from the arguments. -/
def maskOf (b : ℕ) (hb : b ≤ 4) (q k : S8x64x32x32.Idx → Elt Ideal .f32) : S4x1024x1024.Idx → Elt Ideal .f32 :=
  mask b hb (shapeCast _ q shapeCasts_S8x64x32x32_S8x64x1024) (shapeCast _ k shapeCasts_S8x64x32x32_S8x64x1024)

/-- The first result. -/
theorem final40 (c : Dev nD) : W3 (F := Ideal) m ρ c (Proc.devRef .tc main_v4_0)
    = logitsOf 0 (by decide) (m ((c : Thread nD τ).loc main_arg0)) (m ((c : Thread nD τ).loc main_arg1)) := by
  refine (W3_of m ρ c main_v4_0 (by decide +kernel)).trans ((W2_arr m ρ c 4).trans ?_)
  rw [first_logits, arg0_at, arg1_at]; rfl

/-- The second result. -/
theorem final41 (c : Dev nD) : W3 (F := Ideal) m ρ c (Proc.devRef .tc main_v4_1)
    = maskOf 0 (by decide) (m ((c : Thread nD τ).loc main_arg2)) (m ((c : Thread nD τ).loc main_arg3)) := by
  refine (W3_of m ρ c main_v4_1 (by decide +kernel)).trans ((W2_arr m ρ c 5).trans ?_)
  rw [first_mask, arg2_at, arg3_at]; rfl

/-- The third result. -/
theorem final50 (c : Dev nD) : W3 (F := Ideal) m ρ c (Proc.devRef .tc main_v5_0)
    = logitsOf 4 (by decide) (m ((c : Thread nD τ).loc main_arg0)) (m ((c : Thread nD τ).loc main_arg1)) := by
  refine (W3_arr m ρ c 4).trans ?_
  have h0 : V2 (F := Ideal) m ρ c main_v0 = V1 (F := Ideal) m ρ c main_v0 := W2_of m ρ c main_v0 (by decide +kernel)
  have h1 : V2 (F := Ideal) m ρ c main_v1 = V1 (F := Ideal) m ρ c main_v1 := W2_of m ρ c main_v1 (by decide +kernel)
  rw [second_logits, h0, h1, arg0_at, arg1_at]; rfl

/-- The fourth result. -/
theorem final51 (c : Dev nD) : W3 (F := Ideal) m ρ c (Proc.devRef .tc main_v5_1)
    = maskOf 4 (by decide) (m ((c : Thread nD τ).loc main_arg2)) (m ((c : Thread nD τ).loc main_arg3)) := by
  refine (W3_arr m ρ c 5).trans ?_
  have h0 : V2 (F := Ideal) m ρ c main_v2 = V1 (F := Ideal) m ρ c main_v2 := W2_of m ρ c main_v2 (by decide +kernel)
  have h1 : V2 (F := Ideal) m ρ c main_v3 = V1 (F := Ideal) m ρ c main_v3 := W2_of m ρ c main_v3 (by decide +kernel)
  rw [second_mask, h0, h1, arg2_at, arg3_at]; rfl

-- `θ_run_regions_kit_sems`'s implicit arguments are found by unfolding plain definitions in a metavariable's type
set_option backward.isDefEq.respectTransparency.types false in
/-- Every weakly fair execution ends with the logits and the mask of both halves in place and the arguments unchanged. -/
theorem run : θ_run defs (onTc (τ := τ) (main (F := Ideal))) ⟨m, fun _ => 0, ρ⟩ (fun r => ∀ c : Dev nD,
      r.2.mem ((c.tc : Thread nD τ).loc main_v4_0)
        = logitsOf 0 (by decide) (m ((c : Thread nD τ).loc main_arg0)) (m ((c : Thread nD τ).loc main_arg1))
      ∧ r.2.mem ((c.tc : Thread nD τ).loc main_v4_1)
        = maskOf 0 (by decide) (m ((c : Thread nD τ).loc main_arg2)) (m ((c : Thread nD τ).loc main_arg3))
      ∧ r.2.mem ((c.tc : Thread nD τ).loc main_v5_0)
        = logitsOf 4 (by decide) (m ((c : Thread nD τ).loc main_arg0)) (m ((c : Thread nD τ).loc main_arg1))
      ∧ r.2.mem ((c.tc : Thread nD τ).loc main_v5_1)
        = maskOf 4 (by decide) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v4_0 (by decide))).trans (final40 m ρ c),
       (h c _ (mem_uc main_v4_1 (by decide))).trans (final41 m ρ c),
       (h c _ (mem_uc main_v5_0 (by decide))).trans (final50 m ρ c),
       (h c _ (mem_uc main_v5_1 (by decide))).trans (final51 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Proof.Logits

end
-- ==== Proof.WeightsSpec.lean ====
/-
  What one row of the weights stage is: forty slots, each with a logit, a mask value and an index.
-/
module

public import Idealize.ShloMosaic.PureOps
public import Idealize.ShloMosaic.PureOps.Ideal
public import Idealize.ShloMosaic.Lib.SortFacts
public import Idealize.ShloMosaic.Lib.SortPrefix
public import Idealize.ShloMosaic.Lib.WordCmp

@[expose] public section

noncomputable section

namespace Cert.Proof.Weights

open Idealize.ShloMosaic

/-! ## The row -/

/-- The divisor of the logits. -/
def scale : EReal := Ideal.ofBits .f32 0x415DB3D7#32

/-- A slot's logit, scaled. -/
def scaled (s : Fin 40 → EReal) (c : Fin 40) : EReal := Ideal.div (s c) scale

/-- The greatest of the scaled logits. -/
def top (s : Fin 40 → EReal) : EReal := Finset.univ.fold max ⊥ (scaled s)

/-- A slot's exponential. -/
def expo (s : Fin 40 → EReal) (c : Fin 40) : EReal := Ideal.exp (scaled s c - top s)

/-- A slot's share of the row's exponentials. -/
def share (s : Fin 40 → EReal) (c : Fin 40) : EReal := Ideal.div (expo s c) (∑ j, expo s j)

/-- A slot's share where its mask value is positive. -/
def wt (s m : Fin 40 → EReal) (c : Fin 40) : EReal := if 0 < m c then share s c else 0

/-- The weights of all slots with this slot's index. -/
def total (s m : Fin 40 → EReal) (idx : Fin 40 → BitVec 32) (c : Fin 40) : EReal := ∑ t, if idx c = idx t then wt s m t else 0

/-- No earlier slot has this slot's index. -/
def First (idx : Fin 40 → BitVec 32) (c : Fin 40) : Prop := ∀ t, t < c → idx c ≠ idx t

instance (idx : Fin 40 → BitVec 32) (c : Fin 40) : Decidable (First idx c) := inferInstanceAs (Decidable (∀ t, t < c → idx c ≠ idx t))

/-- The row of weights: at the first slot of each index its total, at the last place the sum of all. -/
def wRow (s m : Fin 40 → EReal) (idx : Fin 40 → BitVec 32) (c : Fin 48) : EReal :=
  if h : c.val < 40 then (if First idx ⟨c.val, h⟩ then total s m idx ⟨c.val, h⟩ else 0) else if c.val = 47 then ∑ t, wt s m t else 0

/-- The row of indices: each at its first slot, minus one elsewhere. -/
def iRow (idx : Fin 40 → BitVec 32) (c : Fin 48) : BitVec 32 :=
  if h : c.val < 40 then (if First idx ⟨c.val, h⟩ then idx ⟨c.val, h⟩ else 4294967295#32) else 4294967295#32

/-- Slot `a` comes before slot `b`: a greater share, or the same and an earlier slot. -/
def before (v : Fin 40 → EReal) (a b : Fin 40) : Bool := decide (v b < v a) || (decide (v a = v b) && decide (a < b))

/-- The slot in place `i`. -/
def inPlace (v : Fin 40 → EReal) (i : Fin 40) : Fin 40 := sortedFrom (before v) i

/-- The eight indices of greatest share. -/
def kRow (s : Fin 40 → EReal) (idx : Fin 40 → BitVec 32) (i : Fin 8) : BitVec 32 := idx (inPlace (share s) (i.castLE (by decide)))

/-! ## Places -/

/-- The order of the slots is total. -/
theorem before_strict (v : Fin 40 → EReal) : StrictTotalBefore (before v) :=
  StrictTotalBefore.of_key_then_position (fun x y : EReal => decide (y < x)) v (fun a => by simp)
    (fun a b c h h' => by simp only [decide_eq_true_eq] at *; exact lt_trans h' h)
    (fun a b => by
      simp only [decide_eq_true_eq]
      rcases lt_trichotomy a b with h | h | h
      · exact .inr (.inr h)
      · exact .inr (.inl h)
      · exact .inl h)

/-- A stable sort by value alone puts the slots in the same places. -/
theorem stableSort_value (v : Fin 40 → EReal) (l : List (Fin 40)) (hl : l.Pairwise (· < ·)) :
    stableSort (fun a b => decide (v b < v a)) l = stableSort (before v) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold before
    rw [decide_eq_false (show ¬ b < a from not_lt_of_gt hab), Bool.and_false, Bool.or_false]

/-- Equal sorted positions give equal sortings. -/
theorem sortedFrom_of {n : ℕ} (R R' : Fin n → Fin n → Bool) (e : sortPositions n R = sortPositions n R') : sortedFrom R = sortedFrom R' := by
  funext k
  unfold sortedFrom
  rw [List.get_of_eq e]
  rfl

/-- Sorting by value alone, stably, is the same order. -/
theorem sortedFrom_value (v : Fin 40 → EReal) : sortedFrom (fun a b => decide (v b < v a)) = inPlace v := by
  have e : sortPositions 40 (fun a b => decide (v b < v a)) = sortPositions 40 (before v) :=
    stableSort_value v _ (List.pairwise_lt_finRange 40)
  unfold inPlace
  exact sortedFrom_of _ _ e

/-- Each slot has one place. -/
theorem inPlace_bij (v : Fin 40 → EReal) : Function.Bijective (inPlace v) := ⟨sortedFrom_injective _, sortedFrom_surjective _⟩

/-- How many slots come before this one. -/
def rank (v : Fin 40 → EReal) (c : Fin 40) : ℕ := ∑ t : Fin 40, if before v t c then 1 else 0

/-- The slot in place `i` has `i` before it. -/
theorem rank_inPlace (v : Fin 40 → EReal) (i : Fin 40) : rank v (inPlace v i) = i.val := by
  have hb := before_strict v
  have hbij := inPlace_bij v
  have hno : ∀ a b : Fin 40, a < b → before v (inPlace v b) (inPlace v a) = false := fun a b h =>
    sortedFrom_noInversion (before v) (before v) (fun x y h => hb.asymm x y h) (fun _ _ h => h) hb.negTrans a b h
  have hiff : ∀ j, before v (inPlace v j) (inPlace v i) = decide (j < i) := fun j => by
    rcases lt_trichotomy j i with h | h | h
    · rw [decide_eq_true h]
      rcases hb.total _ _ (fun e => h.ne (hbij.1 e)) with h' | h'
      · exact h'
      · rw [hno j i h] at h'; exact absurd h' (by decide)
    · rw [h, hb.irrefl, decide_eq_false (lt_irrefl _)]
    · rw [decide_eq_false (not_lt_of_gt h)]; exact hno i j h
  unfold rank
  rw [← (Equiv.ofBijective _ hbij).sum_comp]
  simp only [Equiv.ofBijective_apply, hiff, decide_eq_true_eq]
  rw [← Finset.card_filter]
  rw [Finset.filter_gt_eq_Iio]
  exact Fin.card_Iio i

/-- And no other has. -/
theorem rank_eq_iff (v : Fin 40 → EReal) (c i : Fin 40) : rank v c = i.val ↔ c = inPlace v i := by
  constructor
  · intro h
    obtain ⟨j, hj⟩ := (inPlace_bij v).2 c
    rw [← hj, rank_inPlace] at h
    rw [← hj, Fin.ext h]
  · intro h
    rw [h]
    exact rank_inPlace v i

/-- Fewer than forty come before a slot. -/
theorem rank_lt (v : Fin 40 → EReal) (c : Fin 40) : rank v c < 40 := by
  obtain ⟨j, hj⟩ := (inPlace_bij v).2 c
  rw [← hj, rank_inPlace]
  exact j.isLt

/-! ## The first equal slot -/

/-- The least `t < n` with `e t`, else 48. -/
def least (e : Fin 40 → Prop) [DecidablePred e] : (n : ℕ) → n ≤ 40 → ℕ
  | 0, _ => 48
  | n + 1, h => min (least e n (Nat.le_of_succ_le h)) (if e ⟨n, h⟩ then n else 48)

/-- The least is at most forty-eight. -/
theorem least_le (e : Fin 40 → Prop) [DecidablePred e] (n : ℕ) (h : n ≤ 40) : least e n h ≤ 48 := by
  induction n with
  | zero => exact le_refl _
  | succ n ih => exact le_trans (min_le_left _ _) (ih _)

/-- It is at most any slot with the property. -/
theorem least_le_of (e : Fin 40 → Prop) [DecidablePred e] (n : ℕ) (h : n ≤ 40) (t : Fin 40) (ht : t.val < n) (he : e t) :
    least e n h ≤ t.val := by
  induction n with
  | zero => omega
  | succ n ih =>
    rcases Nat.lt_succ_iff_lt_or_eq.mp ht with h' | h'
    · exact le_trans (min_le_left _ _) (ih _ h')
    · subst h'
      exact le_trans (min_le_right _ _) (by rw [if_pos (show e ⟨t.val, h⟩ from he)])

/-- Below forty-eight it has the property. -/
theorem least_mem (e : Fin 40 → Prop) [DecidablePred e] (n : ℕ) (h : n ≤ 40) :
    least e n h = 48 ∨ ∃ t : Fin 40, e t ∧ least e n h = t.val := by
  induction n with
  | zero => exact .inl rfl
  | succ n ih =>
    unfold least
    rcases min_choice (least e n (Nat.le_of_succ_le h)) (if e ⟨n, h⟩ then n else 48) with h' | h'
    · rw [h']; exact ih _
    · rw [h']
      by_cases he : e ⟨n, h⟩
      · exact .inr ⟨⟨n, h⟩, he, if_pos he⟩
      · exact .inl (if_neg he)

/-- It is a slot with the property where none before has it. -/
theorem least_eq_iff (e : Fin 40 → Prop) [DecidablePred e] (c : Fin 40) (hc : e c) :
    least e 40 (le_refl _) = c.val ↔ ∀ t, t < c → ¬ e t := by
  constructor
  · intro h t ht he
    have := least_le_of e 40 (le_refl _) t t.isLt he
    rw [h] at this
    exact absurd ht (not_lt_of_ge this)
  · intro h
    have hle := least_le_of e 40 (le_refl _) c c.isLt hc
    rcases least_mem e 40 (le_refl _) with h' | ⟨t, he, h'⟩
    · have := c.isLt; omega
    · rcases lt_or_eq_of_le (show t ≤ c from (h'.symm.le.trans hle : t.val ≤ c.val)) with ht | ht
      · exact absurd he (h t ht)
      · rw [h', ht]

/-! ## Forty of forty-eight -/

/-- The largest of forty-eight, of which eight are below everything. -/
theorem max_48 (g : Fin 48 → EReal) (hg : ∀ k : Fin 48, 40 ≤ k.val → g k = ⊥) :
    Finset.univ.fold max ⊥ g = Finset.univ.fold max ⊥ fun k : Fin 40 => g (k.castLE (by decide)) := by
  show Finset.univ.sup g = Finset.univ.sup fun k : Fin 40 => g (k.castLE (by decide))
  refine le_antisymm (Finset.sup_le fun k _ => ?_) (Finset.sup_le fun k _ => Finset.le_sup (f := g) (Finset.mem_univ _))
  by_cases h : k.val < 40
  · exact Finset.le_sup (f := fun k : Fin 40 => g (k.castLE (by decide))) (Finset.mem_univ (⟨k.val, h⟩ : Fin 40))
  · rw [hg k (by omega)]; exact bot_le

/-- The sum of forty-eight, of which eight are zero. -/
theorem sum_48 {M : Type} [AddCommMonoid M] (g : Fin 48 → M) (hg : ∀ k : Fin 48, 40 ≤ k.val → g k = 0) :
    ∑ k, g k = ∑ k : Fin 40, g (k.castLE (by decide)) := by
  rw [show (∑ k, g k) = _ from Fin.sum_univ_add (a := 40) (b := 8) g,
    Finset.sum_eq_zero fun (k : Fin 8) _ => hg (Fin.natAdd 40 k) (Nat.le_add_right _ _), add_zero]
  rfl

/-! ## Words -/

/-- A choice by equality. -/
theorem select_eq {α : Type} (a b : BitVec 32) (x y : α) : Scalar.select (IntOp.cmpi .eq a b) x y = if a = b then x else y := by
  unfold Scalar.select
  rw [WordCmp.cmpi_eq_eq]
  by_cases h : a = b <;> simp [h]

/-- A choice by a truth value. -/
theorem select_ofBool {α : Type} (p : Prop) [Decidable p] (x y : α) : Scalar.select (BitVec.ofBool (decide p)) x y = if p then x else y := by
  unfold Scalar.select
  by_cases h : p <;> simp [h]

/-- Whether a slot is among the forty, in words. -/
theorem slot_lt (c : Fin 48) : IntOp.cmpi .slt (BitVec.ofNat 32 c.val) 40#32 = BitVec.ofBool (decide (c.val < 40)) := by
  revert c; decide +kernel

/-- Slots compared, in words. -/
theorem slot_gt (c : Fin 48) (n : Fin 40) : IntOp.cmpi .sgt (BitVec.ofNat 32 c.val) (BitVec.ofNat 32 n.val) = BitVec.ofBool (decide (n.val < c.val)) := by
  revert c n; decide +kernel

/-- The lesser of two slots, in words. -/
theorem slot_min (a b : Fin 49) : IntOp.minsi (BitVec.ofNat 32 a.val) (BitVec.ofNat 32 b.val) = BitVec.ofNat 32 (min a.val b.val) := by
  revert a b; decide +kernel

/-- The word of minus infinity. -/
theorem bot_word : Ideal.ofBits .f32 0xFF800000#32 = ⊥ := by simp [Ideal.ofBits, Ideal.ieee]

end Cert.Proof.Weights

end
-- ==== Proof.WeightsRef.lean ====
/-
  The reference of the weights kernel, row by row.
-/
module

public import proofs.«01_k».proof.Proof.WeightsSpec
public import proofs.«01_k».proof.Proof.Gen.WeightsReferenceIdeal.Run
public import Idealize.ShloMosaic.Lib.Pointwise

@[expose] public section

noncomputable section

namespace Cert.Proof.Weights.Ref

open Cert.WeightsReferenceIdeal Cert.WeightsReferenceIdeal.Gen Idealize.ShloMosaic Idealize.ShloMosaic.Pointwise

/-! ## The rows -/

/-- The forty slots of every row, from both halves. -/
def rows {α : Type} (z₀ z₁ : S32x48x128.Idx → α) : S8192x40.Idx → α :=
  extractStridedSlice S8192x40 ![0, 0] (shapeCast S8192x48 (transpose S64x128x48 [0, 2, 1]
    (concatenate S64x48x128 0 [⟨S32x48x128, z₀⟩, ⟨S32x48x128, z₁⟩] concatenates_S32x48x128_S32x48x128_S64x48x128_d0)
    transposes_S64x48x128_S64x128x48_0_2_1) shapeCasts_S64x128x48_S8192x48) slices_S8192x48_S8192x40_0_0

/-- Two places with the same coordinates. -/
theorem ix3_of {a b c : ℕ} {x x' : Fin a} {y y' : Fin b} {z z' : Fin c} (hx : x.val = x'.val) (hy : y.val = y'.val) (hz : z.val = z'.val) :
    ix3 x y z = ix3 x' y' z' := by
  rw [Fin.ext hx, Fin.ext hy, Fin.ext hz]

/-- A row's entry, from the halves. -/
theorem rows_at {α : Type} (z₀ z₁ : S32x48x128.Idx → α) (r : Fin 8192) (k : Fin 40) : rows z₀ z₁ (ix2 r k)
    = if r.val / 128 < 32 then z₀ (ix3 ⟨r.val / 128 % 32, by omega⟩ (k.castLE (by decide)) ⟨r.val % 128, by omega⟩)
      else z₁ (ix3 ⟨r.val / 128 % 32, by omega⟩ (k.castLE (by decide)) ⟨r.val % 128, by omega⟩) := by
  unfold rows
  simp only [pointwise]
  have hr := r.isLt
  have e : (![0, 0] : Fin 2 → ℕ) 0 + r.val = r.val := Nat.zero_add _
  have e' : (![0, 0] : Fin 2 → ℕ) 1 + k.val = k.val := Nat.zero_add _
  have e2 : (![32, 48, 128] : Fin 3 → ℕ) 0 = 32 := rfl
  split
  · rename_i h
    have h' : (0 + r.val) / 128 < 32 := h
    refine Eq.trans ?_ (if_pos (by omega)).symm
    exact congrArg z₀ (ix3_of (by dsimp only; omega) e' (by dsimp only; omega))
  · rename_i h
    have h' : ¬ (0 + r.val) / 128 < 32 := h
    refine Eq.trans ?_ (if_neg (by omega)).symm
    refine congrArg z₁ ?_
    refine ix3_of ?_ e' ?_
    · dsimp only
      rw [if_pos trivial, e2]
      omega
    · dsimp only
      rw [if_neg (by decide)]
      omega

/-! ## The shares -/

variable (s m : FVec Ideal S8192x40 .f32) (x : IVec S8192x40 32)

/-- A row. -/
def at40 {α : Type} (s : S8192x40.Idx → α) (r : Fin 8192) (k : Fin 40) : α := s (ix2 r k)

/-- A column of numbers laid along the rows. -/
def wide (z : FVec Ideal S8192 .f32) : FVec Ideal S8192x40 .f32 :=
  broadcastInDim S8192x40 ![0, 1] bcast_S8192x1_S8192x40_0_1 (broadcastInDim S8192x1 ![0] bcast_S8192_S8192x1_0 z)

/-- A number repeated over a row. -/
theorem wide_at (z : FVec Ideal S8192 .f32) (r : Fin 8192) (k : Fin 40) : wide z (ix2 r k) = z (ix1 r) := by
  unfold wide
  simp only [pointwise]
  rfl

/-- The logits, scaled. -/
def scaledV : FVec Ideal S8192x40 .f32 := Host.divf s (broadcastInDim S8192x40 ![] bcast_S_S8192x40 (constant S_ .f32 0x415DB3D7#32))

/-- A scaled logit. -/
theorem scaledV_at (r : Fin 8192) (k : Fin 40) : scaledV s (ix2 r k) = scaled (at40 s r) k := by
  unfold scaledV
  simp only [pointwise]
  rfl

/-- The greatest of each row. -/
def topV : FVec Ideal S8192 .f32 := Host.reduce FloatOps.maximumf (scaledV s) (constant S_ .f32 0xFF800000#32) reducesTo_S8192x40_S8192_d1 h_S_

/-- A row's largest. -/
theorem topV_at (r : Fin 8192) : topV s (ix1 r) = top (at40 s r) := by
  unfold topV top
  simp only [pointwise]
  simp only [scaledV_at]
  rw [bot_word]

/-- The exponentials. -/
def expV : FVec Ideal S8192x40 .f32 := Host.exp (subf (scaledV s) (wide (topV s)))

/-- An exponential. -/
theorem expV_at (r : Fin 8192) (k : Fin 40) : expV s (ix2 r k) = expo (at40 s r) k := by
  unfold expV expo
  simp only [pointwise]
  rw [scaledV_at, wide_at, topV_at]

/-- The shares. -/
def shareV : FVec Ideal S8192x40 .f32 := Host.divf (expV s)
  (wide (Host.reduceAdd (expV s) (constant S_ .f32 0x00000000#32) reducesTo_S8192x40_S8192_d1 h_S_))

/-- A share of the softmax. -/
theorem shareV_at (r : Fin 8192) (k : Fin 40) : shareV s (ix2 r k) = share (at40 s r) k := by
  unfold shareV share
  simp only [pointwise]
  rw [expV_at, wide_at]
  simp only [pointwise, expV_at, zero_add]

/-- The weights. -/
def wtV : FVec Ideal S8192x40 .f32 :=
  mulf (uitofp (F := Ideal) .f32 (cmpf .ogt m (broadcastInDim S8192x40 ![] bcast_S_S8192x40 (constant S_ .f32 0x00000000#32)))) (shareV s)

/-- A masked share. -/
theorem wtV_at (r : Fin 8192) (k : Fin 40) : wtV s m (ix2 r k) = wt (at40 s r) (at40 m r) k := by
  unfold wtV wt
  simp only [pointwise]
  rw [shareV_at]
  unfold at40
  by_cases h : 0 < m (ix2 r k) <;> simp [h, FloatOps.uitofp]

/-! ## The equal slots -/

/-- Where two slots of a row have the same index. -/
def sameV : IVec S8192x40x40 1 :=
  cmpi .eq (broadcastInDim S8192x40x40 ![0, 1, 2] bcast_S8192x40x1_S8192x40x40_0_1_2 (broadcastInDim S8192x40x1 ![0, 1] bcast_S8192x40_S8192x40x1_0_1 x))
    (broadcastInDim S8192x40x40 ![0, 1, 2] bcast_S8192x1x40_S8192x40x40_0_1_2 (broadcastInDim S8192x1x40 ![0, 2] bcast_S8192x40_S8192x1x40_0_2 x))

/-- Whether two slots hold one index. -/
theorem sameV_at (r : Fin 8192) (c k : Fin 40) : sameV x (ix3 r c k) = IntOp.cmpi .eq (at40 x r c) (at40 x r k) := by
  unfold sameV
  simp only [pointwise]
  rfl

/-- Where the second slot is the earlier one. -/
def earlierV : IVec S8192x40x40 1 :=
  broadcastInDim S8192x40x40 ![0, 1, 2] bcast_S1x40x40_S8192x40x40_0_1_2 (broadcastInDim S1x40x40 ![1, 2] bcast_S40x40_S1x40x40_1_2
    (cmpi .slt (broadcastInDim S40x40 ![0, 1] bcast_S1x40_S40x40_0_1 (broadcastInDim S1x40 ![1] bcast_S40_S1x40_1 (iotaInDim S40 32 0)))
      (broadcastInDim S40x40 ![0, 1] bcast_S40x1_S40x40_0_1 (broadcastInDim S40x1 ![0] bcast_S40_S40x1_0 (iotaInDim S40 32 0)))))

/-- Whether one slot comes before another. -/
theorem earlierV_at (r : Fin 8192) (c k : Fin 40) : earlierV (ix3 r c k) = IntOp.cmpi .slt (BitVec.ofNat 32 k.val) (BitVec.ofNat 32 c.val) := by
  unfold earlierV
  simp only [pointwise]
  rfl

/-- Whether any of the slots is one. -/
theorem fold_any (p : Fin 40 → Prop) [DecidablePred p] (u : Finset (Fin 40)) :
    u.fold IntOp.ori 0#1 (fun k => BitVec.ofBool (decide (p k))) = BitVec.ofBool (decide (∃ k ∈ u, p k)) := by
  induction u using Finset.induction_on with
  | empty => simp
  | insert a u ha ih =>
    rw [Finset.fold_insert ha, ih, WordCmp.ori_ofBool]
    refine congrArg BitVec.ofBool ?_
    rw [← Bool.decide_or]
    exact decide_eq_decide.2 (by simp)

/-- Slots' words compare as their numbers. -/
theorem slot_before (k c : Fin 40) : IntOp.cmpi .slt (BitVec.ofNat 32 k.val) (BitVec.ofNat 32 c.val) = BitVec.ofBool (decide (k < c)) := by
  revert k c; decide +kernel

/-- Where a slot is the first of its index. -/
def firstV : IVec S8192x40 1 := noti (Host.reduce IntOp.ori (andi (sameV x) earlierV) (constantI S_ 1 0#1) reducesTo_S8192x40x40_S8192x40_d2 h_S_)

/-- Whether a slot is the first with its index. -/
theorem firstV_at (r : Fin 8192) (c : Fin 40) : firstV x (ix2 r c) = BitVec.ofBool (decide (First (at40 x r) c)) := by
  unfold firstV
  simp only [pointwise]
  simp only [sameV_at, earlierV_at, slot_before, WordCmp.cmpi_eq_eq, WordCmp.andi_ofBool, ← Bool.decide_and]
  rw [fold_any]
  by_cases h : First (at40 x r) c
  · rw [decide_eq_true h, decide_eq_false (by rintro ⟨k, -, h1, h2⟩; exact h k h2 h1)]
    rfl
  · rw [decide_eq_false h, decide_eq_true (by unfold First at h; push Not at h; obtain ⟨k, h1, h2⟩ := h; exact ⟨k, Finset.mem_univ _, h2, h1⟩)]
    rfl

/-- The weights of each slot's equals, added. -/
def totalV : FVec Ideal S8192x40 .f32 :=
  Host.reduceAdd (select (sameV x)
      (broadcastInDim S8192x40x40 ![0, 1, 2] bcast_S8192x1x40_S8192x40x40_0_1_2 (broadcastInDim S8192x1x40 ![0, 2] bcast_S8192x40_S8192x1x40_0_2 (wtV s m)))
      (broadcastInDim S8192x40x40 ![] bcast_S_S8192x40x40 (id (constant S_ .f32 0x00000000#32))))
    (constant S_ .f32 0x00000000#32) reducesTo_S8192x40x40_S8192x40_d2 h_S_

/-- The masked shares of a slot's index. -/
theorem totalV_at (r : Fin 8192) (c : Fin 40) : totalV s m x (ix2 r c) = total (at40 s r) (at40 m r) (at40 x r) c := by
  unfold totalV total
  simp only [pointwise]
  simp only [sameV_at, select_eq, zero_add]
  refine Finset.sum_congr rfl fun k _ => ?_
  refine if_congr Iff.rfl (wtV_at s m r k) ?_
  exact Ideal.ofBits_zero .f32

/-! ## The top slots -/

/-- The slots of greatest share. -/
def topIx : IVec S8192x8 32 := (Host.topK S8192x8 1 (FloatOps.cmpfTotal .gt) (shareV s) sliceFits_S8192x40_S8192x8).2

/-- The slot sorted to each place, as a sort by the shares of the row. -/
theorem sorted_at (v : FVec Ideal S8192x40 .f32) (r : Fin 8192) (k : Fin 40) :
    sortedFrom (fun a b => FloatOps.cmpfTotal (F := Ideal) .gt (v ((ix2 r k : S8192x40.Idx).along 1 a)) (v ((ix2 r k : S8192x40.Idx).along 1 b)) == 1#1) k
      = inPlace (at40 v r) k := by
  rw [← sortedFrom_value]
  refine congrFun (congrArg sortedFrom ?_) k
  funext a b
  have e : ∀ a : Fin 40, (ix2 r k : S8192x40.Idx).along 1 a = ix2 r a := fun a => by
    funext d
    fin_cases d <;> rfl
  rw [e a, e b]
  show (BitVec.ofBool (decide (v (ix2 r b) < v (ix2 r a))) == 1#1) = decide (v (ix2 r b) < v (ix2 r a))
  by_cases h : v (ix2 r b) < v (ix2 r a) <;> simp [h]

/-- The slot in place `b`. -/
theorem topIx_at (r : Fin 8192) (b : Fin 8) : topIx s (ix2 r b) = BitVec.ofNat 32 (inPlace (share (at40 s r)) (b.castLE (by decide))).val := by
  have e : topIx s (ix2 r b) = (Host.sort2 S8192x40 1 (fun (l r : EReal × BitVec 32) => FloatOps.cmpfTotal (F := Ideal) (φ := .f32) .gt l.1 r.1)
      (shareV s) (fun i => if hd : 1 < 2 then iotaInDim S8192x40 32 ⟨1, hd⟩ i else 0#32)).2 (ix2 r (b.castLE (by decide))) := by
    unfold topIx Host.topK
    refine congrArg (Host.sort2 S8192x40 1 (fun (l r : EReal × BitVec 32) => FloatOps.cmpfTotal (F := Ideal) (φ := .f32) .gt l.1 r.1)
      (shareV s) (fun i => if hd : 1 < 2 then iotaInDim S8192x40 32 ⟨1, hd⟩ i else 0#32)).2 ?_
    funext d
    fin_cases d
    · exact Fin.ext (Nat.zero_add _)
    · exact Fin.ext (Nat.zero_add _)
  have e2 : topIx s (ix2 r b) = BitVec.ofNat 32 (sortedFrom (fun a b' => FloatOps.cmpfTotal (F := Ideal) .gt
      (shareV s ((ix2 r (b.castLE (by decide)) : S8192x40.Idx).along 1 a)) (shareV s ((ix2 r (b.castLE (by decide)) : S8192x40.Idx).along 1 b')) == 1#1)
      (b.castLE (by decide) : Fin 40)).val := by
    rw [e]
    unfold Host.sort2
    rw [dif_pos (show 1 < S8192x40.rank by decide)]
    dsimp only
    rw [dif_pos (show 1 < 2 by decide)]
    unfold iotaInDim
    refine congrArg (fun z : Fin 40 => BitVec.ofNat 32 z.val) (Function.update_self _ _ _)
  rw [e2, sorted_at]
  rw [show at40 (shareV s) r = share (at40 s r) from funext fun k => shareV_at s r k]

/-- A slot's number, clamped. -/
theorem clamped (k : Fin 40) : min (BitVec.ofNat 32 k.val).toInt.toNat 39 + 0 + 0 = k.val := by
  revert k; decide +kernel

/-- Along each row, the indices at given slots. -/
theorem gather_at (ix : IVec S8192x8x1 32) (r : Fin 8192) (b : Fin 8) (k : Fin 40) (h : ix (ix3 r b 0) = BitVec.ofNat 32 k.val) :
    Host.gather gather_S8192x40_S8192x8x1_S8192x8_n_1_0_0_1_2_11 x ix (ix2 r b) = at40 x r k := by
  refine congrArg x ?_
  funext d
  refine Fin.ext ?_
  fin_cases d
  · show 0 + r.val + 0 = r.val
    omega
  · show min (ix (GatherDims.siIdx gather_S8192x40_S8192x8x1_S8192x8_n_1_0_0_1_2_11 (ix2 r b) ⟨0, by decide⟩)).toInt.toNat 39 + 0 + 0 = k.val
    have e : ix (ix3 r b 0) = ix (GatherDims.siIdx gather_S8192x40_S8192x8x1_S8192x8_n_1_0_0_1_2_11 (ix2 r b) ⟨0, by decide⟩) := by
      refine congrArg ix ?_
      funext d
      fin_cases d <;> rfl
    rw [← e, h]
    exact clamped k

end Cert.Proof.Weights.Ref

end
-- ==== Proof.WeightsBlock.lean ====
/-
  One block of the weights kernel: its three chains over the forty slots as recursions, and what each holds at a place.
-/
module

public import proofs.«01_k».proof.Proof.Gen.WeightsIdeal.Frame
public import proofs.«01_k».proof.Proof.WeightsSpec
public import Idealize.ShloMosaic.Lib.Pointwise
public import Idealize.ShloMosaic.Lib.Pipeline.ValueKit

@[expose] public section

noncomputable section

namespace Cert.Proof.Weights

open Cert.WeightsIdeal Cert.WeightsIdeal.Gen Idealize.ShloMosaic Idealize.ShloMosaic.Pointwise

/-! ## The chains -/

/-- A slot lies in the block. -/
theorem slot_slices (n : ℕ) (h : n < 40) : S2x48x128.Slices ![0, n, 0] S2x1x128 := by
  refine ⟨rfl, fun a => ?_⟩
  fin_cases a
  · show 0 + 2 ≤ 2
    omega
  · show n + 1 ≤ 48
    omega
  · show 0 + 128 ≤ 128
    omega

section Chains

variable {F : FTy → Type} [FloatOps F]

/-- Slot `n` of a block, at every slot. -/
def pick {α : Type} (x : S2x48x128.Idx → α) (n : ℕ) (h : n < 40) : S2x48x128.Idx → α :=
  broadcastTo S2x48x128 (extractStridedSlice S2x1x128 ![0, n, 0] x (slot_slices n h)) broadcasts_S2x1x128_S2x48x128

/-- The weights of the first `n` slots gathered at their equals. -/
def accTo (idx : IVec S2x48x128 32) (w : FVec F S2x48x128 .f32) : (n : ℕ) → n ≤ 40 → FVec F S2x48x128 .f32
  | 0, _ => broadcast S2x48x128 (Scalar.ofBits .f32 0x00000000#32)
  | n + 1, h => addf (accTo idx w n (Nat.le_of_succ_le h))
      (select (cmpi .eq idx (pick idx n h))
        (broadcastTo S2x48x128 (shapeCast S2x1x128 (extractStridedSlice S2x1x128 ![0, n, 0] w (slot_slices n h)) shapeCasts_S2x1x128_S2x1x128) broadcasts_S2x1x128_S2x48x128)
        (broadcast S2x48x128 (Scalar.ofBits .f32 0x00000000#32)))

/-- The least of the first `n` slots that hold the same index. -/
def minTo (idx : IVec S2x48x128 32) : (n : ℕ) → n ≤ 40 → IVec S2x48x128 32
  | 0, _ => broadcast S2x48x128 48#32
  | n + 1, h => minsi (minTo idx n (Nat.le_of_succ_le h))
      (select (cmpi .eq idx (pick idx n h)) (broadcast S2x48x128 (BitVec.ofNat 32 n)) (broadcast S2x48x128 48#32))

/-- How many of the first `n` slots come before this one. -/
def rankTo (v : FVec F S2x48x128 .f32) : (n : ℕ) → n ≤ 40 → IVec S2x48x128 32
  | 0, _ => broadcast S2x48x128 0#32
  | n + 1, h => addi (rankTo v n (Nat.le_of_succ_le h))
      (extui 32 (ori (cmpf .ogt (pick v n h) v) (andi (cmpf .oeq (pick v n h) v)
        (cmpi .sgt (iota .tc S2x48x128 32 [1] iota_S2x48x128_d1_w32) (broadcast S2x48x128 (BitVec.ofNat 32 n))))) natLt_1_32)

variable (x0 x1 : Vec F S2x48x128 .f32) (x2 : Vec F S2x48x128 .i32)

set_option maxRecDepth 8192 in
/-- The least equal slot, all but the last step. -/
theorem min39 : k0_pay166 x0 x1 x2 = minTo (View.ld x2 r0_0) 39 (by decide) := by
  rfl

set_option maxRecDepth 8192 in
theorem rank40 : k0_pay167 x0 x1 x2 = select k0_pay2 (rankTo (F := F) (k0_pay6 (View.ld x0 r0_0)) 40 (by decide)) (broadcast S2x48x128 48#32) := by
  rfl

set_option maxRecDepth 8192 in
theorem out3_chain : out0_3 x0 x1 x2 = View.canon [⟨r0_0,
   select (cmpi .eq (iota .tc S2x48x128 32 [1] iota_S2x48x128_d1_w32) (broadcast S2x48x128 47#32))
     (broadcastTo S2x48x128 (shapeCast S2x1x128 (k0_pay5 (View.ld x1 r0_0) (View.ld x0 r0_0)) shapeCasts_S2x1x128_S2x1x128) broadcasts_S2x1x128_S2x48x128)
     (select (andi (cmpi .eq (minTo (View.ld x2 r0_0) 40 (by decide)) (iota .tc S2x48x128 32 [1] iota_S2x48x128_d1_w32)) k0_pay2)
       (accTo (View.ld x2 r0_0) (k0_pay4 (View.ld x1 r0_0) (View.ld x0 r0_0)) 40 (by decide))
       (broadcast S2x48x128 (Scalar.ofBits .f32 0x00000000#32)))⟩] := by
  rfl

end Chains

/-! ## A place of each -/

/-- The forty slots of the row of `y`. -/
def row {α : Type} (x : S2x48x128.Idx → α) (y : S2x48x128.Idx) (k : Fin 40) : α := x (ix3 (y 0) (k.castLE (by decide)) (y 2))

/-- A place's slot. -/
theorem slot_at (y : S2x48x128.Idx) : List.foldl (fun n a => n * ![2, 48, 128] a + (y a).val) 0 [1] = (y 1).val := by
  show 0 * _ + (y 1).val = (y 1).val
  omega

/-- A place's own entry in its row. -/
theorem self_at {α : Type} (x : S2x48x128.Idx → α) (y : S2x48x128.Idx) (h : (y 1).val < 40) : row x y ⟨(y 1).val, h⟩ = x y := by
  refine congrArg x ?_
  funext a
  fin_cases a <;> rfl

/-- Two places of one row have the same row. -/
theorem row_row {α : Type} (x : S2x48x128.Idx → α) (y : S2x48x128.Idx) (k : Fin 48) : row x (ix3 (y 0) k (y 2)) = row x y := rfl

/-- A logit with the slots past the fortieth at the bottom. -/
def padded (x : Vec Ideal S2x48x128 .f32) (y : S2x48x128.Idx) : EReal :=
  if (y 1).val < 40 then Ideal.div (x y) scale else ⊥

/-- A share of the softmax, over all forty-eight slots. -/
theorem pay3_raw (x : Vec Ideal S2x48x128 .f32) (y : S2x48x128.Idx) : k0_pay3 (F := Ideal) x y
    = Ideal.div (Ideal.exp (padded x y - Finset.univ.fold max ⊥ fun k : Fin 48 => padded x (ix3 (y 0) k (y 2))))
        (∑ j : Fin 48, Ideal.exp (padded x (ix3 (y 0) j (y 2)) - Finset.univ.fold max ⊥ fun k : Fin 48 => padded x (ix3 (y 0) k (y 2)))) := by
  unfold k0_pay3 k0_pay2
  simp only [pointwise]
  simp only [slot_at]
  have hp : ∀ z : S2x48x128.Idx, padded x z = Scalar.select (IntOp.cmpi .slt (BitVec.ofNat 32 (z 1).val) 40#32) (Ideal.div (x z) (Ideal.ofBits .f32 1096659927#32)) (Ideal.ofBits .f32 4286578688#32) := fun z => by
    rw [slot_lt (z 1), select_ofBool, show Ideal.ofBits .f32 4286578688#32 = ⊥ from bot_word]
    rfl
  simp only [hp, bot_word]
  rfl

/-- A share of the softmax, of one of the forty slots. -/
theorem pay3_at (x : Vec Ideal S2x48x128 .f32) (y : S2x48x128.Idx) (h : (y 1).val < 40) :
    k0_pay3 (F := Ideal) x y = share (row x y) ⟨(y 1).val, h⟩ := by
  have hin : ∀ k : Fin 40, padded x (ix3 (y 0) (k.castLE (by decide)) (y 2)) = scaled (row x y) k := fun k =>
    if_pos (show (k.castLE (by decide : 40 ≤ 48)).val < 40 from k.isLt)
  have hout : ∀ k : Fin 48, 40 ≤ k.val → padded x (ix3 (y 0) k (y 2)) = ⊥ := fun k hk =>
    if_neg (show ¬ k.val < 40 from not_lt_of_ge hk)
  have ht : (Finset.univ.fold max ⊥ fun k : Fin 48 => padded x (ix3 (y 0) k (y 2))) = top (row x y) := by
    rw [max_48 _ hout]
    unfold top
    exact congrArg (fun f => Finset.univ.fold max ⊥ f) (funext hin)
  have hs : padded x y = scaled (row x y) ⟨(y 1).val, h⟩ := by
    unfold padded scaled
    rw [if_pos h, self_at]
  rw [pay3_raw, ht, hs, sum_48 _ fun k hk => by rw [hout k hk, EReal.bot_sub]; rfl]
  simp only [hin]
  rfl

/-- Which places are among the forty. -/
theorem mask_at (y : S2x48x128.Idx) : k0_pay2 y = BitVec.ofBool (decide ((y 1).val < 40)) := by
  unfold k0_pay2
  simp only [pointwise]
  simp only [slot_at]
  exact slot_lt (y 1)

/-- A masked share of the softmax. -/
theorem pay4_at (m x : Vec Ideal S2x48x128 .f32) (y : S2x48x128.Idx) :
    k0_pay4 (F := Ideal) m x y = if h : (y 1).val < 40 then wt (row x y) (row m y) ⟨(y 1).val, h⟩ else 0 := by
  unfold k0_pay4
  simp only [pointwise]
  rw [mask_at, WordCmp.andi_ofBool, ← Bool.decide_and, select_ofBool]
  by_cases h : (y 1).val < 40
  · rw [dif_pos h]
    unfold wt
    rw [self_at, pay3_at x y h]
    by_cases h' : 0 < m y
    · rw [if_pos ⟨h, h'⟩, if_pos h']
    · rw [if_neg fun q => h' q.2, if_neg h']
  · rw [dif_neg h, if_neg fun q => h q.1]

/-- The same, along a row. -/
theorem pay4_row (m x : Vec Ideal S2x48x128 .f32) (y : S2x48x128.Idx) (k : Fin 40) :
    k0_pay4 (F := Ideal) m x (ix3 (y 0) (k.castLE (by decide)) (y 2)) = wt (row x y) (row m y) k :=
  (pay4_at m x _).trans (dif_pos (show (k.castLE (by decide : 40 ≤ 48)).val < 40 from k.isLt))

/-- A row's sum of its masked shares. -/
theorem pay5_at (m x : Vec Ideal S2x48x128 .f32) (y : S2x48x128.Idx) :
    k0_pay5 (F := Ideal) m x (ix3 (y 0) 0 (y 2)) = ∑ k, wt (row x y) (row m y) k := by
  unfold k0_pay5
  simp only [pointwise]
  refine (sum_48 _ fun k hk => (pay4_at m x _).trans (dif_neg (show ¬ k.val < 40 from not_lt_of_ge hk))).trans ?_
  exact Finset.sum_congr rfl fun k _ => pay4_row m x y k

/-- A share as the ranking takes it. -/
theorem pay6_at (x : Vec Ideal S2x48x128 .f32) (y : S2x48x128.Idx) (h : (y 1).val < 40) :
    k0_pay6 (F := Ideal) x y = share (row x y) ⟨(y 1).val, h⟩ := by
  unfold k0_pay6
  simp only [pointwise]
  rw [mask_at, select_ofBool, if_pos h, pay3_at x y h]

/-- The same, along a row. -/
theorem pay6_row (x : Vec Ideal S2x48x128 .f32) (y : S2x48x128.Idx) (k : Fin 40) :
    k0_pay6 (F := Ideal) x (ix3 (y 0) (k.castLE (by decide)) (y 2)) = share (row x y) k :=
  pay6_at x _ (show (k.castLE (by decide : 40 ≤ 48)).val < 40 from k.isLt)

/-- One slot of a row, repeated over the row. -/
theorem pick_at {α : Type} (x : S2x48x128.Idx → α) (n : ℕ) (h : n < 40) (y : S2x48x128.Idx) :
    pick x n h y = row x y ⟨n, h⟩ := by
  unfold pick row
  simp only [pointwise]
  refine congrArg x ?_
  funext a
  fin_cases a
  · exact Fin.ext (Nat.zero_add _)
  · exact Fin.ext (Nat.add_zero _)
  · exact Fin.ext (Nat.zero_add _)

/-- The sum over the first slots that hold the same index. -/
theorem acc_at (idx : IVec S2x48x128 32) (w : FVec Ideal S2x48x128 .f32) (n : ℕ) (h : n ≤ 40) (y : S2x48x128.Idx) :
    accTo idx w n h y = ∑ t : Fin n, if idx y = row idx y (t.castLE h) then row w y (t.castLE h) else 0 := by
  induction n with
  | zero =>
    unfold accTo
    simp only [pointwise]
    rfl
  | succ n ih =>
    rw [Fin.sum_univ_castSucc]
    have e := ih (Nat.le_of_succ_le h)
    have hw := pick_at w n h y
    unfold pick at hw
    unfold accTo
    simp only [pointwise] at hw ⊢
    rw [hw, e, pick_at, select_eq]
    rfl

/-- The least of the first slots that holds the same index. -/
theorem min_at (idx : IVec S2x48x128 32) (n : ℕ) (h : n ≤ 40) (y : S2x48x128.Idx) :
    minTo idx n h y = BitVec.ofNat 32 (least (fun t => idx y = row idx y t) n h) := by
  induction n with
  | zero =>
    unfold minTo least
    simp only [pointwise]
  | succ n ih =>
    unfold minTo least
    simp only [pointwise]
    rw [ih, pick_at, select_eq]
    by_cases e : idx y = row idx y ⟨n, h⟩
    · rw [if_pos e, if_pos e]
      exact slot_min ⟨_, Nat.lt_succ_of_le (least_le _ n _)⟩ ⟨n, by omega⟩
    · rw [if_neg e, if_neg e]
      exact slot_min ⟨_, Nat.lt_succ_of_le (least_le _ n _)⟩ ⟨48, by omega⟩

/-- How many of the first slots come before this one. -/
theorem rank_at (x : Vec Ideal S2x48x128 .f32) (n : ℕ) (h : n ≤ 40) (y : S2x48x128.Idx) (hy : (y 1).val < 40) :
    rankTo (k0_pay6 (F := Ideal) x) n h y
      = BitVec.ofNat 32 (∑ t : Fin n, if before (share (row x y)) (t.castLE h) ⟨(y 1).val, hy⟩ then 1 else 0) := by
  induction n with
  | zero =>
    unfold rankTo
    simp only [pointwise]
    rfl
  | succ n ih =>
    rw [Fin.sum_univ_castSucc]
    unfold rankTo
    simp only [pointwise]
    simp only [slot_at]
    have hp : pick (k0_pay6 (F := Ideal) x) n h y = share (row x y) ⟨n, h⟩ := (pick_at _ n h y).trans (pay6_row x y ⟨n, h⟩)
    rw [ih, hp, pay6_at x y hy]
    have hg := slot_gt (y 1) ⟨n, h⟩
    rw [hg, WordCmp.andi_ofBool, WordCmp.ori_ofBool, BitVec.ofNat_add]
    refine congrArg₂ (· + ·) rfl ?_
    show BitVec.setWidth 32 (BitVec.ofBool (before (share (row x y)) ⟨n, h⟩ ⟨(y 1).val, hy⟩)) = BitVec.ofNat 32 (if before (share (row x y)) ⟨n, h⟩ ⟨(y 1).val, hy⟩ = true then 1 else 0)
    cases before (share (row x y)) ⟨n, h⟩ ⟨(y 1).val, hy⟩ <;> rfl

end Cert.Proof.Weights

end
-- ==== Proof.WeightsOut.lean ====
/-
  What the body of the weights kernel leaves in its three output blocks.
-/
module

public import proofs.«01_k».proof.Proof.WeightsBlock

@[expose] public section

noncomputable section

namespace Cert.Proof.Weights

open Cert.WeightsIdeal Cert.WeightsIdeal.Gen Idealize.ShloMosaic Idealize.ShloMosaic.Pointwise

variable (x0 x1 : Vec Ideal S2x48x128 .f32) (x2 : Vec Ideal S2x48x128 .i32)

/-- Where a slot is the first of its index. -/
def firstMask (x2 : IVec S2x48x128 32) : IVec S2x48x128 1 :=
  andi (cmpi .eq (minTo x2 40 (le_refl _)) (iota .tc S2x48x128 32 [1] iota_S2x48x128_d1_w32)) k0_pay2

set_option maxRecDepth 8192 in
theorem out4_chain : out0_4 (F := Ideal) x0 x1 x2 = View.canon [⟨r0_0,
    select (firstMask (View.ld x2 r0_0)) (View.ld x2 r0_0) (broadcast S2x48x128 4294967295#32)⟩] := by
  rfl

/-- A place's slot as a word. -/
theorem iota_at (y : S2x48x128.Idx) : iota .tc S2x48x128 32 [1] iota_S2x48x128_d1_w32 y = BitVec.ofNat 32 (y 1).val := by
  simp only [pointwise]
  simp only [slot_at]

/-- Whether a slot is the first with its index. -/
theorem first_at (x2 : IVec S2x48x128 32) (y : S2x48x128.Idx) :
    firstMask x2 y = BitVec.ofBool (decide (∃ h : (y 1).val < 40, First (row x2 y) ⟨(y 1).val, h⟩)) := by
  unfold firstMask
  have e1 : andi (cmpi .eq (minTo x2 40 (le_refl _)) (iota .tc S2x48x128 32 [1] iota_S2x48x128_d1_w32)) k0_pay2 y
    = IntOp.andi (IntOp.cmpi .eq (minTo x2 40 (le_refl _) y) (iota .tc S2x48x128 32 [1] iota_S2x48x128_d1_w32 y)) (k0_pay2 y) := rfl
  rw [e1, iota_at, min_at, mask_at, WordCmp.cmpi_eq_eq, WordCmp.andi_ofBool, ← Bool.decide_and]
  refine congrArg BitVec.ofBool (decide_eq_decide.mpr ?_)
  have hl : (y 1).val < 48 := (y 1).isLt
  have hm := least_le (fun t => x2 y = row x2 y t) 40 (le_refl _)
  rw [WordCmp.ofNat_eq_ofNat_iff (by omega) (by omega)]
  constructor
  · rintro ⟨h, h'⟩
    refine ⟨h', fun t ht => ?_⟩
    have := (least_eq_iff (fun t => x2 y = row x2 y t) ⟨(y 1).val, h'⟩ (self_at x2 y h').symm).1 h t ht
    rwa [self_at]
  · rintro ⟨h', h⟩
    refine ⟨(least_eq_iff (fun t => x2 y = row x2 y t) ⟨(y 1).val, h'⟩ (self_at x2 y h').symm).2 fun t ht => ?_, h'⟩
    have := h t ht
    rwa [self_at] at this

/-- A word of the block of columns. -/
theorem out4_at (y : S2x48x128.Idx) : out0_4 (F := Ideal) x0 x1 x2 y = iRow (row x2 y) (y 1) := by
  have e : out0_4 (F := Ideal) x0 x1 x2 = select (firstMask x2) x2 (broadcast S2x48x128 4294967295#32) := by
    rw [out4_chain]
    frame_out
  rw [e]
  have e1 : select (firstMask x2) x2 (broadcast S2x48x128 4294967295#32) y = Scalar.select (firstMask x2 y) (x2 y) 4294967295#32 := rfl
  rw [e1, first_at, select_ofBool]
  unfold iRow
  by_cases h : (y 1).val < 40
  · rw [dif_pos h, self_at]
    by_cases h' : First (row x2 y) ⟨(y 1).val, h⟩
    · rw [if_pos ⟨h, h'⟩, if_pos h']
    · rw [if_neg fun q => h' q.2, if_neg h']
  · rw [dif_neg h, if_neg fun q => h q.1]

/-- A word of the block of weights. -/
theorem out3_at (y : S2x48x128.Idx) : out0_3 (F := Ideal) x0 x1 x2 y = wRow (row x0 y) (row x1 y) (row x2 y) (y 1) := by
  have e : out0_3 (F := Ideal) x0 x1 x2 =
   select (cmpi .eq (iota .tc S2x48x128 32 [1] iota_S2x48x128_d1_w32) (broadcast S2x48x128 47#32))
     (broadcastTo S2x48x128 (shapeCast S2x1x128 (k0_pay5 x1 x0) shapeCasts_S2x1x128_S2x1x128) broadcasts_S2x1x128_S2x48x128)
     (select (firstMask x2) (accTo x2 (k0_pay4 x1 x0) 40 (le_refl _)) (broadcast S2x48x128 (Scalar.ofBits .f32 0x00000000#32))) := by
    rw [out3_chain]
    frame_out
    rfl
  have hc : broadcastTo S2x48x128 (shapeCast S2x1x128 (k0_pay5 (F := Ideal) x1 x0) shapeCasts_S2x1x128_S2x1x128) broadcasts_S2x1x128_S2x48x128 y
      = ∑ k, wt (row x0 y) (row x1 y) k := by
    rw [← pay5_at x1 x0 y]
    simp only [pointwise]
    refine congrArg (k0_pay5 (F := Ideal) x1 x0) ?_
    funext a
    fin_cases a <;> rfl
  rw [e]
  have e1 : ∀ (a : IVec S2x48x128 32) (b : FVec Ideal S2x48x128 .f32) (f : IVec S2x48x128 1) (g : FVec Ideal S2x48x128 .f32),
    select (cmpi .eq a (broadcast S2x48x128 47#32)) b (select f g (broadcast S2x48x128 (Scalar.ofBits .f32 0x00000000#32))) y
      = Scalar.select (IntOp.cmpi .eq (a y) 47#32) (b y) (Scalar.select (f y) (g y) (Scalar.ofBits .f32 0x00000000#32)) := fun _ _ _ _ => rfl
  have hz : (Scalar.ofBits .f32 0x00000000#32 : Ideal .f32) = (0 : EReal) := by simp [Scalar.ofBits, Ideal.ofBits, Ideal.ieee]
  rw [e1, hc, iota_at, first_at, select_eq, select_ofBool, acc_at, hz]
  unfold wRow
  have hl : (y 1).val < 48 := (y 1).isLt
  by_cases h : (y 1).val < 40
  · have h47 : ¬ BitVec.ofNat 32 (y 1).val = 47#32 := fun q => by
      have := (WordCmp.ofNat_eq_ofNat_iff (w := 32) (by omega) (by omega)).1 q
      omega
    rw [if_neg h47, dif_pos h]
    by_cases h' : First (row x2 y) ⟨(y 1).val, h⟩
    · rw [if_pos ⟨h, h'⟩, if_pos h']
      unfold total
      rw [self_at]
      exact Finset.sum_congr rfl fun t _ => by rw [← pay4_row x1 x0 y t]; rfl
    · rw [if_neg fun q => h' q.2, if_neg h']
  · rw [dif_neg h, if_neg (fun q : ∃ h : (y 1).val < 40, First (row x2 y) ⟨(y 1).val, h⟩ => h q.1)]
    by_cases h7 : (y 1).val = 47
    · rw [if_pos h7, if_pos (by rw [h7])]
    · rw [if_neg h7, if_neg fun q => h7 ((WordCmp.ofNat_eq_ofNat_iff (w := 32) (by omega) (by omega)).1 q)]

/-- Row `a` of the 256 a block holds. -/
def at256 (a : Fin 256) (k : Fin 48) : S2x48x128.Idx := ix3 ⟨a.val / 128, by omega⟩ k ⟨a.val % 128, by omega⟩

/-- The slot of rank `n`, as a sum over the slots. -/
def rowK (x r : IVec S2x48x128 32) (n : ℕ) : IVec S2x1x128 32 :=
  shapeCast S2x1x128 (multiReductionI .add [1] S2x128 (select (cmpi .eq r (broadcast S2x48x128 (BitVec.ofNat 32 n))) x (broadcast S2x48x128 0#32))
    0#32 reduces_S2x48x128_S2x128 rfl) shapeCasts_S2x128_S2x1x128

/-- The index whose rank is `n`. -/
theorem rowK_at (x r : IVec S2x48x128 32) (n : ℕ) (a : Fin 256) :
    rowK x r n (ix3 ⟨a.val / 128, by omega⟩ 0 ⟨a.val % 128, by omega⟩)
      = Finset.univ.fold IntOp.addi 0#32 fun k => if r (at256 a k) = BitVec.ofNat 32 n then x (at256 a k) else 0#32 := by
  unfold rowK
  simp only [pointwise]
  simp only [select_eq]
  rfl

/-- Eight rows of words laid side by side, as the third output's block holds them. -/
def sides (R : Fin 8 → IVec S2x1x128 32) : IVec S256x8 32 :=
  shapeCast S256x8 (transpose S2x128x8 [0, 2, 1] (concatenate S2x8x128 1
    [⟨S2x1x128, R 0⟩, ⟨S2x1x128, R 1⟩, ⟨S2x1x128, R 2⟩, ⟨S2x1x128, R 3⟩, ⟨S2x1x128, R 4⟩, ⟨S2x1x128, R 5⟩, ⟨S2x1x128, R 6⟩, ⟨S2x1x128, R 7⟩]
    concatenates_S2x1x128_S2x1x128_S2x1x128_S2x1x128_S2x1x128_S2x1x128_S2x1x128_S2x1x128_S2x8x128_d1)
    transposes_S2x8x128_p0_2_1_S2x128x8) shapeCasts_S2x128x8_S256x8

/-- The eight rows side by side. -/
theorem sides_at (R : Fin 8 → IVec S2x1x128 32) (a : Fin 256) (b : Fin 8) :
    sides R (ix2 a b) = R b (ix3 ⟨a.val / 128, by omega⟩ 0 ⟨a.val % 128, by omega⟩) := by
  unfold sides
  simp only [pointwise]
  fin_cases b <;> rfl

/-- The block of top indices as eight rows side by side. -/
theorem pay1_sides (x : Vec Ideal S2x48x128 .i32) (r : IVec S2x48x128 32) :
    k0_pay1 (F := Ideal) x r (k0_pay150 x r) (k0_pay151 x r) (k0_pay152 x r) (k0_pay153 x r) (k0_pay154 x r) (k0_pay155 x r) (k0_pay156 x r)
      = sides fun b => rowK x r b.val := by
  rfl

/-- A word of the block of top indices, from the ranks. -/
theorem pay1_at (x : Vec Ideal S2x48x128 .i32) (r : IVec S2x48x128 32) (a : Fin 256) (b : Fin 8) :
    k0_pay1 (F := Ideal) x r (k0_pay150 x r) (k0_pay151 x r) (k0_pay152 x r) (k0_pay153 x r) (k0_pay154 x r) (k0_pay155 x r) (k0_pay156 x r) (ix2 a b)
      = Finset.univ.fold IntOp.addi 0#32 fun k => if r (at256 a k) = BitVec.ofNat 32 b.val then x (at256 a k) else 0#32 := by
  rw [pay1_sides, sides_at, rowK_at]

/-- A sum of words with one term. -/
theorem fold_one (f : Fin 48 → BitVec 32) (k : Fin 48) (h : ∀ j, j ≠ k → f j = 0#32) : Finset.univ.fold IntOp.addi 0#32 f = f k := by
  rw [← Finset.insert_erase (Finset.mem_univ k), Finset.fold_insert (Finset.notMem_erase _ _)]
  rw [Finset.fold_congr (g := fun _ => 0#32) fun j hj => h j (Finset.ne_of_mem_erase hj)]
  have e : ∀ s : Finset (Fin 48), s.fold IntOp.addi 0#32 (fun _ => 0#32) = 0#32 := fun s => by
    induction s using Finset.induction_on with
    | empty => rfl
    | insert a s ha ih => rw [Finset.fold_insert ha, ih]; rfl
  rw [e]
  exact BitVec.add_zero _

/-- A word of the block of top indices. -/
theorem out5_at (a : Fin 256) (b : Fin 8) : out0_5 (F := Ideal) x0 x1 x2 (ix2 a b) = kRow (row x0 (at256 a 0)) (row x2 (at256 a 0)) b := by
  have e : out0_5 (F := Ideal) x0 x1 x2 = (let r := select k0_pay2 (rankTo (F := Ideal) (k0_pay6 x0) 40 (le_refl _)) (broadcast S2x48x128 48#32)
      k0_pay1 (F := Ideal) x2 r (k0_pay150 x2 r) (k0_pay151 x2 r) (k0_pay152 x2 r) (k0_pay153 x2 r) (k0_pay154 x2 r) (k0_pay155 x2 r) (k0_pay156 x2 r)) := by
    unfold out0_5
    rw [rank40]
    frame_out
  rw [e]
  refine (pay1_at x2 _ a b).trans ?_
  have hr : ∀ k : Fin 48, select k0_pay2 (rankTo (F := Ideal) (k0_pay6 x0) 40 (le_refl _)) (broadcast S2x48x128 48#32) (at256 a k)
      = BitVec.ofNat 32 (if h : k.val < 40 then rank (share (row x0 (at256 a 0))) ⟨k.val, h⟩ else 48) := fun k => by
    have e1 : select k0_pay2 (rankTo (F := Ideal) (k0_pay6 x0) 40 (le_refl _)) (broadcast S2x48x128 48#32) (at256 a k)
      = Scalar.select (k0_pay2 (at256 a k)) (rankTo (F := Ideal) (k0_pay6 x0) 40 (le_refl _) (at256 a k)) 48#32 := rfl
    rw [e1, mask_at, select_ofBool]
    by_cases h : k.val < 40
    · rw [if_pos (show ((at256 a k) 1).val < 40 from h), dif_pos h, rank_at x0 40 (le_refl _) (at256 a k) h]
      rfl
    · rw [if_neg (show ¬ ((at256 a k) 1).val < 40 from h), dif_neg h]
  simp only [hr]
  have hb : b.val < 8 := b.isLt
  generalize hq : inPlace (share (row x0 (at256 a 0))) (b.castLE (by decide)) = q
  have hk : rank (share (row x0 (at256 a 0))) q = b.val := (rank_eq_iff _ q (b.castLE (by decide))).2 hq.symm
  rw [fold_one _ (q.castLE (by decide)) fun j hj => ?_]
  · rw [dif_pos (show (q.castLE (by decide : 40 ≤ 48)).val < 40 from q.isLt)]
    rw [show (⟨(q.castLE (by decide : 40 ≤ 48)).val, q.isLt⟩ : Fin 40) = q from rfl, hk, if_pos rfl]
    unfold kRow
    rw [hq]
    rfl
  · refine if_neg fun hj' => ?_
    by_cases h : j.val < 40
    · rw [dif_pos h] at hj'
      have hlt := rank_lt (share (row x0 (at256 a 0))) ⟨j.val, h⟩
      have := (rank_eq_iff _ _ (b.castLE (by decide))).1 ((WordCmp.ofNat_eq_ofNat_iff (w := 32) (by omega) (by omega)).1 hj')
      exact hj (Fin.ext (show j.val = q.val from congrArg (fun z : Fin 40 => z.val) (this.trans hq)))
    · rw [dif_neg h] at hj'
      have := (WordCmp.ofNat_eq_ofNat_iff (w := 32) (by omega) (by omega)).1 hj'
      omega

end Cert.Proof.Weights

end
-- ==== Proof.WeightsArr.lean ====
/-
  The weights kernel: what both halves of the rows leave in the arrays.
-/
module

public import proofs.«01_k».proof.Proof.WeightsOut
public import Idealize.ShloMosaic.Lib.Pipeline.ValueKit

@[expose] public section

noncomputable section

namespace Cert.Proof.Weights

open Cert.WeightsIdeal Cert.WeightsIdeal.Gen
open Idealize.ShloMosaic Idealize.ShloMosaic.TcCoe Idealize.ShloMosaic.StableHlo
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Window)

local notation "𝕄" => MT nD τ sig Unit (Elt Ideal) ℕ (UR sig nD τ) ℕ

/-! ## The second call's body leaves what the first one's does -/

section Second

variable (c : Dev nD) (i : grid1.Coords) (a1 : Memref sig .tc .vmem S2x48x128 .f32) (h1 : a1.IsWhole)
  (a2 : Memref sig .tc .vmem S2x48x128 .f32) (h2 : a2.IsWhole) (a3 : Memref sig .tc .vmem S2x48x128 .i32) (h3 : a3.IsWhole)
  (a5 : Memref sig .tc .vmem S2x48x128 .f32) (h5 : a5.IsWhole) (a6 : Memref sig .tc .vmem S2x48x128 .i32) (h6 : a6.IsWhole)
  (a7 : Memref sig .tc .vmem S256x8 .i32) (h7 : a7.IsWhole)
  (x0 x1 : Vec Ideal S2x48x128 .f32) (x2 : Vec Ideal S2x48x128 .i32)

set_option maxRecDepth 8192 in
/-- What it stores in the weights' block. -/
theorem canon1_3 : View.canon (kernelRun1_A (F := Ideal) c i a1 h1 a2 h2 a3 h3 a5 h5 a6 h6 a7 h7 x0 x1 x2).1
    = out0_3 (a1.view.read (Elt Ideal) (h1.unread x0)) (a2.view.read (Elt Ideal) (h2.unread x1)) (a3.view.read (Elt Ideal) (h3.unread x2)) := by
  rfl

set_option maxRecDepth 8192 in
/-- What it stores in the indices' block. -/
theorem canon1_4 : View.canon (kernelRun1_A (F := Ideal) c i a1 h1 a2 h2 a3 h3 a5 h5 a6 h6 a7 h7 x0 x1 x2).2.1
    = out0_4 (a1.view.read (Elt Ideal) (h1.unread x0)) (a2.view.read (Elt Ideal) (h2.unread x1)) (a3.view.read (Elt Ideal) (h3.unread x2)) := by
  rfl

set_option maxRecDepth 8192 in
/-- What it stores in the top indices' block. -/
theorem canon1_5 : View.canon (kernelRun1_A (F := Ideal) c i a1 h1 a2 h2 a3 h3 a5 h5 a6 h6 a7 h7 x0 x1 x2).2.2.1
    = out0_5 (a1.view.read (Elt Ideal) (h1.unread x0)) (a2.view.read (Elt Ideal) (h2.unread x1)) (a3.view.read (Elt Ideal) (h3.unread x2)) := by
  rfl

/-- The second call's block of weights is the first's function of its inputs. -/
theorem out1_3_eq : out1_A_3 (F := Ideal) c i a1 h1 a2 h2 a3 h3 a5 h5 a6 h6 a7 h7 x0 x1 x2 = out0_3 x0 x1 x2 := by
  unfold out1_A_3
  rw [View.read_writes_junk_eq_canon, canon1_3, Memref.IsWhole.read_unread, Memref.IsWhole.read_unread, Memref.IsWhole.read_unread]

/-- So is its block of columns. -/
theorem out1_4_eq : out1_A_4 (F := Ideal) c i a1 h1 a2 h2 a3 h3 a5 h5 a6 h6 a7 h7 x0 x1 x2 = out0_4 x0 x1 x2 := by
  unfold out1_A_4
  rw [View.read_writes_junk_eq_canon, canon1_4, Memref.IsWhole.read_unread, Memref.IsWhole.read_unread, Memref.IsWhole.read_unread]

/-- And its block of top indices. -/
theorem out1_5_eq : out1_A_5 (F := Ideal) c i a1 h1 a2 h2 a3 h3 a5 h5 a6 h6 a7 h7 x0 x1 x2 = out0_5 x0 x1 x2 := by
  unfold out1_A_5
  rw [View.read_writes_junk_eq_canon, canon1_5, Memref.IsWhole.read_unread, Memref.IsWhole.read_unread, Memref.IsWhole.read_unread]

end Second

/-! ## The arrays after the two calls -/

/-- Where the blocks of the first call lie. -/
theorem index0_0 : ∀ t : Fin cfg0.N, win0_0.index t = ![(grid0.coords t 0).val, 0, 0] := (by decide +kernel : ∀ t : Fin grid0.N, _)
theorem index0_1 : ∀ t : Fin cfg0.N, win0_1.index t = ![(grid0.coords t 0).val, 0, 0] := (by decide +kernel : ∀ t : Fin grid0.N, _)
theorem index0_2 : ∀ t : Fin cfg0.N, win0_2.index t = ![(grid0.coords t 0).val, 0, 0] := (by decide +kernel : ∀ t : Fin grid0.N, _)
theorem index0_3 : ∀ t : Fin cfg0.N, win0_3.index t = ![(grid0.coords t 0).val, 0, 0] := (by decide +kernel : ∀ t : Fin grid0.N, _)
theorem index0_4 : ∀ t : Fin cfg0.N, win0_4.index t = ![(grid0.coords t 0).val, 0, 0] := (by decide +kernel : ∀ t : Fin grid0.N, _)
theorem index0_5 : ∀ t : Fin cfg0.N, win0_5.index t = ![(grid0.coords t 0).val, 0] := (by decide +kernel : ∀ t : Fin grid0.N, _)
/-- Where the blocks of the second call lie: the top indices sixteen blocks on. -/
theorem index1_0 : ∀ t : Fin cfg1.N, win1_0.index t = ![(grid1.coords t 0).val, 0, 0] := (by decide +kernel : ∀ t : Fin grid1.N, _)
theorem index1_1 : ∀ t : Fin cfg1.N, win1_1.index t = ![(grid1.coords t 0).val, 0, 0] := (by decide +kernel : ∀ t : Fin grid1.N, _)
theorem index1_2 : ∀ t : Fin cfg1.N, win1_2.index t = ![(grid1.coords t 0).val, 0, 0] := (by decide +kernel : ∀ t : Fin grid1.N, _)
theorem index1_3 : ∀ t : Fin cfg1.N, win1_3.index t = ![(grid1.coords t 0).val, 0, 0] := (by decide +kernel : ∀ t : Fin grid1.N, _)
theorem index1_4 : ∀ t : Fin cfg1.N, win1_4.index t = ![(grid1.coords t 0).val, 0, 0] := (by decide +kernel : ∀ t : Fin grid1.N, _)
theorem index1_5 : ∀ t : Fin cfg1.N, win1_5.index t = ![(grid1.coords t 0).val + 16, 0] := (by decide +kernel : ∀ t : Fin grid1.N, _)

/-- The forty slots of row `l` of tile `T`. -/
def slots {α : Type} (x : S32x48x128.Idx → α) (T : Fin 32) (l : Fin 128) (k : Fin 40) : α := x (ix3 T (k.castLE (by decide)) l)

/-- The weights of one half. -/
def weightsAt (s m : S32x48x128.Idx → Elt Ideal .f32) (idx : S32x48x128.Idx → BitVec 32) (i : S32x48x128.Idx) : Elt Ideal .f32 :=
  wRow (slots s (i 0) (i 2)) (slots m (i 0) (i 2)) (slots idx (i 0) (i 2)) (i 1)

/-- The indices of one half. -/
def indicesAt (idx : S32x48x128.Idx → BitVec 32) (i : S32x48x128.Idx) : BitVec 32 := iRow (slots idx (i 0) (i 2)) (i 1)

/-- The tile of a row within its half. -/
def tileOf (i : S8192x8.Idx) : Fin 32 := ⟨(i 0).val / 128 % 32, Nat.mod_lt _ (by decide)⟩

/-- The place of a row within its tile. -/
def laneOf (i : S8192x8.Idx) : Fin 128 := ⟨(i 0).val % 128, Nat.mod_lt _ (by decide)⟩

/-- The top indices of the rows of one half. -/
def topsAt (s : S32x48x128.Idx → Elt Ideal .f32) (idx : S32x48x128.Idx → BitVec 32) (i : S8192x8.Idx) : BitVec 32 :=
  kRow (slots s (tileOf i) (laneOf i)) (slots idx (tileOf i) (laneOf i)) (i 1)

/-- The third block at any of its places. -/
theorem out5_row (x0 x1 : Vec Ideal S2x48x128 .f32) (x2 : Vec Ideal S2x48x128 .i32) (y : S256x8.Idx) :
    out0_5 (F := Ideal) x0 x1 x2 y = kRow (row x0 (at256 (y 0) 0)) (row x2 (at256 (y 0) 0)) (y 1) := by
  refine Eq.trans (congrArg (out0_5 (F := Ideal) x0 x1 x2) ?_) (out5_at x0 x1 x2 (y 0) (y 1))
  funext a
  fin_cases a <;> rfl

variable (V : (c : Dev nD) → (b : Ref sig .tc) → Buf (Elt Ideal) ((c : Thread nD τ).loc b))

/-- Two rows of weights are equal when their rows are. -/
theorem wRow_congr {s s' m m' : Fin 40 → EReal} {idx idx' : Fin 40 → BitVec 32} {c c' : Fin 48} (hs : ∀ k, s k = s' k) (hm : ∀ k, m k = m' k)
    (hi : ∀ k, idx k = idx' k) (hc : c.val = c'.val) : wRow s m idx c = wRow s' m' idx' c' := by
  rw [funext hs, funext hm, funext hi, Fin.ext hc]

/-- Two rows of indices are equal when theirs are. -/
theorem iRow_congr {idx idx' : Fin 40 → BitVec 32} {c c' : Fin 48} (hi : ∀ k, idx k = idx' k) (hc : c.val = c'.val) : iRow idx c = iRow idx' c' := by
  rw [funext hi, Fin.ext hc]

/-- Two rows of top indices are equal when theirs are. -/
theorem kRow_congr {s s' : Fin 40 → EReal} {idx idx' : Fin 40 → BitVec 32} {c c' : Fin 8} (hs : ∀ k, s k = s' k) (hi : ∀ k, idx k = idx' k)
    (hc : c.val = c'.val) : kRow s idx c = kRow s' idx' c' := by
  rw [funext hs, funext hi, Fin.ext hc]

/-- The first call's weights. -/
theorem first_weights (c : Dev nD) : (dat0 (F := Ideal) V c).arrAt 3 cfg0.N = weightsAt (V c main_arg0) (V c main_arg1) (V c main_arg2) := by
  refine (dat0 (F := Ideal) V c).arrAt_eq_of_covers 3 (weightsAt (V c main_arg0) (V c main_arg1) (V c main_arg2)) (by decide +kernel) (fun t hf y => ?_)
  blk_simp
  rw [after0_3, out3_at]
  unfold weightsAt row slots
  blk_simp [iblk0, index0_3]
  refine wRow_congr (fun k => congrArg (V c main_arg0) ?_) (fun k => congrArg (V c main_arg1) ?_) (fun k => congrArg (V c main_arg2) ?_) ?_
  · blk_ext [index0_0, index0_3]
  · blk_ext [index0_1, index0_3]
  · blk_ext [index0_2, index0_3]
  · blk_simp [index0_3]

/-- The first call's indices. -/
theorem first_indices (c : Dev nD) : (dat0 (F := Ideal) V c).arrAt 4 cfg0.N = indicesAt (V c main_arg2) := by
  refine (dat0 (F := Ideal) V c).arrAt_eq_of_covers 4 (indicesAt (V c main_arg2)) (by decide +kernel) (fun t hf y => ?_)
  blk_simp
  rw [after0_4, out4_at]
  unfold indicesAt row slots
  blk_simp [iblk0, index0_4]
  refine iRow_congr (fun k => congrArg (V c main_arg2) ?_) ?_
  · blk_ext [index0_2, index0_4]
  · blk_simp [index0_4]

/-- The second call's weights. -/
theorem second_weights (c : Dev nD) : (dat1 (F := Ideal) V c).arrAt 3 cfg1.N = weightsAt (V c main_arg3) (V c main_arg4) (V c main_arg5) := by
  refine (dat1 (F := Ideal) V c).arrAt_eq_of_covers 3 (weightsAt (V c main_arg3) (V c main_arg4) (V c main_arg5)) (by decide +kernel) (fun t hf y => ?_)
  blk_simp
  rw [after1_3]; unfold outsAt1; dsimp only; rw [out1_3_eq, out3_at]
  unfold weightsAt row slots
  blk_simp [iblk1, index1_3]
  refine wRow_congr (fun k => congrArg (V c main_arg3) ?_) (fun k => congrArg (V c main_arg4) ?_) (fun k => congrArg (V c main_arg5) ?_) ?_
  · blk_ext [index1_0, index1_3]
  · blk_ext [index1_1, index1_3]
  · blk_ext [index1_2, index1_3]
  · blk_simp [index1_3]

/-- The second call's indices. -/
theorem second_indices (c : Dev nD) : (dat1 (F := Ideal) V c).arrAt 4 cfg1.N = indicesAt (V c main_arg5) := by
  refine (dat1 (F := Ideal) V c).arrAt_eq_of_covers 4 (indicesAt (V c main_arg5)) (by decide +kernel) (fun t hf y => ?_)
  blk_simp
  rw [after1_4]; unfold outsAt1; dsimp only; rw [out1_4_eq, out4_at]
  unfold indicesAt row slots
  blk_simp [iblk1, index1_4]
  refine iRow_congr (fun k => congrArg (V c main_arg5) ?_) ?_
  · blk_ext [index1_2, index1_4]
  · blk_simp [index1_4]

/-- After the first call the first half of the rows hold their top indices. -/
theorem first_tops (c : Dev nD) (i : S8192x8.Idx) (hi : (i 0).val < 4096) :
    (dat0 (F := Ideal) V c).arrAt 5 cfg0.N i = topsAt (V c main_arg0) (V c main_arg2) i := by
  refine ((dat0 (F := Ideal) V c).arrAt_apply_of_coversWhere 5 (topsAt (V c main_arg0) (V c main_arg2)) (P := fun j : S8192x8.Idx => (j 0).val / 256 < 16)
    (fun β => β (0 : Fin 2) < 16) (by decide +kernel) (fun t hf y => ?_) (fun j => Iff.rfl) i).trans (if_pos (by omega))
  have hb : (grid0.coords t 0).val < 16 := (grid0.coords t 0).isLt
  blk_simp
  rw [after0_5, out5_row]
  unfold topsAt row slots at256 tileOf laneOf
  blk_simp [iblk0, index0_5]
  refine kRow_congr (fun k => congrArg (V c main_arg0) ?_) (fun k => congrArg (V c main_arg2) ?_) ?_
  · blk_ext [index0_0, index0_5]
  · blk_ext [index0_2, index0_5]
  · blk_simp [index0_5]

/-- After the second call the second half of the rows hold their top indices, and the first half what they held. -/
theorem second_tops (c : Dev nD) (i : S8192x8.Idx) : (dat1 (F := Ideal) V c).arrAt 5 cfg1.N i
    = if 16 ≤ (i 0).val / 256 then topsAt (V c main_arg3) (V c main_arg5) i else V c main_v1_2 i := by
  refine ((dat1 (F := Ideal) V c).arrAt_apply_of_coversWhere 5 (topsAt (V c main_arg3) (V c main_arg5)) (P := fun j : S8192x8.Idx => 16 ≤ (j 0).val / 256)
    (fun β => 16 ≤ β (0 : Fin 2)) (by decide +kernel) (fun t hf y => ?_) (fun j => Iff.rfl) i)
  have hb : (grid1.coords t 0).val < 16 := (grid1.coords t 0).isLt
  blk_simp
  rw [after1_5]; unfold outsAt1; dsimp only; rw [out1_5_eq, out5_row]
  unfold topsAt row slots at256 tileOf laneOf
  blk_simp [iblk1, index1_5]
  refine kRow_congr (fun k => congrArg (V c main_arg3) ?_) (fun k => congrArg (V c main_arg5) ?_) ?_
  · blk_ext [index1_0, index1_5]
  · blk_ext [index1_2, index1_5]
  · blk_simp [index1_5]

/-! ## The run -/

/-- The top indices of all rows, each from its half's arrays. -/
def tops (s₀ s₁ : S32x48x128.Idx → Elt Ideal .f32) (idx₀ idx₁ : S32x48x128.Idx → BitVec 32) (i : S8192x8.Idx) : BitVec 32 :=
  if 16 ≤ (i 0).val / 256 then topsAt s₁ idx₁ i else topsAt s₀ idx₀ i

variable (m : (ℓ : Loc nD τ sig) → Buf (Elt Ideal) ℓ) (ρ : Dev nD → PrngReg)

/-- The first result. -/
theorem final00 (c : Dev nD) : W3 (F := Ideal) m ρ c (Proc.devRef .tc main_v0_0)
    = weightsAt (m ((c : Thread nD τ).loc main_arg0)) (m ((c : Thread nD τ).loc main_arg1)) (m ((c : Thread nD τ).loc main_arg2)) := by
  refine (W3_of m ρ c main_v0_0 (by decide +kernel)).trans ((W2_of m ρ c main_v0_0 (by decide)).trans ((W1_arr m ρ c 3).trans ?_))
  exact first_weights (V0 m ρ) c

/-- The second result. -/
theorem final01 (c : Dev nD) : W3 (F := Ideal) m ρ c (Proc.devRef .tc main_v0_1) = indicesAt (m ((c : Thread nD τ).loc main_arg2)) := by
  refine (W3_of m ρ c main_v0_1 (by decide +kernel)).trans ((W2_of m ρ c main_v0_1 (by decide)).trans ((W1_arr m ρ c 4).trans ?_))
  exact first_indices (V0 m ρ) c

/-- The first call leaves the arguments of the second. -/
theorem arg3_at (c : Dev nD) : V2 (F := Ideal) m ρ c main_arg3 = m ((c : Thread nD τ).loc main_arg3) := W2_args m ρ c main_arg3 (by decide)
theorem arg4_at (c : Dev nD) : V2 (F := Ideal) m ρ c main_arg4 = m ((c : Thread nD τ).loc main_arg4) := W2_args m ρ c main_arg4 (by decide)
theorem arg5_at (c : Dev nD) : V2 (F := Ideal) m ρ c main_arg5 = m ((c : Thread nD τ).loc main_arg5) := W2_args m ρ c main_arg5 (by decide)

/-- The third result. -/
theorem final10 (c : Dev nD) : W3 (F := Ideal) m ρ c (Proc.devRef .tc main_v1_0)
    = weightsAt (m ((c : Thread nD τ).loc main_arg3)) (m ((c : Thread nD τ).loc main_arg4)) (m ((c : Thread nD τ).loc main_arg5)) := by
  refine (W3_arr m ρ c 3).trans ?_
  rw [second_weights, arg3_at, arg4_at, arg5_at]

/-- The fourth result. -/
theorem final11 (c : Dev nD) : W3 (F := Ideal) m ρ c (Proc.devRef .tc main_v1_1) = indicesAt (m ((c : Thread nD τ).loc main_arg5)) := by
  refine (W3_arr m ρ c 4).trans ?_
  rw [second_indices, arg5_at]

/-- The fifth result: the first call's rows, then the second's. -/
theorem final12 (c : Dev nD) : W3 (F := Ideal) m ρ c (Proc.devRef .tc main_v1_2)
    = tops (m ((c : Thread nD τ).loc main_arg0)) (m ((c : Thread nD τ).loc main_arg3)) (m ((c : Thread nD τ).loc main_arg2)) (m ((c : Thread nD τ).loc main_arg5)) := by
  have ho : V2 (F := Ideal) m ρ c main_v1_2 = (dat0 (F := Ideal) (V0 m ρ) c).arrAt 5 cfg0.N := by
    refine Eq.trans ?_ (W1_arr m ρ c 5)
    show StableHlo.after hostOps1 (W1 m ρ c) main_v1_2 = _
    after_results <;> rfl
  refine (W3_arr m ρ c 5).trans (funext fun i => ?_)
  refine (second_tops (V2 m ρ) c i).trans ?_
  unfold tops
  rw [arg3_at, arg5_at, ho]
  by_cases h : 16 ≤ (i 0).val / 256
  · rw [if_pos h, if_pos h]
  · rw [if_neg h, if_neg h]
    exact first_tops (V0 m ρ) c i (by omega)

-- `θ_run_regions_kit_sems`'s implicit arguments are found by unfolding plain definitions in a metavariable's type
set_option backward.isDefEq.respectTransparency.types false in
/-- Every weakly fair execution ends with the weights, the indices and the top indices in place and the arguments unchanged. -/
theorem run : θ_run defs (onTc (τ := τ) (main (F := Ideal))) ⟨m, fun _ => 0, ρ⟩ (fun r => ∀ c : Dev nD,
      r.2.mem ((c.tc : Thread nD τ).loc main_v0_0)
        = weightsAt (m ((c : Thread nD τ).loc main_arg0)) (m ((c : Thread nD τ).loc main_arg1)) (m ((c : Thread nD τ).loc main_arg2))
      ∧ r.2.mem ((c.tc : Thread nD τ).loc main_v0_1) = indicesAt (m ((c : Thread nD τ).loc main_arg2))
      ∧ r.2.mem ((c.tc : Thread nD τ).loc main_v1_0)
        = weightsAt (m ((c : Thread nD τ).loc main_arg3)) (m ((c : Thread nD τ).loc main_arg4)) (m ((c : Thread nD τ).loc main_arg5))
      ∧ r.2.mem ((c.tc : Thread nD τ).loc main_v1_1) = indicesAt (m ((c : Thread nD τ).loc main_arg5))
      ∧ r.2.mem ((c.tc : Thread nD τ).loc main_v1_2)
        = tops (m ((c : Thread nD τ).loc main_arg0)) (m ((c : Thread nD τ).loc main_arg3)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0_0 (by decide))).trans (final00 m ρ c),
       (h c _ (mem_uc main_v0_1 (by decide))).trans (final01 m ρ c),
       (h c _ (mem_uc main_v1_0 (by decide))).trans (final10 m ρ c),
       (h c _ (mem_uc main_v1_1 (by decide))).trans (final11 m ρ c),
       (h c _ (mem_uc main_v1_2 (by decide))).trans (final12 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.Proof.Weights

end
-- ==== Proof.WeightsReference.lean ====
/-
  What the reference of the weights kernel returns, from the rows.
-/
module

public import proofs.«01_k».proof.Proof.WeightsRef
public import proofs.«01_k».proof.Proof.WeightsArr

@[expose] public section

noncomputable section

namespace Cert.Proof.Weights.Ref

open Cert.WeightsReferenceIdeal Cert.WeightsReferenceIdeal.Gen Idealize.ShloMosaic Idealize.ShloMosaic.Pointwise

variable (s m : FVec Ideal S8192x40 .f32) (x : IVec S8192x40 32)

/-! ## The top indices -/

/-- The top slots as the look-up takes them: a negative one would count from the end. -/
def lookIx : IVec S8192x8x1 32 :=
  shapeCast S8192x8x1 (select (cmpi .slt (topIx s) (broadcastInDim S8192x8 ![] bcast_S_S8192x8 (constantI S_ 32 0#32)))
    (addi (topIx s) (broadcastInDim S8192x8 ![] bcast_S_S8192x8 (constantI S_ 32 40#32))) (topIx s)) shapeCasts_S8192x8_S8192x8x1

/-- No slot's number is negative. -/
theorem not_negative (k : Fin 40) : Scalar.select (IntOp.cmpi .slt (BitVec.ofNat 32 k.val) 0#32) (IntOp.addi (BitVec.ofNat 32 k.val) 40#32) (BitVec.ofNat 32 k.val)
    = BitVec.ofNat 32 k.val := by
  revert k; decide +kernel

/-- They are the slots themselves. -/
theorem lookIx_at (r : Fin 8192) (b : Fin 8) (e : Fin 1) : lookIx s (ix3 r b e) = BitVec.ofNat 32 (inPlace (share (at40 s r)) (b.castLE (by decide))).val := by
  unfold lookIx
  simp only [pointwise]
  rw [topIx_at]
  exact not_negative _

/-- Where a looked-up slot is one of the forty. -/
def insideV : IVec S8192x8 1 :=
  Host.reduce IntOp.andi (andi (cmpi .sge (lookIx s) (broadcastInDim S8192x8x1 ![] bcast_S_S8192x8x1 (constantI S_ 32 0#32)))
    (cmpi .sle (lookIx s) (broadcastInDim S8192x8x1 ![0, 1, 2] bcast_S1x1x1_S8192x8x1_0_1_2 (broadcastInDim S1x1x1 ![2] bcast_S1_S1x1x1_2 (constantI S1 32 39#32)))))
    (constantI S_ 1 1#1) reducesTo_S8192x8x1_S8192x8_d2 h_S_

/-- Every slot's number is one of the forty. -/
theorem inside (k : Fin 40) : IntOp.andi (IntOp.andi (IntOp.cmpi .sge (BitVec.ofNat 32 k.val) 0#32) (IntOp.cmpi .sle (BitVec.ofNat 32 k.val) 39#32)) 1#1 = 1#1 := by
  revert k; decide +kernel

/-- All of them are. -/
theorem insideV_at (r : Fin 8192) (b : Fin 8) : insideV s (ix2 r b) = 1#1 := by
  unfold insideV
  simp only [pointwise]
  simp only [lookIx_at]
  rw [show (Finset.univ : Finset (Fin 1)) = {0} from rfl, Finset.fold_singleton]
  exact inside _

/-- The indices looked up. -/
def topsV : IVec S8192x8 32 :=
  select (insideV s) (Host.gather gather_S8192x40_S8192x8x1_S8192x8_n_1_0_0_1_2_11 x (lookIx s)) (broadcastInDim S8192x8 ![] bcast_S_S8192x8 (constantI S_ 32 2147483648#32))

/-- A top index. -/
theorem topsV_at (r : Fin 8192) (b : Fin 8) : topsV s x (ix2 r b) = kRow (at40 s r) (at40 x r) b := by
  have e : topsV s x (ix2 r b) = Scalar.select (insideV s (ix2 r b)) (Host.gather gather_S8192x40_S8192x8x1_S8192x8_n_1_0_0_1_2_11 x (lookIx s) (ix2 r b)) 2147483648#32 := rfl
  rw [e, insideV_at, gather_at x (lookIx s) r b _ (lookIx_at s r b 0)]
  rfl

/-! ## The rows laid as tiles -/

/-- Rows of forty-eight as the tiles hold them. -/
def lay {α : Type} (z : S8192x48.Idx → α) : S64x48x128.Idx → α :=
  transpose S64x48x128 [0, 2, 1] (shapeCast S64x128x48 z shapeCasts_S8192x48_S64x128x48) transposes_S64x128x48_S64x48x128_0_2_1

/-- The row at place `l` of tile `T`. -/
def rowAt (T : Fin 64) (l : Fin 128) : Fin 8192 := ⟨T.val * 128 + l.val, by omega⟩

/-- An entry of the tiles is an entry of its row. -/
theorem lay_at {α : Type} (z : S8192x48.Idx → α) (T : Fin 64) (c : Fin 48) (l : Fin 128) : lay z (ix3 T c l) = z (ix2 (rowAt T l) c) := by
  unfold lay rowAt
  simp only [pointwise]

/-- The rows of weights. -/
def weightsV : FVec Ideal S8192x48 .f32 :=
  concatenate S8192x48 1 [⟨S8192x40, (select (firstV x) (totalV s m x) (broadcastInDim S8192x40 ![] bcast_S_S8192x40 (id (constant S_ .f32 0x00000000#32))) : FVec Ideal S8192x40 .f32)⟩,
      ⟨S8192x7, (broadcastInDim S8192x7 ![] bcast_S_S8192x7 (constant S_ .f32 0x00000000#32) : FVec Ideal S8192x7 .f32)⟩,
      ⟨S8192x1, (broadcastInDim S8192x1 ![0] bcast_S8192_S8192x1_0 (Host.reduceAdd (wtV s m) (constant S_ .f32 0x00000000#32) reducesTo_S8192x40_S8192_d1 h_S_) : FVec Ideal S8192x1 .f32)⟩]
    concatenates_S8192x40_S8192x7_S8192x1_S8192x48_d1

/-- A row's weights. -/
theorem weightsV_at (r : Fin 8192) (c : Fin 48) : weightsV s m x (ix2 r c) = wRow (at40 s r) (at40 m r) (at40 x r) c := by
  unfold weightsV
  simp only [pointwise]
  unfold wRow
  split
  · rename_i h
    have e : (ix2 ⟨if (0 : Fin 2).val = (1 : Fin 2).val then c.val else r.val, by rw [if_neg (by decide)]; exact r.isLt⟩
        ⟨if True then c.val else c.val, by rw [if_pos trivial]; exact h⟩ : S8192x40.Idx) = ix2 r ⟨c.val, h⟩ := by
      refine congrArg₂ (fun a b => (ix2 a b : S8192x40.Idx)) (Fin.ext ?_) (Fin.ext ?_)
      · show (if (0 : Fin 2).val = (1 : Fin 2).val then c.val else r.val) = r.val
        exact if_neg (show ¬ (0 : Fin 2).val = (1 : Fin 2).val by decide)
      · rfl
    refine Eq.trans (congrArg (fun y : S8192x40.Idx => Scalar.select (firstV x y) (totalV s m x y) (Ideal.ofBits .f32 0#32)) e) ?_
    rw [firstV_at, select_ofBool, totalV_at, Ideal.ofBits_zero]
  · rename_i h
    by_cases h' : c.val - 40 < 7
    · refine (dif_pos (show c.val - (![8192, 40] : Fin 2 → ℕ) 1 < 7 from h')).trans ?_
      exact (if_neg (show ¬ c.val = 47 by omega)).symm
    · refine (dif_neg (show ¬ c.val - (![8192, 40] : Fin 2 → ℕ) 1 < 7 from h')).trans ?_
      have hc : c.val < 48 := c.isLt
      refine Eq.trans ?_ (if_pos (show c.val = 47 by omega)).symm
      refine (zero_add _).trans ?_
      refine Finset.sum_congr rfl fun k _ => Eq.trans (congrArg (wtV s m) ?_) (wtV_at s m r k)
      refine congrArg (fun a => (ix2 a k : S8192x40.Idx)) ?_
      exact (dif_neg (show ¬ 8192 = 1 by decide)).trans (Fin.ext rfl)

/-- The rows of indices. -/
def indicesV : IVec S8192x48 32 :=
  concatenate S8192x48 1 [⟨S8192x40, select (firstV x) x (broadcastInDim S8192x40 ![] bcast_S_S8192x40 (id (constantI S_ 32 4294967295#32)))⟩,
      ⟨S8192x8, broadcastInDim S8192x8 ![] bcast_S_S8192x8 (constantI S_ 32 4294967295#32)⟩] concatenates_S8192x40_S8192x8_S8192x48_d1

/-- A row's indices. -/
theorem indicesV_at (r : Fin 8192) (c : Fin 48) : indicesV x (ix2 r c) = iRow (at40 x r) c := by
  unfold indicesV
  simp only [pointwise]
  unfold iRow
  split
  · rw [firstV_at, select_ofBool]
    rfl
  · rfl

/-! ## The halves -/

/-- A row of the two halves together, in the first. -/
theorem at40_first {α : Type} (z₀ z₁ : S32x48x128.Idx → α) (r : Fin 8192) (h : r.val / 128 < 32) :
    at40 (rows z₀ z₁) r = slots z₀ ⟨r.val / 128 % 32, Nat.mod_lt _ (by decide)⟩ ⟨r.val % 128, Nat.mod_lt _ (by decide)⟩ :=
  funext fun k => (rows_at z₀ z₁ r k).trans (if_pos h)

/-- And in the second. -/
theorem at40_second {α : Type} (z₀ z₁ : S32x48x128.Idx → α) (r : Fin 8192) (h : ¬ r.val / 128 < 32) :
    at40 (rows z₀ z₁) r = slots z₁ ⟨r.val / 128 % 32, Nat.mod_lt _ (by decide)⟩ ⟨r.val % 128, Nat.mod_lt _ (by decide)⟩ :=
  funext fun k => (rows_at z₀ z₁ r k).trans (if_neg h)

/-- A row by its tile and place, in the first half. -/
theorem tile_first {α : Type} (z₀ z₁ : S32x48x128.Idx → α) (T : Fin 32) (l : Fin 128) (T' : Fin 64) (h : T'.val = T.val) :
    at40 (rows z₀ z₁) (rowAt T' l) = slots z₀ T l := by
  have hv : (rowAt T' l).val = T'.val * 128 + l.val := rfl
  rw [at40_first z₀ z₁ _ (by omega)]
  refine congrArg₂ (slots z₀) (Fin.ext ?_) (Fin.ext ?_) <;> (dsimp only; omega)

/-- And in the second. -/
theorem tile_second {α : Type} (z₀ z₁ : S32x48x128.Idx → α) (T : Fin 32) (l : Fin 128) (T' : Fin 64) (h : T'.val = 32 + T.val) :
    at40 (rows z₀ z₁) (rowAt T' l) = slots z₁ T l := by
  have hv : (rowAt T' l).val = T'.val * 128 + l.val := rfl
  rw [at40_second z₀ z₁ _ (by omega)]
  refine congrArg₂ (slots z₁) (Fin.ext ?_) (Fin.ext ?_) <;> (dsimp only; omega)

/-- A half of the tiles. -/
theorem half_at {α : Type} (z : S64x48x128.Idx → α) (b : ℕ) (hb : b ≤ 32) (h : S64x48x128.Slices ![b, 0, 0] S32x48x128) (i : S32x48x128.Idx) :
    extractStridedSlice S32x48x128 ![b, 0, 0] z h i
      = z (ix3 ⟨b + (i 0).val, by have : (i 0).val < 32 := (i 0).isLt; omega⟩ (i 1) (i 2)) := by
  refine congrArg z ?_
  funext d
  fin_cases d
  · rfl
  · exact Fin.ext (Nat.zero_add _)
  · exact Fin.ext (Nat.zero_add _)

variable (s₀ s₁ m₀ m₁ : FVec Ideal S32x48x128 .f32) (x₀ x₁ : IVec S32x48x128 32)

/-- The first half's weights. -/
theorem weights_first : extractStridedSlice S32x48x128 ![0, 0, 0] (lay (weightsV (rows s₀ s₁) (rows m₀ m₁) (rows x₀ x₁))) slices_S64x48x128_S32x48x128_0_0_0
    = weightsAt s₀ m₀ x₀ := by
  funext i
  refine (half_at _ 0 (by decide) _ i).trans ((lay_at _ _ (i 1) (i 2)).trans ((weightsV_at _ _ _ _ (i 1)).trans ?_))
  unfold weightsAt
  rw [tile_first s₀ s₁ (i 0) (i 2) _ (Nat.zero_add _), tile_first m₀ m₁ (i 0) (i 2) _ (Nat.zero_add _), tile_first x₀ x₁ (i 0) (i 2) _ (Nat.zero_add _)]

/-- The second half's weights. -/
theorem weights_second : extractStridedSlice S32x48x128 ![32, 0, 0] (lay (weightsV (rows s₀ s₁) (rows m₀ m₁) (rows x₀ x₁))) slices_S64x48x128_S32x48x128_32_0_0
    = weightsAt s₁ m₁ x₁ := by
  funext i
  refine (half_at _ 32 (by decide) _ i).trans ((lay_at _ _ (i 1) (i 2)).trans ((weightsV_at _ _ _ _ (i 1)).trans ?_))
  unfold weightsAt
  rw [tile_second s₀ s₁ (i 0) (i 2) _ rfl, tile_second m₀ m₁ (i 0) (i 2) _ rfl, tile_second x₀ x₁ (i 0) (i 2) _ rfl]

/-- The first half's columns. -/
theorem indices_first : extractStridedSlice S32x48x128 ![0, 0, 0] (lay (indicesV (rows x₀ x₁))) slices_S64x48x128_S32x48x128_0_0_0 = indicesAt x₀ := by
  funext i
  refine (half_at _ 0 (by decide) _ i).trans ((lay_at _ _ (i 1) (i 2)).trans ((indicesV_at _ _ (i 1)).trans ?_))
  unfold indicesAt
  rw [tile_first x₀ x₁ (i 0) (i 2) _ (Nat.zero_add _)]

/-- The second half's columns. -/
theorem indices_second : extractStridedSlice S32x48x128 ![32, 0, 0] (lay (indicesV (rows x₀ x₁))) slices_S64x48x128_S32x48x128_32_0_0 = indicesAt x₁ := by
  funext i
  refine (half_at _ 32 (by decide) _ i).trans ((lay_at _ _ (i 1) (i 2)).trans ((indicesV_at _ _ (i 1)).trans ?_))
  unfold indicesAt
  rw [tile_second x₀ x₁ (i 0) (i 2) _ rfl]

/-- The top indices of all rows. -/
theorem tops_eq : topsV (rows s₀ s₁) (rows x₀ x₁) = tops s₀ s₁ x₀ x₁ := by
  funext i
  refine (congrArg (topsV (rows s₀ s₁) (rows x₀ x₁)) (show i = ix2 (i 0) (i 1) from by funext a; fin_cases a <;> rfl)).trans ?_
  refine (topsV_at _ _ (i 0) (i 1)).trans ?_
  unfold tops topsAt tileOf laneOf
  by_cases h : 16 ≤ (i 0).val / 256
  · rw [if_pos h]
    exact congrArg₂ (fun a b => kRow a b (i 1)) (at40_second s₀ s₁ (i 0) (show ¬ (i 0).val / 128 < 32 by omega))
      (at40_second x₀ x₁ (i 0) (show ¬ (i 0).val / 128 < 32 by omega))
  · rw [if_neg h]
    exact congrArg₂ (fun a b => kRow a b (i 1)) (at40_first s₀ s₁ (i 0) (show (i 0).val / 128 < 32 by omega))
      (at40_first x₀ x₁ (i 0) (show (i 0).val / 128 < 32 by omega))

end Cert.Proof.Weights.Ref

end
-- ==== Proof.lean ====
/-
  The claims, of four programs: that each runs, and that its results are its reference's: the neighbour gather and dense
  scatter, the product with the values, the logits and their mask, and the weights with their columns and top indices.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_range
public import proofs.«01_k».proof.Proof.Gen.Product
public import proofs.«01_k».proof.Proof.Gen.Product.Frame
public import proofs.«01_k».proof.Proof.Gen.ProductIdeal
public import proofs.«01_k».proof.Proof.Gen.ProductIdeal.Frame
public import proofs.«01_k».proof.Proof.Gen.ProductReferenceIdeal.Run
public import proofs.«01_k».proof.Proof.Gen.Logits
public import proofs.«01_k».proof.Proof.Gen.Logits.Frame
public import proofs.«01_k».proof.Proof.Gen.LogitsIdeal
public import proofs.«01_k».proof.Proof.Gen.LogitsIdeal.Frame
public import proofs.«01_k».proof.Proof.Gen.LogitsReferenceIdeal.Run
public import proofs.«01_k».proof.Proof.Gen.Weights
public import proofs.«01_k».proof.Proof.Gen.Weights.Frame
public import proofs.«01_k».proof.Proof.Gen.WeightsIdeal
public import proofs.«01_k».proof.Proof.Gen.WeightsIdeal.Frame
public import proofs.«01_k».proof.Proof.Gen.WeightsReferenceIdeal.Run
public import proofs.«01_k».proof.Proof.Launch
public import proofs.«01_k».proof.Proof.RefValue
public import proofs.«01_k».proof.Proof.RefDense
public import proofs.«01_k».proof.Proof.Product
public import proofs.«01_k».proof.Proof.Logits
public import proofs.«01_k».proof.Proof.WeightsReference
public import Idealize.ShloMosaic.Adequacy
public import Idealize.ShloMosaic.Init

@[expose] public section

noncomputable section

namespace Cert.Proof

open Idealize.ShloMosaic Idealize.SL.Sem

/-- A word the precondition bounds on both sides. -/
theorem word_lt {w : BitVec 32} (e : IntOp.andi (IntOp.cmpi .sge w 0#32) (IntOp.cmpi .slt w 1024#32) = 1#1) : w.toNat < 1024 := by
  rw [IntOp.cmpi, IntOp.cmpi, WordCmp.andi_ofBool, WordCmp.ofBool_eq_one_iff, BitVec.sle_eq_decide, BitVec.slt_eq_decide,
    BitVec.toInt_eq_toNat_cond w] at e
  have := w.isLt
  simp at e
  split at e <;> omega

/-- A word the precondition bounds above. -/
theorem word_slt {w : BitVec 32} (e : IntOp.cmpi .slt w 1024#32 = 1#1) : w.toInt < 1024 := by
  rw [IntOp.cmpi, WordCmp.ofBool_eq_one_iff, BitVec.slt_eq_decide] at e
  exact of_decide_eq_true e

section Pre

open Cert.Pre_idx_in_range

variable {F : FTy → Type} [FloatOps F]

/-- Where all words of a table's first 40 columns are below 1024, each of them is. -/
theorem cut_lt (s : IVec S32x48x128 32) (r : S32x40x128.ReducesTo [0, 1, 2] S_) (hn : 0 < S_.numel) (b : S_.BroadcastsInDim S32x40x128 ![])
    (hs : S32x48x128.Slices ![0, 0, 0] S32x40x128) (j : S_.Idx)
    (h : Host.reduce IntOp.andi (cmpi .slt (extractStridedSlice S32x40x128 ![0, 0, 0] s hs) (broadcastInDim S32x40x128 ![] b (constantI S_ 32 1024#32)))
      (constantI S_ 1 1#1) r hn j = 1#1) (x : S32x48x128.Idx) (hx : (x 1).val < 40) : (s x).toInt < 1024 := by
  have e := Host.reduce_andi_all _ _ _ _ _ h (ValueIdx.ix3 (x 0) (⟨(x 1).val, hx⟩ : Fin 40) (x 2))
  have es : extractStridedSlice S32x40x128 ![0, 0, 0] s hs (ValueIdx.ix3 (x 0) (⟨(x 1).val, hx⟩ : Fin 40) (x 2)) = s x := by
    refine extractStridedSlice_apply _ _ _ _ x ?_
    intro a; fin_cases a
    · exact (Nat.zero_add _).symm
    · exact (Nat.zero_add _).symm
    · exact (Nat.zero_add _).symm
  refine word_slt ?_
  rw [← es]
  exact e

/-- The precondition bounds every previous index, and from above every word of the two tables' first 40 columns. -/
theorem pre_ranges (p : IVec S8x1024x8 32) (a₀ a₁ : FVec F S4096x1024 .f32) (w₀ : FVec F S32x48x128 .f32) (s₀ : IVec S32x48x128 32)
    (w₁ : FVec F S32x48x128 .f32) (s₁ : IVec S32x48x128 32) (h : fn (F := F) p a₀ a₁ w₀ s₀ w₁ s₁ = fun _ => 1#1) :
    (∀ x, (p x).toNat < 1024) ∧ (∀ x : S32x48x128.Idx, (x 1).val < 40 → (s₀ x).toInt < 1024) ∧ (∀ x : S32x48x128.Idx, (x 1).val < 40 → (s₁ x).toInt < 1024) := by
  have h' := congrFun h ValueIdx.ix0
  have h₁ := IntOp.andi_eq_one.1 h'
  have h₂ := IntOp.andi_eq_one.1 h₁.1
  exact ⟨fun x => word_lt (Host.reduce_andi_all _ _ _ _ _ h₂.1 x), cut_lt s₀ _ _ _ _ _ h₂.2, cut_lt s₁ _ _ _ _ _ h₁.2⟩

end Pre

/-- The kernel runs, its arguments as they were and every semaphore at zero. -/
theorem frame_kernel : Cert.quiescent_Kernel := fun m ρ h =>
  (θ_run (Cert.KernelIdeal.defs (F := Bits)) _ _).mono
    (fun _ r => ⟨fun c => have q := r.1 c; ⟨q.1, q.2.1, q.2.2.1, q.2.2.2.1, q.2.2.2.2.1, q.2.2.2.2.2.1, q.2.2.2.2.2.2.1⟩, r.2⟩)
    (Launch.run_main (F := Bits) m ρ ⟨fun d => (pre_ranges _ _ _ _ _ _ _ (h d)).1, fun d => (pre_ranges _ _ _ _ _ _ _ (h d)).2.1, fun d => (pre_ranges _ _ _ _ _ _ _ (h d)).2.2⟩)

/-- What the precondition gives of the idealization's memory. -/
theorem ranges (m : (ℓ : Loc Cert.KernelIdeal.nD Cert.KernelIdeal.τ Cert.KernelIdeal.sig) → Buf (Elt Ideal) ℓ) (h : Cert.Pre_KernelIdeal m) : Launch.Ranges m :=
  ⟨fun d => (pre_ranges _ _ _ _ _ _ _ (h d)).1, fun d => (pre_ranges _ _ _ _ _ _ _ (h d)).2.1, fun d => (pre_ranges _ _ _ _ _ _ _ (h d)).2.2⟩

/-- The same of its idealization. -/
theorem frame_kernelIdeal : Cert.quiescent_KernelIdeal := fun m ρ h =>
  (θ_run (Cert.KernelIdeal.defs (F := Ideal)) _ _).mono
    (fun _ r => ⟨fun c => have q := r.1 c; ⟨q.1, q.2.1, q.2.2.1, q.2.2.2.1, q.2.2.2.2.1, q.2.2.2.2.2.1, q.2.2.2.2.2.2.1⟩, r.2⟩)
    (Launch.run_main (F := Ideal) m ρ (ranges m h))

/-- The reference runs, its arguments as they were and every semaphore at zero. -/
theorem frame_reference : Cert.quiescent_ReferenceIdeal := fun m ρ _ =>
  (θ_run (Cert.ReferenceIdeal.defs (F := Ideal)) _ _).mono
    (fun r h => ⟨fun c => (h c).2.2.2.2.2.2, Idealize.ShloMosaic.sem_eq_zero_of_no_sems (by decide) r.2⟩) (Cert.ReferenceIdeal.Value.run (F := Ideal) m ρ)

/-- The kernel's six results are the reference's. -/
theorem value : Cert.algebraic_KernelIdeal_ReferenceIdeal := fun m ρ m' ρ' h ag => by
  have hR := ranges m h
  have ht : ∀ c, Ref.flat (F := Ideal) (StableHlo.launchContents m' c) = Launch.tab m c := fun c =>
    congrArg (fun z : Cert.KernelIdeal.S8x1024x8.Idx → BitVec 32 => shapeCast Cert.KernelIdeal.S65536 z _) (ag c).1
  have hT : ∀ c x, (Ref.flat (F := Ideal) (StableHlo.launchContents m' c) x).toNat < 1024 := fun c x => by rw [ht c]; exact Launch.tab_lt hR c x
  refine ⟨fun c => Launch.outP0 m c, fun c => Launch.outL0 m c, fun c => Launch.outP1 m c, fun c => Launch.outL1 m c,
    fun c => Launch.outD0 m c, fun c => Launch.outD1 m c, ?_, ?_⟩
  · refine (θ_run (Cert.KernelIdeal.defs (F := Ideal)) _ _).mono (fun _ r c => ?_) (Launch.run_main (F := Ideal) m ρ hR)
    obtain ⟨a0, a1, a2, a3, a4, a5, a6, p0, l0, p1, l1, d0, d1, _⟩ := r.1 c
    exact ⟨p0, l0, p1, l1, d0, d1, a0, a1, a2, a3, a4, a5, a6⟩
  · refine (θ_run (Cert.ReferenceIdeal.defs (F := Ideal)) _ _).mono (fun r q c => ?_) (Cert.ReferenceIdeal.Value.run (F := Ideal) m' ρ')
    obtain ⟨p0, l0, p1, l1, d0, d1, rest⟩ := q c
    obtain ⟨_, e1, e2, e3, e4, e5, e6⟩ := ag c
    refine ⟨p0.trans ?_, l0.trans ?_, p1.trans ?_, l1.trans ?_, d0.trans ?_, d1.trans ?_, rest⟩
    · exact (Ref.pos_result _ (hT c) 0 (by decide) rfl _).trans (congrArg (Body.posSpec 0) (ht c))
    · exact (Ref.sel_result _ (hT c) 0 (by decide) rfl _ (by decide) _ (if_pos (by decide))).trans (congrArg₂ (Body.selSpec (F := Ideal) 0) (ht c) e1)
    · exact (Ref.pos_result _ (hT c) 4 (by decide) rfl _).trans (congrArg (Body.posSpec 4) (ht c))
    · exact (Ref.sel_result _ (hT c) 4 (by decide) rfl _ (by decide) _ (if_neg (by decide))).trans (congrArg₂ (Body.selSpec (F := Ideal) 4) (ht c) e2)
    · exact (Ref.dense_result _ _).trans (congrArg₂ (Body.denseSpec (F := Ideal)) e3 e4)
    · exact (Ref.dense_result _ _).trans (congrArg₂ (Body.denseSpec (F := Ideal)) e5 e6)

/-- The reference of the weighted sums runs, its arguments as they were and every semaphore at zero. -/
theorem frame_product_reference : Cert.quiescent_ProductReferenceIdeal := fun m ρ _ =>
  (θ_run (Cert.ProductReferenceIdeal.defs (F := Ideal)) _ _).mono
    (fun r h => ⟨fun c => (h c).2, Idealize.ShloMosaic.sem_eq_zero_of_no_sems (by decide) r.2⟩) (Cert.ProductReferenceIdeal.Value.run (F := Ideal) m ρ)

/-- The kernel's weighted sums are the reference's. -/
theorem product_value : Cert.algebraic_ProductIdeal_ProductReferenceIdeal := fun m ρ m' ρ' _ ag => by
  refine ⟨fun c => Prod.product (m ((c.tc : Thread Cert.ProductIdeal.nD Cert.ProductIdeal.τ).loc Cert.ProductIdeal.main_arg0))
    (m ((c.tc : Thread Cert.ProductIdeal.nD Cert.ProductIdeal.τ).loc Cert.ProductIdeal.main_arg1))
    (m ((c.tc : Thread Cert.ProductIdeal.nD Cert.ProductIdeal.τ).loc Cert.ProductIdeal.main_arg2)), Prod.run m ρ, ?_⟩
  refine (θ_run (Cert.ProductReferenceIdeal.defs (F := Ideal)) _ _).mono (fun r q c => ?_) (Cert.ProductReferenceIdeal.Value.run (F := Ideal) m' ρ')
  obtain ⟨e0, e1, e2⟩ := ag c
  refine ⟨(q c).1.trans ((Prod.reference_eq _ _ _).trans ?_), (q c).2⟩
  rw [e0, e1, e2]

/-- The reference of the logits runs, its arguments as they were and every semaphore at zero. -/
theorem frame_logits_reference : Cert.quiescent_LogitsReferenceIdeal := fun m ρ _ =>
  (θ_run (Cert.LogitsReferenceIdeal.defs (F := Ideal)) _ _).mono
    (fun r h => ⟨fun c => (h c).2.2.2.2, Idealize.ShloMosaic.sem_eq_zero_of_no_sems (by decide) r.2⟩) (Cert.LogitsReferenceIdeal.Value.run (F := Ideal) m ρ)

/-- The kernel's logits and masks are the reference's. -/
theorem logits_value : Cert.algebraic_LogitsIdeal_LogitsReferenceIdeal := fun m ρ m' ρ' _ ag => by
  refine ⟨fun c => Logits.logitsOf 0 (by decide) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)),
    fun c => Logits.maskOf 0 (by decide) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)),
    fun c => Logits.logitsOf 4 (by decide) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)),
    fun c => Logits.maskOf 4 (by decide) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)), Logits.run m ρ, ?_⟩
  refine (θ_run (Cert.LogitsReferenceIdeal.defs (F := Ideal)) _ _).mono (fun r q c => ?_) (Cert.LogitsReferenceIdeal.Value.run (F := Ideal) m' ρ')
  obtain ⟨a0, p0, a1, p1, rest⟩ := q c
  obtain ⟨e0, e1, e2, e3⟩ := ag c
  refine ⟨a0.trans ((Logits.ref_logits _ _ 0 (by decide) _).trans ?_), p0.trans ((Logits.ref_mask _ _ 0 (by decide) _).trans ?_),
    a1.trans ((Logits.ref_logits _ _ 4 (by decide) _).trans ?_), p1.trans ((Logits.ref_mask _ _ 4 (by decide) _).trans ?_), rest⟩
  · exact congrArg₂ (Logits.logitsOf 0 (by decide)) e0 e1
  · exact congrArg₂ (Logits.maskOf 0 (by decide)) e2 e3
  · exact congrArg₂ (Logits.logitsOf 4 (by decide)) e0 e1
  · exact congrArg₂ (Logits.maskOf 4 (by decide)) e2 e3

/-- The reference of the weights runs, its arguments as they were and every semaphore at zero. -/
theorem frame_weights_reference : Cert.quiescent_WeightsReferenceIdeal := fun m ρ _ =>
  (θ_run (Cert.WeightsReferenceIdeal.defs (F := Ideal)) _ _).mono
    (fun r h => ⟨fun c => (h c).2.2.2.2.2, Idealize.ShloMosaic.sem_eq_zero_of_no_sems (by decide) r.2⟩) (Cert.WeightsReferenceIdeal.Value.run (F := Ideal) m ρ)

section Weights

variable (m' : (ℓ : Loc Cert.WeightsReferenceIdeal.nD Cert.WeightsReferenceIdeal.τ Cert.WeightsReferenceIdeal.sig) → Buf (Elt Ideal) ℓ) (c : Dev Cert.WeightsReferenceIdeal.nD)

/-- What the reference returns as the first half's weights. -/
theorem reference_weights_first : Cert.WeightsReferenceIdeal.Value.res_main_v60 (F := Ideal) m' c
    = Weights.weightsAt (m' ((c.tc : Thread Cert.WeightsReferenceIdeal.nD Cert.WeightsReferenceIdeal.τ).loc Cert.WeightsReferenceIdeal.main_arg0)) (m' ((c.tc : Thread Cert.WeightsReferenceIdeal.nD Cert.WeightsReferenceIdeal.τ).loc Cert.WeightsReferenceIdeal.main_arg1)) (m' ((c.tc : Thread Cert.WeightsReferenceIdeal.nD Cert.WeightsReferenceIdeal.τ).loc Cert.WeightsReferenceIdeal.main_arg2)) := by
  unfold Cert.WeightsReferenceIdeal.Value.res_main_v60
  exact Weights.Ref.weights_first (m' ((c.tc : Thread Cert.WeightsReferenceIdeal.nD Cert.WeightsReferenceIdeal.τ).loc Cert.WeightsReferenceIdeal.main_arg0)) (m' ((c.tc : Thread Cert.WeightsReferenceIdeal.nD Cert.WeightsReferenceIdeal.τ).loc Cert.WeightsReferenceIdeal.main_arg3)) (m' ((c.tc : Thread Cert.WeightsReferenceIdeal.nD Cert.WeightsReferenceIdeal.τ).loc Cert.WeightsReferenceIdeal.main_arg1)) (m' ((c.tc : Thread Cert.WeightsReferenceIdeal.nD Cert.WeightsReferenceIdeal.τ).loc Cert.WeightsReferenceIdeal.main_arg4)) (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5))

/-- And as the second's. -/
theorem reference_weights_second : Cert.WeightsReferenceIdeal.Value.res_main_v62 (F := Ideal) m' c
    = Weights.weightsAt (m' ((c.tc : Thread Cert.WeightsReferenceIdeal.nD Cert.WeightsReferenceIdeal.τ).loc Cert.WeightsReferenceIdeal.main_arg3)) (m' ((c.tc : Thread Cert.WeightsReferenceIdeal.nD Cert.WeightsReferenceIdeal.τ).loc Cert.WeightsReferenceIdeal.main_arg4)) (m' ((c.tc : Thread Cert.WeightsReferenceIdeal.nD Cert.WeightsReferenceIdeal.τ).loc Cert.WeightsReferenceIdeal.main_arg5)) := by
  unfold Cert.WeightsReferenceIdeal.Value.res_main_v62
  exact Weights.Ref.weights_second (m' ((c.tc : Thread Cert.WeightsReferenceIdeal.nD Cert.WeightsReferenceIdeal.τ).loc Cert.WeightsReferenceIdeal.main_arg0)) (m' ((c.tc : Thread Cert.WeightsReferenceIdeal.nD Cert.WeightsReferenceIdeal.τ).loc Cert.WeightsReferenceIdeal.main_arg3)) (m' ((c.tc : Thread Cert.WeightsReferenceIdeal.nD Cert.WeightsReferenceIdeal.τ).loc Cert.WeightsReferenceIdeal.main_arg1)) (m' ((c.tc : Thread Cert.WeightsReferenceIdeal.nD Cert.WeightsReferenceIdeal.τ).loc Cert.WeightsReferenceIdeal.main_arg4)) (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5))

/-- And as the top indices. -/
theorem reference_tops : Cert.WeightsReferenceIdeal.Value.res_main_v29 (F := Ideal) m' c
    = Weights.tops (m' ((c.tc : Thread Cert.WeightsReferenceIdeal.nD Cert.WeightsReferenceIdeal.τ).loc Cert.WeightsReferenceIdeal.main_arg0)) (m' ((c.tc : Thread Cert.WeightsReferenceIdeal.nD Cert.WeightsReferenceIdeal.τ).loc Cert.WeightsReferenceIdeal.main_arg3)) (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5)) := by
  unfold Cert.WeightsReferenceIdeal.Value.res_main_v29
  exact Weights.Ref.tops_eq (m' ((c.tc : Thread Cert.WeightsReferenceIdeal.nD Cert.WeightsReferenceIdeal.τ).loc Cert.WeightsReferenceIdeal.main_arg0)) (m' ((c.tc : Thread Cert.WeightsReferenceIdeal.nD Cert.WeightsReferenceIdeal.τ).loc Cert.WeightsReferenceIdeal.main_arg3)) (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5))

end Weights

/-- The kernel's weights, columns and top indices are the reference's. -/
theorem weights_value : Cert.algebraic_WeightsIdeal_WeightsReferenceIdeal := fun m ρ m' ρ' _ ag => by
  refine ⟨fun c => Weights.weightsAt (m ((c.tc : Thread Cert.WeightsIdeal.nD Cert.WeightsIdeal.τ).loc Cert.WeightsIdeal.main_arg0)) (m ((c.tc : Thread Cert.WeightsIdeal.nD Cert.WeightsIdeal.τ).loc Cert.WeightsIdeal.main_arg1)) (m ((c.tc : Thread Cert.WeightsIdeal.nD Cert.WeightsIdeal.τ).loc Cert.WeightsIdeal.main_arg2)),
    fun c => Weights.indicesAt (m ((c.tc : Thread Cert.WeightsIdeal.nD Cert.WeightsIdeal.τ).loc Cert.WeightsIdeal.main_arg2)),
    fun c => Weights.weightsAt (m ((c.tc : Thread Cert.WeightsIdeal.nD Cert.WeightsIdeal.τ).loc Cert.WeightsIdeal.main_arg3)) (m ((c.tc : Thread Cert.WeightsIdeal.nD Cert.WeightsIdeal.τ).loc Cert.WeightsIdeal.main_arg4)) (m ((c.tc : Thread Cert.WeightsIdeal.nD Cert.WeightsIdeal.τ).loc Cert.WeightsIdeal.main_arg5)),
    fun c => Weights.indicesAt (m ((c.tc : Thread Cert.WeightsIdeal.nD Cert.WeightsIdeal.τ).loc Cert.WeightsIdeal.main_arg5)),
    fun c => Weights.tops (m ((c.tc : Thread Cert.WeightsIdeal.nD Cert.WeightsIdeal.τ).loc Cert.WeightsIdeal.main_arg0)) (m ((c.tc : Thread Cert.WeightsIdeal.nD Cert.WeightsIdeal.τ).loc Cert.WeightsIdeal.main_arg3)) (m ((c.tc : Thread Cert.WeightsIdeal.nD Cert.WeightsIdeal.τ).loc Cert.WeightsIdeal.main_arg2)) (m ((c.tc : Thread Cert.WeightsIdeal.nD Cert.WeightsIdeal.τ).loc Cert.WeightsIdeal.main_arg5)), Weights.run m ρ, ?_⟩
  refine (θ_run (Cert.WeightsReferenceIdeal.defs (F := Ideal)) _ _).mono (fun r q c => ?_) (Cert.WeightsReferenceIdeal.Value.run (F := Ideal) m' ρ')
  obtain ⟨w0, i0, w1, i1, t, rest⟩ := q c
  obtain ⟨e0, e1, e2, e3, e4, e5⟩ := ag c
  refine ⟨w0.trans ((reference_weights_first m' c).trans ?_), i0.trans ((Weights.Ref.indices_first (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5))).trans ?_),
    w1.trans ((reference_weights_second m' c).trans ?_), i1.trans ((Weights.Ref.indices_second (m' ((c.tc : Thread Cert.WeightsReferenceIdeal.nD Cert.WeightsReferenceIdeal.τ).loc Cert.WeightsReferenceIdeal.main_arg2)) (m' ((c.tc : Thread Cert.WeightsReferenceIdeal.nD Cert.WeightsReferenceIdeal.τ).loc Cert.WeightsReferenceIdeal.main_arg5))).trans ?_),
    t.trans ((reference_tops m' c).trans ?_), rest⟩
  · rw [e0, e1, e2]
  · rw [e2]
  · rw [e3, e4, e5]
  · rw [e5]
  · rw [e0, e3, e2, e5]

/-- Every claim. -/
theorem claim : Cert.Claim := ⟨Cert.Kernel.Gen.facts, Cert.KernelIdeal.Gen.facts, Cert.ReferenceIdeal.Gen.facts, Cert.Product.Gen.facts,
  Cert.ProductIdeal.Gen.facts, Cert.ProductReferenceIdeal.Gen.facts, Cert.Logits.Gen.facts, Cert.LogitsIdeal.Gen.facts,
  Cert.LogitsReferenceIdeal.Gen.facts, Cert.Weights.Gen.facts, Cert.WeightsIdeal.Gen.facts, Cert.WeightsReferenceIdeal.Gen.facts, Cert.Pre_idx_in_range.Gen.facts,
  frame_kernel, frame_kernelIdeal, frame_reference, (fun m ρ _ => frame_reference m ρ trivial),
  (fun m ρ _ => Cert.Product.Gen.frame m ρ), (fun m ρ _ => Cert.ProductIdeal.Gen.frame m ρ), frame_product_reference,
  (fun m ρ _ => Cert.Logits.Gen.frame m ρ), (fun m ρ _ => Cert.LogitsIdeal.Gen.frame m ρ), frame_logits_reference,
  (fun m ρ _ => Cert.Weights.Gen.frame m ρ), (fun m ρ _ => Cert.WeightsIdeal.Gen.frame m ρ), frame_weights_reference,
  trivial, value, trivial, product_value, trivial, logits_value, trivial, weights_value⟩

end Cert.Proof

end
